-- ==== Defs.lean ====
def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelMlp (m : (ℓ : Loc Cert.KernelMlp.nD Cert.KernelMlp.τ Cert.KernelMlp.sig) → Buf (Elt Bits) ℓ) : Prop :=
  True

def Pre_KernelMlpIdeal (m : (ℓ : Loc Cert.KernelMlpIdeal.nD Cert.KernelMlpIdeal.τ Cert.KernelMlpIdeal.sig) → Buf (Elt Ideal) ℓ) : Prop :=
  True

def Pre_ReferenceMlpIdeal (m : (ℓ : Loc Cert.ReferenceMlpIdeal.nD Cert.ReferenceMlpIdeal.τ Cert.ReferenceMlpIdeal.sig) → Buf (Elt Ideal) ℓ) : Prop :=
  True

def Pre_KernelAda (m : (ℓ : Loc Cert.KernelAda.nD Cert.KernelAda.τ Cert.KernelAda.sig) → Buf (Elt Bits) ℓ) : Prop :=
  True

def Pre_KernelAdaIdeal (m : (ℓ : Loc Cert.KernelAdaIdeal.nD Cert.KernelAdaIdeal.τ Cert.KernelAdaIdeal.sig) → Buf (Elt Ideal) ℓ) : Prop :=
  True

def Pre_ReferenceAdaIdeal (m : (ℓ : Loc Cert.ReferenceAdaIdeal.nD Cert.ReferenceAdaIdeal.τ Cert.ReferenceAdaIdeal.sig) → Buf (Elt Ideal) ℓ) : Prop :=
  True

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_KernelFwdIdeal_finite_fwd [hPre_finite_fwd : Cert.Pre_finite_fwd.Facts] (m : (ℓ : Loc Cert.KernelFwdIdeal.nD Cert.KernelFwdIdeal.τ Cert.KernelFwdIdeal.sig) → Buf (Elt Ideal) ℓ) : Prop :=
  ∀ c : Dev Cert.KernelFwdIdeal.nD,
    (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3)) (m ((c.tc : Thread Cert.KernelFwdIdeal.nD Cert.KernelFwdIdeal.τ).loc Cert.KernelFwdIdeal.main_arg4)) (m ((c.tc : Thread Cert.KernelFwdIdeal.nD Cert.KernelFwdIdeal.τ).loc Cert.KernelFwdIdeal.main_arg5)) (m ((c.tc : Thread Cert.KernelFwdIdeal.nD Cert.KernelFwdIdeal.τ).loc Cert.KernelFwdIdeal.main_arg6)) (m ((c.tc : Thread Cert.KernelFwdIdeal.nD Cert.KernelFwdIdeal.τ).loc Cert.KernelFwdIdeal.main_arg7)) (m ((c.tc : Thread Cert.KernelFwdIdeal.nD Cert.KernelFwdIdeal.τ).loc Cert.KernelFwdIdeal.main_arg8))) = (fun _ => 1#1)

def Pre_ReferenceFwdIdeal (m : (ℓ : Loc Cert.ReferenceFwdIdeal.nD Cert.ReferenceFwdIdeal.τ Cert.ReferenceFwdIdeal.sig) → Buf (Elt Ideal) ℓ) : Prop :=
  True

def Pre_ReferenceFwdIdeal_finite_fwd [hPre_finite_fwd : Cert.Pre_finite_fwd.Facts] (m : (ℓ : Loc Cert.ReferenceFwdIdeal.nD Cert.ReferenceFwdIdeal.τ Cert.ReferenceFwdIdeal.sig) → Buf (Elt Ideal) ℓ) : Prop :=
  ∀ c : Dev Cert.ReferenceFwdIdeal.nD,
    (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3)) (m ((c.tc : Thread Cert.ReferenceFwdIdeal.nD Cert.ReferenceFwdIdeal.τ).loc Cert.ReferenceFwdIdeal.main_arg4)) (m ((c.tc : Thread Cert.ReferenceFwdIdeal.nD Cert.ReferenceFwdIdeal.τ).loc Cert.ReferenceFwdIdeal.main_arg5)) (m ((c.tc : Thread Cert.ReferenceFwdIdeal.nD Cert.ReferenceFwdIdeal.τ).loc Cert.ReferenceFwdIdeal.main_arg6)) (m ((c.tc : Thread Cert.ReferenceFwdIdeal.nD Cert.ReferenceFwdIdeal.τ).loc Cert.ReferenceFwdIdeal.main_arg7)) (m ((c.tc : Thread Cert.ReferenceFwdIdeal.nD Cert.ReferenceFwdIdeal.τ).loc Cert.ReferenceFwdIdeal.main_arg8))) = (fun _ => 1#1)

def Pre_KernelPre (m : (ℓ : Loc Cert.KernelPre.nD Cert.KernelPre.τ Cert.KernelPre.sig) → Buf (Elt Bits) ℓ) : Prop :=
  True

def Pre_KernelPreIdeal (m : (ℓ : Loc Cert.KernelPreIdeal.nD Cert.KernelPreIdeal.τ Cert.KernelPreIdeal.sig) → Buf (Elt Ideal) ℓ) : Prop :=
  True

def Pre_ReferencePreIdeal (m : (ℓ : Loc Cert.ReferencePreIdeal.nD Cert.ReferencePreIdeal.τ Cert.ReferencePreIdeal.sig) → Buf (Elt Ideal) ℓ) : Prop :=
  True

def Pre_KernelMod (m : (ℓ : Loc Cert.KernelMod.nD Cert.KernelMod.τ Cert.KernelMod.sig) → Buf (Elt Bits) ℓ) : Prop :=
  True

def Pre_KernelModIdeal (m : (ℓ : Loc Cert.KernelModIdeal.nD Cert.KernelModIdeal.τ Cert.KernelModIdeal.sig) → Buf (Elt Ideal) ℓ) : Prop :=
  True

def Pre_ReferenceModIdeal (m : (ℓ : Loc Cert.ReferenceModIdeal.nD Cert.ReferenceModIdeal.τ Cert.ReferenceModIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelWin (m : (ℓ : Loc Cert.KernelWin.nD Cert.KernelWin.τ Cert.KernelWin.sig) → Buf (Elt Bits) ℓ) : Prop :=
  True

def Pre_KernelWinIdeal (m : (ℓ : Loc Cert.KernelWinIdeal.nD Cert.KernelWinIdeal.τ Cert.KernelWinIdeal.sig) → Buf (Elt Ideal) ℓ) : Prop :=
  True

def Pre_ReferenceWinIdeal (m : (ℓ : Loc Cert.ReferenceWinIdeal.nD Cert.ReferenceWinIdeal.τ Cert.ReferenceWinIdeal.sig) → Buf (Elt Ideal) ℓ) : Prop :=
  True

def Pre_KernelWp (m : (ℓ : Loc Cert.KernelWp.nD Cert.KernelWp.τ Cert.KernelWp.sig) → Buf (Elt Bits) ℓ) : Prop :=
  True

def Pre_KernelWpIdeal (m : (ℓ : Loc Cert.KernelWpIdeal.nD Cert.KernelWpIdeal.τ Cert.KernelWpIdeal.sig) → Buf (Elt Ideal) ℓ) : Prop :=
  True

def Pre_ReferenceWpIdeal (m : (ℓ : Loc Cert.ReferenceWpIdeal.nD Cert.ReferenceWpIdeal.τ Cert.ReferenceWpIdeal.sig) → Buf (Elt Ideal) ℓ) : Prop :=
  True

def Pre_KernelCw (m : (ℓ : Loc Cert.KernelCw.nD Cert.KernelCw.τ Cert.KernelCw.sig) → Buf (Elt Bits) ℓ) : Prop :=
  True

def Pre_KernelCwIdeal (m : (ℓ : Loc Cert.KernelCwIdeal.nD Cert.KernelCwIdeal.τ Cert.KernelCwIdeal.sig) → Buf (Elt Ideal) ℓ) : Prop :=
  True

def Pre_ReferenceCwIdeal (m : (ℓ : Loc Cert.ReferenceCwIdeal.nD Cert.ReferenceCwIdeal.τ Cert.ReferenceCwIdeal.sig) → Buf (Elt Ideal) ℓ) : Prop :=
  True

def Pre_KernelSml (m : (ℓ : Loc Cert.KernelSml.nD Cert.KernelSml.τ Cert.KernelSml.sig) → Buf (Elt Bits) ℓ) : Prop :=
  True

def Pre_KernelSmlIdeal (m : (ℓ : Loc Cert.KernelSmlIdeal.nD Cert.KernelSmlIdeal.τ Cert.KernelSmlIdeal.sig) → Buf (Elt Ideal) ℓ) : Prop :=
  True

def Pre_ReferenceSmlIdeal (m : (ℓ : Loc Cert.ReferenceSmlIdeal.nD Cert.ReferenceSmlIdeal.τ Cert.ReferenceSmlIdeal.sig) → Buf (Elt Ideal) ℓ) : Prop :=
  True

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4)
      ∧ r.2.mem ((c.tc : Thread Cert.KernelIn.nD Cert.KernelIn.τ).loc Cert.KernelIn.main_arg5) = m ((c.tc : Thread Cert.KernelIn.nD Cert.KernelIn.τ).loc Cert.KernelIn.main_arg5)
      ∧ r.2.mem ((c.tc : Thread Cert.KernelIn.nD Cert.KernelIn.τ).loc Cert.KernelIn.main_arg6) = m ((c.tc : Thread Cert.KernelIn.nD Cert.KernelIn.τ).loc Cert.KernelIn.main_arg6)
      ∧ r.2.mem ((c.tc : Thread Cert.KernelIn.nD Cert.KernelIn.τ).loc Cert.KernelIn.main_arg7) = m ((c.tc : Thread Cert.KernelIn.nD Cert.KernelIn.τ).loc Cert.KernelIn.main_arg7)
      ∧ r.2.mem ((c.tc : Thread Cert.KernelIn.nD Cert.KernelIn.τ).loc Cert.KernelIn.main_arg8) = m ((c.tc : Thread Cert.KernelIn.nD Cert.KernelIn.τ).loc Cert.KernelIn.main_arg8)
      ∧ r.2.mem ((c.tc : Thread Cert.KernelIn.nD Cert.KernelIn.τ).loc Cert.KernelIn.main_arg9) = m ((c.tc : Thread Cert.KernelIn.nD Cert.KernelIn.τ).loc Cert.KernelIn.main_arg9))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
      ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6)
      ∧ r.2.mem ((c.tc : Thread Cert.KernelInIdeal.nD Cert.KernelInIdeal.τ).loc Cert.KernelInIdeal.main_arg7) = m ((c.tc : Thread Cert.KernelInIdeal.nD Cert.KernelInIdeal.τ).loc Cert.KernelInIdeal.main_arg7)
      ∧ r.2.mem ((c.tc : Thread Cert.KernelInIdeal.nD Cert.KernelInIdeal.τ).loc Cert.KernelInIdeal.main_arg8) = m ((c.tc : Thread Cert.KernelInIdeal.nD Cert.KernelInIdeal.τ).loc Cert.KernelInIdeal.main_arg8)
      ∧ r.2.mem ((c.tc : Thread Cert.KernelInIdeal.nD Cert.KernelInIdeal.τ).loc Cert.KernelInIdeal.main_arg9) = m ((c.tc : Thread Cert.KernelInIdeal.nD Cert.KernelInIdeal.τ).loc Cert.KernelInIdeal.main_arg9))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5)
      ∧ r.2.mem ((c.tc : Thread Cert.ReferenceInIdeal.nD Cert.ReferenceInIdeal.τ).loc Cert.ReferenceInIdeal.main_arg6) = m ((c.tc : Thread Cert.ReferenceInIdeal.nD Cert.ReferenceInIdeal.τ).loc Cert.ReferenceInIdeal.main_arg6)
      ∧ r.2.mem ((c.tc : Thread Cert.ReferenceInIdeal.nD Cert.ReferenceInIdeal.τ).loc Cert.ReferenceInIdeal.main_arg7) = m ((c.tc : Thread Cert.ReferenceInIdeal.nD Cert.ReferenceInIdeal.τ).loc Cert.ReferenceInIdeal.main_arg7)
      ∧ r.2.mem ((c.tc : Thread Cert.ReferenceInIdeal.nD Cert.ReferenceInIdeal.τ).loc Cert.ReferenceInIdeal.main_arg8) = m ((c.tc : Thread Cert.ReferenceInIdeal.nD Cert.ReferenceInIdeal.τ).loc Cert.ReferenceInIdeal.main_arg8)
      ∧ r.2.mem ((c.tc : Thread Cert.ReferenceInIdeal.nD Cert.ReferenceInIdeal.τ).loc Cert.ReferenceInIdeal.main_arg9) = m ((c.tc : Thread Cert.ReferenceInIdeal.nD Cert.ReferenceInIdeal.τ).loc Cert.ReferenceInIdeal.main_arg9))
      ∧ r.2.sem = fun _ => 0)

def quiescent_KernelMlp [hKernelMlp : Cert.KernelMlp.Facts] : Prop :=
  ∀ (m : (ℓ : Loc Cert.KernelMlp.nD Cert.KernelMlp.τ Cert.KernelMlp.sig) → Buf (Elt Bits) ℓ) (g : Dev Cert.KernelMlp.nD → PrngReg), Pre_KernelMlp m →
    θ_run (Cert.KernelMlp.defs (F := Bits)) (onTc (τ := Cert.KernelMlp.τ) (Cert.KernelMlp.main (F := Bits))) ⟨m, fun _ => 0, g⟩ (fun r => (∀ c : Dev Cert.KernelMlp.nD,
      r.2.mem ((c.tc : Thread Cert.KernelMlp.nD Cert.KernelMlp.τ).loc Cert.KernelMlp.main_arg0) = m ((c.tc : Thread Cert.KernelMlp.nD Cert.KernelMlp.τ).loc Cert.KernelMlp.main_arg0)
      ∧ r.2.mem ((c.tc : Thread Cert.KernelMlp.nD Cert.KernelMlp.τ).loc Cert.KernelMlp.main_arg1) = m ((c.tc : Thread Cert.KernelMlp.nD Cert.KernelMlp.τ).loc Cert.KernelMlp.main_arg1)
      ∧ r.2.mem ((c.tc : Thread Cert.KernelMlp.nD Cert.KernelMlp.τ).loc Cert.KernelMlp.main_arg2) = m ((c.tc : Thread Cert.KernelMlp.nD Cert.KernelMlp.τ).loc Cert.KernelMlp.main_arg2)
      ∧ r.2.mem ((c.tc : Thread Cert.KernelMlp.nD Cert.KernelMlp.τ).loc Cert.KernelMlp.main_arg3) = m ((c.tc : Thread Cert.KernelMlp.nD Cert.KernelMlp.τ).loc Cert.KernelMlp.main_arg3)
      ∧ r.2.mem ((c.tc : Thread Cert.KernelMlp.nD Cert.KernelMlp.τ).loc Cert.KernelMlp.main_arg4) = m ((c.tc : Thread Cert.KernelMlp.nD Cert.KernelMlp.τ).loc Cert.KernelMlp.main_arg4)
      ∧ r.2.mem ((c.tc : Thread Cert.KernelMlp.nD Cert.KernelMlp.τ).loc Cert.KernelMlp.main_arg5) = m ((c.tc : Thread Cert.KernelMlp.nD Cert.KernelMlp.τ).loc Cert.KernelMlp.main_arg5)
      ∧ r.2.mem ((c.tc : Thread Cert.KernelMlp.nD Cert.KernelMlp.τ).loc Cert.KernelMlp.main_arg6) = m ((c.tc : Thread Cert.KernelMlp.nD Cert.KernelMlp.τ).loc Cert.KernelMlp.main_arg6)
      ∧ r.2.mem ((c.tc : Thread Cert.KernelMlp.nD Cert.KernelMlp.τ).loc Cert.KernelMlp.main_arg7) = m ((c.tc : Thread Cert.KernelMlp.nD Cert.KernelMlp.τ).loc Cert.KernelMlp.main_arg7)
      ∧ r.2.mem ((c.tc : Thread Cert.KernelMlp.nD Cert.KernelMlp.τ).loc Cert.KernelMlp.main_arg8) = m ((c.tc : Thread Cert.KernelMlp.nD Cert.KernelMlp.τ).loc Cert.KernelMlp.main_arg8))
      ∧ r.2.sem = fun _ => 0)

def quiescent_KernelMlpIdeal [hKernelMlpIdeal : Cert.KernelMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg), Pre_KernelMlpIdeal m →
    θ_run (Cert.KernelMlpIdeal.defs (F := Ideal)) (onTc (τ := Cert.KernelMlpIdeal.τ) (Cert.KernelMlpIdeal.main (F := Ideal))) ⟨m, fun _ => 0, g⟩ (fun r => (∀ c : Dev Cert.KernelMlpIdeal.nD,
      r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
      ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
      ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
      ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
      ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4)
      ∧ r.2.mem ((c.tc : Thread Cert.KernelMlpIdeal.nD Cert.KernelMlpIdeal.τ).loc Cert.KernelMlpIdeal.main_arg5) = m ((c.tc : Thread Cert.KernelMlpIdeal.nD Cert.KernelMlpIdeal.τ).loc Cert.KernelMlpIdeal.main_arg5)
      ∧ r.2.mem ((c.tc : Thread Cert.KernelMlpIdeal.nD Cert.KernelMlpIdeal.τ).loc Cert.KernelMlpIdeal.main_arg6) = m ((c.tc : Thread Cert.KernelMlpIdeal.nD Cert.KernelMlpIdeal.τ).loc Cert.KernelMlpIdeal.main_arg6)
      ∧ r.2.mem ((c.tc : Thread Cert.KernelMlpIdeal.nD Cert.KernelMlpIdeal.τ).loc Cert.KernelMlpIdeal.main_arg7) = m ((c.tc : Thread Cert.KernelMlpIdeal.nD Cert.KernelMlpIdeal.τ).loc Cert.KernelMlpIdeal.main_arg7)
      ∧ r.2.mem ((c.tc : Thread Cert.KernelMlpIdeal.nD Cert.KernelMlpIdeal.τ).loc Cert.KernelMlpIdeal.main_arg8) = m ((c.tc : Thread Cert.KernelMlpIdeal.nD Cert.KernelMlpIdeal.τ).loc Cert.KernelMlpIdeal.main_arg8))
      ∧ r.2.sem = fun _ => 0)

def quiescent_ReferenceMlpIdeal [hReferenceMlpIdeal : Cert.ReferenceMlpIdeal.Facts] : Prop :=
  ∀ (m : (ℓ : Loc Cert.ReferenceMlpIdeal.nD Cert.ReferenceMlpIdeal.τ Cert.ReferenceMlpIdeal.sig) → Buf (Elt Ideal) ℓ) (g : Dev Cert.ReferenceMlpIdeal.nD → PrngReg), Pre_ReferenceMlpIdeal m →
    θ_run (Cert.ReferenceMlpIdeal.defs (F := Ideal)) (onTc (τ := Cert.ReferenceMlpIdeal.τ) (Cert.ReferenceMlpIdeal.main (F := Ideal))) ⟨m, fun _ => 0, g⟩ (fun r => (∀ c : Dev Cert.ReferenceMlpIdeal.nD,
      r.2.mem ((c.tc : Thread Cert.ReferenceMlpIdeal.nD Cert.ReferenceMlpIdeal.τ).loc Cert.ReferenceMlpIdeal.main_arg0) = m ((c.tc : Thread Cert.ReferenceMlpIdeal.nD Cert.ReferenceMlpIdeal.τ).loc Cert.ReferenceMlpIdeal.main_arg0)
      ∧ r.2.mem ((c.tc : Thread Cert.ReferenceMlpIdeal.nD Cert.ReferenceMlpIdeal.τ).loc Cert.ReferenceMlpIdeal.main_arg1) = m ((c.tc : Thread Cert.ReferenceMlpIdeal.nD Cert.ReferenceMlpIdeal.τ).loc Cert.ReferenceMlpIdeal.main_arg1)
      ∧ r.2.mem ((c.tc : Thread Cert.ReferenceMlpIdeal.nD Cert.ReferenceMlpIdeal.τ).loc Cert.ReferenceMlpIdeal.main_arg2) = m ((c.tc : Thread Cert.ReferenceMlpIdeal.nD Cert.ReferenceMlpIdeal.τ).loc Cert.ReferenceMlpIdeal.main_arg2)
      ∧ r.2.mem ((c.tc : Thread Cert.ReferenceMlpIdeal.nD Cert.ReferenceMlpIdeal.τ).loc Cert.ReferenceMlpIdeal.main_arg3) = m ((c.tc : Thread Cert.ReferenceMlpIdeal.nD Cert.ReferenceMlpIdeal.τ).loc Cert.ReferenceMlpIdeal.main_arg3)
      ∧ r.2.mem ((c.tc : Thread Cert.ReferenceMlpIdeal.nD Cert.ReferenceMlpIdeal.τ).loc Cert.ReferenceMlpIdeal.main_arg4) = m ((c.tc : Thread Cert.ReferenceMlpIdeal.nD Cert.ReferenceMlpIdeal.τ).loc Cert.ReferenceMlpIdeal.main_arg4)
      ∧ r.2.mem ((c.tc : Thread Cert.ReferenceMlpIdeal.nD Cert.ReferenceMlpIdeal.τ).loc Cert.ReferenceMlpIdeal.main_arg5) = m ((c.tc : Thread Cert.ReferenceMlpIdeal.nD Cert.ReferenceMlpIdeal.τ).loc Cert.ReferenceMlpIdeal.main_arg5)
      ∧ r.2.mem ((c.tc : Thread Cert.ReferenceMlpIdeal.nD Cert.ReferenceMlpIdeal.τ).loc Cert.ReferenceMlpIdeal.main_arg6) = m ((c.tc : Thread Cert.ReferenceMlpIdeal.nD Cert.ReferenceMlpIdeal.τ).loc Cert.ReferenceMlpIdeal.main_arg6)
      ∧ r.2.mem ((c.tc : Thread Cert.ReferenceMlpIdeal.nD Cert.ReferenceMlpIdeal.τ).loc Cert.ReferenceMlpIdeal.main_arg7) = m ((c.tc : Thread Cert.ReferenceMlpIdeal.nD Cert.ReferenceMlpIdeal.τ).loc Cert.ReferenceMlpIdeal.main_arg7)
      ∧ r.2.mem ((c.tc : Thread Cert.ReferenceMlpIdeal.nD Cert.ReferenceMlpIdeal.τ).loc Cert.ReferenceMlpIdeal.main_arg8) = m ((c.tc : Thread Cert.ReferenceMlpIdeal.nD Cert.ReferenceMlpIdeal.τ).loc Cert.ReferenceMlpIdeal.main_arg8))
      ∧ r.2.sem = fun _ => 0)

def quiescent_KernelAda [hKernelAda : Cert.KernelAda.Facts] : Prop :=
  ∀ (m : (ℓ : Loc Cert.KernelAda.nD Cert.KernelAda.τ Cert.KernelAda.sig) → Buf (Elt Bits) ℓ) (g : Dev Cert.KernelAda.nD → PrngReg), Pre_KernelAda m →
    θ_run (Cert.KernelAda.defs (F := Bits)) (onTc (τ := Cert.KernelAda.τ) (Cert.KernelAda.main (F := Bits))) ⟨m, fun _ => 0, g⟩ (fun r => (∀ c : Dev Cert.KernelAda.nD,
      r.2.mem ((c.tc : Thread Cert.KernelAda.nD Cert.KernelAda.τ).loc Cert.KernelAda.main_arg0) = m ((c.tc : Thread Cert.KernelAda.nD Cert.KernelAda.τ).loc Cert.KernelAda.main_arg0)
      ∧ r.2.mem ((c.tc : Thread Cert.KernelAda.nD Cert.KernelAda.τ).loc Cert.KernelAda.main_arg1) = m ((c.tc : Thread Cert.KernelAda.nD Cert.KernelAda.τ).loc Cert.KernelAda.main_arg1)
      ∧ r.2.mem ((c.tc : Thread Cert.KernelAda.nD Cert.KernelAda.τ).loc Cert.KernelAda.main_arg2) = m ((c.tc : Thread Cert.KernelAda.nD Cert.KernelAda.τ).loc Cert.KernelAda.main_arg2)
      ∧ r.2.mem ((c.tc : Thread Cert.KernelAda.nD Cert.KernelAda.τ).loc Cert.KernelAda.main_arg3) = m ((c.tc : Thread Cert.KernelAda.nD Cert.KernelAda.τ).loc Cert.KernelAda.main_arg3)
      ∧ r.2.mem ((c.tc : Thread Cert.KernelAda.nD Cert.KernelAda.τ).loc Cert.KernelAda.main_arg4) = m ((c.tc : Thread Cert.KernelAda.nD Cert.KernelAda.τ).loc Cert.KernelAda.main_arg4))
      ∧ r.2.sem = fun _ => 0)

def quiescent_KernelAdaIdeal [hKernelAdaIdeal : Cert.KernelAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg), Pre_KernelAdaIdeal m →
    θ_run (Cert.KernelAdaIdeal.defs (F := Ideal)) (onTc (τ := Cert.KernelAdaIdeal.τ) (Cert.KernelAdaIdeal.main (F := Ideal))) ⟨m, fun _ => 0, g⟩ (fun r => (∀ c : Dev Cert.KernelAdaIdeal.nD,
      r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
      ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
      ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2)
      ∧ r.2.mem ((c.tc : Thread Cert.KernelAdaIdeal.nD Cert.KernelAdaIdeal.τ).loc Cert.KernelAdaIdeal.main_arg3) = m ((c.tc : Thread Cert.KernelAdaIdeal.nD Cert.KernelAdaIdeal.τ).loc Cert.KernelAdaIdeal.main_arg3)
      ∧ r.2.mem ((c.tc : Thread Cert.KernelAdaIdeal.nD Cert.KernelAdaIdeal.τ).loc Cert.KernelAdaIdeal.main_arg4) = m ((c.tc : Thread Cert.KernelAdaIdeal.nD Cert.KernelAdaIdeal.τ).loc Cert.KernelAdaIdeal.main_arg4))
      ∧ r.2.sem = fun _ => 0)

def quiescent_ReferenceAdaIdeal [hReferenceAdaIdeal : Cert.ReferenceAdaIdeal.Facts] : Prop :=
  ∀ (m : (ℓ : Loc Cert.ReferenceAdaIdeal.nD Cert.ReferenceAdaIdeal.τ Cert.ReferenceAdaIdeal.sig) → Buf (Elt Ideal) ℓ) (g : Dev Cert.ReferenceAdaIdeal.nD → PrngReg), Pre_ReferenceAdaIdeal m →
    θ_run (Cert.ReferenceAdaIdeal.defs (F := Ideal)) (onTc (τ := Cert.ReferenceAdaIdeal.τ) (Cert.ReferenceAdaIdeal.main (F := Ideal))) ⟨m, fun _ => 0, g⟩ (fun r => (∀ c : Dev Cert.ReferenceAdaIdeal.nD,
      r.2.mem ((c.tc : Thread Cert.ReferenceAdaIdeal.nD Cert.ReferenceAdaIdeal.τ).loc Cert.ReferenceAdaIdeal.main_arg0) = m ((c.tc : Thread Cert.ReferenceAdaIdeal.nD Cert.ReferenceAdaIdeal.τ).loc Cert.ReferenceAdaIdeal.main_arg0)
      ∧ r.2.mem ((c.tc : Thread Cert.ReferenceAdaIdeal.nD Cert.ReferenceAdaIdeal.τ).loc Cert.ReferenceAdaIdeal.main_arg1) = m ((c.tc : Thread Cert.ReferenceAdaIdeal.nD Cert.ReferenceAdaIdeal.τ).loc Cert.ReferenceAdaIdeal.main_arg1)
      ∧ r.2.mem ((c.tc : Thread Cert.ReferenceAdaIdeal.nD Cert.ReferenceAdaIdeal.τ).loc Cert.ReferenceAdaIdeal.main_arg2) = m ((c.tc : Thread Cert.ReferenceAdaIdeal.nD Cert.ReferenceAdaIdeal.τ).loc Cert.ReferenceAdaIdeal.main_arg2)
      ∧ r.2.mem ((c.tc : Thread Cert.ReferenceAdaIdeal.nD Cert.ReferenceAdaIdeal.τ).loc Cert.ReferenceAdaIdeal.main_arg3) = m ((c.tc : Thread Cert.ReferenceAdaIdeal.nD Cert.ReferenceAdaIdeal.τ).loc Cert.ReferenceAdaIdeal.main_arg3)
      ∧ r.2.mem ((c.tc : Thread Cert.ReferenceAdaIdeal.nD Cert.ReferenceAdaIdeal.τ).loc Cert.ReferenceAdaIdeal.main_arg4) = m ((c.tc : Thread Cert.ReferenceAdaIdeal.nD Cert.ReferenceAdaIdeal.τ).loc Cert.ReferenceAdaIdeal.main_arg4))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1)
      ∧ r.2.mem ((c.tc : Thread Cert.KernelFwd.nD Cert.KernelFwd.τ).loc Cert.KernelFwd.main_arg2) = m ((c.tc : Thread Cert.KernelFwd.nD Cert.KernelFwd.τ).loc Cert.KernelFwd.main_arg2)
      ∧ r.2.mem ((c.tc : Thread Cert.KernelFwd.nD Cert.KernelFwd.τ).loc Cert.KernelFwd.main_arg3) = m ((c.tc : Thread Cert.KernelFwd.nD Cert.KernelFwd.τ).loc Cert.KernelFwd.main_arg3)
      ∧ r.2.mem ((c.tc : Thread Cert.KernelFwd.nD Cert.KernelFwd.τ).loc Cert.KernelFwd.main_arg4) = m ((c.tc : Thread Cert.KernelFwd.nD Cert.KernelFwd.τ).loc Cert.KernelFwd.main_arg4)
      ∧ r.2.mem ((c.tc : Thread Cert.KernelFwd.nD Cert.KernelFwd.τ).loc Cert.KernelFwd.main_arg5) = m ((c.tc : Thread Cert.KernelFwd.nD Cert.KernelFwd.τ).loc Cert.KernelFwd.main_arg5)
      ∧ r.2.mem ((c.tc : Thread Cert.KernelFwd.nD Cert.KernelFwd.τ).loc Cert.KernelFwd.main_arg6) = m ((c.tc : Thread Cert.KernelFwd.nD Cert.KernelFwd.τ).loc Cert.KernelFwd.main_arg6)
      ∧ r.2.mem ((c.tc : Thread Cert.KernelFwd.nD Cert.KernelFwd.τ).loc Cert.KernelFwd.main_arg7) = m ((c.tc : Thread Cert.KernelFwd.nD Cert.KernelFwd.τ).loc Cert.KernelFwd.main_arg7)
      ∧ r.2.mem ((c.tc : Thread Cert.KernelFwd.nD Cert.KernelFwd.τ).loc Cert.KernelFwd.main_arg8) = m ((c.tc : Thread Cert.KernelFwd.nD Cert.KernelFwd.τ).loc Cert.KernelFwd.main_arg8))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
      ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4)
      ∧ r.2.mem ((c.tc : Thread Cert.KernelFwdIdeal.nD Cert.KernelFwdIdeal.τ).loc Cert.KernelFwdIdeal.main_arg5) = m ((c.tc : Thread Cert.KernelFwdIdeal.nD Cert.KernelFwdIdeal.τ).loc Cert.KernelFwdIdeal.main_arg5)
      ∧ r.2.mem ((c.tc : Thread Cert.KernelFwdIdeal.nD Cert.KernelFwdIdeal.τ).loc Cert.KernelFwdIdeal.main_arg6) = m ((c.tc : Thread Cert.KernelFwdIdeal.nD Cert.KernelFwdIdeal.τ).loc Cert.KernelFwdIdeal.main_arg6)
      ∧ r.2.mem ((c.tc : Thread Cert.KernelFwdIdeal.nD Cert.KernelFwdIdeal.τ).loc Cert.KernelFwdIdeal.main_arg7) = m ((c.tc : Thread Cert.KernelFwdIdeal.nD Cert.KernelFwdIdeal.τ).loc Cert.KernelFwdIdeal.main_arg7)
      ∧ r.2.mem ((c.tc : Thread Cert.KernelFwdIdeal.nD Cert.KernelFwdIdeal.τ).loc Cert.KernelFwdIdeal.main_arg8) = m ((c.tc : Thread Cert.KernelFwdIdeal.nD Cert.KernelFwdIdeal.τ).loc Cert.KernelFwdIdeal.main_arg8))
      ∧ r.2.sem = fun _ => 0)

def quiescent_KernelFwdIdeal_pre_finite_fwd [hKernelFwdIdeal : Cert.KernelFwdIdeal.Facts] [hPre_finite_fwd : Cert.Pre_finite_fwd.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal_finite_fwd m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
      ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4)
      ∧ r.2.mem ((c.tc : Thread Cert.KernelFwdIdeal.nD Cert.KernelFwdIdeal.τ).loc Cert.KernelFwdIdeal.main_arg5) = m ((c.tc : Thread Cert.KernelFwdIdeal.nD Cert.KernelFwdIdeal.τ).loc Cert.KernelFwdIdeal.main_arg5)
      ∧ r.2.mem ((c.tc : Thread Cert.KernelFwdIdeal.nD Cert.KernelFwdIdeal.τ).loc Cert.KernelFwdIdeal.main_arg6) = m ((c.tc : Thread Cert.KernelFwdIdeal.nD Cert.KernelFwdIdeal.τ).loc Cert.KernelFwdIdeal.main_arg6)
      ∧ r.2.mem ((c.tc : Thread Cert.KernelFwdIdeal.nD Cert.KernelFwdIdeal.τ).loc Cert.KernelFwdIdeal.main_arg7) = m ((c.tc : Thread Cert.KernelFwdIdeal.nD Cert.KernelFwdIdeal.τ).loc Cert.KernelFwdIdeal.main_arg7)
      ∧ r.2.mem ((c.tc : Thread Cert.KernelFwdIdeal.nD Cert.KernelFwdIdeal.τ).loc Cert.KernelFwdIdeal.main_arg8) = m ((c.tc : Thread Cert.KernelFwdIdeal.nD Cert.KernelFwdIdeal.τ).loc Cert.KernelFwdIdeal.main_arg8))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3)
      ∧ r.2.mem ((c.tc : Thread Cert.ReferenceFwdIdeal.nD Cert.ReferenceFwdIdeal.τ).loc Cert.ReferenceFwdIdeal.main_arg4) = m ((c.tc : Thread Cert.ReferenceFwdIdeal.nD Cert.ReferenceFwdIdeal.τ).loc Cert.ReferenceFwdIdeal.main_arg4)
      ∧ r.2.mem ((c.tc : Thread Cert.ReferenceFwdIdeal.nD Cert.ReferenceFwdIdeal.τ).loc Cert.ReferenceFwdIdeal.main_arg5) = m ((c.tc : Thread Cert.ReferenceFwdIdeal.nD Cert.ReferenceFwdIdeal.τ).loc Cert.ReferenceFwdIdeal.main_arg5)
      ∧ r.2.mem ((c.tc : Thread Cert.ReferenceFwdIdeal.nD Cert.ReferenceFwdIdeal.τ).loc Cert.ReferenceFwdIdeal.main_arg6) = m ((c.tc : Thread Cert.ReferenceFwdIdeal.nD Cert.ReferenceFwdIdeal.τ).loc Cert.ReferenceFwdIdeal.main_arg6)
      ∧ r.2.mem ((c.tc : Thread Cert.ReferenceFwdIdeal.nD Cert.ReferenceFwdIdeal.τ).loc Cert.ReferenceFwdIdeal.main_arg7) = m ((c.tc : Thread Cert.ReferenceFwdIdeal.nD Cert.ReferenceFwdIdeal.τ).loc Cert.ReferenceFwdIdeal.main_arg7)
      ∧ r.2.mem ((c.tc : Thread Cert.ReferenceFwdIdeal.nD Cert.ReferenceFwdIdeal.τ).loc Cert.ReferenceFwdIdeal.main_arg8) = m ((c.tc : Thread Cert.ReferenceFwdIdeal.nD Cert.ReferenceFwdIdeal.τ).loc Cert.ReferenceFwdIdeal.main_arg8))
      ∧ r.2.sem = fun _ => 0)

def quiescent_ReferenceFwdIdeal_pre_finite_fwd [hReferenceFwdIdeal : Cert.ReferenceFwdIdeal.Facts] [hPre_finite_fwd : Cert.Pre_finite_fwd.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal_finite_fwd m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3)
      ∧ r.2.mem ((c.tc : Thread Cert.ReferenceFwdIdeal.nD Cert.ReferenceFwdIdeal.τ).loc Cert.ReferenceFwdIdeal.main_arg4) = m ((c.tc : Thread Cert.ReferenceFwdIdeal.nD Cert.ReferenceFwdIdeal.τ).loc Cert.ReferenceFwdIdeal.main_arg4)
      ∧ r.2.mem ((c.tc : Thread Cert.ReferenceFwdIdeal.nD Cert.ReferenceFwdIdeal.τ).loc Cert.ReferenceFwdIdeal.main_arg5) = m ((c.tc : Thread Cert.ReferenceFwdIdeal.nD Cert.ReferenceFwdIdeal.τ).loc Cert.ReferenceFwdIdeal.main_arg5)
      ∧ r.2.mem ((c.tc : Thread Cert.ReferenceFwdIdeal.nD Cert.ReferenceFwdIdeal.τ).loc Cert.ReferenceFwdIdeal.main_arg6) = m ((c.tc : Thread Cert.ReferenceFwdIdeal.nD Cert.ReferenceFwdIdeal.τ).loc Cert.ReferenceFwdIdeal.main_arg6)
      ∧ r.2.mem ((c.tc : Thread Cert.ReferenceFwdIdeal.nD Cert.ReferenceFwdIdeal.τ).loc Cert.ReferenceFwdIdeal.main_arg7) = m ((c.tc : Thread Cert.ReferenceFwdIdeal.nD Cert.ReferenceFwdIdeal.τ).loc Cert.ReferenceFwdIdeal.main_arg7)
      ∧ r.2.mem ((c.tc : Thread Cert.ReferenceFwdIdeal.nD Cert.ReferenceFwdIdeal.τ).loc Cert.ReferenceFwdIdeal.main_arg8) = m ((c.tc : Thread Cert.ReferenceFwdIdeal.nD Cert.ReferenceFwdIdeal.τ).loc Cert.ReferenceFwdIdeal.main_arg8))
      ∧ r.2.sem = fun _ => 0)

def quiescent_KernelPre [hKernelPre : Cert.KernelPre.Facts] : Prop :=
  ∀ (m : (ℓ : Loc Cert.KernelPre.nD Cert.KernelPre.τ Cert.KernelPre.sig) → Buf (Elt Bits) ℓ) (g : Dev Cert.KernelPre.nD → PrngReg), Pre_KernelPre m →
    θ_run (Cert.KernelPre.defs (F := Bits)) (onTc (τ := Cert.KernelPre.τ) (Cert.KernelPre.main (F := Bits))) ⟨m, fun _ => 0, g⟩ (fun r => (∀ c : Dev Cert.KernelPre.nD,
      r.2.mem ((c.tc : Thread Cert.KernelPre.nD Cert.KernelPre.τ).loc Cert.KernelPre.main_arg0) = m ((c.tc : Thread Cert.KernelPre.nD Cert.KernelPre.τ).loc Cert.KernelPre.main_arg0)
      ∧ r.2.mem ((c.tc : Thread Cert.KernelPre.nD Cert.KernelPre.τ).loc Cert.KernelPre.main_arg1) = m ((c.tc : Thread Cert.KernelPre.nD Cert.KernelPre.τ).loc Cert.KernelPre.main_arg1)
      ∧ r.2.mem ((c.tc : Thread Cert.KernelPre.nD Cert.KernelPre.τ).loc Cert.KernelPre.main_arg2) = m ((c.tc : Thread Cert.KernelPre.nD Cert.KernelPre.τ).loc Cert.KernelPre.main_arg2)
      ∧ r.2.mem ((c.tc : Thread Cert.KernelPre.nD Cert.KernelPre.τ).loc Cert.KernelPre.main_arg3) = m ((c.tc : Thread Cert.KernelPre.nD Cert.KernelPre.τ).loc Cert.KernelPre.main_arg3))
      ∧ r.2.sem = fun _ => 0)

def quiescent_KernelPreIdeal [hKernelPreIdeal : Cert.KernelPreIdeal.Facts] : Prop :=
  ∀ (m : (ℓ : Loc Cert.KernelPreIdeal.nD Cert.KernelPreIdeal.τ Cert.KernelPreIdeal.sig) → Buf (Elt Ideal) ℓ) (g : Dev Cert.KernelPreIdeal.nD → PrngReg), Pre_KernelPreIdeal m →
    θ_run (Cert.KernelPreIdeal.defs (F := Ideal)) (onTc (τ := Cert.KernelPreIdeal.τ) (Cert.KernelPreIdeal.main (F := Ideal))) ⟨m, fun _ => 0, g⟩ (fun r => (∀ c : Dev Cert.KernelPreIdeal.nD,
      r.2.mem ((c.tc : Thread Cert.KernelPreIdeal.nD Cert.KernelPreIdeal.τ).loc Cert.KernelPreIdeal.main_arg0) = m ((c.tc : Thread Cert.KernelPreIdeal.nD Cert.KernelPreIdeal.τ).loc Cert.KernelPreIdeal.main_arg0)
      ∧ r.2.mem ((c.tc : Thread Cert.KernelPreIdeal.nD Cert.KernelPreIdeal.τ).loc Cert.KernelPreIdeal.main_arg1) = m ((c.tc : Thread Cert.KernelPreIdeal.nD Cert.KernelPreIdeal.τ).loc Cert.KernelPreIdeal.main_arg1)
      ∧ r.2.mem ((c.tc : Thread Cert.KernelPreIdeal.nD Cert.KernelPreIdeal.τ).loc Cert.KernelPreIdeal.main_arg2) = m ((c.tc : Thread Cert.KernelPreIdeal.nD Cert.KernelPreIdeal.τ).loc Cert.KernelPreIdeal.main_arg2)
      ∧ r.2.mem ((c.tc : Thread Cert.KernelPreIdeal.nD Cert.KernelPreIdeal.τ).loc Cert.KernelPreIdeal.main_arg3) = m ((c.tc : Thread Cert.KernelPreIdeal.nD Cert.KernelPreIdeal.τ).loc Cert.KernelPreIdeal.main_arg3))
      ∧ r.2.sem = fun _ => 0)

def quiescent_ReferencePreIdeal [hReferencePreIdeal : Cert.ReferencePreIdeal.Facts] : Prop :=
  ∀ (m : (ℓ : Loc Cert.ReferencePreIdeal.nD Cert.ReferencePreIdeal.τ Cert.ReferencePreIdeal.sig) → Buf (Elt Ideal) ℓ) (g : Dev Cert.ReferencePreIdeal.nD → PrngReg), Pre_ReferencePreIdeal m →
    θ_run (Cert.ReferencePreIdeal.defs (F := Ideal)) (onTc (τ := Cert.ReferencePreIdeal.τ) (Cert.ReferencePreIdeal.main (F := Ideal))) ⟨m, fun _ => 0, g⟩ (fun r => (∀ c : Dev Cert.ReferencePreIdeal.nD,
      r.2.mem ((c.tc : Thread Cert.ReferencePreIdeal.nD Cert.ReferencePreIdeal.τ).loc Cert.ReferencePreIdeal.main_arg0) = m ((c.tc : Thread Cert.ReferencePreIdeal.nD Cert.ReferencePreIdeal.τ).loc Cert.ReferencePreIdeal.main_arg0)
      ∧ r.2.mem ((c.tc : Thread Cert.ReferencePreIdeal.nD Cert.ReferencePreIdeal.τ).loc Cert.ReferencePreIdeal.main_arg1) = m ((c.tc : Thread Cert.ReferencePreIdeal.nD Cert.ReferencePreIdeal.τ).loc Cert.ReferencePreIdeal.main_arg1)
      ∧ r.2.mem ((c.tc : Thread Cert.ReferencePreIdeal.nD Cert.ReferencePreIdeal.τ).loc Cert.ReferencePreIdeal.main_arg2) = m ((c.tc : Thread Cert.ReferencePreIdeal.nD Cert.ReferencePreIdeal.τ).loc Cert.ReferencePreIdeal.main_arg2)
      ∧ r.2.mem ((c.tc : Thread Cert.ReferencePreIdeal.nD Cert.ReferencePreIdeal.τ).loc Cert.ReferencePreIdeal.main_arg3) = m ((c.tc : Thread Cert.ReferencePreIdeal.nD Cert.ReferencePreIdeal.τ).loc Cert.ReferencePreIdeal.main_arg3))
      ∧ r.2.sem = fun _ => 0)

def quiescent_KernelMod [hKernelMod : Cert.KernelMod.Facts] : Prop :=
  ∀ (m : (ℓ : Loc Cert.KernelMod.nD Cert.KernelMod.τ Cert.KernelMod.sig) → Buf (Elt Bits) ℓ) (g : Dev Cert.KernelMod.nD → PrngReg), Pre_KernelMod m →
    θ_run (Cert.KernelMod.defs (F := Bits)) (onTc (τ := Cert.KernelMod.τ) (Cert.KernelMod.main (F := Bits))) ⟨m, fun _ => 0, g⟩ (fun r => (∀ c : Dev Cert.KernelMod.nD,
      r.2.mem ((c.tc : Thread Cert.KernelMod.nD Cert.KernelMod.τ).loc Cert.KernelMod.main_arg0) = m ((c.tc : Thread Cert.KernelMod.nD Cert.KernelMod.τ).loc Cert.KernelMod.main_arg0)
      ∧ r.2.mem ((c.tc : Thread Cert.KernelMod.nD Cert.KernelMod.τ).loc Cert.KernelMod.main_arg1) = m ((c.tc : Thread Cert.KernelMod.nD Cert.KernelMod.τ).loc Cert.KernelMod.main_arg1)
      ∧ r.2.mem ((c.tc : Thread Cert.KernelMod.nD Cert.KernelMod.τ).loc Cert.KernelMod.main_arg2) = m ((c.tc : Thread Cert.KernelMod.nD Cert.KernelMod.τ).loc Cert.KernelMod.main_arg2))
      ∧ r.2.sem = fun _ => 0)

def quiescent_KernelModIdeal [hKernelModIdeal : Cert.KernelModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg), Pre_KernelModIdeal m →
    θ_run (Cert.KernelModIdeal.defs (F := Ideal)) (onTc (τ := Cert.KernelModIdeal.τ) (Cert.KernelModIdeal.main (F := Ideal))) ⟨m, fun _ => 0, g⟩ (fun r => (∀ c : Dev Cert.KernelModIdeal.nD,
      r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
      ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
      ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2))
      ∧ r.2.sem = fun _ => 0)

def quiescent_ReferenceModIdeal [hReferenceModIdeal : Cert.ReferenceModIdeal.Facts] : Prop :=
  ∀ (m : (ℓ : Loc Cert.ReferenceModIdeal.nD Cert.ReferenceModIdeal.τ Cert.ReferenceModIdeal.sig) → Buf (Elt Ideal) ℓ) (g : Dev Cert.ReferenceModIdeal.nD → PrngReg), Pre_ReferenceModIdeal m →
    θ_run (Cert.ReferenceModIdeal.defs (F := Ideal)) (onTc (τ := Cert.ReferenceModIdeal.τ) (Cert.ReferenceModIdeal.main (F := Ideal))) ⟨m, fun _ => 0, g⟩ (fun r => (∀ c : Dev Cert.ReferenceModIdeal.nD,
      r.2.mem ((c.tc : Thread Cert.ReferenceModIdeal.nD Cert.ReferenceModIdeal.τ).loc Cert.ReferenceModIdeal.main_arg0) = m ((c.tc : Thread Cert.ReferenceModIdeal.nD Cert.ReferenceModIdeal.τ).loc Cert.ReferenceModIdeal.main_arg0)
      ∧ r.2.mem ((c.tc : Thread Cert.ReferenceModIdeal.nD Cert.ReferenceModIdeal.τ).loc Cert.ReferenceModIdeal.main_arg1) = m ((c.tc : Thread Cert.ReferenceModIdeal.nD Cert.ReferenceModIdeal.τ).loc Cert.ReferenceModIdeal.main_arg1)
      ∧ r.2.mem ((c.tc : Thread Cert.ReferenceModIdeal.nD Cert.ReferenceModIdeal.τ).loc Cert.ReferenceModIdeal.main_arg2) = m ((c.tc : Thread Cert.ReferenceModIdeal.nD Cert.ReferenceModIdeal.τ).loc Cert.ReferenceModIdeal.main_arg2))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2))
      ∧ r.2.sem = fun _ => 0)

def quiescent_KernelWin [hKernelWin : Cert.KernelWin.Facts] : Prop :=
  ∀ (m : (ℓ : Loc Cert.KernelWin.nD Cert.KernelWin.τ Cert.KernelWin.sig) → Buf (Elt Bits) ℓ) (g : Dev Cert.KernelWin.nD → PrngReg), Pre_KernelWin m →
    θ_run (Cert.KernelWin.defs (F := Bits)) (onTc (τ := Cert.KernelWin.τ) (Cert.KernelWin.main (F := Bits))) ⟨m, fun _ => 0, g⟩ (fun r => (∀ c : Dev Cert.KernelWin.nD,
      r.2.mem ((c.tc : Thread Cert.KernelWin.nD Cert.KernelWin.τ).loc Cert.KernelWin.main_arg0) = m ((c.tc : Thread Cert.KernelWin.nD Cert.KernelWin.τ).loc Cert.KernelWin.main_arg0)
      ∧ r.2.mem ((c.tc : Thread Cert.KernelWin.nD Cert.KernelWin.τ).loc Cert.KernelWin.main_arg1) = m ((c.tc : Thread Cert.KernelWin.nD Cert.KernelWin.τ).loc Cert.KernelWin.main_arg1)
      ∧ r.2.mem ((c.tc : Thread Cert.KernelWin.nD Cert.KernelWin.τ).loc Cert.KernelWin.main_arg2) = m ((c.tc : Thread Cert.KernelWin.nD Cert.KernelWin.τ).loc Cert.KernelWin.main_arg2))
      ∧ r.2.sem = fun _ => 0)

def quiescent_KernelWinIdeal [hKernelWinIdeal : Cert.KernelWinIdeal.Facts] : Prop :=
  ∀ (m : (ℓ : Loc Cert.KernelWinIdeal.nD Cert.KernelWinIdeal.τ Cert.KernelWinIdeal.sig) → Buf (Elt Ideal) ℓ) (g : Dev Cert.KernelWinIdeal.nD → PrngReg), Pre_KernelWinIdeal m →
    θ_run (Cert.KernelWinIdeal.defs (F := Ideal)) (onTc (τ := Cert.KernelWinIdeal.τ) (Cert.KernelWinIdeal.main (F := Ideal))) ⟨m, fun _ => 0, g⟩ (fun r => (∀ c : Dev Cert.KernelWinIdeal.nD,
      r.2.mem ((c.tc : Thread Cert.KernelWinIdeal.nD Cert.KernelWinIdeal.τ).loc Cert.KernelWinIdeal.main_arg0) = m ((c.tc : Thread Cert.KernelWinIdeal.nD Cert.KernelWinIdeal.τ).loc Cert.KernelWinIdeal.main_arg0)
      ∧ r.2.mem ((c.tc : Thread Cert.KernelWinIdeal.nD Cert.KernelWinIdeal.τ).loc Cert.KernelWinIdeal.main_arg1) = m ((c.tc : Thread Cert.KernelWinIdeal.nD Cert.KernelWinIdeal.τ).loc Cert.KernelWinIdeal.main_arg1)
      ∧ r.2.mem ((c.tc : Thread Cert.KernelWinIdeal.nD Cert.KernelWinIdeal.τ).loc Cert.KernelWinIdeal.main_arg2) = m ((c.tc : Thread Cert.KernelWinIdeal.nD Cert.KernelWinIdeal.τ).loc Cert.KernelWinIdeal.main_arg2))
      ∧ r.2.sem = fun _ => 0)

def quiescent_ReferenceWinIdeal [hReferenceWinIdeal : Cert.ReferenceWinIdeal.Facts] : Prop :=
  ∀ (m : (ℓ : Loc Cert.ReferenceWinIdeal.nD Cert.ReferenceWinIdeal.τ Cert.ReferenceWinIdeal.sig) → Buf (Elt Ideal) ℓ) (g : Dev Cert.ReferenceWinIdeal.nD → PrngReg), Pre_ReferenceWinIdeal m →
    θ_run (Cert.ReferenceWinIdeal.defs (F := Ideal)) (onTc (τ := Cert.ReferenceWinIdeal.τ) (Cert.ReferenceWinIdeal.main (F := Ideal))) ⟨m, fun _ => 0, g⟩ (fun r => (∀ c : Dev Cert.ReferenceWinIdeal.nD,
      r.2.mem ((c.tc : Thread Cert.ReferenceWinIdeal.nD Cert.ReferenceWinIdeal.τ).loc Cert.ReferenceWinIdeal.main_arg0) = m ((c.tc : Thread Cert.ReferenceWinIdeal.nD Cert.ReferenceWinIdeal.τ).loc Cert.ReferenceWinIdeal.main_arg0)
      ∧ r.2.mem ((c.tc : Thread Cert.ReferenceWinIdeal.nD Cert.ReferenceWinIdeal.τ).loc Cert.ReferenceWinIdeal.main_arg1) = m ((c.tc : Thread Cert.ReferenceWinIdeal.nD Cert.ReferenceWinIdeal.τ).loc Cert.ReferenceWinIdeal.main_arg1)
      ∧ r.2.mem ((c.tc : Thread Cert.ReferenceWinIdeal.nD Cert.ReferenceWinIdeal.τ).loc Cert.ReferenceWinIdeal.main_arg2) = m ((c.tc : Thread Cert.ReferenceWinIdeal.nD Cert.ReferenceWinIdeal.τ).loc Cert.ReferenceWinIdeal.main_arg2))
      ∧ r.2.sem = fun _ => 0)

def quiescent_KernelWp [hKernelWp : Cert.KernelWp.Facts] : Prop :=
  ∀ (m : (ℓ : Loc Cert.KernelWp.nD Cert.KernelWp.τ Cert.KernelWp.sig) → Buf (Elt Bits) ℓ) (g : Dev Cert.KernelWp.nD → PrngReg), Pre_KernelWp m →
    θ_run (Cert.KernelWp.defs (F := Bits)) (onTc (τ := Cert.KernelWp.τ) (Cert.KernelWp.main (F := Bits))) ⟨m, fun _ => 0, g⟩ (fun r => (∀ c : Dev Cert.KernelWp.nD,
      r.2.mem ((c.tc : Thread Cert.KernelWp.nD Cert.KernelWp.τ).loc Cert.KernelWp.main_arg0) = m ((c.tc : Thread Cert.KernelWp.nD Cert.KernelWp.τ).loc Cert.KernelWp.main_arg0)
      ∧ r.2.mem ((c.tc : Thread Cert.KernelWp.nD Cert.KernelWp.τ).loc Cert.KernelWp.main_arg1) = m ((c.tc : Thread Cert.KernelWp.nD Cert.KernelWp.τ).loc Cert.KernelWp.main_arg1)
      ∧ r.2.mem ((c.tc : Thread Cert.KernelWp.nD Cert.KernelWp.τ).loc Cert.KernelWp.main_arg2) = m ((c.tc : Thread Cert.KernelWp.nD Cert.KernelWp.τ).loc Cert.KernelWp.main_arg2)
      ∧ r.2.mem ((c.tc : Thread Cert.KernelWp.nD Cert.KernelWp.τ).loc Cert.KernelWp.main_arg3) = m ((c.tc : Thread Cert.KernelWp.nD Cert.KernelWp.τ).loc Cert.KernelWp.main_arg3))
      ∧ r.2.sem = fun _ => 0)

def quiescent_KernelWpIdeal [hKernelWpIdeal : Cert.KernelWpIdeal.Facts] : Prop :=
  ∀ (m : (ℓ : Loc Cert.KernelWpIdeal.nD Cert.KernelWpIdeal.τ Cert.KernelWpIdeal.sig) → Buf (Elt Ideal) ℓ) (g : Dev Cert.KernelWpIdeal.nD → PrngReg), Pre_KernelWpIdeal m →
    θ_run (Cert.KernelWpIdeal.defs (F := Ideal)) (onTc (τ := Cert.KernelWpIdeal.τ) (Cert.KernelWpIdeal.main (F := Ideal))) ⟨m, fun _ => 0, g⟩ (fun r => (∀ c : Dev Cert.KernelWpIdeal.nD,
      r.2.mem ((c.tc : Thread Cert.KernelWpIdeal.nD Cert.KernelWpIdeal.τ).loc Cert.KernelWpIdeal.main_arg0) = m ((c.tc : Thread Cert.KernelWpIdeal.nD Cert.KernelWpIdeal.τ).loc Cert.KernelWpIdeal.main_arg0)
      ∧ r.2.mem ((c.tc : Thread Cert.KernelWpIdeal.nD Cert.KernelWpIdeal.τ).loc Cert.KernelWpIdeal.main_arg1) = m ((c.tc : Thread Cert.KernelWpIdeal.nD Cert.KernelWpIdeal.τ).loc Cert.KernelWpIdeal.main_arg1)
      ∧ r.2.mem ((c.tc : Thread Cert.KernelWpIdeal.nD Cert.KernelWpIdeal.τ).loc Cert.KernelWpIdeal.main_arg2) = m ((c.tc : Thread Cert.KernelWpIdeal.nD Cert.KernelWpIdeal.τ).loc Cert.KernelWpIdeal.main_arg2)
      ∧ r.2.mem ((c.tc : Thread Cert.KernelWpIdeal.nD Cert.KernelWpIdeal.τ).loc Cert.KernelWpIdeal.main_arg3) = m ((c.tc : Thread Cert.KernelWpIdeal.nD Cert.KernelWpIdeal.τ).loc Cert.KernelWpIdeal.main_arg3))
      ∧ r.2.sem = fun _ => 0)

def quiescent_ReferenceWpIdeal [hReferenceWpIdeal : Cert.ReferenceWpIdeal.Facts] : Prop :=
  ∀ (m : (ℓ : Loc Cert.ReferenceWpIdeal.nD Cert.ReferenceWpIdeal.τ Cert.ReferenceWpIdeal.sig) → Buf (Elt Ideal) ℓ) (g : Dev Cert.ReferenceWpIdeal.nD → PrngReg), Pre_ReferenceWpIdeal m →
    θ_run (Cert.ReferenceWpIdeal.defs (F := Ideal)) (onTc (τ := Cert.ReferenceWpIdeal.τ) (Cert.ReferenceWpIdeal.main (F := Ideal))) ⟨m, fun _ => 0, g⟩ (fun r => (∀ c : Dev Cert.ReferenceWpIdeal.nD,
      r.2.mem ((c.tc : Thread Cert.ReferenceWpIdeal.nD Cert.ReferenceWpIdeal.τ).loc Cert.ReferenceWpIdeal.main_arg0) = m ((c.tc : Thread Cert.ReferenceWpIdeal.nD Cert.ReferenceWpIdeal.τ).loc Cert.ReferenceWpIdeal.main_arg0)
      ∧ r.2.mem ((c.tc : Thread Cert.ReferenceWpIdeal.nD Cert.ReferenceWpIdeal.τ).loc Cert.ReferenceWpIdeal.main_arg1) = m ((c.tc : Thread Cert.ReferenceWpIdeal.nD Cert.ReferenceWpIdeal.τ).loc Cert.ReferenceWpIdeal.main_arg1)
      ∧ r.2.mem ((c.tc : Thread Cert.ReferenceWpIdeal.nD Cert.ReferenceWpIdeal.τ).loc Cert.ReferenceWpIdeal.main_arg2) = m ((c.tc : Thread Cert.ReferenceWpIdeal.nD Cert.ReferenceWpIdeal.τ).loc Cert.ReferenceWpIdeal.main_arg2)
      ∧ r.2.mem ((c.tc : Thread Cert.ReferenceWpIdeal.nD Cert.ReferenceWpIdeal.τ).loc Cert.ReferenceWpIdeal.main_arg3) = m ((c.tc : Thread Cert.ReferenceWpIdeal.nD Cert.ReferenceWpIdeal.τ).loc Cert.ReferenceWpIdeal.main_arg3))
      ∧ r.2.sem = fun _ => 0)

def quiescent_KernelCw [hKernelCw : Cert.KernelCw.Facts] : Prop :=
  ∀ (m : (ℓ : Loc Cert.KernelCw.nD Cert.KernelCw.τ Cert.KernelCw.sig) → Buf (Elt Bits) ℓ) (g : Dev Cert.KernelCw.nD → PrngReg), Pre_KernelCw m →
    θ_run (Cert.KernelCw.defs (F := Bits)) (onTc (τ := Cert.KernelCw.τ) (Cert.KernelCw.main (F := Bits))) ⟨m, fun _ => 0, g⟩ (fun r => (∀ c : Dev Cert.KernelCw.nD,
      r.2.mem ((c.tc : Thread Cert.KernelCw.nD Cert.KernelCw.τ).loc Cert.KernelCw.main_arg0) = m ((c.tc : Thread Cert.KernelCw.nD Cert.KernelCw.τ).loc Cert.KernelCw.main_arg0)
      ∧ r.2.mem ((c.tc : Thread Cert.KernelCw.nD Cert.KernelCw.τ).loc Cert.KernelCw.main_arg1) = m ((c.tc : Thread Cert.KernelCw.nD Cert.KernelCw.τ).loc Cert.KernelCw.main_arg1)
      ∧ r.2.mem ((c.tc : Thread Cert.KernelCw.nD Cert.KernelCw.τ).loc Cert.KernelCw.main_arg2) = m ((c.tc : Thread Cert.KernelCw.nD Cert.KernelCw.τ).loc Cert.KernelCw.main_arg2)
      ∧ r.2.mem ((c.tc : Thread Cert.KernelCw.nD Cert.KernelCw.τ).loc Cert.KernelCw.main_arg3) = m ((c.tc : Thread Cert.KernelCw.nD Cert.KernelCw.τ).loc Cert.KernelCw.main_arg3))
      ∧ r.2.sem = fun _ => 0)

def quiescent_KernelCwIdeal [hKernelCwIdeal : Cert.KernelCwIdeal.Facts] : Prop :=
  ∀ (m : (ℓ : Loc Cert.KernelCwIdeal.nD Cert.KernelCwIdeal.τ Cert.KernelCwIdeal.sig) → Buf (Elt Ideal) ℓ) (g : Dev Cert.KernelCwIdeal.nD → PrngReg), Pre_KernelCwIdeal m →
    θ_run (Cert.KernelCwIdeal.defs (F := Ideal)) (onTc (τ := Cert.KernelCwIdeal.τ) (Cert.KernelCwIdeal.main (F := Ideal))) ⟨m, fun _ => 0, g⟩ (fun r => (∀ c : Dev Cert.KernelCwIdeal.nD,
      r.2.mem ((c.tc : Thread Cert.KernelCwIdeal.nD Cert.KernelCwIdeal.τ).loc Cert.KernelCwIdeal.main_arg0) = m ((c.tc : Thread Cert.KernelCwIdeal.nD Cert.KernelCwIdeal.τ).loc Cert.KernelCwIdeal.main_arg0)
      ∧ r.2.mem ((c.tc : Thread Cert.KernelCwIdeal.nD Cert.KernelCwIdeal.τ).loc Cert.KernelCwIdeal.main_arg1) = m ((c.tc : Thread Cert.KernelCwIdeal.nD Cert.KernelCwIdeal.τ).loc Cert.KernelCwIdeal.main_arg1)
      ∧ r.2.mem ((c.tc : Thread Cert.KernelCwIdeal.nD Cert.KernelCwIdeal.τ).loc Cert.KernelCwIdeal.main_arg2) = m ((c.tc : Thread Cert.KernelCwIdeal.nD Cert.KernelCwIdeal.τ).loc Cert.KernelCwIdeal.main_arg2)
      ∧ r.2.mem ((c.tc : Thread Cert.KernelCwIdeal.nD Cert.KernelCwIdeal.τ).loc Cert.KernelCwIdeal.main_arg3) = m ((c.tc : Thread Cert.KernelCwIdeal.nD Cert.KernelCwIdeal.τ).loc Cert.KernelCwIdeal.main_arg3))
      ∧ r.2.sem = fun _ => 0)

def quiescent_ReferenceCwIdeal [hReferenceCwIdeal : Cert.ReferenceCwIdeal.Facts] : Prop :=
  ∀ (m : (ℓ : Loc Cert.ReferenceCwIdeal.nD Cert.ReferenceCwIdeal.τ Cert.ReferenceCwIdeal.sig) → Buf (Elt Ideal) ℓ) (g : Dev Cert.ReferenceCwIdeal.nD → PrngReg), Pre_ReferenceCwIdeal m →
    θ_run (Cert.ReferenceCwIdeal.defs (F := Ideal)) (onTc (τ := Cert.ReferenceCwIdeal.τ) (Cert.ReferenceCwIdeal.main (F := Ideal))) ⟨m, fun _ => 0, g⟩ (fun r => (∀ c : Dev Cert.ReferenceCwIdeal.nD,
      r.2.mem ((c.tc : Thread Cert.ReferenceCwIdeal.nD Cert.ReferenceCwIdeal.τ).loc Cert.ReferenceCwIdeal.main_arg0) = m ((c.tc : Thread Cert.ReferenceCwIdeal.nD Cert.ReferenceCwIdeal.τ).loc Cert.ReferenceCwIdeal.main_arg0)
      ∧ r.2.mem ((c.tc : Thread Cert.ReferenceCwIdeal.nD Cert.ReferenceCwIdeal.τ).loc Cert.ReferenceCwIdeal.main_arg1) = m ((c.tc : Thread Cert.ReferenceCwIdeal.nD Cert.ReferenceCwIdeal.τ).loc Cert.ReferenceCwIdeal.main_arg1)
      ∧ r.2.mem ((c.tc : Thread Cert.ReferenceCwIdeal.nD Cert.ReferenceCwIdeal.τ).loc Cert.ReferenceCwIdeal.main_arg2) = m ((c.tc : Thread Cert.ReferenceCwIdeal.nD Cert.ReferenceCwIdeal.τ).loc Cert.ReferenceCwIdeal.main_arg2)
      ∧ r.2.mem ((c.tc : Thread Cert.ReferenceCwIdeal.nD Cert.ReferenceCwIdeal.τ).loc Cert.ReferenceCwIdeal.main_arg3) = m ((c.tc : Thread Cert.ReferenceCwIdeal.nD Cert.ReferenceCwIdeal.τ).loc Cert.ReferenceCwIdeal.main_arg3))
      ∧ r.2.sem = fun _ => 0)

def quiescent_KernelSml [hKernelSml : Cert.KernelSml.Facts] : Prop :=
  ∀ (m : (ℓ : Loc Cert.KernelSml.nD Cert.KernelSml.τ Cert.KernelSml.sig) → Buf (Elt Bits) ℓ) (g : Dev Cert.KernelSml.nD → PrngReg), Pre_KernelSml m →
    θ_run (Cert.KernelSml.defs (F := Bits)) (onTc (τ := Cert.KernelSml.τ) (Cert.KernelSml.main (F := Bits))) ⟨m, fun _ => 0, g⟩ (fun r => (∀ c : Dev Cert.KernelSml.nD,
      r.2.mem ((c.tc : Thread Cert.KernelSml.nD Cert.KernelSml.τ).loc Cert.KernelSml.main_arg0) = m ((c.tc : Thread Cert.KernelSml.nD Cert.KernelSml.τ).loc Cert.KernelSml.main_arg0)
      ∧ r.2.mem ((c.tc : Thread Cert.KernelSml.nD Cert.KernelSml.τ).loc Cert.KernelSml.main_arg1) = m ((c.tc : Thread Cert.KernelSml.nD Cert.KernelSml.τ).loc Cert.KernelSml.main_arg1)
      ∧ r.2.mem ((c.tc : Thread Cert.KernelSml.nD Cert.KernelSml.τ).loc Cert.KernelSml.main_arg2) = m ((c.tc : Thread Cert.KernelSml.nD Cert.KernelSml.τ).loc Cert.KernelSml.main_arg2)
      ∧ r.2.mem ((c.tc : Thread Cert.KernelSml.nD Cert.KernelSml.τ).loc Cert.KernelSml.main_arg3) = m ((c.tc : Thread Cert.KernelSml.nD Cert.KernelSml.τ).loc Cert.KernelSml.main_arg3)
      ∧ r.2.mem ((c.tc : Thread Cert.KernelSml.nD Cert.KernelSml.τ).loc Cert.KernelSml.main_arg4) = m ((c.tc : Thread Cert.KernelSml.nD Cert.KernelSml.τ).loc Cert.KernelSml.main_arg4)
      ∧ r.2.mem ((c.tc : Thread Cert.KernelSml.nD Cert.KernelSml.τ).loc Cert.KernelSml.main_arg5) = m ((c.tc : Thread Cert.KernelSml.nD Cert.KernelSml.τ).loc Cert.KernelSml.main_arg5)
      ∧ r.2.mem ((c.tc : Thread Cert.KernelSml.nD Cert.KernelSml.τ).loc Cert.KernelSml.main_arg6) = m ((c.tc : Thread Cert.KernelSml.nD Cert.KernelSml.τ).loc Cert.KernelSml.main_arg6)
      ∧ r.2.mem ((c.tc : Thread Cert.KernelSml.nD Cert.KernelSml.τ).loc Cert.KernelSml.main_arg7) = m ((c.tc : Thread Cert.KernelSml.nD Cert.KernelSml.τ).loc Cert.KernelSml.main_arg7)
      ∧ r.2.mem ((c.tc : Thread Cert.KernelSml.nD Cert.KernelSml.τ).loc Cert.KernelSml.main_arg8) = m ((c.tc : Thread Cert.KernelSml.nD Cert.KernelSml.τ).loc Cert.KernelSml.main_arg8)
      ∧ r.2.mem ((c.tc : Thread Cert.KernelSml.nD Cert.KernelSml.τ).loc Cert.KernelSml.main_arg9) = m ((c.tc : Thread Cert.KernelSml.nD Cert.KernelSml.τ).loc Cert.KernelSml.main_arg9)
      ∧ r.2.mem ((c.tc : Thread Cert.KernelSml.nD Cert.KernelSml.τ).loc Cert.KernelSml.main_arg10) = m ((c.tc : Thread Cert.KernelSml.nD Cert.KernelSml.τ).loc Cert.KernelSml.main_arg10)
      ∧ r.2.mem ((c.tc : Thread Cert.KernelSml.nD Cert.KernelSml.τ).loc Cert.KernelSml.main_arg11) = m ((c.tc : Thread Cert.KernelSml.nD Cert.KernelSml.τ).loc Cert.KernelSml.main_arg11)
      ∧ r.2.mem ((c.tc : Thread Cert.KernelSml.nD Cert.KernelSml.τ).loc Cert.KernelSml.main_arg12) = m ((c.tc : Thread Cert.KernelSml.nD Cert.KernelSml.τ).loc Cert.KernelSml.main_arg12)
      ∧ r.2.mem ((c.tc : Thread Cert.KernelSml.nD Cert.KernelSml.τ).loc Cert.KernelSml.main_arg13) = m ((c.tc : Thread Cert.KernelSml.nD Cert.KernelSml.τ).loc Cert.KernelSml.main_arg13))
      ∧ r.2.sem = fun _ => 0)

def quiescent_KernelSmlIdeal [hKernelSmlIdeal : Cert.KernelSmlIdeal.Facts] : Prop :=
  ∀ (m : (ℓ : Loc Cert.KernelSmlIdeal.nD Cert.KernelSmlIdeal.τ Cert.KernelSmlIdeal.sig) → Buf (Elt Ideal) ℓ) (g : Dev Cert.KernelSmlIdeal.nD → PrngReg), Pre_KernelSmlIdeal m →
    θ_run (Cert.KernelSmlIdeal.defs (F := Ideal)) (onTc (τ := Cert.KernelSmlIdeal.τ) (Cert.KernelSmlIdeal.main (F := Ideal))) ⟨m, fun _ => 0, g⟩ (fun r => (∀ c : Dev Cert.KernelSmlIdeal.nD,
      r.2.mem ((c.tc : Thread Cert.KernelSmlIdeal.nD Cert.KernelSmlIdeal.τ).loc Cert.KernelSmlIdeal.main_arg0) = m ((c.tc : Thread Cert.KernelSmlIdeal.nD Cert.KernelSmlIdeal.τ).loc Cert.KernelSmlIdeal.main_arg0)
      ∧ r.2.mem ((c.tc : Thread Cert.KernelSmlIdeal.nD Cert.KernelSmlIdeal.τ).loc Cert.KernelSmlIdeal.main_arg1) = m ((c.tc : Thread Cert.KernelSmlIdeal.nD Cert.KernelSmlIdeal.τ).loc Cert.KernelSmlIdeal.main_arg1)
      ∧ r.2.mem ((c.tc : Thread Cert.KernelSmlIdeal.nD Cert.KernelSmlIdeal.τ).loc Cert.KernelSmlIdeal.main_arg2) = m ((c.tc : Thread Cert.KernelSmlIdeal.nD Cert.KernelSmlIdeal.τ).loc Cert.KernelSmlIdeal.main_arg2)
      ∧ r.2.mem ((c.tc : Thread Cert.KernelSmlIdeal.nD Cert.KernelSmlIdeal.τ).loc Cert.KernelSmlIdeal.main_arg3) = m ((c.tc : Thread Cert.KernelSmlIdeal.nD Cert.KernelSmlIdeal.τ).loc Cert.KernelSmlIdeal.main_arg3)
      ∧ r.2.mem ((c.tc : Thread Cert.KernelSmlIdeal.nD Cert.KernelSmlIdeal.τ).loc Cert.KernelSmlIdeal.main_arg4) = m ((c.tc : Thread Cert.KernelSmlIdeal.nD Cert.KernelSmlIdeal.τ).loc Cert.KernelSmlIdeal.main_arg4)
      ∧ r.2.mem ((c.tc : Thread Cert.KernelSmlIdeal.nD Cert.KernelSmlIdeal.τ).loc Cert.KernelSmlIdeal.main_arg5) = m ((c.tc : Thread Cert.KernelSmlIdeal.nD Cert.KernelSmlIdeal.τ).loc Cert.KernelSmlIdeal.main_arg5)
      ∧ r.2.mem ((c.tc : Thread Cert.KernelSmlIdeal.nD Cert.KernelSmlIdeal.τ).loc Cert.KernelSmlIdeal.main_arg6) = m ((c.tc : Thread Cert.KernelSmlIdeal.nD Cert.KernelSmlIdeal.τ).loc Cert.KernelSmlIdeal.main_arg6)
      ∧ r.2.mem ((c.tc : Thread Cert.KernelSmlIdeal.nD Cert.KernelSmlIdeal.τ).loc Cert.KernelSmlIdeal.main_arg7) = m ((c.tc : Thread Cert.KernelSmlIdeal.nD Cert.KernelSmlIdeal.τ).loc Cert.KernelSmlIdeal.main_arg7)
      ∧ r.2.mem ((c.tc : Thread Cert.KernelSmlIdeal.nD Cert.KernelSmlIdeal.τ).loc Cert.KernelSmlIdeal.main_arg8) = m ((c.tc : Thread Cert.KernelSmlIdeal.nD Cert.KernelSmlIdeal.τ).loc Cert.KernelSmlIdeal.main_arg8)
      ∧ r.2.mem ((c.tc : Thread Cert.KernelSmlIdeal.nD Cert.KernelSmlIdeal.τ).loc Cert.KernelSmlIdeal.main_arg9) = m ((c.tc : Thread Cert.KernelSmlIdeal.nD Cert.KernelSmlIdeal.τ).loc Cert.KernelSmlIdeal.main_arg9)
      ∧ r.2.mem ((c.tc : Thread Cert.KernelSmlIdeal.nD Cert.KernelSmlIdeal.τ).loc Cert.KernelSmlIdeal.main_arg10) = m ((c.tc : Thread Cert.KernelSmlIdeal.nD Cert.KernelSmlIdeal.τ).loc Cert.KernelSmlIdeal.main_arg10)
      ∧ r.2.mem ((c.tc : Thread Cert.KernelSmlIdeal.nD Cert.KernelSmlIdeal.τ).loc Cert.KernelSmlIdeal.main_arg11) = m ((c.tc : Thread Cert.KernelSmlIdeal.nD Cert.KernelSmlIdeal.τ).loc Cert.KernelSmlIdeal.main_arg11)
      ∧ r.2.mem ((c.tc : Thread Cert.KernelSmlIdeal.nD Cert.KernelSmlIdeal.τ).loc Cert.KernelSmlIdeal.main_arg12) = m ((c.tc : Thread Cert.KernelSmlIdeal.nD Cert.KernelSmlIdeal.τ).loc Cert.KernelSmlIdeal.main_arg12)
      ∧ r.2.mem ((c.tc : Thread Cert.KernelSmlIdeal.nD Cert.KernelSmlIdeal.τ).loc Cert.KernelSmlIdeal.main_arg13) = m ((c.tc : Thread Cert.KernelSmlIdeal.nD Cert.KernelSmlIdeal.τ).loc Cert.KernelSmlIdeal.main_arg13))
      ∧ r.2.sem = fun _ => 0)

def quiescent_ReferenceSmlIdeal [hReferenceSmlIdeal : Cert.ReferenceSmlIdeal.Facts] : Prop :=
  ∀ (m : (ℓ : Loc Cert.ReferenceSmlIdeal.nD Cert.ReferenceSmlIdeal.τ Cert.ReferenceSmlIdeal.sig) → Buf (Elt Ideal) ℓ) (g : Dev Cert.ReferenceSmlIdeal.nD → PrngReg), Pre_ReferenceSmlIdeal m →
    θ_run (Cert.ReferenceSmlIdeal.defs (F := Ideal)) (onTc (τ := Cert.ReferenceSmlIdeal.τ) (Cert.ReferenceSmlIdeal.main (F := Ideal))) ⟨m, fun _ => 0, g⟩ (fun r => (∀ c : Dev Cert.ReferenceSmlIdeal.nD,
      r.2.mem ((c.tc : Thread Cert.ReferenceSmlIdeal.nD Cert.ReferenceSmlIdeal.τ).loc Cert.ReferenceSmlIdeal.main_arg0) = m ((c.tc : Thread Cert.ReferenceSmlIdeal.nD Cert.ReferenceSmlIdeal.τ).loc Cert.ReferenceSmlIdeal.main_arg0)
      ∧ r.2.mem ((c.tc : Thread Cert.ReferenceSmlIdeal.nD Cert.ReferenceSmlIdeal.τ).loc Cert.ReferenceSmlIdeal.main_arg1) = m ((c.tc : Thread Cert.ReferenceSmlIdeal.nD Cert.ReferenceSmlIdeal.τ).loc Cert.ReferenceSmlIdeal.main_arg1)
      ∧ r.2.mem ((c.tc : Thread Cert.ReferenceSmlIdeal.nD Cert.ReferenceSmlIdeal.τ).loc Cert.ReferenceSmlIdeal.main_arg2) = m ((c.tc : Thread Cert.ReferenceSmlIdeal.nD Cert.ReferenceSmlIdeal.τ).loc Cert.ReferenceSmlIdeal.main_arg2)
      ∧ r.2.mem ((c.tc : Thread Cert.ReferenceSmlIdeal.nD Cert.ReferenceSmlIdeal.τ).loc Cert.ReferenceSmlIdeal.main_arg3) = m ((c.tc : Thread Cert.ReferenceSmlIdeal.nD Cert.ReferenceSmlIdeal.τ).loc Cert.ReferenceSmlIdeal.main_arg3)
      ∧ r.2.mem ((c.tc : Thread Cert.ReferenceSmlIdeal.nD Cert.ReferenceSmlIdeal.τ).loc Cert.ReferenceSmlIdeal.main_arg4) = m ((c.tc : Thread Cert.ReferenceSmlIdeal.nD Cert.ReferenceSmlIdeal.τ).loc Cert.ReferenceSmlIdeal.main_arg4)
      ∧ r.2.mem ((c.tc : Thread Cert.ReferenceSmlIdeal.nD Cert.ReferenceSmlIdeal.τ).loc Cert.ReferenceSmlIdeal.main_arg5) = m ((c.tc : Thread Cert.ReferenceSmlIdeal.nD Cert.ReferenceSmlIdeal.τ).loc Cert.ReferenceSmlIdeal.main_arg5)
      ∧ r.2.mem ((c.tc : Thread Cert.ReferenceSmlIdeal.nD Cert.ReferenceSmlIdeal.τ).loc Cert.ReferenceSmlIdeal.main_arg6) = m ((c.tc : Thread Cert.ReferenceSmlIdeal.nD Cert.ReferenceSmlIdeal.τ).loc Cert.ReferenceSmlIdeal.main_arg6)
      ∧ r.2.mem ((c.tc : Thread Cert.ReferenceSmlIdeal.nD Cert.ReferenceSmlIdeal.τ).loc Cert.ReferenceSmlIdeal.main_arg7) = m ((c.tc : Thread Cert.ReferenceSmlIdeal.nD Cert.ReferenceSmlIdeal.τ).loc Cert.ReferenceSmlIdeal.main_arg7)
      ∧ r.2.mem ((c.tc : Thread Cert.ReferenceSmlIdeal.nD Cert.ReferenceSmlIdeal.τ).loc Cert.ReferenceSmlIdeal.main_arg8) = m ((c.tc : Thread Cert.ReferenceSmlIdeal.nD Cert.ReferenceSmlIdeal.τ).loc Cert.ReferenceSmlIdeal.main_arg8)
      ∧ r.2.mem ((c.tc : Thread Cert.ReferenceSmlIdeal.nD Cert.ReferenceSmlIdeal.τ).loc Cert.ReferenceSmlIdeal.main_arg9) = m ((c.tc : Thread Cert.ReferenceSmlIdeal.nD Cert.ReferenceSmlIdeal.τ).loc Cert.ReferenceSmlIdeal.main_arg9)
      ∧ r.2.mem ((c.tc : Thread Cert.ReferenceSmlIdeal.nD Cert.ReferenceSmlIdeal.τ).loc Cert.ReferenceSmlIdeal.main_arg10) = m ((c.tc : Thread Cert.ReferenceSmlIdeal.nD Cert.ReferenceSmlIdeal.τ).loc Cert.ReferenceSmlIdeal.main_arg10)
      ∧ r.2.mem ((c.tc : Thread Cert.ReferenceSmlIdeal.nD Cert.ReferenceSmlIdeal.τ).loc Cert.ReferenceSmlIdeal.main_arg11) = m ((c.tc : Thread Cert.ReferenceSmlIdeal.nD Cert.ReferenceSmlIdeal.τ).loc Cert.ReferenceSmlIdeal.main_arg11)
      ∧ r.2.mem ((c.tc : Thread Cert.ReferenceSmlIdeal.nD Cert.ReferenceSmlIdeal.τ).loc Cert.ReferenceSmlIdeal.main_arg12) = m ((c.tc : Thread Cert.ReferenceSmlIdeal.nD Cert.ReferenceSmlIdeal.τ).loc Cert.ReferenceSmlIdeal.main_arg12)
      ∧ r.2.mem ((c.tc : Thread Cert.ReferenceSmlIdeal.nD Cert.ReferenceSmlIdeal.τ).loc Cert.ReferenceSmlIdeal.main_arg13) = m ((c.tc : Thread Cert.ReferenceSmlIdeal.nD Cert.ReferenceSmlIdeal.τ).loc Cert.ReferenceSmlIdeal.main_arg13))
      ∧ r.2.sem = fun _ => 0)

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)
      ∧ m' ((c.tc : Thread Cert.ReferenceInIdeal.nD Cert.ReferenceInIdeal.τ).loc Cert.ReferenceInIdeal.main_arg5) = m ((c.tc : Thread Cert.KernelInIdeal.nD Cert.KernelInIdeal.τ).loc Cert.KernelInIdeal.main_arg5)
      ∧ m' ((c.tc : Thread Cert.ReferenceInIdeal.nD Cert.ReferenceInIdeal.τ).loc Cert.ReferenceInIdeal.main_arg6) = m ((c.tc : Thread Cert.KernelInIdeal.nD Cert.KernelInIdeal.τ).loc Cert.KernelInIdeal.main_arg6)
      ∧ m' ((c.tc : Thread Cert.ReferenceInIdeal.nD Cert.ReferenceInIdeal.τ).loc Cert.ReferenceInIdeal.main_arg7) = m ((c.tc : Thread Cert.KernelInIdeal.nD Cert.KernelInIdeal.τ).loc Cert.KernelInIdeal.main_arg7)
      ∧ m' ((c.tc : Thread Cert.ReferenceInIdeal.nD Cert.ReferenceInIdeal.τ).loc Cert.ReferenceInIdeal.main_arg8) = m ((c.tc : Thread Cert.KernelInIdeal.nD Cert.KernelInIdeal.τ).loc Cert.KernelInIdeal.main_arg8)
      ∧ m' ((c.tc : Thread Cert.ReferenceInIdeal.nD Cert.ReferenceInIdeal.τ).loc Cert.ReferenceInIdeal.main_arg9) = m ((c.tc : Thread Cert.KernelInIdeal.nD Cert.KernelInIdeal.τ).loc Cert.KernelInIdeal.main_arg9)) →
    ∃ (v0 : (c : Dev Cert.KernelInIdeal.nD) → Buf (Elt Ideal) ((c.tc : Thread Cert.KernelInIdeal.nD Cert.KernelInIdeal.τ).loc Cert.KernelInIdeal.main_v17_0)) (v1 : (c : Dev Cert.KernelInIdeal.nD) → Buf (Elt Ideal) ((c.tc : Thread Cert.KernelInIdeal.nD Cert.KernelInIdeal.τ).loc Cert.KernelInIdeal.main_v17_1)) (v2 : (c : Dev Cert.KernelInIdeal.nD) → Buf (Elt Ideal) ((c.tc : Thread Cert.KernelInIdeal.nD Cert.KernelInIdeal.τ).loc Cert.KernelInIdeal.main_v17_2)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v17_0) = v0 c
          ∧ r.2.mem ((c.tc : Thread Cert.KernelInIdeal.nD Cert.KernelInIdeal.τ).loc Cert.KernelInIdeal.main_v17_1) = v1 c
          ∧ r.2.mem ((c.tc : Thread Cert.KernelInIdeal.nD Cert.KernelInIdeal.τ).loc Cert.KernelInIdeal.main_v17_2) = v2 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
          ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
          ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6)
          ∧ r.2.mem ((c.tc : Thread Cert.KernelInIdeal.nD Cert.KernelInIdeal.τ).loc Cert.KernelInIdeal.main_arg7) = m ((c.tc : Thread Cert.KernelInIdeal.nD Cert.KernelInIdeal.τ).loc Cert.KernelInIdeal.main_arg7)
          ∧ r.2.mem ((c.tc : Thread Cert.KernelInIdeal.nD Cert.KernelInIdeal.τ).loc Cert.KernelInIdeal.main_arg8) = m ((c.tc : Thread Cert.KernelInIdeal.nD Cert.KernelInIdeal.τ).loc Cert.KernelInIdeal.main_arg8)
          ∧ r.2.mem ((c.tc : Thread Cert.KernelInIdeal.nD Cert.KernelInIdeal.τ).loc Cert.KernelInIdeal.main_arg9) = m ((c.tc : Thread Cert.KernelInIdeal.nD Cert.KernelInIdeal.τ).loc Cert.KernelInIdeal.main_arg9))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v74) = v0 c
          ∧ r.2.mem ((c.tc : Thread Cert.ReferenceInIdeal.nD Cert.ReferenceInIdeal.τ).loc Cert.ReferenceInIdeal.main_v70) = v1 c
          ∧ r.2.mem ((c.tc : Thread Cert.ReferenceInIdeal.nD Cert.ReferenceInIdeal.τ).loc Cert.ReferenceInIdeal.main_v73) = v2 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4)
          ∧ r.2.mem ((c.tc : Thread Cert.ReferenceInIdeal.nD Cert.ReferenceInIdeal.τ).loc Cert.ReferenceInIdeal.main_arg5) = m' ((c.tc : Thread Cert.ReferenceInIdeal.nD Cert.ReferenceInIdeal.τ).loc Cert.ReferenceInIdeal.main_arg5)
          ∧ r.2.mem ((c.tc : Thread Cert.ReferenceInIdeal.nD Cert.ReferenceInIdeal.τ).loc Cert.ReferenceInIdeal.main_arg6) = m' ((c.tc : Thread Cert.ReferenceInIdeal.nD Cert.ReferenceInIdeal.τ).loc Cert.ReferenceInIdeal.main_arg6)
          ∧ r.2.mem ((c.tc : Thread Cert.ReferenceInIdeal.nD Cert.ReferenceInIdeal.τ).loc Cert.ReferenceInIdeal.main_arg7) = m' ((c.tc : Thread Cert.ReferenceInIdeal.nD Cert.ReferenceInIdeal.τ).loc Cert.ReferenceInIdeal.main_arg7)
          ∧ r.2.mem ((c.tc : Thread Cert.ReferenceInIdeal.nD Cert.ReferenceInIdeal.τ).loc Cert.ReferenceInIdeal.main_arg8) = m' ((c.tc : Thread Cert.ReferenceInIdeal.nD Cert.ReferenceInIdeal.τ).loc Cert.ReferenceInIdeal.main_arg8)
          ∧ r.2.mem ((c.tc : Thread Cert.ReferenceInIdeal.nD Cert.ReferenceInIdeal.τ).loc Cert.ReferenceInIdeal.main_arg9) = m' ((c.tc : Thread Cert.ReferenceInIdeal.nD Cert.ReferenceInIdeal.τ).loc Cert.ReferenceInIdeal.main_arg9))

def preserves_KernelMlp_KernelMlpIdeal : Prop :=
  True

def algebraic_KernelMlpIdeal_ReferenceMlpIdeal [hKernelMlpIdeal : Cert.KernelMlpIdeal.Facts] [hReferenceMlpIdeal : Cert.ReferenceMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg)
    (m' : (ℓ : Loc Cert.ReferenceMlpIdeal.nD Cert.ReferenceMlpIdeal.τ Cert.ReferenceMlpIdeal.sig) → Buf (Elt Ideal) ℓ) (g' : Dev Cert.ReferenceMlpIdeal.nD → PrngReg), Pre_KernelMlpIdeal m →
    (∀ c : Dev Cert.KernelMlpIdeal.nD,
      m' ((c.tc : Thread Cert.ReferenceMlpIdeal.nD Cert.ReferenceMlpIdeal.τ).loc Cert.ReferenceMlpIdeal.main_arg0) = m ((c.tc : Thread Cert.KernelMlpIdeal.nD Cert.KernelMlpIdeal.τ).loc Cert.KernelMlpIdeal.main_arg0)
      ∧ m' ((c.tc : Thread Cert.ReferenceMlpIdeal.nD Cert.ReferenceMlpIdeal.τ).loc Cert.ReferenceMlpIdeal.main_arg1) = m ((c.tc : Thread Cert.KernelMlpIdeal.nD Cert.KernelMlpIdeal.τ).loc Cert.KernelMlpIdeal.main_arg1)
      ∧ m' ((c.tc : Thread Cert.ReferenceMlpIdeal.nD Cert.ReferenceMlpIdeal.τ).loc Cert.ReferenceMlpIdeal.main_arg2) = m ((c.tc : Thread Cert.KernelMlpIdeal.nD Cert.KernelMlpIdeal.τ).loc Cert.KernelMlpIdeal.main_arg2)
      ∧ m' ((c.tc : Thread Cert.ReferenceMlpIdeal.nD Cert.ReferenceMlpIdeal.τ).loc Cert.ReferenceMlpIdeal.main_arg3) = m ((c.tc : Thread Cert.KernelMlpIdeal.nD Cert.KernelMlpIdeal.τ).loc Cert.KernelMlpIdeal.main_arg3)
      ∧ m' ((c.tc : Thread Cert.ReferenceMlpIdeal.nD Cert.ReferenceMlpIdeal.τ).loc Cert.ReferenceMlpIdeal.main_arg4) = m ((c.tc : Thread Cert.KernelMlpIdeal.nD Cert.KernelMlpIdeal.τ).loc Cert.KernelMlpIdeal.main_arg4)
      ∧ m' ((c.tc : Thread Cert.ReferenceMlpIdeal.nD Cert.ReferenceMlpIdeal.τ).loc Cert.ReferenceMlpIdeal.main_arg5) = m ((c.tc : Thread Cert.KernelMlpIdeal.nD Cert.KernelMlpIdeal.τ).loc Cert.KernelMlpIdeal.main_arg5)
      ∧ m' ((c.tc : Thread Cert.ReferenceMlpIdeal.nD Cert.ReferenceMlpIdeal.τ).loc Cert.ReferenceMlpIdeal.main_arg6) = m ((c.tc : Thread Cert.KernelMlpIdeal.nD Cert.KernelMlpIdeal.τ).loc Cert.KernelMlpIdeal.main_arg6)
      ∧ m' ((c.tc : Thread Cert.ReferenceMlpIdeal.nD Cert.ReferenceMlpIdeal.τ).loc Cert.ReferenceMlpIdeal.main_arg7) = m ((c.tc : Thread Cert.KernelMlpIdeal.nD Cert.KernelMlpIdeal.τ).loc Cert.KernelMlpIdeal.main_arg7)
      ∧ m' ((c.tc : Thread Cert.ReferenceMlpIdeal.nD Cert.ReferenceMlpIdeal.τ).loc Cert.ReferenceMlpIdeal.main_arg8) = m ((c.tc : Thread Cert.KernelMlpIdeal.nD Cert.KernelMlpIdeal.τ).loc Cert.KernelMlpIdeal.main_arg8)) →
    ∃ (v0 : (c : Dev Cert.KernelMlpIdeal.nD) → Buf (Elt Ideal) ((c.tc : Thread Cert.KernelMlpIdeal.nD Cert.KernelMlpIdeal.τ).loc Cert.KernelMlpIdeal.main_v16_0)) (v1 : (c : Dev Cert.KernelMlpIdeal.nD) → Buf (Elt Ideal) ((c.tc : Thread Cert.KernelMlpIdeal.nD Cert.KernelMlpIdeal.τ).loc Cert.KernelMlpIdeal.main_v16_1)) (v2 : (c : Dev Cert.KernelMlpIdeal.nD) → Buf (Elt Ideal) ((c.tc : Thread Cert.KernelMlpIdeal.nD Cert.KernelMlpIdeal.τ).loc Cert.KernelMlpIdeal.main_v16_2)) (v3 : (c : Dev Cert.KernelMlpIdeal.nD) → Buf (Elt Ideal) ((c.tc : Thread Cert.KernelMlpIdeal.nD Cert.KernelMlpIdeal.τ).loc Cert.KernelMlpIdeal.main_v16_3)) (v4 : (c : Dev Cert.KernelMlpIdeal.nD) → Buf (Elt Ideal) ((c.tc : Thread Cert.KernelMlpIdeal.nD Cert.KernelMlpIdeal.τ).loc Cert.KernelMlpIdeal.main_v16_4)) (v5 : (c : Dev Cert.KernelMlpIdeal.nD) → Buf (Elt Ideal) ((c.tc : Thread Cert.KernelMlpIdeal.nD Cert.KernelMlpIdeal.τ).loc Cert.KernelMlpIdeal.main_v16_5)) (v6 : (c : Dev Cert.KernelMlpIdeal.nD) → Buf (Elt Ideal) ((c.tc : Thread Cert.KernelMlpIdeal.nD Cert.KernelMlpIdeal.τ).loc Cert.KernelMlpIdeal.main_v16_6)) (v7 : (c : Dev Cert.KernelMlpIdeal.nD) → Buf (Elt Ideal) ((c.tc : Thread Cert.KernelMlpIdeal.nD Cert.KernelMlpIdeal.τ).loc Cert.KernelMlpIdeal.main_v16_7)) (v8 : (c : Dev Cert.KernelMlpIdeal.nD) → Buf (Elt Ideal) ((c.tc : Thread Cert.KernelMlpIdeal.nD Cert.KernelMlpIdeal.τ).loc Cert.KernelMlpIdeal.main_v16_8)),
      θ_run (Cert.KernelMlpIdeal.defs (F := Ideal)) (onTc (τ := Cert.KernelMlpIdeal.τ) (Cert.KernelMlpIdeal.main (F := Ideal))) ⟨m, fun _ => 0, g⟩ (fun r => ∀ c : Dev Cert.KernelMlpIdeal.nD,
          r.2.mem ((c.tc : Thread Cert.KernelMlpIdeal.nD Cert.KernelMlpIdeal.τ).loc Cert.KernelMlpIdeal.main_v16_0) = v0 c
          ∧ r.2.mem ((c.tc : Thread Cert.KernelMlpIdeal.nD Cert.KernelMlpIdeal.τ).loc Cert.KernelMlpIdeal.main_v16_1) = v1 c
          ∧ r.2.mem ((c.tc : Thread Cert.KernelMlpIdeal.nD Cert.KernelMlpIdeal.τ).loc Cert.KernelMlpIdeal.main_v16_2) = v2 c
          ∧ r.2.mem ((c.tc : Thread Cert.KernelMlpIdeal.nD Cert.KernelMlpIdeal.τ).loc Cert.KernelMlpIdeal.main_v16_3) = v3 c
          ∧ r.2.mem ((c.tc : Thread Cert.KernelMlpIdeal.nD Cert.KernelMlpIdeal.τ).loc Cert.KernelMlpIdeal.main_v16_4) = v4 c
          ∧ r.2.mem ((c.tc : Thread Cert.KernelMlpIdeal.nD Cert.KernelMlpIdeal.τ).loc Cert.KernelMlpIdeal.main_v16_5) = v5 c
          ∧ r.2.mem ((c.tc : Thread Cert.KernelMlpIdeal.nD Cert.KernelMlpIdeal.τ).loc Cert.KernelMlpIdeal.main_v16_6) = v6 c
          ∧ r.2.mem ((c.tc : Thread Cert.KernelMlpIdeal.nD Cert.KernelMlpIdeal.τ).loc Cert.KernelMlpIdeal.main_v16_7) = v7 c
          ∧ r.2.mem ((c.tc : Thread Cert.KernelMlpIdeal.nD Cert.KernelMlpIdeal.τ).loc Cert.KernelMlpIdeal.main_v16_8) = v8 c
          ∧ r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
          ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
          ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
          ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
          ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4)
          ∧ r.2.mem ((c.tc : Thread Cert.KernelMlpIdeal.nD Cert.KernelMlpIdeal.τ).loc Cert.KernelMlpIdeal.main_arg5) = m ((c.tc : Thread Cert.KernelMlpIdeal.nD Cert.KernelMlpIdeal.τ).loc Cert.KernelMlpIdeal.main_arg5)
          ∧ r.2.mem ((c.tc : Thread Cert.KernelMlpIdeal.nD Cert.KernelMlpIdeal.τ).loc Cert.KernelMlpIdeal.main_arg6) = m ((c.tc : Thread Cert.KernelMlpIdeal.nD Cert.KernelMlpIdeal.τ).loc Cert.KernelMlpIdeal.main_arg6)
          ∧ r.2.mem ((c.tc : Thread Cert.KernelMlpIdeal.nD Cert.KernelMlpIdeal.τ).loc Cert.KernelMlpIdeal.main_arg7) = m ((c.tc : Thread Cert.KernelMlpIdeal.nD Cert.KernelMlpIdeal.τ).loc Cert.KernelMlpIdeal.main_arg7)
          ∧ r.2.mem ((c.tc : Thread Cert.KernelMlpIdeal.nD Cert.KernelMlpIdeal.τ).loc Cert.KernelMlpIdeal.main_arg8) = m ((c.tc : Thread Cert.KernelMlpIdeal.nD Cert.KernelMlpIdeal.τ).loc Cert.KernelMlpIdeal.main_arg8))
      ∧ θ_run (Cert.ReferenceMlpIdeal.defs (F := Ideal)) (onTc (τ := Cert.ReferenceMlpIdeal.τ) (Cert.ReferenceMlpIdeal.main (F := Ideal))) ⟨m', fun _ => 0, g'⟩ (fun r => ∀ c : Dev Cert.ReferenceMlpIdeal.nD,
          r.2.mem ((c.tc : Thread Cert.ReferenceMlpIdeal.nD Cert.ReferenceMlpIdeal.τ).loc Cert.ReferenceMlpIdeal.main_v161) = v0 c
          ∧ r.2.mem ((c.tc : Thread Cert.ReferenceMlpIdeal.nD Cert.ReferenceMlpIdeal.τ).loc Cert.ReferenceMlpIdeal.main_v163) = v1 c
          ∧ r.2.mem ((c.tc : Thread Cert.ReferenceMlpIdeal.nD Cert.ReferenceMlpIdeal.τ).loc Cert.ReferenceMlpIdeal.main_v164) = v2 c
          ∧ r.2.mem ((c.tc : Thread Cert.ReferenceMlpIdeal.nD Cert.ReferenceMlpIdeal.τ).loc Cert.ReferenceMlpIdeal.main_v166) = v3 c
          ∧ r.2.mem ((c.tc : Thread Cert.ReferenceMlpIdeal.nD Cert.ReferenceMlpIdeal.τ).loc Cert.ReferenceMlpIdeal.main_v168) = v4 c
          ∧ r.2.mem ((c.tc : Thread Cert.ReferenceMlpIdeal.nD Cert.ReferenceMlpIdeal.τ).loc Cert.ReferenceMlpIdeal.main_v170) = v5 c
          ∧ r.2.mem ((c.tc : Thread Cert.ReferenceMlpIdeal.nD Cert.ReferenceMlpIdeal.τ).loc Cert.ReferenceMlpIdeal.main_v172) = v6 c
          ∧ r.2.mem ((c.tc : Thread Cert.ReferenceMlpIdeal.nD Cert.ReferenceMlpIdeal.τ).loc Cert.ReferenceMlpIdeal.main_v155) = v7 c
          ∧ r.2.mem ((c.tc : Thread Cert.ReferenceMlpIdeal.nD Cert.ReferenceMlpIdeal.τ).loc Cert.ReferenceMlpIdeal.main_v159) = v8 c
          ∧ r.2.mem ((c.tc : Thread Cert.ReferenceMlpIdeal.nD Cert.ReferenceMlpIdeal.τ).loc Cert.ReferenceMlpIdeal.main_arg0) = m' ((c.tc : Thread Cert.ReferenceMlpIdeal.nD Cert.ReferenceMlpIdeal.τ).loc Cert.ReferenceMlpIdeal.main_arg0)
          ∧ r.2.mem ((c.tc : Thread Cert.ReferenceMlpIdeal.nD Cert.ReferenceMlpIdeal.τ).loc Cert.ReferenceMlpIdeal.main_arg1) = m' ((c.tc : Thread Cert.ReferenceMlpIdeal.nD Cert.ReferenceMlpIdeal.τ).loc Cert.ReferenceMlpIdeal.main_arg1)
          ∧ r.2.mem ((c.tc : Thread Cert.ReferenceMlpIdeal.nD Cert.ReferenceMlpIdeal.τ).loc Cert.ReferenceMlpIdeal.main_arg2) = m' ((c.tc : Thread Cert.ReferenceMlpIdeal.nD Cert.ReferenceMlpIdeal.τ).loc Cert.ReferenceMlpIdeal.main_arg2)
          ∧ r.2.mem ((c.tc : Thread Cert.ReferenceMlpIdeal.nD Cert.ReferenceMlpIdeal.τ).loc Cert.ReferenceMlpIdeal.main_arg3) = m' ((c.tc : Thread Cert.ReferenceMlpIdeal.nD Cert.ReferenceMlpIdeal.τ).loc Cert.ReferenceMlpIdeal.main_arg3)
          ∧ r.2.mem ((c.tc : Thread Cert.ReferenceMlpIdeal.nD Cert.ReferenceMlpIdeal.τ).loc Cert.ReferenceMlpIdeal.main_arg4) = m' ((c.tc : Thread Cert.ReferenceMlpIdeal.nD Cert.ReferenceMlpIdeal.τ).loc Cert.ReferenceMlpIdeal.main_arg4)
          ∧ r.2.mem ((c.tc : Thread Cert.ReferenceMlpIdeal.nD Cert.ReferenceMlpIdeal.τ).loc Cert.ReferenceMlpIdeal.main_arg5) = m' ((c.tc : Thread Cert.ReferenceMlpIdeal.nD Cert.ReferenceMlpIdeal.τ).loc Cert.ReferenceMlpIdeal.main_arg5)
          ∧ r.2.mem ((c.tc : Thread Cert.ReferenceMlpIdeal.nD Cert.ReferenceMlpIdeal.τ).loc Cert.ReferenceMlpIdeal.main_arg6) = m' ((c.tc : Thread Cert.ReferenceMlpIdeal.nD Cert.ReferenceMlpIdeal.τ).loc Cert.ReferenceMlpIdeal.main_arg6)
          ∧ r.2.mem ((c.tc : Thread Cert.ReferenceMlpIdeal.nD Cert.ReferenceMlpIdeal.τ).loc Cert.ReferenceMlpIdeal.main_arg7) = m' ((c.tc : Thread Cert.ReferenceMlpIdeal.nD Cert.ReferenceMlpIdeal.τ).loc Cert.ReferenceMlpIdeal.main_arg7)
          ∧ r.2.mem ((c.tc : Thread Cert.ReferenceMlpIdeal.nD Cert.ReferenceMlpIdeal.τ).loc Cert.ReferenceMlpIdeal.main_arg8) = m' ((c.tc : Thread Cert.ReferenceMlpIdeal.nD Cert.ReferenceMlpIdeal.τ).loc Cert.ReferenceMlpIdeal.main_arg8))

def preserves_KernelAda_KernelAdaIdeal : Prop :=
  True

def algebraic_KernelAdaIdeal_ReferenceAdaIdeal [hKernelAdaIdeal : Cert.KernelAdaIdeal.Facts] [hReferenceAdaIdeal : Cert.ReferenceAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg)
    (m' : (ℓ : Loc Cert.ReferenceAdaIdeal.nD Cert.ReferenceAdaIdeal.τ Cert.ReferenceAdaIdeal.sig) → Buf (Elt Ideal) ℓ) (g' : Dev Cert.ReferenceAdaIdeal.nD → PrngReg), Pre_KernelAdaIdeal m →
    (∀ c : Dev Cert.KernelAdaIdeal.nD,
      m' ((c.tc : Thread Cert.ReferenceAdaIdeal.nD Cert.ReferenceAdaIdeal.τ).loc Cert.ReferenceAdaIdeal.main_arg0) = m ((c.tc : Thread Cert.KernelAdaIdeal.nD Cert.KernelAdaIdeal.τ).loc Cert.KernelAdaIdeal.main_arg0)
      ∧ m' ((c.tc : Thread Cert.ReferenceAdaIdeal.nD Cert.ReferenceAdaIdeal.τ).loc Cert.ReferenceAdaIdeal.main_arg1) = m ((c.tc : Thread Cert.KernelAdaIdeal.nD Cert.KernelAdaIdeal.τ).loc Cert.KernelAdaIdeal.main_arg1)
      ∧ m' ((c.tc : Thread Cert.ReferenceAdaIdeal.nD Cert.ReferenceAdaIdeal.τ).loc Cert.ReferenceAdaIdeal.main_arg2) = m ((c.tc : Thread Cert.KernelAdaIdeal.nD Cert.KernelAdaIdeal.τ).loc Cert.KernelAdaIdeal.main_arg2)
      ∧ m' ((c.tc : Thread Cert.ReferenceAdaIdeal.nD Cert.ReferenceAdaIdeal.τ).loc Cert.ReferenceAdaIdeal.main_arg3) = m ((c.tc : Thread Cert.KernelAdaIdeal.nD Cert.KernelAdaIdeal.τ).loc Cert.KernelAdaIdeal.main_arg3)
      ∧ m' ((c.tc : Thread Cert.ReferenceAdaIdeal.nD Cert.ReferenceAdaIdeal.τ).loc Cert.ReferenceAdaIdeal.main_arg4) = m ((c.tc : Thread Cert.KernelAdaIdeal.nD Cert.KernelAdaIdeal.τ).loc Cert.KernelAdaIdeal.main_arg4)) →
    ∃ (v0 : (c : Dev Cert.KernelAdaIdeal.nD) → Buf (Elt Ideal) ((c.tc : Thread Cert.KernelAdaIdeal.nD Cert.KernelAdaIdeal.τ).loc Cert.KernelAdaIdeal.main_v3_0)) (v1 : (c : Dev Cert.KernelAdaIdeal.nD) → Buf (Elt Ideal) ((c.tc : Thread Cert.KernelAdaIdeal.nD Cert.KernelAdaIdeal.τ).loc Cert.KernelAdaIdeal.main_v3_1)) (v2 : (c : Dev Cert.KernelAdaIdeal.nD) → Buf (Elt Ideal) ((c.tc : Thread Cert.KernelAdaIdeal.nD Cert.KernelAdaIdeal.τ).loc Cert.KernelAdaIdeal.main_v3_2)) (v3 : (c : Dev Cert.KernelAdaIdeal.nD) → Buf (Elt Ideal) ((c.tc : Thread Cert.KernelAdaIdeal.nD Cert.KernelAdaIdeal.τ).loc Cert.KernelAdaIdeal.main_v3_3)),
      θ_run (Cert.KernelAdaIdeal.defs (F := Ideal)) (onTc (τ := Cert.KernelAdaIdeal.τ) (Cert.KernelAdaIdeal.main (F := Ideal))) ⟨m, fun _ => 0, g⟩ (fun r => ∀ c : Dev Cert.KernelAdaIdeal.nD,
          r.2.mem ((c.tc : Thread Cert.KernelAdaIdeal.nD Cert.KernelAdaIdeal.τ).loc Cert.KernelAdaIdeal.main_v3_0) = v0 c
          ∧ r.2.mem ((c.tc : Thread Cert.KernelAdaIdeal.nD Cert.KernelAdaIdeal.τ).loc Cert.KernelAdaIdeal.main_v3_1) = v1 c
          ∧ r.2.mem ((c.tc : Thread Cert.KernelAdaIdeal.nD Cert.KernelAdaIdeal.τ).loc Cert.KernelAdaIdeal.main_v3_2) = v2 c
          ∧ r.2.mem ((c.tc : Thread Cert.KernelAdaIdeal.nD Cert.KernelAdaIdeal.τ).loc Cert.KernelAdaIdeal.main_v3_3) = v3 c
          ∧ r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
          ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
          ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2)
          ∧ r.2.mem ((c.tc : Thread Cert.KernelAdaIdeal.nD Cert.KernelAdaIdeal.τ).loc Cert.KernelAdaIdeal.main_arg3) = m ((c.tc : Thread Cert.KernelAdaIdeal.nD Cert.KernelAdaIdeal.τ).loc Cert.KernelAdaIdeal.main_arg3)
          ∧ r.2.mem ((c.tc : Thread Cert.KernelAdaIdeal.nD Cert.KernelAdaIdeal.τ).loc Cert.KernelAdaIdeal.main_arg4) = m ((c.tc : Thread Cert.KernelAdaIdeal.nD Cert.KernelAdaIdeal.τ).loc Cert.KernelAdaIdeal.main_arg4))
      ∧ θ_run (Cert.ReferenceAdaIdeal.defs (F := Ideal)) (onTc (τ := Cert.ReferenceAdaIdeal.τ) (Cert.ReferenceAdaIdeal.main (F := Ideal))) ⟨m', fun _ => 0, g'⟩ (fun r => ∀ c : Dev Cert.ReferenceAdaIdeal.nD,
          r.2.mem ((c.tc : Thread Cert.ReferenceAdaIdeal.nD Cert.ReferenceAdaIdeal.τ).loc Cert.ReferenceAdaIdeal.main_v30) = v0 c
          ∧ r.2.mem ((c.tc : Thread Cert.ReferenceAdaIdeal.nD Cert.ReferenceAdaIdeal.τ).loc Cert.ReferenceAdaIdeal.main_v31) = v1 c
          ∧ r.2.mem ((c.tc : Thread Cert.ReferenceAdaIdeal.nD Cert.ReferenceAdaIdeal.τ).loc Cert.ReferenceAdaIdeal.main_v32) = v2 c
          ∧ r.2.mem ((c.tc : Thread Cert.ReferenceAdaIdeal.nD Cert.ReferenceAdaIdeal.τ).loc Cert.ReferenceAdaIdeal.main_v33) = v3 c
          ∧ r.2.mem ((c.tc : Thread Cert.ReferenceAdaIdeal.nD Cert.ReferenceAdaIdeal.τ).loc Cert.ReferenceAdaIdeal.main_arg0) = m' ((c.tc : Thread Cert.ReferenceAdaIdeal.nD Cert.ReferenceAdaIdeal.τ).loc Cert.ReferenceAdaIdeal.main_arg0)
          ∧ r.2.mem ((c.tc : Thread Cert.ReferenceAdaIdeal.nD Cert.ReferenceAdaIdeal.τ).loc Cert.ReferenceAdaIdeal.main_arg1) = m' ((c.tc : Thread Cert.ReferenceAdaIdeal.nD Cert.ReferenceAdaIdeal.τ).loc Cert.ReferenceAdaIdeal.main_arg1)
          ∧ r.2.mem ((c.tc : Thread Cert.ReferenceAdaIdeal.nD Cert.ReferenceAdaIdeal.τ).loc Cert.ReferenceAdaIdeal.main_arg2) = m' ((c.tc : Thread Cert.ReferenceAdaIdeal.nD Cert.ReferenceAdaIdeal.τ).loc Cert.ReferenceAdaIdeal.main_arg2)
          ∧ r.2.mem ((c.tc : Thread Cert.ReferenceAdaIdeal.nD Cert.ReferenceAdaIdeal.τ).loc Cert.ReferenceAdaIdeal.main_arg3) = m' ((c.tc : Thread Cert.ReferenceAdaIdeal.nD Cert.ReferenceAdaIdeal.τ).loc Cert.ReferenceAdaIdeal.main_arg3)
          ∧ r.2.mem ((c.tc : Thread Cert.ReferenceAdaIdeal.nD Cert.ReferenceAdaIdeal.τ).loc Cert.ReferenceAdaIdeal.main_arg4) = m' ((c.tc : Thread Cert.ReferenceAdaIdeal.nD Cert.ReferenceAdaIdeal.τ).loc Cert.ReferenceAdaIdeal.main_arg4))

def preserves_KernelFwd_KernelFwdIdeal : Prop :=
  True

def algebraic_KernelFwdIdeal_ReferenceFwdIdeal_pre_finite_fwd [hKernelFwdIdeal : Cert.KernelFwdIdeal.Facts] [hReferenceFwdIdeal : Cert.ReferenceFwdIdeal.Facts] [hPre_finite_fwd : Cert.Pre_finite_fwd.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal_finite_fwd m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)
      ∧ m' ((c.tc : Thread Cert.ReferenceFwdIdeal.nD Cert.ReferenceFwdIdeal.τ).loc Cert.ReferenceFwdIdeal.main_arg2) = m ((c.tc : Thread Cert.KernelFwdIdeal.nD Cert.KernelFwdIdeal.τ).loc Cert.KernelFwdIdeal.main_arg2)
      ∧ m' ((c.tc : Thread Cert.ReferenceFwdIdeal.nD Cert.ReferenceFwdIdeal.τ).loc Cert.ReferenceFwdIdeal.main_arg3) = m ((c.tc : Thread Cert.KernelFwdIdeal.nD Cert.KernelFwdIdeal.τ).loc Cert.KernelFwdIdeal.main_arg3)
      ∧ m' ((c.tc : Thread Cert.ReferenceFwdIdeal.nD Cert.ReferenceFwdIdeal.τ).loc Cert.ReferenceFwdIdeal.main_arg4) = m ((c.tc : Thread Cert.KernelFwdIdeal.nD Cert.KernelFwdIdeal.τ).loc Cert.KernelFwdIdeal.main_arg4)
      ∧ m' ((c.tc : Thread Cert.ReferenceFwdIdeal.nD Cert.ReferenceFwdIdeal.τ).loc Cert.ReferenceFwdIdeal.main_arg5) = m ((c.tc : Thread Cert.KernelFwdIdeal.nD Cert.KernelFwdIdeal.τ).loc Cert.KernelFwdIdeal.main_arg5)
      ∧ m' ((c.tc : Thread Cert.ReferenceFwdIdeal.nD Cert.ReferenceFwdIdeal.τ).loc Cert.ReferenceFwdIdeal.main_arg6) = m ((c.tc : Thread Cert.KernelFwdIdeal.nD Cert.KernelFwdIdeal.τ).loc Cert.KernelFwdIdeal.main_arg6)
      ∧ m' ((c.tc : Thread Cert.ReferenceFwdIdeal.nD Cert.ReferenceFwdIdeal.τ).loc Cert.ReferenceFwdIdeal.main_arg7) = m ((c.tc : Thread Cert.KernelFwdIdeal.nD Cert.KernelFwdIdeal.τ).loc Cert.KernelFwdIdeal.main_arg7)
      ∧ m' ((c.tc : Thread Cert.ReferenceFwdIdeal.nD Cert.ReferenceFwdIdeal.τ).loc Cert.ReferenceFwdIdeal.main_arg8) = m ((c.tc : Thread Cert.KernelFwdIdeal.nD Cert.KernelFwdIdeal.τ).loc Cert.KernelFwdIdeal.main_arg8)) →
    ∃ (v0 : (c : Dev Cert.KernelFwdIdeal.nD) → Buf (Elt Ideal) ((c.tc : Thread Cert.KernelFwdIdeal.nD Cert.KernelFwdIdeal.τ).loc Cert.KernelFwdIdeal.main_v6_0)) (v1 : (c : Dev Cert.KernelFwdIdeal.nD) → Buf (Elt Ideal) ((c.tc : Thread Cert.KernelFwdIdeal.nD Cert.KernelFwdIdeal.τ).loc Cert.KernelFwdIdeal.main_v6_1)) (v2 : (c : Dev Cert.KernelFwdIdeal.nD) → Buf (Elt Ideal) ((c.tc : Thread Cert.KernelFwdIdeal.nD Cert.KernelFwdIdeal.τ).loc Cert.KernelFwdIdeal.main_v6_2)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v6_0) = v0 c
          ∧ r.2.mem ((c.tc : Thread Cert.KernelFwdIdeal.nD Cert.KernelFwdIdeal.τ).loc Cert.KernelFwdIdeal.main_v6_1) = v1 c
          ∧ r.2.mem ((c.tc : Thread Cert.KernelFwdIdeal.nD Cert.KernelFwdIdeal.τ).loc Cert.KernelFwdIdeal.main_v6_2) = v2 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
          ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
          ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
          ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4)
          ∧ r.2.mem ((c.tc : Thread Cert.KernelFwdIdeal.nD Cert.KernelFwdIdeal.τ).loc Cert.KernelFwdIdeal.main_arg5) = m ((c.tc : Thread Cert.KernelFwdIdeal.nD Cert.KernelFwdIdeal.τ).loc Cert.KernelFwdIdeal.main_arg5)
          ∧ r.2.mem ((c.tc : Thread Cert.KernelFwdIdeal.nD Cert.KernelFwdIdeal.τ).loc Cert.KernelFwdIdeal.main_arg6) = m ((c.tc : Thread Cert.KernelFwdIdeal.nD Cert.KernelFwdIdeal.τ).loc Cert.KernelFwdIdeal.main_arg6)
          ∧ r.2.mem ((c.tc : Thread Cert.KernelFwdIdeal.nD Cert.KernelFwdIdeal.τ).loc Cert.KernelFwdIdeal.main_arg7) = m ((c.tc : Thread Cert.KernelFwdIdeal.nD Cert.KernelFwdIdeal.τ).loc Cert.KernelFwdIdeal.main_arg7)
          ∧ r.2.mem ((c.tc : Thread Cert.KernelFwdIdeal.nD Cert.KernelFwdIdeal.τ).loc Cert.KernelFwdIdeal.main_arg8) = m ((c.tc : Thread Cert.KernelFwdIdeal.nD Cert.KernelFwdIdeal.τ).loc Cert.KernelFwdIdeal.main_arg8))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v258) = v0 c
          ∧ r.2.mem ((c.tc : Thread Cert.ReferenceFwdIdeal.nD Cert.ReferenceFwdIdeal.τ).loc Cert.ReferenceFwdIdeal.main_v256) = v1 c
          ∧ r.2.mem ((c.tc : Thread Cert.ReferenceFwdIdeal.nD Cert.ReferenceFwdIdeal.τ).loc Cert.ReferenceFwdIdeal.main_v259) = v2 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2)
          ∧ r.2.mem ((c.tc : Thread Cert.ReferenceFwdIdeal.nD Cert.ReferenceFwdIdeal.τ).loc Cert.ReferenceFwdIdeal.main_arg3) = m' ((c.tc : Thread Cert.ReferenceFwdIdeal.nD Cert.ReferenceFwdIdeal.τ).loc Cert.ReferenceFwdIdeal.main_arg3)
          ∧ r.2.mem ((c.tc : Thread Cert.ReferenceFwdIdeal.nD Cert.ReferenceFwdIdeal.τ).loc Cert.ReferenceFwdIdeal.main_arg4) = m' ((c.tc : Thread Cert.ReferenceFwdIdeal.nD Cert.ReferenceFwdIdeal.τ).loc Cert.ReferenceFwdIdeal.main_arg4)
          ∧ r.2.mem ((c.tc : Thread Cert.ReferenceFwdIdeal.nD Cert.ReferenceFwdIdeal.τ).loc Cert.ReferenceFwdIdeal.main_arg5) = m' ((c.tc : Thread Cert.ReferenceFwdIdeal.nD Cert.ReferenceFwdIdeal.τ).loc Cert.ReferenceFwdIdeal.main_arg5)
          ∧ r.2.mem ((c.tc : Thread Cert.ReferenceFwdIdeal.nD Cert.ReferenceFwdIdeal.τ).loc Cert.ReferenceFwdIdeal.main_arg6) = m' ((c.tc : Thread Cert.ReferenceFwdIdeal.nD Cert.ReferenceFwdIdeal.τ).loc Cert.ReferenceFwdIdeal.main_arg6)
          ∧ r.2.mem ((c.tc : Thread Cert.ReferenceFwdIdeal.nD Cert.ReferenceFwdIdeal.τ).loc Cert.ReferenceFwdIdeal.main_arg7) = m' ((c.tc : Thread Cert.ReferenceFwdIdeal.nD Cert.ReferenceFwdIdeal.τ).loc Cert.ReferenceFwdIdeal.main_arg7)
          ∧ r.2.mem ((c.tc : Thread Cert.ReferenceFwdIdeal.nD Cert.ReferenceFwdIdeal.τ).loc Cert.ReferenceFwdIdeal.main_arg8) = m' ((c.tc : Thread Cert.ReferenceFwdIdeal.nD Cert.ReferenceFwdIdeal.τ).loc Cert.ReferenceFwdIdeal.main_arg8))

def preserves_KernelPre_KernelPreIdeal : Prop :=
  True

def algebraic_KernelPreIdeal_ReferencePreIdeal [hKernelPreIdeal : Cert.KernelPreIdeal.Facts] [hReferencePreIdeal : Cert.ReferencePreIdeal.Facts] : Prop :=
  ∀ (m : (ℓ : Loc Cert.KernelPreIdeal.nD Cert.KernelPreIdeal.τ Cert.KernelPreIdeal.sig) → Buf (Elt Ideal) ℓ) (g : Dev Cert.KernelPreIdeal.nD → PrngReg)
    (m' : (ℓ : Loc Cert.ReferencePreIdeal.nD Cert.ReferencePreIdeal.τ Cert.ReferencePreIdeal.sig) → Buf (Elt Ideal) ℓ) (g' : Dev Cert.ReferencePreIdeal.nD → PrngReg), Pre_KernelPreIdeal m →
    (∀ c : Dev Cert.KernelPreIdeal.nD,
      m' ((c.tc : Thread Cert.ReferencePreIdeal.nD Cert.ReferencePreIdeal.τ).loc Cert.ReferencePreIdeal.main_arg0) = m ((c.tc : Thread Cert.KernelPreIdeal.nD Cert.KernelPreIdeal.τ).loc Cert.KernelPreIdeal.main_arg0)
      ∧ m' ((c.tc : Thread Cert.ReferencePreIdeal.nD Cert.ReferencePreIdeal.τ).loc Cert.ReferencePreIdeal.main_arg1) = m ((c.tc : Thread Cert.KernelPreIdeal.nD Cert.KernelPreIdeal.τ).loc Cert.KernelPreIdeal.main_arg1)
      ∧ m' ((c.tc : Thread Cert.ReferencePreIdeal.nD Cert.ReferencePreIdeal.τ).loc Cert.ReferencePreIdeal.main_arg2) = m ((c.tc : Thread Cert.KernelPreIdeal.nD Cert.KernelPreIdeal.τ).loc Cert.KernelPreIdeal.main_arg2)
      ∧ m' ((c.tc : Thread Cert.ReferencePreIdeal.nD Cert.ReferencePreIdeal.τ).loc Cert.ReferencePreIdeal.main_arg3) = m ((c.tc : Thread Cert.KernelPreIdeal.nD Cert.KernelPreIdeal.τ).loc Cert.KernelPreIdeal.main_arg3)) →
    ∃ (v0 : (c : Dev Cert.KernelPreIdeal.nD) → Buf (Elt Ideal) ((c.tc : Thread Cert.KernelPreIdeal.nD Cert.KernelPreIdeal.τ).loc Cert.KernelPreIdeal.main_v8_0)) (v1 : (c : Dev Cert.KernelPreIdeal.nD) → Buf (Elt Ideal) ((c.tc : Thread Cert.KernelPreIdeal.nD Cert.KernelPreIdeal.τ).loc Cert.KernelPreIdeal.main_v8_1)) (v2 : (c : Dev Cert.KernelPreIdeal.nD) → Buf (Elt Ideal) ((c.tc : Thread Cert.KernelPreIdeal.nD Cert.KernelPreIdeal.τ).loc Cert.KernelPreIdeal.main_v8_2)),
      θ_run (Cert.KernelPreIdeal.defs (F := Ideal)) (onTc (τ := Cert.KernelPreIdeal.τ) (Cert.KernelPreIdeal.main (F := Ideal))) ⟨m, fun _ => 0, g⟩ (fun r => ∀ c : Dev Cert.KernelPreIdeal.nD,
          r.2.mem ((c.tc : Thread Cert.KernelPreIdeal.nD Cert.KernelPreIdeal.τ).loc Cert.KernelPreIdeal.main_v8_0) = v0 c
          ∧ r.2.mem ((c.tc : Thread Cert.KernelPreIdeal.nD Cert.KernelPreIdeal.τ).loc Cert.KernelPreIdeal.main_v8_1) = v1 c
          ∧ r.2.mem ((c.tc : Thread Cert.KernelPreIdeal.nD Cert.KernelPreIdeal.τ).loc Cert.KernelPreIdeal.main_v8_2) = v2 c
          ∧ r.2.mem ((c.tc : Thread Cert.KernelPreIdeal.nD Cert.KernelPreIdeal.τ).loc Cert.KernelPreIdeal.main_arg0) = m ((c.tc : Thread Cert.KernelPreIdeal.nD Cert.KernelPreIdeal.τ).loc Cert.KernelPreIdeal.main_arg0)
          ∧ r.2.mem ((c.tc : Thread Cert.KernelPreIdeal.nD Cert.KernelPreIdeal.τ).loc Cert.KernelPreIdeal.main_arg1) = m ((c.tc : Thread Cert.KernelPreIdeal.nD Cert.KernelPreIdeal.τ).loc Cert.KernelPreIdeal.main_arg1)
          ∧ r.2.mem ((c.tc : Thread Cert.KernelPreIdeal.nD Cert.KernelPreIdeal.τ).loc Cert.KernelPreIdeal.main_arg2) = m ((c.tc : Thread Cert.KernelPreIdeal.nD Cert.KernelPreIdeal.τ).loc Cert.KernelPreIdeal.main_arg2)
          ∧ r.2.mem ((c.tc : Thread Cert.KernelPreIdeal.nD Cert.KernelPreIdeal.τ).loc Cert.KernelPreIdeal.main_arg3) = m ((c.tc : Thread Cert.KernelPreIdeal.nD Cert.KernelPreIdeal.τ).loc Cert.KernelPreIdeal.main_arg3))
      ∧ θ_run (Cert.ReferencePreIdeal.defs (F := Ideal)) (onTc (τ := Cert.ReferencePreIdeal.τ) (Cert.ReferencePreIdeal.main (F := Ideal))) ⟨m', fun _ => 0, g'⟩ (fun r => ∀ c : Dev Cert.ReferencePreIdeal.nD,
          r.2.mem ((c.tc : Thread Cert.ReferencePreIdeal.nD Cert.ReferencePreIdeal.τ).loc Cert.ReferencePreIdeal.main_v34) = v0 c
          ∧ r.2.mem ((c.tc : Thread Cert.ReferencePreIdeal.nD Cert.ReferencePreIdeal.τ).loc Cert.ReferencePreIdeal.main_v30) = v1 c
          ∧ r.2.mem ((c.tc : Thread Cert.ReferencePreIdeal.nD Cert.ReferencePreIdeal.τ).loc Cert.ReferencePreIdeal.main_v35) = v2 c
          ∧ r.2.mem ((c.tc : Thread Cert.ReferencePreIdeal.nD Cert.ReferencePreIdeal.τ).loc Cert.ReferencePreIdeal.main_arg0) = m' ((c.tc : Thread Cert.ReferencePreIdeal.nD Cert.ReferencePreIdeal.τ).loc Cert.ReferencePreIdeal.main_arg0)
          ∧ r.2.mem ((c.tc : Thread Cert.ReferencePreIdeal.nD Cert.ReferencePreIdeal.τ).loc Cert.ReferencePreIdeal.main_arg1) = m' ((c.tc : Thread Cert.ReferencePreIdeal.nD Cert.ReferencePreIdeal.τ).loc Cert.ReferencePreIdeal.main_arg1)
          ∧ r.2.mem ((c.tc : Thread Cert.ReferencePreIdeal.nD Cert.ReferencePreIdeal.τ).loc Cert.ReferencePreIdeal.main_arg2) = m' ((c.tc : Thread Cert.ReferencePreIdeal.nD Cert.ReferencePreIdeal.τ).loc Cert.ReferencePreIdeal.main_arg2)
          ∧ r.2.mem ((c.tc : Thread Cert.ReferencePreIdeal.nD Cert.ReferencePreIdeal.τ).loc Cert.ReferencePreIdeal.main_arg3) = m' ((c.tc : Thread Cert.ReferencePreIdeal.nD Cert.ReferencePreIdeal.τ).loc Cert.ReferencePreIdeal.main_arg3))

def preserves_KernelMod_KernelModIdeal : Prop :=
  True

def algebraic_KernelModIdeal_ReferenceModIdeal [hKernelModIdeal : Cert.KernelModIdeal.Facts] [hReferenceModIdeal : Cert.ReferenceModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg)
    (m' : (ℓ : Loc Cert.ReferenceModIdeal.nD Cert.ReferenceModIdeal.τ Cert.ReferenceModIdeal.sig) → Buf (Elt Ideal) ℓ) (g' : Dev Cert.ReferenceModIdeal.nD → PrngReg), Pre_KernelModIdeal m →
    (∀ c : Dev Cert.KernelModIdeal.nD,
      m' ((c.tc : Thread Cert.ReferenceModIdeal.nD Cert.ReferenceModIdeal.τ).loc Cert.ReferenceModIdeal.main_arg0) = m ((c.tc : Thread Cert.KernelModIdeal.nD Cert.KernelModIdeal.τ).loc Cert.KernelModIdeal.main_arg0)
      ∧ m' ((c.tc : Thread Cert.ReferenceModIdeal.nD Cert.ReferenceModIdeal.τ).loc Cert.ReferenceModIdeal.main_arg1) = m ((c.tc : Thread Cert.KernelModIdeal.nD Cert.KernelModIdeal.τ).loc Cert.KernelModIdeal.main_arg1)
      ∧ m' ((c.tc : Thread Cert.ReferenceModIdeal.nD Cert.ReferenceModIdeal.τ).loc Cert.ReferenceModIdeal.main_arg2) = m ((c.tc : Thread Cert.KernelModIdeal.nD Cert.KernelModIdeal.τ).loc Cert.KernelModIdeal.main_arg2)) →
    ∃ (v0 : (c : Dev Cert.KernelModIdeal.nD) → Buf (Elt Ideal) ((c.tc : Thread Cert.KernelModIdeal.nD Cert.KernelModIdeal.τ).loc Cert.KernelModIdeal.main_v1)),
      θ_run (Cert.KernelModIdeal.defs (F := Ideal)) (onTc (τ := Cert.KernelModIdeal.τ) (Cert.KernelModIdeal.main (F := Ideal))) ⟨m, fun _ => 0, g⟩ (fun r => ∀ c : Dev Cert.KernelModIdeal.nD,
          r.2.mem ((c.tc : Thread Cert.KernelModIdeal.nD Cert.KernelModIdeal.τ).loc Cert.KernelModIdeal.main_v1) = v0 c
          ∧ r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
          ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
          ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2))
      ∧ θ_run (Cert.ReferenceModIdeal.defs (F := Ideal)) (onTc (τ := Cert.ReferenceModIdeal.τ) (Cert.ReferenceModIdeal.main (F := Ideal))) ⟨m', fun _ => 0, g'⟩ (fun r => ∀ c : Dev Cert.ReferenceModIdeal.nD,
          r.2.mem ((c.tc : Thread Cert.ReferenceModIdeal.nD Cert.ReferenceModIdeal.τ).loc Cert.ReferenceModIdeal.main_v6) = v0 c
          ∧ r.2.mem ((c.tc : Thread Cert.ReferenceModIdeal.nD Cert.ReferenceModIdeal.τ).loc Cert.ReferenceModIdeal.main_arg0) = m' ((c.tc : Thread Cert.ReferenceModIdeal.nD Cert.ReferenceModIdeal.τ).loc Cert.ReferenceModIdeal.main_arg0)
          ∧ r.2.mem ((c.tc : Thread Cert.ReferenceModIdeal.nD Cert.ReferenceModIdeal.τ).loc Cert.ReferenceModIdeal.main_arg1) = m' ((c.tc : Thread Cert.ReferenceModIdeal.nD Cert.ReferenceModIdeal.τ).loc Cert.ReferenceModIdeal.main_arg1)
          ∧ r.2.mem ((c.tc : Thread Cert.ReferenceModIdeal.nD Cert.ReferenceModIdeal.τ).loc Cert.ReferenceModIdeal.main_arg2) = m' ((c.tc : Thread Cert.ReferenceModIdeal.nD Cert.ReferenceModIdeal.τ).loc Cert.ReferenceModIdeal.main_arg2))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)) →
    ∃ (v0 : (c : Dev Cert.KernelUpIdeal.nD) → Buf (Elt Ideal) ((c.tc : Thread Cert.KernelUpIdeal.nD Cert.KernelUpIdeal.τ).loc Cert.KernelUpIdeal.main_v4)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v4) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v7) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2))

def preserves_KernelWin_KernelWinIdeal : Prop :=
  True

def algebraic_KernelWinIdeal_ReferenceWinIdeal [hKernelWinIdeal : Cert.KernelWinIdeal.Facts] [hReferenceWinIdeal : Cert.ReferenceWinIdeal.Facts] : Prop :=
  ∀ (m : (ℓ : Loc Cert.KernelWinIdeal.nD Cert.KernelWinIdeal.τ Cert.KernelWinIdeal.sig) → Buf (Elt Ideal) ℓ) (g : Dev Cert.KernelWinIdeal.nD → PrngReg)
    (m' : (ℓ : Loc Cert.ReferenceWinIdeal.nD Cert.ReferenceWinIdeal.τ Cert.ReferenceWinIdeal.sig) → Buf (Elt Ideal) ℓ) (g' : Dev Cert.ReferenceWinIdeal.nD → PrngReg), Pre_KernelWinIdeal m →
    (∀ c : Dev Cert.KernelWinIdeal.nD,
      m' ((c.tc : Thread Cert.ReferenceWinIdeal.nD Cert.ReferenceWinIdeal.τ).loc Cert.ReferenceWinIdeal.main_arg0) = m ((c.tc : Thread Cert.KernelWinIdeal.nD Cert.KernelWinIdeal.τ).loc Cert.KernelWinIdeal.main_arg0)
      ∧ m' ((c.tc : Thread Cert.ReferenceWinIdeal.nD Cert.ReferenceWinIdeal.τ).loc Cert.ReferenceWinIdeal.main_arg1) = m ((c.tc : Thread Cert.KernelWinIdeal.nD Cert.KernelWinIdeal.τ).loc Cert.KernelWinIdeal.main_arg1)
      ∧ m' ((c.tc : Thread Cert.ReferenceWinIdeal.nD Cert.ReferenceWinIdeal.τ).loc Cert.ReferenceWinIdeal.main_arg2) = m ((c.tc : Thread Cert.KernelWinIdeal.nD Cert.KernelWinIdeal.τ).loc Cert.KernelWinIdeal.main_arg2)) →
    ∃ (v0 : (c : Dev Cert.KernelWinIdeal.nD) → Buf (Elt Ideal) ((c.tc : Thread Cert.KernelWinIdeal.nD Cert.KernelWinIdeal.τ).loc Cert.KernelWinIdeal.main_v5)),
      θ_run (Cert.KernelWinIdeal.defs (F := Ideal)) (onTc (τ := Cert.KernelWinIdeal.τ) (Cert.KernelWinIdeal.main (F := Ideal))) ⟨m, fun _ => 0, g⟩ (fun r => ∀ c : Dev Cert.KernelWinIdeal.nD,
          r.2.mem ((c.tc : Thread Cert.KernelWinIdeal.nD Cert.KernelWinIdeal.τ).loc Cert.KernelWinIdeal.main_v5) = v0 c
          ∧ r.2.mem ((c.tc : Thread Cert.KernelWinIdeal.nD Cert.KernelWinIdeal.τ).loc Cert.KernelWinIdeal.main_arg0) = m ((c.tc : Thread Cert.KernelWinIdeal.nD Cert.KernelWinIdeal.τ).loc Cert.KernelWinIdeal.main_arg0)
          ∧ r.2.mem ((c.tc : Thread Cert.KernelWinIdeal.nD Cert.KernelWinIdeal.τ).loc Cert.KernelWinIdeal.main_arg1) = m ((c.tc : Thread Cert.KernelWinIdeal.nD Cert.KernelWinIdeal.τ).loc Cert.KernelWinIdeal.main_arg1)
          ∧ r.2.mem ((c.tc : Thread Cert.KernelWinIdeal.nD Cert.KernelWinIdeal.τ).loc Cert.KernelWinIdeal.main_arg2) = m ((c.tc : Thread Cert.KernelWinIdeal.nD Cert.KernelWinIdeal.τ).loc Cert.KernelWinIdeal.main_arg2))
      ∧ θ_run (Cert.ReferenceWinIdeal.defs (F := Ideal)) (onTc (τ := Cert.ReferenceWinIdeal.τ) (Cert.ReferenceWinIdeal.main (F := Ideal))) ⟨m', fun _ => 0, g'⟩ (fun r => ∀ c : Dev Cert.ReferenceWinIdeal.nD,
          r.2.mem ((c.tc : Thread Cert.ReferenceWinIdeal.nD Cert.ReferenceWinIdeal.τ).loc Cert.ReferenceWinIdeal.main_v7) = v0 c
          ∧ r.2.mem ((c.tc : Thread Cert.ReferenceWinIdeal.nD Cert.ReferenceWinIdeal.τ).loc Cert.ReferenceWinIdeal.main_arg0) = m' ((c.tc : Thread Cert.ReferenceWinIdeal.nD Cert.ReferenceWinIdeal.τ).loc Cert.ReferenceWinIdeal.main_arg0)
          ∧ r.2.mem ((c.tc : Thread Cert.ReferenceWinIdeal.nD Cert.ReferenceWinIdeal.τ).loc Cert.ReferenceWinIdeal.main_arg1) = m' ((c.tc : Thread Cert.ReferenceWinIdeal.nD Cert.ReferenceWinIdeal.τ).loc Cert.ReferenceWinIdeal.main_arg1)
          ∧ r.2.mem ((c.tc : Thread Cert.ReferenceWinIdeal.nD Cert.ReferenceWinIdeal.τ).loc Cert.ReferenceWinIdeal.main_arg2) = m' ((c.tc : Thread Cert.ReferenceWinIdeal.nD Cert.ReferenceWinIdeal.τ).loc Cert.ReferenceWinIdeal.main_arg2))

def preserves_KernelWp_KernelWpIdeal : Prop :=
  True

def algebraic_KernelWpIdeal_ReferenceWpIdeal [hKernelWpIdeal : Cert.KernelWpIdeal.Facts] [hReferenceWpIdeal : Cert.ReferenceWpIdeal.Facts] : Prop :=
  ∀ (m : (ℓ : Loc Cert.KernelWpIdeal.nD Cert.KernelWpIdeal.τ Cert.KernelWpIdeal.sig) → Buf (Elt Ideal) ℓ) (g : Dev Cert.KernelWpIdeal.nD → PrngReg)
    (m' : (ℓ : Loc Cert.ReferenceWpIdeal.nD Cert.ReferenceWpIdeal.τ Cert.ReferenceWpIdeal.sig) → Buf (Elt Ideal) ℓ) (g' : Dev Cert.ReferenceWpIdeal.nD → PrngReg), Pre_KernelWpIdeal m →
    (∀ c : Dev Cert.KernelWpIdeal.nD,
      m' ((c.tc : Thread Cert.ReferenceWpIdeal.nD Cert.ReferenceWpIdeal.τ).loc Cert.ReferenceWpIdeal.main_arg0) = m ((c.tc : Thread Cert.KernelWpIdeal.nD Cert.KernelWpIdeal.τ).loc Cert.KernelWpIdeal.main_arg0)
      ∧ m' ((c.tc : Thread Cert.ReferenceWpIdeal.nD Cert.ReferenceWpIdeal.τ).loc Cert.ReferenceWpIdeal.main_arg1) = m ((c.tc : Thread Cert.KernelWpIdeal.nD Cert.KernelWpIdeal.τ).loc Cert.KernelWpIdeal.main_arg1)
      ∧ m' ((c.tc : Thread Cert.ReferenceWpIdeal.nD Cert.ReferenceWpIdeal.τ).loc Cert.ReferenceWpIdeal.main_arg2) = m ((c.tc : Thread Cert.KernelWpIdeal.nD Cert.KernelWpIdeal.τ).loc Cert.KernelWpIdeal.main_arg2)
      ∧ m' ((c.tc : Thread Cert.ReferenceWpIdeal.nD Cert.ReferenceWpIdeal.τ).loc Cert.ReferenceWpIdeal.main_arg3) = m ((c.tc : Thread Cert.KernelWpIdeal.nD Cert.KernelWpIdeal.τ).loc Cert.KernelWpIdeal.main_arg3)) →
    ∃ (v0 : (c : Dev Cert.KernelWpIdeal.nD) → Buf (Elt Ideal) ((c.tc : Thread Cert.KernelWpIdeal.nD Cert.KernelWpIdeal.τ).loc Cert.KernelWpIdeal.main_v4_0)) (v1 : (c : Dev Cert.KernelWpIdeal.nD) → Buf (Elt Ideal) ((c.tc : Thread Cert.KernelWpIdeal.nD Cert.KernelWpIdeal.τ).loc Cert.KernelWpIdeal.main_v4_1)) (v2 : (c : Dev Cert.KernelWpIdeal.nD) → Buf (Elt Ideal) ((c.tc : Thread Cert.KernelWpIdeal.nD Cert.KernelWpIdeal.τ).loc Cert.KernelWpIdeal.main_v4_2)) (v3 : (c : Dev Cert.KernelWpIdeal.nD) → Buf (Elt Ideal) ((c.tc : Thread Cert.KernelWpIdeal.nD Cert.KernelWpIdeal.τ).loc Cert.KernelWpIdeal.main_v4_3)),
      θ_run (Cert.KernelWpIdeal.defs (F := Ideal)) (onTc (τ := Cert.KernelWpIdeal.τ) (Cert.KernelWpIdeal.main (F := Ideal))) ⟨m, fun _ => 0, g⟩ (fun r => ∀ c : Dev Cert.KernelWpIdeal.nD,
          r.2.mem ((c.tc : Thread Cert.KernelWpIdeal.nD Cert.KernelWpIdeal.τ).loc Cert.KernelWpIdeal.main_v4_0) = v0 c
          ∧ r.2.mem ((c.tc : Thread Cert.KernelWpIdeal.nD Cert.KernelWpIdeal.τ).loc Cert.KernelWpIdeal.main_v4_1) = v1 c
          ∧ r.2.mem ((c.tc : Thread Cert.KernelWpIdeal.nD Cert.KernelWpIdeal.τ).loc Cert.KernelWpIdeal.main_v4_2) = v2 c
          ∧ r.2.mem ((c.tc : Thread Cert.KernelWpIdeal.nD Cert.KernelWpIdeal.τ).loc Cert.KernelWpIdeal.main_v4_3) = v3 c
          ∧ r.2.mem ((c.tc : Thread Cert.KernelWpIdeal.nD Cert.KernelWpIdeal.τ).loc Cert.KernelWpIdeal.main_arg0) = m ((c.tc : Thread Cert.KernelWpIdeal.nD Cert.KernelWpIdeal.τ).loc Cert.KernelWpIdeal.main_arg0)
          ∧ r.2.mem ((c.tc : Thread Cert.KernelWpIdeal.nD Cert.KernelWpIdeal.τ).loc Cert.KernelWpIdeal.main_arg1) = m ((c.tc : Thread Cert.KernelWpIdeal.nD Cert.KernelWpIdeal.τ).loc Cert.KernelWpIdeal.main_arg1)
          ∧ r.2.mem ((c.tc : Thread Cert.KernelWpIdeal.nD Cert.KernelWpIdeal.τ).loc Cert.KernelWpIdeal.main_arg2) = m ((c.tc : Thread Cert.KernelWpIdeal.nD Cert.KernelWpIdeal.τ).loc Cert.KernelWpIdeal.main_arg2)
          ∧ r.2.mem ((c.tc : Thread Cert.KernelWpIdeal.nD Cert.KernelWpIdeal.τ).loc Cert.KernelWpIdeal.main_arg3) = m ((c.tc : Thread Cert.KernelWpIdeal.nD Cert.KernelWpIdeal.τ).loc Cert.KernelWpIdeal.main_arg3))
      ∧ θ_run (Cert.ReferenceWpIdeal.defs (F := Ideal)) (onTc (τ := Cert.ReferenceWpIdeal.τ) (Cert.ReferenceWpIdeal.main (F := Ideal))) ⟨m', fun _ => 0, g'⟩ (fun r => ∀ c : Dev Cert.ReferenceWpIdeal.nD,
          r.2.mem ((c.tc : Thread Cert.ReferenceWpIdeal.nD Cert.ReferenceWpIdeal.τ).loc Cert.ReferenceWpIdeal.main_v26) = v0 c
          ∧ r.2.mem ((c.tc : Thread Cert.ReferenceWpIdeal.nD Cert.ReferenceWpIdeal.τ).loc Cert.ReferenceWpIdeal.main_v27) = v1 c
          ∧ r.2.mem ((c.tc : Thread Cert.ReferenceWpIdeal.nD Cert.ReferenceWpIdeal.τ).loc Cert.ReferenceWpIdeal.main_v28) = v2 c
          ∧ r.2.mem ((c.tc : Thread Cert.ReferenceWpIdeal.nD Cert.ReferenceWpIdeal.τ).loc Cert.ReferenceWpIdeal.main_v29) = v3 c
          ∧ r.2.mem ((c.tc : Thread Cert.ReferenceWpIdeal.nD Cert.ReferenceWpIdeal.τ).loc Cert.ReferenceWpIdeal.main_arg0) = m' ((c.tc : Thread Cert.ReferenceWpIdeal.nD Cert.ReferenceWpIdeal.τ).loc Cert.ReferenceWpIdeal.main_arg0)
          ∧ r.2.mem ((c.tc : Thread Cert.ReferenceWpIdeal.nD Cert.ReferenceWpIdeal.τ).loc Cert.ReferenceWpIdeal.main_arg1) = m' ((c.tc : Thread Cert.ReferenceWpIdeal.nD Cert.ReferenceWpIdeal.τ).loc Cert.ReferenceWpIdeal.main_arg1)
          ∧ r.2.mem ((c.tc : Thread Cert.ReferenceWpIdeal.nD Cert.ReferenceWpIdeal.τ).loc Cert.ReferenceWpIdeal.main_arg2) = m' ((c.tc : Thread Cert.ReferenceWpIdeal.nD Cert.ReferenceWpIdeal.τ).loc Cert.ReferenceWpIdeal.main_arg2)
          ∧ r.2.mem ((c.tc : Thread Cert.ReferenceWpIdeal.nD Cert.ReferenceWpIdeal.τ).loc Cert.ReferenceWpIdeal.main_arg3) = m' ((c.tc : Thread Cert.ReferenceWpIdeal.nD Cert.ReferenceWpIdeal.τ).loc Cert.ReferenceWpIdeal.main_arg3))

def preserves_KernelCw_KernelCwIdeal : Prop :=
  True

def algebraic_KernelCwIdeal_ReferenceCwIdeal [hKernelCwIdeal : Cert.KernelCwIdeal.Facts] [hReferenceCwIdeal : Cert.ReferenceCwIdeal.Facts] : Prop :=
  ∀ (m : (ℓ : Loc Cert.KernelCwIdeal.nD Cert.KernelCwIdeal.τ Cert.KernelCwIdeal.sig) → Buf (Elt Ideal) ℓ) (g : Dev Cert.KernelCwIdeal.nD → PrngReg)
    (m' : (ℓ : Loc Cert.ReferenceCwIdeal.nD Cert.ReferenceCwIdeal.τ Cert.ReferenceCwIdeal.sig) → Buf (Elt Ideal) ℓ) (g' : Dev Cert.ReferenceCwIdeal.nD → PrngReg), Pre_KernelCwIdeal m →
    (∀ c : Dev Cert.KernelCwIdeal.nD,
      m' ((c.tc : Thread Cert.ReferenceCwIdeal.nD Cert.ReferenceCwIdeal.τ).loc Cert.ReferenceCwIdeal.main_arg0) = m ((c.tc : Thread Cert.KernelCwIdeal.nD Cert.KernelCwIdeal.τ).loc Cert.KernelCwIdeal.main_arg0)
      ∧ m' ((c.tc : Thread Cert.ReferenceCwIdeal.nD Cert.ReferenceCwIdeal.τ).loc Cert.ReferenceCwIdeal.main_arg1) = m ((c.tc : Thread Cert.KernelCwIdeal.nD Cert.KernelCwIdeal.τ).loc Cert.KernelCwIdeal.main_arg1)
      ∧ m' ((c.tc : Thread Cert.ReferenceCwIdeal.nD Cert.ReferenceCwIdeal.τ).loc Cert.ReferenceCwIdeal.main_arg2) = m ((c.tc : Thread Cert.KernelCwIdeal.nD Cert.KernelCwIdeal.τ).loc Cert.KernelCwIdeal.main_arg2)
      ∧ m' ((c.tc : Thread Cert.ReferenceCwIdeal.nD Cert.ReferenceCwIdeal.τ).loc Cert.ReferenceCwIdeal.main_arg3) = m ((c.tc : Thread Cert.KernelCwIdeal.nD Cert.KernelCwIdeal.τ).loc Cert.KernelCwIdeal.main_arg3)) →
    ∃ (v0 : (c : Dev Cert.KernelCwIdeal.nD) → Buf (Elt Ideal) ((c.tc : Thread Cert.KernelCwIdeal.nD Cert.KernelCwIdeal.τ).loc Cert.KernelCwIdeal.main_v3_0)) (v1 : (c : Dev Cert.KernelCwIdeal.nD) → Buf (Elt Ideal) ((c.tc : Thread Cert.KernelCwIdeal.nD Cert.KernelCwIdeal.τ).loc Cert.KernelCwIdeal.main_v3_1)) (v2 : (c : Dev Cert.KernelCwIdeal.nD) → Buf (Elt Ideal) ((c.tc : Thread Cert.KernelCwIdeal.nD Cert.KernelCwIdeal.τ).loc Cert.KernelCwIdeal.main_v3_2)),
      θ_run (Cert.KernelCwIdeal.defs (F := Ideal)) (onTc (τ := Cert.KernelCwIdeal.τ) (Cert.KernelCwIdeal.main (F := Ideal))) ⟨m, fun _ => 0, g⟩ (fun r => ∀ c : Dev Cert.KernelCwIdeal.nD,
          r.2.mem ((c.tc : Thread Cert.KernelCwIdeal.nD Cert.KernelCwIdeal.τ).loc Cert.KernelCwIdeal.main_v3_0) = v0 c
          ∧ r.2.mem ((c.tc : Thread Cert.KernelCwIdeal.nD Cert.KernelCwIdeal.τ).loc Cert.KernelCwIdeal.main_v3_1) = v1 c
          ∧ r.2.mem ((c.tc : Thread Cert.KernelCwIdeal.nD Cert.KernelCwIdeal.τ).loc Cert.KernelCwIdeal.main_v3_2) = v2 c
          ∧ r.2.mem ((c.tc : Thread Cert.KernelCwIdeal.nD Cert.KernelCwIdeal.τ).loc Cert.KernelCwIdeal.main_arg0) = m ((c.tc : Thread Cert.KernelCwIdeal.nD Cert.KernelCwIdeal.τ).loc Cert.KernelCwIdeal.main_arg0)
          ∧ r.2.mem ((c.tc : Thread Cert.KernelCwIdeal.nD Cert.KernelCwIdeal.τ).loc Cert.KernelCwIdeal.main_arg1) = m ((c.tc : Thread Cert.KernelCwIdeal.nD Cert.KernelCwIdeal.τ).loc Cert.KernelCwIdeal.main_arg1)
          ∧ r.2.mem ((c.tc : Thread Cert.KernelCwIdeal.nD Cert.KernelCwIdeal.τ).loc Cert.KernelCwIdeal.main_arg2) = m ((c.tc : Thread Cert.KernelCwIdeal.nD Cert.KernelCwIdeal.τ).loc Cert.KernelCwIdeal.main_arg2)
          ∧ r.2.mem ((c.tc : Thread Cert.KernelCwIdeal.nD Cert.KernelCwIdeal.τ).loc Cert.KernelCwIdeal.main_arg3) = m ((c.tc : Thread Cert.KernelCwIdeal.nD Cert.KernelCwIdeal.τ).loc Cert.KernelCwIdeal.main_arg3))
      ∧ θ_run (Cert.ReferenceCwIdeal.defs (F := Ideal)) (onTc (τ := Cert.ReferenceCwIdeal.τ) (Cert.ReferenceCwIdeal.main (F := Ideal))) ⟨m', fun _ => 0, g'⟩ (fun r => ∀ c : Dev Cert.ReferenceCwIdeal.nD,
          r.2.mem ((c.tc : Thread Cert.ReferenceCwIdeal.nD Cert.ReferenceCwIdeal.τ).loc Cert.ReferenceCwIdeal.main_v25) = v0 c
          ∧ r.2.mem ((c.tc : Thread Cert.ReferenceCwIdeal.nD Cert.ReferenceCwIdeal.τ).loc Cert.ReferenceCwIdeal.main_v26) = v1 c
          ∧ r.2.mem ((c.tc : Thread Cert.ReferenceCwIdeal.nD Cert.ReferenceCwIdeal.τ).loc Cert.ReferenceCwIdeal.main_v27) = v2 c
          ∧ r.2.mem ((c.tc : Thread Cert.ReferenceCwIdeal.nD Cert.ReferenceCwIdeal.τ).loc Cert.ReferenceCwIdeal.main_arg0) = m' ((c.tc : Thread Cert.ReferenceCwIdeal.nD Cert.ReferenceCwIdeal.τ).loc Cert.ReferenceCwIdeal.main_arg0)
          ∧ r.2.mem ((c.tc : Thread Cert.ReferenceCwIdeal.nD Cert.ReferenceCwIdeal.τ).loc Cert.ReferenceCwIdeal.main_arg1) = m' ((c.tc : Thread Cert.ReferenceCwIdeal.nD Cert.ReferenceCwIdeal.τ).loc Cert.ReferenceCwIdeal.main_arg1)
          ∧ r.2.mem ((c.tc : Thread Cert.ReferenceCwIdeal.nD Cert.ReferenceCwIdeal.τ).loc Cert.ReferenceCwIdeal.main_arg2) = m' ((c.tc : Thread Cert.ReferenceCwIdeal.nD Cert.ReferenceCwIdeal.τ).loc Cert.ReferenceCwIdeal.main_arg2)
          ∧ r.2.mem ((c.tc : Thread Cert.ReferenceCwIdeal.nD Cert.ReferenceCwIdeal.τ).loc Cert.ReferenceCwIdeal.main_arg3) = m' ((c.tc : Thread Cert.ReferenceCwIdeal.nD Cert.ReferenceCwIdeal.τ).loc Cert.ReferenceCwIdeal.main_arg3))

def preserves_KernelSml_KernelSmlIdeal : Prop :=
  True

def algebraic_KernelSmlIdeal_ReferenceSmlIdeal [hKernelSmlIdeal : Cert.KernelSmlIdeal.Facts] [hReferenceSmlIdeal : Cert.ReferenceSmlIdeal.Facts] : Prop :=
  ∀ (m : (ℓ : Loc Cert.KernelSmlIdeal.nD Cert.KernelSmlIdeal.τ Cert.KernelSmlIdeal.sig) → Buf (Elt Ideal) ℓ) (g : Dev Cert.KernelSmlIdeal.nD → PrngReg)
    (m' : (ℓ : Loc Cert.ReferenceSmlIdeal.nD Cert.ReferenceSmlIdeal.τ Cert.ReferenceSmlIdeal.sig) → Buf (Elt Ideal) ℓ) (g' : Dev Cert.ReferenceSmlIdeal.nD → PrngReg), Pre_KernelSmlIdeal m →
    (∀ c : Dev Cert.KernelSmlIdeal.nD,
      m' ((c.tc : Thread Cert.ReferenceSmlIdeal.nD Cert.ReferenceSmlIdeal.τ).loc Cert.ReferenceSmlIdeal.main_arg0) = m ((c.tc : Thread Cert.KernelSmlIdeal.nD Cert.KernelSmlIdeal.τ).loc Cert.KernelSmlIdeal.main_arg0)
      ∧ m' ((c.tc : Thread Cert.ReferenceSmlIdeal.nD Cert.ReferenceSmlIdeal.τ).loc Cert.ReferenceSmlIdeal.main_arg1) = m ((c.tc : Thread Cert.KernelSmlIdeal.nD Cert.KernelSmlIdeal.τ).loc Cert.KernelSmlIdeal.main_arg1)
      ∧ m' ((c.tc : Thread Cert.ReferenceSmlIdeal.nD Cert.ReferenceSmlIdeal.τ).loc Cert.ReferenceSmlIdeal.main_arg2) = m ((c.tc : Thread Cert.KernelSmlIdeal.nD Cert.KernelSmlIdeal.τ).loc Cert.KernelSmlIdeal.main_arg2)
      ∧ m' ((c.tc : Thread Cert.ReferenceSmlIdeal.nD Cert.ReferenceSmlIdeal.τ).loc Cert.ReferenceSmlIdeal.main_arg3) = m ((c.tc : Thread Cert.KernelSmlIdeal.nD Cert.KernelSmlIdeal.τ).loc Cert.KernelSmlIdeal.main_arg3)
      ∧ m' ((c.tc : Thread Cert.ReferenceSmlIdeal.nD Cert.ReferenceSmlIdeal.τ).loc Cert.ReferenceSmlIdeal.main_arg4) = m ((c.tc : Thread Cert.KernelSmlIdeal.nD Cert.KernelSmlIdeal.τ).loc Cert.KernelSmlIdeal.main_arg4)
      ∧ m' ((c.tc : Thread Cert.ReferenceSmlIdeal.nD Cert.ReferenceSmlIdeal.τ).loc Cert.ReferenceSmlIdeal.main_arg5) = m ((c.tc : Thread Cert.KernelSmlIdeal.nD Cert.KernelSmlIdeal.τ).loc Cert.KernelSmlIdeal.main_arg5)
      ∧ m' ((c.tc : Thread Cert.ReferenceSmlIdeal.nD Cert.ReferenceSmlIdeal.τ).loc Cert.ReferenceSmlIdeal.main_arg6) = m ((c.tc : Thread Cert.KernelSmlIdeal.nD Cert.KernelSmlIdeal.τ).loc Cert.KernelSmlIdeal.main_arg6)
      ∧ m' ((c.tc : Thread Cert.ReferenceSmlIdeal.nD Cert.ReferenceSmlIdeal.τ).loc Cert.ReferenceSmlIdeal.main_arg7) = m ((c.tc : Thread Cert.KernelSmlIdeal.nD Cert.KernelSmlIdeal.τ).loc Cert.KernelSmlIdeal.main_arg7)
      ∧ m' ((c.tc : Thread Cert.ReferenceSmlIdeal.nD Cert.ReferenceSmlIdeal.τ).loc Cert.ReferenceSmlIdeal.main_arg8) = m ((c.tc : Thread Cert.KernelSmlIdeal.nD Cert.KernelSmlIdeal.τ).loc Cert.KernelSmlIdeal.main_arg8)
      ∧ m' ((c.tc : Thread Cert.ReferenceSmlIdeal.nD Cert.ReferenceSmlIdeal.τ).loc Cert.ReferenceSmlIdeal.main_arg9) = m ((c.tc : Thread Cert.KernelSmlIdeal.nD Cert.KernelSmlIdeal.τ).loc Cert.KernelSmlIdeal.main_arg9)
      ∧ m' ((c.tc : Thread Cert.ReferenceSmlIdeal.nD Cert.ReferenceSmlIdeal.τ).loc Cert.ReferenceSmlIdeal.main_arg10) = m ((c.tc : Thread Cert.KernelSmlIdeal.nD Cert.KernelSmlIdeal.τ).loc Cert.KernelSmlIdeal.main_arg10)
      ∧ m' ((c.tc : Thread Cert.ReferenceSmlIdeal.nD Cert.ReferenceSmlIdeal.τ).loc Cert.ReferenceSmlIdeal.main_arg11) = m ((c.tc : Thread Cert.KernelSmlIdeal.nD Cert.KernelSmlIdeal.τ).loc Cert.KernelSmlIdeal.main_arg11)
      ∧ m' ((c.tc : Thread Cert.ReferenceSmlIdeal.nD Cert.ReferenceSmlIdeal.τ).loc Cert.ReferenceSmlIdeal.main_arg12) = m ((c.tc : Thread Cert.KernelSmlIdeal.nD Cert.KernelSmlIdeal.τ).loc Cert.KernelSmlIdeal.main_arg12)
      ∧ m' ((c.tc : Thread Cert.ReferenceSmlIdeal.nD Cert.ReferenceSmlIdeal.τ).loc Cert.ReferenceSmlIdeal.main_arg13) = m ((c.tc : Thread Cert.KernelSmlIdeal.nD Cert.KernelSmlIdeal.τ).loc Cert.KernelSmlIdeal.main_arg13)) →
    ∃ (v0 : (c : Dev Cert.KernelSmlIdeal.nD) → Buf (Elt Ideal) ((c.tc : Thread Cert.KernelSmlIdeal.nD Cert.KernelSmlIdeal.τ).loc Cert.KernelSmlIdeal.main_v0_0)) (v1 : (c : Dev Cert.KernelSmlIdeal.nD) → Buf (Elt Ideal) ((c.tc : Thread Cert.KernelSmlIdeal.nD Cert.KernelSmlIdeal.τ).loc Cert.KernelSmlIdeal.main_v0_1)) (v2 : (c : Dev Cert.KernelSmlIdeal.nD) → Buf (Elt Ideal) ((c.tc : Thread Cert.KernelSmlIdeal.nD Cert.KernelSmlIdeal.τ).loc Cert.KernelSmlIdeal.main_v0_2)) (v3 : (c : Dev Cert.KernelSmlIdeal.nD) → Buf (Elt Ideal) ((c.tc : Thread Cert.KernelSmlIdeal.nD Cert.KernelSmlIdeal.τ).loc Cert.KernelSmlIdeal.main_v0_3)) (v4 : (c : Dev Cert.KernelSmlIdeal.nD) → Buf (Elt Ideal) ((c.tc : Thread Cert.KernelSmlIdeal.nD Cert.KernelSmlIdeal.τ).loc Cert.KernelSmlIdeal.main_v0_4)) (v5 : (c : Dev Cert.KernelSmlIdeal.nD) → Buf (Elt Ideal) ((c.tc : Thread Cert.KernelSmlIdeal.nD Cert.KernelSmlIdeal.τ).loc Cert.KernelSmlIdeal.main_v0_5)) (v6 : (c : Dev Cert.KernelSmlIdeal.nD) → Buf (Elt Ideal) ((c.tc : Thread Cert.KernelSmlIdeal.nD Cert.KernelSmlIdeal.τ).loc Cert.KernelSmlIdeal.main_v0_6)) (v7 : (c : Dev Cert.KernelSmlIdeal.nD) → Buf (Elt Ideal) ((c.tc : Thread Cert.KernelSmlIdeal.nD Cert.KernelSmlIdeal.τ).loc Cert.KernelSmlIdeal.main_v0_7)) (v8 : (c : Dev Cert.KernelSmlIdeal.nD) → Buf (Elt Ideal) ((c.tc : Thread Cert.KernelSmlIdeal.nD Cert.KernelSmlIdeal.τ).loc Cert.KernelSmlIdeal.main_v0_8)) (v9 : (c : Dev Cert.KernelSmlIdeal.nD) → Buf (Elt Ideal) ((c.tc : Thread Cert.KernelSmlIdeal.nD Cert.KernelSmlIdeal.τ).loc Cert.KernelSmlIdeal.main_v0_9)) (v10 : (c : Dev Cert.KernelSmlIdeal.nD) → Buf (Elt Ideal) ((c.tc : Thread Cert.KernelSmlIdeal.nD Cert.KernelSmlIdeal.τ).loc Cert.KernelSmlIdeal.main_v0_10)) (v11 : (c : Dev Cert.KernelSmlIdeal.nD) → Buf (Elt Ideal) ((c.tc : Thread Cert.KernelSmlIdeal.nD Cert.KernelSmlIdeal.τ).loc Cert.KernelSmlIdeal.main_v0_11)) (v12 : (c : Dev Cert.KernelSmlIdeal.nD) → Buf (Elt Ideal) ((c.tc : Thread Cert.KernelSmlIdeal.nD Cert.KernelSmlIdeal.τ).loc Cert.KernelSmlIdeal.main_v0_12)) (v13 : (c : Dev Cert.KernelSmlIdeal.nD) → Buf (Elt Ideal) ((c.tc : Thread Cert.KernelSmlIdeal.nD Cert.KernelSmlIdeal.τ).loc Cert.KernelSmlIdeal.main_v0_13)),
      θ_run (Cert.KernelSmlIdeal.defs (F := Ideal)) (onTc (τ := Cert.KernelSmlIdeal.τ) (Cert.KernelSmlIdeal.main (F := Ideal))) ⟨m, fun _ => 0, g⟩ (fun r => ∀ c : Dev Cert.KernelSmlIdeal.nD,
          r.2.mem ((c.tc : Thread Cert.KernelSmlIdeal.nD Cert.KernelSmlIdeal.τ).loc Cert.KernelSmlIdeal.main_v0_0) = v0 c
          ∧ r.2.mem ((c.tc : Thread Cert.KernelSmlIdeal.nD Cert.KernelSmlIdeal.τ).loc Cert.KernelSmlIdeal.main_v0_1) = v1 c
          ∧ r.2.mem ((c.tc : Thread Cert.KernelSmlIdeal.nD Cert.KernelSmlIdeal.τ).loc Cert.KernelSmlIdeal.main_v0_2) = v2 c
          ∧ r.2.mem ((c.tc : Thread Cert.KernelSmlIdeal.nD Cert.KernelSmlIdeal.τ).loc Cert.KernelSmlIdeal.main_v0_3) = v3 c
          ∧ r.2.mem ((c.tc : Thread Cert.KernelSmlIdeal.nD Cert.KernelSmlIdeal.τ).loc Cert.KernelSmlIdeal.main_v0_4) = v4 c
          ∧ r.2.mem ((c.tc : Thread Cert.KernelSmlIdeal.nD Cert.KernelSmlIdeal.τ).loc Cert.KernelSmlIdeal.main_v0_5) = v5 c
          ∧ r.2.mem ((c.tc : Thread Cert.KernelSmlIdeal.nD Cert.KernelSmlIdeal.τ).loc Cert.KernelSmlIdeal.main_v0_6) = v6 c
          ∧ r.2.mem ((c.tc : Thread Cert.KernelSmlIdeal.nD Cert.KernelSmlIdeal.τ).loc Cert.KernelSmlIdeal.main_v0_7) = v7 c
          ∧ r.2.mem ((c.tc : Thread Cert.KernelSmlIdeal.nD Cert.KernelSmlIdeal.τ).loc Cert.KernelSmlIdeal.main_v0_8) = v8 c
          ∧ r.2.mem ((c.tc : Thread Cert.KernelSmlIdeal.nD Cert.KernelSmlIdeal.τ).loc Cert.KernelSmlIdeal.main_v0_9) = v9 c
          ∧ r.2.mem ((c.tc : Thread Cert.KernelSmlIdeal.nD Cert.KernelSmlIdeal.τ).loc Cert.KernelSmlIdeal.main_v0_10) = v10 c
          ∧ r.2.mem ((c.tc : Thread Cert.KernelSmlIdeal.nD Cert.KernelSmlIdeal.τ).loc Cert.KernelSmlIdeal.main_v0_11) = v11 c
          ∧ r.2.mem ((c.tc : Thread Cert.KernelSmlIdeal.nD Cert.KernelSmlIdeal.τ).loc Cert.KernelSmlIdeal.main_v0_12) = v12 c
          ∧ r.2.mem ((c.tc : Thread Cert.KernelSmlIdeal.nD Cert.KernelSmlIdeal.τ).loc Cert.KernelSmlIdeal.main_v0_13) = v13 c
          ∧ r.2.mem ((c.tc : Thread Cert.KernelSmlIdeal.nD Cert.KernelSmlIdeal.τ).loc Cert.KernelSmlIdeal.main_arg0) = m ((c.tc : Thread Cert.KernelSmlIdeal.nD Cert.KernelSmlIdeal.τ).loc Cert.KernelSmlIdeal.main_arg0)
          ∧ r.2.mem ((c.tc : Thread Cert.KernelSmlIdeal.nD Cert.KernelSmlIdeal.τ).loc Cert.KernelSmlIdeal.main_arg1) = m ((c.tc : Thread Cert.KernelSmlIdeal.nD Cert.KernelSmlIdeal.τ).loc Cert.KernelSmlIdeal.main_arg1)
          ∧ r.2.mem ((c.tc : Thread Cert.KernelSmlIdeal.nD Cert.KernelSmlIdeal.τ).loc Cert.KernelSmlIdeal.main_arg2) = m ((c.tc : Thread Cert.KernelSmlIdeal.nD Cert.KernelSmlIdeal.τ).loc Cert.KernelSmlIdeal.main_arg2)
          ∧ r.2.mem ((c.tc : Thread Cert.KernelSmlIdeal.nD Cert.KernelSmlIdeal.τ).loc Cert.KernelSmlIdeal.main_arg3) = m ((c.tc : Thread Cert.KernelSmlIdeal.nD Cert.KernelSmlIdeal.τ).loc Cert.KernelSmlIdeal.main_arg3)
          ∧ r.2.mem ((c.tc : Thread Cert.KernelSmlIdeal.nD Cert.KernelSmlIdeal.τ).loc Cert.KernelSmlIdeal.main_arg4) = m ((c.tc : Thread Cert.KernelSmlIdeal.nD Cert.KernelSmlIdeal.τ).loc Cert.KernelSmlIdeal.main_arg4)
          ∧ r.2.mem ((c.tc : Thread Cert.KernelSmlIdeal.nD Cert.KernelSmlIdeal.τ).loc Cert.KernelSmlIdeal.main_arg5) = m ((c.tc : Thread Cert.KernelSmlIdeal.nD Cert.KernelSmlIdeal.τ).loc Cert.KernelSmlIdeal.main_arg5)
          ∧ r.2.mem ((c.tc : Thread Cert.KernelSmlIdeal.nD Cert.KernelSmlIdeal.τ).loc Cert.KernelSmlIdeal.main_arg6) = m ((c.tc : Thread Cert.KernelSmlIdeal.nD Cert.KernelSmlIdeal.τ).loc Cert.KernelSmlIdeal.main_arg6)
          ∧ r.2.mem ((c.tc : Thread Cert.KernelSmlIdeal.nD Cert.KernelSmlIdeal.τ).loc Cert.KernelSmlIdeal.main_arg7) = m ((c.tc : Thread Cert.KernelSmlIdeal.nD Cert.KernelSmlIdeal.τ).loc Cert.KernelSmlIdeal.main_arg7)
          ∧ r.2.mem ((c.tc : Thread Cert.KernelSmlIdeal.nD Cert.KernelSmlIdeal.τ).loc Cert.KernelSmlIdeal.main_arg8) = m ((c.tc : Thread Cert.KernelSmlIdeal.nD Cert.KernelSmlIdeal.τ).loc Cert.KernelSmlIdeal.main_arg8)
          ∧ r.2.mem ((c.tc : Thread Cert.KernelSmlIdeal.nD Cert.KernelSmlIdeal.τ).loc Cert.KernelSmlIdeal.main_arg9) = m ((c.tc : Thread Cert.KernelSmlIdeal.nD Cert.KernelSmlIdeal.τ).loc Cert.KernelSmlIdeal.main_arg9)
          ∧ r.2.mem ((c.tc : Thread Cert.KernelSmlIdeal.nD Cert.KernelSmlIdeal.τ).loc Cert.KernelSmlIdeal.main_arg10) = m ((c.tc : Thread Cert.KernelSmlIdeal.nD Cert.KernelSmlIdeal.τ).loc Cert.KernelSmlIdeal.main_arg10)
          ∧ r.2.mem ((c.tc : Thread Cert.KernelSmlIdeal.nD Cert.KernelSmlIdeal.τ).loc Cert.KernelSmlIdeal.main_arg11) = m ((c.tc : Thread Cert.KernelSmlIdeal.nD Cert.KernelSmlIdeal.τ).loc Cert.KernelSmlIdeal.main_arg11)
          ∧ r.2.mem ((c.tc : Thread Cert.KernelSmlIdeal.nD Cert.KernelSmlIdeal.τ).loc Cert.KernelSmlIdeal.main_arg12) = m ((c.tc : Thread Cert.KernelSmlIdeal.nD Cert.KernelSmlIdeal.τ).loc Cert.KernelSmlIdeal.main_arg12)
          ∧ r.2.mem ((c.tc : Thread Cert.KernelSmlIdeal.nD Cert.KernelSmlIdeal.τ).loc Cert.KernelSmlIdeal.main_arg13) = m ((c.tc : Thread Cert.KernelSmlIdeal.nD Cert.KernelSmlIdeal.τ).loc Cert.KernelSmlIdeal.main_arg13))
      ∧ θ_run (Cert.ReferenceSmlIdeal.defs (F := Ideal)) (onTc (τ := Cert.ReferenceSmlIdeal.τ) (Cert.ReferenceSmlIdeal.main (F := Ideal))) ⟨m', fun _ => 0, g'⟩ (fun r => ∀ c : Dev Cert.ReferenceSmlIdeal.nD,
          r.2.mem ((c.tc : Thread Cert.ReferenceSmlIdeal.nD Cert.ReferenceSmlIdeal.τ).loc Cert.ReferenceSmlIdeal.main_v7) = v0 c
          ∧ r.2.mem ((c.tc : Thread Cert.ReferenceSmlIdeal.nD Cert.ReferenceSmlIdeal.τ).loc Cert.ReferenceSmlIdeal.main_v33) = v1 c
          ∧ r.2.mem ((c.tc : Thread Cert.ReferenceSmlIdeal.nD Cert.ReferenceSmlIdeal.τ).loc Cert.ReferenceSmlIdeal.main_v14) = v2 c
          ∧ r.2.mem ((c.tc : Thread Cert.ReferenceSmlIdeal.nD Cert.ReferenceSmlIdeal.τ).loc Cert.ReferenceSmlIdeal.main_v20) = v3 c
          ∧ r.2.mem ((c.tc : Thread Cert.ReferenceSmlIdeal.nD Cert.ReferenceSmlIdeal.τ).loc Cert.ReferenceSmlIdeal.main_v8) = v4 c
          ∧ r.2.mem ((c.tc : Thread Cert.ReferenceSmlIdeal.nD Cert.ReferenceSmlIdeal.τ).loc Cert.ReferenceSmlIdeal.main_v57) = v5 c
          ∧ r.2.mem ((c.tc : Thread Cert.ReferenceSmlIdeal.nD Cert.ReferenceSmlIdeal.τ).loc Cert.ReferenceSmlIdeal.main_v38) = v6 c
          ∧ r.2.mem ((c.tc : Thread Cert.ReferenceSmlIdeal.nD Cert.ReferenceSmlIdeal.τ).loc Cert.ReferenceSmlIdeal.main_v44) = v7 c
          ∧ r.2.mem ((c.tc : Thread Cert.ReferenceSmlIdeal.nD Cert.ReferenceSmlIdeal.τ).loc Cert.ReferenceSmlIdeal.main_v9) = v8 c
          ∧ r.2.mem ((c.tc : Thread Cert.ReferenceSmlIdeal.nD Cert.ReferenceSmlIdeal.τ).loc Cert.ReferenceSmlIdeal.main_v81) = v9 c
          ∧ r.2.mem ((c.tc : Thread Cert.ReferenceSmlIdeal.nD Cert.ReferenceSmlIdeal.τ).loc Cert.ReferenceSmlIdeal.main_v62) = v10 c
          ∧ r.2.mem ((c.tc : Thread Cert.ReferenceSmlIdeal.nD Cert.ReferenceSmlIdeal.τ).loc Cert.ReferenceSmlIdeal.main_v68) = v11 c
          ∧ r.2.mem ((c.tc : Thread Cert.ReferenceSmlIdeal.nD Cert.ReferenceSmlIdeal.τ).loc Cert.ReferenceSmlIdeal.main_v82) = v12 c
          ∧ r.2.mem ((c.tc : Thread Cert.ReferenceSmlIdeal.nD Cert.ReferenceSmlIdeal.τ).loc Cert.ReferenceSmlIdeal.main_v2) = v13 c
          ∧ r.2.mem ((c.tc : Thread Cert.ReferenceSmlIdeal.nD Cert.ReferenceSmlIdeal.τ).loc Cert.ReferenceSmlIdeal.main_arg0) = m' ((c.tc : Thread Cert.ReferenceSmlIdeal.nD Cert.ReferenceSmlIdeal.τ).loc Cert.ReferenceSmlIdeal.main_arg0)
          ∧ r.2.mem ((c.tc : Thread Cert.ReferenceSmlIdeal.nD Cert.ReferenceSmlIdeal.τ).loc Cert.ReferenceSmlIdeal.main_arg1) = m' ((c.tc : Thread Cert.ReferenceSmlIdeal.nD Cert.ReferenceSmlIdeal.τ).loc Cert.ReferenceSmlIdeal.main_arg1)
          ∧ r.2.mem ((c.tc : Thread Cert.ReferenceSmlIdeal.nD Cert.ReferenceSmlIdeal.τ).loc Cert.ReferenceSmlIdeal.main_arg2) = m' ((c.tc : Thread Cert.ReferenceSmlIdeal.nD Cert.ReferenceSmlIdeal.τ).loc Cert.ReferenceSmlIdeal.main_arg2)
          ∧ r.2.mem ((c.tc : Thread Cert.ReferenceSmlIdeal.nD Cert.ReferenceSmlIdeal.τ).loc Cert.ReferenceSmlIdeal.main_arg3) = m' ((c.tc : Thread Cert.ReferenceSmlIdeal.nD Cert.ReferenceSmlIdeal.τ).loc Cert.ReferenceSmlIdeal.main_arg3)
          ∧ r.2.mem ((c.tc : Thread Cert.ReferenceSmlIdeal.nD Cert.ReferenceSmlIdeal.τ).loc Cert.ReferenceSmlIdeal.main_arg4) = m' ((c.tc : Thread Cert.ReferenceSmlIdeal.nD Cert.ReferenceSmlIdeal.τ).loc Cert.ReferenceSmlIdeal.main_arg4)
          ∧ r.2.mem ((c.tc : Thread Cert.ReferenceSmlIdeal.nD Cert.ReferenceSmlIdeal.τ).loc Cert.ReferenceSmlIdeal.main_arg5) = m' ((c.tc : Thread Cert.ReferenceSmlIdeal.nD Cert.ReferenceSmlIdeal.τ).loc Cert.ReferenceSmlIdeal.main_arg5)
          ∧ r.2.mem ((c.tc : Thread Cert.ReferenceSmlIdeal.nD Cert.ReferenceSmlIdeal.τ).loc Cert.ReferenceSmlIdeal.main_arg6) = m' ((c.tc : Thread Cert.ReferenceSmlIdeal.nD Cert.ReferenceSmlIdeal.τ).loc Cert.ReferenceSmlIdeal.main_arg6)
          ∧ r.2.mem ((c.tc : Thread Cert.ReferenceSmlIdeal.nD Cert.ReferenceSmlIdeal.τ).loc Cert.ReferenceSmlIdeal.main_arg7) = m' ((c.tc : Thread Cert.ReferenceSmlIdeal.nD Cert.ReferenceSmlIdeal.τ).loc Cert.ReferenceSmlIdeal.main_arg7)
          ∧ r.2.mem ((c.tc : Thread Cert.ReferenceSmlIdeal.nD Cert.ReferenceSmlIdeal.τ).loc Cert.ReferenceSmlIdeal.main_arg8) = m' ((c.tc : Thread Cert.ReferenceSmlIdeal.nD Cert.ReferenceSmlIdeal.τ).loc Cert.ReferenceSmlIdeal.main_arg8)
          ∧ r.2.mem ((c.tc : Thread Cert.ReferenceSmlIdeal.nD Cert.ReferenceSmlIdeal.τ).loc Cert.ReferenceSmlIdeal.main_arg9) = m' ((c.tc : Thread Cert.ReferenceSmlIdeal.nD Cert.ReferenceSmlIdeal.τ).loc Cert.ReferenceSmlIdeal.main_arg9)
          ∧ r.2.mem ((c.tc : Thread Cert.ReferenceSmlIdeal.nD Cert.ReferenceSmlIdeal.τ).loc Cert.ReferenceSmlIdeal.main_arg10) = m' ((c.tc : Thread Cert.ReferenceSmlIdeal.nD Cert.ReferenceSmlIdeal.τ).loc Cert.ReferenceSmlIdeal.main_arg10)
          ∧ r.2.mem ((c.tc : Thread Cert.ReferenceSmlIdeal.nD Cert.ReferenceSmlIdeal.τ).loc Cert.ReferenceSmlIdeal.main_arg11) = m' ((c.tc : Thread Cert.ReferenceSmlIdeal.nD Cert.ReferenceSmlIdeal.τ).loc Cert.ReferenceSmlIdeal.main_arg11)
          ∧ r.2.mem ((c.tc : Thread Cert.ReferenceSmlIdeal.nD Cert.ReferenceSmlIdeal.τ).loc Cert.ReferenceSmlIdeal.main_arg12) = m' ((c.tc : Thread Cert.ReferenceSmlIdeal.nD Cert.ReferenceSmlIdeal.τ).loc Cert.ReferenceSmlIdeal.main_arg12)
          ∧ r.2.mem ((c.tc : Thread Cert.ReferenceSmlIdeal.nD Cert.ReferenceSmlIdeal.τ).loc Cert.ReferenceSmlIdeal.main_arg13) = m' ((c.tc : Thread Cert.ReferenceSmlIdeal.nD Cert.ReferenceSmlIdeal.τ).loc Cert.ReferenceSmlIdeal.main_arg13))

def Claim : Prop :=
  ∃ (hKernelIn : Cert.KernelIn.Facts) (hKernelInIdeal : Cert.KernelInIdeal.Facts) (hReferenceInIdeal : Cert.ReferenceInIdeal.Facts) (hKernelMlp : Cert.KernelMlp.Facts) (hKernelMlpIdeal : Cert.KernelMlpIdeal.Facts) (hReferenceMlpIdeal : Cert.ReferenceMlpIdeal.Facts) (hKernelAda : Cert.KernelAda.Facts) (hKernelAdaIdeal : Cert.KernelAdaIdeal.Facts) (hReferenceAdaIdeal : Cert.ReferenceAdaIdeal.Facts) (hKernelFwd : Cert.KernelFwd.Facts) (hKernelFwdIdeal : Cert.KernelFwdIdeal.Facts) (hReferenceFwdIdeal : Cert.ReferenceFwdIdeal.Facts) (hKernelPre : Cert.KernelPre.Facts) (hKernelPreIdeal : Cert.KernelPreIdeal.Facts) (hReferencePreIdeal : Cert.ReferencePreIdeal.Facts) (hKernelMod : Cert.KernelMod.Facts) (hKernelModIdeal : Cert.KernelModIdeal.Facts) (hReferenceModIdeal : Cert.ReferenceModIdeal.Facts) (hKernelUp : Cert.KernelUp.Facts) (hKernelUpIdeal : Cert.KernelUpIdeal.Facts) (hReferenceUpIdeal : Cert.ReferenceUpIdeal.Facts) (hKernelWin : Cert.KernelWin.Facts) (hKernelWinIdeal : Cert.KernelWinIdeal.Facts) (hReferenceWinIdeal : Cert.ReferenceWinIdeal.Facts) (hKernelWp : Cert.KernelWp.Facts) (hKernelWpIdeal : Cert.KernelWpIdeal.Facts) (hReferenceWpIdeal : Cert.ReferenceWpIdeal.Facts) (hKernelCw : Cert.KernelCw.Facts) (hKernelCwIdeal : Cert.KernelCwIdeal.Facts) (hReferenceCwIdeal : Cert.ReferenceCwIdeal.Facts) (hKernelSml : Cert.KernelSml.Facts) (hKernelSmlIdeal : Cert.KernelSmlIdeal.Facts) (hReferenceSmlIdeal : Cert.ReferenceSmlIdeal.Facts) (hPre_finite_fwd : Cert.Pre_finite_fwd.Facts),
    quiescent_KernelIn (hKernelIn := hKernelIn)
    ∧ quiescent_KernelInIdeal (hKernelInIdeal := hKernelInIdeal)
    ∧ quiescent_ReferenceInIdeal (hReferenceInIdeal := hReferenceInIdeal)
    ∧ quiescent_KernelMlp (hKernelMlp := hKernelMlp)
    ∧ quiescent_KernelMlpIdeal (hKernelMlpIdeal := hKernelMlpIdeal)
    ∧ quiescent_ReferenceMlpIdeal (hReferenceMlpIdeal := hReferenceMlpIdeal)
    ∧ quiescent_KernelAda (hKernelAda := hKernelAda)
    ∧ quiescent_KernelAdaIdeal (hKernelAdaIdeal := hKernelAdaIdeal)
    ∧ quiescent_ReferenceAdaIdeal (hReferenceAdaIdeal := hReferenceAdaIdeal)
    ∧ quiescent_KernelFwd (hKernelFwd := hKernelFwd)
    ∧ quiescent_KernelFwdIdeal (hKernelFwdIdeal := hKernelFwdIdeal)
    ∧ quiescent_KernelFwdIdeal_pre_finite_fwd (hKernelFwdIdeal := hKernelFwdIdeal) (hPre_finite_fwd := hPre_finite_fwd)
    ∧ quiescent_ReferenceFwdIdeal (hReferenceFwdIdeal := hReferenceFwdIdeal)
    ∧ quiescent_ReferenceFwdIdeal_pre_finite_fwd (hReferenceFwdIdeal := hReferenceFwdIdeal) (hPre_finite_fwd := hPre_finite_fwd)
    ∧ quiescent_KernelPre (hKernelPre := hKernelPre)
    ∧ quiescent_KernelPreIdeal (hKernelPreIdeal := hKernelPreIdeal)
    ∧ quiescent_ReferencePreIdeal (hReferencePreIdeal := hReferencePreIdeal)
    ∧ quiescent_KernelMod (hKernelMod := hKernelMod)
    ∧ quiescent_KernelModIdeal (hKernelModIdeal := hKernelModIdeal)
    ∧ quiescent_ReferenceModIdeal (hReferenceModIdeal := hReferenceModIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelWin (hKernelWin := hKernelWin)
    ∧ quiescent_KernelWinIdeal (hKernelWinIdeal := hKernelWinIdeal)
    ∧ quiescent_ReferenceWinIdeal (hReferenceWinIdeal := hReferenceWinIdeal)
    ∧ quiescent_KernelWp (hKernelWp := hKernelWp)
    ∧ quiescent_KernelWpIdeal (hKernelWpIdeal := hKernelWpIdeal)
    ∧ quiescent_ReferenceWpIdeal (hReferenceWpIdeal := hReferenceWpIdeal)
    ∧ quiescent_KernelCw (hKernelCw := hKernelCw)
    ∧ quiescent_KernelCwIdeal (hKernelCwIdeal := hKernelCwIdeal)
    ∧ quiescent_ReferenceCwIdeal (hReferenceCwIdeal := hReferenceCwIdeal)
    ∧ quiescent_KernelSml (hKernelSml := hKernelSml)
    ∧ quiescent_KernelSmlIdeal (hKernelSmlIdeal := hKernelSmlIdeal)
    ∧ quiescent_ReferenceSmlIdeal (hReferenceSmlIdeal := hReferenceSmlIdeal)
    ∧ preserves_KernelIn_KernelInIdeal
    ∧ algebraic_KernelInIdeal_ReferenceInIdeal (hKernelInIdeal := hKernelInIdeal) (hReferenceInIdeal := hReferenceInIdeal)
    ∧ preserves_KernelMlp_KernelMlpIdeal
    ∧ algebraic_KernelMlpIdeal_ReferenceMlpIdeal (hKernelMlpIdeal := hKernelMlpIdeal) (hReferenceMlpIdeal := hReferenceMlpIdeal)
    ∧ preserves_KernelAda_KernelAdaIdeal
    ∧ algebraic_KernelAdaIdeal_ReferenceAdaIdeal (hKernelAdaIdeal := hKernelAdaIdeal) (hReferenceAdaIdeal := hReferenceAdaIdeal)
    ∧ preserves_KernelFwd_KernelFwdIdeal
    ∧ algebraic_KernelFwdIdeal_ReferenceFwdIdeal_pre_finite_fwd (hKernelFwdIdeal := hKernelFwdIdeal) (hReferenceFwdIdeal := hReferenceFwdIdeal) (hPre_finite_fwd := hPre_finite_fwd)
    ∧ preserves_KernelPre_KernelPreIdeal
    ∧ algebraic_KernelPreIdeal_ReferencePreIdeal (hKernelPreIdeal := hKernelPreIdeal) (hReferencePreIdeal := hReferencePreIdeal)
    ∧ preserves_KernelMod_KernelModIdeal
    ∧ algebraic_KernelModIdeal_ReferenceModIdeal (hKernelModIdeal := hKernelModIdeal) (hReferenceModIdeal := hReferenceModIdeal)
    ∧ preserves_KernelUp_KernelUpIdeal
    ∧ algebraic_KernelUpIdeal_ReferenceUpIdeal (hKernelUpIdeal := hKernelUpIdeal) (hReferenceUpIdeal := hReferenceUpIdeal)
    ∧ preserves_KernelWin_KernelWinIdeal
    ∧ algebraic_KernelWinIdeal_ReferenceWinIdeal (hKernelWinIdeal := hKernelWinIdeal) (hReferenceWinIdeal := hReferenceWinIdeal)
    ∧ preserves_KernelWp_KernelWpIdeal
    ∧ algebraic_KernelWpIdeal_ReferenceWpIdeal (hKernelWpIdeal := hKernelWpIdeal) (hReferenceWpIdeal := hReferenceWpIdeal)
    ∧ preserves_KernelCw_KernelCwIdeal
    ∧ algebraic_KernelCwIdeal_ReferenceCwIdeal (hKernelCwIdeal := hKernelCwIdeal) (hReferenceCwIdeal := hReferenceCwIdeal)
    ∧ preserves_KernelSml_KernelSmlIdeal
    ∧ algebraic_KernelSmlIdeal_ReferenceSmlIdeal (hKernelSmlIdeal := hKernelSmlIdeal) (hReferenceSmlIdeal := hReferenceSmlIdeal)
-- ==== Pre_finite_fwd.lean ====
abbrev S2x2048x3088 : Shape := ⟨3, ![2, 2048, 3088]⟩
abbrev S1x4x1536 : Shape := ⟨3, ![1, 4, 1536]⟩
abbrev S1x1536 : Shape := ⟨2, ![1, 1536]⟩
abbrev S1x16 : Shape := ⟨2, ![1, 16]⟩
abbrev S1x1024 : Shape := ⟨2, ![1, 1024]⟩
abbrev S1x4x128x128 : Shape := ⟨4, ![1, 4, 128, 128]⟩
abbrev S1x512 : Shape := ⟨2, ![1, 512]⟩
abbrev S_ : Shape := ⟨0, ![]⟩

class Facts : Prop where
  bcast_S_S2x2048x3088 : S_.BroadcastsInDim S2x2048x3088 (![] : Fin 0 → Fin S2x2048x3088.rank)
  reducesTo_S2x2048x3088_S_d0_1_2 : S2x2048x3088.ReducesTo [0, 1, 2] S_
  h_S_ : 0 < S_.numel
  bcast_S_S1x16 : S_.BroadcastsInDim S1x16 (![] : Fin 0 → Fin S1x16.rank)
  reducesTo_S1x16_S_d0_1 : S1x16.ReducesTo [0, 1] S_

variable [Facts]

def fn_part1 {F : FTy → Type} [FloatOps F] (main_v13 : IVec S_ 1) (main_v16 : IVec S1x16 1) : IVec S_ 1 :=
  let main_c_5 : IVec S_ 1 := constantI S_ 1 1#1
  let main_v17 : IVec S_ 1 := (fun x v => Host.reduce IntOp.andi x v reducesTo_S1x16_S_d0_1 h_S_) main_v16 main_c_5
  let main_v18 : IVec S_ 1 := andi main_v13 main_v17
  main_v18

def fn {F : FTy → Type} [FloatOps F] (main_arg0 : FVec F S2x2048x3088 .f32) (main_arg1 : FVec F S1x4x1536 .f32) (main_arg2 : FVec F S1x1536 .f32) (main_arg3 : FVec F S1x16 .f32) (main_arg4 : FVec F S1x16 .f32) (main_arg5 : FVec F S1x16 .f32) (main_arg6 : FVec F S1x1024 .f32) (main_arg7 : FVec F S1x4x128x128 .f32) (main_arg8 : FVec F S1x512 .f32) : IVec S_ 1 :=
  let main_v0 : FVec F S2x2048x3088 .f32 := Host.absf main_arg0
  let main_cst : FVec F S_ .f32 := constant S_ .f32 0x7F800000#32
  let main_v1 : FVec F S2x2048x3088 .f32 := broadcastInDim S2x2048x3088 ![] bcast_S_S2x2048x3088 main_cst
  let main_v2 : IVec S2x2048x3088 1 := cmpf .olt main_v0 main_v1
  let main_c : IVec S_ 1 := constantI S_ 1 1#1
  let main_v3 : IVec S_ 1 := (fun x v => Host.reduce IntOp.andi x v reducesTo_S2x2048x3088_S_d0_1_2 h_S_) main_v2 main_c
  let main_v4 : FVec F S1x16 .f32 := Host.absf main_arg3
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  let main_v9 : FVec F S1x16 .f32 := Host.absf main_arg4
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S1x16 .f32 := Host.absf main_arg5
  let main_cst_4 : FVec F S_ .f32 := constant S_ .f32 0x7F800000#32
  let main_v15 : FVec F S1x16 .f32 := broadcastInDim S1x16 ![] bcast_S_S1x16 main_cst_4
  let main_v16 : IVec S1x16 1 := cmpf .olt main_v14 main_v15
  fn_part1 (F := F) main_v13 main_v16
-- ==== KernelIn.lean ====
abbrev S2x2048x1024 : Shape := ⟨3, ![2, 2048, 1024]⟩
abbrev S2x6144 : Shape := ⟨2, ![2, 6144]⟩
abbrev S1x1024 : Shape := ⟨2, ![1, 1024]⟩
abbrev S1x1024x3088 : Shape := ⟨3, ![1, 1024, 3088]⟩
abbrev S2x2048x3088 : Shape := ⟨3, ![2, 2048, 3088]⟩
abbrev S1x1 : Shape := ⟨2, ![1, 1]⟩
abbrev S2x6x1024 : Shape := ⟨3, ![2, 6, 1024]⟩
abbrev S_ : Shape := ⟨0, ![]⟩
abbrev S2x8x1024 : Shape := ⟨3, ![2, 8, 1024]⟩
abbrev S1024x3088 : Shape := ⟨2, ![1024, 3088]⟩
abbrev S1024x3200 : Shape := ⟨2, ![1024, 3200]⟩
abbrev S4096x3088 : Shape := ⟨2, ![4096, 3088]⟩
abbrev S4096x3200 : Shape := ⟨2, ![4096, 3200]⟩
abbrev S5x1024 : Shape := ⟨2, ![5, 1024]⟩
abbrev S8x1024 : Shape := ⟨2, ![8, 1024]⟩
abbrev S4096x1024 : Shape := ⟨2, ![4096, 1024]⟩
abbrev S1024x1024 : Shape := ⟨2, ![1024, 1024]⟩
abbrev S1x8x1024 : Shape := ⟨3, ![1, 8, 1024]⟩
abbrev S1024 : Shape := ⟨1, ![1024]⟩
abbrev S1024x1 : Shape := ⟨2, ![1024, 1]⟩
abbrev S6x1024 : Shape := ⟨2, ![6, 1024]⟩
abbrev S3x1024 : Shape := ⟨2, ![3, 1024]⟩
abbrev S4x1024 : Shape := ⟨2, ![4, 1024]⟩

abbrev nBuf : Space → Nat
  | .hbm => 40
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S2x6144, .f32⟩
  | .hbm, ⟨2, _⟩ => ⟨S1x1024, .f32⟩
  | .hbm, ⟨3, _⟩ => ⟨S1x1024x3088, .f32⟩
  | .hbm, ⟨4, _⟩ => ⟨S2x2048x1024, .f32⟩
  | .hbm, ⟨5, _⟩ => ⟨S2x6144, .f32⟩
  | .hbm, ⟨6, _⟩ => ⟨S2x2048x3088, .f32⟩
  | .hbm, ⟨7, _⟩ => ⟨S1x1024, .f32⟩
  | .hbm, ⟨8, _⟩ => ⟨S1x1024, .f32⟩
  | .hbm, ⟨9, _⟩ => ⟨S1x1, .f32⟩
  | .hbm, ⟨10, _⟩ => ⟨S2x6x1024, .f32⟩
  | .hbm, ⟨11, _⟩ => ⟨S_, .i32⟩
  | .hbm, ⟨12, _⟩ => ⟨S_, .f32⟩
  | .hbm, ⟨13, _⟩ => ⟨S2x8x1024, .f32⟩
  | .hbm, ⟨14, _⟩ => ⟨S2x6x1024, .f32⟩
  | .hbm, ⟨15, _⟩ => ⟨S_, .i32⟩
  | .hbm, ⟨16, _⟩ => ⟨S_, .f32⟩
  | .hbm, ⟨17, _⟩ => ⟨S2x8x1024, .f32⟩
  | .hbm, ⟨18, _⟩ => ⟨S1024x3088, .f32⟩
  | .hbm, ⟨19, _⟩ => ⟨S1024x3088, .bf16⟩
  | .hbm, ⟨20, _⟩ => ⟨S_, .i32⟩
  | .hbm, ⟨21, _⟩ => ⟨S_, .bf16⟩
  | .hbm, ⟨22, _⟩ => ⟨S1024x3200, .bf16⟩
  | .hbm, ⟨23, _⟩ => ⟨S4096x3088, .f32⟩
  | .hbm, ⟨24, _⟩ => ⟨S4096x3088, .bf16⟩
  | .hbm, ⟨25, _⟩ => ⟨S_, .i32⟩
  | .hbm, ⟨26, _⟩ => ⟨S_, .bf16⟩
  | .hbm, ⟨27, _⟩ => ⟨S4096x3200, .bf16⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S_, .f32⟩
  | .hbm, ⟨33, _⟩ => ⟨S5x1024, .f32⟩
  | .hbm, ⟨34, _⟩ => ⟨S8x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S2x8x1024, .f32⟩
  | .hbm, ⟨39, _⟩ => ⟨S8x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x3200, .bf16⟩
  | .local _ .vmem, ⟨5, _⟩ => ⟨S1024x3200, .bf16⟩
  | .local _ .vmem, ⟨6, _⟩ => ⟨S1x8x1024, .f32⟩
  | .local _ .vmem, ⟨7, _⟩ => ⟨S1x8x1024, .f32⟩
  | .local _ .vmem, ⟨8, _⟩ => ⟨S1x1024, .f32⟩
  | .local _ .vmem, ⟨9, _⟩ => ⟨S1024x3200, .bf16⟩
  | .local _ .vmem, ⟨10, _⟩ => ⟨S1x8x1024, .f32⟩
  | .local _ .vmem, ⟨11, _⟩ => ⟨S1x8x1024, .f32⟩
  | .local _ .vmem, ⟨12, _⟩ => ⟨S8x1024, .f32⟩
  | .local _ .vmem, ⟨13, _⟩ => ⟨S1024x1024, .f32⟩
  | .local _ .vmem, ⟨14, _⟩ => ⟨S1024x1024, .f32⟩
  | .local _ .vmem, ⟨15, _⟩ => ⟨S1x8x1024, .f32⟩
  | .local _ .vmem, ⟨16, _⟩ => ⟨S1x8x1024, .f32⟩
  | .local _ .vmem, ⟨17, _⟩ => ⟨S8x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_call1_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c_1 : Ref sig .tc := ⟨.hbm, 20, rfl⟩
abbrev main_call2_v0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_call3_v0 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_3 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17_0 : Ref sig .tc := ⟨.hbm, 37, rfl⟩
abbrev main_v17_1 : Ref sig .tc := ⟨.hbm, 38, rfl⟩
abbrev main_v17_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x3200 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3200 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceInIdeal.lean ====
abbrev S2x2048x1024 : Shape := ⟨3, ![2, 2048, 1024]⟩
abbrev S2x6144 : Shape := ⟨2, ![2, 6144]⟩
abbrev S1x1024 : Shape := ⟨2, ![1, 1024]⟩
abbrev S1x1024x3088 : Shape := ⟨3, ![1, 1024, 3088]⟩
abbrev S2x2048x3088 : Shape := ⟨3, ![2, 2048, 3088]⟩
abbrev S1x1 : Shape := ⟨2, ![1, 1]⟩
abbrev S2x1x6144 : Shape := ⟨3, ![2, 1, 6144]⟩
abbrev S2x1x1024 : Shape := ⟨3, ![2, 1, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x3088 : Shape := ⟨2, ![1024, 3088]⟩
abbrev S2x1024 : Shape := ⟨2, ![2, 1024]⟩
abbrev S2x6x1024 : Shape := ⟨3, ![2, 6, 1024]⟩
abbrev S2x8x1024 : Shape := ⟨3, ![2, 8, 1024]⟩
abbrev S4x1024 : Shape := ⟨2, ![4, 1024]⟩
abbrev S8x1024 : Shape := ⟨2, ![8, 1024]⟩
abbrev S4096x1024 : Shape := ⟨2, ![4096, 1024]⟩

abbrev nBuf : Space → Nat
  | .hbm => 105
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x6144, .f32⟩
  | .hbm, ⟨2, _⟩ => ⟨S1x1024, .f32⟩
  | .hbm, ⟨3, _⟩ => ⟨S1x1024x3088, .f32⟩
  | .hbm, ⟨4, _⟩ => ⟨S2x2048x1024, .f32⟩
  | .hbm, ⟨5, _⟩ => ⟨S2x6144, .f32⟩
  | .hbm, ⟨6, _⟩ => ⟨S2x2048x3088, .f32⟩
  | .hbm, ⟨7, _⟩ => ⟨S1x1024, .f32⟩
  | .hbm, ⟨8, _⟩ => ⟨S1x1024, .f32⟩
  | .hbm, ⟨9, _⟩ => ⟨S1x1, .f32⟩
  | .hbm, ⟨10, _⟩ => ⟨S2x1x6144, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S1024, .f32⟩
  | .hbm, ⟨18, _⟩ => ⟨S2x2048x1024, .f32⟩
  | .hbm, ⟨19, _⟩ => ⟨S_, .f32⟩
  | .hbm, ⟨20, _⟩ => ⟨S2x2048, .f32⟩
  | .hbm, ⟨21, _⟩ => ⟨S2x2048x1, .f32⟩
  | .hbm, ⟨22, _⟩ => ⟨S_, .f32⟩
  | .hbm, ⟨23, _⟩ => ⟨S2x2048x1, .f32⟩
  | .hbm, ⟨24, _⟩ => ⟨S2x2048x1, .f32⟩
  | .hbm, ⟨25, _⟩ => ⟨S_, .f32⟩
  | .hbm, ⟨26, _⟩ => ⟨S2x2048x1, .f32⟩
  | .hbm, ⟨27, _⟩ => ⟨S2x2048x1, .f32⟩
  | .hbm, ⟨28, _⟩ => ⟨S2x2048x1, .f32⟩
  | .hbm, ⟨29, _⟩ => ⟨S2x2048x1, .f32⟩
  | .hbm, ⟨30, _⟩ => ⟨S_, .f32⟩
  | .hbm, ⟨31, _⟩ => ⟨S2x2048x1, .f32⟩
  | .hbm, ⟨32, _⟩ => ⟨S2x2048x1, .f32⟩
  | .hbm, ⟨33, _⟩ => ⟨S2x2048x1024, .f32⟩
  | .hbm, ⟨34, _⟩ => ⟨S2x2048x1024, .f32⟩
  | .hbm, ⟨35, _⟩ => ⟨S1x1x1024, .f32⟩
  | .hbm, ⟨36, _⟩ => ⟨S2x2048x1024, .f32⟩
  | .hbm, ⟨37, _⟩ => ⟨S2x2048x1024, .f32⟩
  | .hbm, ⟨38, _⟩ => ⟨S_, .f32⟩
  | .hbm, ⟨39, _⟩ => ⟨S2x1x1024, .f32⟩
  | .hbm, ⟨40, _⟩ => ⟨S2x1x1024, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S2x2048x1024, .f32⟩
  | .hbm, ⟨45, _⟩ => ⟨S1024x3088, .f32⟩
  | .hbm, ⟨46, _⟩ => ⟨S2x2048x3088, .f32⟩
  | .hbm, ⟨47, _⟩ => ⟨S2x2048x1024, .f32⟩
  | .hbm, ⟨48, _⟩ => ⟨S_, .f32⟩
  | .hbm, ⟨49, _⟩ => ⟨S2x1024, .f32⟩
  | .hbm, ⟨50, _⟩ => ⟨S2x1x1024, .f32⟩
  | .hbm, ⟨51, _⟩ => ⟨S2x2048x1024, .f32⟩
  | .hbm, ⟨52, _⟩ => ⟨S_, .f32⟩
  | .hbm, ⟨53, _⟩ => ⟨S2x1024, .f32⟩
  | .hbm, ⟨54, _⟩ => ⟨S2x1x1024, .f32⟩
  | .hbm, ⟨55, _⟩ => ⟨S2x2048x1024, .f32⟩
  | .hbm, ⟨56, _⟩ => ⟨S2x2048x1024, .f32⟩
  | .hbm, ⟨57, _⟩ => ⟨S2x2048x1024, .f32⟩
  | .hbm, ⟨58, _⟩ => ⟨S_, .f32⟩
  | .hbm, ⟨59, _⟩ => ⟨S1024, .f32⟩
  | .hbm, ⟨60, _⟩ => ⟨S1x1x1024, .f32⟩
  | .hbm, ⟨61, _⟩ => ⟨S2x2048x1024, .f32⟩
  | .hbm, ⟨62, _⟩ => ⟨S2x2048x1024, .f32⟩
  | .hbm, ⟨63, _⟩ => ⟨S_, .f32⟩
  | .hbm, ⟨64, _⟩ => ⟨S1024, .f32⟩
  | .hbm, ⟨65, _⟩ => ⟨S2x2048x1024, .f32⟩
  | .hbm, ⟨66, _⟩ => ⟨S_, .f32⟩
  | .hbm, ⟨67, _⟩ => ⟨S2x2048, .f32⟩
  | .hbm, ⟨68, _⟩ => ⟨S2x2048x1, .f32⟩
  | .hbm, ⟨69, _⟩ => ⟨S2x2048x1024, .f32⟩
  | .hbm, ⟨70, _⟩ => ⟨S2x2048x1024, .f32⟩
  | .hbm, ⟨71, _⟩ => ⟨S2x2048x1024, .f32⟩
  | .hbm, ⟨72, _⟩ => ⟨S2x2048x1, .f32⟩
  | .hbm, ⟨73, _⟩ => ⟨S_, .f32⟩
  | .hbm, ⟨74, _⟩ => ⟨S2x2048x1, .f32⟩
  | .hbm, ⟨75, _⟩ => ⟨S2x2048x1, .f32⟩
  | .hbm, ⟨76, _⟩ => ⟨S_, .f32⟩
  | .hbm, ⟨77, _⟩ => ⟨S2x2048, .f32⟩
  | .hbm, ⟨78, _⟩ => ⟨S2x2048x1024, .f32⟩
  | .hbm, ⟨79, _⟩ => ⟨S2x2048x1024, .f32⟩
  | .hbm, ⟨80, _⟩ => ⟨S2x2048x1024, .f32⟩
  | .hbm, ⟨81, _⟩ => ⟨S2x2048x1024, .f32⟩
  | .hbm, ⟨82, _⟩ => ⟨S2x2048x1024, .f32⟩
  | .hbm, ⟨83, _⟩ => ⟨S1x1024, .f32⟩
  | .hbm, ⟨84, _⟩ => ⟨S_, .f32⟩
  | .hbm, ⟨85, _⟩ => ⟨S2x1x1024, .f32⟩
  | .hbm, ⟨86, _⟩ => ⟨S_, .f32⟩
  | .hbm, ⟨87, _⟩ => ⟨S2x1x1024, .f32⟩
  | .hbm, ⟨88, _⟩ => ⟨S_, .f32⟩
  | .hbm, ⟨89, _⟩ => ⟨S2x1x1024, .f32⟩
  | .hbm, ⟨90, _⟩ => ⟨S_, .f32⟩
  | .hbm, ⟨91, _⟩ => ⟨S2x1x1024, .f32⟩
  | .hbm, ⟨92, _⟩ => ⟨S2x1x6144, .f32⟩
  | .hbm, ⟨93, _⟩ => ⟨S_, .f32⟩
  | .hbm, ⟨94, _⟩ => ⟨S2x6144, .f32⟩
  | .hbm, ⟨95, _⟩ => ⟨S2x6144, .f32⟩
  | .hbm, ⟨96, _⟩ => ⟨S2x6x1024, .f32⟩
  | .hbm, ⟨97, _⟩ => ⟨S_, .i32⟩
  | .hbm, ⟨98, _⟩ => ⟨S_, .f32⟩
  | .hbm, ⟨99, _⟩ => ⟨S2x8x1024, .f32⟩
  | .hbm, ⟨100, _⟩ => ⟨S1x1024, .f32⟩
  | .hbm, ⟨101, _⟩ => ⟨S_, .f32⟩
  | .hbm, ⟨102, _⟩ => ⟨S4x1024, .f32⟩
  | .hbm, ⟨103, _⟩ => ⟨S8x1024, .f32⟩
  | .hbm, ⟨104, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_cst_14 : Ref sig .tc := ⟨.hbm, 90, rfl⟩
abbrev main_v65 : Ref sig .tc := ⟨.hbm, 91, rfl⟩
abbrev main_v66 : Ref sig .tc := ⟨.hbm, 92, rfl⟩
abbrev main_cst_15 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c : Ref sig .tc := ⟨.hbm, 97, rfl⟩
abbrev main_call0_v0 : Ref sig .tc := ⟨.hbm, 98, rfl⟩
abbrev main_v70 : Ref sig .tc := ⟨.hbm, 99, rfl⟩
abbrev main_v71 : Ref sig .tc := ⟨.hbm, 100, rfl⟩
abbrev main_cst_16 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩

abbrev nD : Nat := 1
abbrev τ : Topo := Topo.v7x

variable {F : FTy → Type} [FloatOps F]
-- ==== KernelMlp.lean ====
abbrev S2x2048x1024 : Shape := ⟨3, ![2, 2048, 1024]⟩
abbrev S2x2048x1536 : Shape := ⟨3, ![2, 2048, 1536]⟩
abbrev S2x6144 : Shape := ⟨2, ![2, 6144]⟩
abbrev S1x1024 : Shape := ⟨2, ![1, 1024]⟩
abbrev S1024 : Shape := ⟨1, ![1024]⟩
abbrev S1x1536x1024 : Shape := ⟨3, ![1, 1536, 1024]⟩
abbrev S1x1024x4096 : Shape := ⟨3, ![1, 1024, 4096]⟩
abbrev S1x4096x1024 : Shape := ⟨3, ![1, 4096, 1024]⟩
abbrev S2x6x1024 : Shape := ⟨3, ![2, 6, 1024]⟩
abbrev S_ : Shape := ⟨0, ![]⟩
abbrev S2x8x1024 : Shape := ⟨3, ![2, 8, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S4096x1024 : Shape := ⟨2, ![4096, 1024]⟩
abbrev S8x512x1024 : Shape := ⟨3, ![8, 512, 1024]⟩
abbrev S4096x1536 : Shape := ⟨2, ![4096, 1536]⟩
abbrev S1536x1024 : Shape := ⟨2, ![1536, 1024]⟩
abbrev S4096x4096 : Shape := ⟨2, ![4096, 4096]⟩
abbrev S8x1024 : Shape := ⟨2, ![8, 1024]⟩
abbrev S256x1024 : Shape := ⟨2, ![256, 1024]⟩
abbrev S256x1536 : Shape := ⟨2, ![256, 1536]⟩
abbrev S1x8x1024 : Shape := ⟨3, ![1, 8, 1024]⟩
abbrev S256x4096 : Shape := ⟨2, ![256, 4096]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩
abbrev S1x512x1024 : Shape := ⟨3, ![1, 512, 1024]⟩
abbrev S512x1024 : Shape := ⟨2, ![512, 1024]⟩
abbrev S1 : Shape := ⟨1, ![1]⟩
abbrev S1x1 : Shape := ⟨2, ![1, 1]⟩
abbrev S2x1024 : Shape := ⟨2, ![2, 1024]⟩
abbrev S5x1024 : Shape := ⟨2, ![5, 1024]⟩

abbrev nBuf : Space → Nat
  | .hbm => 36
  | .vmem => 31
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1536, .f32⟩
  | .hbm, ⟨2, _⟩ => ⟨S2x6144, .f32⟩
  | .hbm, ⟨3, _⟩ => ⟨S1x1024, .f32⟩
  | .hbm, ⟨4, _⟩ => ⟨S1024, .f32⟩
  | .hbm, ⟨5, _⟩ => ⟨S1x1536x1024, .f32⟩
  | .hbm, ⟨6, _⟩ => ⟨S1x1024x4096, .f32⟩
  | .hbm, ⟨7, _⟩ => ⟨S1x4096x1024, .f32⟩
  | .hbm, ⟨8, _⟩ => ⟨S2x2048x1024, .f32⟩
  | .hbm, ⟨9, _⟩ => ⟨S2x6x1024, .f32⟩
  | .hbm, ⟨10, _⟩ => ⟨S_, .i32⟩
  | .hbm, ⟨11, _⟩ => ⟨S_, .f32⟩
  | .hbm, ⟨12, _⟩ => ⟨S2x8x1024, .f32⟩
  | .hbm, ⟨13, _⟩ => ⟨S1024x4096, .f32⟩
  | .hbm, ⟨14, _⟩ => ⟨S1024x4096, .bf16⟩
  | .hbm, ⟨15, _⟩ => ⟨S1024x8x512, .bf16⟩
  | .hbm, ⟨16, _⟩ => ⟨S8x1024x512, .bf16⟩
  | .hbm, ⟨17, _⟩ => ⟨S4096x1024, .f32⟩
  | .hbm, ⟨18, _⟩ => ⟨S4096x1024, .bf16⟩
  | .hbm, ⟨19, _⟩ => ⟨S8x512x1024, .bf16⟩
  | .hbm, ⟨20, _⟩ => ⟨S4096x1024, .f32⟩
  | .hbm, ⟨21, _⟩ => ⟨S4096x1536, .f32⟩
  | .hbm, ⟨22, _⟩ => ⟨S4096x1536, .bf16⟩
  | .hbm, ⟨23, _⟩ => ⟨S4096x1024, .f32⟩
  | .hbm, ⟨24, _⟩ => ⟨S1x1024, .f32⟩
  | .hbm, ⟨25, _⟩ => ⟨S1536x1024, .f32⟩
  | .hbm, ⟨26, _⟩ => ⟨S1536x1024, .bf16⟩
  | .hbm, ⟨27, _⟩ => ⟨S4096x1024, .bf16⟩
  | .hbm, ⟨28, _⟩ => ⟨S4096x1536, .bf16⟩
  | .hbm, ⟨29, _⟩ => ⟨S4096x1024, .f32⟩
  | .hbm, ⟨30, _⟩ => ⟨S4096x1024, .bf16⟩
  | .hbm, ⟨31, _⟩ => ⟨S4096x4096, .bf16⟩
  | .hbm, ⟨32, _⟩ => ⟨S4096x4096, .bf16⟩
  | .hbm, ⟨33, _⟩ => ⟨S4096x1024, .bf16⟩
  | .hbm, ⟨34, _⟩ => ⟨S2x8x1024, .f32⟩
  | .hbm, ⟨35, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1536, .bf16⟩
  | .local _ .vmem, ⟨3, _⟩ => ⟨S256x1536, .bf16⟩
  | .local _ .vmem, ⟨4, _⟩ => ⟨S256x1024, .f32⟩
  | .local _ .vmem, ⟨5, _⟩ => ⟨S256x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x1024, .f32⟩
  | .local _ .vmem, ⟨9, _⟩ => ⟨S1x1024, .f32⟩
  | .local _ .vmem, ⟨10, _⟩ => ⟨S1536x1024, .bf16⟩
  | .local _ .vmem, ⟨11, _⟩ => ⟨S8x1024x512, .bf16⟩
  | .local _ .vmem, ⟨12, _⟩ => ⟨S8x512x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1536, .bf16⟩
  | .local _ .vmem, ⟨16, _⟩ => ⟨S256x1536, .bf16⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S256x4096, .bf16⟩
  | .local _ .vmem, ⟨22, _⟩ => ⟨S256x4096, .bf16⟩
  | .local _ .vmem, ⟨23, _⟩ => ⟨S256x4096, .bf16⟩
  | .local _ .vmem, ⟨24, _⟩ => ⟨S256x4096, .bf16⟩
  | .local _ .vmem, ⟨25, _⟩ => ⟨S256x1024, .bf16⟩
  | .local _ .vmem, ⟨26, _⟩ => ⟨S256x1024, .bf16⟩
  | .local _ .vmem, ⟨27, _⟩ => ⟨S1x8x1024, .f32⟩
  | .local _ .vmem, ⟨28, _⟩ => ⟨S1x8x1024, .f32⟩
  | .local _ .vmem, ⟨29, _⟩ => ⟨S8x1024, .f32⟩
  | .local _ .vmem, ⟨30, _⟩ => ⟨S256x4096, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_v16_3 : Ref sig .tc := ⟨.hbm, 30, rfl⟩
abbrev main_v16_4 : Ref sig .tc := ⟨.hbm, 31, rfl⟩
abbrev main_v16_5 : Ref sig .tc := ⟨.hbm, 32, rfl⟩
abbrev main_v16_6 : Ref sig .tc := ⟨.hbm, 33, rfl⟩
abbrev main_v16_7 : Ref sig .tc := ⟨.hbm, 34, rfl⟩
abbrev main_v16_8 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x8x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceMlpIdeal.lean ====
abbrev S2x2048x1024 : Shape := ⟨3, ![2, 2048, 1024]⟩
abbrev S2x2048x1536 : Shape := ⟨3, ![2, 2048, 1536]⟩
abbrev S2x6144 : Shape := ⟨2, ![2, 6144]⟩
abbrev S1x1024 : Shape := ⟨2, ![1, 1024]⟩
abbrev S1024 : Shape := ⟨1, ![1024]⟩
abbrev S1x1536x1024 : Shape := ⟨3, ![1, 1536, 1024]⟩
abbrev S1x1024x4096 : Shape := ⟨3, ![1, 1024, 4096]⟩
abbrev S1x4096x1024 : Shape := ⟨3, ![1, 4096, 1024]⟩
abbrev S_ : Shape := ⟨0, ![]⟩
abbrev S2x2048x4096 : Shape := ⟨3, ![2, 2048, 4096]⟩
abbrev S2x1x6144 : Shape := ⟨3, ![2, 1, 6144]⟩
abbrev S2x1x1024 : Shape := ⟨3, ![2, 1, 1024]⟩
abbrev S1536x1024 : Shape := ⟨2, ![1536, 1024]⟩
abbrev S2x2048 : Shape := ⟨2, ![2, 2048]⟩
abbrev S2x2048x1 : Shape := ⟨3, ![2, 2048, 1]⟩
abbrev S1x1x1024 : Shape := ⟨3, ![1, 1, 1024]⟩
abbrev S1024x4096 : Shape := ⟨2, ![1024, 4096]⟩
abbrev S4096x1024 : Shape := ⟨2, ![4096, 1024]⟩
abbrev S2x1024 : Shape := ⟨2, ![2, 1024]⟩
abbrev S2x6x1024 : Shape := ⟨3, ![2, 6, 1024]⟩
abbrev S2x8x1024 : Shape := ⟨3, ![2, 8, 1024]⟩
abbrev S5x1024 : Shape := ⟨2, ![5, 1024]⟩
abbrev S8x1024 : Shape := ⟨2, ![8, 1024]⟩
abbrev S4096x1536 : Shape := ⟨2, ![4096, 1536]⟩
abbrev S4096x4096 : Shape := ⟨2, ![4096, 4096]⟩

abbrev nBuf : Space → Nat
  | .hbm => 227
  | .vmem => 0
  | .smem => 0
  | _ => 0

abbrev hbmTy0_0 (i : Nat) : BufTy := match i % 128 with
  | 0 => ⟨S2x2048x1024, .f32⟩
  | 1 => ⟨S2x2048x1536, .f32⟩
  | 2 => ⟨S2x6144, .f32⟩
  | 3 => ⟨S1x1024, .f32⟩
  | 4 => ⟨S1024, .f32⟩
  | 5 => ⟨S1x1536x1024, .f32⟩
  | 6 => ⟨S1x1024x4096, .f32⟩
  | 7 => ⟨S1x4096x1024, .f32⟩
  | 8 => ⟨S2x2048x1024, .f32⟩
  | 9 => ⟨S_, .f32⟩
  | 10 => ⟨S2x2048x1024, .f32⟩
  | 11 => ⟨S_, .f32⟩
  | 12 => ⟨S2x2048x4096, .f32⟩
  | 13 => ⟨S2x1x6144, .f32⟩
  | 14 => ⟨S2x1x1024, .f32⟩
  | 15 => ⟨S2x1x1024, .f32⟩
  | 16 => ⟨S2x1x1024, .f32⟩
  | 17 => ⟨S2x1x1024, .f32⟩
  | 18 => ⟨S2x1x1024, .f32⟩
  | 19 => ⟨S2x1x1024, .f32⟩
  | 20 => ⟨S1536x1024, .f32⟩
  | 21 => ⟨S2x2048x1024, .f32⟩
  | 22 => ⟨S2x2048x1024, .f32⟩
  | 23 => ⟨S2x2048x1024, .f32⟩
  | 24 => ⟨S2x2048x1024, .f32⟩
  | 25 => ⟨S2x2048x1024, .f32⟩
  | 26 => ⟨S1024, .f32⟩
  | 27 => ⟨S2x2048x1024, .f32⟩
  | 28 => ⟨S_, .f32⟩
  | 29 => ⟨S2x2048, .f32⟩
  | 30 => ⟨S2x2048x1, .f32⟩
  | 31 => ⟨S_, .f32⟩
  | 32 => ⟨S2x2048x1, .f32⟩
  | 33 => ⟨S2x2048x1, .f32⟩
  | 34 => ⟨S_, .f32⟩
  | 35 => ⟨S2x2048x1, .f32⟩
  | 36 => ⟨S2x2048x1, .f32⟩
  | 37 => ⟨S2x2048x1, .f32⟩
  | 38 => ⟨S2x2048x1, .f32⟩
  | 39 => ⟨S_, .f32⟩
  | 40 => ⟨S2x2048x1, .f32⟩
  | 41 => ⟨S2x2048x1, .f32⟩
  | 42 => ⟨S2x2048x1024, .f32⟩
  | 43 => ⟨S2x2048x1024, .f32⟩
  | 44 => ⟨S1x1x1024, .f32⟩
  | 45 => ⟨S2x2048x1024, .f32⟩
  | 46 => ⟨S2x2048x1024, .f32⟩
  | 47 => ⟨S_, .f32⟩
  | 48 => ⟨S2x1x1024, .f32⟩
  | 49 => ⟨S2x1x1024, .f32⟩
  | 50 => ⟨S2x2048x1024, .f32⟩
  | 51 => ⟨S2x2048x1024, .f32⟩
  | 52 => ⟨S2x2048x1024, .f32⟩
  | 53 => ⟨S2x2048x1024, .f32⟩
  | 54 => ⟨S1024x4096, .f32⟩
  | 55 => ⟨S2x2048x4096, .f32⟩
  | 56 => ⟨S2x2048x4096, .f32⟩
  | 57 => ⟨S_, .f32⟩
  | 58 => ⟨S2x2048x4096, .f32⟩
  | 59 => ⟨S2x2048x4096, .f32⟩
  | 60 => ⟨S_, .f32⟩
  | 61 => ⟨S2x2048x4096, .f32⟩
  | 62 => ⟨S2x2048x4096, .i1⟩
  | 63 => ⟨S_, .f32⟩
  | 64 => ⟨S2x2048x4096, .f32⟩
  | 65 => ⟨S2x2048x4096, .f32⟩
  | 66 => ⟨S_, .f32⟩
  | 67 => ⟨S2x2048x4096, .f32⟩
  | 68 => ⟨S2x2048x4096, .f32⟩
  | 69 => ⟨S4096x1024, .f32⟩
  | 70 => ⟨S2x2048x1024, .f32⟩
  | 71 => ⟨S2x2048x1024, .f32⟩
  | 72 => ⟨S2x2048x1024, .f32⟩
  | 73 => ⟨S2x2048x1024, .f32⟩
  | 74 => ⟨S2x2048x1024, .f32⟩
  | 75 => ⟨S2x2048x1024, .f32⟩
  | 76 => ⟨S_, .f32⟩
  | 77 => ⟨S2x2048, .f32⟩
  | 78 => ⟨S2x2048x1, .f32⟩
  | 79 => ⟨S_, .f32⟩
  | 80 => ⟨S2x2048x1, .f32⟩
  | 81 => ⟨S2x2048x1, .f32⟩
  | 82 => ⟨S_, .f32⟩
  | 83 => ⟨S2x2048x1, .f32⟩
  | 84 => ⟨S2x2048x1, .f32⟩
  | 85 => ⟨S2x2048x1, .f32⟩
  | 86 => ⟨S2x2048x1, .f32⟩
  | 87 => ⟨S_, .f32⟩
  | 88 => ⟨S2x2048x1, .f32⟩
  | 89 => ⟨S2x2048x1, .f32⟩
  | 90 => ⟨S2x2048x1024, .f32⟩
  | 91 => ⟨S2x2048x1024, .f32⟩
  | 92 => ⟨S1x1x1024, .f32⟩
  | 93 => ⟨S2x2048x1024, .f32⟩
  | 94 => ⟨S2x2048x1024, .f32⟩
  | 95 => ⟨S2x2048x1024, .f32⟩
  | 96 => ⟨S2x2048x1024, .f32⟩
  | 97 => ⟨S_, .f32⟩
  | 98 => ⟨S2x2048x1024, .f32⟩
  | 99 => ⟨S2x2048x1024, .f32⟩
  | 100 => ⟨S_, .f32⟩
  | 101 => ⟨S2x2048, .f32⟩
  | 102 => ⟨S_, .f32⟩
  | 103 => ⟨S2x2048, .f32⟩
  | 104 => ⟨S2x2048, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S2x2048, .f32⟩
  | 113 => ⟨S_, .f32⟩
  | 114 => ⟨S2x2048, .f32⟩
  | 115 => ⟨S2x2048, .f32⟩
  | 116 => ⟨S2x2048x1024, .f32⟩
  | 117 => ⟨S2x2048x1024, .f32⟩
  | 118 => ⟨S2x2048x1024, .f32⟩
  | 119 => ⟨S_, .f32⟩
  | 120 => ⟨S1024, .f32⟩
  | 121 => ⟨S1x1x1024, .f32⟩
  | 122 => ⟨S2x2048x1024, .f32⟩
  | 123 => ⟨S2x2048x1024, .f32⟩
  | 124 => ⟨S_, .f32⟩
  | 125 => ⟨S1024, .f32⟩
  | 126 => ⟨S2x2048x1024, .f32⟩
  | 127 => ⟨S_, .f32⟩
  | _ => ⟨S2x2048x1024, .f32⟩

abbrev hbmTy0_1 (i : Nat) : BufTy := match i % 128 with
  | 0 => ⟨S2x2048, .f32⟩
  | 1 => ⟨S2x2048x1, .f32⟩
  | 2 => ⟨S2x2048x1024, .f32⟩
  | 3 => ⟨S2x2048x1024, .f32⟩
  | 4 => ⟨S2x2048x1, .f32⟩
  | 5 => ⟨S_, .f32⟩
  | 6 => ⟨S2x2048x1, .f32⟩
  | 7 => ⟨S2x2048x1, .f32⟩
  | 8 => ⟨S_, .f32⟩
  | 9 => ⟨S2x2048, .f32⟩
  | 10 => ⟨S2x2048x1024, .f32⟩
  | 11 => ⟨S2x2048x1024, .f32⟩
  | 12 => ⟨S2x2048x1024, .f32⟩
  | 13 => ⟨S2x2048x1024, .f32⟩
  | 14 => ⟨S2x2048x1024, .f32⟩
  | 15 => ⟨S2x2048x1024, .f32⟩
  | 16 => ⟨S2x2048x1024, .f32⟩
  | 17 => ⟨S2x2048x1024, .f32⟩
  | 18 => ⟨S_, .f32⟩
  | 19 => ⟨S2x1024, .f32⟩
  | 20 => ⟨S2x1x1024, .f32⟩
  | 21 => ⟨S2x2048x4096, .f32⟩
  | 22 => ⟨S2x2048x4096, .f32⟩
  | 23 => ⟨S_, .f32⟩
  | 24 => ⟨S2x2048x4096, .f32⟩
  | 25 => ⟨S2x2048x4096, .f32⟩
  | 26 => ⟨S2x2048x1024, .f32⟩
  | 27 => ⟨S_, .f32⟩
  | 28 => ⟨S2x1024, .f32⟩
  | 29 => ⟨S2x1x1024, .f32⟩
  | 30 => ⟨S2x2048x1024, .f32⟩
  | 31 => ⟨S_, .f32⟩
  | 32 => ⟨S2x1024, .f32⟩
  | 33 => ⟨S2x1x1024, .f32⟩
  | 34 => ⟨S2x2048x1024, .f32⟩
  | 35 => ⟨S2x2048x1024, .f32⟩
  | 36 => ⟨S2x2048x1024, .f32⟩
  | 37 => ⟨S_, .f32⟩
  | 38 => ⟨S1024, .f32⟩
  | 39 => ⟨S1x1x1024, .f32⟩
  | 40 => ⟨S2x2048x1024, .f32⟩
  | 41 => ⟨S2x2048x1024, .f32⟩
  | 42 => ⟨S_, .f32⟩
  | 43 => ⟨S1024, .f32⟩
  | 44 => ⟨S2x2048x1024, .f32⟩
  | 45 => ⟨S_, .f32⟩
  | 46 => ⟨S2x2048, .f32⟩
  | 47 => ⟨S2x2048x1, .f32⟩
  | 48 => ⟨S2x2048x1024, .f32⟩
  | 49 => ⟨S2x2048x1024, .f32⟩
  | 50 => ⟨S2x2048x1024, .f32⟩
  | 51 => ⟨S2x2048x1, .f32⟩
  | 52 => ⟨S_, .f32⟩
  | 53 => ⟨S2x2048x1, .f32⟩
  | 54 => ⟨S2x2048x1, .f32⟩
  | 55 => ⟨S_, .f32⟩
  | 56 => ⟨S2x2048, .f32⟩
  | 57 => ⟨S2x2048x1024, .f32⟩
  | 58 => ⟨S2x2048x1024, .f32⟩
  | 59 => ⟨S2x2048x1024, .f32⟩
  | 60 => ⟨S2x2048x1024, .f32⟩
  | 61 => ⟨S2x2048x1024, .f32⟩
  | 62 => ⟨S1x1024, .f32⟩
  | 63 => ⟨S2x2048x1024, .f32⟩
  | 64 => ⟨S2x2048x1024, .f32⟩
  | 65 => ⟨S2x2048x1024, .f32⟩
  | 66 => ⟨S_, .f32⟩
  | 67 => ⟨S2x1024, .f32⟩
  | 68 => ⟨S2x1x1024, .f32⟩
  | 69 => ⟨S2x2048x1536, .f32⟩
  | 70 => ⟨S_, .f32⟩
  | 71 => ⟨S2x1x1024, .f32⟩
  | 72 => ⟨S_, .f32⟩
  | 73 => ⟨S2x1x1024, .f32⟩
  | 74 => ⟨S2x1x6144, .f32⟩
  | 75 => ⟨S_, .f32⟩
  | 76 => ⟨S2x6144, .f32⟩
  | 77 => ⟨S2x6x1024, .f32⟩
  | 78 => ⟨S_, .i32⟩
  | 79 => ⟨S_, .f32⟩
  | 80 => ⟨S2x8x1024, .f32⟩
  | 81 => ⟨S1x1024, .f32⟩
  | 82 => ⟨S1x1024, .f32⟩
  | 83 => ⟨S_, .f32⟩
  | 84 => ⟨S5x1024, .f32⟩
  | 85 => ⟨S8x1024, .f32⟩
  | 86 => ⟨S4096x1024, .f32⟩
  | 87 => ⟨S4096x1024, .bf16⟩
  | 88 => ⟨S4096x1536, .f32⟩
  | 89 => ⟨S4096x1536, .bf16⟩
  | 90 => ⟨S4096x1024, .f32⟩
  | 91 => ⟨S4096x1024, .f32⟩
  | 92 => ⟨S4096x1024, .bf16⟩
  | 93 => ⟨S4096x4096, .f32⟩
  | 94 => ⟨S4096x4096, .bf16⟩
  | 95 => ⟨S4096x4096, .f32⟩
  | 96 => ⟨S4096x4096, .bf16⟩
  | 97 => ⟨S4096x1024, .f32⟩
  | 98 => ⟨S4096x1024, .bf16⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_call0_cst : Ref sig .tc := ⟨.hbm, 57, rfl⟩
abbrev main_call0_v0 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_13 : Ref sig .tc := ⟨.hbm, 97, rfl⟩
abbrev main_v72 : Ref sig .tc := ⟨.hbm, 98, rfl⟩
abbrev main_v73 : Ref sig .tc := ⟨.hbm, 99, rfl⟩
abbrev main_cst_14 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_v76 : Ref sig .tc := ⟨.hbm, 104, rfl⟩
abbrev main_cst_16 : Ref sig .tc := ⟨.hbm, 105, rfl⟩
abbrev main_v77 : Ref sig .tc := ⟨.hbm, 106, rfl⟩
abbrev main_cst_17 : Ref sig .tc := ⟨.hbm, 107, rfl⟩
abbrev main_v78 : Ref sig .tc := ⟨.hbm, 108, rfl⟩
abbrev main_cst_18 : Ref sig .tc := ⟨.hbm, 109, rfl⟩
abbrev main_cst_19 : Ref sig .tc := ⟨.hbm, 110, rfl⟩
abbrev main_v79 : Ref sig .tc := ⟨.hbm, 111, rfl⟩
abbrev main_v80 : Ref sig .tc := ⟨.hbm, 112, rfl⟩
abbrev main_cst_20 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_21 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_22 : Ref sig .tc := ⟨.hbm, 124, rfl⟩
abbrev main_v90 : Ref sig .tc := ⟨.hbm, 125, rfl⟩
abbrev main_v91 : Ref sig .tc := ⟨.hbm, 126, rfl⟩
abbrev main_cst_23 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_24 : Ref sig .tc := ⟨.hbm, 133, rfl⟩
abbrev main_v97 : Ref sig .tc := ⟨.hbm, 134, rfl⟩
abbrev main_v98 : Ref sig .tc := ⟨.hbm, 135, rfl⟩
abbrev main_cst_25 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_26 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_cst_27 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_28 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_29 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_cst_30 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_cst_31 : Ref sig .tc := ⟨.hbm, 170, rfl⟩
abbrev main_v127 : Ref sig .tc := ⟨.hbm, 171, rfl⟩
abbrev main_v128 : Ref sig .tc := ⟨.hbm, 172, rfl⟩
abbrev main_cst_32 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_33 : Ref sig .tc := ⟨.hbm, 180, rfl⟩
abbrev main_v135 : Ref sig .tc := ⟨.hbm, 181, rfl⟩
abbrev main_v136 : Ref sig .tc := ⟨.hbm, 182, rfl⟩
abbrev main_cst_34 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_cst_35 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_cst_36 : Ref sig .tc := ⟨.hbm, 198, rfl⟩
abbrev main_v150 : Ref sig .tc := ⟨.hbm, 199, rfl⟩
abbrev main_cst_37 : Ref sig .tc := ⟨.hbm, 200, rfl⟩
abbrev main_v151 : Ref sig .tc := ⟨.hbm, 201, rfl⟩
abbrev main_v152 : Ref sig .tc := ⟨.hbm, 202, rfl⟩
abbrev main_cst_38 : Ref sig .tc := ⟨.hbm, 203, rfl⟩
abbrev main_v153 : Ref sig .tc := ⟨.hbm, 204, rfl⟩
abbrev main_v154 : Ref sig .tc := ⟨.hbm, 205, rfl⟩
abbrev main_c : Ref sig .tc := ⟨.hbm, 206, rfl⟩
abbrev main_call1_v0 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_cst_39 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩

abbrev nD : Nat := 1
abbrev τ : Topo := Topo.v7x

variable {F : FTy → Type} [FloatOps F]
-- ==== KernelAda.lean ====
abbrev S16x1024 : Shape := ⟨2, ![16, 1024]⟩
abbrev S16x768 : Shape := ⟨2, ![16, 768]⟩
abbrev S1x1024x768 : Shape := ⟨3, ![1, 1024, 768]⟩
abbrev S1024x768 : Shape := ⟨2, ![1024, 768]⟩
abbrev S16x256 : Shape := ⟨2, ![16, 256]⟩
abbrev S256x768 : Shape := ⟨2, ![256, 768]⟩

abbrev nBuf : Space → Nat
  | .hbm => 12
  | .vmem => 17
  | .smem => 0
  | _ => 0

abbrev bufTy : (tb : Table) → Fin (tcTables nBuf tb) → BufTy
  | .hbm, ⟨0, _⟩ => ⟨S16x1024, .f32⟩
  | .hbm, ⟨1, _⟩ => ⟨S16x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S1024x768, .f32⟩
  | .local _ .vmem, ⟨0, _⟩ => ⟨S16x256, .f32⟩
  | .local _ .vmem, ⟨1, _⟩ => ⟨S16x256, .f32⟩
  | .local _ .vmem, ⟨2, _⟩ => ⟨S16x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceAdaIdeal.lean ====
abbrev S16x1024 : Shape := ⟨2, ![16, 1024]⟩
abbrev S16x768 : Shape := ⟨2, ![16, 768]⟩
abbrev S1x1024x768 : Shape := ⟨3, ![1, 1024, 768]⟩
abbrev S_ : Shape := ⟨0, ![]⟩
abbrev S1024x768 : Shape := ⟨2, ![1024, 768]⟩
abbrev S768x1024 : Shape := ⟨2, ![768, 1024]⟩

abbrev nBuf : Space → Nat
  | .hbm => 56
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S16x1024, .f32⟩
  | .hbm, ⟨14, _⟩ => ⟨S1024x768, .f32⟩
  | .hbm, ⟨15, _⟩ => ⟨S16x768, .f32⟩
  | .hbm, ⟨16, _⟩ => ⟨S768x1024, .f32⟩
  | .hbm, ⟨17, _⟩ => ⟨S1024x768, .f32⟩
  | .hbm, ⟨18, _⟩ => ⟨S1x1024x768, .f32⟩
  | .hbm, ⟨19, _⟩ => ⟨S_, .f32⟩
  | .hbm, ⟨20, _⟩ => ⟨S1x1024x768, .f32⟩
  | .hbm, ⟨21, _⟩ => ⟨S1x1024x768, .f32⟩
  | .hbm, ⟨22, _⟩ => ⟨S_, .f32⟩
  | .hbm, ⟨23, _⟩ => ⟨S1x1024x768, .f32⟩
  | .hbm, ⟨24, _⟩ => ⟨S1x1024x768, .f32⟩
  | .hbm, ⟨25, _⟩ => ⟨S1x1024x768, .f32⟩
  | .hbm, ⟨26, _⟩ => ⟨S_, .f32⟩
  | .hbm, ⟨27, _⟩ => ⟨S1x1024x768, .f32⟩
  | .hbm, ⟨28, _⟩ => ⟨S1x1024x768, .f32⟩
  | .hbm, ⟨29, _⟩ => ⟨S1x1024x768, .f32⟩
  | .hbm, ⟨30, _⟩ => ⟨S_, .f32⟩
  | .hbm, ⟨31, _⟩ => ⟨S1x1024x768, .f32⟩
  | .hbm, ⟨32, _⟩ => ⟨S1x1024x768, .f32⟩
  | .hbm, ⟨33, _⟩ => ⟨S1x1024x768, .f32⟩
  | .hbm, ⟨34, _⟩ => ⟨S_, .f32⟩
  | .hbm, ⟨35, _⟩ => ⟨S1x1024x768, .f32⟩
  | .hbm, ⟨36, _⟩ => ⟨S1x1024x768, .f32⟩
  | .hbm, ⟨37, _⟩ => ⟨S_, .f32⟩
  | .hbm, ⟨38, _⟩ => ⟨S1x1024x768, .f32⟩
  | .hbm, ⟨39, _⟩ => ⟨S1x1024x768, .f32⟩
  | .hbm, ⟨40, _⟩ => ⟨S1x1024x768, .f32⟩
  | .hbm, ⟨41, _⟩ => ⟨S_, .f32⟩
  | .hbm, ⟨42, _⟩ => ⟨S1x1024x768, .f32⟩
  | .hbm, ⟨43, _⟩ => ⟨S1x1024x768, .f32⟩
  | .hbm, ⟨44, _⟩ => ⟨S1x1024x768, .f32⟩
  | .hbm, ⟨45, _⟩ => ⟨S_, .f32⟩
  | .hbm, ⟨46, _⟩ => ⟨S1x1024x768, .f32⟩
  | .hbm, ⟨47, _⟩ => ⟨S1x1024x768, .f32⟩
  | .hbm, ⟨48, _⟩ => ⟨S1x1024x768, .f32⟩
  | .hbm, ⟨49, _⟩ => ⟨S_, .f32⟩
  | .hbm, ⟨50, _⟩ => ⟨S1x1024x768, .f32⟩
  | .hbm, ⟨51, _⟩ => ⟨S1x1024x768, .f32⟩
  | .hbm, ⟨52, _⟩ => ⟨S1024x768, .f32⟩
  | .hbm, ⟨53, _⟩ => ⟨S1024x768, .f32⟩
  | .hbm, ⟨54, _⟩ => ⟨S1024x768, .f32⟩
  | .hbm, ⟨55, _⟩ => ⟨S1024x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩

abbrev nD : Nat := 1
abbrev τ : Topo := Topo.v7x

variable {F : FTy → Type} [FloatOps F]
-- ==== KernelFwd.lean ====
abbrev S2x2048x3088 : Shape := ⟨3, ![2, 2048, 3088]⟩
abbrev S1x4x1536 : Shape := ⟨3, ![1, 4, 1536]⟩
abbrev S1x1536 : Shape := ⟨2, ![1, 1536]⟩
abbrev S1x16 : Shape := ⟨2, ![1, 16]⟩
abbrev S1x1024 : Shape := ⟨2, ![1, 1024]⟩
abbrev S1x4x128x128 : Shape := ⟨4, ![1, 4, 128, 128]⟩
abbrev S1x512 : Shape := ⟨2, ![1, 512]⟩
abbrev S4096x3088 : Shape := ⟨2, ![4096, 3088]⟩
abbrev S_ : Shape := ⟨0, ![]⟩
abbrev S4096x3200 : Shape := ⟨2, ![4096, 3200]⟩
abbrev S3x16 : Shape := ⟨2, ![3, 16]⟩
abbrev S8x128 : Shape := ⟨2, ![8, 128]⟩
abbrev S4x1536 : Shape := ⟨2, ![4, 1536]⟩
abbrev S4x128x128 : Shape := ⟨3, ![4, 128, 128]⟩
abbrev S4096x1536 : Shape := ⟨2, ![4096, 1536]⟩
abbrev S2x16x2x128x512 : Shape := ⟨5, ![2, 16, 2, 128, 512]⟩
abbrev S128x3200 : Shape := ⟨2, ![128, 3200]⟩
abbrev S128x1536 : Shape := ⟨2, ![128, 1536]⟩
abbrev S1x1x2x128x512 : Shape := ⟨5, ![1, 1, 2, 128, 512]⟩
abbrev S16x512 : Shape := ⟨2, ![16, 512]⟩
abbrev S8x1536 : Shape := ⟨2, ![8, 1536]⟩
abbrev S2x128x512 : Shape := ⟨3, ![2, 128, 512]⟩
abbrev S128x1024 : Shape := ⟨2, ![128, 1024]⟩
abbrev S128x512 : Shape := ⟨2, ![128, 512]⟩
abbrev S1x128x512 : Shape := ⟨3, ![1, 128, 512]⟩
abbrev S1x1x1x128x512 : Shape := ⟨5, ![1, 1, 1, 128, 512]⟩
abbrev S128x128 : Shape := ⟨2, ![128, 128]⟩
abbrev S128x1 : Shape := ⟨2, ![128, 1]⟩
abbrev S144x512 : Shape := ⟨2, ![144, 512]⟩
abbrev S1x128x128 : Shape := ⟨3, ![1, 128, 128]⟩
abbrev S136x1536 : Shape := ⟨2, ![136, 1536]⟩
abbrev S128x256 : Shape := ⟨2, ![128, 256]⟩
abbrev S1x128 : Shape := ⟨2, ![1, 128]⟩
abbrev S6x128 : Shape := ⟨2, ![6, 128]⟩
abbrev S392x128 : Shape := ⟨2, ![392, 128]⟩
abbrev S392x1024 : Shape := ⟨2, ![392, 1024]⟩
abbrev S128x64 : Shape := ⟨2, ![128, 64]⟩
abbrev S128 : Shape := ⟨1, ![128]⟩

abbrev nBuf : Space → Nat
  | .hbm => 22
  | .vmem => 18
  | .smem => 0
  | _ => 0

abbrev bufTy : (tb : Table) → Fin (tcTables nBuf tb) → BufTy
  | .hbm, ⟨0, _⟩ => ⟨S2x2048x3088, .f32⟩
  | .hbm, ⟨1, _⟩ => ⟨S1x4x1536, .f32⟩
  | .hbm, ⟨2, _⟩ => ⟨S1x1536, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x1024, .f32⟩
  | .hbm, ⟨7, _⟩ => ⟨S1x4x128x128, .f32⟩
  | .hbm, ⟨8, _⟩ => ⟨S1x512, .f32⟩
  | .hbm, ⟨9, _⟩ => ⟨S4096x3088, .f32⟩
  | .hbm, ⟨10, _⟩ => ⟨S_, .i32⟩
  | .hbm, ⟨11, _⟩ => ⟨S_, .f32⟩
  | .hbm, ⟨12, _⟩ => ⟨S4096x3200, .f32⟩
  | .hbm, ⟨13, _⟩ => ⟨S3x16, .f32⟩
  | .hbm, ⟨14, _⟩ => ⟨S_, .i32⟩
  | .hbm, ⟨15, _⟩ => ⟨S_, .f32⟩
  | .hbm, ⟨16, _⟩ => ⟨S8x128, .f32⟩
  | .hbm, ⟨17, _⟩ => ⟨S4x1536, .f32⟩
  | .hbm, ⟨18, _⟩ => ⟨S4x128x128, .f32⟩
  | .hbm, ⟨19, _⟩ => ⟨S4096x1536, .bf16⟩
  | .hbm, ⟨20, _⟩ => ⟨S2x16x2x128x512, .f32⟩
  | .hbm, ⟨21, _⟩ => ⟨S4096x1536, .f32⟩
  | .local _ .vmem, ⟨0, _⟩ => ⟨S128x3200, .f32⟩
  | .local _ .vmem, ⟨1, _⟩ => ⟨S128x3200, .f32⟩
  | .local _ .vmem, ⟨2, _⟩ => ⟨S4x1536, .f32⟩
  | .local _ .vmem, ⟨3, _⟩ => ⟨S1x1536, .f32⟩
  | .local _ .vmem, ⟨4, _⟩ => ⟨S8x128, .f32⟩
  | .local _ .vmem, ⟨5, _⟩ => ⟨S1x1024, .f32⟩
  | .local _ .vmem, ⟨6, _⟩ => ⟨S4x128x128, .f32⟩
  | .local _ .vmem, ⟨7, _⟩ => ⟨S1x512, .f32⟩
  | .local _ .vmem, ⟨8, _⟩ => ⟨S128x1536, .bf16⟩
  | .local _ .vmem, ⟨9, _⟩ => ⟨S128x1536, .bf16⟩
  | .local _ .vmem, ⟨10, _⟩ => ⟨S1x1x2x128x512, .f32⟩
  | .local _ .vmem, ⟨11, _⟩ => ⟨S1x1x2x128x512, .f32⟩
  | .local _ .vmem, ⟨12, _⟩ => ⟨S128x1536, .f32⟩
  | .local _ .vmem, ⟨13, _⟩ => ⟨S128x1536, .f32⟩
  | .local _ .vmem, ⟨14, _⟩ => ⟨S16x512, .f32⟩
  | .local _ .vmem, ⟨15, _⟩ => ⟨S8x1536, .f32⟩
  | .local _ .vmem, ⟨16, _⟩ => ⟨S2x128x512, .f32⟩
  | .local _ .vmem, ⟨17, _⟩ => ⟨S128x1024, .f32⟩
  | _, _ => ⟨S2x2048x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_call1_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v6_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x2x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceFwdIdeal.lean ====
abbrev S2x2048x3088 : Shape := ⟨3, ![2, 2048, 3088]⟩
abbrev S1x4x1536 : Shape := ⟨3, ![1, 4, 1536]⟩
abbrev S1x1536 : Shape := ⟨2, ![1, 1536]⟩
abbrev S1x16 : Shape := ⟨2, ![1, 16]⟩
abbrev S1x1024 : Shape := ⟨2, ![1, 1024]⟩
abbrev S1x4x128x128 : Shape := ⟨4, ![1, 4, 128, 128]⟩
abbrev S1x512 : Shape := ⟨2, ![1, 512]⟩
abbrev S2x2048x512 : Shape := ⟨3, ![2, 2048, 512]⟩
abbrev S2x2048x1024 : Shape := ⟨3, ![2, 2048, 1024]⟩
abbrev S2x2048x1536 : Shape := ⟨3, ![2, 2048, 1536]⟩
abbrev S2x2048x16 : Shape := ⟨3, ![2, 2048, 16]⟩
abbrev S4x128x128 : Shape := ⟨3, ![4, 128, 128]⟩
abbrev S512 : Shape := ⟨1, ![512]⟩
abbrev S_ : Shape := ⟨0, ![]⟩
abbrev S2048 : Shape := ⟨1, ![2048]⟩
abbrev S1x2048x1 : Shape := ⟨3, ![1, 2048, 1]⟩
abbrev S2x2048x128 : Shape := ⟨3, ![2, 2048, 128]⟩
abbrev S2x2x128 : Shape := ⟨3, ![2, 2, 128]⟩
abbrev S2x2050x128 : Shape := ⟨3, ![2, 2050, 128]⟩
abbrev S2x4x128 : Shape := ⟨3, ![2, 4, 128]⟩
abbrev S2x2052x128 : Shape := ⟨3, ![2, 2052, 128]⟩
abbrev S2x8x128 : Shape := ⟨3, ![2, 8, 128]⟩
abbrev S2x2056x128 : Shape := ⟨3, ![2, 2056, 128]⟩
abbrev S2x16x128 : Shape := ⟨3, ![2, 16, 128]⟩
abbrev S2x2064x128 : Shape := ⟨3, ![2, 2064, 128]⟩
abbrev S2x2048x1x128 : Shape := ⟨4, ![2, 2048, 1, 128]⟩
abbrev S2x2048x4x128 : Shape := ⟨4, ![2, 2048, 4, 128]⟩
abbrev S4x128x2x2048 : Shape := ⟨4, ![4, 128, 2, 2048]⟩
abbrev S1x1x512 : Shape := ⟨3, ![1, 1, 512]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S2x3x1536 : Shape := ⟨3, ![2, 3, 1536]⟩
abbrev S2x2051x1536 : Shape := ⟨3, ![2, 2051, 1536]⟩
abbrev S1x1x1536 : Shape := ⟨3, ![1, 1, 1536]⟩
abbrev S2x2048x2x8x64 : Shape := ⟨5, ![2, 2048, 2, 8, 64]⟩
abbrev S2x2048x256 : Shape := ⟨3, ![2, 2048, 256]⟩
abbrev S2x2048x2x128 : Shape := ⟨4, ![2, 2048, 2, 128]⟩
abbrev S1x1x16 : Shape := ⟨3, ![1, 1, 16]⟩
abbrev S2x2048x2x8 : Shape := ⟨4, ![2, 2048, 2, 8]⟩
abbrev S2x8 : Shape := ⟨2, ![2, 8]⟩
abbrev S2x2048x2x8x1 : Shape := ⟨5, ![2, 2048, 2, 8, 1]⟩
abbrev S2x16x128x2x8x64 : Shape := ⟨6, ![2, 16, 128, 2, 8, 64]⟩
abbrev S1x1x2x8 : Shape := ⟨4, ![1, 1, 2, 8]⟩
abbrev S2x16x128x2x8 : Shape := ⟨5, ![2, 16, 128, 2, 8]⟩
abbrev S2x16x128x2x128 : Shape := ⟨5, ![2, 16, 128, 2, 128]⟩
abbrev S128x128 : Shape := ⟨2, ![128, 128]⟩
abbrev S1x1x128x128x1x1 : Shape := ⟨6, ![1, 1, 128, 128, 1, 1]⟩
abbrev S2x16x128x1x2x8 : Shape := ⟨6, ![2, 16, 128, 1, 2, 8]⟩
abbrev S2x16x1x128x2x8 : Shape := ⟨6, ![2, 16, 1, 128, 2, 8]⟩
abbrev S2x16x128x128x2x8 : Shape := ⟨6, ![2, 16, 128, 128, 2, 8]⟩
abbrev S2x16x2x128x128 : Shape := ⟨5, ![2, 16, 2, 128, 128]⟩
abbrev S2x16x128x128x2 : Shape := ⟨5, ![2, 16, 128, 128, 2]⟩
abbrev S2x16x128x128x2x1 : Shape := ⟨6, ![2, 16, 128, 128, 2, 1]⟩
abbrev S2x16x2x8x64x128 : Shape := ⟨6, ![2, 16, 2, 8, 64, 128]⟩
abbrev S2x16x1x2x8 : Shape := ⟨5, ![2, 16, 1, 2, 8]⟩
abbrev S2x16x128x2x8x1 : Shape := ⟨6, ![2, 16, 128, 2, 8, 1]⟩
abbrev S2x16x2x8 : Shape := ⟨4, ![2, 16, 2, 8]⟩
abbrev S2x16x2x8x1x1 : Shape := ⟨6, ![2, 16, 2, 8, 1, 1]⟩
abbrev S2x1x2x8x64x128 : Shape := ⟨6, ![2, 1, 2, 8, 64, 128]⟩
abbrev S2x8x1 : Shape := ⟨3, ![2, 8, 1]⟩
abbrev S1x1x2x8x1 : Shape := ⟨5, ![1, 1, 2, 8, 1]⟩
abbrev S2x2048x2x512 : Shape := ⟨4, ![2, 2048, 2, 512]⟩
abbrev S2x2048x2 : Shape := ⟨3, ![2, 2048, 2]⟩
abbrev S2x2048x2x1 : Shape := ⟨4, ![2, 2048, 2, 1]⟩
abbrev S1x1x1024 : Shape := ⟨3, ![1, 1, 1024]⟩
abbrev S2x16x2x128x8x64 : Shape := ⟨6, ![2, 16, 2, 128, 8, 64]⟩
abbrev S2x16x2x128x512 : Shape := ⟨5, ![2, 16, 2, 128, 512]⟩
abbrev S4096x1536 : Shape := ⟨2, ![4096, 1536]⟩

abbrev nBuf : Space → Nat
  | .hbm => 329
  | .vmem => 0
  | .smem => 0
  | _ => 0

abbrev hbmTy0_0 (i : Nat) : BufTy := match i % 128 with
  | 0 => ⟨S2x2048x3088, .f32⟩
  | 1 => ⟨S1x4x1536, .f32⟩
  | 2 => ⟨S1x1536, .f32⟩
  | 3 => ⟨S1x16, .f32⟩
  | 4 => ⟨S1x16, .f32⟩
  | 5 => ⟨S1x16, .f32⟩
  | 6 => ⟨S1x1024, .f32⟩
  | 7 => ⟨S1x4x128x128, .f32⟩
  | 8 => ⟨S1x512, .f32⟩
  | 9 => ⟨S2x2048x512, .f32⟩
  | 10 => ⟨S2x2048x1024, .f32⟩
  | 11 => ⟨S2x2048x1536, .f32⟩
  | 12 => ⟨S2x2048x16, .f32⟩
  | 13 => ⟨S4x128x128, .f32⟩
  | 14 => ⟨S512, .f32⟩
  | 15 => ⟨S_, .f32⟩
  | 16 => ⟨S_, .f32⟩
  | 17 => ⟨S2x2048x512, .f32⟩
  | 18 => ⟨S2048, .f32⟩
  | 19 => ⟨S_, .f32⟩
  | 20 => ⟨S2048, .f32⟩
  | 21 => ⟨S2048, .f32⟩
  | 22 => ⟨S1x2048x1, .f32⟩
  | 23 => ⟨S2x2048x128, .f32⟩
  | 24 => ⟨S_, .f32⟩
  | 25 => ⟨S2x2x128, .f32⟩
  | 26 => ⟨S2x2050x128, .f32⟩
  | 27 => ⟨S2x2048x128, .f32⟩
  | 28 => ⟨S2x2048x128, .f32⟩
  | 29 => ⟨S_, .f32⟩
  | 30 => ⟨S1x2048x1, .f32⟩
  | 31 => ⟨S1x2048x1, .f32⟩
  | 32 => ⟨S2x2048x128, .f32⟩
  | 33 => ⟨S2x2048x128, .f32⟩
  | 34 => ⟨S2x2048x128, .f32⟩
  | 35 => ⟨S2x2048x128, .f32⟩
  | 36 => ⟨S2x2048x128, .f32⟩
  | 37 => ⟨S_, .f32⟩
  | 38 => ⟨S2x4x128, .f32⟩
  | 39 => ⟨S2x2052x128, .f32⟩
  | 40 => ⟨S2x2048x128, .f32⟩
  | 41 => ⟨S2x2048x128, .f32⟩
  | 42 => ⟨S_, .f32⟩
  | 43 => ⟨S1x2048x1, .f32⟩
  | 44 => ⟨S1x2048x1, .f32⟩
  | 45 => ⟨S2x2048x128, .f32⟩
  | 46 => ⟨S2x2048x128, .f32⟩
  | 47 => ⟨S2x2048x128, .f32⟩
  | 48 => ⟨S2x2048x128, .f32⟩
  | 49 => ⟨S2x2048x128, .f32⟩
  | 50 => ⟨S_, .f32⟩
  | 51 => ⟨S2x8x128, .f32⟩
  | 52 => ⟨S2x2056x128, .f32⟩
  | 53 => ⟨S2x2048x128, .f32⟩
  | 54 => ⟨S2x2048x128, .f32⟩
  | 55 => ⟨S_, .f32⟩
  | 56 => ⟨S1x2048x1, .f32⟩
  | 57 => ⟨S1x2048x1, .f32⟩
  | 58 => ⟨S2x2048x128, .f32⟩
  | 59 => ⟨S2x2048x128, .f32⟩
  | 60 => ⟨S2x2048x128, .f32⟩
  | 61 => ⟨S2x2048x128, .f32⟩
  | 62 => ⟨S2x2048x128, .f32⟩
  | 63 => ⟨S_, .f32⟩
  | 64 => ⟨S2x16x128, .f32⟩
  | 65 => ⟨S2x2064x128, .f32⟩
  | 66 => ⟨S2x2048x128, .f32⟩
  | 67 => ⟨S2x2048x128, .f32⟩
  | 68 => ⟨S_, .f32⟩
  | 69 => ⟨S1x2048x1, .f32⟩
  | 70 => ⟨S1x2048x1, .f32⟩
  | 71 => ⟨S2x2048x128, .f32⟩
  | 72 => ⟨S2x2048x128, .f32⟩
  | 73 => ⟨S2x2048x128, .f32⟩
  | 74 => ⟨S2x2048x128, .f32⟩
  | 75 => ⟨S2x2048x1x128, .f32⟩
  | 76 => ⟨S2x2048x1x128, .f32⟩
  | 77 => ⟨S2x2048x1x128, .f32⟩
  | 78 => ⟨S2x2048x1x128, .f32⟩
  | 79 => ⟨S2x2048x4x128, .f32⟩
  | 80 => ⟨S4x128x2x2048, .f32⟩
  | 81 => ⟨S2x2048x4x128, .f32⟩
  | 82 => ⟨S2x2048x512, .f32⟩
  | 83 => ⟨S1x1x512, .f32⟩
  | 84 => ⟨S2x2048x512, .f32⟩
  | 85 => ⟨S2x2048x512, .f32⟩
  | 86 => ⟨S4x1536, .f32⟩
  | 87 => ⟨S1536, .f32⟩
  | 88 => ⟨S16, .f32⟩
  | 89 => ⟨S16, .f32⟩
  | 90 => ⟨S16, .f32⟩
  | 91 => ⟨S1024, .f32⟩
  | 92 => ⟨S_, .f32⟩
  | 93 => ⟨S2x3x1536, .f32⟩
  | 94 => ⟨S2x2051x1536, .f32⟩
  | 95 => ⟨S2x2048x1536, .f32⟩
  | 96 => ⟨S1x1536, .f32⟩
  | 97 => ⟨S1536, .f32⟩
  | 98 => ⟨S1x1x1536, .f32⟩
  | 99 => ⟨S2x2048x1536, .f32⟩
  | 100 => ⟨S2x2048x1536, .f32⟩
  | 101 => ⟨S1x1x1536, .f32⟩
  | 102 => ⟨S2x2048x1536, .f32⟩
  | 103 => ⟨S2x2048x1536, .f32⟩
  | 104 => ⟨S2x2048x1536, .f32⟩
  | 105 => ⟨S1x1536, .f32⟩
  | 106 => ⟨S1536, .f32⟩
  | 107 => ⟨S1x1x1536, .f32⟩
  | 108 => ⟨S2x2048x1536, .f32⟩
  | 109 => ⟨S2x2048x1536, .f32⟩
  | 110 => ⟨S2x2048x1536, .f32⟩
  | 111 => ⟨S2x2048x1536, .f32⟩
  | 112 => ⟨S1x1536, .f32⟩
  | 113 => ⟨S1536, .f32⟩
  | 114 => ⟨S1x1x1536, .f32⟩
  | 115 => ⟨S2x2048x1536, .f32⟩
  | 116 => ⟨S2x2048x1536, .f32⟩
  | 117 => ⟨S2x2048x1536, .f32⟩
  | 118 => ⟨S2x2048x1536, .f32⟩
  | 119 => ⟨S1x1536, .f32⟩
  | 120 => ⟨S1536, .f32⟩
  | 121 => ⟨S1x1x1536, .f32⟩
  | 122 => ⟨S2x2048x1536, .f32⟩
  | 123 => ⟨S2x2048x1536, .f32⟩
  | 124 => ⟨S2x2048x1536, .f32⟩
  | 125 => ⟨S2x2048x1536, .f32⟩
  | 126 => ⟨S2x2048x1536, .f32⟩
  | 127 => ⟨S_, .f32⟩
  | _ => ⟨S2x2048x3088, .f32⟩

abbrev hbmTy0_1 (i : Nat) : BufTy := match i % 128 with
  | 0 => ⟨S2x2048x1536, .f32⟩
  | 1 => ⟨S2x2048x1536, .f32⟩
  | 2 => ⟨S_, .f32⟩
  | 3 => ⟨S2x2048x1536, .f32⟩
  | 4 => ⟨S2x2048x1536, .f32⟩
  | 5 => ⟨S2x2048x1536, .f32⟩
  | 6 => ⟨S2x2048x1024, .f32⟩
  | 7 => ⟨S2x2048x2x8x64, .f32⟩
  | 8 => ⟨S2x2048x256, .f32⟩
  | 9 => ⟨S2x2048x2x128, .f32⟩
  | 10 => ⟨S2x2048x256, .f32⟩
  | 11 => ⟨S2x2048x2x128, .f32⟩
  | 12 => ⟨S1x1x16, .f32⟩
  | 13 => ⟨S2x2048x16, .f32⟩
  | 14 => ⟨S2x2048x16, .f32⟩
  | 15 => ⟨S_, .f32⟩
  | 16 => ⟨S2x2048x16, .f32⟩
  | 17 => ⟨S2x2048x16, .f32⟩
  | 18 => ⟨S2x2048x16, .f32⟩
  | 19 => ⟨S2x2048x16, .f32⟩
  | 20 => ⟨S2x2048x16, .i1⟩
  | 21 => ⟨S2x2048x16, .f32⟩
  | 22 => ⟨S2x2048x16, .f32⟩
  | 23 => ⟨S2x2048x16, .f32⟩
  | 24 => ⟨S2x2048x16, .f32⟩
  | 25 => ⟨S2x2048x16, .f32⟩
  | 26 => ⟨S2x2048x16, .f32⟩
  | 27 => ⟨S2x2048x16, .f32⟩
  | 28 => ⟨S2x2048x16, .f32⟩
  | 29 => ⟨S2x2048x2x8, .f32⟩
  | 30 => ⟨S16, .f32⟩
  | 31 => ⟨S2x8, .f32⟩
  | 32 => ⟨S2x8, .f32⟩
  | 33 => ⟨S2x2048x2x8x1, .f32⟩
  | 34 => ⟨S2x2048x2x8x64, .f32⟩
  | 35 => ⟨S2x2048x2x8x64, .f32⟩
  | 36 => ⟨S2x16x128x2x8x64, .f32⟩
  | 37 => ⟨S1x1x2x8, .f32⟩
  | 38 => ⟨S2x2048x2x8, .f32⟩
  | 39 => ⟨S2x2048x2x8, .f32⟩
  | 40 => ⟨S2x16x128x2x8, .f32⟩
  | 41 => ⟨S2x16x128x2x128, .f32⟩
  | 42 => ⟨S2x16x128x2x128, .f32⟩
  | 43 => ⟨S_, .f32⟩
  | 44 => ⟨S_, .f32⟩
  | 45 => ⟨S2x16x128x2x8, .f32⟩
  | 46 => ⟨S_, .i1⟩
  | 47 => ⟨S128x128, .i1⟩
  | 48 => ⟨S128x128, .i32⟩
  | 49 => ⟨S_, .i32⟩
  | 50 => ⟨S128x128, .i32⟩
  | 51 => ⟨S128x128, .i32⟩
  | 52 => ⟨S128x128, .i32⟩
  | 53 => ⟨S128x128, .i1⟩
  | 54 => ⟨S_, .i1⟩
  | 55 => ⟨S128x128, .i1⟩
  | 56 => ⟨S128x128, .i1⟩
  | 57 => ⟨S1x1x128x128x1x1, .i1⟩
  | 58 => ⟨S2x16x128x1x2x8, .f32⟩
  | 59 => ⟨S2x16x1x128x2x8, .f32⟩
  | 60 => ⟨S2x16x128x128x2x8, .f32⟩
  | 61 => ⟨S2x16x128x128x2x8, .f32⟩
  | 62 => ⟨S2x16x128x128x2x8, .f32⟩
  | 63 => ⟨S_, .f32⟩
  | 64 => ⟨S_, .f32⟩
  | 65 => ⟨S2x16x128x128x2x8, .i1⟩
  | 66 => ⟨S2x16x128x128x2x8, .f32⟩
  | 67 => ⟨S2x16x128x128x2x8, .f32⟩
  | 68 => ⟨S2x16x128x128x2x8, .f32⟩
  | 69 => ⟨S2x16x2x128x128, .f32⟩
  | 70 => ⟨S2x16x128x128x2, .f32⟩
  | 71 => ⟨S2x16x128x128x2x1, .f32⟩
  | 72 => ⟨S2x16x128x128x2x8, .f32⟩
  | 73 => ⟨S2x16x128x128x2x8, .f32⟩
  | 74 => ⟨S2x16x2x8x64x128, .f32⟩
  | 75 => ⟨S2x16x128x2x8x64, .f32⟩
  | 76 => ⟨S2x16x1x2x8, .f32⟩
  | 77 => ⟨S2x16x128x2x8, .f32⟩
  | 78 => ⟨S2x16x128x2x8, .f32⟩
  | 79 => ⟨S2x16x128x2x8, .f32⟩
  | 80 => ⟨S2x16x128x2x8x1, .f32⟩
  | 81 => ⟨S2x16x128x2x8x64, .f32⟩
  | 82 => ⟨S2x16x128x2x8x64, .f32⟩
  | 83 => ⟨S2x16x2x8x64x128, .f32⟩
  | 84 => ⟨S2x16x1x2x8, .f32⟩
  | 85 => ⟨S2x16x2x8, .f32⟩
  | 86 => ⟨S2x16x2x8, .f32⟩
  | 87 => ⟨S2x16x2x8x1x1, .f32⟩
  | 88 => ⟨S2x16x2x8x64x128, .f32⟩
  | 89 => ⟨S_, .f32⟩
  | 90 => ⟨S2x1x2x8x64x128, .f32⟩
  | 91 => ⟨S2x1x2x8x64x128, .f32⟩
  | 92 => ⟨S2x1x2x8x64x128, .f32⟩
  | 93 => ⟨S2x1x2x8x64x128, .f32⟩
  | 94 => ⟨S2x1x2x8x64x128, .f32⟩
  | 95 => ⟨S2x1x2x8x64x128, .f32⟩
  | 96 => ⟨S2x1x2x8x64x128, .f32⟩
  | 97 => ⟨S2x1x2x8x64x128, .f32⟩
  | 98 => ⟨S2x1x2x8x64x128, .f32⟩
  | 99 => ⟨S2x1x2x8x64x128, .f32⟩
  | 100 => ⟨S2x1x2x8x64x128, .f32⟩
  | 101 => ⟨S2x1x2x8x64x128, .f32⟩
  | 102 => ⟨S2x1x2x8x64x128, .f32⟩
  | 103 => ⟨S2x1x2x8x64x128, .f32⟩
  | 104 => ⟨S2x1x2x8x64x128, .f32⟩
  | 105 => ⟨S2x1x2x8x64x128, .f32⟩
  | 106 => ⟨S2x1x2x8x64x128, .f32⟩
  | 107 => ⟨S2x1x2x8x64x128, .f32⟩
  | 108 => ⟨S2x1x2x8x64x128, .f32⟩
  | 109 => ⟨S2x1x2x8x64x128, .f32⟩
  | 110 => ⟨S2x1x2x8x64x128, .f32⟩
  | 111 => ⟨S2x1x2x8x64x128, .f32⟩
  | 112 => ⟨S2x1x2x8x64x128, .f32⟩
  | 113 => ⟨S2x1x2x8x64x128, .f32⟩
  | 114 => ⟨S2x1x2x8x64x128, .f32⟩
  | 115 => ⟨S2x1x2x8x64x128, .f32⟩
  | 116 => ⟨S2x1x2x8x64x128, .f32⟩
  | 117 => ⟨S2x1x2x8x64x128, .f32⟩
  | 118 => ⟨S2x1x2x8x64x128, .f32⟩
  | 119 => ⟨S2x1x2x8x64x128, .f32⟩
  | 120 => ⟨S2x1x2x8x64x128, .f32⟩
  | 121 => ⟨S2x1x2x8x64x128, .f32⟩
  | 122 => ⟨S2x1x2x8x64x128, .f32⟩
  | 123 => ⟨S2x1x2x8x64x128, .f32⟩
  | 124 => ⟨S2x1x2x8x64x128, .f32⟩
  | 125 => ⟨S2x1x2x8x64x128, .f32⟩
  | 126 => ⟨S2x1x2x8x64x128, .f32⟩
  | 127 => ⟨S2x1x2x8x64x128, .f32⟩
  | _ => ⟨S2x2048x3088, .f32⟩

abbrev hbmTy0_2 (i : Nat) : BufTy := match i % 128 with
  | 0 => ⟨S2x1x2x8x64x128, .f32⟩
  | 1 => ⟨S2x1x2x8x64x128, .f32⟩
  | 2 => ⟨S2x1x2x8x64x128, .f32⟩
  | 3 => ⟨S2x1x2x8x64x128, .f32⟩
  | 4 => ⟨S2x1x2x8x64x128, .f32⟩
  | 5 => ⟨S2x1x2x8x64x128, .f32⟩
  | 6 => ⟨S2x1x2x8x64x128, .f32⟩
  | 7 => ⟨S2x1x2x8x64x128, .f32⟩
  | 8 => ⟨S2x1x2x8x64x128, .f32⟩
  | 9 => ⟨S2x1x2x8x64x128, .f32⟩
  | 10 => ⟨S2x1x2x8x64x128, .f32⟩
  | 11 => ⟨S2x1x2x8x64x128, .f32⟩
  | 12 => ⟨S2x1x2x8x64x128, .f32⟩
  | 13 => ⟨S2x1x2x8x64x128, .f32⟩
  | 14 => ⟨S2x1x2x8x64x128, .f32⟩
  | 15 => ⟨S2x1x2x8x64x128, .f32⟩
  | 16 => ⟨S2x1x2x8x64x128, .f32⟩
  | 17 => ⟨S2x1x2x8x64x128, .f32⟩
  | 18 => ⟨S2x1x2x8x64x128, .f32⟩
  | 19 => ⟨S2x1x2x8x64x128, .f32⟩
  | 20 => ⟨S2x1x2x8x64x128, .f32⟩
  | 21 => ⟨S2x1x2x8x64x128, .f32⟩
  | 22 => ⟨S2x1x2x8x64x128, .f32⟩
  | 23 => ⟨S2x16x2x8x64x128, .f32⟩
  | 24 => ⟨S2x16x2x8x64x128, .f32⟩
  | 25 => ⟨S2x16x128x2x8x64, .f32⟩
  | 26 => ⟨S2x16x128x2x8, .f32⟩
  | 27 => ⟨S2x16x128x2x8x1, .f32⟩
  | 28 => ⟨S2x16x128x2x8x64, .f32⟩
  | 29 => ⟨S2x16x128x2x8x64, .f32⟩
  | 30 => ⟨S2x16x128x2x8x64, .f32⟩
  | 31 => ⟨S2x2048x2x8x64, .f32⟩
  | 32 => ⟨S2x8, .f32⟩
  | 33 => ⟨S2x8x1, .f32⟩
  | 34 => ⟨S1x1x2x8x1, .f32⟩
  | 35 => ⟨S2x2048x2x8x64, .f32⟩
  | 36 => ⟨S2x2048x2x8x64, .f32⟩
  | 37 => ⟨S2x2048x2x8x64, .f32⟩
  | 38 => ⟨S2x2048x1024, .f32⟩
  | 39 => ⟨S2x2048x1024, .f32⟩
  | 40 => ⟨S2x2048x1024, .f32⟩
  | 41 => ⟨S_, .f32⟩
  | 42 => ⟨S2x2048x1024, .f32⟩
  | 43 => ⟨S2x2048x1024, .f32⟩
  | 44 => ⟨S_, .f32⟩
  | 45 => ⟨S2x2048x1024, .f32⟩
  | 46 => ⟨S2x2048x1024, .f32⟩
  | 47 => ⟨S2x2048x1024, .f32⟩
  | 48 => ⟨S2x2048x1024, .f32⟩
  | 49 => ⟨S2x2048x2x512, .f32⟩
  | 50 => ⟨S2x2048x2x512, .f32⟩
  | 51 => ⟨S_, .f32⟩
  | 52 => ⟨S2x2048x2, .f32⟩
  | 53 => ⟨S2x2048x2x1, .f32⟩
  | 54 => ⟨S_, .f32⟩
  | 55 => ⟨S2x2048x2x1, .f32⟩
  | 56 => ⟨S2x2048x2x1, .f32⟩
  | 57 => ⟨S_, .f32⟩
  | 58 => ⟨S2x2048x2x1, .f32⟩
  | 59 => ⟨S2x2048x2x1, .f32⟩
  | 60 => ⟨S2x2048x2x1, .f32⟩
  | 61 => ⟨S2x2048x2x512, .f32⟩
  | 62 => ⟨S2x2048x2x512, .f32⟩
  | 63 => ⟨S2x2048x1024, .f32⟩
  | 64 => ⟨S1x1x1024, .f32⟩
  | 65 => ⟨S2x2048x1024, .f32⟩
  | 66 => ⟨S2x2048x1024, .f32⟩
  | 67 => ⟨S2x2048x1536, .f32⟩
  | 68 => ⟨S2x16x2x128x8x64, .f32⟩
  | 69 => ⟨S2x16x2x128x512, .f32⟩
  | 70 => ⟨S4096x1536, .f32⟩
  | 71 => ⟨S4096x1536, .bf16⟩
  | 72 => ⟨S4096x1536, .f32⟩
  | _ => ⟨S2x2048x3088, .f32⟩

abbrev hbmTy (i : Nat) : BufTy := match i / 128 with
  | 0 => hbmTy0_0 i
  | 1 => hbmTy0_1 i
  | 2 => hbmTy0_2 i
  | _ => ⟨S2x2048x3088, .f32⟩

abbrev bufTy : (tb : Table) → Fin (tcTables nBuf tb) → BufTy
  | .hbm, ⟨i, _⟩ => hbmTy i
  | _, _ => ⟨S2x2048x3088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_call0_cst : Ref sig .tc := ⟨.hbm, 15, rfl⟩
abbrev main_call0_call0_v0 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_8 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_call1_v0 : Ref sig .tc := ⟨.hbm, 125, rfl⟩
abbrev main_call1_v1 : Ref sig .tc := ⟨.hbm, 126, rfl⟩
abbrev main_call1_cst : Ref sig .tc := ⟨.hbm, 127, rfl⟩
abbrev main_call1_v2 : Ref sig .tc := ⟨.hbm, 128, rfl⟩
abbrev main_call1_v3 : Ref sig .tc := ⟨.hbm, 129, rfl⟩
abbrev main_call1_cst_0 : Ref sig .tc := ⟨.hbm, 130, rfl⟩
abbrev main_call1_v4 : Ref sig .tc := ⟨.hbm, 131, rfl⟩
abbrev main_call1_v5 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_call2_cst : Ref sig .tc := ⟨.hbm, 143, rfl⟩
abbrev main_call2_v0 : Ref sig .tc := ⟨.hbm, 144, rfl⟩
abbrev main_call2_v1 : Ref sig .tc := ⟨.hbm, 145, rfl⟩
abbrev main_call2_v2 : Ref sig .tc := ⟨.hbm, 146, rfl⟩
abbrev main_call2_v3 : Ref sig .tc := ⟨.hbm, 147, rfl⟩
abbrev main_call2_v4 : Ref sig .tc := ⟨.hbm, 148, rfl⟩
abbrev main_call2_v5 : Ref sig .tc := ⟨.hbm, 149, rfl⟩
abbrev main_call2_v6 : Ref sig .tc := ⟨.hbm, 150, rfl⟩
abbrev main_call2_v7 : Ref sig .tc := ⟨.hbm, 151, rfl⟩
abbrev main_call2_v8 : Ref sig .tc := ⟨.hbm, 152, rfl⟩
abbrev main_call2_v9 : Ref sig .tc := ⟨.hbm, 153, rfl⟩
abbrev main_call2_v10 : Ref sig .tc := ⟨.hbm, 154, rfl⟩
abbrev main_call2_v11 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_call3_call0_cst : Ref sig .tc := ⟨.hbm, 171, rfl⟩
abbrev main_call3_call0_v0 : Ref sig .tc := ⟨.hbm, 172, rfl⟩
abbrev main_v129 : Ref sig .tc := ⟨.hbm, 173, rfl⟩
abbrev main_c : Ref sig .tc := ⟨.hbm, 174, rfl⟩
abbrev main_v130 : Ref sig .tc := ⟨.hbm, 175, rfl⟩
abbrev main_call4_v0 : Ref sig .tc := ⟨.hbm, 176, rfl⟩
abbrev main_call4_c : Ref sig .tc := ⟨.hbm, 177, rfl⟩
abbrev main_call4_v1 : Ref sig .tc := ⟨.hbm, 178, rfl⟩
abbrev main_call4_v2 : Ref sig .tc := ⟨.hbm, 179, rfl⟩
abbrev main_call4_v3 : Ref sig .tc := ⟨.hbm, 180, rfl⟩
abbrev main_call4_v4 : Ref sig .tc := ⟨.hbm, 181, rfl⟩
abbrev main_call4_c_0 : Ref sig .tc := ⟨.hbm, 182, rfl⟩
abbrev main_call4_v5 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_cst_9 : Ref sig .tc := ⟨.hbm, 191, rfl⟩
abbrev main_call5_v0 : Ref sig .tc := ⟨.hbm, 192, rfl⟩
abbrev main_call5_v1 : Ref sig .tc := ⟨.hbm, 193, rfl⟩
abbrev main_call5_v2 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_cst_10 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_call6_v0 : Ref sig .tc := ⟨.hbm, 295, rfl⟩
abbrev main_call6_v1 : Ref sig .tc := ⟨.hbm, 296, rfl⟩
abbrev main_call6_cst : Ref sig .tc := ⟨.hbm, 297, rfl⟩
abbrev main_call6_v2 : Ref sig .tc := ⟨.hbm, 298, rfl⟩
abbrev main_call6_v3 : Ref sig .tc := ⟨.hbm, 299, rfl⟩
abbrev main_call6_cst_0 : Ref sig .tc := ⟨.hbm, 300, rfl⟩
abbrev main_call6_v4 : Ref sig .tc := ⟨.hbm, 301, rfl⟩
abbrev main_call6_v5 : Ref sig .tc := ⟨.hbm, 302, rfl⟩
abbrev main_v237 : Ref sig .tc := ⟨.hbm, 303, rfl⟩
abbrev main_v238 : Ref sig .tc := ⟨.hbm, 304, rfl⟩
abbrev main_v239 : Ref sig .tc := ⟨.hbm, 305, rfl⟩
abbrev main_v240 : Ref sig .tc := ⟨.hbm, 306, rfl⟩
abbrev main_cst_11 : Ref sig .tc := ⟨.hbm, 307, rfl⟩
abbrev main_v241 : Ref sig .tc := ⟨.hbm, 308, rfl⟩
abbrev main_v242 : Ref sig .tc := ⟨.hbm, 309, rfl⟩
abbrev main_cst_12 : Ref sig .tc := ⟨.hbm, 310, rfl⟩
abbrev main_v243 : Ref sig .tc := ⟨.hbm, 311, rfl⟩
abbrev main_v244 : Ref sig .tc := ⟨.hbm, 312, rfl⟩
abbrev main_cst_13 : Ref sig .tc := ⟨.hbm, 313, rfl⟩
abbrev main_v245 : Ref sig .tc := ⟨.hbm, 314, rfl⟩
abbrev main_v246 : Ref sig .tc := ⟨.hbm, 315, rfl⟩
abbrev main_v247 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_v251 : Ref sig .tc := ⟨.hbm, 320, rfl⟩
abbrev main_v252 : Ref sig .tc := ⟨.hbm, 321, rfl⟩
abbrev main_v253 : Ref sig .tc := ⟨.hbm, 322, rfl⟩
abbrev main_v254 : Ref sig .tc := ⟨.hbm, 323, rfl⟩
abbrev main_v255 : Ref sig .tc := ⟨.hbm, 324, rfl⟩
abbrev main_v256 : Ref sig .tc := ⟨.hbm, 325, rfl⟩
abbrev main_v257 : Ref sig .tc := ⟨.hbm, 326, rfl⟩
abbrev main_v258 : Ref sig .tc := ⟨.hbm, 327, rfl⟩
abbrev main_v259 : Ref sig .tc := ⟨.hbm, 328, rfl⟩

abbrev nD : Nat := 1
abbrev τ : Topo := Topo.v7x

variable {F : FTy → Type} [FloatOps F]
-- ==== KernelPre.lean ====
abbrev S2x2048x1024 : Shape := ⟨3, ![2, 2048, 1024]⟩
abbrev S2x6144 : Shape := ⟨2, ![2, 6144]⟩
abbrev S1x1024 : Shape := ⟨2, ![1, 1024]⟩
abbrev S1x1024x3088 : Shape := ⟨3, ![1, 1024, 3088]⟩
abbrev S2x6x1024 : Shape := ⟨3, ![2, 6, 1024]⟩
abbrev S_ : Shape := ⟨0, ![]⟩
abbrev S2x8x1024 : Shape := ⟨3, ![2, 8, 1024]⟩
abbrev S1024x3088 : Shape := ⟨2, ![1024, 3088]⟩
abbrev S3088x1024 : Shape := ⟨2, ![3088, 1024]⟩
abbrev S8x386x1024 : Shape := ⟨3, ![8, 386, 1024]⟩
abbrev S8x400x1024 : Shape := ⟨3, ![8, 400, 1024]⟩
abbrev S4096x1024 : Shape := ⟨2, ![4096, 1024]⟩
abbrev S4096x3200 : Shape := ⟨2, ![4096, 3200]⟩
abbrev S1024x3200 : Shape := ⟨2, ![1024, 3200]⟩
abbrev S512x1024 : Shape := ⟨2, ![512, 1024]⟩
abbrev S1x8x1024 : Shape := ⟨3, ![1, 8, 1024]⟩
abbrev S512x3200 : Shape := ⟨2, ![512, 3200]⟩
abbrev S1024x128 : Shape := ⟨2, ![1024, 128]⟩
abbrev S1x400x1024 : Shape := ⟨3, ![1, 400, 1024]⟩
abbrev S400x1024 : Shape := ⟨2, ![400, 1024]⟩
abbrev S112x1024 : Shape := ⟨2, ![112, 1024]⟩
abbrev S1024x512 : Shape := ⟨2, ![1024, 512]⟩
abbrev S1024x386 : Shape := ⟨2, ![1024, 386]⟩
abbrev S512 : Shape := ⟨1, ![512]⟩
abbrev S512x1 : Shape := ⟨2, ![512, 1]⟩
abbrev S8x1024 : Shape := ⟨2, ![8, 1024]⟩

abbrev nBuf : Space → Nat
  | .hbm => 19
  | .vmem => 12
  | .smem => 0
  | _ => 0

abbrev bufTy : (tb : Table) → Fin (tcTables nBuf tb) → BufTy
  | .hbm, ⟨0, _⟩ => ⟨S2x2048x1024, .f32⟩
  | .hbm, ⟨1, _⟩ => ⟨S2x6144, .f32⟩
  | .hbm, ⟨2, _⟩ => ⟨S1x1024, .f32⟩
  | .hbm, ⟨3, _⟩ => ⟨S1x1024x3088, .f32⟩
  | .hbm, ⟨4, _⟩ => ⟨S2x6x1024, .f32⟩
  | .hbm, ⟨5, _⟩ => ⟨S_, .i32⟩
  | .hbm, ⟨6, _⟩ => ⟨S_, .f32⟩
  | .hbm, ⟨7, _⟩ => ⟨S2x8x1024, .f32⟩
  | .hbm, ⟨8, _⟩ => ⟨S1024x3088, .f32⟩
  | .hbm, ⟨9, _⟩ => ⟨S1024x3088, .bf16⟩
  | .hbm, ⟨10, _⟩ => ⟨S3088x1024, .bf16⟩
  | .hbm, ⟨11, _⟩ => ⟨S8x386x1024, .bf16⟩
  | .hbm, ⟨12, _⟩ => ⟨S_, .i32⟩
  | .hbm, ⟨13, _⟩ => ⟨S_, .bf16⟩
  | .hbm, ⟨14, _⟩ => ⟨S8x400x1024, .bf16⟩
  | .hbm, ⟨15, _⟩ => ⟨S4096x1024, .f32⟩
  | .hbm, ⟨16, _⟩ => ⟨S4096x1024, .bf16⟩
  | .hbm, ⟨17, _⟩ => ⟨S4096x3200, .f32⟩
  | .hbm, ⟨18, _⟩ => ⟨S1024x3200, .bf16⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S8x400x1024, .bf16⟩
  | .local _ .vmem, ⟨6, _⟩ => ⟨S512x1024, .bf16⟩
  | .local _ .vmem, ⟨7, _⟩ => ⟨S512x1024, .bf16⟩
  | .local _ .vmem, ⟨8, _⟩ => ⟨S512x3200, .f32⟩
  | .local _ .vmem, ⟨9, _⟩ => ⟨S512x3200, .f32⟩
  | .local _ .vmem, ⟨10, _⟩ => ⟨S1024x3200, .bf16⟩
  | .local _ .vmem, ⟨11, _⟩ => ⟨S1024x3200, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x400x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x3200 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferencePreIdeal.lean ====
abbrev S2x2048x1024 : Shape := ⟨3, ![2, 2048, 1024]⟩
abbrev S2x6144 : Shape := ⟨2, ![2, 6144]⟩
abbrev S1x1024 : Shape := ⟨2, ![1, 1024]⟩
abbrev S1x1024x3088 : Shape := ⟨3, ![1, 1024, 3088]⟩
abbrev S2x1x6144 : Shape := ⟨3, ![2, 1, 6144]⟩
abbrev S2x1x1024 : Shape := ⟨3, ![2, 1, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x3088 : Shape := ⟨2, ![1024, 3088]⟩
abbrev S2x2048x3088 : Shape := ⟨3, ![2, 2048, 3088]⟩
abbrev S4096x3088 : Shape := ⟨2, ![4096, 3088]⟩
abbrev S4096x3200 : Shape := ⟨2, ![4096, 3200]⟩
abbrev S1024x3200 : Shape := ⟨2, ![1024, 3200]⟩
abbrev S4096x1024 : Shape := ⟨2, ![4096, 1024]⟩

abbrev nBuf : Space → Nat
  | .hbm => 48
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x6144, .f32⟩
  | .hbm, ⟨2, _⟩ => ⟨S1x1024, .f32⟩
  | .hbm, ⟨3, _⟩ => ⟨S1x1024x3088, .f32⟩
  | .hbm, ⟨4, _⟩ => ⟨S2x1x6144, .f32⟩
  | .hbm, ⟨5, _⟩ => ⟨S2x1x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S1024, .f32⟩
  | .hbm, ⟨12, _⟩ => ⟨S2x2048x1024, .f32⟩
  | .hbm, ⟨13, _⟩ => ⟨S_, .f32⟩
  | .hbm, ⟨14, _⟩ => ⟨S2x2048, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x1, .f32⟩
  | .hbm, ⟨23, _⟩ => ⟨S2x2048x1024, .f32⟩
  | .hbm, ⟨24, _⟩ => ⟨S2x2048x1024, .f32⟩
  | .hbm, ⟨25, _⟩ => ⟨S1x1x1024, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S2x1x1024, .f32⟩
  | .hbm, ⟨30, _⟩ => ⟨S2x1x1024, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S2x2048x1024, .f32⟩
  | .hbm, ⟨35, _⟩ => ⟨S1024x3088, .f32⟩
  | .hbm, ⟨36, _⟩ => ⟨S2x2048x3088, .f32⟩
  | .hbm, ⟨37, _⟩ => ⟨S4096x3088, .f32⟩
  | .hbm, ⟨38, _⟩ => ⟨S_, .i32⟩
  | .hbm, ⟨39, _⟩ => ⟨S_, .f32⟩
  | .hbm, ⟨40, _⟩ => ⟨S4096x3200, .f32⟩
  | .hbm, ⟨41, _⟩ => ⟨S1024x3088, .f32⟩
  | .hbm, ⟨42, _⟩ => ⟨S_, .i32⟩
  | .hbm, ⟨43, _⟩ => ⟨S_, .f32⟩
  | .hbm, ⟨44, _⟩ => ⟨S1024x3200, .f32⟩
  | .hbm, ⟨45, _⟩ => ⟨S4096x1024, .f32⟩
  | .hbm, ⟨46, _⟩ => ⟨S4096x1024, .bf16⟩
  | .hbm, ⟨47, _⟩ => ⟨S1024x3200, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c : Ref sig .tc := ⟨.hbm, 38, rfl⟩
abbrev main_call0_v0 : Ref sig .tc := ⟨.hbm, 39, rfl⟩
abbrev main_v30 : Ref sig .tc := ⟨.hbm, 40, rfl⟩
abbrev main_v31 : Ref sig .tc := ⟨.hbm, 41, rfl⟩
abbrev main_c_3 : Ref sig .tc := ⟨.hbm, 42, rfl⟩
abbrev main_call1_v0 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== KernelMod.lean ====
abbrev S16x1024 : Shape := ⟨2, ![16, 1024]⟩
abbrev S1x1024x768 : Shape := ⟨3, ![1, 1024, 768]⟩
abbrev S1x768 : Shape := ⟨2, ![1, 768]⟩
abbrev S1024x768 : Shape := ⟨2, ![1024, 768]⟩
abbrev S16x768 : Shape := ⟨2, ![16, 768]⟩

abbrev nBuf : Space → Nat
  | .hbm => 5
  | .vmem => 4
  | .smem => 0
  | _ => 0

abbrev bufTy : (tb : Table) → Fin (tcTables nBuf tb) → BufTy
  | .hbm, ⟨0, _⟩ => ⟨S16x1024, .f32⟩
  | .hbm, ⟨1, _⟩ => ⟨S1x1024x768, .f32⟩
  | .hbm, ⟨2, _⟩ => ⟨S1x768, .f32⟩
  | .hbm, ⟨3, _⟩ => ⟨S1024x768, .f32⟩
  | .hbm, ⟨4, _⟩ => ⟨S16x768, .f32⟩
  | .local _ .vmem, ⟨0, _⟩ => ⟨S16x1024, .f32⟩
  | .local _ .vmem, ⟨1, _⟩ => ⟨S1024x768, .f32⟩
  | .local _ .vmem, ⟨2, _⟩ => ⟨S1x768, .f32⟩
  | .local _ .vmem, ⟨3, _⟩ => ⟨S16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceModIdeal.lean ====
abbrev S16x1024 : Shape := ⟨2, ![16, 1024]⟩
abbrev S1x1024x768 : Shape := ⟨3, ![1, 1024, 768]⟩
abbrev S1x768 : Shape := ⟨2, ![1, 768]⟩
abbrev S_ : Shape := ⟨0, ![]⟩
abbrev S1024x768 : Shape := ⟨2, ![1024, 768]⟩
abbrev S16x768 : Shape := ⟨2, ![16, 768]⟩
abbrev S768 : Shape := ⟨1, ![768]⟩

abbrev nBuf : Space → Nat
  | .hbm => 18
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1x1024x768, .f32⟩
  | .hbm, ⟨2, _⟩ => ⟨S1x768, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1024x768, .f32⟩
  | .hbm, ⟨13, _⟩ => ⟨S16x768, .f32⟩
  | .hbm, ⟨14, _⟩ => ⟨S768, .f32⟩
  | .hbm, ⟨15, _⟩ => ⟨S1x768, .f32⟩
  | .hbm, ⟨16, _⟩ => ⟨S16x768, .f32⟩
  | .hbm, ⟨17, _⟩ => ⟨S16x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== KernelUp.lean ====
abbrev S2x2048x1024 : Shape := ⟨3, ![2, 2048, 1024]⟩
abbrev S2x2048x4096 : Shape := ⟨3, ![2, 2048, 4096]⟩
abbrev S1x1024x4096 : Shape := ⟨3, ![1, 1024, 4096]⟩
abbrev S4096x1024 : Shape := ⟨2, ![4096, 1024]⟩
abbrev S4096x4096 : Shape := ⟨2, ![4096, 4096]⟩
abbrev S8x1024x512 : Shape := ⟨3, ![8, 1024, 512]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 8
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S2x2048x4096, .f32⟩
  | .hbm, ⟨2, _⟩ => ⟨S1x1024x4096, .f32⟩
  | .hbm, ⟨3, _⟩ => ⟨S4096x1024, .f32⟩
  | .hbm, ⟨4, _⟩ => ⟨S4096x1024, .bf16⟩
  | .hbm, ⟨5, _⟩ => ⟨S4096x4096, .f32⟩
  | .hbm, ⟨6, _⟩ => ⟨S4096x4096, .bf16⟩
  | .hbm, ⟨7, _⟩ => ⟨S8x1024x512, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1024x512, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def k0_mult1 (i : grid0.Coords) : BitVec 32 :=
  let arg1 : BitVec 32 := BitVec.ofNat 32 (i 1).val
  let c4096_i32 : BitVec 32 := 4096#32
  let v3 : BitVec 32 := Scalar.muli arg1 c4096_i32
  v3
def k0_off1 (i : grid0.Coords) : Fin 2 → Nat :=
  let arg1 : BitVec 32 := BitVec.ofNat 32 (i 1).val
  let c4096_i32 : BitVec 32 := 4096#32
  let v3 : BitVec 32 := Scalar.muli arg1 c4096_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c0_i32_7 : BitVec 32 := 0#32
  let v16 : BitVec 1 := Scalar.cmpi .eq arg1 c0_i32_7
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceUpIdeal.lean ====
abbrev S2x2048x1024 : Shape := ⟨3, ![2, 2048, 1024]⟩
abbrev S2x2048x4096 : Shape := ⟨3, ![2, 2048, 4096]⟩
abbrev S1x1024x4096 : Shape := ⟨3, ![1, 1024, 4096]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x4096, .f32⟩
  | .hbm, ⟨2, _⟩ => ⟨S1x1024x4096, .f32⟩
  | .hbm, ⟨3, _⟩ => ⟨S1024x4096, .f32⟩
  | .hbm, ⟨4, _⟩ => ⟨S2x2048x4096, .f32⟩
  | .hbm, ⟨5, _⟩ => ⟨S4096x1024, .f32⟩
  | .hbm, ⟨6, _⟩ => ⟨S1024x4096, .f32⟩
  | .hbm, ⟨7, _⟩ => ⟨S1x1024x4096, .f32⟩
  | .hbm, ⟨8, _⟩ => ⟨S1024x8x512, .f32⟩
  | .hbm, ⟨9, _⟩ => ⟨S8x1024x512, .f32⟩
  | .hbm, ⟨10, _⟩ => ⟨S8x1024x512, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelWin.lean ====
abbrev S2x2048x1024 : Shape := ⟨3, ![2, 2048, 1024]⟩
abbrev S2x2048x3088 : Shape := ⟨3, ![2, 2048, 3088]⟩
abbrev S1x1024x3088 : Shape := ⟨3, ![1, 1024, 3088]⟩
abbrev S4096x3088 : Shape := ⟨2, ![4096, 3088]⟩
abbrev S_ : Shape := ⟨0, ![]⟩
abbrev S4096x3200 : Shape := ⟨2, ![4096, 3200]⟩
abbrev S4096x1024 : Shape := ⟨2, ![4096, 1024]⟩
abbrev S8x1024x386 : Shape := ⟨3, ![8, 1024, 386]⟩
abbrev S1024x1024 : Shape := ⟨2, ![1024, 1024]⟩
abbrev S1024x3200 : Shape := ⟨2, ![1024, 3200]⟩
abbrev S1024x386 : Shape := ⟨2, ![1024, 386]⟩
abbrev S1x1024x386 : Shape := ⟨3, ![1, 1024, 386]⟩

abbrev nBuf : Space → Nat
  | .hbm => 11
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S2x2048x3088, .f32⟩
  | .hbm, ⟨2, _⟩ => ⟨S1x1024x3088, .f32⟩
  | .hbm, ⟨3, _⟩ => ⟨S4096x3088, .f32⟩
  | .hbm, ⟨4, _⟩ => ⟨S_, .i32⟩
  | .hbm, ⟨5, _⟩ => ⟨S_, .f32⟩
  | .hbm, ⟨6, _⟩ => ⟨S4096x3200, .f32⟩
  | .hbm, ⟨7, _⟩ => ⟨S4096x3200, .bf16⟩
  | .hbm, ⟨8, _⟩ => ⟨S4096x1024, .f32⟩
  | .hbm, ⟨9, _⟩ => ⟨S4096x1024, .bf16⟩
  | .hbm, ⟨10, _⟩ => ⟨S8x1024x386, .bf16⟩
  | .local _ .vmem, ⟨0, _⟩ => ⟨S1024x1024, .bf16⟩
  | .local _ .vmem, ⟨1, _⟩ => ⟨S1024x1024, .bf16⟩
  | .local _ .vmem, ⟨2, _⟩ => ⟨S1024x3200, .bf16⟩
  | .local _ .vmem, ⟨3, _⟩ => ⟨S1024x3200, .bf16⟩
  | .local _ .vmem, ⟨4, _⟩ => ⟨S8x1024x386, .bf16⟩
  | .local _ .vmem, ⟨5, _⟩ => ⟨S1024x3200, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v14 : BitVec 1 := Scalar.cmpi .eq arg0 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x386 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceWinIdeal.lean ====
abbrev S2x2048x1024 : Shape := ⟨3, ![2, 2048, 1024]⟩
abbrev S2x2048x3088 : Shape := ⟨3, ![2, 2048, 3088]⟩
abbrev S1x1024x3088 : Shape := ⟨3, ![1, 1024, 3088]⟩
abbrev S1024x3088 : Shape := ⟨2, ![1024, 3088]⟩
abbrev S3088x1024 : Shape := ⟨2, ![3088, 1024]⟩
abbrev S1024x8x386 : Shape := ⟨3, ![1024, 8, 386]⟩
abbrev S8x1024x386 : Shape := ⟨3, ![8, 1024, 386]⟩

abbrev nBuf : Space → Nat
  | .hbm => 11
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x3088, .f32⟩
  | .hbm, ⟨2, _⟩ => ⟨S1x1024x3088, .f32⟩
  | .hbm, ⟨3, _⟩ => ⟨S1024x3088, .f32⟩
  | .hbm, ⟨4, _⟩ => ⟨S2x2048x3088, .f32⟩
  | .hbm, ⟨5, _⟩ => ⟨S3088x1024, .f32⟩
  | .hbm, ⟨6, _⟩ => ⟨S1024x3088, .f32⟩
  | .hbm, ⟨7, _⟩ => ⟨S1x1024x3088, .f32⟩
  | .hbm, ⟨8, _⟩ => ⟨S1024x8x386, .f32⟩
  | .hbm, ⟨9, _⟩ => ⟨S8x1024x386, .f32⟩
  | .hbm, ⟨10, _⟩ => ⟨S8x1024x386, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelWp.lean ====
abbrev S8x4x128x128 : Shape := ⟨4, ![8, 4, 128, 128]⟩
abbrev S1x4x128x128 : Shape := ⟨4, ![1, 4, 128, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 12
  | .vmem => 8
  | .smem => 0
  | _ => 0

abbrev bufTy : (tb : Table) → Fin (tcTables nBuf tb) → BufTy
  | .hbm, ⟨0, _⟩ => ⟨S8x4x128x128, .f32⟩
  | .hbm, ⟨1, _⟩ => ⟨S1x4x128x128, .f32⟩
  | .hbm, ⟨2, _⟩ => ⟨S1x4x128x128, .f32⟩
  | .hbm, ⟨3, _⟩ => ⟨S1x4x128x128, .f32⟩
  | .hbm, ⟨4, _⟩ => ⟨S8x512x128, .f32⟩
  | .hbm, ⟨5, _⟩ => ⟨S512x128, .f32⟩
  | .hbm, ⟨6, _⟩ => ⟨S512x128, .f32⟩
  | .hbm, ⟨7, _⟩ => ⟨S512x128, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S512x128, .f32⟩
  | .local _ .vmem, ⟨0, _⟩ => ⟨S8x512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S8x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceWpIdeal.lean ====
abbrev S8x4x128x128 : Shape := ⟨4, ![8, 4, 128, 128]⟩
abbrev S1x4x128x128 : Shape := ⟨4, ![1, 4, 128, 128]⟩
abbrev S_ : Shape := ⟨0, ![]⟩
abbrev S4x128x128 : Shape := ⟨3, ![4, 128, 128]⟩
abbrev S512x128 : Shape := ⟨2, ![512, 128]⟩

abbrev nBuf : Space → Nat
  | .hbm => 44
  | .vmem => 0
  | .smem => 0
  | _ => 0

abbrev bufTy : (tb : Table) → Fin (tcTables nBuf tb) → BufTy
  | .hbm, ⟨0, _⟩ => ⟨S8x4x128x128, .f32⟩
  | .hbm, ⟨1, _⟩ => ⟨S1x4x128x128, .f32⟩
  | .hbm, ⟨2, _⟩ => ⟨S1x4x128x128, .f32⟩
  | .hbm, ⟨3, _⟩ => ⟨S1x4x128x128, .f32⟩
  | .hbm, ⟨4, _⟩ => ⟨S_, .f32⟩
  | .hbm, ⟨5, _⟩ => ⟨S4x128x128, .f32⟩
  | .hbm, ⟨6, _⟩ => ⟨S1x4x128x128, .f32⟩
  | .hbm, ⟨7, _⟩ => ⟨S_, .f32⟩
  | .hbm, ⟨8, _⟩ => ⟨S1x4x128x128, .f32⟩
  | .hbm, ⟨9, _⟩ => ⟨S1x4x128x128, .f32⟩
  | .hbm, ⟨10, _⟩ => ⟨S_, .f32⟩
  | .hbm, ⟨11, _⟩ => ⟨S1x4x128x128, .f32⟩
  | .hbm, ⟨12, _⟩ => ⟨S1x4x128x128, .f32⟩
  | .hbm, ⟨13, _⟩ => ⟨S1x4x128x128, .f32⟩
  | .hbm, ⟨14, _⟩ => ⟨S_, .f32⟩
  | .hbm, ⟨15, _⟩ => ⟨S1x4x128x128, .f32⟩
  | .hbm, ⟨16, _⟩ => ⟨S1x4x128x128, .f32⟩
  | .hbm, ⟨17, _⟩ => ⟨S1x4x128x128, .f32⟩
  | .hbm, ⟨18, _⟩ => ⟨S_, .f32⟩
  | .hbm, ⟨19, _⟩ => ⟨S1x4x128x128, .f32⟩
  | .hbm, ⟨20, _⟩ => ⟨S1x4x128x128, .f32⟩
  | .hbm, ⟨21, _⟩ => ⟨S1x4x128x128, .f32⟩
  | .hbm, ⟨22, _⟩ => ⟨S_, .f32⟩
  | .hbm, ⟨23, _⟩ => ⟨S1x4x128x128, .f32⟩
  | .hbm, ⟨24, _⟩ => ⟨S1x4x128x128, .f32⟩
  | .hbm, ⟨25, _⟩ => ⟨S_, .f32⟩
  | .hbm, ⟨26, _⟩ => ⟨S1x4x128x128, .f32⟩
  | .hbm, ⟨27, _⟩ => ⟨S1x4x128x128, .f32⟩
  | .hbm, ⟨28, _⟩ => ⟨S1x4x128x128, .f32⟩
  | .hbm, ⟨29, _⟩ => ⟨S_, .f32⟩
  | .hbm, ⟨30, _⟩ => ⟨S1x4x128x128, .f32⟩
  | .hbm, ⟨31, _⟩ => ⟨S1x4x128x128, .f32⟩
  | .hbm, ⟨32, _⟩ => ⟨S1x4x128x128, .f32⟩
  | .hbm, ⟨33, _⟩ => ⟨S_, .f32⟩
  | .hbm, ⟨34, _⟩ => ⟨S1x4x128x128, .f32⟩
  | .hbm, ⟨35, _⟩ => ⟨S1x4x128x128, .f32⟩
  | .hbm, ⟨36, _⟩ => ⟨S1x4x128x128, .f32⟩
  | .hbm, ⟨37, _⟩ => ⟨S_, .f32⟩
  | .hbm, ⟨38, _⟩ => ⟨S1x4x128x128, .f32⟩
  | .hbm, ⟨39, _⟩ => ⟨S1x4x128x128, .f32⟩
  | .hbm, ⟨40, _⟩ => ⟨S512x128, .f32⟩
  | .hbm, ⟨41, _⟩ => ⟨S512x128, .f32⟩
  | .hbm, ⟨42, _⟩ => ⟨S512x128, .f32⟩
  | .hbm, ⟨43, _⟩ => ⟨S512x128, .f32⟩
  | _, _ => ⟨S8x4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== KernelCw.lean ====
abbrev S4x192 : Shape := ⟨2, ![4, 192]⟩
abbrev S1x4x192 : Shape := ⟨3, ![1, 4, 192]⟩

abbrev nBuf : Space → Nat
  | .hbm => 10
  | .vmem => 7
  | .smem => 0
  | _ => 0

abbrev bufTy : (tb : Table) → Fin (tcTables nBuf tb) → BufTy
  | .hbm, ⟨0, _⟩ => ⟨S4x192, .f32⟩
  | .hbm, ⟨1, _⟩ => ⟨S1x4x192, .f32⟩
  | .hbm, ⟨2, _⟩ => ⟨S1x4x192, .f32⟩
  | .hbm, ⟨3, _⟩ => ⟨S1x4x192, .f32⟩
  | .hbm, ⟨4, _⟩ => ⟨S4x192, .f32⟩
  | .hbm, ⟨5, _⟩ => ⟨S4x192, .f32⟩
  | .hbm, ⟨6, _⟩ => ⟨S4x192, .f32⟩
  | .hbm, ⟨7, _⟩ => ⟨S4x192, .f32⟩
  | .hbm, ⟨8, _⟩ => ⟨S4x192, .f32⟩
  | .hbm, ⟨9, _⟩ => ⟨S4x192, .f32⟩
  | .local _ .vmem, ⟨0, _⟩ => ⟨S4x192, .f32⟩
  | .local _ .vmem, ⟨1, _⟩ => ⟨S4x192, .f32⟩
  | .local _ .vmem, ⟨2, _⟩ => ⟨S4x192, .f32⟩
  | .local _ .vmem, ⟨3, _⟩ => ⟨S4x192, .f32⟩
  | .local _ .vmem, ⟨4, _⟩ => ⟨S4x192, .f32⟩
  | .local _ .vmem, ⟨5, _⟩ => ⟨S4x192, .f32⟩
  | .local _ .vmem, ⟨6, _⟩ => ⟨S4x192, .f32⟩
  | _, _ => ⟨S4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceCwIdeal.lean ====
abbrev S4x192 : Shape := ⟨2, ![4, 192]⟩
abbrev S1x4x192 : Shape := ⟨3, ![1, 4, 192]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x192, .f32⟩
  | .hbm, ⟨1, _⟩ => ⟨S1x4x192, .f32⟩
  | .hbm, ⟨2, _⟩ => ⟨S1x4x192, .f32⟩
  | .hbm, ⟨3, _⟩ => ⟨S1x4x192, .f32⟩
  | .hbm, ⟨4, _⟩ => ⟨S1x4x192, .f32⟩
  | .hbm, ⟨5, _⟩ => ⟨S_, .f32⟩
  | .hbm, ⟨6, _⟩ => ⟨S1x4x192, .f32⟩
  | .hbm, ⟨7, _⟩ => ⟨S1x4x192, .f32⟩
  | .hbm, ⟨8, _⟩ => ⟨S_, .f32⟩
  | .hbm, ⟨9, _⟩ => ⟨S1x4x192, .f32⟩
  | .hbm, ⟨10, _⟩ => ⟨S1x4x192, .f32⟩
  | .hbm, ⟨11, _⟩ => ⟨S1x4x192, .f32⟩
  | .hbm, ⟨12, _⟩ => ⟨S_, .f32⟩
  | .hbm, ⟨13, _⟩ => ⟨S1x4x192, .f32⟩
  | .hbm, ⟨14, _⟩ => ⟨S1x4x192, .f32⟩
  | .hbm, ⟨15, _⟩ => ⟨S1x4x192, .f32⟩
  | .hbm, ⟨16, _⟩ => ⟨S_, .f32⟩
  | .hbm, ⟨17, _⟩ => ⟨S1x4x192, .f32⟩
  | .hbm, ⟨18, _⟩ => ⟨S1x4x192, .f32⟩
  | .hbm, ⟨19, _⟩ => ⟨S1x4x192, .f32⟩
  | .hbm, ⟨20, _⟩ => ⟨S_, .f32⟩
  | .hbm, ⟨21, _⟩ => ⟨S1x4x192, .f32⟩
  | .hbm, ⟨22, _⟩ => ⟨S1x4x192, .f32⟩
  | .hbm, ⟨23, _⟩ => ⟨S_, .f32⟩
  | .hbm, ⟨24, _⟩ => ⟨S1x4x192, .f32⟩
  | .hbm, ⟨25, _⟩ => ⟨S1x4x192, .f32⟩
  | .hbm, ⟨26, _⟩ => ⟨S1x4x192, .f32⟩
  | .hbm, ⟨27, _⟩ => ⟨S_, .f32⟩
  | .hbm, ⟨28, _⟩ => ⟨S1x4x192, .f32⟩
  | .hbm, ⟨29, _⟩ => ⟨S1x4x192, .f32⟩
  | .hbm, ⟨30, _⟩ => ⟨S1x4x192, .f32⟩
  | .hbm, ⟨31, _⟩ => ⟨S_, .f32⟩
  | .hbm, ⟨32, _⟩ => ⟨S1x4x192, .f32⟩
  | .hbm, ⟨33, _⟩ => ⟨S1x4x192, .f32⟩
  | .hbm, ⟨34, _⟩ => ⟨S1x4x192, .f32⟩
  | .hbm, ⟨35, _⟩ => ⟨S_, .f32⟩
  | .hbm, ⟨36, _⟩ => ⟨S1x4x192, .f32⟩
  | .hbm, ⟨37, _⟩ => ⟨S1x4x192, .f32⟩
  | .hbm, ⟨38, _⟩ => ⟨S4x192, .f32⟩
  | .hbm, ⟨39, _⟩ => ⟨S4x192, .f32⟩
  | .hbm, ⟨40, _⟩ => ⟨S4x192, .f32⟩
  | _, _ => ⟨S4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== KernelSml.lean ====
abbrev S8x2x8x1024 : Shape := ⟨4, ![8, 2, 8, 1024]⟩
abbrev S8x8x1024 : Shape := ⟨3, ![8, 8, 1024]⟩
abbrev S8x8x1536 : Shape := ⟨3, ![8, 8, 1536]⟩
abbrev S8x8x128 : Shape := ⟨3, ![8, 8, 128]⟩
abbrev S1x6144 : Shape := ⟨2, ![1, 6144]⟩
abbrev S1x16 : Shape := ⟨2, ![1, 16]⟩
abbrev S1x512 : Shape := ⟨2, ![1, 512]⟩
abbrev S4x1536 : Shape := ⟨2, ![4, 1536]⟩
abbrev S8x1024 : Shape := ⟨2, ![8, 1024]⟩
abbrev S1x2x8x1024 : Shape := ⟨4, ![1, 2, 8, 1024]⟩
abbrev S2x8x1024 : Shape := ⟨3, ![2, 8, 1024]⟩
abbrev S1x8x1024 : Shape := ⟨3, ![1, 8, 1024]⟩
abbrev S1x8x1536 : Shape := ⟨3, ![1, 8, 1536]⟩
abbrev S8x1536 : Shape := ⟨2, ![8, 1536]⟩
abbrev S1x8x128 : Shape := ⟨3, ![1, 8, 128]⟩
abbrev S8x128 : Shape := ⟨2, ![8, 128]⟩
abbrev S1x1024 : Shape := ⟨2, ![1, 1024]⟩

abbrev nBuf : Space → Nat
  | .hbm => 28
  | .vmem => 28
  | .smem => 0
  | _ => 0

abbrev bufTy : (tb : Table) → Fin (tcTables nBuf tb) → BufTy
  | .hbm, ⟨0, _⟩ => ⟨S8x2x8x1024, .f32⟩
  | .hbm, ⟨1, _⟩ => ⟨S8x8x1024, .f32⟩
  | .hbm, ⟨2, _⟩ => ⟨S8x8x1536, .f32⟩
  | .hbm, ⟨3, _⟩ => ⟨S8x8x1024, .f32⟩
  | .hbm, ⟨4, _⟩ => ⟨S8x8x128, .f32⟩
  | .hbm, ⟨5, _⟩ => ⟨S1x6144, .f32⟩
  | .hbm, ⟨6, _⟩ => ⟨S1x6144, .f32⟩
  | .hbm, ⟨7, _⟩ => ⟨S1x6144, .f32⟩
  | .hbm, ⟨8, _⟩ => ⟨S1x16, .f32⟩
  | .hbm, ⟨9, _⟩ => ⟨S1x16, .f32⟩
  | .hbm, ⟨10, _⟩ => ⟨S1x16, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x6144, .f32⟩
  | .hbm, ⟨15, _⟩ => ⟨S1x6144, .f32⟩
  | .hbm, ⟨16, _⟩ => ⟨S1x6144, .f32⟩
  | .hbm, ⟨17, _⟩ => ⟨S1x6144, .f32⟩
  | .hbm, ⟨18, _⟩ => ⟨S1x16, .f32⟩
  | .hbm, ⟨19, _⟩ => ⟨S1x16, .f32⟩
  | .hbm, ⟨20, _⟩ => ⟨S1x16, .f32⟩
  | .hbm, ⟨21, _⟩ => ⟨S1x16, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S4x1536, .f32⟩
  | .hbm, ⟨27, _⟩ => ⟨S8x1024, .f32⟩
  | .local _ .vmem, ⟨0, _⟩ => ⟨S8x2x8x1024, .f32⟩
  | .local _ .vmem, ⟨1, _⟩ => ⟨S8x8x1024, .f32⟩
  | .local _ .vmem, ⟨2, _⟩ => ⟨S8x8x1536, .f32⟩
  | .local _ .vmem, ⟨3, _⟩ => ⟨S8x8x1024, .f32⟩
  | .local _ .vmem, ⟨4, _⟩ => ⟨S8x8x128, .f32⟩
  | .local _ .vmem, ⟨5, _⟩ => ⟨S1x6144, .f32⟩
  | .local _ .vmem, ⟨6, _⟩ => ⟨S1x6144, .f32⟩
  | .local _ .vmem, ⟨7, _⟩ => ⟨S1x6144, .f32⟩
  | .local _ .vmem, ⟨8, _⟩ => ⟨S1x16, .f32⟩
  | .local _ .vmem, ⟨9, _⟩ => ⟨S1x16, .f32⟩
  | .local _ .vmem, ⟨10, _⟩ => ⟨S1x16, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x6144, .f32⟩
  | .local _ .vmem, ⟨15, _⟩ => ⟨S1x6144, .f32⟩
  | .local _ .vmem, ⟨16, _⟩ => ⟨S1x6144, .f32⟩
  | .local _ .vmem, ⟨17, _⟩ => ⟨S1x6144, .f32⟩
  | .local _ .vmem, ⟨18, _⟩ => ⟨S1x16, .f32⟩
  | .local _ .vmem, ⟨19, _⟩ => ⟨S1x16, .f32⟩
  | .local _ .vmem, ⟨20, _⟩ => ⟨S1x16, .f32⟩
  | .local _ .vmem, ⟨21, _⟩ => ⟨S1x16, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S4x1536, .f32⟩
  | .local _ .vmem, ⟨27, _⟩ => ⟨S8x1024, .f32⟩
  | _, _ => ⟨S8x2x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev main_v0_6 : Ref sig .tc := ⟨.hbm, 20, rfl⟩
abbrev main_v0_7 : Ref sig .tc := ⟨.hbm, 21, rfl⟩
abbrev main_v0_8 : Ref sig .tc := ⟨.hbm, 22, rfl⟩
abbrev main_v0_9 : Ref sig .tc := ⟨.hbm, 23, rfl⟩
abbrev main_v0_10 : Ref sig .tc := ⟨.hbm, 24, rfl⟩
abbrev main_v0_11 : Ref sig .tc := ⟨.hbm, 25, rfl⟩
abbrev main_v0_12 : Ref sig .tc := ⟨.hbm, 26, rfl⟩
abbrev main_v0_13 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S8x2x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x6144 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x6144 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x6144 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x6144 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x16 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x16 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x16 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x16 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S4x1536 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S8x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== ReferenceSmlIdeal.lean ====
abbrev S8x2x8x1024 : Shape := ⟨4, ![8, 2, 8, 1024]⟩
abbrev S8x8x1024 : Shape := ⟨3, ![8, 8, 1024]⟩
abbrev S8x8x1536 : Shape := ⟨3, ![8, 8, 1536]⟩
abbrev S8x8x128 : Shape := ⟨3, ![8, 8, 128]⟩
abbrev S1x6144 : Shape := ⟨2, ![1, 6144]⟩
abbrev S1x16 : Shape := ⟨2, ![1, 16]⟩
abbrev S1x512 : Shape := ⟨2, ![1, 512]⟩
abbrev S_ : Shape := ⟨0, ![]⟩
abbrev S8x1024 : Shape := ⟨2, ![8, 1024]⟩
abbrev S8x1536 : Shape := ⟨2, ![8, 1536]⟩
abbrev S8x128 : Shape := ⟨2, ![8, 128]⟩
abbrev S6x1024 : Shape := ⟨2, ![6, 1024]⟩
abbrev S4x1536 : Shape := ⟨2, ![4, 1536]⟩

abbrev nBuf : Space → Nat
  | .hbm => 130
  | .vmem => 0
  | .smem => 0
  | _ => 0

abbrev hbmTy0_0 (i : Nat) : BufTy := match i % 128 with
  | 0 => ⟨S8x2x8x1024, .f32⟩
  | 1 => ⟨S8x8x1024, .f32⟩
  | 2 => ⟨S8x8x1536, .f32⟩
  | 3 => ⟨S8x8x1024, .f32⟩
  | 4 => ⟨S8x8x128, .f32⟩
  | 5 => ⟨S1x6144, .f32⟩
  | 6 => ⟨S1x6144, .f32⟩
  | 7 => ⟨S1x6144, .f32⟩
  | 8 => ⟨S1x16, .f32⟩
  | 9 => ⟨S1x16, .f32⟩
  | 10 => ⟨S1x16, .f32⟩
  | 11 => ⟨S1x512, .f32⟩
  | 12 => ⟨S1x512, .f32⟩
  | 13 => ⟨S1x512, .f32⟩
  | 14 => ⟨S_, .f32⟩
  | 15 => ⟨S8x8x1024, .f32⟩
  | 16 => ⟨S_, .f32⟩
  | 17 => ⟨S8x1024, .f32⟩
  | 18 => ⟨S_, .f32⟩
  | 19 => ⟨S8x1024, .f32⟩
  | 20 => ⟨S_, .f32⟩
  | 21 => ⟨S8x1536, .f32⟩
  | 22 => ⟨S_, .f32⟩
  | 23 => ⟨S8x1024, .f32⟩
  | 24 => ⟨S_, .f32⟩
  | 25 => ⟨S8x128, .f32⟩
  | 26 => ⟨S6x1024, .f32⟩
  | 27 => ⟨S1x6144, .f32⟩
  | 28 => ⟨S1x16, .f32⟩
  | 29 => ⟨S1x512, .f32⟩
  | 30 => ⟨S_, .f32⟩
  | 31 => ⟨S1x6144, .f32⟩
  | 32 => ⟨S1x6144, .f32⟩
  | 33 => ⟨S_, .f32⟩
  | 34 => ⟨S1x6144, .f32⟩
  | 35 => ⟨S1x6144, .f32⟩
  | 36 => ⟨S1x6144, .f32⟩
  | 37 => ⟨S_, .f32⟩
  | 38 => ⟨S1x6144, .f32⟩
  | 39 => ⟨S1x6144, .f32⟩
  | 40 => ⟨S1x6144, .f32⟩
  | 41 => ⟨S_, .f32⟩
  | 42 => ⟨S1x6144, .f32⟩
  | 43 => ⟨S1x6144, .f32⟩
  | 44 => ⟨S1x6144, .f32⟩
  | 45 => ⟨S_, .f32⟩
  | 46 => ⟨S1x6144, .f32⟩
  | 47 => ⟨S1x6144, .f32⟩
  | 48 => ⟨S_, .f32⟩
  | 49 => ⟨S1x6144, .f32⟩
  | 50 => ⟨S1x6144, .f32⟩
  | 51 => ⟨S1x6144, .f32⟩
  | 52 => ⟨S_, .f32⟩
  | 53 => ⟨S1x6144, .f32⟩
  | 54 => ⟨S1x6144, .f32⟩
  | 55 => ⟨S1x6144, .f32⟩
  | 56 => ⟨S_, .f32⟩
  | 57 => ⟨S1x6144, .f32⟩
  | 58 => ⟨S1x6144, .f32⟩
  | 59 => ⟨S1x6144, .f32⟩
  | 60 => ⟨S_, .f32⟩
  | 61 => ⟨S1x6144, .f32⟩
  | 62 => ⟨S1x6144, .f32⟩
  | 63 => ⟨S_, .f32⟩
  | 64 => ⟨S1x16, .f32⟩
  | 65 => ⟨S1x16, .f32⟩
  | 66 => ⟨S_, .f32⟩
  | 67 => ⟨S1x16, .f32⟩
  | 68 => ⟨S1x16, .f32⟩
  | 69 => ⟨S1x16, .f32⟩
  | 70 => ⟨S_, .f32⟩
  | 71 => ⟨S1x16, .f32⟩
  | 72 => ⟨S1x16, .f32⟩
  | 73 => ⟨S1x16, .f32⟩
  | 74 => ⟨S_, .f32⟩
  | 75 => ⟨S1x16, .f32⟩
  | 76 => ⟨S1x16, .f32⟩
  | 77 => ⟨S1x16, .f32⟩
  | 78 => ⟨S_, .f32⟩
  | 79 => ⟨S1x16, .f32⟩
  | 80 => ⟨S1x16, .f32⟩
  | 81 => ⟨S_, .f32⟩
  | 82 => ⟨S1x16, .f32⟩
  | 83 => ⟨S1x16, .f32⟩
  | 84 => ⟨S1x16, .f32⟩
  | 85 => ⟨S_, .f32⟩
  | 86 => ⟨S1x16, .f32⟩
  | 87 => ⟨S1x16, .f32⟩
  | 88 => ⟨S1x16, .f32⟩
  | 89 => ⟨S_, .f32⟩
  | 90 => ⟨S1x16, .f32⟩
  | 91 => ⟨S1x16, .f32⟩
  | 92 => ⟨S1x16, .f32⟩
  | 93 => ⟨S_, .f32⟩
  | 94 => ⟨S1x16, .f32⟩
  | 95 => ⟨S1x16, .f32⟩
  | 96 => ⟨S_, .f32⟩
  | 97 => ⟨S1x512, .f32⟩
  | 98 => ⟨S1x512, .f32⟩
  | 99 => ⟨S_, .f32⟩
  | 100 => ⟨S1x512, .f32⟩
  | 101 => ⟨S1x512, .f32⟩
  | 102 => ⟨S1x512, .f32⟩
  | 103 => ⟨S_, .f32⟩
  | 104 => ⟨S1x512, .f32⟩
  | 105 => ⟨S1x512, .f32⟩
  | 106 => ⟨S1x512, .f32⟩
  | 107 => ⟨S_, .f32⟩
  | 108 => ⟨S1x512, .f32⟩
  | 109 => ⟨S1x512, .f32⟩
  | 110 => ⟨S1x512, .f32⟩
  | 111 => ⟨S_, .f32⟩
  | 112 => ⟨S1x512, .f32⟩
  | 113 => ⟨S1x512, .f32⟩
  | 114 => ⟨S_, .f32⟩
  | 115 => ⟨S1x512, .f32⟩
  | 116 => ⟨S1x512, .f32⟩
  | 117 => ⟨S1x512, .f32⟩
  | 118 => ⟨S_, .f32⟩
  | 119 => ⟨S1x512, .f32⟩
  | 120 => ⟨S1x512, .f32⟩
  | 121 => ⟨S1x512, .f32⟩
  | 122 => ⟨S_, .f32⟩
  | 123 => ⟨S1x512, .f32⟩
  | 124 => ⟨S1x512, .f32⟩
  | 125 => ⟨S1x512, .f32⟩
  | 126 => ⟨S_, .f32⟩
  | 127 => ⟨S1x512, .f32⟩
  | _ => ⟨S8x2x8x1024, .f32⟩

abbrev hbmTy0_1 (i : Nat) : BufTy := match i % 128 with
  | 0 => ⟨S1x512, .f32⟩
  | 1 => ⟨S4x1536, .f32⟩
  | _ => ⟨S8x2x8x1024, .f32⟩

abbrev hbmTy (i : Nat) : BufTy := match i / 128 with
  | 0 => hbmTy0_0 i
  | 1 => hbmTy0_1 i
  | _ => ⟨S8x2x8x1024, .f32⟩

abbrev bufTy : (tb : Table) → Fin (tcTables nBuf tb) → BufTy
  | .hbm, ⟨i, _⟩ => hbmTy i
  | _, _ => ⟨S8x2x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_cst_1 : Ref sig .tc := ⟨.hbm, 18, rfl⟩
abbrev main_v2 : Ref sig .tc := ⟨.hbm, 19, rfl⟩
abbrev main_cst_2 : Ref sig .tc := ⟨.hbm, 20, rfl⟩
abbrev main_v3 : Ref sig .tc := ⟨.hbm, 21, rfl⟩
abbrev main_cst_3 : Ref sig .tc := ⟨.hbm, 22, rfl⟩
abbrev main_v4 : Ref sig .tc := ⟨.hbm, 23, rfl⟩
abbrev main_cst_4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_5 : Ref sig .tc := ⟨.hbm, 30, rfl⟩
abbrev main_v10 : Ref sig .tc := ⟨.hbm, 31, rfl⟩
abbrev main_v11 : Ref sig .tc := ⟨.hbm, 32, rfl⟩
abbrev main_cst_6 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_7 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_8 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_9 : Ref sig .tc := ⟨.hbm, 45, rfl⟩
abbrev main_v21 : Ref sig .tc := ⟨.hbm, 46, rfl⟩
abbrev main_v22 : Ref sig .tc := ⟨.hbm, 47, rfl⟩
abbrev main_cst_10 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_11 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_12 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_13 : Ref sig .tc := ⟨.hbm, 60, rfl⟩
abbrev main_v32 : Ref sig .tc := ⟨.hbm, 61, rfl⟩
abbrev main_v33 : Ref sig .tc := ⟨.hbm, 62, rfl⟩
abbrev main_cst_14 : Ref sig .tc := ⟨.hbm, 63, rfl⟩
abbrev main_v34 : Ref sig .tc := ⟨.hbm, 64, rfl⟩
abbrev main_v35 : Ref sig .tc := ⟨.hbm, 65, rfl⟩
abbrev main_cst_15 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_16 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_17 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_18 : Ref sig .tc := ⟨.hbm, 78, rfl⟩
abbrev main_v45 : Ref sig .tc := ⟨.hbm, 79, rfl⟩
abbrev main_v46 : Ref sig .tc := ⟨.hbm, 80, rfl⟩
abbrev main_cst_19 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_20 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_21 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_22 : Ref sig .tc := ⟨.hbm, 93, rfl⟩
abbrev main_v56 : Ref sig .tc := ⟨.hbm, 94, rfl⟩
abbrev main_v57 : Ref sig .tc := ⟨.hbm, 95, rfl⟩
abbrev main_cst_23 : Ref sig .tc := ⟨.hbm, 96, rfl⟩
abbrev main_v58 : Ref sig .tc := ⟨.hbm, 97, rfl⟩
abbrev main_v59 : Ref sig .tc := ⟨.hbm, 98, rfl⟩
abbrev main_cst_24 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_25 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_26 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_cst_27 : Ref sig .tc := ⟨.hbm, 111, rfl⟩
abbrev main_v69 : Ref sig .tc := ⟨.hbm, 112, rfl⟩
abbrev main_v70 : Ref sig .tc := ⟨.hbm, 113, rfl⟩
abbrev main_cst_28 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_cst_29 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_30 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_31 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩

abbrev nD : Nat := 1
abbrev τ : Topo := Topo.v7x

variable {F : FTy → Type} [FloatOps F]
-- ==== Proof.RowNorm.lean ====
/- The gradient of the root-mean-square normalisation of one row on the extended reals: the kernel's closed form
   `r · (d − n · mean(d·n))` with `n = x·r` against the chain rule's `d·r + 2·x·S`. No finiteness is asked: the variance is
   positive, so `r` is a positive real, or the variance is `⊤` and every term carrying `r` vanishes. -/
module

public import Idealize.ShloMosaic.Lib.Pointwise
public import Idealize.ShloMosaic.Lib.IdealHost

@[expose] public section

noncomputable section

namespace Cert.RowNorm

open Idealize.ShloMosaic

theorem ofBits_1024 : Ideal.ofBits FTy.f32 0x44800000#32 = ((1024 : ℝ) : EReal) := by
  simp [Ideal.ofBits, Ideal.ieee]; rw [← EReal.coe_mul]; norm_num

theorem ofBits_neg_half : Ideal.ofBits FTy.f32 0xBF000000#32 = ((-(1 / 2) : ℝ) : EReal) := by
  simp [Ideal.ofBits, Ideal.ieee]; rw [← EReal.coe_mul]; norm_num

/-- The variance's guard, a positive real. -/
def epsR : ℝ := 10995116 / 2 ^ 40

theorem ofBits_eps : Ideal.ofBits FTy.f32 0x3727C5AC#32 = ((epsR : ℝ) : EReal) := by
  simp [Ideal.ofBits, Ideal.ieee, epsR]; rw [← EReal.coe_mul]; norm_num

theorem epsR_pos : 0 < epsR := by unfold epsR; norm_num

/-- A nonnegative real factor goes through a finite sum. -/
theorem mul_sum {ι : Type*} (s : Finset ι) (f : ι → EReal) (r : ℝ) (hr : 0 ≤ r) :
    (r : EReal) * ∑ k ∈ s, f k = ∑ k ∈ s, (r : EReal) * f k := by
  classical
  induction s using Finset.induction_on with
  | empty => simp
  | insert a s ha ih =>
    rw [Finset.sum_insert ha, Finset.sum_insert ha, ← ih,
      EReal.left_distrib_of_nonneg_of_ne_top (EReal.coe_nonneg.mpr hr) (EReal.coe_ne_top r)]

/-- The variance of a row with its guard: the mean square plus `epsR`. -/
def var {n : ℕ} (x : Fin n → EReal) : EReal :=
  Ideal.div (∑ k, x k * x k) (Ideal.ofBits .f32 0x44800000#32) + Ideal.ofBits .f32 0x3727C5AC#32

theorem mul_self_nonneg (x : EReal) : 0 ≤ x * x := by
  rcases le_total 0 x with h | h
  · exact mul_nonneg h h
  · have := EReal.neg_le_neg_iff.mpr h
    rw [← neg_mul_neg]; rw [neg_zero] at this; exact mul_nonneg this this

theorem var_cases {n : ℕ} (x : Fin n → EReal) : var x = ⊤ ∨ ∃ v : ℝ, 0 < v ∧ var x = (v : EReal) := by
  have h0 : 0 ≤ ∑ k, x k * x k := Finset.sum_nonneg fun k _ => mul_self_nonneg (x k)
  unfold var
  rw [ofBits_1024, ofBits_eps, Ideal.div_coe (by norm_num : (1024 : ℝ) ≠ 0)]
  generalize (∑ k, x k * x k) = s at h0
  induction s with
  | bot => exact absurd h0 (by simp)
  | top =>
    left
    rw [EReal.top_mul_coe_of_pos (by norm_num), EReal.top_add_coe]
  | coe s =>
    right
    have hs : 0 ≤ s := EReal.coe_nonneg.mp h0
    refine ⟨s * (1 / 1024) + epsR, by have := epsR_pos; positivity, ?_⟩
    push_cast; rfl

theorem rsqrt_coe_pos {v : ℝ} (hv : 0 < v) : Ideal.rsqrt (v : EReal) = (((Real.sqrt v)⁻¹ : ℝ) : EReal) := by
  show (if v < 0 then ⊥ else if v = 0 then ⊤ else (((Real.sqrt v)⁻¹ : ℝ) : EReal)) = _
  rw [if_neg hv.not_gt, if_neg hv.ne']

theorem rsqrt_top : Ideal.rsqrt ⊤ = 0 := rfl

/-- The chain rule's factor of the row: `Σ x·d` times the derivative of the reciprocal root, over the row's length. -/
def slope {n : ℕ} (x d : Fin n → EReal) : EReal :=
  Ideal.div ((∑ k, x k * d k) * (Ideal.ofBits .f32 0xBF000000#32 * Ideal.div (Ideal.rsqrt (var x)) (var x)))
    (Ideal.ofBits .f32 0x44800000#32)

theorem half_twice (q : EReal) (α : ℝ) : ((α : ℝ) : EReal) * q + (α : EReal) * q = ((2 * α : ℝ) : EReal) * q := by
  induction q with
  | coe q => norm_cast; ring
  | bot =>
    rcases lt_trichotomy α 0 with h | h | h
    · rw [EReal.coe_mul_bot_of_neg h, EReal.coe_mul_bot_of_neg (by linarith)]; rfl
    · subst h; simp
    · rw [EReal.coe_mul_bot_of_pos h, EReal.coe_mul_bot_of_pos (by linarith)]; rfl
  | top =>
    rcases lt_trichotomy α 0 with h | h | h
    · rw [EReal.coe_mul_top_of_neg h, EReal.coe_mul_top_of_neg (by linarith)]; rfl
    · subst h; simp
    · rw [EReal.coe_mul_top_of_pos h, EReal.coe_mul_top_of_pos (by linarith)]; rfl

/-- The kernel's row gradient is the chain rule's. -/
theorem grad {n : ℕ} (x d : Fin n → EReal) (l : Fin n) :
    Ideal.rsqrt (var x) * (d l - x l * Ideal.rsqrt (var x)
        * Ideal.div (∑ k, d k * (x k * Ideal.rsqrt (var x))) (Ideal.ofBits .f32 0x44800000#32))
      = d l * Ideal.rsqrt (var x) + (x l * slope x d + slope x d * x l) := by
  unfold slope
  rw [ofBits_1024, ofBits_neg_half, Ideal.div_coe (by norm_num : (1024 : ℝ) ≠ 0),
    Ideal.div_coe (by norm_num : (1024 : ℝ) ≠ 0)]
  rcases var_cases x with hv | ⟨v, hv, e⟩
  · rw [hv, rsqrt_top]
    have : Ideal.div 0 ⊤ = 0 := by simp [Ideal.div]
    rw [this]; simp
  · rw [e, rsqrt_coe_pos hv, Ideal.div_coe hv.ne']
    set r : ℝ := (Real.sqrt v)⁻¹ with hr
    have hr0 : 0 ≤ r := by positivity
    have hrr : r * r = 1 / v := by
      rw [hr, ← mul_inv, Real.mul_self_sqrt hv.le, one_div]
    have hs : ∑ k, d k * (x k * (r : EReal)) = (r : EReal) * ∑ k, x k * d k := by
      rw [mul_sum _ _ r hr0]
      exact Finset.sum_congr rfl fun k _ => by rw [← mul_assoc, mul_comm (d k), mul_comm _ (r : EReal)]
    rw [hs]
    generalize (∑ k, x k * d k) = q
    have e1 : x l * (r : EReal) * ((r : EReal) * q * ((1 / 1024 : ℝ) : EReal))
        = ((r * r * (1 / 1024) : ℝ) : EReal) * (x l * q) := by push_cast; ac_rfl
    have e2 : q * (((-(1 / 2) : ℝ) : EReal) * ((r : EReal) * ((1 / v : ℝ) : EReal))) * ((1 / 1024 : ℝ) : EReal)
        = ((-(1 / 2) * (r * (r * r)) * (1 / 1024) : ℝ) : EReal) * q := by rw [← hrr]; push_cast; ac_rfl
    rw [e1, e2, sub_eq_add_neg, EReal.left_distrib_of_nonneg_of_ne_top (EReal.coe_nonneg.mpr hr0) (EReal.coe_ne_top r),
      mul_comm (r : EReal) (d l)]
    congr 1
    have e3 : ∀ α : ℝ, (α : EReal) * q * x l = (α : EReal) * (x l * q) := fun α => by ac_rfl
    have e4 : ∀ α : ℝ, x l * ((α : EReal) * q) = (α : EReal) * (x l * q) := fun α => by ac_rfl
    rw [e3, e4, half_twice, mul_neg, ← neg_mul, ← mul_assoc]
    congr 1
    norm_cast
    ring

end Cert.RowNorm
-- ==== Proof.InSpec.lean ====
module

public import proofs.«01_k».proof.Proof.RowNorm
public import Idealize.ShloMosaic.Lib.Pointwise

@[expose] public section

noncomputable section

/-! The gradient through the mixing sub-layer's norm, modulation and input projection, as functions of the argument arrays on
    the extended reals: what both programs compute. -/

namespace Cert.InSpec

open Idealize.ShloMosaic

/-- The argument arrays: the layer's input, the modulation, the gain, the projection's weight, the gradient into the residual
    stream, the modulation's gradient so far, the gradient of the projection, and the three rows carried along. -/
structure Args where
  a0 : (⟨3, ![2, 2048, 1024]⟩ : Shape).Idx → EReal
  a1 : (⟨2, ![2, 6144]⟩ : Shape).Idx → EReal
  a2 : (⟨2, ![1, 1024]⟩ : Shape).Idx → EReal
  a3 : (⟨3, ![1, 1024, 3088]⟩ : Shape).Idx → EReal
  a4 : (⟨3, ![2, 2048, 1024]⟩ : Shape).Idx → EReal
  a5 : (⟨2, ![2, 6144]⟩ : Shape).Idx → EReal
  a6 : (⟨3, ![2, 2048, 3088]⟩ : Shape).Idx → EReal
  a7 : (⟨2, ![1, 1024]⟩ : Shape).Idx → EReal
  a8 : (⟨2, ![1, 1024]⟩ : Shape).Idx → EReal
  a9 : (⟨2, ![1, 1]⟩ : Shape).Idx → EReal

variable (A : Args) (b : Fin 2) (s : Fin 2048) (l : Fin 1024)

/-- The gradient into the product's rows: the row of `dproj` against the rows of the weight. -/
def dh : EReal := ∑ k : Fin 3088, A.a6 (ix3 b s k) * A.a3 (ix3 0 l k)

/-- One plus the scale of the modulation. -/
def sc : EReal := 1 + A.a1 (ix2 b ⟨1024 + l.val, by omega⟩)

/-- A row of the layer's input, the gradient into its normalised row, and the normalised row. -/
def xr : EReal := A.a0 (ix3 b s l)
def dr : EReal := dh A b s l * (A.a2 (ix2 0 l) * sc A b l)
def nr : EReal := xr A b s l * Ideal.rsqrt (RowNorm.var (xr A b s))

/-- The gradient into the layer's input. -/
def gx : EReal := A.a4 (ix3 b s l) + (dr A b s l * Ideal.rsqrt (RowNorm.var (xr A b s))
  + (xr A b s l * RowNorm.slope (xr A b s) (dr A b s) + RowNorm.slope (xr A b s) (dr A b s) * xr A b s l))

/-- The three results: the input's gradient; the modulation's, its six rows padded to eight; the carried rows. -/
def G0 : (⟨2, ![4096, 1024]⟩ : Shape).Idx → EReal := fun i =>
  gx A ⟨(i 0).val / 2048, by have := (i 0).isLt; simp at this; omega⟩ ⟨(i 0).val % 2048, by omega⟩ (i 1)
def G1 : (⟨3, ![2, 8, 1024]⟩ : Shape).Idx → EReal := fun i =>
  (if h : (i 1).val < 6 then A.a5 (ix2 (i 0) ⟨(i 1).val * 1024 + (i 2).val, by have := (i 2).isLt; simp at this; omega⟩) else 0)
  + (if (i 1).val < 1 then ∑ s, dh A (i 0) s (i 2)
    else if (i 1).val - 1 < 1 then ∑ s, dh A (i 0) s (i 2) * (nr A (i 0) s (i 2) * A.a2 (ix2 0 (i 2))) else 0)
def G2 : (⟨2, ![8, 1024]⟩ : Shape).Idx → EReal := fun i =>
  if (i 0).val < 1 then A.a7 (ix2 0 (i 1)) else if (i 0).val - 1 < 1 then A.a8 (ix2 0 (i 1))
  else if (i 0).val - 1 - 1 < 1 then A.a9 (ix2 0 0)
  else if (i 0).val - 3 < 1 then ∑ b, ∑ s, dh A b s (i 1) * sc A b (i 1) * nr A b s (i 1) else 0

/-- A sequence's sum is its two halves'. -/
theorem halves (f : Fin 2048 → EReal) :
    ∑ s, f s = ∑ x : Fin 1024, f ⟨x.val, by omega⟩ + ∑ x : Fin 1024, f ⟨1024 + x.val, by omega⟩ :=
  Fin.sum_univ_add (a := 1024) (b := 1024) f

end Cert.InSpec

end
-- ==== Proof.InKernel.lean ====
module

public import proofs.«01_k».proof.Proof.Gen.KernelInIdeal.Value
public import proofs.«01_k».proof.Proof.InSpec
public import Idealize.ShloMosaic.Lib.Pointwise
public import Idealize.ShloMosaic.Lib.Pipeline.ValueKit
public import Idealize.ShloMosaic.Lib.StableHlo.ReadAt
public import Idealize.ShloMosaic.Lib.KernelVsHost

@[expose] public section

set_option maxRecDepth 16384

noncomputable section

namespace Cert.InKernel

open Cert.KernelInIdeal Cert.KernelInIdeal.Gen Idealize.ShloMosaic Idealize.ShloMosaic.TcCoe Idealize.SL.Sem
open Idealize.ShloMosaic.Pipeline (Dat)
open Cert.InSpec

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val / 2, 0, 0] ∧ win0_4.index t = ![0, 0] ∧ win0_5.index t = ![0, 0]
    ∧ win0_6.index t = ![t.val / 2, 0, 0] ∧ win0_7.index t = ![0, 0] ∧ win0_8.index t = ![t.val, 0]
    ∧ win0_9.index t = ![t.val / 2, 0, 0] ∧ win0_10.index t = ![0, 0] :=
  (by decide +kernel : ∀ t : Fin grid0.N, win0_0.index t = ![t.val, 0] ∧ win0_1.index t = ![t.val, 0] ∧ win0_2.index t = ![t.val, 0]
    ∧ win0_3.index t = ![t.val / 2, 0, 0] ∧ win0_4.index t = ![0, 0] ∧ win0_5.index t = ![0, 0]
    ∧ win0_6.index t = ![t.val / 2, 0, 0] ∧ win0_7.index t = ![0, 0] ∧ win0_8.index t = ![t.val, 0]
    ∧ win0_9.index t = ![t.val / 2, 0, 0] ∧ win0_10.index t = ![0, 0])

/-- The argument arrays of a launch. -/
abbrev ar (c : Dev nD) : Args :=
  ⟨m (c.tc.loc main_arg0), m (c.tc.loc main_arg1), m (c.tc.loc main_arg2), m (c.tc.loc main_arg3), m (c.tc.loc main_arg4), m (c.tc.loc main_arg5), m (c.tc.loc main_arg6), m (c.tc.loc main_arg7), m (c.tc.loc main_arg8), m (c.tc.loc main_arg9)⟩

abbrev A0 (c : Dev nD) := (ar m c).a0
abbrev A1 (c : Dev nD) := (ar m c).a1
abbrev A2 (c : Dev nD) := (ar m c).a2
abbrev A3 (c : Dev nD) := (ar m c).a3
abbrev A4 (c : Dev nD) := (ar m c).a4
abbrev A5 (c : Dev nD) := (ar m c).a5
abbrev A6 (c : Dev nD) := (ar m c).a6
abbrev A7 (c : Dev nD) := (ar m c).a7
abbrev A8 (c : Dev nD) := (ar m c).a8
abbrev A9 (c : Dev nD) := (ar m c).a9

theorem V15 (c : Dev nD) (R : Fin 4096) (l : Fin 1024) :
    (V m c main_v15 : S4096x1024.Idx → EReal) (ix2 R l) = A0 m c (ix3 ⟨R.val / 2048, by omega⟩ ⟨R.val % 2048, by omega⟩ l) := by
  unfold V
  after_reads_at

theorem V16 (c : Dev nD) (R : Fin 4096) (l : Fin 1024) :
    (V m c main_v16 : S4096x1024.Idx → EReal) (ix2 R l) = A4 m c (ix3 ⟨R.val / 2048, by omega⟩ ⟨R.val % 2048, by omega⟩ l) := by
  unfold V
  after_reads_at

theorem sitofp0 (φ : FTy) : FloatOps.sitofp (F := Ideal) φ (0#32) = 0 := by simp [FloatOps.sitofp]

theorem V9 (c : Dev nD) (R : Fin 4096) (k : Fin 3200) :
    (V m c main_v9 : S4096x3200.Idx → EReal) (ix2 R k)
      = if h : k.val < 3088 then A6 m c (ix3 ⟨R.val / 2048, by omega⟩ ⟨R.val % 2048, by omega⟩ ⟨k.val, h⟩) else 0 := by
  unfold V
  after_reads_at
  rw [sitofp0]

theorem V6 (c : Dev nD) (l : Fin 1024) (k : Fin 3200) :
    (V m c main_v6 : S1024x3200.Idx → EReal) (ix2 l k)
      = if h : k.val < 3088 then A3 m c (ix3 0 l ⟨k.val, h⟩) else 0 := by
  unfold V
  after_reads_at
  rw [sitofp0]

theorem V1 (c : Dev nD) (b : Fin 2) (r : Fin 8) (l : Fin 1024) :
    (V m c main_v1 : S2x8x1024.Idx → EReal) (ix3 b r l)
      = if h : r.val < 6 then A1 m c (ix2 b ⟨r.val * 1024 + l.val, by omega⟩) else 0 := by
  unfold V
  after_reads_at
  rw [sitofp0]

theorem V3 (c : Dev nD) (b : Fin 2) (r : Fin 8) (l : Fin 1024) :
    (V m c main_v3 : S2x8x1024.Idx → EReal) (ix3 b r l)
      = if h : r.val < 6 then A5 m c (ix2 b ⟨r.val * 1024 + l.val, by omega⟩) else 0 := by
  unfold V
  after_reads_at
  rw [sitofp0]

/-- An index of an axis of one. -/
theorem one (a : ℕ) (h : a < 1) : (⟨a, h⟩ : Fin 1) = 0 := Subsingleton.elim _ _

/-- A sum over a padded axis is the sum over the axis. -/
theorem sum_pad (n k : ℕ) (hk : k ≤ n) (f : Fin k → EReal) : (∑ x : Fin n, if h : x.val < k then f ⟨x.val, h⟩ else 0) = ∑ x, f x := by
  obtain ⟨j, rfl⟩ := Nat.exists_eq_add_of_le hk
  rw [Fin.sum_univ_add]
  simp

theorem V14 (c : Dev nD) (R : Fin 8) (l : Fin 1024) :
    (V m c main_v14 : S8x1024.Idx → EReal) (ix2 R l) = if R.val < 1 then A7 m c (ix2 0 l) else if R.val - 1 < 1 then A8 m c (ix2 0 l)
      else if R.val - 1 - 1 < 1 then A9 m c (ix2 0 0) else 0 := by
  unfold V
  after_reads_simp
  dsimp only [Matrix.cons_val]
  after_reads_simp
  pointwise
  simp only [one, dite_eq_ite]

theorem fin_N (t : Fin cfg0.N) : t.val < 4 := lt_of_lt_of_eq t.isLt N_0

/-- The batch of grid point `t`'s rows, and the place of its row `r` in the sequence. -/
def bOf (t : Fin cfg0.N) : Fin 2 := ⟨t.val / 2, by have := fin_N t; omega⟩
def sOf (t : Fin cfg0.N) (r : Fin 1024) : Fin 2048 := ⟨1024 * (t.val % 2) + r.val, by omega⟩
def rOf (t : Fin cfg0.N) (r : Fin 1024) : Fin 4096 := ⟨1024 * t.val + r.val, by have := fin_N t; omega⟩

theorem rOf_b (t : Fin cfg0.N) (r : Fin 1024) (h) : (⟨(rOf t r).val / 2048, h⟩ : Fin 2) = bOf t :=
  Fin.ext (by show (1024 * t.val + r.val) / 2048 = t.val / 2; omega)
theorem rOf_s (t : Fin cfg0.N) (r : Fin 1024) (h) : (⟨(rOf t r).val % 2048, h⟩ : Fin 2048) = sOf t r :=
  Fin.ext (by show (1024 * t.val + r.val) % 2048 = 1024 * (t.val % 2) + r.val; omega)

theorem blk0 (c : Dev nD) (t : Fin cfg0.N) (r l : Fin 1024) :
    iblk m c 0 t (ix2 r l) = A0 m c (ix3 (bOf t) (sOf t r) l) := by
  have : iblk m c 0 t (ix2 r l) = V m c main_v15 (ix2 (rOf t r) l) := by blk_ext [iblk, idx t, rOf]
  rw [this, V15, rOf_b, rOf_s]

theorem blk1 (c : Dev nD) (t : Fin cfg0.N) (r l : Fin 1024) :
    iblk m c 1 t (ix2 r l) = A4 m c (ix3 (bOf t) (sOf t r) l) := by
  have : iblk m c 1 t (ix2 r l) = V m c main_v16 (ix2 (rOf t r) l) := by blk_ext [iblk, idx t, rOf]
  rw [this, V16, rOf_b, rOf_s]

theorem blk2 (c : Dev nD) (t : Fin cfg0.N) (r : Fin 1024) (k : Fin 3200) :
    iblk m c 2 t (ix2 r k) = if h : k.val < 3088 then A6 m c (ix3 (bOf t) (sOf t r) ⟨k.val, h⟩) else 0 := by
  have : iblk m c 2 t (ix2 r k) = V m c main_v9 (ix2 (rOf t r) k) := by blk_ext [iblk, idx t, rOf]
  rw [this, V9, rOf_b, rOf_s]

theorem blk3 (c : Dev nD) (t : Fin cfg0.N) (r : Fin 8) (l : Fin 1024) :
    iblk m c 3 t (ix3 0 r l) = if h : r.val < 6 then A1 m c (ix2 (bOf t) ⟨r.val * 1024 + l.val, by omega⟩) else 0 := by
  have : iblk m c 3 t (ix3 0 r l) = V m c main_v1 (ix3 (bOf t) r l) := by blk_ext [iblk, idx t, bOf]
  rw [this, V1]

theorem blk4 (c : Dev nD) (t : Fin cfg0.N) (l : Fin 1024) : iblk m c 4 t (ix2 0 l) = A2 m c (ix2 0 l) := by
  have : iblk m c 4 t (ix2 0 l) = V m c main_arg2 (ix2 0 l) := by blk_ext [iblk, idx t]
  rw [this, V_main_arg2]

theorem blk5 (c : Dev nD) (t : Fin cfg0.N) (l : Fin 1024) (k : Fin 3200) :
    iblk m c 5 t (ix2 l k) = if h : k.val < 3088 then A3 m c (ix3 0 l ⟨k.val, h⟩) else 0 := by
  have : iblk m c 5 t (ix2 l k) = V m c main_v6 (ix2 l k) := by blk_ext [iblk, idx t]
  rw [this, V6]

theorem blk6 (c : Dev nD) (t : Fin cfg0.N) (r : Fin 8) (l : Fin 1024) :
    iblk m c 6 t (ix3 0 r l) = if h : r.val < 6 then A5 m c (ix2 (bOf t) ⟨r.val * 1024 + l.val, by omega⟩) else 0 := by
  have : iblk m c 6 t (ix3 0 r l) = V m c main_v3 (ix3 (bOf t) r l) := by blk_ext [iblk, idx t, bOf]
  rw [this, V3]

theorem blk7 (c : Dev nD) (t : Fin cfg0.N) (R : Fin 8) (l : Fin 1024) :
    iblk m c 7 t (ix2 R l) = if R.val < 1 then A7 m c (ix2 0 l) else if R.val - 1 < 1 then A8 m c (ix2 0 l)
      else if R.val - 1 - 1 < 1 then A9 m c (ix2 0 0) else 0 := by
  have : iblk m c 7 t (ix2 R l) = V m c main_v14 (ix2 R l) := by blk_ext [iblk, idx t]
  rw [this, V14]

/-! ## The payloads at an index -/

section Payloads

variable (v20 v22 v57 : FVec Ideal S1024x1024 .f32) (v24 : FVec Ideal S8x1024 .f32) (v25 : FVec Ideal S1x1024 .f32)
  (v30 v31 : FVec Ideal S1024x1 .f32)

theorem pay13_apply (r l : Fin 1024) : k0_pay13 v20 v22 v24 v25 v30 v31 v57 (ix2 r l) = v57 (ix2 r l) +
      Ideal.rsqrt (v30 (ix2 r 0) + v31 (ix2 r 0)) * (v20 (ix2 r l) * (v25 (ix2 0 l) * (1 + v24 (ix2 1 l)))
        - v22 (ix2 r l) * Ideal.rsqrt (v30 (ix2 r 0) + v31 (ix2 r 0))
          * Ideal.div (∑ x, v20 (ix2 r x) * (v25 (ix2 0 x) * (1 + v24 (ix2 1 x)))
              * (v22 (ix2 r x) * Ideal.rsqrt (v30 (ix2 r 0) + v31 (ix2 r 0)))) (Ideal.ofBits FTy.f32 0x44800000#32)) := by
  pointwise [k0_pay13, k0_pay10, k0_pay11]

theorem pay12_apply (l : Fin 1024) : k0_pay12 v20 v22 v24 v30 v31 (ix2 0 l)
      = ∑ x, v20 (ix2 x l) * (1 + v24 (ix2 1 l)) * (v22 (ix2 x l) * Ideal.rsqrt (v30 (ix2 x 0) + v31 (ix2 x 0))) := by
  pointwise [k0_pay12, k0_pay10, k0_pay11]

theorem pay14_apply (v71 : FVec Ideal S1x8x1024 .f32) (r : Fin 8) (l : Fin 1024) :
    k0_pay1 (k0_pay14 v20 v22 v25 v30 v31 v71) (ix3 0 r l) = v71 (ix3 0 r l) +
      if r.val < 1 then ∑ x, v20 (ix2 x l)
      else if r.val - 1 < 1 then
        ∑ x, v20 (ix2 x l) * (v22 (ix2 x l) * Ideal.rsqrt (v30 (ix2 x 0) + v31 (ix2 x 0)) * v25 (ix2 0 l)) else 0 := by
  pointwise [k0_pay1, k0_pay14, k0_pay10, k0_pay11]
  rfl

theorem pay2_apply (v50 : FVec Ideal S1x1024 .f32) (v79 : FVec Ideal S8x1024 .f32) (r : Fin 8) (l : Fin 1024) :
    k0_pay2 v50 v79 (ix2 r l) = v79 (ix2 r l) +
      if r.val < 3 then 0 else if r.val - 3 < 1 then v50 (ix2 0 l) else 0 := by
  pointwise [k0_pay2]
  simp only [one, dite_eq_ite]

end Payloads

/-! ## The block values of a point over the arguments -/

theorem pay5_apply (c : Dev nD) (t : Fin cfg0.N) (r l : Fin 1024) :
    k0_pay5 (F := Ideal) (iblk m c 2 t) (iblk m c 5 t) (ix2 r l) = dh (ar m c) (bOf t) (sOf t r) l := by
  pointwise [k0_pay5]
  simp only [blk2, blk5]
  refine Eq.trans (Finset.sum_congr rfl fun x _ => ?_) (sum_pad 3200 3088 (by decide) fun k => A6 m c (ix3 (bOf t) (sOf t r) k) * A3 m c (ix3 0 l k))
  split_ifs
  · rfl
  · exact mul_zero _

theorem pay10_apply (c : Dev nD) (t : Fin cfg0.N) (r : Fin 1024) :
    k0_pay8 (F := Ideal) (iblk m c 0 t) (ix2 r 0) + k0_pay9 (F := Ideal) (ix2 r 0) = RowNorm.var (xr (ar m c) (bOf t) (sOf t r)) := by
  pointwise [k0_pay8, k0_pay9, k0_pay6]
  simp only [blk0]
  rfl

theorem pay6_apply (c : Dev nD) (t : Fin cfg0.N) (r l : Fin 1024) :
    k0_pay6 (F := Ideal) (iblk m c 0 t) (ix2 r l) = xr (ar m c) (bOf t) (sOf t r) l := by
  pointwise [k0_pay6]
  exact blk0 m c t r l

theorem pay7_apply (c : Dev nD) (t : Fin cfg0.N) (l : Fin 1024) :
    1 + k0_pay7 (F := Ideal) (iblk m c 3 t) (ix2 1 l) = sc (ar m c) (bOf t) l := by
  pointwise [k0_pay7]
  rw [blk3]
  rfl

/-- The rows a point adds to the modulation's gradient and to the gain's. -/
def dmT (c : Dev nD) (t : Fin cfg0.N) (r : Fin 8) (l : Fin 1024) : EReal :=
  if r.val < 1 then ∑ x, dh (ar m c) (bOf t) (sOf t x) l
  else if r.val - 1 < 1 then ∑ x, dh (ar m c) (bOf t) (sOf t x) l * (nr (ar m c) (bOf t) (sOf t x) l * A2 m c (ix2 0 l)) else 0
def dgT (c : Dev nD) (t : Fin cfg0.N) (r : Fin 8) (l : Fin 1024) : EReal :=
  if r.val < 3 then 0
  else if r.val - 3 < 1 then ∑ x, dh (ar m c) (bOf t) (sOf t x) l * sc (ar m c) (bOf t) l * nr (ar m c) (bOf t) (sOf t x) l else 0

theorem dx_pay (c : Dev nD) (t : Fin cfg0.N) (r l : Fin 1024) :
    k0_pay13 (F := Ideal) (k0_pay5 (iblk m c 2 t) (iblk m c 5 t)) (k0_pay6 (iblk m c 0 t)) (k0_pay7 (iblk m c 3 t)) (iblk m c 4 t)
      (k0_pay8 (iblk m c 0 t)) k0_pay9 (iblk m c 1 t) (ix2 r l) = gx (ar m c) (bOf t) (sOf t r) l := by
  rw [pay13_apply]
  simp only [pay5_apply, pay6_apply, pay7_apply, pay10_apply, blk4, blk1]
  exact congrArg (_ + ·) (RowNorm.grad _ (dr (ar m c) (bOf t) (sOf t r)) l)

theorem dm_pay (c : Dev nD) (t : Fin cfg0.N) (v : FVec Ideal S1x8x1024 .f32) (r : Fin 8) (l : Fin 1024) :
    k0_pay1 (F := Ideal) (k0_pay14 (k0_pay5 (iblk m c 2 t) (iblk m c 5 t)) (k0_pay6 (iblk m c 0 t)) (iblk m c 4 t)
      (k0_pay8 (iblk m c 0 t)) k0_pay9 v) (ix3 0 r l) = v (ix3 0 r l) + dmT m c t r l := by
  rw [pay14_apply]
  simp only [pay5_apply, pay6_apply, pay10_apply, blk4]
  rfl

theorem dg_pay (c : Dev nD) (t : Fin cfg0.N) (v : FVec Ideal S8x1024 .f32) (r : Fin 8) (l : Fin 1024) :
    k0_pay2 (F := Ideal) (k0_pay12 (k0_pay5 (iblk m c 2 t) (iblk m c 5 t)) (k0_pay6 (iblk m c 0 t)) (k0_pay7 (iblk m c 3 t))
        (k0_pay8 (iblk m c 0 t)) k0_pay9) v (ix2 r l) = v (ix2 r l) + dgT m c t r l := by
  rw [pay2_apply, pay12_apply]
  simp only [pay5_apply, pay6_apply, pay7_apply, pay10_apply]
  rfl

/-! ## The outputs after a point -/

theorem out_dx (c : Dev nD) (t : Fin cfg0.N) (r l : Fin 1024) :
    (outsAt0 m c t.val t.isLt).1 (ix2 r l) = gx (ar m c) (bOf t) (sOf t r) l := by
  by_cases h1 : t.val % 2 = 0
  · by_cases h0 : t.val % 4 = 0
    · rw [outsAt0_A m c t h0 h1]
      frame_out
      exact dx_pay m c t r l
    · rw [outsAt0_C m c t h0 h1]
      frame_out
      exact dx_pay m c t r l
  · rw [outsAt0_B m c t (by omega) h1]
    frame_out
    exact dx_pay m c t r l

theorem out_dm_even (c : Dev nD) (t : Fin cfg0.N) (h1 : t.val % 2 = 0) (r : Fin 8) (l : Fin 1024) :
    (outsAt0 m c t.val t.isLt).2.1 (ix3 0 r l) = k0_pay4 (F := Ideal) (iblk m c 6 t) (ix3 0 r l) + dmT m c t r l := by
  by_cases h0 : t.val % 4 = 0
  · rw [outsAt0_A m c t h0 h1]
    frame_out
    exact dm_pay m c t _ r l
  · rw [outsAt0_C m c t h0 h1]
    frame_out
    exact dm_pay m c t _ r l

theorem out_dm_odd (c : Dev nD) (t : Fin cfg0.N) (h1 : ¬t.val % 2 = 0) (r : Fin 8) (l : Fin 1024) :
    (outsAt0 m c t.val t.isLt).2.1 (ix3 0 r l)
      = (outsAt0 m c (t.val - 1) (Nat.lt_of_le_of_lt (Nat.sub_le _ _) t.isLt)).2.1 (ix3 0 r l) + dmT m c t r l := by
  rw [outsAt0_B m c t (by omega) h1]
  frame_out
  exact dm_pay m c t _ r l

theorem out_dg_first (c : Dev nD) (t : Fin cfg0.N) (h0 : t.val % 4 = 0) (r : Fin 8) (l : Fin 1024) :
    (outsAt0 m c t.val t.isLt).2.2 (ix2 r l) = (if r.val < 1 then A7 m c (ix2 0 l) else if r.val - 1 < 1 then A8 m c (ix2 0 l)
      else if r.val - 1 - 1 < 1 then A9 m c (ix2 0 0) else 0) + dgT m c t r l := by
  rw [outsAt0_A m c t h0 (by omega)]
  frame_out
  refine (dg_pay m c t _ r l).trans (congrArg (· + _) ?_)
  pointwise [k0_pay3]
  exact blk7 m c t r l

theorem out_dg_next (c : Dev nD) (t : Fin cfg0.N) (h0 : ¬t.val % 4 = 0) (r : Fin 8) (l : Fin 1024) :
    (outsAt0 m c t.val t.isLt).2.2 (ix2 r l)
      = (outsAt0 m c (t.val - 1) (Nat.lt_of_le_of_lt (Nat.sub_le _ _) t.isLt)).2.2 (ix2 r l) + dgT m c t r l := by
  by_cases h1 : t.val % 2 = 0
  · rw [outsAt0_C m c t h0 h1]
    frame_out
    exact dg_pay m c t _ r l
  · rw [outsAt0_B m c t h0 h1]
    frame_out
    exact dg_pay m c t _ r l

/-! ## The results -/

theorem final8 (c : Dev nD) : (dats m 0 c).arrAt 8 cfg0.N = G0 (ar m c) := by
  refine (dats m 0 c).arrAt_eq_of_covers 8 _ (by decide +kernel) fun t hf y => ?_
  blk_simp
  rw [after0_8]
  obtain ⟨r, l, rfl⟩ : ∃ (r l : Fin 1024), y = ix2 r l := ⟨y 0, y 1, eq_ix2 y⟩
  have e : (win0_8.blk t).view.emb (ix2 r l) = ix2 (rOf t r) l := by blk_ext [idx t, rOf]
  refine (out_dx m c t r l).trans (Eq.trans ?_ (congrArg (G0 (ar m c)) e).symm)
  exact congrArg₂ (fun b s => gx (ar m c) b s l) (rOf_b t r _).symm (rOf_s t r _).symm

theorem final9 (c : Dev nD) : (dats m 0 c).arrAt 9 cfg0.N = G1 (ar m c) := by
  refine (dats m 0 c).arrAt_eq_of_covers 9 _ (by decide +kernel) fun t hf y => ?_
  blk_simp
  rw [after0_9]
  obtain ⟨z, r, l, rfl⟩ : ∃ (z : Fin 1) (r : Fin 8) (l : Fin 1024), y = ix3 z r l := ⟨y 0, y 1, y 2, eq_ix3 y⟩
  obtain rfl : z = 0 := Subsingleton.elim _ _
  have e : (win0_9.blk t).view.emb (ix3 0 r l) = ix3 (bOf t) r l := by blk_ext [idx t, bOf]
  have h1 : t.val % 2 = 1 := (flush0_9 t).mp hf
  have hp : t.val - 1 < cfg0.N := Nat.lt_of_le_of_lt (Nat.sub_le _ _) t.isLt
  have hb : bOf ⟨t.val - 1, hp⟩ = bOf t := Fin.ext (by show (t.val - 1) / 2 = t.val / 2; omega)
  have hs : ∀ x, sOf ⟨t.val - 1, hp⟩ x = ⟨x.val, by omega⟩ := fun x => Fin.ext (by show 1024 * ((t.val - 1) % 2) + x.val = x.val; omega)
  have hs' : ∀ x, sOf t x = ⟨1024 + x.val, by omega⟩ := fun x => Fin.ext (by show 1024 * (t.val % 2) + x.val = 1024 + x.val; omega)
  refine Eq.trans ?_ (congrArg (G1 (ar m c)) e).symm
  refine (out_dm_odd m c t (by omega) r l).trans ?_
  refine (congrArg (· + _) (out_dm_even m c ⟨t.val - 1, hp⟩ (by show (t.val - 1) % 2 = 0; omega) r l)).trans ?_
  show _ = (if h : r.val < 6 then A5 m c (ix2 (bOf t) ⟨r.val * 1024 + l.val, _⟩) else 0) + (if r.val < 1 then _ else if r.val - 1 < 1 then _ else _)
  rw [add_assoc]
  unfold dmT
  simp only [hb, hs, hs', halves]
  congr 1
  · pointwise [k0_pay4]
    rw [blk6]
    simp only [hb]
  · split_ifs
    · rfl
    · rfl
    · exact add_zero _

theorem prev (c : Dev nD) (t t' : Fin cfg0.N) (e : t'.val + 1 = t.val) (i : S8x1024.Idx) :
    (outsAt0 m c (t.val - 1) (Nat.lt_of_le_of_lt (Nat.sub_le _ _) t.isLt)).2.2 i = (outsAt0 m c t'.val t'.isLt).2.2 i := by
  obtain ⟨t, ht⟩ := t
  obtain rfl : t = t'.val + 1 := e.symm
  rfl

/-- The rows the points have added after the last of them. -/
theorem dg_sum (c : Dev nD) (t0 t1 t2 t3 : Fin cfg0.N) (h0 : t0.val = 0) (h1 : t1.val = 1) (h2 : t2.val = 2) (h3 : t3.val = 3)
    (r : Fin 8) (l : Fin 1024) :
    dgT m c t0 r l + dgT m c t1 r l + dgT m c t2 r l + dgT m c t3 r l
      = if r.val < 3 then 0 else if r.val - 3 < 1 then ∑ b, ∑ s, dh (ar m c) b s l * sc (ar m c) b l * nr (ar m c) b s l else 0 := by
  have b0 : bOf t0 = 0 := Fin.ext (by show t0.val / 2 = 0; omega)
  have b1 : bOf t1 = 0 := Fin.ext (by show t1.val / 2 = 0; omega)
  have b2 : bOf t2 = 1 := Fin.ext (by show t2.val / 2 = 1; omega)
  have b3 : bOf t3 = 1 := Fin.ext (by show t3.val / 2 = 1; omega)
  have s0 : ∀ x, sOf t0 x = ⟨x.val, by omega⟩ := fun x => Fin.ext (by show 1024 * (t0.val % 2) + x.val = x.val; omega)
  have s1 : ∀ x, sOf t1 x = ⟨1024 + x.val, by omega⟩ := fun x => Fin.ext (by show 1024 * (t1.val % 2) + x.val = 1024 + x.val; omega)
  have s2 : ∀ x, sOf t2 x = ⟨x.val, by omega⟩ := fun x => Fin.ext (by show 1024 * (t2.val % 2) + x.val = x.val; omega)
  have s3 : ∀ x, sOf t3 x = ⟨1024 + x.val, by omega⟩ := fun x => Fin.ext (by show 1024 * (t3.val % 2) + x.val = 1024 + x.val; omega)
  unfold dgT
  simp only [b0, b1, b2, b3, s0, s1, s2, s3, Fin.sum_univ_two, halves]
  split_ifs
  · simp only [add_zero]
  · simp only [add_assoc]
  · simp only [add_zero]

theorem acc4 (c : Dev nD) (t0 t1 t2 t3 : Fin cfg0.N) (h0 : t0.val = 0) (h1 : t1.val = 1) (h2 : t2.val = 2) (h3 : t3.val = 3)
    (r : Fin 8) (l : Fin 1024) : (outsAt0 m c t3.val t3.isLt).2.2 (ix2 r l) = G2 (ar m c) (ix2 r l) := by
  rw [out_dg_next m c t3 (by omega), prev m c t3 t2 (by omega), out_dg_next m c t2 (by omega), prev m c t2 t1 (by omega),
    out_dg_next m c t1 (by omega), prev m c t1 t0 (by omega), out_dg_first m c t0 (by omega)]
  rw [show ∀ k a b c d : EReal, k + a + b + c + d = k + (a + b + c + d) from fun k a b c d => by simp only [add_assoc], dg_sum m c t0 t1 t2 t3 h0 h1 h2 h3]
  show _ = if r.val < 1 then A7 m c (ix2 0 l) else if r.val - 1 < 1 then A8 m c (ix2 0 l) else if r.val - 1 - 1 < 1 then A9 m c (ix2 0 0)
    else if r.val - 3 < 1 then ∑ b, ∑ s, dh (ar m c) b s l * sc (ar m c) b l * nr (ar m c) b s l else 0
  split_ifs <;> first | omega | simp only [add_zero, zero_add]

theorem final10 (c : Dev nD) : (dats m 0 c).arrAt 10 cfg0.N = G2 (ar m c) := by
  refine (dats m 0 c).arrAt_eq_of_after_last 10 t0_3 (by decide +kernel) _ fun j => ?_
  blk_simp
  rw [after0_10]
  obtain ⟨r, l, rfl⟩ : ∃ (r : Fin 8) (l : Fin 1024), j = ix2 r l := ⟨j 0, j 1, eq_ix2 j⟩
  exact acc4 m c ⟨0, by decide⟩ ⟨1, by decide⟩ ⟨2, by decide⟩ ⟨3, by decide⟩ rfl rfl rfl rfl r l

end Cert.InKernel

end
-- ==== Proof.Sums.lean ====
module

public import Idealize.ShloMosaic.Lib.Pointwise

@[expose] public section

/-! The host's sum over the first two axes of three. -/

namespace Cert.Sums

open Idealize.ShloMosaic

variable {n0 n1 n2 : ℕ}

theorem drop_iff (h : (⟨3, ![n0, n1, n2]⟩ : Shape).ReducesTo [0, 1] ⟨1, ![n2]⟩) (l : Fin n2) (i : (⟨3, ![n0, n1, n2]⟩ : Shape).Idx) :
    h.drop i = ix1 l ↔ ∃ k : Fin n0 × Fin n1, ix3 k.1 k.2 l = i := by
  constructor
  · intro e
    refine ⟨(i 0, i 1), ?_⟩
    have e0 : (i 2).val = l.val := congrArg Fin.val (congrFun e 0)
    funext a
    apply Fin.ext
    match a with
    | ⟨0, _⟩ => rfl
    | ⟨1, _⟩ => rfl
    | ⟨2, _⟩ => exact e0.symm
  · rintro ⟨k, rfl⟩
    funext b
    apply Fin.ext
    match b with
    | ⟨0, _⟩ => rfl

@[pointwise] theorem sum01 (h : (⟨3, ![n0, n1, n2]⟩ : Shape).ReducesTo [0, 1] ⟨1, ![n2]⟩) (v : (⟨3, ![n0, n1, n2]⟩ : Shape).Idx → EReal)
    (init : EReal) (l : Fin n2) : Ideal.hostReduceAdd h v init (ix1 l) = init + ∑ b, ∑ s, v (ix3 b s l) := by
  refine congrArg (init + ·) ((Finset.sum_filter_eq_sum_of_fiber _ (fun k : Fin n0 × Fin n1 => ix3 k.1 k.2 l)
    (fun _ _ e => Prod.ext (congrFun e 0) (congrFun e 1)) (drop_iff h l) v).trans ?_)
  simp only [Fintype.sum_prod_type]

end Cert.Sums
-- ==== Proof.InRef.lean ====
module

public import proofs.«01_k».proof.Proof.Gen.ReferenceInIdeal.Run
public import proofs.«01_k».proof.Proof.InSpec
public import proofs.«01_k».proof.Proof.Sums
public import Idealize.ShloMosaic.Lib.Pointwise
public import Idealize.ShloMosaic.Lib.KernelVsHost

@[expose] public section

set_option maxRecDepth 16384

noncomputable section

/-! The reference's three results at an index: the values of `InSpec`. -/

namespace Cert.InRef

open Cert.ReferenceInIdeal Cert.ReferenceInIdeal.Gen Cert.ReferenceInIdeal.Value Idealize.ShloMosaic Idealize.ShloMosaic.TcCoe Idealize.SL.Sem Cert.InSpec

variable (m : (ℓ : Loc nD τ sig) → Buf (Elt Ideal) ℓ)

/-- The argument arrays of a launch. -/
abbrev ar (c : Dev nD) : Args :=
  ⟨m (c.tc.loc main_arg0), m (c.tc.loc main_arg1), m (c.tc.loc main_arg2), m (c.tc.loc main_arg3), m (c.tc.loc main_arg4), m (c.tc.loc main_arg5), m (c.tc.loc main_arg6), m (c.tc.loc main_arg7), m (c.tc.loc main_arg8), m (c.tc.loc main_arg9)⟩

/-! ## The arrays the results are made of -/

section Stages

variable (x d : FVec Ideal S2x2048x1024 .f32) (v : FVec Ideal S2x2048x1 .f32) (A : Args)

/-- The gradient into the product's rows. -/
def DH : FVec Ideal S2x2048x1024 .f32 :=
  Host.dotGeneral (φ₁ := .f32) (φ₂ := .f32) dot_S2x2048x3088_S1024x3088_S2x2048x1024_2_1_01_0_n_n none A.a6 (shapeCast _ (A.a3 : FVec Ideal S1x1024x3088 .f32) shapeCasts_S1x1024x3088_S1024x3088)

/-- A row's mean square and the guard. -/
def VA : FVec Ideal S2x2048x1 .f32 :=
  addf (Host.divf (broadcastInDim S2x2048x1 ![0, 1] bcast_S2x2048_S2x2048x1_0_1 (Host.reduceAdd (mulf x x) (constant S_ .f32 0x00000000#32) reducesTo_S2x2048x1024_S2x2048_d2 h_S_))
    (broadcastInDim S2x2048x1 ![] bcast_S_S2x2048x1 (constant S_ .f32 0x44800000#32))) (broadcastInDim S2x2048x1 ![] bcast_S_S2x2048x1 (constant S_ .f32 0x3727C5AC#32))

/-- One plus the scale, the gain, and the row's inverse root, over the rows. -/
def SC : FVec Ideal S2x2048x1024 .f32 :=
  broadcastInDim S2x2048x1024 ![0, 1, 2] bcast_S2x1x1024_S2x2048x1024_0_1_2 (addf (broadcastInDim S2x1x1024 ![] bcast_S_S2x1x1024 (constant S_ .f32 0x3F800000#32))
    (extractStridedSlice S2x1x1024 ![0, 0, 1024] (broadcastInDim S2x1x6144 ![0, 2] bcast_S2x6144_S2x1x6144_0_2 (A.a1 : FVec Ideal S2x6144 .f32)) slices_S2x1x6144_S2x1x1024_0_0_1024))
def GN : FVec Ideal S2x2048x1024 .f32 :=
  broadcastInDim S2x2048x1024 ![0, 1, 2] bcast_S1x1x1024_S2x2048x1024_0_1_2 (broadcastInDim S1x1x1024 ![2] bcast_S1024_S1x1x1024_2 (shapeCast _ (A.a2 : FVec Ideal S1x1024 .f32) shapeCasts_S1x1024_S1024))
def RS : FVec Ideal S2x2048x1024 .f32 := broadcastInDim S2x2048x1024 ![0, 1, 2] bcast_S2x2048x1_S2x2048x1024_0_1_2 (Host.rsqrt v)

/-- The row's slope: the gradient into its mean square, over the row. -/
def SL : FVec Ideal S2x2048x1024 .f32 :=
  broadcastInDim S2x2048x1024 ![0, 1] bcast_S2x2048_S2x2048x1024_0_1 (Host.reduceAdd (Host.divf (mulf (shapeCast _ (Host.reduceAdd (mulf x d) (constant S_ .f32 0x00000000#32)
      reducesTo_S2x2048x1024_S2x2048_d2 h_S_) shapeCasts_S2x2048_S2x2048x1) (mulf (broadcastInDim S2x2048x1 ![] bcast_S_S2x2048x1 (constant S_ .f32 0xBF000000#32))
      (Host.divf (Host.rsqrt v) v))) (broadcastInDim S2x2048x1 ![] bcast_S_S2x2048x1 (constant S_ .f32 0x44800000#32))) (constant S_ .f32 0x00000000#32) reducesTo_S2x2048x1_S2x2048_d2 h_S_)

theorem DH_apply (b : Fin 2) (s : Fin 2048) (l : Fin 1024) : DH A (ix3 b s l) = dh A b s l := by
  pointwise [DH]
  rfl

theorem VA_apply (b : Fin 2) (s : Fin 2048) : VA x (ix3 b s 0) = RowNorm.var (fun k => x (ix3 b s k)) := by
  pointwise [VA]
  rfl

theorem SC_apply (b : Fin 2) (s : Fin 2048) (l : Fin 1024) : SC A (ix3 b s l) = sc A b l := by
  pointwise [SC]
  rfl

theorem GN_apply (b : Fin 2) (s : Fin 2048) (l : Fin 1024) : GN A (ix3 b s l) = A.a2 (ix2 0 l) := by
  pointwise [GN]

theorem RS_apply (b : Fin 2) (s : Fin 2048) (l : Fin 1024) : RS v (ix3 b s l) = Ideal.rsqrt (v (ix3 b s 0)) := by
  pointwise [RS]

theorem SL_apply (b : Fin 2) (s : Fin 2048) (l : Fin 1024) :
    SL x d v (ix3 b s l) = Ideal.div ((∑ k, x (ix3 b s k) * d (ix3 b s k)) * (Ideal.ofBits .f32 0xBF000000#32
      * Ideal.div (Ideal.rsqrt (v (ix3 b s 0))) (v (ix3 b s 0)))) (Ideal.ofBits .f32 0x44800000#32) := by
  pointwise [SL]
  exact Fin.sum_univ_one _

/-- The first result from its parts. -/
def X0 (a4 : FVec Ideal S2x2048x1024 .f32) (r s : FVec Ideal S2x2048x1024 .f32) : FVec Ideal S4096x1024 .f32 :=
  shapeCast _ (addf (addf (addf a4 (mulf d r)) (mulf x s)) (mulf s x)) shapeCasts_S2x2048x1024_S4096x1024

theorem X0_apply (a4 r s : FVec Ideal S2x2048x1024 .f32) (R : Fin 4096) (l : Fin 1024) :
    X0 x d a4 r s (ix2 R l) = (fun b q => a4 (ix3 b q l) + d (ix3 b q l) * r (ix3 b q l) + x (ix3 b q l) * s (ix3 b q l) + s (ix3 b q l) * x (ix3 b q l))
      ⟨R.val / 2048, by omega⟩ ⟨R.val % 2048, by omega⟩ := by
  pointwise [X0]

/-- The modulation's gradient from the rows of the shift and of the scale, and its six rows padded to eight. -/
def Z1 : FVec Ideal S2x1x1024 .f32 := broadcastInDim S2x1x1024 ![] bcast_S_S2x1x1024 (constant S_ .f32 0x00000000#32)
def M1 : FVec Ideal S2x1x1024 .f32 := shapeCast _ (Host.reduceAdd x (constant S_ .f32 0x00000000#32) reducesTo_S2x2048x1024_S2x1024_d1 h_S_) shapeCasts_S2x1024_S2x1x1024
def X1 (u v : FVec Ideal S2x1x1024 .f32) : FVec Ideal S2x8x1024 .f32 :=
  pad S2x8x1024 ![0, 0, 0] ![0, 2, 0] ![0, 0, 0] (shapeCast _ (addf (F := Ideal) (φ := .f32) A.a5 (Host.reduceAdd (fn_main_v66 (F := Ideal) u v Z1 Z1 Z1 Z1)
    (constant S_ .f32 0x00000000#32) reducesTo_S2x1x6144_S2x6144_d1 h_S_)) shapeCasts_S2x6144_S2x6x1024) (sitofp .f32 (constantI S_ 32 0#32)) pads_S2x6x1024_S2x8x1024_000_020_000 h_S_

theorem M1_apply (b : Fin 2) (l : Fin 1024) : M1 x (ix3 b 0 l) = ∑ s, x (ix3 b s l) := by
  pointwise [M1]
  try rfl

theorem X1_apply (u v : FVec Ideal S2x1x1024 .f32) (b : Fin 2) (r : Fin 8) (l : Fin 1024) :
    X1 A u v (ix3 b r l) = (if h : r.val < 6 then A.a5 (ix2 b ⟨r.val * 1024 + l.val, by omega⟩) else 0)
      + (if r.val < 1 then u (ix3 b 0 l) else if r.val - 1 < 1 then v (ix3 b 0 l) else 0) := by
  pointwise [X1, fn_main_v66, Z1]
  by_cases h6 : r.val < 6
  · rw [dif_pos h6, dif_pos h6]
    refine congrArg (_ + ·) ((Fin.sum_univ_one _).trans ?_)
    by_cases h0 : r.val < 1
    · rw [dif_pos (by omega), if_pos h0]
      congr 2
      exact Fin.ext (by show r.val * 1024 + l.val = l.val; omega)
    · rw [dif_neg (by omega), if_neg h0]
      by_cases h1 : r.val - 1 < 1
      · rw [dif_pos (by omega), if_pos h1]
        congr 2
        exact Fin.ext (by show r.val * 1024 + l.val - 1024 = l.val; omega)
      · rw [dif_neg (by omega), if_neg h1]
        split_ifs <;> rfl
  · rw [dif_neg h6, dif_neg h6, if_neg (by omega), if_neg (by omega), add_zero]
    simp [FloatOps.sitofp]

/-- The gain's gradient, summed over the rows; the carried rows. -/
def M2 : FVec Ideal S1x1024 .f32 := broadcastInDim S1x1024 ![1] bcast_S1024_S1x1024_1 (Host.reduceAdd (shapeCast _ (Host.reduceAdd x (constant S_ .f32 0x00000000#32)
  reducesTo_S2x2048x1024_S1024_d0_1 h_S_) shapeCasts_S1024_S1x1x1024) (constant S_ .f32 0x00000000#32) reducesTo_S1x1x1024_S1024_d0_1 h_S_)
def Z2 : FVec Ideal S4x1024 .f32 := broadcastInDim S4x1024 ![] bcast_S_S4x1024 (constant S_ .f32 0x00000000#32)
def X2 (u : FVec Ideal S1x1024 .f32) : FVec Ideal S8x1024 .f32 :=
  fn_main_v73 (F := Ideal) A.a7 A.a8 (broadcastInDim S1x1024 ![0, 1] bcast_S1x1_S1x1024_0_1 (A.a9 : FVec Ideal S1x1 .f32)) u
    Z2

theorem M2_apply (l : Fin 1024) : M2 x (ix2 0 l) = ∑ b, ∑ s, x (ix3 b s l) := by
  pointwise [M2]
  simp only [Fin.sum_univ_one]

theorem X2_apply (u : FVec Ideal S1x1024 .f32) (r : Fin 8) (l : Fin 1024) : X2 A u (ix2 r l) = if r.val < 1 then A.a7 (ix2 0 l) else if r.val - 1 < 1 then A.a8 (ix2 0 l)
    else if r.val - 1 - 1 < 1 then A.a9 (ix2 0 0) else if r.val - 3 < 1 then u (ix2 0 l) else 0 := by
  have one : ∀ (a : ℕ) (h : a < 1), (⟨a, h⟩ : Fin 1) = 0 := fun a h => Subsingleton.elim _ _
  have e : r.val - 1 - 1 - 1 = r.val - 3 := by omega
  pointwise [X2, fn_main_v73, Z2]
  simp only [one, dite_eq_ite, e]

end Stages

/-- The gradient into the normalised rows, and the rows themselves. -/
def DD (A : Args) : FVec Ideal S2x2048x1024 .f32 := mulf (mulf (DH A) (SC A)) (GN A)

theorem DD_apply (A : Args) (b : Fin 2) (s : Fin 2048) (l : Fin 1024) : DD A (ix3 b s l) = dr A b s l := by
  show DH A (ix3 b s l) * SC A (ix3 b s l) * GN A (ix3 b s l) = _
  rw [DH_apply, SC_apply, GN_apply, mul_assoc, mul_comm (sc A b l)]
  rfl

def NN (A : Args) : FVec Ideal S2x2048x1024 .f32 := mulf A.a0 (RS (VA A.a0))

theorem NN_apply (A : Args) (b : Fin 2) (s : Fin 2048) (l : Fin 1024) : NN A (ix3 b s l) = nr A b s l := by
  show A.a0 (ix3 b s l) * RS (VA A.a0) (ix3 b s l) = _
  rw [RS_apply, VA_apply]
  rfl

theorem res0 (c : Dev nD) : (res_main_v74 m c : S4096x1024.Idx → EReal) = G0 (ar m c) := by
  refine (rfl : _ = X0 (ar m c).a0 (DD (ar m c)) (ar m c).a4 (RS (VA (ar m c).a0)) (SL (ar m c).a0 (DD (ar m c)) (VA (ar m c).a0))).trans ?_
  funext i
  obtain ⟨R, l, rfl⟩ : ∃ (R : Fin 4096) (l : Fin 1024), i = ix2 R l := ⟨i 0, i 1, eq_ix2 i⟩
  rw [X0_apply]
  simp only [RS_apply, SL_apply, VA_apply, DD_apply, add_assoc]
  rfl

theorem res1 (A : Args) : X1 A (M1 (DH A)) (M1 (mulf (mulf (NN A) (GN A)) (DH A))) = G1 A := by
  funext i
  obtain ⟨b, r, l, rfl⟩ : ∃ (b : Fin 2) (r : Fin 8) (l : Fin 1024), i = ix3 b r l := ⟨i 0, i 1, i 2, eq_ix3 i⟩
  rw [X1_apply, M1_apply, M1_apply]
  refine congrArg (_ + ·) ?_
  show _ = if r.val < 1 then ∑ s, dh A b s l else if r.val - 1 < 1 then ∑ s, dh A b s l * (nr A b s l * A.a2 (ix2 0 l)) else 0
  simp only [DH_apply]
  refine congrArg (fun z => if r.val < 1 then ∑ s, dh A b s l else if r.val - 1 < 1 then z else 0) (Finset.sum_congr rfl fun s _ => ?_)
  show NN A (ix3 b s l) * GN A (ix3 b s l) * DH A (ix3 b s l) = _
  rw [NN_apply, GN_apply, DH_apply, mul_comm]

theorem res2 (A : Args) : X2 A (M2 (mulf (NN A) (mulf (DH A) (SC A)))) = G2 A := by
  funext i
  obtain ⟨r, l, rfl⟩ : ∃ (r : Fin 8) (l : Fin 1024), i = ix2 r l := ⟨i 0, i 1, eq_ix2 i⟩
  rw [X2_apply, M2_apply]
  have e : ∀ b s, mulf (NN A) (mulf (DH A) (SC A)) (ix3 b s l) = dh A b s l * sc A b l * nr A b s l := fun b s => by
    show NN A (ix3 b s l) * (DH A (ix3 b s l) * SC A (ix3 b s l)) = _
    rw [NN_apply, SC_apply, DH_apply, mul_comm]
  simp only [e]
  rfl

end Cert.InRef

end
-- ==== Proof.InClaims.lean ====
module

public import proofs.«01_k».proof.Defs
public import proofs.«01_k».proof.Proof.InKernel
public import proofs.«01_k».proof.Proof.InRef
public import proofs.«01_k».proof.Proof.Gen.KernelIn.Frame
public import Idealize.ShloMosaic.Adequacy

@[expose] public section

set_option maxRecDepth 16384

noncomputable section

/-! The claims about the gradient through the mixing sub-layer's norm, modulation and input projection. -/

namespace Cert.InClaims

open Idealize.ShloMosaic Idealize.SL.Sem

theorem frame_k : Cert.quiescent_KernelIn := fun m ρ _ => Cert.KernelIn.Gen.frame m ρ

theorem frame_ki : Cert.quiescent_KernelInIdeal := fun m ρ _ => Cert.KernelInIdeal.Gen.frame m ρ

theorem frame_ri : Cert.quiescent_ReferenceInIdeal := fun m ρ _ =>
  (θ_run Cert.ReferenceInIdeal.defs _ _).mono (fun r h => ⟨fun c => (h c).2.2.2, Idealize.ShloMosaic.sem_eq_zero_of_no_sems (by decide) r.2⟩)
    (Cert.ReferenceInIdeal.Value.run (F := Ideal) m ρ)

theorem preserves : Cert.preserves_KernelIn_KernelInIdeal := trivial

theorem algebraic : Cert.algebraic_KernelInIdeal_ReferenceInIdeal := by
  intro m ρ m' ρ' _ hagree
  have e (c : Dev Cert.KernelInIdeal.nD) : InRef.ar m' c = InKernel.ar m c := by
    obtain ⟨h0, h1, h2, h3, h4, h5, h6, h7, h8, h9⟩ := hagree c
    unfold InRef.ar InKernel.ar
    rw [h0, h1, h2, h3, h4, h5, h6, h7, h8, h9]
  refine ⟨fun c => InSpec.G0 (InKernel.ar m c), fun c => InSpec.G1 (InKernel.ar m c), fun c => InSpec.G2 (InKernel.ar m c), ?_, ?_⟩
  · exact (θ_run Cert.KernelInIdeal.defs _ _).mono (fun r h c => ⟨(h c).1.trans (InKernel.final8 m c), (h c).2.1.trans (InKernel.final9 m c),
      (h c).2.2.1.trans (InKernel.final10 m c), (h c).2.2.2⟩) (Cert.KernelInIdeal.Value.run_blocks (F := Ideal) m ρ)
  · exact (θ_run Cert.ReferenceInIdeal.defs _ _).mono (fun r h c => ⟨((h c).1.trans (InRef.res0 m' c)).trans (congrArg InSpec.G0 (e c)),
      ((h c).2.1.trans (InRef.res1 (InRef.ar m' c))).trans (congrArg InSpec.G1 (e c)),
      ((h c).2.2.1.trans (InRef.res2 (InRef.ar m' c))).trans (congrArg InSpec.G2 (e c)), (h c).2.2.2⟩)
      (Cert.ReferenceInIdeal.Value.run (F := Ideal) m' ρ')

end Cert.InClaims

end
-- ==== Proof.MlpSpec.lean ====
module

public import proofs.«01_k».proof.Proof.RowNorm
public import Idealize.ShloMosaic.Lib.Pointwise

@[expose] public section

noncomputable section

/-! The channel-mixing sub-layer with its two norms and the loss, and the gradients through all of it, as functions of the
    argument arrays on the extended reals: what both programs compute. -/

namespace Cert.MlpSpec

open Idealize.ShloMosaic

/-- The argument arrays: the layer's input, the mixer's rows, the modulation, the sub-layer's gain, the last norm's gain, the
    mixer's output weight, the two weights of the channel mixing, and the target. -/
structure Args where
  a0 : (⟨3, ![2, 2048, 1024]⟩ : Shape).Idx → EReal
  a1 : (⟨3, ![2, 2048, 1536]⟩ : Shape).Idx → EReal
  a2 : (⟨2, ![2, 6144]⟩ : Shape).Idx → EReal
  a3 : (⟨2, ![1, 1024]⟩ : Shape).Idx → EReal
  a4 : (⟨1, ![1024]⟩ : Shape).Idx → EReal
  a5 : (⟨3, ![1, 1536, 1024]⟩ : Shape).Idx → EReal
  a6 : (⟨3, ![1, 1024, 4096]⟩ : Shape).Idx → EReal
  a7 : (⟨3, ![1, 4096, 1024]⟩ : Shape).Idx → EReal
  a8 : (⟨3, ![2, 2048, 1024]⟩ : Shape).Idx → EReal

variable (A : Args) (b : Fin 2) (s : Fin 2048) (l : Fin 1024) (f : Fin 4096)

/-- The modulation's parts: the mixer's gate, then the channel mixing's shift, scale (with one added) and gate. -/
def gm : EReal := A.a2 (ix2 b ⟨2048 + l.val, by omega⟩)
def sh : EReal := A.a2 (ix2 b ⟨3072 + l.val, by omega⟩)
def sc : EReal := 1 + A.a2 (ix2 b ⟨4096 + l.val, by omega⟩)
def gf : EReal := A.a2 (ix2 b ⟨5120 + l.val, by omega⟩)

/-- The forward pass: the mixer's product, the residual row, its normalised row, the modulated row, the channels before and
    after the square, the second product, the second residual row, its normalised row and the error. -/
def aa : EReal := ∑ k : Fin 1536, A.a1 (ix3 b s k) * A.a5 (ix3 0 k l)
def h1 : EReal := A.a0 (ix3 b s l) + gm A b l * aa A b s l
def n2 : EReal := h1 A b s l * Ideal.rsqrt (RowNorm.var (h1 A b s))
def uu : EReal := n2 A b s l * A.a3 (ix2 0 l) * sc A b l + sh A b l
def up : EReal := max (∑ l, uu A b s l * A.a6 (ix3 0 l f)) 0
def ff : EReal := up A b s f * up A b s f
def dn : EReal := ∑ f, ff A b s f * A.a7 (ix3 0 f l)
def h2 : EReal := h1 A b s l + gf A b l * dn A b s l
def n3 : EReal := h2 A b s l * Ideal.rsqrt (RowNorm.var (h2 A b s))
def err : EReal := n3 A b s l * A.a4 (ix1 l) - A.a8 (ix3 b s l)

/-- A row's gradient through its norm, from the gradient into the normalised row. -/
def back (x d : Fin 1024 → EReal) (l : Fin 1024) : EReal :=
  d l * Ideal.rsqrt (RowNorm.var x) + (x l * RowNorm.slope x d + RowNorm.slope x d * x l)

/-- The backward pass: into the output, the second residual row, the second product, the channels, the modulated row, the
    first residual row, the mixer's product and the mixer's rows. -/
def dout : EReal := err A b s l * Ideal.ofBits .f32 0x3A800000#32
def dh2 : EReal := back (h2 A b s) (fun l => dout A b s l * A.a4 (ix1 l)) l
def ddn : EReal := gf A b l * dh2 A b s l
def dup : EReal := (∑ l, ddn A b s l * A.a7 (ix3 0 f l)) * (Ideal.ofBits .f32 0x40000000#32 * up A b s f)
def du : EReal := ∑ f, dup A b s f * A.a6 (ix3 0 l f)
def dh1 : EReal := dh2 A b s l + back (h1 A b s) (fun l => du A b s l * (A.a3 (ix2 0 l) * sc A b l)) l
def da : EReal := gm A b l * dh1 A b s l
def dym (k : Fin 1536) : EReal := ∑ l, da A b s l * A.a5 (ix3 0 k l)

/-- What a row adds to the modulation's gradient, and to the two gains' and the loss. -/
def dmod (r : Fin 8) : EReal :=
  if r.val < 2 then 0 else if r.val - 2 < 1 then dh1 A b s l * aa A b s l else if r.val - 2 - 1 < 1 then du A b s l
  else if r.val - 2 - 1 - 1 < 1 then du A b s l * (n2 A b s l * A.a3 (ix2 0 l))
  else if r.val - 2 - 1 - 1 - 1 < 1 then dh2 A b s l * dn A b s l else 0
def rowLoss : EReal := Ideal.div (∑ l, err A b s l * err A b s l) (Ideal.ofBits .f32 0x44800000#32)
def acc (r : Fin 8) : EReal :=
  if r.val < 1 then du A b s l * sc A b l * n2 A b s l else if r.val - 1 < 1 then dout A b s l * n3 A b s l
  else if r.val - 1 - 1 < 1 then Ideal.ofBits .f32 0x3F000000#32 * rowLoss A b s else 0

/-- The results: the rows in one axis. -/
def rows {n : ℕ} (g : Fin 2 → Fin 2048 → Fin n → EReal) : (⟨2, ![4096, n]⟩ : Shape).Idx → EReal := fun i =>
  g ⟨(i 0).val / 2048, by have := (i 0).isLt; simp at this; omega⟩ ⟨(i 0).val % 2048, by omega⟩ (i 1)
def G7 : (⟨3, ![2, 8, 1024]⟩ : Shape).Idx → EReal := fun i => ∑ s, dmod A (i 0) s (i 2) (i 1)
def G8 : (⟨2, ![8, 1024]⟩ : Shape).Idx → EReal := fun i => ∑ b, ∑ s, acc A b s (i 1) (i 0)

/-- A sum over a grid of `n` blocks of `k`. -/
theorem blocks (n k N : ℕ) (h : n * k = N) (f : Fin N → EReal) :
    ∑ i, f i = ∑ t : Fin n, ∑ r : Fin k, f ⟨k * t.val + r.val, by have := t.isLt; have := r.isLt; subst h; nlinarith⟩ := by
  subst h
  rw [← Finset.sum_product', Finset.univ_product_univ]
  refine (Fintype.sum_equiv finProdFinEquiv _ _ fun x => ?_).symm
  congr 1
  exact Fin.ext (by simp [finProdFinEquiv, add_comm])

end Cert.MlpSpec

end
-- ==== Proof.MlpKernel.lean ====
module

public import proofs.«01_k».proof.Proof.Gen.KernelMlpIdeal.Value
public import proofs.«01_k».proof.Proof.MlpSpec
public import Idealize.ShloMosaic.Lib.Pointwise
public import Idealize.ShloMosaic.Lib.Pipeline.ValueKit
public import Idealize.ShloMosaic.Lib.StableHlo.ReadAt
public import Idealize.ShloMosaic.Lib.KernelVsHost

@[expose] public section

set_option maxRecDepth 16384

noncomputable section

/-! The kernel's nine results at an index: the values of `MlpSpec`. -/

namespace Cert.MlpKernel

open Cert.KernelMlpIdeal Cert.KernelMlpIdeal.Gen Idealize.ShloMosaic Idealize.ShloMosaic.TcCoe Idealize.SL.Sem
open Idealize.ShloMosaic.Pipeline (Dat)
open Cert.MlpSpec

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val / 8, 0, 0] ∧ win0_4.index t = ![0, 0] ∧ win0_5.index t = ![0, 0] ∧ win0_6.index t = ![0, 0]
    ∧ win0_7.index t = ![0, 0, 0] ∧ win0_8.index t = ![0, 0, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0]
    ∧ win0_15.index t = ![t.val, 0] ∧ win0_16.index t = ![t.val / 8, 0, 0] ∧ win0_17.index t = ![0, 0] :=
  (by decide +kernel : ∀ t : Fin grid0.N, win0_0.index t = ![t.val, 0] ∧ win0_1.index t = ![t.val, 0] ∧ win0_2.index t = ![t.val, 0]
    ∧ win0_3.index t = ![t.val / 8, 0, 0] ∧ win0_4.index t = ![0, 0] ∧ win0_5.index t = ![0, 0] ∧ win0_6.index t = ![0, 0]
    ∧ win0_7.index t = ![0, 0, 0] ∧ win0_8.index t = ![0, 0, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0]
    ∧ win0_15.index t = ![t.val, 0] ∧ win0_16.index t = ![t.val / 8, 0, 0] ∧ win0_17.index t = ![0, 0])

/-- The argument arrays of a launch. -/
abbrev ar (c : Dev nD) : Args :=
  ⟨m (c.tc.loc main_arg0), m (c.tc.loc main_arg1), m (c.tc.loc main_arg2), m (c.tc.loc main_arg3), m (c.tc.loc main_arg4), m (c.tc.loc main_arg5), m (c.tc.loc main_arg6), m (c.tc.loc main_arg7), m (c.tc.loc main_arg8)⟩

/-! ## The arrays the host prepares -/

theorem V9 (c : Dev nD) (R : Fin 4096) (l : Fin 1024) :
    (V m c main_v9 : S4096x1024.Idx → EReal) (ix2 R l) = (ar m c).a0 (ix3 ⟨R.val / 2048, by omega⟩ ⟨R.val % 2048, by omega⟩ l) := by
  unfold V
  after_reads_at

theorem V11 (c : Dev nD) (R : Fin 4096) (k : Fin 1536) :
    (V m c main_v11 : S4096x1536.Idx → EReal) (ix2 R k) = (ar m c).a1 (ix3 ⟨R.val / 2048, by omega⟩ ⟨R.val % 2048, by omega⟩ k) := by
  unfold V
  after_reads_at

theorem V12 (c : Dev nD) (R : Fin 4096) (l : Fin 1024) :
    (V m c main_v12 : S4096x1024.Idx → EReal) (ix2 R l) = (ar m c).a8 (ix3 ⟨R.val / 2048, by omega⟩ ⟨R.val % 2048, by omega⟩ l) := by
  unfold V
  after_reads_at

theorem sitofp0 (φ : FTy) : FloatOps.sitofp (F := Ideal) φ (0#32) = 0 := by simp [FloatOps.sitofp]

theorem V1 (c : Dev nD) (b : Fin 2) (r : Fin 8) (l : Fin 1024) :
    (V m c main_v1 : S2x8x1024.Idx → EReal) (ix3 b r l)
      = if h : r.val < 6 then (ar m c).a2 (ix2 b ⟨r.val * 1024 + l.val, by omega⟩) else 0 := by
  unfold V
  after_reads_at
  rw [sitofp0]

theorem V13 (c : Dev nD) (l : Fin 1024) : (V m c main_v13 : S1x1024.Idx → EReal) (ix2 0 l) = (ar m c).a4 (ix1 l) := by
  unfold V
  after_reads_at

theorem V15 (c : Dev nD) (k : Fin 1536) (l : Fin 1024) : (V m c main_v15 : S1536x1024.Idx → EReal) (ix2 k l) = (ar m c).a5 (ix3 0 k l) := by
  unfold V
  after_reads_at

/-- The channel at place `x` of block `j`. -/
def fOf (j : Fin 8) (x : Fin 512) : Fin 4096 := ⟨512 * j.val + x.val, by omega⟩

theorem V5 (c : Dev nD) (j : Fin 8) (l : Fin 1024) (x : Fin 512) :
    (V m c main_v5 : S8x1024x512.Idx → EReal) (ix3 j l x) = (ar m c).a6 (ix3 0 l (fOf j x)) := by
  unfold V
  after_reads_at
  exact congrArg (fun f => (ar m c).a6 (ix3 0 l f)) (Fin.ext (by show j.val * 512 + x.val = 512 * j.val + x.val; omega))

theorem V8 (c : Dev nD) (j : Fin 8) (l : Fin 1024) (x : Fin 512) :
    (V m c main_v8 : S8x512x1024.Idx → EReal) (ix3 j x l) = (ar m c).a7 (ix3 0 (fOf j x) l) := by
  unfold V
  after_reads_at
  exact congrArg (fun f => (ar m c).a7 (ix3 0 f l)) (Fin.ext (by show j.val * 512 + x.val = 512 * j.val + x.val; omega))

theorem fin_N (t : Fin cfg0.N) : t.val < 16 := lt_of_lt_of_eq t.isLt N_0

/-- The batch of grid point `t`'s rows, and the place of its row `r` in the sequence. -/
def bOf (t : Fin cfg0.N) : Fin 2 := ⟨t.val / 8, by have := fin_N t; omega⟩
def sOf (t : Fin cfg0.N) (r : Fin 256) : Fin 2048 := ⟨256 * (t.val % 8) + r.val, by omega⟩
def rOf (t : Fin cfg0.N) (r : Fin 256) : Fin 4096 := ⟨256 * t.val + r.val, by have := fin_N t; omega⟩

theorem rOf_b (t : Fin cfg0.N) (r : Fin 256) (h) : (⟨(rOf t r).val / 2048, h⟩ : Fin 2) = bOf t :=
  Fin.ext (by show (256 * t.val + r.val) / 2048 = t.val / 8; omega)
theorem rOf_s (t : Fin cfg0.N) (r : Fin 256) (h) : (⟨(rOf t r).val % 2048, h⟩ : Fin 2048) = sOf t r :=
  Fin.ext (by show (256 * t.val + r.val) % 2048 = 256 * (t.val % 8) + r.val; omega)

theorem blk0 (c : Dev nD) (t : Fin cfg0.N) (r : Fin 256) (l : Fin 1024) :
    iblk m c 0 t (ix2 r l) = (ar m c).a0 (ix3 (bOf t) (sOf t r) l) := by
  have : iblk m c 0 t (ix2 r l) = V m c main_v9 (ix2 (rOf t r) l) := by blk_ext [iblk, idx t, rOf]
  rw [this, V9, rOf_b, rOf_s]

theorem blk1 (c : Dev nD) (t : Fin cfg0.N) (r : Fin 256) (k : Fin 1536) :
    iblk m c 1 t (ix2 r k) = (ar m c).a1 (ix3 (bOf t) (sOf t r) k) := by
  have : iblk m c 1 t (ix2 r k) = V m c main_v11 (ix2 (rOf t r) k) := by blk_ext [iblk, idx t, rOf]
  rw [this, V11, rOf_b, rOf_s]

theorem blk2 (c : Dev nD) (t : Fin cfg0.N) (r : Fin 256) (l : Fin 1024) :
    iblk m c 2 t (ix2 r l) = (ar m c).a8 (ix3 (bOf t) (sOf t r) l) := by
  have : iblk m c 2 t (ix2 r l) = V m c main_v12 (ix2 (rOf t r) l) := by blk_ext [iblk, idx t, rOf]
  rw [this, V12, rOf_b, rOf_s]

theorem blk3 (c : Dev nD) (t : Fin cfg0.N) (r : Fin 8) (l : Fin 1024) :
    iblk m c 3 t (ix3 0 r l) = if h : r.val < 6 then (ar m c).a2 (ix2 (bOf t) ⟨r.val * 1024 + l.val, by omega⟩) else 0 := by
  have : iblk m c 3 t (ix3 0 r l) = V m c main_v1 (ix3 (bOf t) r l) := by blk_ext [iblk, idx t, bOf]
  rw [this, V1]

theorem blk4 (c : Dev nD) (t : Fin cfg0.N) (l : Fin 1024) : iblk m c 4 t (ix2 0 l) = (ar m c).a3 (ix2 0 l) := by
  have : iblk m c 4 t (ix2 0 l) = V m c main_arg3 (ix2 0 l) := by blk_ext [iblk, idx t]
  rw [this, V_main_arg3]

theorem blk5 (c : Dev nD) (t : Fin cfg0.N) (l : Fin 1024) : iblk m c 5 t (ix2 0 l) = (ar m c).a4 (ix1 l) := by
  have : iblk m c 5 t (ix2 0 l) = V m c main_v13 (ix2 0 l) := by blk_ext [iblk, idx t]
  rw [this, V13]

theorem blk6 (c : Dev nD) (t : Fin cfg0.N) (k : Fin 1536) (l : Fin 1024) : iblk m c 6 t (ix2 k l) = (ar m c).a5 (ix3 0 k l) := by
  have : iblk m c 6 t (ix2 k l) = V m c main_v15 (ix2 k l) := by blk_ext [iblk, idx t]
  rw [this, V15]

theorem blk7 (c : Dev nD) (t : Fin cfg0.N) (j : Fin 8) (l : Fin 1024) (x : Fin 512) :
    iblk m c 7 t (ix3 j l x) = (ar m c).a6 (ix3 0 l (fOf j x)) := by
  have : iblk m c 7 t (ix3 j l x) = V m c main_v5 (ix3 j l x) := by blk_ext [iblk, idx t]
  rw [this, V5]

theorem blk8 (c : Dev nD) (t : Fin cfg0.N) (j : Fin 8) (x : Fin 512) (l : Fin 1024) :
    iblk m c 8 t (ix3 j x l) = (ar m c).a7 (ix3 0 (fOf j x) l) := by
  have : iblk m c 8 t (ix3 j x l) = V m c main_v8 (ix3 j x l) := by blk_ext [iblk, idx t]
  rw [this, V8]

theorem one (a : ℕ) (h : a < 1) : (⟨a, h⟩ : Fin 1) = 0 := Subsingleton.elim _ _

/-! ## The payloads at an index -/

section Payloads

variable (U v225 : FVec Ideal S256x1024 .bf16) (W : FVec Ideal S1x1024x512 .bf16) (D : FVec Ideal S1x512x1024 .bf16) (x y n d h g : FVec Ideal S256x1024 .f32)
  (v w g1 : FVec Ideal S1x1024 .f32) (q : FVec Ideal S256x1 .f32) (p : FVec Ideal S256x512 .f32)

/-- A channel of a block, its square's share of the second product, a channel's gradient, and its share of the row's. -/
def rel (r : Fin 256) (x : Fin 512) : EReal := max (∑ l, U (ix2 r l) * W (ix3 0 l x)) 0
def sq (r : Fin 256) (l : Fin 1024) : EReal := ∑ x, rel U W r x * rel U W r x * D (ix3 0 x l)
def gup (r : Fin 256) (x : Fin 512) : EReal := (∑ l, U (ix2 r l) * D (ix3 0 x l)) * (Ideal.ofBits .f32 0x40000000#32 * p (ix2 r x))
def gsq (r : Fin 256) (l : Fin 1024) : EReal := ∑ x, gup U D p r x * W (ix3 0 l x)

theorem pay19_apply (a b c d e f) (r : Fin 256) (x : Fin 512) : k0_pay19 (F := Ideal) a b c d e f W (ix2 r x) = rel (k0_pay16 a b c d e f) W r x := by
  pointwise [k0_pay19, k0_pay18]; rfl
theorem pay23_apply (r : Fin 256) (x : Fin 512) : k0_pay23 (F := Ideal) U W (ix2 r x) = rel U W r x := by pointwise [k0_pay23, k0_pay22]; rfl
theorem pay27_apply (r : Fin 256) (x : Fin 512) : k0_pay27 (F := Ideal) U W (ix2 r x) = rel U W r x := by pointwise [k0_pay27, k0_pay26]; rfl

theorem pay20_apply (a b c d e f) (r : Fin 256) (x : Fin 512) : k0_pay20 (F := Ideal) a b c d e f W (ix2 r x) = rel (k0_pay16 a b c d e f) W r x * rel (k0_pay16 a b c d e f) W r x := by
  pointwise [k0_pay20, k0_pay18]; rfl
theorem pay24_apply (r : Fin 256) (x : Fin 512) : k0_pay24 (F := Ideal) U W (ix2 r x) = rel U W r x * rel U W r x := by pointwise [k0_pay24, k0_pay22]; rfl

theorem pay21_apply (a b c d e f) (r : Fin 256) (l : Fin 1024) : k0_pay21 (F := Ideal) a b c d e f W D (ix2 r l) = sq (k0_pay16 a b c d e f) W D r l := by
  pointwise [k0_pay21, k0_pay20, k0_pay18]; rfl
theorem pay25_apply (r : Fin 256) (l : Fin 1024) : k0_pay25 (F := Ideal) U x y W D (ix2 r l) = x (ix2 r l) + y (ix2 r l) + sq U W D r l := by
  pointwise [k0_pay25, k0_pay24, k0_pay22]; rfl
theorem pay29_apply (r : Fin 256) (l : Fin 1024) : k0_pay29 (F := Ideal) U W D (ix2 r l) = sq U W D r l := by
  pointwise [k0_pay29, k0_pay28, k0_pay26]; rfl

theorem pay50_apply (W7 D7) (r : Fin 256) (l : Fin 1024) : k0_pay50 (F := Ideal) v h U x y W7 D7 (ix2 r l) = h (ix2 r l) + v (ix2 0 l) * k0_pay49 (F := Ideal) U x y W7 D7 (ix2 r l) := by
  pointwise [k0_pay50]
theorem pay51_apply (W7 D7) (r : Fin 256) : k0_pay51 (F := Ideal) v h U x y W7 D7 (ix2 r 0) = Ideal.rsqrt (RowNorm.var fun k => k0_pay50 (F := Ideal) v h U x y W7 D7 (ix2 r k)) := by
  pointwise [k0_pay51]; rfl
theorem pay52_apply (W7 D7) (r : Fin 256) (l : Fin 1024) : k0_pay52 (F := Ideal) v h U x y W7 D7 (ix2 r l) = k0_pay50 (F := Ideal) v h U x y W7 D7 (ix2 r l) * k0_pay51 (F := Ideal) v h U x y W7 D7 (ix2 r 0) := by
  pointwise [k0_pay52]
theorem pay53_apply (W7 D7 z) (r : Fin 256) (l : Fin 1024) : k0_pay53 (F := Ideal) v w h U x y W7 D7 z (ix2 r l) = k0_pay52 (F := Ideal) v h U x y W7 D7 (ix2 r l) * w (ix2 0 l) - z (ix2 r l) := by
  pointwise [k0_pay53]
theorem pay56_apply (W7 D7 z) : k0_pay56 (F := Ideal) (k0_pay54 (F := Ideal) v w h U x y W7 D7 z) k0_pay55 (ix2 0 0)
    = Ideal.ofBits .f32 0x3F000000#32 * ∑ r, Ideal.div (∑ l, k0_pay53 (F := Ideal) v w h U x y W7 D7 z (ix2 r l) * k0_pay53 (F := Ideal) v w h U x y W7 D7 z (ix2 r l)) (Ideal.ofBits .f32 0x44800000#32) := by
  pointwise [k0_pay56, k0_pay54, k0_pay55]
theorem pay58_apply (l : Fin 1024) : k0_pay58 (F := Ideal) n x (ix2 0 l) = ∑ r, x (ix2 r l) * Ideal.ofBits .f32 0x3A800000#32 * n (ix2 r l) := by
  pointwise [k0_pay58, k0_pay57]
theorem pay59_apply (r : Fin 256) (l : Fin 1024) : k0_pay59 (F := Ideal) v q n x (ix2 r l) = q (ix2 r 0) * (x (ix2 r l) * Ideal.ofBits .f32 0x3A800000#32 * v (ix2 0 l)
      - n (ix2 r l) * Ideal.div (∑ k, x (ix2 r k) * Ideal.ofBits .f32 0x3A800000#32 * v (ix2 0 k) * n (ix2 r k)) (Ideal.ofBits .f32 0x44800000#32)) := by
  pointwise [k0_pay59, k0_pay57]
theorem pay60_apply (l : Fin 1024) : k0_pay60 (F := Ideal) v h q n x (ix2 0 l) = ∑ r, k0_pay59 (F := Ideal) v q n x (ix2 r l) * h (ix2 r l) := by
  pointwise [k0_pay60]
theorem pay61_apply (r : Fin 256) (l : Fin 1024) : k0_pay61 (F := Ideal) w v q n x (ix2 r l) = w (ix2 0 l) * k0_pay59 (F := Ideal) v q n x (ix2 r l) := by
  pointwise [k0_pay61]

theorem pay63_apply (r : Fin 256) (z : Fin 512) : k0_pay63 (F := Ideal) w v q n x D p (ix2 r z) = gup (k0_pay61 w v q n x) D p r z := by
  pointwise [k0_pay63]; rfl
theorem pay64_apply (r : Fin 256) (z : Fin 512) : k0_pay64 (F := Ideal) U D p (ix2 r z) = gup U D p r z := by
  pointwise [k0_pay64]; rfl
theorem pay75_apply (r : Fin 256) (z : Fin 512) : k0_pay75 (F := Ideal) (k0_pay74 U D) p (ix2 r z) = gup U D p r z := by
  pointwise [k0_pay75, k0_pay74]; rfl
theorem pay65_apply (X : FVec Ideal S256x512 .bf16) (W0 : FVec Ideal S1x1024x512 .bf16) (r : Fin 256) (l : Fin 1024) : k0_pay65 (F := Ideal) U x X W0 D p W (ix2 r l)
    = x (ix2 r l) + (∑ z, X (ix2 r z) * W0 (ix3 0 l z)) + gsq U W D p r l := by
  pointwise [k0_pay65, k0_pay64]; rfl
theorem pay70_apply (X : FVec Ideal S256x512 .bf16) (W2 W3 W4 : FVec Ideal S1x1024x512 .bf16) (D3 D4 : FVec Ideal S1x512x1024 .bf16) (p3 p4 : FVec Ideal S256x512 .f32) (r : Fin 256) (l : Fin 1024) :
    k0_pay70 (F := Ideal) U x X (k0_pay67 W2) (constant S256x1024 .f32 0x00000000#32) D3 p3 W3 D4 p4 W4 (ix2 r l)
    = x (ix2 r l) + (∑ z, X (ix2 r z) * W2 (ix3 0 l z)) + gsq U W3 D3 p3 r l + gsq U W4 D4 p4 r l := by
  pointwise [k0_pay70, k0_pay67, k0_pay68, k0_pay69]; rfl
theorem pay73_apply (W5 W6 : FVec Ideal S1x1024x512 .bf16) (D5 D6 : FVec Ideal S1x512x1024 .bf16) (p5 p6 : FVec Ideal S256x512 .f32) (r : Fin 256) (l : Fin 1024) :
    k0_pay73 (F := Ideal) U x D5 p5 W5 D6 p6 W6 (ix2 r l) = x (ix2 r l) + gsq U W5 D5 p5 r l + gsq U W6 D6 p6 r l := by
  pointwise [k0_pay73, k0_pay71, k0_pay72]; rfl
theorem pay76_apply (r : Fin 256) (l : Fin 1024) : k0_pay76 (F := Ideal) x (k0_pay74 U D) p W (ix2 r l) = x (ix2 r l) + gsq U W D p r l := by
  pointwise [k0_pay76, k0_pay75, k0_pay74]; rfl

variable (a b : FVec Ideal S256x512 .f32)

theorem pay77_apply (l : Fin 1024) : k0_pay77 (F := Ideal) v n x a b W (ix2 0 l) = ∑ r, k0_pay76 (F := Ideal) x a b W (ix2 r l) * (n (ix2 r l) * v (ix2 0 l)) := by
  pointwise [k0_pay77]
theorem pay78_apply (l : Fin 1024) : k0_pay78 (F := Ideal) x a b W (ix2 0 l) = ∑ r, k0_pay76 (F := Ideal) x a b W (ix2 r l) := by
  pointwise [k0_pay78]
theorem pay79_apply (l : Fin 1024) : k0_pay79 (F := Ideal) v n x a b W (ix2 0 l) = ∑ r, k0_pay76 (F := Ideal) x a b W (ix2 r l) * (1 + v (ix2 0 l)) * n (ix2 r l) := by
  pointwise [k0_pay79]
theorem pay80_apply (r : Fin 256) (l : Fin 1024) : k0_pay80 (F := Ideal) v w q n h x a b W (ix2 r l) = h (ix2 r l) + q (ix2 r 0) * (k0_pay76 (F := Ideal) x a b W (ix2 r l) * (w (ix2 0 l) * (1 + v (ix2 0 l)))
      - n (ix2 r l) * Ideal.div (∑ k, k0_pay76 (F := Ideal) x a b W (ix2 r k) * (w (ix2 0 k) * (1 + v (ix2 0 k))) * n (ix2 r k)) (Ideal.ofBits .f32 0x44800000#32)) := by
  pointwise [k0_pay80]
theorem pay81_apply (g : FVec Ideal S256x1024 .f32) (r : Fin 256) (l : Fin 1024) : k0_pay81 (F := Ideal) v w g q n h x a b W (ix2 r l) = k0_pay80 (F := Ideal) v w q n h x a b W (ix2 r l) * g (ix2 r l) := by
  pointwise [k0_pay81]
theorem pay82_apply (r : Fin 256) (l : Fin 1024) : k0_pay82 (F := Ideal) v x (ix2 r l) = v (ix2 0 l) * x (ix2 r l) := by
  pointwise [k0_pay82]
theorem pay83_apply (z : FVec Ideal S1536x1024 .bf16) (r : Fin 256) (k : Fin 1536) : k0_pay83 (F := Ideal) v x z (ix2 r k) = ∑ l, v (ix2 0 l) * x (ix2 r l) * z (ix2 k l) := by
  pointwise [k0_pay83, k0_pay82]
theorem pay84_apply (u : FVec Ideal S1x8x1024 .f32) (r : Fin 8) (l : Fin 1024) : k0_pay84 (F := Ideal) g1 w v x u (ix3 0 r l) = u (ix3 0 r l) +
    if r.val < 2 then 0 else if r.val - 2 < 1 then ∑ i, x (ix2 i l) else if r.val - 2 - 1 < 1 then v (ix2 0 l)
    else if r.val - 2 - 1 - 1 < 1 then w (ix2 0 l) else if r.val - 2 - 1 - 1 - 1 < 1 then g1 (ix2 0 l) else 0 := by
  pointwise [k0_pay84]
  simp only [one, dite_eq_ite]
theorem pay86_apply (u : FVec Ideal S1x1 .f32) (z : FVec Ideal S8x1024 .f32) (r : Fin 8) (l : Fin 1024) : k0_pay1 (F := Ideal) (k0_pay85 z) (k0_pay86 u v w) (ix2 r l) = z (ix2 r l) +
    if r.val < 1 then w (ix2 0 l) else if r.val - 1 < 1 then v (ix2 0 l) else if r.val - 1 - 1 < 1 then u (ix2 0 0) * 1 else 0 := by
  pointwise [k0_pay1, k0_pay85, k0_pay86]
  simp only [one, dite_eq_ite]

end Payloads

/-! ## Eight blocks of columns -/

section Blocks

open Idealize.ShloMosaic

variable {Val : EltTy → Type} {e : EltTy} [∀ e, Nonempty (Val e)]

/-- The stores of eight blocks of columns, the last first. -/
abbrev pieces (w : Fin 8 → S256x512.Idx → Val e) : List (View.Piece Val S256x4096 e) :=
  [⟨Rect.unit ![0, 3584] ![256, 512] inb_S256x4096_S256x512_0_3584, w 7⟩, ⟨Rect.unit ![0, 3072] ![256, 512] inb_S256x4096_S256x512_0_3072, w 6⟩,
    ⟨Rect.unit ![0, 2560] ![256, 512] inb_S256x4096_S256x512_0_2560, w 5⟩, ⟨Rect.unit ![0, 2048] ![256, 512] inb_S256x4096_S256x512_0_2048, w 4⟩,
    ⟨Rect.unit ![0, 1536] ![256, 512] inb_S256x4096_S256x512_0_1536, w 3⟩, ⟨Rect.unit ![0, 1024] ![256, 512] inb_S256x4096_S256x512_0_1024, w 2⟩,
    ⟨Rect.unit ![0, 512] ![256, 512] inb_S256x4096_S256x512_0_512, w 1⟩, ⟨Rect.unit ![0, 0] ![256, 512] inb_S256x4096_S256x512_0_0, w 0⟩]

theorem pieces_cover (w : Fin 8 → S256x512.Idx → Val e) (y : S256x4096.Idx) : ∃ p ∈ pieces w, y ∈ p.1.set :=
  View.cover_of_tiled (pieces w) ![256, 512] rfl y

theorem canon_pieces (w : Fin 8 → S256x512.Idx → Val e) (g : Fin 256 → Fin 4096 → Val e) (h : ∀ j r x, w j (ix2 r x) = g r (fOf j x)) :
    View.canon (pieces w) = fun y => g (y 0) (y 1) := by
  funext y
  refine View.canon_apply_of_pieces (fun y => g (y 0) (y 1)) (pieces w) ?_ y (pieces_cover w y)
  have k : ∀ (j : Fin 8) (o : ℕ) (inb) (ho : o = 512 * j.val) (x : S256x512.Idx),
      w j x = g (((Rect.unit (s := S256x4096) ![0, o] ![256, 512] inb).emb x) 0) (((Rect.unit (s := S256x4096) ![0, o] ![256, 512] inb).emb x) 1) := fun j o inb ho x => by
    obtain ⟨r, z, rfl⟩ : ∃ (r : Fin 256) (z : Fin 512), x = ix2 r z := ⟨x 0, x 1, eq_ix2 x⟩
    rw [h]
    refine congrArg₂ g (Fin.ext ?_) (Fin.ext ?_)
    · show r.val = 0 + 1 * r.val
      omega
    · show 512 * j.val + z.val = o + 1 * z.val
      omega
  intro p hp
  simp only [List.mem_cons, List.not_mem_nil, or_false] at hp
  rcases hp with rfl | rfl | rfl | rfl | rfl | rfl | rfl | rfl
  · exact k 7 3584 inb_S256x4096_S256x512_0_3584 rfl
  · exact k 6 3072 inb_S256x4096_S256x512_0_3072 rfl
  · exact k 5 2560 inb_S256x4096_S256x512_0_2560 rfl
  · exact k 4 2048 inb_S256x4096_S256x512_0_2048 rfl
  · exact k 3 1536 inb_S256x4096_S256x512_0_1536 rfl
  · exact k 2 1024 inb_S256x4096_S256x512_0_1024 rfl
  · exact k 1 512 inb_S256x4096_S256x512_0_512 rfl
  · exact k 0 0 inb_S256x4096_S256x512_0_0 rfl

theorem read_pieces {sig : RefSig} {κ : Kind} {sp : Space} (v : View sig κ sp S256x4096 e) (w : Fin 8 → S256x512.Idx → Val e) (g : Fin 256 → Fin 4096 → Val e)
    (h : ∀ j r x, w j (ix2 r x) = g r (fOf j x)) (j : Fin 8) (o : ℕ) (inb) (ho : o = 512 * j.val) (r : Fin 256) (x : Fin 512) :
    v.readCov (pieces w) (Rect.unit (s := S256x4096) ![0, o] ![256, 512] inb).toLoadRect (ix2 r x) = g r (fOf j x) := by
  rw [View.readCov_eq_canon_ld _ _ _ (pieces_cover w), canon_pieces w g h]
  refine congrArg₂ g (Fin.ext ?_) (Fin.ext ?_)
  · show 0 + 1 * r.val = r.val
    omega
  · show o + 1 * x.val = 512 * j.val + x.val
    omega

end Blocks

/-! ## The arrays of a point -/

section Point

variable (c : Dev nD) (t : Fin cfg0.N) (r : Fin 256) (l : Fin 1024)

/-- The blocks of the two weights. -/
theorem inb7 (j : Fin 8) : ∀ a, (![j.val, 0, 0] : Fin 3 → ℕ) a + (![1, 1024, 512] : Fin 3 → ℕ) a ≤ S8x1024x512.size a := by
  revert j; decide
theorem inb8 (j : Fin 8) : ∀ a, (![j.val, 0, 0] : Fin 3 → ℕ) a + (![1, 512, 1024] : Fin 3 → ℕ) a ≤ S8x512x1024.size a := by
  revert j; decide
abbrev W (j : Fin 8) : FVec Ideal S1x1024x512 .bf16 := View.ld (iblk m c 7 t) (Rect.unit (s := S8x1024x512) ![j.val, 0, 0] ![1, 1024, 512] (inb7 j))
abbrev D (j : Fin 8) : FVec Ideal S1x512x1024 .bf16 := View.ld (iblk m c 8 t) (Rect.unit (s := S8x512x1024) ![j.val, 0, 0] ![1, 512, 1024] (inb8 j))

theorem W_apply (j : Fin 8) (x : Fin 512) : W m c t j (ix3 0 l x) = (ar m c).a6 (ix3 0 l (fOf j x)) := by
  refine Eq.trans (congrArg (iblk m c 7 t) ?_) (blk7 m c t j l x)
  funext a
  refine Fin.ext ?_
  match a with
  | ⟨0, _⟩ => show j.val + 1 * 0 = j.val; omega
  | ⟨1, _⟩ => show 0 + 1 * l.val = l.val; omega
  | ⟨2, _⟩ => show 0 + 1 * x.val = x.val; omega

theorem D_apply (j : Fin 8) (x : Fin 512) : D m c t j (ix3 0 x l) = (ar m c).a7 (ix3 0 (fOf j x) l) := by
  refine Eq.trans (congrArg (iblk m c 8 t) ?_) (blk8 m c t j x l)
  funext a
  refine Fin.ext ?_
  match a with
  | ⟨0, _⟩ => show j.val + 1 * 0 = j.val; omega
  | ⟨1, _⟩ => show 0 + 1 * x.val = x.val; omega
  | ⟨2, _⟩ => show 0 + 1 * l.val = l.val; omega

/-- The rows of the modulation. -/
theorem gm_apply : k0_pay5 (F := Ideal) (iblk m c 3 t) (ix2 0 l) = gm (ar m c) (bOf t) l := by
  pointwise [k0_pay5, k0_pay4]
  rw [blk3]
  rfl
theorem sh_apply : k0_pay6 (F := Ideal) (iblk m c 3 t) (ix2 0 l) = sh (ar m c) (bOf t) l := by
  pointwise [k0_pay6, k0_pay4]
  rw [blk3]
  rfl
theorem sc_apply : 1 + k0_pay7 (F := Ideal) (iblk m c 3 t) (ix2 0 l) = sc (ar m c) (bOf t) l := by
  pointwise [k0_pay7, k0_pay4]
  rw [blk3]
  rfl
theorem gf_apply : k0_pay8 (F := Ideal) (iblk m c 3 t) (ix2 0 l) = gf (ar m c) (bOf t) l := by
  pointwise [k0_pay8, k0_pay4]
  rw [blk3]
  rfl
theorem g9_apply : k0_pay9 (F := Ideal) (iblk m c 5 t) (ix2 0 l) = (ar m c).a4 (ix1 l) := by
  pointwise [k0_pay9]
  rw [blk5]

/-- The mixer's product, the residual row, its inverse root, its normalised row and the modulated row. -/
def AA : FVec Ideal S256x1024 .f32 := k0_pay10 (F := Ideal) (iblk m c 1 t) (iblk m c 6 t)
def H1 : FVec Ideal S256x1024 .f32 := k0_pay13 (F := Ideal) (AA m c t) (k0_pay11 (iblk m c 0 t)) (k0_pay12 (iblk m c 3 t))
def R2 : FVec Ideal S256x1 .f32 := k0_pay14 (F := Ideal) (AA m c t) (k0_pay11 (iblk m c 0 t)) (k0_pay12 (iblk m c 3 t))
def N2 : FVec Ideal S256x1024 .f32 := k0_pay15 (F := Ideal) (AA m c t) (k0_pay11 (iblk m c 0 t)) (k0_pay12 (iblk m c 3 t))
def UU : FVec Ideal S256x1024 .bf16 := k0_pay16 (F := Ideal) (k0_pay6 (iblk m c 3 t)) (k0_pay7 (iblk m c 3 t)) (iblk m c 4 t) (AA m c t) (k0_pay11 (iblk m c 0 t)) (k0_pay12 (iblk m c 3 t))

theorem AA_apply : AA m c t (ix2 r l) = aa (ar m c) (bOf t) (sOf t r) l := by
  pointwise [AA, k0_pay10]
  simp only [blk1, blk6]
  rfl
theorem H1_apply : H1 m c t (ix2 r l) = h1 (ar m c) (bOf t) (sOf t r) l := by
  pointwise [H1, k0_pay13, k0_pay11, k0_pay12]
  rw [blk0, gm_apply, AA_apply]
  rfl
theorem R2_apply : R2 m c t (ix2 r 0) = Ideal.rsqrt (RowNorm.var (h1 (ar m c) (bOf t) (sOf t r))) := by
  have e : R2 m c t (ix2 r 0) = Ideal.rsqrt (RowNorm.var fun k => H1 m c t (ix2 r k)) := by
    pointwise [R2, k0_pay14]
    rfl
  simp only [e, H1_apply]
theorem N2_apply : N2 m c t (ix2 r l) = n2 (ar m c) (bOf t) (sOf t r) l := by
  have e : N2 m c t (ix2 r l) = H1 m c t (ix2 r l) * R2 m c t (ix2 r 0) := by
    pointwise [N2, k0_pay15]
    rfl
  simp only [e, H1_apply, R2_apply]
  rfl
theorem UU_apply : UU m c t (ix2 r l) = uu (ar m c) (bOf t) (sOf t r) l := by
  have e : UU m c t (ix2 r l) = N2 m c t (ix2 r l) * iblk m c 4 t (ix2 0 l) * (1 + k0_pay7 (F := Ideal) (iblk m c 3 t) (ix2 0 l)) + k0_pay6 (F := Ideal) (iblk m c 3 t) (ix2 0 l) := by
    pointwise [UU, k0_pay16]
    rfl
  rw [e, N2_apply, blk4, sc_apply, sh_apply]
  rfl

theorem rel_apply (j : Fin 8) (x : Fin 512) : rel (UU m c t) (W m c t j) r x = up (ar m c) (bOf t) (sOf t r) (fOf j x) := by
  unfold rel
  simp only [UU_apply, W_apply]
  rfl

/-- The second product, the second residual row, its inverse root, its normalised row and the error. -/
abbrev T5 : FVec Ideal S256x1024 .f32 := k0_pay41 (F := Ideal) (UU m c t) (k0_pay33 (UU m c t) (k0_pay25 (UU m c t) k0_pay17
    (k0_pay21 (k0_pay6 (iblk m c 3 t)) (k0_pay7 (iblk m c 3 t)) (iblk m c 4 t) (AA m c t) (k0_pay11 (iblk m c 0 t)) (k0_pay12 (iblk m c 3 t)) (W m c t 0) (D m c t 0))
    (W m c t 1) (D m c t 1)) (k0_pay29 (UU m c t) (W m c t 2) (D m c t 2)) (W m c t 3) (D m c t 3))
    (k0_pay37 (UU m c t) (W m c t 4) (D m c t 4)) (W m c t 5) (D m c t 5)
abbrev T6 : FVec Ideal S256x1024 .f32 := k0_pay45 (F := Ideal) (UU m c t) (W m c t 6) (D m c t 6)
def DN : FVec Ideal S256x1024 .f32 := k0_pay49 (F := Ideal) (UU m c t) (T5 m c t) (T6 m c t) (W m c t 7) (D m c t 7)
def H2 : FVec Ideal S256x1024 .f32 := k0_pay50 (F := Ideal) (k0_pay8 (iblk m c 3 t)) (H1 m c t) (UU m c t) (T5 m c t) (T6 m c t) (W m c t 7) (D m c t 7)
def R3 : FVec Ideal S256x1 .f32 := k0_pay51 (F := Ideal) (k0_pay8 (iblk m c 3 t)) (H1 m c t) (UU m c t) (T5 m c t) (T6 m c t) (W m c t 7) (D m c t 7)
def N3 : FVec Ideal S256x1024 .f32 := k0_pay52 (F := Ideal) (k0_pay8 (iblk m c 3 t)) (H1 m c t) (UU m c t) (T5 m c t) (T6 m c t) (W m c t 7) (D m c t 7)
def ER : FVec Ideal S256x1024 .f32 := k0_pay53 (F := Ideal) (k0_pay8 (iblk m c 3 t)) (k0_pay9 (iblk m c 5 t)) (H1 m c t) (UU m c t) (T5 m c t) (T6 m c t) (W m c t 7) (D m c t 7) (iblk m c 2 t)

theorem sq_apply (j : Fin 8) : sq (UU m c t) (W m c t j) (D m c t j) r l = ∑ x : Fin 512, ff (ar m c) (bOf t) (sOf t r) (fOf j x) * (ar m c).a7 (ix3 0 (fOf j x) l) := by
  unfold sq
  simp only [rel_apply, D_apply]
  rfl

theorem DN_apply : DN m c t (ix2 r l) = dn (ar m c) (bOf t) (sOf t r) l := by
  have e : DN m c t (ix2 r l) = k0_pay17 (F := Ideal) (ix2 r l) + sq (UU m c t) (W m c t 0) (D m c t 0) r l + sq (UU m c t) (W m c t 1) (D m c t 1) r l
      + sq (UU m c t) (W m c t 2) (D m c t 2) r l + sq (UU m c t) (W m c t 3) (D m c t 3) r l + sq (UU m c t) (W m c t 4) (D m c t 4) r l
      + sq (UU m c t) (W m c t 5) (D m c t 5) r l + sq (UU m c t) (W m c t 6) (D m c t 6) r l + sq (UU m c t) (W m c t 7) (D m c t 7) r l := by
    refine (pay25_apply (UU m c t) (W m c t 7) (D m c t 7) (T5 m c t) (T6 m c t) r l).trans (congrArg₂ (fun a b => a + b + _) ?_ (pay29_apply (UU m c t) (W m c t 6) (D m c t 6) r l))
    refine (pay25_apply (UU m c t) (W m c t 5) (D m c t 5) _ _ r l).trans (congrArg₂ (fun a b => a + b + _) ?_ (pay29_apply (UU m c t) (W m c t 4) (D m c t 4) r l))
    refine (pay25_apply (UU m c t) (W m c t 3) (D m c t 3) _ _ r l).trans (congrArg₂ (fun a b => a + b + _) ?_ (pay29_apply (UU m c t) (W m c t 2) (D m c t 2) r l))
    refine (pay25_apply (UU m c t) (W m c t 1) (D m c t 1) _ _ r l).trans (congrArg (fun b => _ + b + _) ?_)
    exact pay21_apply (W m c t 0) (D m c t 0) _ _ _ _ _ _ r l
  have z : k0_pay17 (F := Ideal) (ix2 r l) = 0 := by pointwise [k0_pay17]
  rw [e, z, zero_add]
  simp only [sq_apply]
  exact ((blocks 8 512 4096 rfl fun f => ff (ar m c) (bOf t) (sOf t r) f * (ar m c).a7 (ix3 0 f l)).trans (Fin.sum_univ_eight _)).symm

theorem H2_apply : H2 m c t (ix2 r l) = h2 (ar m c) (bOf t) (sOf t r) l := by
  have e : H2 m c t (ix2 r l) = H1 m c t (ix2 r l) + k0_pay8 (F := Ideal) (iblk m c 3 t) (ix2 0 l) * DN m c t (ix2 r l) := pay50_apply _ _ _ _ _ _ _ r l
  rw [e, H1_apply, gf_apply, DN_apply]
  rfl
theorem R3_apply : R3 m c t (ix2 r 0) = Ideal.rsqrt (RowNorm.var (h2 (ar m c) (bOf t) (sOf t r))) := by
  have e : R3 m c t (ix2 r 0) = Ideal.rsqrt (RowNorm.var fun k => H2 m c t (ix2 r k)) := pay51_apply _ _ _ _ _ _ _ r
  simp only [e, H2_apply]
theorem N3_apply : N3 m c t (ix2 r l) = n3 (ar m c) (bOf t) (sOf t r) l := by
  have e : N3 m c t (ix2 r l) = H2 m c t (ix2 r l) * R3 m c t (ix2 r 0) := pay52_apply _ _ _ _ _ _ _ r l
  rw [e, H2_apply, R3_apply]
  rfl
theorem ER_apply : ER m c t (ix2 r l) = err (ar m c) (bOf t) (sOf t r) l := by
  have e : ER m c t (ix2 r l) = N3 m c t (ix2 r l) * k0_pay9 (F := Ideal) (iblk m c 5 t) (ix2 0 l) - iblk m c 2 t (ix2 r l) := pay53_apply _ _ _ _ _ _ _ _ _ r l
  rw [e, N3_apply, g9_apply, blk2]
  rfl

/-- The loss of the point's rows, and the last gain's gradient over them. -/
def LO : FVec Ideal S1x1 .f32 := k0_pay56 (F := Ideal) (k0_pay54 (k0_pay8 (iblk m c 3 t)) (k0_pay9 (iblk m c 5 t)) (H1 m c t) (UU m c t) (T5 m c t) (T6 m c t) (W m c t 7) (D m c t 7) (iblk m c 2 t)) k0_pay55
theorem LO_apply : LO m c t (ix2 0 0) = Ideal.ofBits .f32 0x3F000000#32 * ∑ r, rowLoss (ar m c) (bOf t) (sOf t r) := by
  have e : LO m c t (ix2 0 0) = Ideal.ofBits .f32 0x3F000000#32 * ∑ r, Ideal.div (∑ l, ER m c t (ix2 r l) * ER m c t (ix2 r l)) (Ideal.ofBits .f32 0x44800000#32) := pay56_apply _ _ _ _ _ _ _ _ _
  simp only [e, ER_apply]
  rfl

def G4 : FVec Ideal S1x1024 .f32 := k0_pay58 (F := Ideal) (N3 m c t) (ER m c t)
theorem G4_apply : G4 m c t (ix2 0 l) = ∑ r, dout (ar m c) (bOf t) (sOf t r) l * n3 (ar m c) (bOf t) (sOf t r) l := by
  have e : G4 m c t (ix2 0 l) = ∑ r, ER m c t (ix2 r l) * Ideal.ofBits .f32 0x3A800000#32 * N3 m c t (ix2 r l) := pay58_apply _ _ l
  simp only [e, ER_apply, N3_apply]
  rfl

/-- The gradient into the second residual row, its sum against the second product, and the gradient into that. -/
def DH2 : FVec Ideal S256x1024 .f32 := k0_pay59 (F := Ideal) (k0_pay9 (iblk m c 5 t)) (R3 m c t) (N3 m c t) (ER m c t)
def DD : FVec Ideal S256x1024 .bf16 := k0_pay61 (F := Ideal) (k0_pay8 (iblk m c 3 t)) (k0_pay9 (iblk m c 5 t)) (R3 m c t) (N3 m c t) (ER m c t)
def G5 : FVec Ideal S1x1024 .f32 := k0_pay60 (F := Ideal) (k0_pay9 (iblk m c 5 t)) (DN m c t) (R3 m c t) (N3 m c t) (ER m c t)

theorem DH2_apply : DH2 m c t (ix2 r l) = dh2 (ar m c) (bOf t) (sOf t r) l := by
  refine (pay59_apply _ _ _ _ r l).trans ?_
  simp only [ER_apply, N3_apply, R3_apply, g9_apply]
  exact RowNorm.grad _ (fun l => dout (ar m c) (bOf t) (sOf t r) l * (ar m c).a4 (ix1 l)) l
theorem DD_apply : DD m c t (ix2 r l) = ddn (ar m c) (bOf t) (sOf t r) l := by
  have e : DD m c t (ix2 r l) = k0_pay8 (F := Ideal) (iblk m c 3 t) (ix2 0 l) * DH2 m c t (ix2 r l) := pay61_apply _ _ _ _ _ r l
  rw [e, gf_apply, DH2_apply]
  rfl
theorem G5_apply : G5 m c t (ix2 0 l) = ∑ r, dh2 (ar m c) (bOf t) (sOf t r) l * dn (ar m c) (bOf t) (sOf t r) l := by
  have e : G5 m c t (ix2 0 l) = ∑ r, DH2 m c t (ix2 r l) * DN m c t (ix2 r l) := pay60_apply _ _ _ _ _ l
  simp only [e, DH2_apply, DN_apply]

/-- The channels kept for the way back, read block by block, and the gradient into the channels. -/
def YY : Fin 8 → FVec Ideal S256x512 .f32 :=
  ![k0_pay19 (k0_pay6 (iblk m c 3 t)) (k0_pay7 (iblk m c 3 t)) (iblk m c 4 t) (AA m c t) (k0_pay11 (iblk m c 0 t)) (k0_pay12 (iblk m c 3 t)) (W m c t 0),
    k0_pay23 (UU m c t) (W m c t 1), k0_pay27 (UU m c t) (W m c t 2), k0_pay31 (UU m c t) (W m c t 3), k0_pay35 (UU m c t) (W m c t 4),
    k0_pay39 (UU m c t) (W m c t 5), k0_pay43 (UU m c t) (W m c t 6), k0_pay47 (UU m c t) (W m c t 7)]
def FF : Fin 8 → FVec Ideal S256x512 .bf16 :=
  ![k0_pay20 (k0_pay6 (iblk m c 3 t)) (k0_pay7 (iblk m c 3 t)) (iblk m c 4 t) (AA m c t) (k0_pay11 (iblk m c 0 t)) (k0_pay12 (iblk m c 3 t)) (W m c t 0),
    k0_pay24 (UU m c t) (W m c t 1), k0_pay28 (UU m c t) (W m c t 2), k0_pay32 (UU m c t) (W m c t 3), k0_pay36 (UU m c t) (W m c t 4),
    k0_pay40 (UU m c t) (W m c t 5), k0_pay44 (UU m c t) (W m c t 6), k0_pay48 (UU m c t) (W m c t 7)]

theorem eight {P : Fin 8 → Prop} (h0 : P 0) (h1 : P 1) (h2 : P 2) (h3 : P 3) (h4 : P 4) (h5 : P 5) (h6 : P 6) (h7 : P 7) : ∀ j, P j := fun j => by
  match j with
  | 0 => exact h0
  | 1 => exact h1
  | 2 => exact h2
  | 3 => exact h3
  | 4 => exact h4
  | 5 => exact h5
  | 6 => exact h6
  | 7 => exact h7

theorem YY_apply : ∀ (j : Fin 8) (r : Fin 256) (x : Fin 512), YY m c t j (ix2 r x) = up (ar m c) (bOf t) (sOf t r) (fOf j x) :=
  eight (fun r x => (pay19_apply (W m c t 0) _ _ _ _ _ _ r x).trans (rel_apply m c t r 0 x)) (fun r x => (pay23_apply (UU m c t) (W m c t 1) r x).trans (rel_apply m c t r 1 x))
    (fun r x => (pay27_apply (UU m c t) (W m c t 2) r x).trans (rel_apply m c t r 2 x)) (fun r x => (pay27_apply (UU m c t) (W m c t 3) r x).trans (rel_apply m c t r 3 x))
    (fun r x => (pay27_apply (UU m c t) (W m c t 4) r x).trans (rel_apply m c t r 4 x)) (fun r x => (pay27_apply (UU m c t) (W m c t 5) r x).trans (rel_apply m c t r 5 x))
    (fun r x => (pay27_apply (UU m c t) (W m c t 6) r x).trans (rel_apply m c t r 6 x)) (fun r x => (pay27_apply (UU m c t) (W m c t 7) r x).trans (rel_apply m c t r 7 x))

theorem ff_of (j : Fin 8) (x : Fin 512) : rel (UU m c t) (W m c t j) r x * rel (UU m c t) (W m c t j) r x = ff (ar m c) (bOf t) (sOf t r) (fOf j x) := by
  rw [rel_apply]; rfl

theorem FF_apply : ∀ (j : Fin 8) (r : Fin 256) (x : Fin 512), FF m c t j (ix2 r x) = ff (ar m c) (bOf t) (sOf t r) (fOf j x) :=
  eight (fun r x => (pay20_apply (W m c t 0) _ _ _ _ _ _ r x).trans (ff_of m c t r 0 x)) (fun r x => (pay24_apply (UU m c t) (W m c t 1) r x).trans (ff_of m c t r 1 x))
    (fun r x => (pay24_apply (UU m c t) (W m c t 2) r x).trans (ff_of m c t r 2 x)) (fun r x => (pay24_apply (UU m c t) (W m c t 3) r x).trans (ff_of m c t r 3 x))
    (fun r x => (pay24_apply (UU m c t) (W m c t 4) r x).trans (ff_of m c t r 4 x)) (fun r x => (pay24_apply (UU m c t) (W m c t 5) r x).trans (ff_of m c t r 5 x))
    (fun r x => (pay24_apply (UU m c t) (W m c t 6) r x).trans (ff_of m c t r 6 x)) (fun r x => (pay24_apply (UU m c t) (W m c t 7) r x).trans (ff_of m c t r 7 x))

/-- A kept block as it is read back. -/
def Y (o : ℕ) (inb : ∀ a, (![0, o] : Fin 2 → ℕ) a + (![256, 512] : Fin 2 → ℕ) a ≤ S256x4096.size a) : FVec Ideal S256x512 .f32 := (View.whole cc0_scratch0).readCov (pieces (Val := Elt Ideal) (e := .f32) (YY m c t)) (Rect.unit (s := S256x4096) ![0, o] ![256, 512] inb).toLoadRect

theorem Y_apply (j : Fin 8) (o : ℕ) (inb : ∀ a, (![0, o] : Fin 2 → ℕ) a + (![256, 512] : Fin 2 → ℕ) a ≤ S256x4096.size a) (ho : o = 512 * j.val) (x : Fin 512) : Y m c t o inb (ix2 r x) = up (ar m c) (bOf t) (sOf t r) (fOf j x) :=
  read_pieces (Val := Elt Ideal) (e := .f32) _ (YY m c t) (fun r f => up (ar m c) (bOf t) (sOf t r) f) (YY_apply m c t) j o inb ho r x

abbrev Y0 := Y m c t 0 inb_S256x4096_S256x512_0_0
abbrev Y1 := Y m c t 512 inb_S256x4096_S256x512_0_512
abbrev Y2 := Y m c t 1024 inb_S256x4096_S256x512_0_1024
abbrev Y3 := Y m c t 1536 inb_S256x4096_S256x512_0_1536
abbrev Y4 := Y m c t 2048 inb_S256x4096_S256x512_0_2048
abbrev Y5 := Y m c t 2560 inb_S256x4096_S256x512_0_2560
abbrev Y6 := Y m c t 3072 inb_S256x4096_S256x512_0_3072
abbrev Y7 := Y m c t 3584 inb_S256x4096_S256x512_0_3584

abbrev X0 : FVec Ideal S256x512 .bf16 := k0_pay63 (F := Ideal) (k0_pay8 (iblk m c 3 t)) (k0_pay9 (iblk m c 5 t)) (R3 m c t) (N3 m c t) (ER m c t) (D m c t 0) (Y0 m c t)

def XX : Fin 8 → FVec Ideal S256x512 .bf16 :=
  ![X0 m c t, k0_pay64 (DD m c t) (D m c t 1) (Y1 m c t), k0_pay66 (DD m c t) (D m c t 2) (Y2 m c t), k0_pay68 (DD m c t) (D m c t 3) (Y3 m c t), k0_pay69 (DD m c t) (D m c t 4) (Y4 m c t),
    k0_pay71 (DD m c t) (D m c t 5) (Y5 m c t), k0_pay72 (DD m c t) (D m c t 6) (Y6 m c t), k0_pay75 (k0_pay74 (DD m c t) (D m c t 7)) (Y7 m c t)]

theorem gup_apply (j : Fin 8) (o : ℕ) (inb : ∀ a, (![0, o] : Fin 2 → ℕ) a + (![256, 512] : Fin 2 → ℕ) a ≤ S256x4096.size a) (ho : o = 512 * j.val) (x : Fin 512) :
    gup (DD m c t) (D m c t j) (Y m c t o inb) r x = dup (ar m c) (bOf t) (sOf t r) (fOf j x) := by
  unfold gup
  simp only [DD_apply, D_apply, Y_apply m c t r j o inb ho]
  rfl

theorem X0_gup (x : Fin 512) : (X0 m c t) (ix2 r x) = gup (DD m c t) (D m c t 0) (Y0 m c t) r x :=
  pay63_apply (D := D m c t 0) (n := N3 m c t) (x := ER m c t) (w := k0_pay8 (iblk m c 3 t)) (v := k0_pay9 (iblk m c 5 t)) (q := R3 m c t) (p := Y0 m c t) r x
theorem X1_gup (x : Fin 512) : (k0_pay64 (F := Ideal) (DD m c t) (D m c t 1) (Y1 m c t)) (ix2 r x) = gup (DD m c t) (D m c t 1) (Y1 m c t) r x :=
  pay64_apply (DD m c t) (D m c t 1) (Y1 m c t) r x
theorem X2_gup (x : Fin 512) : (k0_pay66 (F := Ideal) (DD m c t) (D m c t 2) (Y2 m c t)) (ix2 r x) = gup (DD m c t) (D m c t 2) (Y2 m c t) r x :=
  pay64_apply (DD m c t) (D m c t 2) (Y2 m c t) r x
theorem X3_gup (x : Fin 512) : (k0_pay68 (F := Ideal) (DD m c t) (D m c t 3) (Y3 m c t)) (ix2 r x) = gup (DD m c t) (D m c t 3) (Y3 m c t) r x :=
  pay64_apply (DD m c t) (D m c t 3) (Y3 m c t) r x
theorem X4_gup (x : Fin 512) : (k0_pay69 (F := Ideal) (DD m c t) (D m c t 4) (Y4 m c t)) (ix2 r x) = gup (DD m c t) (D m c t 4) (Y4 m c t) r x :=
  pay64_apply (DD m c t) (D m c t 4) (Y4 m c t) r x
theorem X5_gup (x : Fin 512) : (k0_pay71 (F := Ideal) (DD m c t) (D m c t 5) (Y5 m c t)) (ix2 r x) = gup (DD m c t) (D m c t 5) (Y5 m c t) r x :=
  pay64_apply (DD m c t) (D m c t 5) (Y5 m c t) r x
theorem X6_gup (x : Fin 512) : (k0_pay72 (F := Ideal) (DD m c t) (D m c t 6) (Y6 m c t)) (ix2 r x) = gup (DD m c t) (D m c t 6) (Y6 m c t) r x :=
  pay64_apply (DD m c t) (D m c t 6) (Y6 m c t) r x
theorem X7_gup (x : Fin 512) : (k0_pay75 (F := Ideal) (k0_pay74 (DD m c t) (D m c t 7)) (Y7 m c t)) (ix2 r x) = gup (DD m c t) (D m c t 7) (Y7 m c t) r x :=
  pay75_apply (DD m c t) (D m c t 7) (Y7 m c t) r x

theorem XX_apply (j : Fin 8) (r : Fin 256) (x : Fin 512) : XX m c t j (ix2 r x) = dup (ar m c) (bOf t) (sOf t r) (fOf j x) := by
  revert r x
  revert j
  refine eight ?_ ?_ ?_ ?_ ?_ ?_ ?_ ?_ <;> intro r x
  · exact (X0_gup m c t r x).trans (gup_apply m c t r 0 0 inb_S256x4096_S256x512_0_0 rfl x)
  · exact (X1_gup m c t r x).trans (gup_apply m c t r 1 512 inb_S256x4096_S256x512_0_512 rfl x)
  · exact (X2_gup m c t r x).trans (gup_apply m c t r 2 1024 inb_S256x4096_S256x512_0_1024 rfl x)
  · exact (X3_gup m c t r x).trans (gup_apply m c t r 3 1536 inb_S256x4096_S256x512_0_1536 rfl x)
  · exact (X4_gup m c t r x).trans (gup_apply m c t r 4 2048 inb_S256x4096_S256x512_0_2048 rfl x)
  · exact (X5_gup m c t r x).trans (gup_apply m c t r 5 2560 inb_S256x4096_S256x512_0_2560 rfl x)
  · exact (X6_gup m c t r x).trans (gup_apply m c t r 6 3072 inb_S256x4096_S256x512_0_3072 rfl x)
  · exact (X7_gup m c t r x).trans (gup_apply m c t r 7 3584 inb_S256x4096_S256x512_0_3584 rfl x)

theorem gsq_apply (j : Fin 8) (o : ℕ) (inb : ∀ a, (![0, o] : Fin 2 → ℕ) a + (![256, 512] : Fin 2 → ℕ) a ≤ S256x4096.size a) (ho : o = 512 * j.val) :
    gsq (DD m c t) (W m c t j) (D m c t j) (Y m c t o inb) r l = ∑ x : Fin 512, dup (ar m c) (bOf t) (sOf t r) (fOf j x) * (ar m c).a6 (ix3 0 l (fOf j x)) := by
  unfold gsq
  simp only [gup_apply m c t r j o inb ho, W_apply]

/-- The gradient into the modulated row; the row's share of the modulation's and the gain's gradients. -/
def P1 : FVec Ideal S256x1024 .f32 := k0_pay65 (F := Ideal) (DD m c t) k0_pay62 (X0 m c t) (W m c t 0) (D m c t 1) (Y1 m c t) (W m c t 1)
def P4 : FVec Ideal S256x1024 .f32 := k0_pay70 (F := Ideal) (DD m c t) (P1 m c t) (k0_pay66 (DD m c t) (D m c t 2) (Y2 m c t)) (k0_pay67 (W m c t 2)) (constant S256x1024 .f32 0x00000000#32) (D m c t 3) (Y3 m c t) (W m c t 3) (D m c t 4) (Y4 m c t) (W m c t 4)
def T7 : FVec Ideal S256x1024 .f32 := k0_pay73 (F := Ideal) (DD m c t) (P4 m c t) (D m c t 5) (Y5 m c t) (W m c t 5) (D m c t 6) (Y6 m c t) (W m c t 6)
def DU : FVec Ideal S256x1024 .f32 := k0_pay76 (F := Ideal) (T7 m c t) (k0_pay74 (DD m c t) (D m c t 7)) (Y7 m c t) (W m c t 7)
def M4 : FVec Ideal S1x1024 .f32 := k0_pay77 (F := Ideal) (iblk m c 4 t) (N2 m c t) (T7 m c t) (k0_pay74 (DD m c t) (D m c t 7)) (Y7 m c t) (W m c t 7)
def M3 : FVec Ideal S1x1024 .f32 := k0_pay78 (F := Ideal) (T7 m c t) (k0_pay74 (DD m c t) (D m c t 7)) (Y7 m c t) (W m c t 7)
def G3 : FVec Ideal S1x1024 .f32 := k0_pay79 (F := Ideal) (k0_pay7 (iblk m c 3 t)) (N2 m c t) (T7 m c t) (k0_pay74 (DD m c t) (D m c t 7)) (Y7 m c t) (W m c t 7)
def DH1 : FVec Ideal S256x1024 .f32 := k0_pay80 (F := Ideal) (k0_pay7 (iblk m c 3 t)) (iblk m c 4 t) (R2 m c t) (N2 m c t) (DH2 m c t) (T7 m c t) (k0_pay74 (DD m c t) (D m c t 7)) (Y7 m c t) (W m c t 7)
def DA : FVec Ideal S256x1024 .f32 := k0_pay81 (F := Ideal) (k0_pay7 (iblk m c 3 t)) (iblk m c 4 t) (AA m c t) (R2 m c t) (N2 m c t) (DH2 m c t) (T7 m c t) (k0_pay74 (DD m c t) (D m c t 7)) (Y7 m c t) (W m c t 7)

/-- A block's part of the gradient into the modulated row. -/
def part (j : Fin 8) : EReal := ∑ x : Fin 512, dup (ar m c) (bOf t) (sOf t r) (fOf j x) * (ar m c).a6 (ix3 0 l (fOf j x))

theorem P1_apply : P1 m c t (ix2 r l) = part m c t r l 0 + part m c t r l 1 := by
  have e : P1 m c t (ix2 r l) = k0_pay62 (F := Ideal) (ix2 r l) + (∑ z, X0 m c t (ix2 r z) * W m c t 0 (ix3 0 l z)) + gsq (DD m c t) (W m c t 1) (D m c t 1) (Y1 m c t) r l :=
    pay65_apply (DD m c t) (W m c t 1) (D m c t 1) k0_pay62 (Y1 m c t) (X0 m c t) (W m c t 0) r l
  have z : k0_pay62 (F := Ideal) (ix2 r l) = 0 := by pointwise [k0_pay62]
  rw [e, z, zero_add]
  refine congrArg₂ (· + ·) ?_ (gsq_apply m c t r l 1 512 inb_S256x4096_S256x512_0_512 rfl)
  refine Finset.sum_congr rfl fun x _ => ?_
  rw [X0_gup, gup_apply m c t r 0 0 inb_S256x4096_S256x512_0_0 rfl, W_apply]
theorem P4_apply : P4 m c t (ix2 r l) = part m c t r l 0 + part m c t r l 1 + part m c t r l 2 + part m c t r l 3 + part m c t r l 4 := by
  have e : P4 m c t (ix2 r l) = P1 m c t (ix2 r l) + (∑ z, k0_pay66 (F := Ideal) (DD m c t) (D m c t 2) (Y2 m c t) (ix2 r z) * W m c t 2 (ix3 0 l z)) + gsq (DD m c t) (W m c t 3) (D m c t 3) (Y3 m c t) r l + gsq (DD m c t) (W m c t 4) (D m c t 4) (Y4 m c t) r l :=
    pay70_apply (DD m c t) (P1 m c t) _ (W m c t 2) (W m c t 3) (W m c t 4) (D m c t 3) (D m c t 4) (Y3 m c t) (Y4 m c t) r l
  have q : (∑ z, k0_pay66 (F := Ideal) (DD m c t) (D m c t 2) (Y2 m c t) (ix2 r z) * W m c t 2 (ix3 0 l z)) = part m c t r l 2 := by
    refine Finset.sum_congr rfl fun x _ => ?_
    rw [X2_gup, gup_apply m c t r 2 1024 inb_S256x4096_S256x512_0_1024 rfl, W_apply]
  rw [e, P1_apply, q, gsq_apply m c t r l 3 1536 inb_S256x4096_S256x512_0_1536 rfl, gsq_apply m c t r l 4 2048 inb_S256x4096_S256x512_0_2048 rfl]
  rfl
theorem T7_apply : T7 m c t (ix2 r l) = part m c t r l 0 + part m c t r l 1 + part m c t r l 2 + part m c t r l 3 + part m c t r l 4 + part m c t r l 5 + part m c t r l 6 := by
  have e : T7 m c t (ix2 r l) = P4 m c t (ix2 r l) + gsq (DD m c t) (W m c t 5) (D m c t 5) (Y5 m c t) r l + gsq (DD m c t) (W m c t 6) (D m c t 6) (Y6 m c t) r l :=
    pay73_apply (DD m c t) (P4 m c t) (W m c t 5) (W m c t 6) (D m c t 5) (D m c t 6) (Y5 m c t) (Y6 m c t) r l
  rw [e, P4_apply, gsq_apply m c t r l 5 2560 inb_S256x4096_S256x512_0_2560 rfl, gsq_apply m c t r l 6 3072 inb_S256x4096_S256x512_0_3072 rfl]
  rfl
theorem DU_apply : DU m c t (ix2 r l) = du (ar m c) (bOf t) (sOf t r) l := by
  have e : DU m c t (ix2 r l) = T7 m c t (ix2 r l) + gsq (DD m c t) (W m c t 7) (D m c t 7) (Y7 m c t) r l :=
    pay76_apply (DD m c t) (W m c t 7) (D m c t 7) (T7 m c t) (Y7 m c t) r l
  rw [e, T7_apply, gsq_apply m c t r l 7 3584 inb_S256x4096_S256x512_0_3584 rfl]
  exact ((blocks 8 512 4096 rfl fun f => dup (ar m c) (bOf t) (sOf t r) f * (ar m c).a6 (ix3 0 l f)).trans (Fin.sum_univ_eight _)).symm

theorem M4_apply : M4 m c t (ix2 0 l) = ∑ r, du (ar m c) (bOf t) (sOf t r) l * (n2 (ar m c) (bOf t) (sOf t r) l * (ar m c).a3 (ix2 0 l)) := by
  have e : M4 m c t (ix2 0 l) = ∑ r, DU m c t (ix2 r l) * (N2 m c t (ix2 r l) * iblk m c 4 t (ix2 0 l)) := pay77_apply _ _ _ _ _ _ l
  simp only [e, DU_apply, N2_apply, blk4]
theorem M3_apply : M3 m c t (ix2 0 l) = ∑ r, du (ar m c) (bOf t) (sOf t r) l := by
  have e : M3 m c t (ix2 0 l) = ∑ r, DU m c t (ix2 r l) := pay78_apply _ _ _ _ l
  simp only [e, DU_apply]
theorem G3_apply : G3 m c t (ix2 0 l) = ∑ r, du (ar m c) (bOf t) (sOf t r) l * sc (ar m c) (bOf t) l * n2 (ar m c) (bOf t) (sOf t r) l := by
  have e : G3 m c t (ix2 0 l) = ∑ r, DU m c t (ix2 r l) * (1 + k0_pay7 (F := Ideal) (iblk m c 3 t) (ix2 0 l)) * N2 m c t (ix2 r l) := pay79_apply _ _ _ _ _ _ l
  simp only [e, DU_apply, N2_apply, sc_apply]
theorem DH1_apply : DH1 m c t (ix2 r l) = dh1 (ar m c) (bOf t) (sOf t r) l := by
  have d : ∀ l, k0_pay76 (F := Ideal) (T7 m c t) (k0_pay74 (DD m c t) (D m c t 7)) (Y7 m c t) (W m c t 7) (ix2 r l) = du (ar m c) (bOf t) (sOf t r) l := DU_apply m c t r
  refine (pay80_apply _ _ _ _ _ _ _ _ _ r l).trans ?_
  simp only [d, DH2_apply, R2_apply, N2_apply, blk4, sc_apply]
  exact congrArg (_ + ·) (RowNorm.grad _ (fun l => du (ar m c) (bOf t) (sOf t r) l * ((ar m c).a3 (ix2 0 l) * sc (ar m c) (bOf t) l)) l)
theorem DA_apply : DA m c t (ix2 r l) = dh1 (ar m c) (bOf t) (sOf t r) l * aa (ar m c) (bOf t) (sOf t r) l := by
  have e : DA m c t (ix2 r l) = DH1 m c t (ix2 r l) * AA m c t (ix2 r l) := pay81_apply _ _ _ _ _ _ _ _ _ _ r l
  rw [e, DH1_apply, AA_apply]

/-! ## What the body leaves -/

theorem da_pay : k0_pay82 (F := Ideal) (k0_pay5 (iblk m c 3 t)) (DH1 m c t) (ix2 r l) = da (ar m c) (bOf t) (sOf t r) l := by
  rw [pay82_apply, gm_apply, DH1_apply]
  rfl
theorem dym_pay (k : Fin 1536) : k0_pay83 (F := Ideal) (k0_pay5 (iblk m c 3 t)) (DH1 m c t) (iblk m c 6 t) (ix2 r k) = dym (ar m c) (bOf t) (sOf t r) k := by
  rw [pay83_apply]
  simp only [gm_apply, DH1_apply, blk6]
  rfl

/-- What a point adds to the modulation's gradient, and to the gains' and the loss. -/
def dmT (q : Fin 8) (l : Fin 1024) : EReal := ∑ r, dmod (ar m c) (bOf t) (sOf t r) l q
def acT (q : Fin 8) (l : Fin 1024) : EReal := ∑ r, acc (ar m c) (bOf t) (sOf t r) l q

theorem dm_pay (v : FVec Ideal S1x8x1024 .f32) (q : Fin 8) :
    k0_pay84 (F := Ideal) (G5 m c t) (M4 m c t) (M3 m c t) (DA m c t) v (ix3 0 q l) = v (ix3 0 q l) + dmT m c t q l := by
  rw [pay84_apply, M3_apply, M4_apply, G5_apply]
  simp only [DA_apply]
  refine congrArg (_ + ·) ?_
  unfold dmT dmod
  split_ifs <;> simp

theorem half : Ideal.ofBits .f32 0x3F000000#32 = ((1 / 2 : ℝ) : EReal) := by
  simp [Ideal.ofBits, Ideal.ieee]; rw [← EReal.coe_mul]; norm_num
theorem ac_pay (v : FVec Ideal S8x1024 .f32) (q : Fin 8) :
    k0_pay1 (F := Ideal) (k0_pay85 v) (k0_pay86 (LO m c t) (G4 m c t) (G3 m c t)) (ix2 q l) = v (ix2 q l) + acT m c t q l := by
  rw [pay86_apply, G3_apply, G4_apply, LO_apply, mul_one]
  refine congrArg (_ + ·) ?_
  unfold acT acc
  split_ifs
  · rfl
  · rfl
  · rw [half]
    exact RowNorm.mul_sum _ _ _ (by norm_num)
  · simp

end Point

end Cert.MlpKernel

end
-- ==== Proof.MlpOut.lean ====
module

public import proofs.«01_k».proof.Proof.MlpKernel

@[expose] public section

set_option maxRecDepth 16384

noncomputable section

namespace Cert.MlpKernel

open Cert.KernelMlpIdeal Cert.KernelMlpIdeal.Gen Idealize.ShloMosaic Idealize.ShloMosaic.TcCoe Idealize.SL.Sem
open Idealize.ShloMosaic.Pipeline (Dat)
open Cert.MlpSpec

variable (m : (ℓ : Loc nD τ sig) → Buf (Elt Ideal) ℓ) (c : Dev nD) (t : Fin cfg0.N) (r : Fin 256) (l : Fin 1024)

/-! ## The outputs after a point -/

theorem out_da : (outsAt0 m c t.val t.isLt).1 (ix2 r l) = da (ar m c) (bOf t) (sOf t r) l := by
  by_cases h1 : t.val % 8 = 0
  · by_cases h0 : t.val % 16 = 0
    · rw [outsAt0_A m c t h0 h1]
      frame_out
      exact da_pay m c t r l
    · rw [outsAt0_C m c t h0 h1]
      frame_out
      exact da_pay m c t r l
  · rw [outsAt0_B m c t (by omega) h1]
    frame_out
    exact da_pay m c t r l

theorem out_dym (k : Fin 1536) : (outsAt0 m c t.val t.isLt).2.1 (ix2 r k) = dym (ar m c) (bOf t) (sOf t r) k := by
  by_cases h1 : t.val % 8 = 0
  · by_cases h0 : t.val % 16 = 0
    · rw [outsAt0_A m c t h0 h1]
      frame_out
      exact dym_pay m c t r k
    · rw [outsAt0_C m c t h0 h1]
      frame_out
      exact dym_pay m c t r k
  · rw [outsAt0_B m c t (by omega) h1]
    frame_out
    exact dym_pay m c t r k

theorem out_dh : (outsAt0 m c t.val t.isLt).2.2.1 (ix2 r l) = dh1 (ar m c) (bOf t) (sOf t r) l := by
  by_cases h1 : t.val % 8 = 0
  · by_cases h0 : t.val % 16 = 0
    · rw [outsAt0_A m c t h0 h1]
      frame_out
      exact DH1_apply m c t r l
    · rw [outsAt0_C m c t h0 h1]
      frame_out
      exact DH1_apply m c t r l
  · rw [outsAt0_B m c t (by omega) h1]
    frame_out
    exact DH1_apply m c t r l

theorem out_u : (outsAt0 m c t.val t.isLt).2.2.2.1 (ix2 r l) = uu (ar m c) (bOf t) (sOf t r) l := by
  by_cases h1 : t.val % 8 = 0
  · by_cases h0 : t.val % 16 = 0
    · rw [outsAt0_A m c t h0 h1]
      frame_out
      exact UU_apply m c t r l
    · rw [outsAt0_C m c t h0 h1]
      frame_out
      exact UU_apply m c t r l
  · rw [outsAt0_B m c t (by omega) h1]
    frame_out
    exact UU_apply m c t r l

theorem out_f (k : Fin 4096) : (outsAt0 m c t.val t.isLt).2.2.2.2.1 (ix2 r k) = ff (ar m c) (bOf t) (sOf t r) k := by
  by_cases h1 : t.val % 8 = 0
  · by_cases h0 : t.val % 16 = 0
    · rw [outsAt0_A m c t h0 h1]
      frame_out
      exact congrFun (canon_pieces (Val := Elt Ideal) (e := .bf16) (FF m c t) (fun r f => ff (ar m c) (bOf t) (sOf t r) f) (FF_apply m c t)) (ix2 r k)
    · rw [outsAt0_C m c t h0 h1]
      frame_out
      exact congrFun (canon_pieces (Val := Elt Ideal) (e := .bf16) (FF m c t) (fun r f => ff (ar m c) (bOf t) (sOf t r) f) (FF_apply m c t)) (ix2 r k)
  · rw [outsAt0_B m c t (by omega) h1]
    frame_out
    exact congrFun (canon_pieces (Val := Elt Ideal) (e := .bf16) (FF m c t) (fun r f => ff (ar m c) (bOf t) (sOf t r) f) (FF_apply m c t)) (ix2 r k)

theorem out_dup (k : Fin 4096) : (outsAt0 m c t.val t.isLt).2.2.2.2.2.1 (ix2 r k) = dup (ar m c) (bOf t) (sOf t r) k := by
  by_cases h1 : t.val % 8 = 0
  · by_cases h0 : t.val % 16 = 0
    · rw [outsAt0_A m c t h0 h1]
      frame_out
      exact congrFun (canon_pieces (Val := Elt Ideal) (e := .bf16) (XX m c t) (fun r f => dup (ar m c) (bOf t) (sOf t r) f) (XX_apply m c t)) (ix2 r k)
    · rw [outsAt0_C m c t h0 h1]
      frame_out
      exact congrFun (canon_pieces (Val := Elt Ideal) (e := .bf16) (XX m c t) (fun r f => dup (ar m c) (bOf t) (sOf t r) f) (XX_apply m c t)) (ix2 r k)
  · rw [outsAt0_B m c t (by omega) h1]
    frame_out
    exact congrFun (canon_pieces (Val := Elt Ideal) (e := .bf16) (XX m c t) (fun r f => dup (ar m c) (bOf t) (sOf t r) f) (XX_apply m c t)) (ix2 r k)

theorem out_ddn : (outsAt0 m c t.val t.isLt).2.2.2.2.2.2.1 (ix2 r l) = ddn (ar m c) (bOf t) (sOf t r) l := by
  by_cases h1 : t.val % 8 = 0
  · by_cases h0 : t.val % 16 = 0
    · rw [outsAt0_A m c t h0 h1]
      frame_out
      exact DD_apply m c t r l
    · rw [outsAt0_C m c t h0 h1]
      frame_out
      exact DD_apply m c t r l
  · rw [outsAt0_B m c t (by omega) h1]
    frame_out
    exact DD_apply m c t r l

/-! ## The two sums over the points -/

theorem out_dm_first (h1 : t.val % 8 = 0) (q : Fin 8) : (outsAt0 m c t.val t.isLt).2.2.2.2.2.2.2.1 (ix3 0 q l) = dmT m c t q l := by
  have z : k0_pay3 (F := Ideal) (ix3 0 q l) = 0 := by pointwise [k0_pay3]
  by_cases h0 : t.val % 16 = 0
  · rw [outsAt0_A m c t h0 h1]
    frame_out
    exact (dm_pay m c t l _ q).trans (by rw [z, zero_add])
  · rw [outsAt0_C m c t h0 h1]
    frame_out
    exact (dm_pay m c t l _ q).trans (by rw [z, zero_add])

theorem out_dm_next (h1 : ¬t.val % 8 = 0) (q : Fin 8) : (outsAt0 m c t.val t.isLt).2.2.2.2.2.2.2.1 (ix3 0 q l)
    = (outsAt0 m c (t.val - 1) (Nat.lt_of_le_of_lt (Nat.sub_le _ _) t.isLt)).2.2.2.2.2.2.2.1 (ix3 0 q l) + dmT m c t q l := by
  rw [outsAt0_B m c t (by omega) h1]
  frame_out
  exact dm_pay m c t l _ q

theorem out_ac_first (h0 : t.val % 16 = 0) (q : Fin 8) : (outsAt0 m c t.val t.isLt).2.2.2.2.2.2.2.2 (ix2 q l) = acT m c t q l := by
  have z : k0_pay2 (F := Ideal) (ix2 q l) = 0 := by pointwise [k0_pay2]
  rw [outsAt0_A m c t h0 (by omega)]
  frame_out
  exact (ac_pay m c t l _ q).trans (by rw [z, zero_add])

theorem out_ac_next (h0 : ¬t.val % 16 = 0) (q : Fin 8) : (outsAt0 m c t.val t.isLt).2.2.2.2.2.2.2.2 (ix2 q l)
    = (outsAt0 m c (t.val - 1) (Nat.lt_of_le_of_lt (Nat.sub_le _ _) t.isLt)).2.2.2.2.2.2.2.2 (ix2 q l) + acT m c t q l := by
  by_cases h1 : t.val % 8 = 0
  · rw [outsAt0_C m c t h0 h1]
    frame_out
    exact ac_pay m c t l _ q
  · rw [outsAt0_B m c t h0 h1]
    frame_out
    exact ac_pay m c t l _ q

/-- A point's terms, over all the numbers. -/
def dmN (n : ℕ) (q : Fin 8) (l : Fin 1024) : EReal := if h : n < cfg0.N then dmT m c ⟨n, h⟩ q l else 0
def acN (n : ℕ) (q : Fin 8) (l : Fin 1024) : EReal := if h : n < cfg0.N then acT m c ⟨n, h⟩ q l else 0

theorem dmN_eq (n : ℕ) (hn : n < cfg0.N) (q : Fin 8) : dmT m c ⟨n, hn⟩ q l = dmN m c n q l := by
  unfold dmN
  rw [dif_pos hn]
theorem acN_eq (n : ℕ) (hn : n < cfg0.N) (q : Fin 8) : acT m c ⟨n, hn⟩ q l = acN m c n q l := by
  unfold acN
  rw [dif_pos hn]

theorem dm_after (q : Fin 8) : ∀ (n : ℕ) (hn : n < cfg0.N), (outsAt0 m c n hn).2.2.2.2.2.2.2.1 (ix3 0 q l) = ∑ k ∈ Finset.range (n % 8 + 1), dmN m c (8 * (n / 8) + k) q l := by
  have base : ∀ (n : ℕ) (hn : n < cfg0.N) (h : n % 8 = 0), (outsAt0 m c n hn).2.2.2.2.2.2.2.1 (ix3 0 q l) = ∑ k ∈ Finset.range (n % 8 + 1), dmN m c (8 * (n / 8) + k) q l := fun n hn h => by
    rw [h, Finset.sum_range_one, show 8 * (n / 8) + 0 = n by omega]
    exact (out_dm_first m c ⟨n, hn⟩ l h q).trans (dmN_eq m c l n hn q)
  intro n
  induction n with
  | zero => exact fun hn => base 0 hn rfl
  | succ n ih =>
    intro hn
    by_cases h : (n + 1) % 8 = 0
    · exact base _ hn h
    · rw [Finset.sum_range_succ, show (n + 1) % 8 = n % 8 + 1 by omega, show (n + 1) / 8 = n / 8 by omega, show 8 * (n / 8) + (n % 8 + 1) = n + 1 by omega, ← ih (by omega)]
      exact (out_dm_next m c ⟨n + 1, hn⟩ l h q).trans (congrArg (_ + ·) (dmN_eq m c l (n + 1) hn q))

theorem ac_after (q : Fin 8) : ∀ (n : ℕ) (hn : n < cfg0.N), (outsAt0 m c n hn).2.2.2.2.2.2.2.2 (ix2 q l) = ∑ k ∈ Finset.range (n + 1), acN m c k q l := by
  intro n
  induction n with
  | zero => exact fun hn => (out_ac_first m c ⟨0, hn⟩ l rfl q).trans ((acN_eq m c l 0 hn q).trans (Finset.sum_range_one fun k => acN m c k q l).symm)
  | succ n ih =>
    intro hn
    have hN := fin_N ⟨n + 1, hn⟩
    rw [Finset.sum_range_succ, ← ih (by omega)]
    exact (out_ac_next m c ⟨n + 1, hn⟩ l (by show ¬(n + 1) % 16 = 0; simp at hN; omega) q).trans (congrArg (_ + ·) (acN_eq m c l (n + 1) hn q))

/-- The eight points of a batch hold its sequence. -/
theorem batch (g : Fin 2 → Fin 2048 → EReal) (T : ℕ → EReal) (b : Fin 2)
    (hT : ∀ t : Fin cfg0.N, T t.val = ∑ r, g (bOf t) (sOf t r)) : ∑ k ∈ Finset.range 8, T (8 * b.val + k) = ∑ s, g b s := by
  rw [Finset.sum_range, blocks 8 256 2048 rfl (g b)]
  refine Finset.sum_congr rfl fun k _ => ?_
  have hk : 8 * b.val + k.val < cfg0.N := lt_of_lt_of_eq (by omega) N_0.symm
  refine (hT ⟨_, hk⟩).trans (Finset.sum_congr rfl fun r _ => ?_)
  exact congrArg₂ g (Fin.ext (by show (8 * b.val + k.val) / 8 = b.val; omega)) (Fin.ext (by show 256 * ((8 * b.val + k.val) % 8) + r.val = 256 * k.val + r.val; omega))

theorem dm_last (q : Fin 8) (h : t.val % 8 = 7) : (outsAt0 m c t.val t.isLt).2.2.2.2.2.2.2.1 (ix3 0 q l) = ∑ s, dmod (ar m c) (bOf t) s l q := by
  rw [dm_after, h]
  exact batch (fun b s => dmod (ar m c) b s l q) (fun n => dmN m c n q l) (bOf t) fun t => (dmN_eq m c l t.val t.isLt q).symm

theorem ac_last (q : Fin 8) (h : t.val = 15) : (outsAt0 m c t.val t.isLt).2.2.2.2.2.2.2.2 (ix2 q l) = ∑ b, ∑ s, acc (ar m c) b s l q := by
  have e := batch (fun b s => acc (ar m c) b s l q) (fun n => acN m c n q l)
  rw [ac_after, h, Finset.sum_range_add (fun n => acN m c n q l) 8 8, Fin.sum_univ_two, ← e 0 fun t => (acN_eq m c l t.val t.isLt q).symm, ← e 1 fun t => (acN_eq m c l t.val t.isLt q).symm]
  simp

/-! ## The results -/

theorem final9 : (dats m 0 c).arrAt 9 cfg0.N = rows (da (ar m c)) := by
  refine (dats m 0 c).arrAt_eq_of_covers 9 _ (by decide +kernel) fun t hf y => ?_
  blk_simp
  rw [after0_9]
  obtain ⟨r, l, rfl⟩ : ∃ (r : Fin 256) (l : Fin 1024), y = ix2 r l := ⟨y 0, y 1, eq_ix2 y⟩
  have e : (win0_9.blk t).view.emb (ix2 r l) = ix2 (rOf t r) l := by blk_ext [idx t, rOf]
  refine (out_da m c t r l).trans (Eq.trans ?_ (congrArg (rows (da (ar m c))) e).symm)
  exact congrArg₂ (fun b s => da (ar m c) b s l) (rOf_b t r _).symm (rOf_s t r _).symm

theorem final10 : (dats m 0 c).arrAt 10 cfg0.N = rows (dym (ar m c)) := by
  refine (dats m 0 c).arrAt_eq_of_covers 10 _ (by decide +kernel) fun t hf y => ?_
  blk_simp
  rw [after0_10]
  obtain ⟨r, l, rfl⟩ : ∃ (r : Fin 256) (l : Fin 1536), y = ix2 r l := ⟨y 0, y 1, eq_ix2 y⟩
  have e : (win0_10.blk t).view.emb (ix2 r l) = ix2 (rOf t r) l := by blk_ext [idx t, rOf]
  refine (out_dym m c t r l).trans (Eq.trans ?_ (congrArg (rows (dym (ar m c))) e).symm)
  exact congrArg₂ (fun b s => dym (ar m c) b s l) (rOf_b t r _).symm (rOf_s t r _).symm

theorem final11 : (dats m 0 c).arrAt 11 cfg0.N = rows (dh1 (ar m c)) := by
  refine (dats m 0 c).arrAt_eq_of_covers 11 _ (by decide +kernel) fun t hf y => ?_
  blk_simp
  rw [after0_11]
  obtain ⟨r, l, rfl⟩ : ∃ (r : Fin 256) (l : Fin 1024), y = ix2 r l := ⟨y 0, y 1, eq_ix2 y⟩
  have e : (win0_11.blk t).view.emb (ix2 r l) = ix2 (rOf t r) l := by blk_ext [idx t, rOf]
  refine (out_dh m c t r l).trans (Eq.trans ?_ (congrArg (rows (dh1 (ar m c))) e).symm)
  exact congrArg₂ (fun b s => dh1 (ar m c) b s l) (rOf_b t r _).symm (rOf_s t r _).symm

theorem final12 : (dats m 0 c).arrAt 12 cfg0.N = rows (uu (ar m c)) := by
  refine (dats m 0 c).arrAt_eq_of_covers 12 _ (by decide +kernel) fun t hf y => ?_
  blk_simp
  rw [after0_12]
  obtain ⟨r, l, rfl⟩ : ∃ (r : Fin 256) (l : Fin 1024), y = ix2 r l := ⟨y 0, y 1, eq_ix2 y⟩
  have e : (win0_12.blk t).view.emb (ix2 r l) = ix2 (rOf t r) l := by blk_ext [idx t, rOf]
  refine (out_u m c t r l).trans (Eq.trans ?_ (congrArg (rows (uu (ar m c))) e).symm)
  exact congrArg₂ (fun b s => uu (ar m c) b s l) (rOf_b t r _).symm (rOf_s t r _).symm

theorem final13 : (dats m 0 c).arrAt 13 cfg0.N = rows (ff (ar m c)) := by
  refine (dats m 0 c).arrAt_eq_of_covers 13 _ (by decide +kernel) fun t hf y => ?_
  blk_simp
  rw [after0_13]
  obtain ⟨r, l, rfl⟩ : ∃ (r : Fin 256) (l : Fin 4096), y = ix2 r l := ⟨y 0, y 1, eq_ix2 y⟩
  have e : (win0_13.blk t).view.emb (ix2 r l) = ix2 (rOf t r) l := by blk_ext [idx t, rOf]
  refine (out_f m c t r l).trans (Eq.trans ?_ (congrArg (rows (ff (ar m c))) e).symm)
  exact congrArg₂ (fun b s => ff (ar m c) b s l) (rOf_b t r _).symm (rOf_s t r _).symm

theorem final14 : (dats m 0 c).arrAt 14 cfg0.N = rows (dup (ar m c)) := by
  refine (dats m 0 c).arrAt_eq_of_covers 14 _ (by decide +kernel) fun t hf y => ?_
  blk_simp
  rw [after0_14]
  obtain ⟨r, l, rfl⟩ : ∃ (r : Fin 256) (l : Fin 4096), y = ix2 r l := ⟨y 0, y 1, eq_ix2 y⟩
  have e : (win0_14.blk t).view.emb (ix2 r l) = ix2 (rOf t r) l := by blk_ext [idx t, rOf]
  refine (out_dup m c t r l).trans (Eq.trans ?_ (congrArg (rows (dup (ar m c))) e).symm)
  exact congrArg₂ (fun b s => dup (ar m c) b s l) (rOf_b t r _).symm (rOf_s t r _).symm

theorem final15 : (dats m 0 c).arrAt 15 cfg0.N = rows (ddn (ar m c)) := by
  refine (dats m 0 c).arrAt_eq_of_covers 15 _ (by decide +kernel) fun t hf y => ?_
  blk_simp
  rw [after0_15]
  obtain ⟨r, l, rfl⟩ : ∃ (r : Fin 256) (l : Fin 1024), y = ix2 r l := ⟨y 0, y 1, eq_ix2 y⟩
  have e : (win0_15.blk t).view.emb (ix2 r l) = ix2 (rOf t r) l := by blk_ext [idx t, rOf]
  refine (out_ddn m c t r l).trans (Eq.trans ?_ (congrArg (rows (ddn (ar m c))) e).symm)
  exact congrArg₂ (fun b s => ddn (ar m c) b s l) (rOf_b t r _).symm (rOf_s t r _).symm

theorem final16 : (dats m 0 c).arrAt 16 cfg0.N = G7 (ar m c) := by
  refine (dats m 0 c).arrAt_eq_of_covers 16 _ (by decide +kernel) fun t hf y => ?_
  blk_simp
  rw [after0_16]
  obtain ⟨z, q, l, rfl⟩ : ∃ (z : Fin 1) (q : Fin 8) (l : Fin 1024), y = ix3 z q l := ⟨y 0, y 1, y 2, eq_ix3 y⟩
  obtain rfl : z = 0 := Subsingleton.elim _ _
  have e : (win0_16.blk t).view.emb (ix3 0 q l) = ix3 (bOf t) q l := by blk_ext [idx t, bOf]
  exact (dm_last m c t l q ((flush0_16 t).mp hf)).trans (congrArg (G7 (ar m c)) e).symm

theorem final17 : (dats m 0 c).arrAt 17 cfg0.N = G8 (ar m c) := by
  refine (dats m 0 c).arrAt_eq_of_after_last 17 t0_15 (by decide +kernel) _ fun j => ?_
  blk_simp
  rw [after0_17]
  obtain ⟨q, l, rfl⟩ : ∃ (q : Fin 8) (l : Fin 1024), j = ix2 q l := ⟨j 0, j 1, eq_ix2 j⟩
  exact ac_last m c t0_15 l q rfl

end Cert.MlpKernel

end
-- ==== Proof.MlpRef.lean ====
module

public import proofs.«01_k».proof.Proof.Gen.ReferenceMlpIdeal.Run
public import proofs.«01_k».proof.Proof.MlpSpec
public import proofs.«01_k».proof.Proof.Sums
public import Idealize.ShloMosaic.Lib.Pointwise
public import Idealize.ShloMosaic.Lib.KernelVsHost

@[expose] public section

set_option maxRecDepth 16384

noncomputable section

/-! The reference's nine results at an index: the values of `MlpSpec`. -/

namespace Cert.MlpRef

open Cert.ReferenceMlpIdeal Cert.ReferenceMlpIdeal.Gen Cert.ReferenceMlpIdeal.Value Idealize.ShloMosaic Idealize.ShloMosaic.TcCoe Idealize.SL.Sem Cert.MlpSpec

variable (V : Valuation τ sig (Elt Ideal))

/-- The argument arrays of a launch. -/
abbrev ar : Args :=
  ⟨V (Proc.devRef .tc main_arg0), V (Proc.devRef .tc main_arg1), V (Proc.devRef .tc main_arg2), V (Proc.devRef .tc main_arg3), V (Proc.devRef .tc main_arg4),
    V (Proc.devRef .tc main_arg5), V (Proc.devRef .tc main_arg6), V (Proc.devRef .tc main_arg7), V (Proc.devRef .tc main_arg8)⟩

/-- The named arrays at the ideal values. -/
abbrev W5 : FVec Ideal S2x1x1024 .f32 := res_main_v5 V
abbrev W8 : FVec Ideal S2x1x1024 .f32 := res_main_v8 V
abbrev W11 : FVec Ideal S2x2048x1024 .f32 := res_main_v11 V
abbrev W14 : FVec Ideal S2x2048x1024 .f32 := res_main_v14 V
abbrev W22 : FVec Ideal S2x2048x1 .f32 := res_main_v22 V
abbrev W23 : FVec Ideal S2x2048x1 .f32 := res_main_v23 V
abbrev W28 : FVec Ideal S2x2048x1024 .f32 := res_main_v28 V
abbrev W31 : FVec Ideal S2x2048x1024 .f32 := res_main_v31 V
abbrev W33 : FVec Ideal S2x1x1024 .f32 := res_main_v33 V
abbrev W37 : FVec Ideal S2x2048x1024 .f32 := res_main_v37 V
abbrev W40 : FVec Ideal S2x2048x4096 .f32 := res_main_v40 V
abbrev W41 : FVec Ideal S2x2048x4096 .f32 := res_main_v41 V
abbrev W45 : FVec Ideal S2x2048x4096 .f32 := res_main_v45 V
abbrev W50 : FVec Ideal S2x2048x1024 .f32 := res_main_v50 V
abbrev W53 : FVec Ideal S2x2048x1024 .f32 := res_main_v53 V
abbrev W60 : FVec Ideal S2x2048x1 .f32 := res_main_v60 V
abbrev W61 : FVec Ideal S2x2048x1 .f32 := res_main_v61 V
abbrev W66 : FVec Ideal S2x2048x1024 .f32 := res_main_v66 V
abbrev W70 : FVec Ideal S2x2048x1024 .f32 := res_main_v70 V
abbrev W84 : FVec Ideal S2x2048x1024 .f32 := res_main_v84 V
abbrev W89 : FVec Ideal S2x2048x1024 .f32 := res_main_v89 V
abbrev W100 : FVec Ideal S2x2048x1024 .f32 := res_main_v100 V
abbrev W104 : FVec Ideal S2x2048x1024 .f32 := res_main_v104 V
abbrev W106 : FVec Ideal S2x2048x1024 .f32 := res_main_v106 V
abbrev W113 : FVec Ideal S2x2048x4096 .f32 := res_main_v113 V
abbrev W114 : FVec Ideal S2x2048x1024 .f32 := res_main_v114 V
abbrev W121 : FVec Ideal S2x2048x1024 .f32 := res_main_v121 V
abbrev W126 : FVec Ideal S2x2048x1024 .f32 := res_main_v126 V
abbrev W138 : FVec Ideal S2x2048x1024 .f32 := res_main_v138 V
abbrev W142 : FVec Ideal S2x2048x1024 .f32 := res_main_v142 V
abbrev W145 : FVec Ideal S2x2048x1024 .f32 := res_main_v145 V

variable (b : Fin 2) (s : Fin 2048) (l : Fin 1024) (f : Fin 4096)

/-! ## The forward pass -/

theorem v5 : W5 V (ix3 b 0 l) = gm (ar V) b l := by
  pointwise [W5, res_main_v5, res_main_v2]
  rfl
theorem v8 : W8 V (ix3 b 0 l) = gf (ar V) b l := by
  pointwise [W8, res_main_v8, res_main_v2]
  rfl
theorem v33 : W33 V (ix3 b 0 l) = sc (ar V) b l := by
  pointwise [W33, res_main_v33, res_main_v2]
  rfl
theorem v11 : W11 V (ix3 b s l) = aa (ar V) b s l := by
  pointwise [W11, res_main_v11, res_main_v0, res_main_v9]
  rfl
theorem v14 : W14 V (ix3 b s l) = h1 (ar V) b s l := by
  have e : W14 V (ix3 b s l) = (ar V).a0 (ix3 b s l) + W5 V (ix3 b 0 l) * W11 V (ix3 b s l) := by (pointwise [W14, res_main_v14]) <;> rfl
  rw [e, v5, v11]
  rfl
theorem v22 : W22 V (ix3 b s 0) = RowNorm.var (h1 (ar V) b s) := by
  have e : W22 V (ix3 b s 0) = RowNorm.var fun k => W14 V (ix3 b s k) := by
    pointwise [W22, res_main_v22]
    rfl
  simp only [e, v14]
theorem v23 : W23 V (ix3 b s 0) = Ideal.rsqrt (RowNorm.var (h1 (ar V) b s)) := by
  have e : W23 V (ix3 b s 0) = Ideal.rsqrt (W22 V (ix3 b s 0)) := by (pointwise [W23, res_main_v23]) <;> rfl
  rw [e, v22]
theorem v28 : W28 V (ix3 b s l) = n2 (ar V) b s l := by
  have e : W28 V (ix3 b s l) = W14 V (ix3 b s l) * W23 V (ix3 b s 0) := by (pointwise [W28, res_main_v28]) <;> rfl
  rw [e, v14, v23]
  rfl
theorem v31 : W31 V (ix3 b s l) = n2 (ar V) b s l * (ar V).a3 (ix2 0 l) := by
  have e : W31 V (ix3 b s l) = W28 V (ix3 b s l) * (ar V).a3 (ix2 0 l) := by (pointwise [W31, res_main_v31, res_main_v29]) <;> rfl
  rw [e, v28]
theorem v37 : W37 V (ix3 b s l) = uu (ar V) b s l := by
  have e : W37 V (ix3 b s l) = W31 V (ix3 b s l) * W33 V (ix3 b 0 l) + sh (ar V) b l := by
    pointwise [W37, res_main_v37, res_main_v2]
    rfl
  rw [e, v31, v33]
  rfl
theorem v40 : W40 V (ix3 b s f) = ∑ l, uu (ar V) b s l * (ar V).a6 (ix3 0 l f) := by
  have e : W40 V (ix3 b s f) = ∑ l, W37 V (ix3 b s l) * (ar V).a6 (ix3 0 l f) := by (pointwise [W40, res_main_v40, res_main_v38]) <;> rfl
  simp only [e, v37]
theorem v41 : W41 V (ix3 b s f) = up (ar V) b s f := by
  have e : W41 V (ix3 b s f) = max (W40 V (ix3 b s f)) 0 := by (pointwise [W41, res_main_v41]) <;> rfl
  rw [e, v40]
  rfl
theorem v45 : W45 V (ix3 b s f) = ff (ar V) b s f := by
  have e : W45 V (ix3 b s f) = W41 V (ix3 b s f) * W41 V (ix3 b s f) := by (pointwise [W45, res_main_v45]) <;> rfl
  rw [e, v41]
  rfl
theorem v50 : W50 V (ix3 b s l) = dn (ar V) b s l := by
  have e : W50 V (ix3 b s l) = ∑ f, W45 V (ix3 b s f) * (ar V).a7 (ix3 0 f l) := by (pointwise [W50, res_main_v50, res_main_v0, res_main_v48]) <;> rfl
  simp only [e, v45]
  rfl
theorem v53 : W53 V (ix3 b s l) = h2 (ar V) b s l := by
  have e : W53 V (ix3 b s l) = W14 V (ix3 b s l) + W8 V (ix3 b 0 l) * W50 V (ix3 b s l) := by (pointwise [W53, res_main_v53]) <;> rfl
  rw [e, v14, v8, v50]
  rfl
theorem v60 : W60 V (ix3 b s 0) = RowNorm.var (h2 (ar V) b s) := by
  have e : W60 V (ix3 b s 0) = RowNorm.var fun k => W53 V (ix3 b s k) := by
    pointwise [W60, res_main_v60]
    rfl
  simp only [e, v53]
theorem v61 : W61 V (ix3 b s 0) = Ideal.rsqrt (RowNorm.var (h2 (ar V) b s)) := by
  have e : W61 V (ix3 b s 0) = Ideal.rsqrt (W60 V (ix3 b s 0)) := by (pointwise [W61, res_main_v61]) <;> rfl
  rw [e, v60]
theorem v66 : W66 V (ix3 b s l) = n3 (ar V) b s l := by
  have e : W66 V (ix3 b s l) = W53 V (ix3 b s l) * W61 V (ix3 b s 0) := by (pointwise [W66, res_main_v66]) <;> rfl
  rw [e, v53, v61]
  rfl
theorem v70 : W70 V (ix3 b s l) = err (ar V) b s l := by
  have e : W70 V (ix3 b s l) = W66 V (ix3 b s l) * (ar V).a4 (ix1 l) - (ar V).a8 (ix3 b s l) := by (pointwise [W70, res_main_v70, res_main_v67]) <;> rfl
  rw [e, v66]
  rfl

/-! ## The backward pass -/

theorem half : Ideal.ofBits .f32 0x3F000000#32 = ((1 / 2 : ℝ) : EReal) := by
  simp [Ideal.ofBits, Ideal.ieee]; rw [← EReal.coe_mul]; norm_num
theorem two : Ideal.ofBits .f32 0x40000000#32 = ((2 : ℝ) : EReal) := by
  simp [Ideal.ofBits, Ideal.ieee]; rw [← EReal.coe_mul]; norm_num
theorem one1024 : Ideal.ofBits .f32 0x3A800000#32 = ((1 / 1024 : ℝ) : EReal) := by
  simp [Ideal.ofBits, Ideal.ieee]; rw [← EReal.coe_mul]; norm_num

/-- The gradient of half the mean square: the two divided by the rows' length and the half. -/
theorem scale (x : EReal) : Ideal.div (Ideal.ofBits .f32 0x3F000000#32) (Ideal.ofBits .f32 0x44800000#32) * (Ideal.ofBits .f32 0x40000000#32 * x)
    = x * Ideal.ofBits .f32 0x3A800000#32 := by
  rw [half, two, one1024, RowNorm.ofBits_1024, ← mul_assoc, mul_comm x]
  refine congrArg (· * x) ?_
  rw [Ideal.div_coe (by norm_num), ← EReal.coe_mul, ← EReal.coe_mul]
  norm_num

theorem v84 : W84 V (ix3 b s l) = dout (ar V) b s l := by
  have e : W84 V (ix3 b s l) = Ideal.div (Ideal.ofBits .f32 0x3F000000#32) (Ideal.ofBits .f32 0x44800000#32) * (Ideal.ofBits .f32 0x40000000#32 * W70 V (ix3 b s l)) := by (pointwise [W84, res_main_v84]) <;> rfl
  rw [e, v70, scale]
  rfl
theorem v89 : W89 V (ix3 b s l) = dout (ar V) b s l * (ar V).a4 (ix1 l) := by
  have e : W89 V (ix3 b s l) = W84 V (ix3 b s l) * (ar V).a4 (ix1 l) := by (pointwise [W89, res_main_v89, res_main_v67]) <;> rfl
  rw [e, v84]
theorem v100 : W100 V (ix3 b s l) = RowNorm.slope (h2 (ar V) b s) (fun l => dout (ar V) b s l * (ar V).a4 (ix1 l)) := by
  have e : W100 V (ix3 b s l) = Ideal.div ((∑ k, W53 V (ix3 b s k) * W89 V (ix3 b s k)) * (Ideal.ofBits .f32 0xBF000000#32
      * Ideal.div (W61 V (ix3 b s 0)) (W60 V (ix3 b s 0)))) (Ideal.ofBits .f32 0x44800000#32) := by
    pointwise [W100, res_main_v100]
    exact Fin.sum_univ_one _
  simp only [e, v53, v89, v61, v60]
  rfl
theorem v104 : W104 V (ix3 b s l) = dh2 (ar V) b s l := by
  have e : W104 V (ix3 b s l) = W89 V (ix3 b s l) * W61 V (ix3 b s 0) + W53 V (ix3 b s l) * W100 V (ix3 b s l) + W100 V (ix3 b s l) * W53 V (ix3 b s l) := by
    pointwise [W104, res_main_v104]
  rw [e, v89, v61, v53, v100, add_assoc]
  rfl
theorem v106 : W106 V (ix3 b s l) = ddn (ar V) b s l := by
  have e : W106 V (ix3 b s l) = W8 V (ix3 b 0 l) * W104 V (ix3 b s l) := by (pointwise [W106, res_main_v106]) <;> rfl
  rw [e, v8, v104]
  rfl
theorem v113 : W113 V (ix3 b s f) = dup (ar V) b s f := by
  have e : W113 V (ix3 b s f) = if 0 < W40 V (ix3 b s f) then (∑ l, W106 V (ix3 b s l) * (ar V).a7 (ix3 0 f l)) * (Ideal.ofBits .f32 0x40000000#32 * W41 V (ix3 b s f)) else 0 := by
    pointwise [W113, res_main_v113, res_main_v48]
  simp only [e, v106, v41]
  unfold dup
  split_ifs with h
  · rfl
  · rw [show up (ar V) b s f = 0 from (max_eq_right (le_of_not_gt (v40 V b s f ▸ h)) : max _ _ = _), mul_zero, mul_zero]
theorem v114 : W114 V (ix3 b s l) = du (ar V) b s l := by
  have e : W114 V (ix3 b s l) = ∑ f, W113 V (ix3 b s f) * (ar V).a6 (ix3 0 l f) := by (pointwise [W114, res_main_v114, res_main_v38]) <;> rfl
  simp only [e, v113]
  rfl
theorem v121 : W121 V (ix3 b s l) = du (ar V) b s l * sc (ar V) b l := by
  have e : W121 V (ix3 b s l) = W114 V (ix3 b s l) * W33 V (ix3 b 0 l) := by (pointwise [W121, res_main_v121]) <;> rfl
  rw [e, v114, v33]
theorem v126 : W126 V (ix3 b s l) = du (ar V) b s l * ((ar V).a3 (ix2 0 l) * sc (ar V) b l) := by
  have e : W126 V (ix3 b s l) = W121 V (ix3 b s l) * (ar V).a3 (ix2 0 l) := by (pointwise [W126, res_main_v126, res_main_v29]) <;> rfl
  rw [e, v121, mul_assoc, mul_comm (sc (ar V) b l)]
theorem v138 : W138 V (ix3 b s l) = RowNorm.slope (h1 (ar V) b s) (fun l => du (ar V) b s l * ((ar V).a3 (ix2 0 l) * sc (ar V) b l)) := by
  have e : W138 V (ix3 b s l) = Ideal.div ((∑ k, W14 V (ix3 b s k) * W126 V (ix3 b s k)) * (Ideal.ofBits .f32 0xBF000000#32
      * Ideal.div (W23 V (ix3 b s 0)) (W22 V (ix3 b s 0)))) (Ideal.ofBits .f32 0x44800000#32) := by
    pointwise [W138, res_main_v138]
    exact Fin.sum_univ_one _
  simp only [e, v14, v126, v23, v22]
  rfl
theorem v142 : W142 V (ix3 b s l) = dh1 (ar V) b s l := by
  have e : W142 V (ix3 b s l) = W104 V (ix3 b s l) + W126 V (ix3 b s l) * W23 V (ix3 b s 0) + W14 V (ix3 b s l) * W138 V (ix3 b s l) + W138 V (ix3 b s l) * W14 V (ix3 b s l) := by
    pointwise [W142, res_main_v142]
  rw [e, v104, v126, v23, v14, v138, add_assoc, add_assoc, ← add_assoc (du (ar V) b s l * _ * _)]
  simp only [add_assoc]
  rfl
theorem v145 : W145 V (ix3 b s l) = da (ar V) b s l := by
  have e : W145 V (ix3 b s l) = W5 V (ix3 b 0 l) * W142 V (ix3 b s l) := by (pointwise [W145, res_main_v145]) <;> rfl
  rw [e, v5, v142]
  rfl

/-! ## The results -/

theorem flat (x : FVec Ideal S2x2048x1024 .f32) (g : Fin 2 → Fin 2048 → Fin 1024 → EReal) (h : ∀ b s l, x (ix3 b s l) = g b s l) :
    (shapeCast S4096x1024 x shapeCasts_S2x2048x1024_S4096x1024 : FVec Ideal S4096x1024 .f32) = rows g := by
  funext i
  obtain ⟨R, l, rfl⟩ : ∃ (R : Fin 4096) (l : Fin 1024), i = ix2 R l := ⟨i 0, i 1, eq_ix2 i⟩
  pointwise
  exact h _ _ _
theorem flatF (x : FVec Ideal S2x2048x4096 .f32) (g : Fin 2 → Fin 2048 → Fin 4096 → EReal) (h : ∀ b s l, x (ix3 b s l) = g b s l) :
    (shapeCast S4096x4096 x shapeCasts_S2x2048x4096_S4096x4096 : FVec Ideal S4096x4096 .f32) = rows g := by
  funext i
  obtain ⟨R, l, rfl⟩ : ∃ (R : Fin 4096) (l : Fin 4096), i = ix2 R l := ⟨i 0, i 1, eq_ix2 i⟩
  pointwise
  exact h _ _ _
theorem flatK (x : FVec Ideal S2x2048x1536 .f32) (g : Fin 2 → Fin 2048 → Fin 1536 → EReal) (h : ∀ b s l, x (ix3 b s l) = g b s l) :
    (shapeCast S4096x1536 x shapeCasts_S2x2048x1536_S4096x1536 : FVec Ideal S4096x1536 .f32) = rows g := by
  funext i
  obtain ⟨R, l, rfl⟩ : ∃ (R : Fin 4096) (l : Fin 1536), i = ix2 R l := ⟨i 0, i 1, eq_ix2 i⟩
  pointwise
  exact h _ _ _

/-- The mixer rows' gradient. -/
def YM (x : FVec Ideal S2x2048x1024 .f32) (w : FVec Ideal S1536x1024 .f32) : FVec Ideal S2x2048x1536 .f32 :=
  Host.dotGeneral (φ₁ := .f32) (φ₂ := .f32) dot_S2x2048x1024_S1536x1024_S2x2048x1536_2_1_01_0_n_n none x w
theorem YM_apply (k : Fin 1536) : YM (res_main_v145 V) (res_main_v9 V) (ix3 b s k) = dym (ar V) b s k := by
  have e : YM (res_main_v145 V) (res_main_v9 V) (ix3 b s k) = ∑ l, W145 V (ix3 b s l) * (ar V).a5 (ix3 0 k l) := by (pointwise [YM, res_main_v9]) <;> rfl
  simp only [e, v145]
  rfl

/-- A row of the modulation's gradient; its six rows padded to eight. -/
def Z1 : FVec Ideal S2x1x1024 .f32 := broadcastInDim S2x1x1024 ![] bcast_S_S2x1x1024 (constant S_ .f32 0x00000000#32)
def M1 (x : FVec Ideal S2x2048x1024 .f32) : FVec Ideal S2x1x1024 .f32 := shapeCast _ (Host.reduceAdd x (constant S_ .f32 0x00000000#32) reducesTo_S2x2048x1024_S2x1024_d1 h_S_) shapeCasts_S2x1024_S2x1x1024
def X7 (u v w z : FVec Ideal S2x1x1024 .f32) : FVec Ideal S2x8x1024 .f32 :=
  pad S2x8x1024 ![0, 0, 0] ![0, 2, 0] ![0, 0, 0] (shapeCast _ (Host.reduceAdd (fn_main_v152 (F := Ideal) Z1 Z1 u v w z)
    (constant S_ .f32 0x00000000#32) reducesTo_S2x1x6144_S2x6144_d1 h_S_) shapeCasts_S2x6144_S2x6x1024) (sitofp .f32 (constantI S_ 32 0#32)) pads_S2x6x1024_S2x8x1024_000_020_000 h_S_

theorem M1_apply (x : FVec Ideal S2x2048x1024 .f32) : M1 x (ix3 b 0 l) = ∑ s, x (ix3 b s l) := by
  pointwise [M1]

theorem col (l : Fin 1024) (k : ℕ) (h : k < 1024) (e : k = l.val) : (⟨k, h⟩ : Fin 1024) = l := Fin.ext e

theorem X7_apply (u v w z : FVec Ideal S2x1x1024 .f32) (r : Fin 8) :
    X7 u v w z (ix3 b r l) = if r.val < 2 then 0 else if r.val - 2 < 1 then u (ix3 b 0 l) else if r.val - 2 - 1 < 1 then v (ix3 b 0 l)
      else if r.val - 2 - 1 - 1 < 1 then w (ix3 b 0 l) else if r.val - 2 - 1 - 1 - 1 < 1 then z (ix3 b 0 l) else 0 := by
  have k : ∀ (r : Fin 6), (fn_main_v152 (F := Ideal) Z1 Z1 u v w z) (ix3 b 0 ⟨r.val * 1024 + l.val, by omega⟩)
      = if r.val < 2 then 0 else if r.val - 2 < 1 then u (ix3 b 0 l) else if r.val - 2 - 1 < 1 then v (ix3 b 0 l)
      else if r.val - 2 - 1 - 1 < 1 then w (ix3 b 0 l) else z (ix3 b 0 l) := fun r => by
    pointwise [fn_main_v152, Z1]
    obtain h | h | h | h | h | h : r.val = 0 ∨ r.val = 1 ∨ r.val = 2 ∨ r.val = 3 ∨ r.val = 4 ∨ r.val = 5 := by omega
    · rw [dif_pos (by omega), if_pos (by omega)]
    · rw [dif_neg (by omega), dif_pos (by omega), if_pos (by omega)]
    · rw [dif_neg (by omega), dif_neg (by omega), dif_pos (by omega)]
      refine Eq.trans ?_ (Eq.symm ((if_neg (by omega)).trans (if_pos (by omega))))
      exact congrArg (fun k => u (ix3 b 0 k)) (col l _ _ (by omega))
    · rw [dif_neg (by omega), dif_neg (by omega), dif_neg (by omega), dif_pos (by omega)]
      refine Eq.trans ?_ (Eq.symm ((if_neg (by omega)).trans ((if_neg (by omega)).trans (if_pos (by omega)))))
      exact congrArg (fun k => v (ix3 b 0 k)) (col l _ _ (by omega))
    · rw [dif_neg (by omega), dif_neg (by omega), dif_neg (by omega), dif_neg (by omega), dif_pos (by omega)]
      refine Eq.trans ?_ (Eq.symm ((if_neg (by omega)).trans ((if_neg (by omega)).trans ((if_neg (by omega)).trans (if_pos (by omega))))))
      exact congrArg (fun k => w (ix3 b 0 k)) (col l _ _ (by omega))
    · rw [dif_neg (by omega), dif_neg (by omega), dif_neg (by omega), dif_neg (by omega), dif_neg (by omega)]
      refine Eq.trans ?_ (Eq.symm ((if_neg (by omega)).trans ((if_neg (by omega)).trans ((if_neg (by omega)).trans (if_neg (by omega))))))
      exact congrArg (fun k => z (ix3 b 0 k)) (col l _ _ (by omega))
  pointwise [X7]
  by_cases h6 : r.val < 6
  · rw [dif_pos h6]
    refine ((Fin.sum_univ_one _).trans (k ⟨r.val, h6⟩)).trans ?_
    rw [if_pos (show r.val - 2 - 1 - 1 - 1 < 1 by omega)]
  · rw [dif_neg h6]
    rw [if_neg (by omega), if_neg (by omega), if_neg (by omega), if_neg (by omega), if_neg (by omega)]
    simp [FloatOps.sitofp]

/-- A gain's gradient, summed over the rows; the loss; the rows packed. -/
def M2 (x : FVec Ideal S2x2048x1024 .f32) : FVec Ideal S1x1024 .f32 := broadcastInDim S1x1024 ![1] bcast_S1024_S1x1024_1 (Host.reduceAdd (shapeCast _ (Host.reduceAdd x (constant S_ .f32 0x00000000#32)
  reducesTo_S2x2048x1024_S1024_d0_1 h_S_) shapeCasts_S1024_S1x1x1024) (constant S_ .f32 0x00000000#32) reducesTo_S1x1x1024_S1024_d0_1 h_S_)
def M3 (x : FVec Ideal S2x2048x1024 .f32) : FVec Ideal S1x1024 .f32 := broadcastInDim S1x1024 ![] bcast_S_S1x1024 (mulf (constant S_ .f32 0x3F000000#32) (Host.reduceAdd (Host.divf (Host.reduceAdd (mulf x x)
  (constant S_ .f32 0x00000000#32) reducesTo_S2x2048x1024_S2x2048_d2 h_S_) (broadcastInDim S2x2048 ![] bcast_S_S2x2048 (constant S_ .f32 0x44800000#32))) (constant S_ .f32 0x00000000#32) reducesTo_S2x2048_S_d0_1 h_S_))
def Z5 : FVec Ideal S5x1024 .f32 := broadcastInDim S5x1024 ![] bcast_S_S5x1024 (constant S_ .f32 0x00000000#32)
def X8 (u v w : FVec Ideal S1x1024 .f32) : FVec Ideal S8x1024 .f32 := fn_main_v159 (F := Ideal) u v w Z5

theorem M2_apply (x : FVec Ideal S2x2048x1024 .f32) : M2 x (ix2 0 l) = ∑ b, ∑ s, x (ix3 b s l) := by
  pointwise [M2]
  simp only [Fin.sum_univ_one]
theorem M3_apply (x : FVec Ideal S2x2048x1024 .f32) : M3 x (ix2 0 l) = Ideal.ofBits .f32 0x3F000000#32 * ∑ b, ∑ s, Ideal.div (∑ l, x (ix3 b s l) * x (ix3 b s l)) (Ideal.ofBits .f32 0x44800000#32) := by
  pointwise [M3]
theorem X8_apply (u v w : FVec Ideal S1x1024 .f32) (r : Fin 8) : X8 u v w (ix2 r l) = if r.val < 1 then u (ix2 0 l) else if r.val - 1 < 1 then v (ix2 0 l)
    else if r.val - 1 - 1 < 1 then w (ix2 0 l) else 0 := by
  have one : ∀ (a : ℕ) (h : a < 1), (⟨a, h⟩ : Fin 1) = 0 := fun a h => Subsingleton.elim _ _
  pointwise [X8, fn_main_v159, Z5]
  simp only [one, dite_eq_ite]

theorem res7 : X7 (M1 (mulf (F := Ideal) (φ := .f32) (res_main_v142 V) (res_main_v11 V))) (M1 (res_main_v114 V)) (M1 (mulf (F := Ideal) (φ := .f32) (res_main_v31 V) (res_main_v114 V))) (M1 (mulf (F := Ideal) (φ := .f32) (res_main_v104 V) (res_main_v50 V))) = G7 (ar V) := by
  funext i
  obtain ⟨b, r, l, rfl⟩ : ∃ (b : Fin 2) (r : Fin 8) (l : Fin 1024), i = ix3 b r l := ⟨i 0, i 1, i 2, eq_ix3 i⟩
  have e1 : ∀ s, mulf (F := Ideal) (φ := .f32) (res_main_v142 V) (res_main_v11 V) (ix3 b s l) = dh1 (ar V) b s l * aa (ar V) b s l := fun s => congrArg₂ (fun x y : EReal => x * y) (v142 V b s l) (v11 V b s l)
  have e2 : ∀ s, mulf (F := Ideal) (φ := .f32) (res_main_v31 V) (res_main_v114 V) (ix3 b s l) = du (ar V) b s l * (n2 (ar V) b s l * (ar V).a3 (ix2 0 l)) :=
    fun s => (congrArg₂ (fun x y : EReal => x * y) (v31 V b s l) (v114 V b s l)).trans (mul_comm _ _)
  have e3 : ∀ s, mulf (F := Ideal) (φ := .f32) (res_main_v104 V) (res_main_v50 V) (ix3 b s l) = dh2 (ar V) b s l * dn (ar V) b s l := fun s => congrArg₂ (fun x y : EReal => x * y) (v104 V b s l) (v50 V b s l)
  rw [X7_apply, M1_apply, M1_apply, M1_apply, M1_apply]
  simp only [e1, e2, e3, v114]
  show _ = ∑ s, dmod (ar V) b s l r
  unfold dmod
  split_ifs <;> simp

theorem res8 : X8 (M2 (mulf (F := Ideal) (φ := .f32) (res_main_v28 V) (res_main_v121 V))) (M2 (mulf (F := Ideal) (φ := .f32) (res_main_v66 V) (res_main_v84 V))) (M3 (res_main_v70 V)) = G8 (ar V) := by
  funext i
  obtain ⟨r, l, rfl⟩ : ∃ (r : Fin 8) (l : Fin 1024), i = ix2 r l := ⟨i 0, i 1, eq_ix2 i⟩
  have e1 : ∀ b s, mulf (F := Ideal) (φ := .f32) (res_main_v28 V) (res_main_v121 V) (ix3 b s l) = du (ar V) b s l * sc (ar V) b l * n2 (ar V) b s l :=
    fun b s => (congrArg₂ (fun x y : EReal => x * y) (v28 V b s l) (v121 V b s l)).trans (mul_comm _ _)
  have e2 : ∀ b s, mulf (F := Ideal) (φ := .f32) (res_main_v66 V) (res_main_v84 V) (ix3 b s l) = dout (ar V) b s l * n3 (ar V) b s l :=
    fun b s => (congrArg₂ (fun x y : EReal => x * y) (v66 V b s l) (v84 V b s l)).trans (mul_comm _ _)
  rw [X8_apply, M2_apply, M2_apply, M3_apply]
  simp only [e1, e2, v70]
  show _ = ∑ b, ∑ s, acc (ar V) b s l r
  unfold acc
  split_ifs
  · rfl
  · rfl
  · rw [half, RowNorm.mul_sum _ _ _ (by norm_num)]
    refine Finset.sum_congr rfl fun b _ => ?_
    rw [RowNorm.mul_sum _ _ _ (by norm_num)]
    rfl
  · simp

end Cert.MlpRef

end
-- ==== Proof.MlpClaims.lean ====
module

public import proofs.«01_k».proof.Defs
public import proofs.«01_k».proof.Proof.MlpOut
public import proofs.«01_k».proof.Proof.MlpRef
public import proofs.«01_k».proof.Proof.Gen.KernelMlp.Frame
public import Idealize.ShloMosaic.Adequacy

@[expose] public section

set_option maxRecDepth 16384

noncomputable section

/-! The claims about the channel-mixing sub-layer, the loss and their gradients. -/

namespace Cert.MlpClaims

open Idealize.ShloMosaic Idealize.SL.Sem Cert.MlpSpec

theorem frame_k : Cert.quiescent_KernelMlp := fun m ρ _ => Cert.KernelMlp.Gen.frame m ρ

theorem frame_ki : Cert.quiescent_KernelMlpIdeal := fun m ρ _ => Cert.KernelMlpIdeal.Gen.frame m ρ

theorem frame_ri : Cert.quiescent_ReferenceMlpIdeal := fun m ρ _ =>
  (θ_run Cert.ReferenceMlpIdeal.defs _ _).mono (fun r h => ⟨fun c => (h c).2.2.2.2.2.2.2.2.2, Idealize.ShloMosaic.sem_eq_zero_of_no_sems (by decide) r.2⟩)
    (Cert.ReferenceMlpIdeal.Value.run (F := Ideal) m ρ)

theorem preserves : Cert.preserves_KernelMlp_KernelMlpIdeal := trivial

theorem algebraic : Cert.algebraic_KernelMlpIdeal_ReferenceMlpIdeal := by
  intro m ρ m' ρ' _ hagree
  have e (c : Dev Cert.KernelMlpIdeal.nD) : MlpRef.ar (StableHlo.launchContents m' c) = MlpKernel.ar m c := by
    obtain ⟨h0, h1, h2, h3, h4, h5, h6, h7, h8⟩ := hagree c
    exact congr (congr (congr (congr (congr (congr (congr (congr (congrArg Args.mk h0) h1) h2) h3) h4) h5) h6) h7) h8
  refine ⟨fun c => rows (da (MlpKernel.ar m c)), fun c => rows (dym (MlpKernel.ar m c)), fun c => rows (dh1 (MlpKernel.ar m c)), fun c => rows (uu (MlpKernel.ar m c)), fun c => rows (ff (MlpKernel.ar m c)), fun c => rows (dup (MlpKernel.ar m c)), fun c => rows (ddn (MlpKernel.ar m c)), fun c => G7 (MlpKernel.ar m c), fun c => G8 (MlpKernel.ar m c), ?_, ?_⟩
  · exact (θ_run Cert.KernelMlpIdeal.defs _ _).mono (fun r h c => ⟨(h c).1.trans (MlpKernel.final9 m c), (h c).2.1.trans (MlpKernel.final10 m c), (h c).2.2.1.trans (MlpKernel.final11 m c), (h c).2.2.2.1.trans (MlpKernel.final12 m c), (h c).2.2.2.2.1.trans (MlpKernel.final13 m c), (h c).2.2.2.2.2.1.trans (MlpKernel.final14 m c), (h c).2.2.2.2.2.2.1.trans (MlpKernel.final15 m c), (h c).2.2.2.2.2.2.2.1.trans (MlpKernel.final16 m c), (h c).2.2.2.2.2.2.2.2.1.trans (MlpKernel.final17 m c), (h c).2.2.2.2.2.2.2.2.2⟩)
      (Cert.KernelMlpIdeal.Value.run_blocks (F := Ideal) m ρ)
  · exact (θ_run Cert.ReferenceMlpIdeal.defs _ _).mono (fun r h c => ⟨((h c).1.trans (MlpRef.flat _ _ (MlpRef.v145 (StableHlo.launchContents m' c)))).trans (congrArg (fun A => rows (da A)) (e c)),
      ((h c).2.1.trans (MlpRef.flatK _ _ (MlpRef.YM_apply (StableHlo.launchContents m' c)))).trans (congrArg (fun A => rows (dym A)) (e c)),
      ((h c).2.2.1.trans (MlpRef.flat _ _ (MlpRef.v142 (StableHlo.launchContents m' c)))).trans (congrArg (fun A => rows (dh1 A)) (e c)),
      ((h c).2.2.2.1.trans (MlpRef.flat _ _ (MlpRef.v37 (StableHlo.launchContents m' c)))).trans (congrArg (fun A => rows (uu A)) (e c)),
      ((h c).2.2.2.2.1.trans (MlpRef.flatF _ _ (MlpRef.v45 (StableHlo.launchContents m' c)))).trans (congrArg (fun A => rows (ff A)) (e c)),
      ((h c).2.2.2.2.2.1.trans (MlpRef.flatF _ _ (MlpRef.v113 (StableHlo.launchContents m' c)))).trans (congrArg (fun A => rows (dup A)) (e c)),
      ((h c).2.2.2.2.2.2.1.trans (MlpRef.flat _ _ (MlpRef.v106 (StableHlo.launchContents m' c)))).trans (congrArg (fun A => rows (ddn A)) (e c)),
      ((h c).2.2.2.2.2.2.2.1.trans (MlpRef.res7 (StableHlo.launchContents m' c))).trans (congrArg (fun A => G7 A) (e c)),
      ((h c).2.2.2.2.2.2.2.2.1.trans (MlpRef.res8 (StableHlo.launchContents m' c))).trans (congrArg (fun A => G8 A) (e c)), (h c).2.2.2.2.2.2.2.2.2⟩)
      (Cert.ReferenceMlpIdeal.Value.run (F := Ideal) m' ρ')

end Cert.MlpClaims

end
-- ==== Proof.AdaSpec.lean ====
module

public import Idealize.ShloMosaic.Lib.Pointwise

@[expose] public section

noncomputable section

/-! The gradient of the modulation's weight and its AdamW step, as functions of the argument arrays on the extended reals. -/

namespace Cert.AdaSpec

open Idealize.ShloMosaic

/-- The argument arrays: the conditioning vectors, the modulation's gradient, the weight and its two moments. -/
structure Args where
  a0 : (⟨2, ![16, 1024]⟩ : Shape).Idx → EReal
  a1 : (⟨2, ![16, 768]⟩ : Shape).Idx → EReal
  a2 : (⟨3, ![1, 1024, 768]⟩ : Shape).Idx → EReal
  a3 : (⟨3, ![1, 1024, 768]⟩ : Shape).Idx → EReal
  a4 : (⟨3, ![1, 1024, 768]⟩ : Shape).Idx → EReal

/-- The gate `v σ(v)`. -/
def act (v : EReal) : EReal := v * Ideal.div 1 (1 + Ideal.exp (-v))

/-- The first moment, the second, and the step, of one entry. -/
def m1 (g m : EReal) : EReal := Ideal.ofBits .f32 0x3F666666#32 * m + Ideal.ofBits .f32 0x3DCCCCCD#32 * g
def m2 (g v : EReal) : EReal := Ideal.ofBits .f32 0x3F7FBE77#32 * v + Ideal.ofBits .f32 0x3A83126F#32 * (g * g)
def step (w g m v : EReal) : EReal :=
  Ideal.ofBits .f32 0xBA83126F#32 * (Ideal.div (Ideal.div (m1 g m) (Ideal.ofBits .f32 0x3F26BD02#32))
    (Ideal.sqrt (Ideal.div (m2 g v) (Ideal.ofBits .f32 0x3C231ACC#32)) + Ideal.ofBits .f32 0x322BCC77#32)
    + Ideal.ofBits .f32 0x3C23D70A#32 * w)

variable (A : Args)

/-- The weight's gradient. -/
def gr (r : Fin 1024) (l : Fin 768) : EReal := ∑ b, act (A.a0 (ix2 b r)) * A.a1 (ix2 b l)

/-- The four results. -/
def G0 : (⟨2, ![1024, 768]⟩ : Shape).Idx → EReal := fun i => gr A (i 0) (i 1)
def G1 : (⟨2, ![1024, 768]⟩ : Shape).Idx → EReal := fun i =>
  step (A.a2 (ix3 0 (i 0) (i 1))) (gr A (i 0) (i 1)) (A.a3 (ix3 0 (i 0) (i 1))) (A.a4 (ix3 0 (i 0) (i 1)))
def G2 : (⟨2, ![1024, 768]⟩ : Shape).Idx → EReal := fun i => m1 (gr A (i 0) (i 1)) (A.a3 (ix3 0 (i 0) (i 1)))
def G3 : (⟨2, ![1024, 768]⟩ : Shape).Idx → EReal := fun i => m2 (gr A (i 0) (i 1)) (A.a4 (ix3 0 (i 0) (i 1)))

end Cert.AdaSpec

end
-- ==== Proof.AdaKernel.lean ====
module

public import proofs.«01_k».proof.Proof.Gen.KernelAdaIdeal.Value
public import proofs.«01_k».proof.Proof.AdaSpec
public import Idealize.ShloMosaic.Lib.Pointwise
public import Idealize.ShloMosaic.Lib.Pipeline.ValueKit
public import Idealize.ShloMosaic.Lib.StableHlo.ReadAt
public import Idealize.ShloMosaic.Lib.KernelVsHost

@[expose] public section

set_option maxRecDepth 16384

noncomputable section

/-! The kernel's four results are the arrays of `AdaSpec`. -/

namespace Cert.AdaKernel

open Cert.KernelAdaIdeal Cert.KernelAdaIdeal.Gen Idealize.ShloMosaic Idealize.ShloMosaic.TcCoe Idealize.SL.Sem
open Idealize.ShloMosaic.Pipeline (Dat)
open Cert.AdaSpec

section Body

variable (c : Vec Ideal S16x256 .f32) (d : Vec Ideal S16x768 .f32) (w m v : Vec Ideal S256x768 .f32) (r : Fin 256) (l : Fin 768)

/-- The gradient at an index of a point's rows. -/
def gb : EReal := ∑ b, act (c (ix2 b r)) * d (ix2 b l)

theorem grad_apply : k0_pay2 (F := Ideal) c d (ix2 r l) = gb c d r l := by
  pointwise [k0_pay2]
  simp only [zero_sub]
  rfl

theorem m1_apply : k0_pay4 (F := Ideal) c d m (ix2 r l) = m1 (gb c d r l) (m (ix2 r l)) := by
  pointwise [k0_pay4]
  rw [grad_apply]
  rfl

theorem m2_apply : k0_pay5 (F := Ideal) c d v (ix2 r l) = m2 (gb c d r l) (v (ix2 r l)) := by
  pointwise [k0_pay5]
  rw [grad_apply]
  rfl

theorem m1hat_apply : k0_pay6 (F := Ideal) c d m (ix2 r l) = Ideal.div (m1 (gb c d r l) (m (ix2 r l))) (Ideal.ofBits .f32 0x3F26BD02#32) := by
  pointwise [k0_pay6]
  rw [m1_apply]

theorem root_apply : k0_pay7 (F := Ideal) c d v (ix2 r l)
    = Ideal.sqrt (Ideal.div (m2 (gb c d r l) (v (ix2 r l))) (Ideal.ofBits .f32 0x3C231ACC#32)) := by
  pointwise [k0_pay7]
  rw [m2_apply]

theorem w_apply : k0_pay3 (F := Ideal) w (ix2 r l) = w (ix2 r l) := by
  pointwise [k0_pay3]

theorem step_apply : k0_pay1 (F := Ideal) (k0_pay3 w) (k0_pay6 c d m) (k0_pay7 c d v) (ix2 r l)
    = step (w (ix2 r l)) (gb c d r l) (m (ix2 r l)) (v (ix2 r l)) := by
  pointwise [k0_pay1]
  rw [w_apply, m1hat_apply, root_apply]
  rfl

end Body

variable (M : (ℓ : Loc nD τ sig) → Buf (Elt Ideal) ℓ)

theorem idx : ∀ t : Fin cfg0.N, win0_0.index t = ![0, t.val] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, win0_0.index t = ![0, t.val] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0])

/-- The argument arrays of a launch. -/
abbrev ar (c : Dev nD) : Args :=
  ⟨M (c.tc.loc main_arg0), M (c.tc.loc main_arg1), M (c.tc.loc main_arg2), M (c.tc.loc main_arg3), M (c.tc.loc main_arg4)⟩

theorem V0 (c : Dev nD) (r : Fin 1024) (l : Fin 768) : (V M c main_v0 : S1024x768.Idx → EReal) (ix2 r l) = (ar M c).a2 (ix3 0 r l) := by
  unfold V
  after_reads_at

theorem V1 (c : Dev nD) (r : Fin 1024) (l : Fin 768) : (V M c main_v1 : S1024x768.Idx → EReal) (ix2 r l) = (ar M c).a3 (ix3 0 r l) := by
  unfold V
  after_reads_at

theorem V2 (c : Dev nD) (r : Fin 1024) (l : Fin 768) : (V M c main_v2 : S1024x768.Idx → EReal) (ix2 r l) = (ar M c).a4 (ix3 0 r l) := by
  unfold V
  after_reads_at

theorem fin_N (t : Fin cfg0.N) : t.val < 4 := lt_of_lt_of_eq t.isLt N_0

/-- The weight's row that row `r` of grid point `t` is. -/
def rOf (t : Fin cfg0.N) (r : Fin 256) : Fin 1024 := ⟨256 * t.val + r.val, by have := fin_N t; omega⟩

theorem blk0 (c : Dev nD) (t : Fin cfg0.N) (b : Fin 16) (r : Fin 256) : iblk M c 0 t (ix2 b r) = (ar M c).a0 (ix2 b (rOf t r)) := by
  have : iblk M c 0 t (ix2 b r) = V M c main_arg0 (ix2 b (rOf t r)) := by blk_ext [iblk, idx t, rOf]
  rw [this, V_main_arg0]

theorem blk1 (c : Dev nD) (t : Fin cfg0.N) (b : Fin 16) (l : Fin 768) : iblk M c 1 t (ix2 b l) = (ar M c).a1 (ix2 b l) := by
  have : iblk M c 1 t (ix2 b l) = V M c main_arg1 (ix2 b l) := by blk_ext [iblk, idx t]
  rw [this, V_main_arg1]

theorem blk2 (c : Dev nD) (t : Fin cfg0.N) (r : Fin 256) (l : Fin 768) : iblk M c 2 t (ix2 r l) = (ar M c).a2 (ix3 0 (rOf t r) l) := by
  have : iblk M c 2 t (ix2 r l) = V M c main_v0 (ix2 (rOf t r) l) := by blk_ext [iblk, idx t, rOf]
  rw [this, V0]

theorem blk3 (c : Dev nD) (t : Fin cfg0.N) (r : Fin 256) (l : Fin 768) : iblk M c 3 t (ix2 r l) = (ar M c).a3 (ix3 0 (rOf t r) l) := by
  have : iblk M c 3 t (ix2 r l) = V M c main_v1 (ix2 (rOf t r) l) := by blk_ext [iblk, idx t, rOf]
  rw [this, V1]

theorem blk4 (c : Dev nD) (t : Fin cfg0.N) (r : Fin 256) (l : Fin 768) : iblk M c 4 t (ix2 r l) = (ar M c).a4 (ix3 0 (rOf t r) l) := by
  have : iblk M c 4 t (ix2 r l) = V M c main_v2 (ix2 (rOf t r) l) := by blk_ext [iblk, idx t, rOf]
  rw [this, V2]

theorem gb_eq (c : Dev nD) (t : Fin cfg0.N) (r : Fin 256) (l : Fin 768) :
    gb (iblk M c 0 t) (iblk M c 1 t) r l = gr (ar M c) (rOf t r) l :=
  Finset.sum_congr rfl fun b _ => by rw [blk0, blk1]

theorem out5 (c : Dev nD) (t : Fin cfg0.N) (r : Fin 256) (l : Fin 768) :
    (dats M 0 c).after 5 t (ix2 r l) = gr (ar M c) (rOf t r) l := by
  rw [after0_5]
  unfold out0_5
  frame_out
  rw [grad_apply, gb_eq]

theorem out6 (c : Dev nD) (t : Fin cfg0.N) (r : Fin 256) (l : Fin 768) :
    (dats M 0 c).after 6 t (ix2 r l) = step ((ar M c).a2 (ix3 0 (rOf t r) l)) (gr (ar M c) (rOf t r) l)
      ((ar M c).a3 (ix3 0 (rOf t r) l)) ((ar M c).a4 (ix3 0 (rOf t r) l)) := by
  rw [after0_6]
  unfold out0_6
  frame_out
  rw [step_apply, gb_eq, blk2, blk3, blk4]

theorem out7 (c : Dev nD) (t : Fin cfg0.N) (r : Fin 256) (l : Fin 768) :
    (dats M 0 c).after 7 t (ix2 r l) = m1 (gr (ar M c) (rOf t r) l) ((ar M c).a3 (ix3 0 (rOf t r) l)) := by
  rw [after0_7]
  unfold out0_7
  frame_out
  rw [m1_apply, gb_eq, blk3]

theorem out8 (c : Dev nD) (t : Fin cfg0.N) (r : Fin 256) (l : Fin 768) :
    (dats M 0 c).after 8 t (ix2 r l) = m2 (gr (ar M c) (rOf t r) l) ((ar M c).a4 (ix3 0 (rOf t r) l)) := by
  rw [after0_8]
  unfold out0_8
  frame_out
  rw [m2_apply, gb_eq, blk4]

theorem final5 (c : Dev nD) : (dats M 0 c).arrAt 5 cfg0.N = G0 (ar M c) := by
  refine (dats M 0 c).arrAt_eq_of_covers 5 _ (by decide +kernel) fun t hf y => ?_
  obtain ⟨r, l, rfl⟩ : ∃ (r : Fin 256) (l : Fin 768), y = ix2 r l := ⟨y 0, y 1, eq_ix2 y⟩
  have e : (win0_5.blk t).view.emb (ix2 r l) = ix2 (rOf t r) l := by blk_ext [idx t, rOf]
  exact (out5 M c t r l).trans (congrArg (G0 (ar M c)) e).symm

theorem final6 (c : Dev nD) : (dats M 0 c).arrAt 6 cfg0.N = G1 (ar M c) := by
  refine (dats M 0 c).arrAt_eq_of_covers 6 _ (by decide +kernel) fun t hf y => ?_
  obtain ⟨r, l, rfl⟩ : ∃ (r : Fin 256) (l : Fin 768), y = ix2 r l := ⟨y 0, y 1, eq_ix2 y⟩
  have e : (win0_6.blk t).view.emb (ix2 r l) = ix2 (rOf t r) l := by blk_ext [idx t, rOf]
  exact (out6 M c t r l).trans (congrArg (G1 (ar M c)) e).symm

theorem final7 (c : Dev nD) : (dats M 0 c).arrAt 7 cfg0.N = G2 (ar M c) := by
  refine (dats M 0 c).arrAt_eq_of_covers 7 _ (by decide +kernel) fun t hf y => ?_
  obtain ⟨r, l, rfl⟩ : ∃ (r : Fin 256) (l : Fin 768), y = ix2 r l := ⟨y 0, y 1, eq_ix2 y⟩
  have e : (win0_7.blk t).view.emb (ix2 r l) = ix2 (rOf t r) l := by blk_ext [idx t, rOf]
  exact (out7 M c t r l).trans (congrArg (G2 (ar M c)) e).symm

theorem final8 (c : Dev nD) : (dats M 0 c).arrAt 8 cfg0.N = G3 (ar M c) := by
  refine (dats M 0 c).arrAt_eq_of_covers 8 _ (by decide +kernel) fun t hf y => ?_
  obtain ⟨r, l, rfl⟩ : ∃ (r : Fin 256) (l : Fin 768), y = ix2 r l := ⟨y 0, y 1, eq_ix2 y⟩
  have e : (win0_8.blk t).view.emb (ix2 r l) = ix2 (rOf t r) l := by blk_ext [idx t, rOf]
  exact (out8 M c t r l).trans (congrArg (G3 (ar M c)) e).symm

end Cert.AdaKernel

end
-- ==== Proof.AdaRef.lean ====
module

public import proofs.«01_k».proof.Proof.Gen.ReferenceAdaIdeal.Run
public import proofs.«01_k».proof.Proof.AdaSpec
public import Idealize.ShloMosaic.Lib.Pointwise
public import Idealize.ShloMosaic.Lib.KernelVsHost

@[expose] public section

set_option maxRecDepth 16384

noncomputable section

/-! The reference's four results are the arrays of `AdaSpec`. -/

namespace Cert.AdaRef

open Cert.ReferenceAdaIdeal Cert.ReferenceAdaIdeal.Gen Cert.ReferenceAdaIdeal.Value Idealize.ShloMosaic Idealize.ShloMosaic.TcCoe Idealize.SL.Sem Cert.AdaSpec

variable (M : (ℓ : Loc nD τ sig) → Buf (Elt Ideal) ℓ)

/-- The argument arrays of a launch. -/
abbrev ar (c : Dev nD) : Args :=
  ⟨M (c.tc.loc main_arg0), M (c.tc.loc main_arg1), M (c.tc.loc main_arg2), M (c.tc.loc main_arg3), M (c.tc.loc main_arg4)⟩

section Stages

variable (A : Args)

/-- The weight's gradient, its two moments and its step, as the reference computes them. -/
def GW : FVec Ideal S1x1024x768 .f32 :=
  broadcastInDim S1x1024x768 ![1, 2] bcast_S1024x768_S1x1024x768_1_2 (transpose S1024x768 [1, 0] (Host.dotGeneral (φ₁ := .f32) (φ₂ := .f32)
    dot_S16x768_S16x1024_S768x1024_0_0_1_1_n_n none A.a1 (mulf (φ := .f32) A.a0 (Host.divf (broadcastInDim S16x1024 ![] bcast_S_S16x1024
      (constant S_ .f32 0x3F800000#32)) (addf (broadcastInDim S16x1024 ![] bcast_S_S16x1024 (constant S_ .f32 0x3F800000#32))
      (Host.exp (Host.negf (φ := .f32) A.a0)))))) transposes_S768x1024_S1024x768_1_0)

variable (g w m v : FVec Ideal S1x1024x768 .f32)

def M1 : FVec Ideal S1x1024x768 .f32 :=
  addf (mulf (broadcastInDim S1x1024x768 ![] bcast_S_S1x1024x768 (constant S_ .f32 0x3F666666#32)) m)
    (mulf (broadcastInDim S1x1024x768 ![] bcast_S_S1x1024x768 (constant S_ .f32 0x3DCCCCCD#32)) g)

def M2 : FVec Ideal S1x1024x768 .f32 :=
  addf (mulf (broadcastInDim S1x1024x768 ![] bcast_S_S1x1024x768 (constant S_ .f32 0x3F7FBE77#32)) v)
    (mulf (broadcastInDim S1x1024x768 ![] bcast_S_S1x1024x768 (constant S_ .f32 0x3A83126F#32)) (mulf g g))

def ST : FVec Ideal S1x1024x768 .f32 :=
  mulf (broadcastInDim S1x1024x768 ![] bcast_S_S1x1024x768 (constant S_ .f32 0xBA83126F#32)) (addf (Host.divf (Host.divf (M1 g m)
    (broadcastInDim S1x1024x768 ![] bcast_S_S1x1024x768 (constant S_ .f32 0x3F26BD02#32))) (addf (Host.sqrt (Host.divf (M2 g v)
    (broadcastInDim S1x1024x768 ![] bcast_S_S1x1024x768 (constant S_ .f32 0x3C231ACC#32)))) (broadcastInDim S1x1024x768 ![] bcast_S_S1x1024x768
    (constant S_ .f32 0x322BCC77#32)))) (mulf (broadcastInDim S1x1024x768 ![] bcast_S_S1x1024x768 (constant S_ .f32 0x3C23D70A#32)) w))

variable (r : Fin 1024) (l : Fin 768)

theorem GW_apply : GW A (ix3 0 r l) = gr A r l := by
  pointwise [GW]
  exact Finset.sum_congr rfl fun b _ => mul_comm _ _

theorem M1_apply : M1 g m (ix3 0 r l) = m1 (g (ix3 0 r l)) (m (ix3 0 r l)) := by
  pointwise [M1]
  rfl

theorem M2_apply : M2 g v (ix3 0 r l) = m2 (g (ix3 0 r l)) (v (ix3 0 r l)) := by
  pointwise [M2]
  rfl

theorem ST_apply : ST g w m v (ix3 0 r l) = step (w (ix3 0 r l)) (g (ix3 0 r l)) (m (ix3 0 r l)) (v (ix3 0 r l)) := by
  pointwise [ST]
  rw [M1_apply, M2_apply]
  rfl

/-- An array without its leading axis of one. -/
def FL (x : FVec Ideal S1x1024x768 .f32) : FVec Ideal S1024x768 .f32 := shapeCast _ x shapeCasts_S1x1024x768_S1024x768

theorem FL_apply : FL g (ix2 r l) = g (ix3 0 r l) := by
  pointwise [FL]

theorem flat (y : FVec Ideal S1x1024x768 .f32) (G : S1024x768.Idx → EReal) (h : ∀ r l, y (ix3 0 r l) = G (ix2 r l)) : FL y = G := by
  funext i
  obtain ⟨r, l, rfl⟩ : ∃ (r : Fin 1024) (l : Fin 768), i = ix2 r l := ⟨i 0, i 1, eq_ix2 i⟩
  rw [FL_apply, h]

theorem res0 : FL (GW A) = G0 A := flat _ _ fun r l => GW_apply A r l

theorem res1 : FL (ST (GW A) A.a2 A.a3 A.a4) = G1 A := flat _ _ fun r l => by rw [ST_apply, GW_apply]; rfl

theorem res2 : FL (M1 (GW A) A.a3) = G2 A := flat _ _ fun r l => by rw [M1_apply, GW_apply]; rfl

theorem res3 : FL (M2 (GW A) A.a4) = G3 A := flat _ _ fun r l => by rw [M2_apply, GW_apply]; rfl

end Stages

end Cert.AdaRef

end
-- ==== Proof.AdaClaims.lean ====
module

public import proofs.«01_k».proof.Defs
public import proofs.«01_k».proof.Proof.AdaKernel
public import proofs.«01_k».proof.Proof.AdaRef
public import proofs.«01_k».proof.Proof.Gen.KernelAda.Frame
public import Idealize.ShloMosaic.Adequacy

@[expose] public section

set_option maxRecDepth 16384

noncomputable section

/-! The claims about the gradient of the modulation's weight and its AdamW step. -/

namespace Cert.AdaClaims

open Idealize.ShloMosaic Idealize.SL.Sem

theorem frame_k : Cert.quiescent_KernelAda := fun m ρ _ => Cert.KernelAda.Gen.frame m ρ

theorem frame_ki : Cert.quiescent_KernelAdaIdeal := fun m ρ _ => Cert.KernelAdaIdeal.Gen.frame m ρ

theorem frame_ri : Cert.quiescent_ReferenceAdaIdeal := fun m ρ _ =>
  (θ_run Cert.ReferenceAdaIdeal.defs _ _).mono (fun r h => ⟨fun c => (h c).2.2.2.2, Idealize.ShloMosaic.sem_eq_zero_of_no_sems (by decide) r.2⟩)
    (Cert.ReferenceAdaIdeal.Value.run (F := Ideal) m ρ)

theorem preserves : Cert.preserves_KernelAda_KernelAdaIdeal := trivial

theorem algebraic : Cert.algebraic_KernelAdaIdeal_ReferenceAdaIdeal := by
  intro m ρ m' ρ' _ hagree
  have e (c : Dev Cert.KernelAdaIdeal.nD) : AdaRef.ar m' c = AdaKernel.ar m c := by
    obtain ⟨h0, h1, h2, h3, h4⟩ := hagree c
    unfold AdaRef.ar AdaKernel.ar
    rw [h0, h1, h2, h3, h4]
  refine ⟨fun c => AdaSpec.G0 (AdaKernel.ar m c), fun c => AdaSpec.G1 (AdaKernel.ar m c), fun c => AdaSpec.G2 (AdaKernel.ar m c),
    fun c => AdaSpec.G3 (AdaKernel.ar m c), ?_, ?_⟩
  · exact (θ_run Cert.KernelAdaIdeal.defs _ _).mono (fun r h c => ⟨(h c).1.trans (AdaKernel.final5 m c), (h c).2.1.trans (AdaKernel.final6 m c),
      (h c).2.2.1.trans (AdaKernel.final7 m c), (h c).2.2.2.1.trans (AdaKernel.final8 m c), (h c).2.2.2.2⟩)
      (Cert.KernelAdaIdeal.Value.run_blocks (F := Ideal) m ρ)
  · exact (θ_run Cert.ReferenceAdaIdeal.defs _ _).mono (fun r h c => ⟨((h c).1.trans (AdaRef.res0 (AdaRef.ar m' c))).trans (congrArg AdaSpec.G0 (e c)),
      ((h c).2.1.trans (AdaRef.res1 (AdaRef.ar m' c))).trans (congrArg AdaSpec.G1 (e c)),
      ((h c).2.2.1.trans (AdaRef.res2 (AdaRef.ar m' c))).trans (congrArg AdaSpec.G2 (e c)),
      ((h c).2.2.2.1.trans (AdaRef.res3 (AdaRef.ar m' c))).trans (congrArg AdaSpec.G3 (e c)), (h c).2.2.2.2⟩)
      (Cert.ReferenceAdaIdeal.Value.run (F := Ideal) m' ρ')

end Cert.AdaClaims

end
-- ==== Proof.FwdSpec.lean ====
module

public import proofs.«01_k».proof.Proof.RowNorm
public import Idealize.ShloMosaic.Lib.Pointwise

@[expose] public section

noncomputable section

/-! The forward mixer: the pooled rows, the convolution, and the chunked recurrence with its gate and grouped norm, as
    functions of the argument arrays on the extended reals: what both programs compute. -/

namespace Cert.FwdSpec

open Idealize.ShloMosaic

/-- The argument arrays: the projected rows, the convolution's taps and shift, the step's shift, the decay's logarithm, the
    skip, the norm's gain, the pooling weight and its scale. -/
structure Args where
  a0 : (⟨3, ![2, 2048, 3088]⟩ : Shape).Idx → EReal
  a1 : (⟨3, ![1, 4, 1536]⟩ : Shape).Idx → EReal
  a2 : (⟨2, ![1, 1536]⟩ : Shape).Idx → EReal
  a3 : (⟨2, ![1, 16]⟩ : Shape).Idx → EReal
  a4 : (⟨2, ![1, 16]⟩ : Shape).Idx → EReal
  a5 : (⟨2, ![1, 16]⟩ : Shape).Idx → EReal
  a6 : (⟨2, ![1, 1024]⟩ : Shape).Idx → EReal
  a7 : (⟨4, ![1, 4, 128, 128]⟩ : Shape).Idx → EReal
  a8 : (⟨2, ![1, 512]⟩ : Shape).Idx → EReal

variable (A : Args) (b : Fin 2) (s : Fin 2048) (c : Fin 16) (l : Fin 128) (h : Fin 16) (g : Fin 2) (n : Fin 128)

/-- The four parts of a projected row. -/
def u (j : Fin 512) : EReal := A.a0 (ix3 b s ⟨j.val, by omega⟩)
def z (k : Fin 1024) : EReal := A.a0 (ix3 b s ⟨512 + k.val, by omega⟩)
def ux (k : Fin 1536) : EReal := A.a0 (ix3 b s ⟨1536 + k.val, by omega⟩)
def dti : EReal := A.a0 (ix3 b s ⟨3072 + h.val, by omega⟩)

/-- The entry `k` rows earlier, zero before the first. -/
def past (f : Fin 2048 → EReal) (s : Fin 2048) (k : ℕ) : EReal := if k ≤ s.val then f ⟨s.val - k, by omega⟩ else 0

/-- The pooling: its windows, a window's mean less the row, and the pooled row. -/
def win : Fin 4 → ℕ := ![2, 4, 8, 16]
def cell (w : Fin 4) (x : Fin 128) : Fin 512 := ⟨w.val * 128 + x.val, by omega⟩
def pl (w : Fin 4) (x : Fin 128) : EReal :=
  Ideal.div (∑ k ∈ Finset.range (win w), past (fun s => u A b s (cell w x)) s k) (min (((s.val : ℝ) + 1 : ℝ) : EReal) ((win w : ℝ) : EReal))
    - u A b s (cell w x)
def yp (w : Fin 4) (x : Fin 128) : EReal := (∑ q : Fin 128, pl A b s w q * A.a7 (ix4 0 w q x)) * A.a8 (ix2 0 (cell w x))

/-- The convolution and its activation. -/
def cv (k : Fin 1536) : EReal :=
  A.a2 (ix2 0 k) + past (fun s => ux A b s k) s 3 * A.a1 (ix3 0 0 k) + past (fun s => ux A b s k) s 2 * A.a1 (ix3 0 1 k)
    + past (fun s => ux A b s k) s 1 * A.a1 (ix3 0 2 k) + ux A b s k * A.a1 (ix3 0 3 k)
def sig (x : EReal) : EReal := Ideal.div 1 (1 + Ideal.exp (-x))
def xb (k : Fin 1536) : EReal := cv A b s k * sig (cv A b s k)
def X (k : Fin 1024) : EReal := xb A b s ⟨k.val, by omega⟩
def Bm : EReal := xb A b s ⟨1024 + (g.val * 128 + n.val), by omega⟩
def Cm : EReal := xb A b s ⟨1280 + (g.val * 128 + n.val), by omega⟩

/-- The step and the decay's exponent. -/
def pre : EReal := dti A b s h + A.a3 (ix2 0 h)
def dt : EReal := max (pre A b s h) 0 + Ideal.log (1 + Ideal.exp (-(max (pre A b s h) (-(pre A b s h)))))
def da : EReal := dt A b s h * -(Ideal.exp (A.a4 (ix2 0 h)))

/-- Row `l` of chunk `c`, and the head and the group of a channel. -/
def tm : Fin 2048 := ⟨c.val * 128 + l.val, by omega⟩
def hO (k : Fin 1024) : Fin 16 := ⟨k.val / 64, by omega⟩
def gO (k : Fin 1024) : Fin 2 := ⟨k.val / 512, by omega⟩

/-- The chunk's recurrence: the exponents' running sum, what a chunk adds to the state, and the state before a chunk. -/
def cum : EReal := ∑ q : Fin 128, if q ≤ l then da A b (tm c q) h else 0
def xdt (k : Fin 1024) : EReal := X A b (tm c l) k * dt A b (tm c l) (hO k)
def st (k : Fin 1024) : EReal :=
  ∑ l, xdt A b c l k * Ideal.exp (cum A b c 127 (hO k) - cum A b c l (hO k)) * Bm A b (tm c l) (gO k) n
def cF (i : ℕ) : Fin 16 := ⟨i % 16, Nat.mod_lt _ (by norm_num)⟩
def hs : ℕ → Fin 1024 → Fin 128 → EReal
  | 0, _, _ => 0
  | i + 1, k, n => hs i k n * Ideal.exp (cum A b (cF i) 127 (hO k)) + st A b (cF i) n k

/-- The chunk's rows: inside the chunk, from the state, and with the skip. -/
def lm (q : Fin 128) : EReal := if q ≤ l then Ideal.exp (cum A b c l h - cum A b c q h) else 0
def sc (q : Fin 128) : EReal := ∑ n, Cm A b (tm c l) g n * Bm A b (tm c q) g n
def yd (k : Fin 1024) : EReal := ∑ q, sc A b c l (gO k) q * lm A b c l (hO k) q * xdt A b c q k
def yo (k : Fin 1024) : EReal := (∑ n, Cm A b (tm c l) (gO k) n * hs A b c.val k n) * Ideal.exp (cum A b c l (hO k))
def y (k : Fin 1024) : EReal := yd A b c l k + yo A b c l k + A.a5 (ix2 0 (hO k)) * X A b (tm c l) k

/-- The gate and the grouped norm. -/
def yz (k : Fin 1024) : EReal := y A b c l k * (z A b (tm c l) k * sig (z A b (tm c l) k))
def var (g : Fin 2) : EReal :=
  Ideal.div (∑ q : Fin 512, yz A b c l ⟨g.val * 512 + q.val, by omega⟩ * yz A b c l ⟨g.val * 512 + q.val, by omega⟩) (Ideal.ofBits .f32 0x44000000#32)
    + Ideal.ofBits .f32 0x3727C5AC#32
def ys (k : Fin 1024) : EReal := yz A b c l k * Ideal.rsqrt (var A b c l (gO k)) * A.a6 (ix2 0 k)

/-- The results. -/
def row (k : Fin 1536) : EReal :=
  if h : k.val < 512 then yp A b (tm c l) ⟨k.val / 128, by omega⟩ ⟨k.val % 128, by omega⟩ else ys A b c l ⟨k.val - 512, by omega⟩
def bO (i : Fin 4096) : Fin 2 := ⟨i.val / 2048, by omega⟩
def cO (i : Fin 4096) : Fin 16 := ⟨i.val / 128 % 16, by omega⟩
def lO (i : Fin 4096) : Fin 128 := ⟨i.val % 128, by omega⟩
def kO (g : Fin 2) (q : Fin 512) : Fin 1024 := ⟨g.val * 512 + q.val, by omega⟩
def G7 : (⟨2, ![4096, 1536]⟩ : Shape).Idx → EReal := fun i => row A (bO (i 0)) (cO (i 0)) (lO (i 0)) (i 1)
def G8 : (⟨5, ![2, 16, 2, 128, 512]⟩ : Shape).Idx → EReal := fun i => hs A (i 0) (i 1).val (kO (i 2) (i 4)) (i 3)
def G9 : (⟨2, ![4096, 1536]⟩ : Shape).Idx → EReal := fun i => cv A (bO (i 0)) (tm (cO (i 0)) (lO (i 0))) (i 1)

/-! ## Where the finite arguments are used -/

structure Fin' : Prop where
  f0 : ∀ i, ∃ r : ℝ, A.a0 i = r
  f3 : ∀ i, ∃ r : ℝ, A.a3 i = r
  f4 : ∀ i, ∃ r : ℝ, A.a4 i = r
  f5 : ∀ i, ∃ r : ℝ, A.a5 i = r

variable {A} (H : Fin' A)

theorem exp_coe (r : ℝ) : Ideal.exp (r : EReal) = ((Real.exp r : ℝ) : EReal) := rfl

theorem log_coe {r : ℝ} (hr : 0 < r) : Ideal.log (r : EReal) = ((Real.log r : ℝ) : EReal) := by
  show (if r ≤ 0 then ⊥ else (Real.log r : EReal)) = _
  rw [if_neg hr.not_ge]

theorem cmax (a b : ℝ) : ((max a b : ℝ) : EReal) = max (a : EReal) b := EReal.coe_strictMono.monotone.map_max

/-- The step of a real is a real that is not negative. -/
theorem softplus_real (p : ℝ) : ∃ r : ℝ, 0 ≤ r ∧ max (p : EReal) 0 + Ideal.log (1 + Ideal.exp (-(max (p : EReal) (-(p : EReal))))) = (r : EReal) := by
  refine ⟨max p 0 + Real.log (1 + Real.exp (-(max p (-p)))), ?_, ?_⟩
  · have h1 : 0 ≤ Real.log (1 + Real.exp (-(max p (-p)))) := Real.log_nonneg (by have := Real.exp_pos (-(max p (-p))); linarith)
    have h2 := le_max_right p 0
    linarith
  · have e : (1 : EReal) + Ideal.exp (-(max (p : EReal) (-(p : EReal)))) = ((1 + Real.exp (-(max p (-p))) : ℝ) : EReal) := by
      rw [← EReal.coe_neg, ← cmax, ← EReal.coe_neg, exp_coe]
      rfl
    rw [e, log_coe (by have := Real.exp_pos (-(max p (-p))); linarith), ← EReal.coe_zero, ← cmax, ← EReal.coe_add]

include H in
theorem dt_real : ∃ r : ℝ, 0 ≤ r ∧ dt A b s h = (r : EReal) := by
  obtain ⟨p, hp⟩ := H.f0 (ix3 b s ⟨3072 + h.val, by omega⟩)
  obtain ⟨q, hq⟩ := H.f3 (ix2 0 h)
  have e : pre A b s h = ((p + q : ℝ) : EReal) := by
    unfold pre dti
    rw [hp, hq, EReal.coe_add]
  unfold dt
  rw [e]
  exact softplus_real _

include H in
theorem da_real : ∃ r : ℝ, r ≤ 0 ∧ da A b s h = (r : EReal) := by
  obtain ⟨p, hp, e⟩ := dt_real b s h H
  obtain ⟨q, hq⟩ := H.f4 (ix2 0 h)
  refine ⟨p * -(Real.exp q), ?_, ?_⟩
  · have := Real.exp_pos q
    nlinarith
  · unfold da
    rw [e, hq, exp_coe, ← EReal.coe_neg, ← EReal.coe_mul]

theorem sum_coe {ι : Type*} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

include H in
/-- The running sums are reals, and fall along the chunk. -/
theorem cum_real : ∃ f : Fin 128 → ℝ, (∀ p q, p ≤ q → f q ≤ f p) ∧ ∀ l, cum A b c l h = (f l : EReal) := by
  choose d hd e using fun q => da_real b (tm c q) h H
  refine ⟨fun l => ∑ q : Fin 128, if q ≤ l then d q else 0, fun p q hpq => ?_, fun l => ?_⟩
  · refine Finset.sum_le_sum fun i _ => ?_
    by_cases h1 : i ≤ p
    · rw [if_pos h1, if_pos (h1.trans hpq)]
    · rw [if_neg h1]
      split
      · exact hd i
      · exact le_refl _
  · unfold cum
    rw [← sum_coe]
    refine Finset.sum_congr rfl fun i _ => ?_
    split
    · exact e i
    · rfl

include H in
theorem exp_cum : ∃ r : ℝ, Ideal.exp (cum A b c l h) = (r : EReal) := by
  obtain ⟨f, _, e⟩ := cum_real b c h H
  exact ⟨_, by rw [e, exp_coe]⟩

include H in
theorem exp_rest (q : Fin 128) : ∃ r : ℝ, Ideal.exp (cum A b c q h - cum A b c l h) = (r : EReal) := by
  obtain ⟨f, _, e⟩ := cum_real b c h H
  exact ⟨_, by rw [e, e, ← EReal.coe_sub, exp_coe]⟩

include H in
theorem lm_min (q : Fin 128) (hq : q ≤ l) : Ideal.exp (min (cum A b c l h - cum A b c q h) 0) = Ideal.exp (cum A b c l h - cum A b c q h) := by
  obtain ⟨f, hf, e⟩ := cum_real b c h H
  rw [e, e, ← EReal.coe_sub, min_eq_left (by rw [← EReal.coe_zero]; exact EReal.coe_le_coe_iff.mpr (by linarith [hf _ _ hq]))]

/-- A product with a row of zeros and ones that picks one entry, over two or three parts of a real. -/
theorem pick2 {n : ℕ} (x : Fin n → EReal) (i : Fin n) (hx : ∃ r : ℝ, x i = r) :
    (∑ k, x k * (if k = i then 1 else 0)) + ∑ k, (x k - x k) * (if k = i then 1 else 0) = x i := by
  obtain ⟨r, e⟩ := hx
  rw [Finset.sum_eq_single i (fun k _ hk => by rw [if_neg hk, mul_zero]) (fun hi => absurd (Finset.mem_univ i) hi),
    Finset.sum_eq_single i (fun k _ hk => by rw [if_neg hk, mul_zero]) (fun hi => absurd (Finset.mem_univ i) hi), if_pos rfl, e, mul_one, mul_one,
    ← EReal.coe_sub, sub_self, EReal.coe_zero, add_zero]

theorem parts3 {n : ℕ} (x w : Fin n → EReal) (hx : ∀ i, ∃ r : ℝ, x i = r) :
    (∑ k, w k * x k) + (∑ k, w k * (x k - x k)) + ∑ k, w k * (x k - x k - (x k - x k)) = ∑ k, w k * x k := by
  have e : ∀ k, x k - x k = 0 := fun k => by
    obtain ⟨r, e⟩ := hx k
    rw [e, ← EReal.coe_sub, sub_self, EReal.coe_zero]
  simp only [e, sub_zero, mul_zero, Finset.sum_const_zero, add_zero]

/-- The window of a running sum of reals. -/
theorem window (f : Fin 2048 → EReal) (hf : ∀ i, ∃ r : ℝ, f i = r) (s : Fin 2048) (w : ℕ) :
    (∑ k : Fin 2048, if k ≤ s then f k else 0) - (if h : w ≤ s.val then ∑ k : Fin 2048, (if k ≤ (⟨s.val - w, by omega⟩ : Fin 2048) then f k else 0) else 0)
      = ∑ k ∈ Finset.range w, past f s k := by
  choose d e using hf
  have key : ∀ s : Fin 2048, (∑ k : Fin 2048, if k ≤ s then f k else 0) = ((∑ k ∈ Finset.range (s.val + 1), (if h : k < 2048 then d ⟨k, h⟩ else 0) : ℝ) : EReal) := fun s => by
    have hs := s.isLt
    rw [← sum_coe]
    have e1 : ∀ k : Fin 2048, (if k ≤ s then f k else 0) = (fun j : ℕ => if j ≤ s.val then (((if h : j < 2048 then d ⟨j, h⟩ else 0 : ℝ)) : EReal) else 0) k.val := fun k => by
      dsimp only
      rw [dif_pos k.isLt, e]
      rfl
    rw [Finset.sum_congr rfl fun k _ => e1 k, Fin.sum_univ_eq_sum_range (fun j : ℕ => if j ≤ s.val then (((if h : j < 2048 then d ⟨j, h⟩ else 0 : ℝ)) : EReal) else 0) 2048,
      ← Finset.sum_filter]
    refine Finset.sum_congr (Finset.ext fun j => ?_) fun _ _ => rfl
    rw [Finset.mem_range, Finset.mem_filter, Finset.mem_range]
    omega
  have pst : ∀ k, past f s k = ((if k ≤ s.val then (if h : s.val - k < 2048 then d ⟨s.val - k, h⟩ else 0) else 0 : ℝ) : EReal) := fun k => by
    unfold past
    split
    · rw [dif_pos (by omega), e]
    · rfl
  rw [Finset.sum_congr rfl fun k _ => pst k, sum_coe, key s]
  have real : ∀ (F : ℕ → ℝ) (n w : ℕ), (∑ k ∈ Finset.range w, if k ≤ n then F (n - k) else 0)
      = (∑ k ∈ Finset.range (n + 1), F k) - (if w ≤ n then ∑ k ∈ Finset.range (n - w + 1), F k else 0) := fun F n w => by
    induction w with
    | zero => simp
    | succ w ih =>
      rw [Finset.sum_range_succ, ih]
      by_cases h1 : w + 1 ≤ n
      · rw [if_pos h1, if_pos (by omega), if_pos (by omega), Finset.sum_range_succ _ (n - w), show n - (w + 1) + 1 = n - w by omega]
        ring
      · rw [if_neg h1]
        by_cases h2 : w ≤ n
        · have : w = n := by omega
          subst this
          simp
        · rw [if_neg h2, if_neg h2]
          simp
  rw [real (fun j => if h : j < 2048 then d ⟨j, h⟩ else 0) s.val w]
  split
  · rw [key, ← EReal.coe_sub]
  · rw [sub_zero, sub_zero]

/-! ## Words and constants -/

theorem ofBits_ninf : Ideal.ofBits .f32 0xFF800000#32 = ⊥ := by
  simp [Ideal.ofBits, Ideal.ieee]

theorem exp_bot : Ideal.exp ⊥ = 0 := rfl

theorem ofBits_2 : Ideal.ofBits .f32 0x40000000#32 = ((2 : ℝ) : EReal) := by
  simp [Ideal.ofBits, Ideal.ieee]; rw [← EReal.coe_mul]; norm_num

theorem ofBits_4 : Ideal.ofBits .f32 0x40800000#32 = ((4 : ℝ) : EReal) := by
  simp [Ideal.ofBits, Ideal.ieee]; rw [← EReal.coe_mul]; norm_num

theorem ofBits_8 : Ideal.ofBits .f32 0x41000000#32 = ((8 : ℝ) : EReal) := by
  simp [Ideal.ofBits, Ideal.ieee]; rw [← EReal.coe_mul]; norm_num

theorem ofBits_16 : Ideal.ofBits .f32 0x41800000#32 = ((16 : ℝ) : EReal) := by
  simp [Ideal.ofBits, Ideal.ieee]; rw [← EReal.coe_mul]; norm_num

theorem toInt_word {a : ℕ} (ha : a < 2147483648) : (BitVec.ofNat 32 a).toInt = (a : ℤ) := by
  rw [BitVec.toInt_eq_toNat_of_lt (by rw [BitVec.toNat_ofNat]; omega), BitVec.toNat_ofNat]
  omega

theorem sge_word {a b : ℕ} (ha : a < 2147483648) (hb : b < 2147483648) :
    IntOp.cmpi .sge (BitVec.ofNat 32 a) (BitVec.ofNat 32 b) = BitVec.ofBool (decide (b ≤ a)) := by
  show BitVec.ofBool (decide ((BitVec.ofNat 32 b).toInt ≤ (BitVec.ofNat 32 a).toInt)) = _
  rw [toInt_word ha, toInt_word hb]
  simp only [Nat.cast_le]

end Cert.FwdSpec

end
-- ==== Proof.FwdKernel.lean ====
module

public import proofs.«01_k».proof.Proof.Gen.KernelFwdIdeal.Value
public import proofs.«01_k».proof.Proof.FwdSpec
public import Idealize.ShloMosaic.Lib.Pointwise
public import Idealize.ShloMosaic.Lib.Pipeline.ValueKit
public import Idealize.ShloMosaic.Lib.StableHlo.ReadAt
public import Idealize.ShloMosaic.Lib.KernelVsHost

@[expose] public section

set_option maxRecDepth 16384
noncomputable section

/-! The fused forward kernel's rows: the pooled rows, the convolution and the recurrence's inputs. -/

namespace Cert.FwdKernel

open Cert.KernelFwdIdeal Cert.KernelFwdIdeal.Gen Idealize.ShloMosaic Idealize.ShloMosaic.TcCoe Idealize.SL.Sem
open Cert.FwdSpec

/-- A sequence over chunk `c` with the `n` rows before it in front, zero before the first row. -/
def E (n : ℕ) (f : Fin 2048 → EReal) (c : Fin 16) (i : ℕ) : EReal :=
  if h : n ≤ c.val * 128 + i ∧ c.val * 128 + i - n < 2048 then f ⟨c.val * 128 + i - n, h.2⟩ else 0

theorem E_past (n : ℕ) (f : Fin 2048 → EReal) (c : Fin 16) (r : Fin 128) (k : ℕ) (hk : k ≤ n) : E n f c (n + r.val - k) = past f (tm c r) k := by
  unfold E past
  have h1 : (tm c r).val = c.val * 128 + r.val := rfl
  by_cases h : k ≤ (tm c r).val
  · rw [if_pos h, dif_pos (by rw [h1] at h; omega)]
    congr 1
    apply Fin.ext
    show c.val * 128 + (n + r.val - k) - n = (tm c r).val - k
    rw [h1] at h ⊢
    omega
  · rw [if_neg h, dif_neg (by rw [h1] at h; omega)]

theorem E_row (n : ℕ) (f : Fin 2048 → EReal) (c : Fin 16) (r : Fin 128) : E n f c (n + r.val) = f (tm c r) :=
  (E_past n f c r 0 (Nat.zero_le _)).trans (by unfold past; rw [if_pos (Nat.zero_le _)]; rfl)

theorem dbl (e : ℕ → EReal) (i n : ℕ) : ∑ k ∈ Finset.range n, e (i - k) + ∑ k ∈ Finset.range n, e (i - n - k) = ∑ k ∈ Finset.range (n + n), e (i - k) := by
  rw [Finset.sum_range_add]
  simp only [Nat.sub_sub]

theorem div_mul (s d : EReal) (hd : d ≠ 0) : s * Ideal.div 1 d = Ideal.div s d := by
  unfold Ideal.div
  rw [if_neg hd, if_neg hd, one_mul]

section Pool

variable (v4 : Vec Ideal S128x512 .f32) (v21 : Vec Ideal S16x512 .f32) (f : Fin 512 → Fin 2048 → EReal) (c : Fin 16)
  (h4 : ∀ r j, v4 (ix2 r j) = f j (tm c r)) (h21 : ∀ (r : Fin 16) j, v21 (ix2 r j) = E 16 (f j) c r.val)

include h4 h21 in
theorem cat_E (i : ℕ) (hi : i < 144) (j : Fin 512) : (if h : i < 16 then v21 (ix2 ⟨i, h⟩ j) else v4 (ix2 ⟨i - 16, by omega⟩ j)) = E 16 (f j) c i := by
  by_cases h : i < 16
  · rw [dif_pos h, h21]
  · rw [dif_neg h, h4, ← E_row 16 (f j) c ⟨i - 16, by omega⟩]
    congr 1
    show 16 + (i - 16) = i
    omega

include h4 h21 in
theorem s2 (i : Fin 144) (j : Fin 512) (hi : 1 ≤ i.val) : k0_pay18 (F := Ideal) v4 v21 (ix2 i j) = ∑ k ∈ Finset.range 2, E 16 (f j) c (i.val - k) := by
  pointwise [k0_pay18]
  rw [cat_E v4 v21 f c h4 h21 i.val i.isLt j, cat_E v4 v21 f c h4 h21 ((i.val + 144 - 1) % 144) (Nat.mod_lt _ (by norm_num)) j,
    show (i.val + 144 - 1) % 144 = i.val - 1 by omega, Finset.sum_range_succ, Finset.sum_range_one]
  rfl

include h4 h21 in
theorem s4 (i : Fin 144) (j : Fin 512) (hi : 3 ≤ i.val) : k0_pay19 (F := Ideal) v4 v21 (ix2 i j) = ∑ k ∈ Finset.range 4, E 16 (f j) c (i.val - k) := by
  pointwise [k0_pay19]
  rw [s2 v4 v21 f c h4 h21 _ _ (by omega), s2 v4 v21 f c h4 h21 _ _ (by dsimp only; omega)]
  dsimp only
  rw [show (i.val + 144 - 2) % 144 = i.val - 2 by omega, dbl _ _ 2]

include h4 h21 in
theorem s8 (i : Fin 144) (j : Fin 512) (hi : 7 ≤ i.val) : k0_pay20 (F := Ideal) v4 v21 (ix2 i j) = ∑ k ∈ Finset.range 8, E 16 (f j) c (i.val - k) := by
  pointwise [k0_pay20]
  rw [s4 v4 v21 f c h4 h21 _ _ (by omega), s4 v4 v21 f c h4 h21 _ _ (by dsimp only; omega)]
  dsimp only
  rw [show (i.val + 144 - 4) % 144 = i.val - 4 by omega, dbl _ _ 4]

include h4 h21 in
theorem s16 (i : Fin 144) (j : Fin 512) (hi : 15 ≤ i.val) : k0_pay21 (F := Ideal) v4 v21 (ix2 i j) = ∑ k ∈ Finset.range 16, E 16 (f j) c (i.val - k) := by
  pointwise [k0_pay21]
  rw [s8 v4 v21 f c h4 h21 _ _ (by omega), s8 v4 v21 f c h4 h21 _ _ (by dsimp only; omega)]
  dsimp only
  rw [show (i.val + 144 - 8) % 144 = i.val - 8 by omega, dbl _ _ 8]

theorem sum_past (g : Fin 2048 → EReal) (r : Fin 128) (n : ℕ) (hn : n ≤ 16) :
    ∑ k ∈ Finset.range n, E 16 g c (16 + r.val - k) = ∑ k ∈ Finset.range n, past g (tm c r) k :=
  Finset.sum_congr rfl fun k hk => E_past 16 g c r k (by have := Finset.mem_range.mp hk; omega)

theorem count (r : Fin 128) : k0_pay17 (F := Ideal) (BitVec.ofNat 32 c.val) (ix2 r 0) = ((((tm c r).val : ℝ) + 1 : ℝ) : EReal) := by
  pointwise [k0_pay17]
  have e : IntOp.addi (IntOp.addi (Scalar.muli (BitVec.ofNat 32 c.val) 128#32) (BitVec.ofNat 32 r.val)) 1#32 = BitVec.ofNat 32 (c.val * 128 + r.val + 1) := by
    show BitVec.ofNat 32 c.val * 128#32 + BitVec.ofNat 32 r.val + 1#32 = _
    rw [show (128#32) = BitVec.ofNat 32 128 from rfl, ← BitVec.ofNat_mul, ← BitVec.ofNat_add, show (1#32) = BitVec.ofNat 32 1 from rfl, ← BitVec.ofNat_add]
  rw [e]
  show (((BitVec.ofNat 32 (c.val * 128 + r.val + 1)).toInt : ℝ) : EReal) = _
  rw [toInt_word (by omega)]
  have h1 : (tm c r).val = c.val * 128 + r.val := rfl
  rw [h1]
  push_cast
  rfl

/-- A group's pooled rows through its weight. -/
def P (s : Vec Ideal S144x512 .f32) (wp : Vec Ideal S4x128x128 .f32) (p : Vec Ideal S128x1 .f32) (m : EReal) (o : ℕ) (ho : o + 128 ≤ 512) (w : Fin 4)
    (r x : Fin 128) : EReal :=
  ∑ q : Fin 128, (s (ix2 ⟨16 + r.val, by omega⟩ ⟨o + q.val, by omega⟩) * Ideal.div 1 (min (p (ix2 r 0)) m) - v4 (ix2 r ⟨o + q.val, by omega⟩)) * wp (ix3 w q x)

theorem pool0 (a : BitVec 32) (wp : Vec Ideal S4x128x128 .f32) (r x : Fin 128) :
    k0_pay22 (F := Ideal) a v4 v21 wp (ix2 r x) = P v4 (k0_pay18 v4 v21) wp (k0_pay17 (F := Ideal) a) (Ideal.ofBits .f32 0x40000000#32) 0 (by norm_num) 0 r x := by
  pointwise [k0_pay22, k0_pay16]
  unfold P
  refine Finset.sum_congr rfl fun q _ => ?_
  have e : (⟨0 + q.val, by omega⟩ : Fin 512) = ⟨q.val, by omega⟩ := Fin.ext (Nat.zero_add _)
  rw [e]

theorem pool_apply (wp : Vec Ideal S4x128x128 .f32) (sc : Vec Ideal S1x512 .f32) (p : Vec Ideal S128x1 .f32) (w43 w45 w47 : Vec Ideal S144x512 .f32)
    (w61 : Vec Ideal S128x128 .f32) (m : EReal) (r : Fin 128) (j : Fin 512) :
    k0_pay23 (F := Ideal) v4 wp sc p w43 w45 w47 w61 m (ix2 r j)
      = (if h : j.val < 128 then w61 (ix2 r ⟨j.val, h⟩) else
          if h1 : j.val - 128 < 128 then P v4 w43 wp p m 128 (by norm_num) 1 r ⟨j.val - 128, h1⟩ else
          if h2 : j.val - 128 - 128 < 128 then P v4 w45 wp p (Ideal.ofBits .f32 0x41000000#32) 256 (by norm_num) 2 r ⟨j.val - 128 - 128, h2⟩
          else P v4 w47 wp p (Ideal.ofBits .f32 0x41800000#32) 384 (by norm_num) 3 r ⟨j.val - 128 - 128 - 128, by omega⟩) * sc (ix2 0 j) := by
  (pointwise [k0_pay23]) <;> rfl

variable {A : Args} {b : Fin 2} (hu : f = fun j s => u A b s j) (wp : Vec Ideal S4x128x128 .f32) (hwp : ∀ w q x, wp (ix3 w q x) = A.a7 (ix4 0 w q x))
  (p : Vec Ideal S128x1 .f32) (hp : ∀ r, p (ix2 r 0) = ((((tm c r).val : ℝ) + 1 : ℝ) : EReal))

include h4 hu hwp hp in
theorem P_eq (s : Vec Ideal S144x512 .f32) (w : Fin 4) (m : EReal) (hm : m = ((win w : ℝ) : EReal)) (o : ℕ) (ho : o + 128 ≤ 512) (hw : o = w.val * 128)
    (r : Fin 128) (hs : ∀ j, s (ix2 ⟨16 + r.val, by omega⟩ j) = ∑ k ∈ Finset.range (win w), past (f j) (tm c r) k) (x : Fin 128) :
    P v4 s wp p m o ho w r x = ∑ q : Fin 128, pl A b (tm c r) w q * A.a7 (ix4 0 w q x) := by
  unfold P
  refine Finset.sum_congr rfl fun q _ => ?_
  subst hw hu hm
  rw [hs, h4, hwp, hp, div_mul]
  · rfl
  · have h1 : (0 : ℝ) < ((tm c r).val : ℝ) + 1 := by positivity
    have h2 : (0 : ℝ) < (win w : ℝ) := by
      have : 0 < win w := by fin_cases w <;> decide
      exact_mod_cast this
    rw [← EReal.coe_strictMono.monotone.map_min]
    exact fun h => absurd (EReal.coe_eq_zero.mp h) (lt_min h1 h2).ne'

include h4 h21 hu hwp hp in
/-- The pooled rows. -/
theorem pooled (a : BitVec 32) (ha : a = BitVec.ofNat 32 c.val) (sc : Vec Ideal S1x512 .f32) (hsc : ∀ j, sc (ix2 0 j) = A.a8 (ix2 0 j)) (r : Fin 128) (j : Fin 512) :
    k0_pay23 (F := Ideal) v4 (k0_pay16 wp) sc (k0_pay17 (F := Ideal) a) (k0_pay19 v4 v21) (k0_pay20 v4 v21) (k0_pay21 v4 v21) (k0_pay22 a v4 v21 wp)
        (Ideal.ofBits .f32 0x40800000#32) (ix2 r j)
      = yp A b (tm c r) ⟨j.val / 128, by omega⟩ ⟨j.val % 128, by omega⟩ := by
  have hp' : ∀ r, k0_pay17 (F := Ideal) a (ix2 r 0) = ((((tm c r).val : ℝ) + 1 : ℝ) : EReal) := fun r => by rw [ha]; exact count c r
  have hwp' : ∀ w q x, k0_pay16 (F := Ideal) wp (ix3 w q x) = A.a7 (ix4 0 w q x) := fun w q x => by pointwise [k0_pay16]; exact hwp w q x
  rw [pool_apply, hsc]
  have key : ∀ (w : Fin 4) (x : Fin 128), j = cell w x → yp A b (tm c r) ⟨j.val / 128, by omega⟩ ⟨j.val % 128, by omega⟩
      = (∑ q : Fin 128, pl A b (tm c r) w q * A.a7 (ix4 0 w q x)) * A.a8 (ix2 0 j) := fun w x e => by
    subst e
    have e1 : (⟨(cell w x).val / 128, by omega⟩ : Fin 4) = w := Fin.ext (show (w.val * 128 + x.val) / 128 = w.val by omega)
    have e2 : (⟨(cell w x).val % 128, by omega⟩ : Fin 128) = x := Fin.ext (show (w.val * 128 + x.val) % 128 = x.val by omega)
    rw [e1, e2]
    rfl
  by_cases h : j.val < 128
  · rw [dif_pos h, key 0 ⟨j.val, h⟩ (Fin.ext (show j.val = 0 * 128 + j.val by omega)), pool0,
      P_eq v4 f c h4 hu wp hwp _ hp' _ 0 _ ofBits_2 0 _ rfl r (fun j => by rw [s2 v4 v21 f c h4 h21 _ _ (by dsimp only; omega)]; exact sum_past c _ r 2 (by norm_num))]
  · rw [dif_neg h]
    by_cases h1 : j.val - 128 < 128
    · rw [dif_pos h1, key 1 ⟨j.val - 128, h1⟩ (Fin.ext (show j.val = 1 * 128 + (j.val - 128) by omega)),
        P_eq v4 f c h4 hu _ hwp' _ hp' _ 1 _ ofBits_4 128 _ rfl r (fun j => by rw [s4 v4 v21 f c h4 h21 _ _ (by dsimp only; omega)]; exact sum_past c _ r 4 (by norm_num))]
    · rw [dif_neg h1]
      by_cases h2 : j.val - 128 - 128 < 128
      · rw [dif_pos h2, key 2 ⟨j.val - 128 - 128, h2⟩ (Fin.ext (show j.val = 2 * 128 + (j.val - 128 - 128) by omega)),
          P_eq v4 f c h4 hu _ hwp' _ hp' _ 2 _ ofBits_8 256 _ rfl r (fun j => by rw [s8 v4 v21 f c h4 h21 _ _ (by dsimp only; omega)]; exact sum_past c _ r 8 (by norm_num))]
      · rw [dif_neg h2, key 3 ⟨j.val - 128 - 128 - 128, by omega⟩ (Fin.ext (show j.val = 3 * 128 + (j.val - 128 - 128 - 128) by omega)),
          P_eq v4 f c h4 hu _ hwp' _ hp' _ 3 _ ofBits_16 384 _ rfl r (fun j => by rw [s16 v4 v21 f c h4 h21 _ _ (by dsimp only; omega)]; exact sum_past c _ r 16 (by norm_num))]

end Pool

section Conv

variable (v8 : Vec Ideal S128x1536 .f32) (v22 : Vec Ideal S8x1536 .f32) (w : Vec Ideal S4x1536 .f32) (v25 : Vec Ideal S1x1536 .f32) (A : Args) (b : Fin 2) (c : Fin 16)
  (h8 : ∀ r k, v8 (ix2 r k) = ux A b (tm c r) k) (h22 : ∀ (r : Fin 8) k, v22 (ix2 r k) = E 8 (fun s => ux A b s k) c r.val)
  (hw : ∀ i k, w (ix2 i k) = A.a1 (ix3 0 i k)) (h25 : ∀ k, v25 (ix2 0 k) = A.a2 (ix2 0 k)) (r : Fin 128)

include h8 h22 in
theorem cat8 (i : ℕ) (hi : i < 136) (k : Fin 1536) :
    (if h : i < 8 then v22 (ix2 ⟨i, h⟩ k) else v8 (ix2 ⟨i - 8, by omega⟩ k)) = E 8 (fun s => ux A b s k) c i := by
  by_cases h : i < 8
  · rw [dif_pos h, h22]
  · rw [dif_neg h, h8, ← E_row 8 (fun s => ux A b s k) c ⟨i - 8, by omega⟩]
    congr 1
    show 8 + (i - 8) = i
    omega

include h8 h22 in
theorem back3 (k : Fin 1536) : k0_pay25 (F := Ideal) v8 v22 (ix2 r k) = past (fun s => ux A b s k) (tm c r) 3 := by
  pointwise [k0_pay25, k0_pay24]
  rw [cat8 v8 v22 A b c h8 h22 ((8 + r.val + 136 - 3) % 136) (Nat.mod_lt _ (by norm_num)) k, show (8 + r.val + 136 - 3) % 136 = 8 + r.val - 3 by omega,
    E_past 8 _ c r 3 (by norm_num)]

include h8 h22 in
theorem back2 (k : Fin 1536) : k0_pay26 (F := Ideal) v8 v22 (ix2 r k) = past (fun s => ux A b s k) (tm c r) 2 := by
  pointwise [k0_pay26, k0_pay24]
  rw [cat8 v8 v22 A b c h8 h22 ((8 + r.val + 136 - 2) % 136) (Nat.mod_lt _ (by norm_num)) k, show (8 + r.val + 136 - 2) % 136 = 8 + r.val - 2 by omega,
    E_past 8 _ c r 2 (by norm_num)]

/-- The convolution with the rows before it. -/
def kcv : Vec Ideal S128x1536 .f32 := k0_pay27 (F := Ideal) v8 (k0_pay14 w) v25 (k0_pay24 v8 v22) (k0_pay25 v8 v22) (k0_pay26 v8 v22)

include h8 h22 hw h25 in
theorem conv (k : Fin 1536) : kcv v8 v22 w v25 (ix2 r k) = cv A b (tm c r) k := by
  have e : kcv v8 v22 w v25 (ix2 r k) = v25 (ix2 0 k) + k0_pay25 (F := Ideal) v8 v22 (ix2 r k) * w (ix2 0 k) + k0_pay26 (F := Ideal) v8 v22 (ix2 r k) * w (ix2 1 k)
      + (if h : (8 + r.val + 136 - 1) % 136 < 8 then v22 (ix2 ⟨(8 + r.val + 136 - 1) % 136, h⟩ k) else v8 (ix2 ⟨(8 + r.val + 136 - 1) % 136 - 8, by omega⟩ k)) * w (ix2 2 k)
      + v8 (ix2 r k) * w (ix2 3 k) := by
    (pointwise [kcv, k0_pay27, k0_pay14, k0_pay24]) <;> rfl
  rw [e, back3 v8 v22 A b c h8 h22, back2 v8 v22 A b c h8 h22, cat8 v8 v22 A b c h8 h22 ((8 + r.val + 136 - 1) % 136) (Nat.mod_lt _ (by norm_num)) k,
    show (8 + r.val + 136 - 1) % 136 = 8 + r.val - 1 by omega, E_past 8 _ c r 1 (by norm_num), h8, h25, hw, hw, hw, hw]
  rfl

/-- The activated rows and their three parts. -/
def kX : Vec Ideal S128x1024 .f32 := k0_pay29 (F := Ideal) v8 (k0_pay14 w) v25 (k0_pay24 v8 v22) (k0_pay25 v8 v22) (k0_pay26 v8 v22)
def kB : Vec Ideal S128x256 .f32 := k0_pay30 (F := Ideal) v8 (k0_pay14 w) v25 (k0_pay24 v8 v22) (k0_pay25 v8 v22) (k0_pay26 v8 v22)
def kC : Vec Ideal S128x256 .f32 := k0_pay31 (F := Ideal) v8 (k0_pay14 w) v25 (k0_pay24 v8 v22) (k0_pay25 v8 v22) (k0_pay26 v8 v22)

include h8 h22 hw h25 in
theorem act (k : Fin 1536) :
    k0_pay28 (F := Ideal) v8 (k0_pay14 w) v25 (k0_pay24 v8 v22) (k0_pay25 v8 v22) (k0_pay26 v8 v22) (ix2 r k) = xb A b (tm c r) k := by
  have e : k0_pay28 (F := Ideal) v8 (k0_pay14 w) v25 (k0_pay24 v8 v22) (k0_pay25 v8 v22) (k0_pay26 v8 v22) (ix2 r k)
      = kcv v8 v22 w v25 (ix2 r k) * Ideal.div 1 (1 + Ideal.exp (0 - kcv v8 v22 w v25 (ix2 r k))) := by
    (pointwise [k0_pay28]) <;> rfl
  rw [e, conv v8 v22 w v25 A b c h8 h22 hw h25, zero_sub]
  rfl

include h8 h22 hw h25 in
theorem X_apply (k : Fin 1024) : kX v8 v22 w v25 (ix2 r k) = X A b (tm c r) k := by
  pointwise [kX, k0_pay29]
  exact act v8 v22 w v25 A b c h8 h22 hw h25 r _

include h8 h22 hw h25 in
theorem B_apply (g : Fin 2) (n : Fin 128) : kB v8 v22 w v25 (ix2 r ⟨g.val * 128 + n.val, by omega⟩) = Bm A b (tm c r) g n := by
  pointwise [kB, k0_pay30]
  exact act v8 v22 w v25 A b c h8 h22 hw h25 r _

include h8 h22 hw h25 in
theorem C_apply (g : Fin 2) (n : Fin 128) : kC v8 v22 w v25 (ix2 r ⟨g.val * 128 + n.val, by omega⟩) = Cm A b (tm c r) g n := by
  pointwise [kC, k0_pay31]
  exact act v8 v22 w v25 A b c h8 h22 hw h25 r _

end Conv

section Decay

/-- A head's lane. -/
def ln (h : Fin 16) : Fin 128 := ⟨h.val, by omega⟩

variable (v20 : Vec Ideal S128x128 .f32) (v27 : Vec Ideal S8x128 .f32) (A : Args) (b : Fin 2) (c : Fin 16)
  (h20 : ∀ r h, v20 (ix2 r (ln h)) = dti A b (tm c r) h) (h0 : ∀ h, v27 (ix2 0 (ln h)) = A.a3 (ix2 0 h)) (h1 : ∀ h, v27 (ix2 1 (ln h)) = A.a4 (ix2 0 h))
  (h2 : ∀ h, v27 (ix2 2 (ln h)) = A.a5 (ix2 0 h)) (r : Fin 128) (h : Fin 16)

include h20 h0 in
theorem dt_apply : k0_pay32 (F := Ideal) v20 v27 (ix2 r (ln h)) = dt A b (tm c r) h := by
  have e : k0_pay32 (F := Ideal) v20 v27 (ix2 r (ln h)) = max (v20 (ix2 r (ln h)) + v27 (ix2 0 (ln h))) 0
      + Ideal.log (1 + Ideal.exp (0 - max (v20 (ix2 r (ln h)) + v27 (ix2 0 (ln h))) (-(v20 (ix2 r (ln h)) + v27 (ix2 0 (ln h)))))) := by
    (pointwise [k0_pay32]) <;> rfl
  rw [e, h20, h0, zero_sub]
  rfl

include h20 h0 h1 in
theorem da_apply : k0_pay33 (F := Ideal) v20 v27 (ix2 r (ln h)) = da A b (tm c r) h := by
  have e : k0_pay33 (F := Ideal) v20 v27 (ix2 r (ln h)) = k0_pay32 (F := Ideal) v20 v27 (ix2 r (ln h)) * (0 - Ideal.exp (v27 (ix2 1 (ln h)))) := by
    (pointwise [k0_pay33]) <;> rfl
  rw [e, dt_apply v20 v27 A b c h20 h0, h1, zero_sub]
  rfl

theorem mask_apply (q : Fin 128) : k0_pay34 (ix2 r q) = BitVec.ofBool (decide (q ≤ r)) := by
  pointwise [k0_pay34]
  rw [sge_word (by omega) (by omega)]
  rfl

theorem mask_one (q : Fin 128) : FloatOps.sitofp (F := Ideal) FTy.f32 (BitVec.setWidth 32 (k0_pay34 (ix2 r q))) = if q ≤ r then 1 else 0 := by
  rw [mask_apply]
  by_cases hq : q ≤ r
  · rw [if_pos hq, decide_eq_true hq]
    simp [FloatOps.sitofp]
  · rw [if_neg hq, decide_eq_false hq]
    simp [FloatOps.sitofp]

variable (H : Fin' A)

include H in
theorem cum_apply (v : Vec Ideal S128x128 .f32) (hv : ∀ r, v (ix2 r (ln h)) = da A b (tm c r) h) :
    k0_pay35 (F := Ideal) v k0_pay34 (ix2 r (ln h)) = cum A b c r h := by
  pointwise [k0_pay35]
  simp only [mask_one, hv]
  rw [parts3 (fun q => da A b (tm c q) h) (fun q => if q ≤ r then 1 else 0) fun q => (da_real b (tm c q) h H).imp fun _ e => e.2]
  unfold cum
  refine Finset.sum_congr rfl fun q _ => ?_
  by_cases hq : q ≤ r
  · rw [if_pos hq, if_pos hq, one_mul]
  · rw [if_neg hq, if_neg hq, zero_mul]

end Decay

end Cert.FwdKernel
end
-- ==== Proof.FwdRows.lean ====
module

public import proofs.«01_k».proof.Proof.Gen.KernelFwdIdeal.Value
public import proofs.«01_k».proof.Proof.FwdKernel
public import Idealize.ShloMosaic.Lib.Pointwise
public import Idealize.ShloMosaic.Lib.Pipeline.ValueKit
public import Idealize.ShloMosaic.Lib.StableHlo.ReadAt
public import Idealize.ShloMosaic.Lib.KernelVsHost

@[expose] public section

set_option maxRecDepth 16384
noncomputable section

/-! The fused forward kernel's rows: the recurrence inside a chunk, across chunks, and the gated norm. -/

namespace Cert.FwdKernel

open Cert.KernelFwdIdeal Cert.KernelFwdIdeal.Gen Idealize.ShloMosaic Idealize.ShloMosaic.TcCoe Idealize.SL.Sem
open Cert.FwdSpec

theorem kO_h (g : Fin 2) (q : Fin 512) : gO (kO g q) = g := Fin.ext (show (g.val * 512 + q.val) / 512 = g.val by omega)

/-! ## A head's number spread over its channels -/

theorem head_word (x : Fin 1024) :
    Scalar.select
        (IntOp.andi
          (IntOp.cmpi .ne (IntOp.subi (BitVec.setWidth 32 (IntOp.cmpi .sgt (BitVec.ofNat 32 x.val) 0#32)) (BitVec.setWidth 32 (IntOp.cmpi .slt (BitVec.ofNat 32 x.val) 0#32)))
            (Scalar.subi (Scalar.extui (Scalar.cmpi .sgt 64#32 0#32)) (Scalar.extui (Scalar.cmpi .slt 64#32 0#32))))
          (IntOp.cmpi .ne (IntOp.remsi ArithUnit.vector (BitVec.ofNat 32 x.val) 64#32) 0#32))
        (IntOp.subi (IntOp.divsi ArithUnit.vector (BitVec.ofNat 32 x.val) 64#32) 1#32) (IntOp.divsi ArithUnit.vector (BitVec.ofNat 32 x.val) 64#32)
      = BitVec.ofNat 32 (x.val / 64) := by
  revert x
  decide +kernel

theorem pick_one (k : Fin 128) (x : Fin 1024) :
    FloatOps.sitofp (F := Ideal) FTy.f32 (k0_pay41 (ix2 k x)) = if k = ln (hO x) then 1 else 0 := by
  have e : k0_pay41 (ix2 k x) = BitVec.setWidth 32 (BitVec.ofBool (decide (k = ln (hO x)))) := by
    pointwise [k0_pay41]
    rw [head_word]
    congr 1
    show BitVec.ofBool (BitVec.ofNat 32 k.val == BitVec.ofNat 32 (x.val / 64)) = _
    congr 1
    rw [Bool.eq_iff_iff, beq_iff_eq, decide_eq_true_eq, ← BitVec.toNat_inj, BitVec.toNat_ofNat, BitVec.toNat_ofNat, Fin.ext_iff]
    show _ ↔ k.val = x.val / 64
    omega
  rw [e]
  by_cases h : k = ln (hO x)
  · rw [if_pos h, decide_eq_true h]
    simp [FloatOps.sitofp]
  · rw [if_neg h, decide_eq_false h]
    simp [FloatOps.sitofp]

section Rep

variable (v27 : Vec Ideal S8x128 .f32) (v154 v181 v184 : Vec Ideal S128x128 .f32) (v185 : Vec Ideal S1x128 .f32)

/-- The stacked rows of numbers per head. -/
def stack (i : Fin 392) (q : Fin 128) : EReal :=
  if h : i.val < 128 then v154 (ix2 ⟨i.val, h⟩ q) else
  if h1 : i.val - 128 < 128 then v181 (ix2 ⟨i.val - 128, h1⟩ q) else
  if h2 : i.val - 128 - 128 < 128 then v184 (ix2 ⟨i.val - 128 - 128, h2⟩ q) else
  if h3 : i.val - 128 - 128 - 128 < 1 then v185 (ix2 ⟨i.val - 128 - 128 - 128, h3⟩ q) else
  if h4 : i.val - 128 - 128 - 128 - 1 < 1 then v27 (ix2 ⟨2 + (i.val - 128 - 128 - 128 - 1), by omega⟩ q) else 0

theorem rep_apply (i : Fin 392) (x : Fin 1024) (hx : ∃ r : ℝ, stack v27 v154 v181 v184 v185 i (ln (hO x)) = r) :
    k0_pay42 (F := Ideal) v27 v154 v181 v184 v185 k0_pay41 (ix2 i x) = stack v27 v154 v181 v184 v185 i (ln (hO x)) := by
  have e : k0_pay42 (F := Ideal) v27 v154 v181 v184 v185 k0_pay41 (ix2 i x)
      = (∑ k, stack v27 v154 v181 v184 v185 i k * FloatOps.sitofp (F := Ideal) FTy.f32 (k0_pay41 (ix2 k x)))
        + ∑ k, (stack v27 v154 v181 v184 v185 i k - stack v27 v154 v181 v184 v185 i k) * FloatOps.sitofp (F := Ideal) FTy.f32 (k0_pay41 (ix2 k x)) := by
    (pointwise [k0_pay42]) <;> rfl
  rw [e]
  simp only [pick_one]
  exact pick2 _ _ hx

variable (A : Args) (b : Fin 2) (c : Fin 16) (H : Fin' A)
  (e27 : ∀ h, v27 (ix2 2 (ln h)) = A.a5 (ix2 0 h)) (e154 : ∀ r h, v154 (ix2 r (ln h)) = dt A b (tm c r) h)
  (e181 : ∀ r h, v181 (ix2 r (ln h)) = Ideal.exp (cum A b c r h)) (e184 : ∀ r h, v184 (ix2 r (ln h)) = Ideal.exp (cum A b c 127 h - cum A b c r h))
  (e185 : ∀ h, v185 (ix2 0 (ln h)) = Ideal.exp (cum A b c 127 h)) (r : Fin 128) (x : Fin 1024)

include H e154 in
theorem rep_dt : k0_pay42 (F := Ideal) v27 v154 v181 v184 v185 k0_pay41 (ix2 ⟨0 + r.val, by omega⟩ x) = dt A b (tm c r) (hO x) := by
  have e : stack v27 v154 v181 v184 v185 ⟨0 + r.val, by omega⟩ (ln (hO x)) = dt A b (tm c r) (hO x) := by
    unfold stack
    rw [dif_pos (show 0 + r.val < 128 by omega), ← e154]
    congr 2
    exact Fin.ext (show 0 + r.val = r.val by omega)
  rw [rep_apply _ _ _ _ _ _ _ (e ▸ (dt_real b (tm c r) (hO x) H).imp fun _ q => q.2), e]

include H e181 in
theorem rep_eo : k0_pay43 (F := Ideal) v27 v154 v181 v184 v185 k0_pay41 (ix2 r x) = Ideal.exp (cum A b c r (hO x)) := by
  have e : stack v27 v154 v181 v184 v185 ⟨128 + r.val, by omega⟩ (ln (hO x)) = Ideal.exp (cum A b c r (hO x)) := by
    unfold stack
    rw [dif_neg (show ¬128 + r.val < 128 by omega), dif_pos (show 128 + r.val - 128 < 128 by omega), ← e181]
    congr 2
    exact Fin.ext (show 128 + r.val - 128 = r.val by omega)
  pointwise [k0_pay43]
  rw [rep_apply _ _ _ _ _ _ _ (e ▸ exp_cum b c r (hO x) H), e]

include H e184 in
theorem rep_dec : k0_pay44 (F := Ideal) v27 v154 v181 v184 v185 k0_pay41 (ix2 r x) = Ideal.exp (cum A b c 127 (hO x) - cum A b c r (hO x)) := by
  have e : stack v27 v154 v181 v184 v185 ⟨256 + r.val, by omega⟩ (ln (hO x)) = Ideal.exp (cum A b c 127 (hO x) - cum A b c r (hO x)) := by
    unfold stack
    rw [dif_neg (show ¬256 + r.val < 128 by omega), dif_neg (show ¬256 + r.val - 128 < 128 by omega), dif_pos (show 256 + r.val - 128 - 128 < 128 by omega), ← e184]
    congr 2
    exact Fin.ext (show 256 + r.val - 128 - 128 = r.val by omega)
  pointwise [k0_pay44]
  rw [rep_apply _ _ _ _ _ _ _ (e ▸ exp_rest b c r (hO x) H 127), e]

include H e185 in
theorem rep_cd : k0_pay45 (F := Ideal) v27 v154 v181 v184 v185 k0_pay41 (ix2 0 x) = Ideal.exp (cum A b c 127 (hO x)) := by
  have e : stack v27 v154 v181 v184 v185 384 (ln (hO x)) = Ideal.exp (cum A b c 127 (hO x)) := e185 (hO x)
  have e0 : k0_pay45 (F := Ideal) v27 v154 v181 v184 v185 k0_pay41 (ix2 0 x) = k0_pay42 (F := Ideal) v27 v154 v181 v184 v185 k0_pay41 (ix2 384 x) := by
    (pointwise [k0_pay45]) <;> rfl
  rw [e0, rep_apply _ _ _ _ _ _ _ (e ▸ exp_cum b c 127 (hO x) H), e]

include H e27 in
theorem rep_skip : k0_pay46 (F := Ideal) v27 v154 v181 v184 v185 k0_pay41 (ix2 0 x) = A.a5 (ix2 0 (hO x)) := by
  have e : stack v27 v154 v181 v184 v185 385 (ln (hO x)) = A.a5 (ix2 0 (hO x)) := e27 (hO x)
  have e0 : k0_pay46 (F := Ideal) v27 v154 v181 v184 v185 k0_pay41 (ix2 0 x) = k0_pay42 (F := Ideal) v27 v154 v181 v184 v185 k0_pay41 (ix2 385 x) := by
    (pointwise [k0_pay46]) <;> rfl
  rw [e0, rep_apply _ _ _ _ _ _ _ (e ▸ H.f5 _), e]

include H e154 in
theorem xdt_apply (v139 : Vec Ideal S128x1024 .f32) (e139 : ∀ r k, v139 (ix2 r k) = X A b (tm c r) k) :
    k0_pay47 (F := Ideal) v27 v139 v154 v181 v184 v185 k0_pay41 (ix2 r x) = xdt A b c r x := by
  have e0 : k0_pay47 (F := Ideal) v27 v139 v154 v181 v184 v185 k0_pay41 (ix2 r x)
      = v139 (ix2 r x) * k0_pay42 (F := Ideal) v27 v154 v181 v184 v185 k0_pay41 (ix2 ⟨0 + r.val, by omega⟩ x) := by
    (pointwise [k0_pay47]) <;> rfl
  rw [e0, rep_dt v27 v154 v181 v184 v185 A b c H e154, e139]
  rfl

end Rep

/-! ## A head inside a chunk -/

section Heads

variable (v163 : IVec S128x128 1) (v178 v179 : FVec Ideal S128x128 .f32) (v232 : FVec Ideal S128x1024 .f32) (v237 : FVec Ideal S128x128 .f32) (r : Fin 128) (x : Fin 64)

/-- A head's rows inside the chunk. -/
def hd (h : Fin 16) : EReal :=
  ∑ q : Fin 128, Scalar.select (v163 (ix2 r q))
    (v237 (ix2 r q) * Ideal.exp (min (v178 (ix2 r (ln h)) - v179 (ix2 (ln h) q)) 0) * v232 (ix2 q ⟨64 * h.val + x.val, by omega⟩)) 0

theorem hd1 : k0_pay53 (F := Ideal) v163 v232 v237 (k0_pay52 v178 v179) (ix2 r x) = hd v163 v178 v179 v232 v237 r x 1 := by
  (pointwise [k0_pay53, k0_pay52]) <;> rfl
theorem hd2 : k0_pay54 (F := Ideal) v163 v178 v179 v232 v237 (ix2 r x) = hd v163 v178 v179 v232 v237 r x 2 := by
  (pointwise [k0_pay54]) <;> rfl
theorem hd3 : k0_pay56 (F := Ideal) (k0_pay55 v163 v178 v179 v232 v237) (ix2 r x) = hd v163 v178 v179 v232 v237 r x 3 := by
  (pointwise [k0_pay56, k0_pay55]) <;> rfl
theorem hd4 : k0_pay57 (F := Ideal) v163 v178 v179 v232 v237 (ix2 r x) = hd v163 v178 v179 v232 v237 r x 4 := by
  (pointwise [k0_pay57]) <;> rfl
theorem hd5 : k0_pay58 (F := Ideal) v163 v178 v179 v232 v237 (ix2 r x) = hd v163 v178 v179 v232 v237 r x 5 := by
  (pointwise [k0_pay58]) <;> rfl
theorem hd7 : k0_pay61 (F := Ideal) v163 v178 v179 v232 v237 (ix2 r x) = hd v163 v178 v179 v232 v237 r x 7 := by
  (pointwise [k0_pay61]) <;> rfl
theorem hd10 : k0_pay71 (F := Ideal) v163 v232 v237 (k0_pay70 v178 v179) (ix2 r x) = hd v163 v178 v179 v232 v237 r x 10 := by
  (pointwise [k0_pay71, k0_pay70]) <;> rfl
theorem hd15 : k0_pay78 (F := Ideal) v163 v232 v237 (k0_pay77 v178 v179) (ix2 r x) = hd v163 v178 v179 v232 v237 r x 15 := by
  (pointwise [k0_pay78, k0_pay77]) <;> rfl
theorem hd6 : k0_pay60 (F := Ideal) v163 v232 v237 (k0_pay59 v178 v179) (ix2 r x) = hd v163 v178 v179 v232 v237 r x 6 := by
  (pointwise [k0_pay60, k0_pay59]) <;> rfl
theorem hd11 : k0_pay72 (F := Ideal) v163 v178 v179 v232 v237 (ix2 r x) = hd v163 v178 v179 v232 v237 r x 11 := by
  (pointwise [k0_pay72]) <;> rfl
theorem hd12 : k0_pay74 (F := Ideal) (k0_pay73 v163 v178 v179 v232 v237) (ix2 r x) = hd v163 v178 v179 v232 v237 r x 12 := by
  (pointwise [k0_pay74, k0_pay73]) <;> rfl
theorem hd13 : k0_pay75 (F := Ideal) v163 v178 v179 v232 v237 (ix2 r x) = hd v163 v178 v179 v232 v237 r x 13 := by
  (pointwise [k0_pay75]) <;> rfl
theorem hd14 : k0_pay76 (F := Ideal) v163 v178 v179 v232 v237 (ix2 r x) = hd v163 v178 v179 v232 v237 r x 14 := by
  (pointwise [k0_pay76]) <;> rfl
theorem hd8 (v397 : FVec Ideal S128x128 .f32) (v399 : FVec Ideal S128x128 .bf16) :
    k0_pay68 (F := Ideal) v163 v178 v179 v232 v397 v399 (ix2 r x) = hd v163 v178 v179 v232 (k0_pay67 v397 v399) r x 8 := by
  (pointwise [k0_pay68]) <;> rfl
theorem hd9 (v397 : FVec Ideal S128x128 .f32) (v399 : FVec Ideal S128x128 .bf16) :
    k0_pay69 (F := Ideal) v163 v178 v179 v232 v397 v399 (ix2 r x) = hd v163 v178 v179 v232 (k0_pay67 v397 v399) r x 9 := by
  (pointwise [k0_pay69]) <;> rfl
theorem hd0 (v27 : FVec Ideal S8x128 .f32) (v139 : FVec Ideal S128x1024 .f32) (v140 v141 : FVec Ideal S128x256 .f32) (v154 v181 v184 : FVec Ideal S128x128 .f32)
    (v185 : FVec Ideal S1x128 .f32) (v213 : IVec S128x1024 32) :
    k0_pay51 (F := Ideal) v27 v139 v140 v141 v154 v163 v178 v179 v181 v184 v185 v213 (ix2 r x)
      = hd v163 v178 v179 (k0_pay47 v27 v139 v154 v181 v184 v185 v213) (k0_pay50 v140 v141) r x 0 := by
  pointwise [k0_pay51]
  unfold hd
  refine Finset.sum_congr rfl fun q _ => ?_
  have er : (⟨64 * (0 : Fin 16).val + x.val, by have := x.isLt; show 64 * 0 + x.val < 1024; omega⟩ : Fin 1024) = ⟨x.val, by omega⟩ := Fin.ext (show 64 * 0 + x.val = x.val by omega)
  rw [er]
  rfl

variable (A : Args) (b : Fin 2) (c : Fin 16) (H : Fin' A) (g : Fin 2)
  (e178 : ∀ r h, v178 (ix2 r (ln h)) = cum A b c r h) (e179 : ∀ q h, v179 (ix2 (ln h) q) = cum A b c q h) (e232 : ∀ r k, v232 (ix2 r k) = xdt A b c r k)
  (e237 : ∀ r q, v237 (ix2 r q) = sc A b c r g q)

include H e178 e179 e232 e237 in
theorem hd_eq (h : Fin 16) (hg : h.val / 8 = g.val) : hd k0_pay34 v178 v179 v232 v237 r x h = yd A b c r ⟨64 * h.val + x.val, by omega⟩ := by
  have hh : hO ⟨64 * h.val + x.val, by omega⟩ = h := Fin.ext (show (64 * h.val + x.val) / 64 = h.val by omega)
  have hgg : gO ⟨64 * h.val + x.val, by omega⟩ = g := Fin.ext (show (64 * h.val + x.val) / 512 = g.val by omega)
  unfold hd yd
  refine Finset.sum_congr rfl fun q _ => ?_
  rw [mask_apply, e178, e179, e232, e237, hh, hgg]
  unfold lm
  by_cases hq : q ≤ r
  · rw [if_pos hq, decide_eq_true hq, lm_min b c r h H q hq]
    rfl
  · rw [if_neg hq, decide_eq_false hq, mul_zero, zero_mul]
    rfl

end Heads

/-! ## Across chunks, the gate and the norm -/

theorem gN_lt (g : Fin 2) (n : Fin 128) : g.val * 128 + n.val < 256 := by omega

section State

variable (v140 v141 : Vec Ideal S128x256 .f32) (A : Args) (b : Fin 2) (c : Fin 16)
  (e140 : ∀ r (g : Fin 2) (n : Fin 128), v140 (ix2 r ⟨g.val * 128 + n.val, gN_lt g n⟩) = Bm A b (tm c r) g n)
  (e141 : ∀ r (g : Fin 2) (n : Fin 128), v141 (ix2 r ⟨g.val * 128 + n.val, gN_lt g n⟩) = Cm A b (tm c r) g n)

include e140 in
theorem B0 (r n : Fin 128) : k0_pay48 (F := Ideal) v140 (ix2 r n) = Bm A b (tm c r) 0 n := by
  rw [← e140]
  have e : k0_pay48 (F := Ideal) v140 (ix2 r n) = v140 (ix2 r ⟨n.val, by omega⟩) := by (pointwise [k0_pay48]) <;> rfl
  rw [e]
  congr 2
  exact Fin.ext (show n.val = 0 * 128 + n.val by omega)

include e141 in
theorem C0 (r n : Fin 128) : k0_pay49 (F := Ideal) v141 (ix2 r n) = Cm A b (tm c r) 0 n := by
  rw [← e141]
  have e : k0_pay49 (F := Ideal) v141 (ix2 r n) = v141 (ix2 r ⟨n.val, by omega⟩) := by (pointwise [k0_pay49]) <;> rfl
  rw [e]
  congr 2
  exact Fin.ext (show n.val = 0 * 128 + n.val by omega)

include e140 in
theorem B1 (r n : Fin 128) : k0_pay64 (F := Ideal) v140 (ix2 r n) = Bm A b (tm c r) 1 n := by
  rw [← e140]
  have e : k0_pay64 (F := Ideal) v140 (ix2 r n) = v140 (ix2 r ⟨128 + n.val, by omega⟩) := by (pointwise [k0_pay64]) <;> rfl
  rw [e]
  congr 2

include e141 in
theorem C1 (r n : Fin 128) : k0_pay65 (F := Ideal) v141 (ix2 r n) = Cm A b (tm c r) 1 n := by
  rw [← e141]
  have e : k0_pay65 (F := Ideal) v141 (ix2 r n) = v141 (ix2 r ⟨128 + n.val, by omega⟩) := by (pointwise [k0_pay65]) <;> rfl
  rw [e]
  congr 2

include e140 e141 in
theorem sc0 (r q : Fin 128) : k0_pay50 (F := Ideal) v140 v141 (ix2 r q) = sc A b c r 0 q := by
  pointwise [k0_pay50]
  exact Finset.sum_congr rfl fun n _ => by rw [C0 v141 A b c e141, B0 v140 A b c e140]

include e140 e141 in
theorem sc1 (r q : Fin 128) : k0_pay67 (F := Ideal) (k0_pay64 v140) (k0_pay66 v141) (ix2 r q) = sc A b c r 1 q := by
  pointwise [k0_pay67, k0_pay66]
  exact Finset.sum_congr rfl fun n _ => by rw [C1 v141 A b c e141, B1 v140 A b c e140]

variable (v10 v12 : Vec Ideal S128x512 .f32) (e10 : ∀ n q, v10 (ix2 n q) = hs A b c.val (kO 0 q) n) (e12 : ∀ n q, v12 (ix2 n q) = hs A b c.val (kO 1 q) n)
  (v228 v229 v232 : Vec Ideal S128x1024 .f32) (v230 v231 : Vec Ideal S1x1024 .f32) (e228 : ∀ r x, v228 (ix2 r x) = Ideal.exp (cum A b c r (hO x)))
  (e229 : ∀ r x, v229 (ix2 r x) = Ideal.exp (cum A b c 127 (hO x) - cum A b c r (hO x))) (e230 : ∀ x, v230 (ix2 0 x) = Ideal.exp (cum A b c 127 (hO x)))
  (e231 : ∀ x, v231 (ix2 0 x) = A.a5 (ix2 0 (hO x))) (e232 : ∀ r k, v232 (ix2 r k) = xdt A b c r k)

theorem kO0 (q : Fin 512) : (⟨q.val, by omega⟩ : Fin 1024) = kO 0 q := Fin.ext (show q.val = 0 * 512 + q.val by omega)
theorem kO1 (q : Fin 512) : (⟨512 + q.val, by omega⟩ : Fin 1024) = kO 1 q := Fin.ext (show 512 + q.val = 1 * 512 + q.val by omega)
theorem cF_c : cF c.val = c := Fin.ext (show c.val % 16 = c.val by omega)

include e141 e10 e228 in
theorem yo0 (r : Fin 128) (q : Fin 512) : k0_pay62 (F := Ideal) v10 v228 (k0_pay49 v141) (ix2 r q) = yo A b c r (kO 0 q) := by
  have e : k0_pay62 (F := Ideal) v10 v228 (k0_pay49 v141) (ix2 r q)
      = (∑ n : Fin 128, k0_pay49 (F := Ideal) v141 (ix2 r n) * v10 (ix2 n q)) * v228 (ix2 r ⟨q.val, by omega⟩) := by (pointwise [k0_pay62]) <;> rfl
  rw [e, e228, kO0]
  unfold yo
  rw [kO_h]
  congr 1
  exact Finset.sum_congr rfl fun n _ => by rw [C0 v141 A b c e141, e10]

include e140 e10 e229 e230 e232 in
theorem next0 (n : Fin 128) (q : Fin 512) : k0_pay63 (F := Ideal) v10 v229 v230 v232 (k0_pay48 v140) (ix2 n q) = hs A b (c.val + 1) (kO 0 q) n := by
  have e : k0_pay63 (F := Ideal) v10 v229 v230 v232 (k0_pay48 v140) (ix2 n q)
      = v10 (ix2 n q) * v230 (ix2 0 ⟨q.val, by omega⟩)
        + ∑ l : Fin 128, k0_pay48 (F := Ideal) v140 (ix2 l n) * (v232 (ix2 l ⟨q.val, by omega⟩) * v229 (ix2 l ⟨q.val, by omega⟩)) := by (pointwise [k0_pay63]) <;> rfl
  rw [e, e10, e230, kO0]
  have es : hs A b (c.val + 1) (kO 0 q) n
      = hs A b c.val (kO 0 q) n * Ideal.exp (cum A b (cF c.val) 127 (hO (kO 0 q))) + st A b (cF c.val) n (kO 0 q) := rfl
  rw [es]
  unfold st
  rw [cF_c, kO_h]
  congr 1
  exact Finset.sum_congr rfl fun l _ => by rw [B0 v140 A b c e140, e232, e229, mul_comm]

include e140 e12 e229 e230 e232 in
theorem next1 (n : Fin 128) (q : Fin 512) : k0_pay79 (F := Ideal) v12 v229 v230 v232 (k0_pay64 v140) (ix2 n q) = hs A b (c.val + 1) (kO 1 q) n := by
  have e : k0_pay79 (F := Ideal) v12 v229 v230 v232 (k0_pay64 v140) (ix2 n q)
      = v12 (ix2 n q) * v230 (ix2 0 ⟨512 + q.val, by omega⟩)
        + ∑ l : Fin 128, k0_pay64 (F := Ideal) v140 (ix2 l n) * (v232 (ix2 l ⟨512 + q.val, by omega⟩) * v229 (ix2 l ⟨512 + q.val, by omega⟩)) := by
    (pointwise [k0_pay79]) <;> rfl
  rw [e, e12, e230, kO1]
  have es : hs A b (c.val + 1) (kO 1 q) n
      = hs A b c.val (kO 1 q) n * Ideal.exp (cum A b (cF c.val) 127 (hO (kO 1 q))) + st A b (cF c.val) n (kO 1 q) := rfl
  rw [es]
  unfold st
  rw [cF_c, kO_h]
  congr 1
  exact Finset.sum_congr rfl fun l _ => by rw [B1 v140 A b c e140, e232, e229, mul_comm]

variable (v6 v139 v561 : Vec Ideal S128x1024 .f32) (v392 : Vec Ideal S128x512 .f32) (e6 : ∀ r k, v6 (ix2 r k) = z A b (tm c r) k)
  (e139 : ∀ r k, v139 (ix2 r k) = X A b (tm c r) k) (e561 : ∀ r k, v561 (ix2 r k) = yd A b c r k) (e392 : ∀ r q, v392 (ix2 r q) = yo A b c r (kO 0 q))

/-- The gated rows. -/
def kyz : Vec Ideal S128x1024 .f32 := k0_pay80 (F := Ideal) v6 v12 v139 v228 v231 v392 (k0_pay65 v141) v561

include e141 e12 e228 e231 e6 e139 e561 e392 in
theorem yz_apply (r : Fin 128) (k : Fin 1024) : kyz v141 v12 v228 v231 v6 v139 v561 v392 (ix2 r k) = yz A b c r k := by
  have e : kyz v141 v12 v228 v231 v6 v139 v561 v392 (ix2 r k)
      = (v561 (ix2 r k) + (if h : k.val < 512 then v392 (ix2 r ⟨k.val, h⟩) else
            (∑ n : Fin 128, k0_pay65 (F := Ideal) v141 (ix2 r n) * v12 (ix2 n ⟨k.val - 512, by omega⟩)) * v228 (ix2 r ⟨512 + (k.val - 512), by omega⟩))
          + v231 (ix2 0 k) * v139 (ix2 r k)) * (v6 (ix2 r k) * Ideal.div 1 (1 + Ideal.exp (0 - v6 (ix2 r k)))) := by
    (pointwise [kyz, k0_pay80]) <;> rfl
  have eo : (if h : k.val < 512 then v392 (ix2 r ⟨k.val, h⟩) else
      (∑ n : Fin 128, k0_pay65 (F := Ideal) v141 (ix2 r n) * v12 (ix2 n ⟨k.val - 512, by omega⟩)) * v228 (ix2 r ⟨512 + (k.val - 512), by omega⟩)) = yo A b c r k := by
    by_cases h : k.val < 512
    · rw [dif_pos h, e392]
      congr 1
      exact Fin.ext (show 0 * 512 + k.val = k.val by omega)
    · have ek : kO 1 ⟨k.val - 512, by omega⟩ = k := Fin.ext (show 1 * 512 + (k.val - 512) = k.val by omega)
      have ek' : (⟨512 + (k.val - 512), by omega⟩ : Fin 1024) = k := Fin.ext (show 512 + (k.val - 512) = k.val by omega)
      have eg : gO k = 1 := Fin.ext (show k.val / 512 = 1 by omega)
      rw [dif_neg h, ek', e228]
      unfold yo
      rw [eg]
      congr 1
      exact Finset.sum_congr rfl fun n _ => by rw [C1 v141 A b c e141, e12, ek]
  rw [e, eo, e561, e231, e139, e6, zero_sub]
  rfl

/-- A group's mean square, its number and the rows as they leave. -/
def ksq : Vec Ideal S128x1 .f32 := k0_pay81 (F := Ideal) v6 v12 v139 v228 v231 v392 (k0_pay65 v141) v561

theorem ksq_apply (r : Fin 128) : ksq v141 v12 v228 v231 v6 v139 v561 v392 (ix2 r 0)
    = ∑ q : Fin 512, kyz v141 v12 v228 v231 v6 v139 v561 v392 (ix2 r ⟨q.val, by omega⟩) * kyz v141 v12 v228 v231 v6 v139 v561 v392 (ix2 r ⟨q.val, by omega⟩) := by
  (pointwise [ksq, k0_pay81]) <;> rfl

theorem norm_apply (v28 : Vec Ideal S1x1024 .f32) (v575 : Vec Ideal S128x1024 .f32) (v580 v581 : Vec Ideal S128x1 .f32) (r : Fin 128) (k : Fin 1024) :
    k0_pay84 (F := Ideal) v28 v575 v580 v581 (ix2 r k)
      = (if h : k.val < 512 then v575 (ix2 r ⟨k.val, by omega⟩) * Ideal.rsqrt (Ideal.div (v580 (ix2 r 0)) (v581 (ix2 r 0)) + Ideal.ofBits .f32 0x3727C5AC#32)
          else v575 (ix2 r ⟨512 + (k.val - 512), by omega⟩) * Ideal.rsqrt (Ideal.div (∑ q : Fin 512, v575 (ix2 r ⟨512 + q.val, by omega⟩) * v575 (ix2 r ⟨512 + q.val, by omega⟩))
            (Ideal.ofBits .f32 0x44000000#32) + Ideal.ofBits .f32 0x3727C5AC#32)) * v28 (ix2 0 k) := by
  (pointwise [k0_pay84]) <;> rfl

include e141 e12 e228 e231 e6 e139 e561 e392 in
theorem ys_apply (v28 : Vec Ideal S1x1024 .f32) (e28 : ∀ k, v28 (ix2 0 k) = A.a6 (ix2 0 k)) (r : Fin 128) (k : Fin 1024) :
    k0_pay84 (F := Ideal) v28 (kyz v141 v12 v228 v231 v6 v139 v561 v392) (ksq v141 v12 v228 v231 v6 v139 v561 v392) k0_pay82 (ix2 r k) = ys A b c r k := by
  have ey := yz_apply v141 A b c e141 v12 e12 v228 v231 e228 e231 v6 v139 v561 v392 e6 e139 e561 e392
  have e82 : k0_pay82 (F := Ideal) (ix2 r 0) = Ideal.ofBits .f32 0x44000000#32 := by (pointwise [k0_pay82]) <;> rfl
  rw [norm_apply, e28, ksq_apply, e82]
  simp only [ey]
  unfold ys var
  congr 1
  by_cases h : k.val < 512
  · have eg : gO k = 0 := Fin.ext (show k.val / 512 = 0 by omega)
    rw [dif_pos h, eg]
    congr 5
    funext q
    have eq : (⟨q.val, by omega⟩ : Fin 1024) = ⟨(0 : Fin 2).val * 512 + q.val, by have := q.isLt; show 0 * 512 + q.val < 1024; omega⟩ := Fin.ext (show q.val = 0 * 512 + q.val by omega)
    rw [eq]
  · have eg : gO k = 1 := Fin.ext (show k.val / 512 = 1 by omega)
    have ek' : (⟨512 + (k.val - 512), by omega⟩ : Fin 1024) = k := Fin.ext (show 512 + (k.val - 512) = k.val by omega)
    rw [dif_neg h, eg, ek']
    congr 5

end State

end Cert.FwdKernel
end
-- ==== Proof.FwdPoint.lean ====
module

public import proofs.«01_k».proof.Proof.Gen.KernelFwdIdeal.Value
public import proofs.«01_k».proof.Proof.FwdRows
public import Idealize.ShloMosaic.Lib.Pointwise
public import Idealize.ShloMosaic.Lib.Pipeline.ValueKit
public import Idealize.ShloMosaic.Lib.StableHlo.ReadAt
public import Idealize.ShloMosaic.Lib.KernelVsHost
public import Idealize.ShloMosaic.Lib.Pipeline.ReadBack

@[expose] public section

set_option maxRecDepth 16384
noncomputable section

/-! What a point of the fused forward kernel reads. -/

namespace Cert.FwdKernel

open Cert.KernelFwdIdeal Cert.KernelFwdIdeal.Gen Idealize.ShloMosaic Idealize.ShloMosaic.TcCoe Idealize.SL.Sem
open Idealize.ShloMosaic.Pipeline (Dat)
open Cert.FwdSpec

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0, 0] ∧ win0_6.index t = ![0, 0]
    ∧ win0_7.index t = ![t.val, 0] ∧ win0_8.index t = ![t.val / 16, t.val % 16, 0, 0, 0] ∧ win0_9.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0, 0] ∧ win0_6.index t = ![0, 0]
    ∧ win0_7.index t = ![t.val, 0] ∧ win0_8.index t = ![t.val / 16, t.val % 16, 0, 0, 0] ∧ win0_9.index t = ![t.val, 0])

/-- The argument arrays of a launch. -/
abbrev ar (c : Dev nD) : Args :=
  ⟨m (c.tc.loc main_arg0), m (c.tc.loc main_arg1), m (c.tc.loc main_arg2), m (c.tc.loc main_arg3), m (c.tc.loc main_arg4), m (c.tc.loc main_arg5), m (c.tc.loc main_arg6), m (c.tc.loc main_arg7), m (c.tc.loc main_arg8)⟩

theorem sitofp0 (φ : FTy) : FloatOps.sitofp (F := Ideal) φ (0#32) = 0 := by simp [FloatOps.sitofp]

/-- An index of an axis of one. -/
theorem one (a : ℕ) (h : a < 1) : (⟨a, h⟩ : Fin 1) = 0 := Subsingleton.elim _ _

theorem V1 (c : Dev nD) (R : Fin 4096) (k : Fin 3200) :
    (V m c main_v1 : S4096x3200.Idx → EReal) (ix2 R k)
      = if h : k.val < 3088 then (ar m c).a0 (ix3 ⟨R.val / 2048, by omega⟩ ⟨R.val % 2048, by omega⟩ ⟨k.val, h⟩) else 0 := by
  unfold V
  after_reads_at
  rw [sitofp0]

theorem V4 (c : Dev nD) (i : Fin 4) (k : Fin 1536) : (V m c main_v4 : S4x1536.Idx → EReal) (ix2 i k) = (ar m c).a1 (ix3 0 i k) := by
  unfold V
  after_reads_at

theorem V5 (c : Dev nD) (w : Fin 4) (q x : Fin 128) : (V m c main_v5 : S4x128x128.Idx → EReal) (ix3 w q x) = (ar m c).a7 (ix4 0 w q x) := by
  unfold V
  after_reads_at

theorem early (c : Dev nD) : StableHlo.upto [hostOps0, hostOps0_1, hostOps0_2, hostOps0_3, hostOps0_4].flatten (fun b => m (c, b)) 4 (Proc.tc.devRef main_arg3) = (ar m c).a3
    ∧ StableHlo.upto [hostOps0, hostOps0_1, hostOps0_2, hostOps0_3, hostOps0_4].flatten (fun b => m (c, b)) 4 (Proc.tc.devRef main_arg4) = (ar m c).a4
    ∧ StableHlo.upto [hostOps0, hostOps0_1, hostOps0_2, hostOps0_3, hostOps0_4].flatten (fun b => m (c, b)) 4 (Proc.tc.devRef main_arg5) = (ar m c).a5 := by
  refine ⟨?_, ?_, ?_⟩ <;> (unfold StableHlo.upto; after_reads_simp)

theorem V3 (c : Dev nD) (r : Fin 8) (l : Fin 128) : (V m c main_v3 : S8x128.Idx → EReal) (ix2 r l)
    = if h : r.val < 3 ∧ l.val < 16 then (if h1 : r.val < 1 then (ar m c).a3 (ix2 ⟨r.val, h1⟩ ⟨l.val, h.2⟩) else if h2 : r.val - 1 < 1 then (ar m c).a4 (ix2 ⟨r.val - 1, h2⟩ ⟨l.val, h.2⟩)
      else (ar m c).a5 (ix2 ⟨r.val - 1 - 1, by omega⟩ ⟨l.val, h.2⟩)) else 0 := by
  unfold V
  after_reads_at
  rw [sitofp0, (early m c).1, (early m c).2.1, (early m c).2.2]

theorem fin_N (t : Fin cfg0.N) : t.val < 32 := lt_of_lt_of_eq t.isLt N_0

/-- The batch and the chunk of a grid point, and its rows. -/
def bP (t : Fin cfg0.N) : Fin 2 := ⟨t.val / 16, by have := fin_N t; omega⟩
def cP (t : Fin cfg0.N) : Fin 16 := ⟨t.val % 16, by omega⟩
def rP (t : Fin cfg0.N) (r : Fin 128) : Fin 4096 := ⟨128 * t.val + r.val, by have := fin_N t; omega⟩

theorem rP_b (t : Fin cfg0.N) (r : Fin 128) (h) : (⟨(rP t r).val / 2048, h⟩ : Fin 2) = bP t :=
  Fin.ext (by show (128 * t.val + r.val) / 2048 = t.val / 16; omega)
theorem rP_s (t : Fin cfg0.N) (r : Fin 128) (h) : (⟨(rP t r).val % 2048, h⟩ : Fin 2048) = tm (cP t) r :=
  Fin.ext (by show (128 * t.val + r.val) % 2048 = t.val % 16 * 128 + r.val; omega)

variable (c : Dev nD) (t : Fin cfg0.N)

theorem blk0 (r : Fin 128) (k : Fin 3200) (h : k.val < 3088) : iblk m c 0 t (ix2 r k) = (ar m c).a0 (ix3 (bP t) (tm (cP t) r) ⟨k.val, h⟩) := by
  have : iblk m c 0 t (ix2 r k) = V m c main_v1 (ix2 (rP t r) k) := by blk_ext [iblk, idx t, rP]
  rw [this, V1, dif_pos h, rP_b, rP_s]

theorem blk1 (i : Fin 4) (k : Fin 1536) : iblk m c 1 t (ix2 i k) = (ar m c).a1 (ix3 0 i k) := by
  have : iblk m c 1 t (ix2 i k) = V m c main_v4 (ix2 i k) := by blk_ext [iblk, idx t]
  rw [this, V4]

theorem blk2 (k : Fin 1536) : iblk m c 2 t (ix2 0 k) = (ar m c).a2 (ix2 0 k) := by
  have : iblk m c 2 t (ix2 0 k) = V m c main_arg2 (ix2 0 k) := by blk_ext [iblk, idx t]
  rw [this]
  unfold V
  after_reads_at

theorem blk3 (r : Fin 8) (l : Fin 128) : iblk m c 3 t (ix2 r l) = V m c main_v3 (ix2 r l) := by blk_ext [iblk, idx t]

theorem blk4 (k : Fin 1024) : iblk m c 4 t (ix2 0 k) = (ar m c).a6 (ix2 0 k) := by
  have : iblk m c 4 t (ix2 0 k) = V m c main_arg6 (ix2 0 k) := by blk_ext [iblk, idx t]
  rw [this]
  unfold V
  after_reads_at

theorem blk5 (w : Fin 4) (q x : Fin 128) : iblk m c 5 t (ix3 w q x) = (ar m c).a7 (ix4 0 w q x) := by
  have : iblk m c 5 t (ix3 w q x) = V m c main_v5 (ix3 w q x) := by blk_ext [iblk, idx t]
  rw [this, V5]

theorem blk6 (k : Fin 512) : iblk m c 6 t (ix2 0 k) = (ar m c).a8 (ix2 0 k) := by
  have : iblk m c 6 t (ix2 0 k) = V m c main_arg8 (ix2 0 k) := by blk_ext [iblk, idx t]
  rw [this]
  unfold V
  after_reads_at

end Cert.FwdKernel
end
-- ==== Proof.FwdBody.lean ====
module

public import proofs.«01_k».proof.Proof.Gen.KernelFwdIdeal.Value
public import proofs.«01_k».proof.Proof.FwdPoint
public import Idealize.ShloMosaic.Lib.Pointwise
public import Idealize.ShloMosaic.Lib.Pipeline.ValueKit
public import Idealize.ShloMosaic.Lib.StableHlo.ReadAt
public import Idealize.ShloMosaic.Lib.KernelVsHost
public import Idealize.ShloMosaic.Lib.Pipeline.ReadBack

@[expose] public section

set_option maxRecDepth 16384
noncomputable section

/-! What a point of the fused forward kernel leaves. -/

namespace Cert.FwdKernel

open Cert.KernelFwdIdeal Cert.KernelFwdIdeal.Gen Idealize.ShloMosaic Idealize.ShloMosaic.TcCoe Idealize.SL.Sem
open Idealize.ShloMosaic.Pipeline (Dat)
open Cert.FwdSpec

/-! ## Sixteen blocks of columns, and two -/

section Blocks

variable {Val : EltTy → Type} {e : EltTy} [∀ e, Nonempty (Val e)]

/-- The stores of sixteen blocks of columns, the last first. -/
abbrev pieces (w : Fin 16 → S128x64.Idx → Val e) : List (View.Piece Val S128x1024 e) :=
  [⟨Rect.unit ![0, 960] ![128, 64] inb_S128x1024_S128x64_0_960, w 15⟩,
    ⟨Rect.unit ![0, 896] ![128, 64] inb_S128x1024_S128x64_0_896, w 14⟩,
    ⟨Rect.unit ![0, 832] ![128, 64] inb_S128x1024_S128x64_0_832, w 13⟩,
    ⟨Rect.unit ![0, 768] ![128, 64] inb_S128x1024_S128x64_0_768, w 12⟩,
    ⟨Rect.unit ![0, 704] ![128, 64] inb_S128x1024_S128x64_0_704, w 11⟩,
    ⟨Rect.unit ![0, 640] ![128, 64] inb_S128x1024_S128x64_0_640, w 10⟩,
    ⟨Rect.unit ![0, 576] ![128, 64] inb_S128x1024_S128x64_0_576, w 9⟩,
    ⟨Rect.unit ![0, 512] ![128, 64] inb_S128x1024_S128x64_0_512, w 8⟩,
    ⟨Rect.unit ![0, 448] ![128, 64] inb_S128x1024_S128x64_0_448, w 7⟩,
    ⟨Rect.unit ![0, 384] ![128, 64] inb_S128x1024_S128x64_0_384, w 6⟩,
    ⟨Rect.unit ![0, 320] ![128, 64] inb_S128x1024_S128x64_0_320, w 5⟩,
    ⟨Rect.unit ![0, 256] ![128, 64] inb_S128x1024_S128x64_0_256, w 4⟩,
    ⟨Rect.unit ![0, 192] ![128, 64] inb_S128x1024_S128x64_0_192, w 3⟩,
    ⟨Rect.unit ![0, 128] ![128, 64] inb_S128x1024_S128x64_0_128, w 2⟩,
    ⟨Rect.unit ![0, 64] ![128, 64] inb_S128x1024_S128x64_0_64, w 1⟩,
    ⟨Rect.unit ![0, 0] ![128, 64] inb_S128x1024_S128x64_0_0, w 0⟩]

theorem pieces_cover (w : Fin 16 → S128x64.Idx → Val e) (y : S128x1024.Idx) : ∃ p ∈ pieces w, y ∈ p.1.set :=
  View.cover_of_tiled (pieces w) ![128, 64] rfl y

theorem canon_pieces (w : Fin 16 → S128x64.Idx → Val e) (g : Fin 128 → Fin 1024 → Val e) (h : ∀ (j : Fin 16) r (x : Fin 64), w j (ix2 r x) = g r ⟨64 * j.val + x.val, by omega⟩) :
    View.canon (pieces w) = fun y => g (y 0) (y 1) := by
  funext y
  refine View.canon_apply_of_pieces (fun y => g (y 0) (y 1)) (pieces w) ?_ y (pieces_cover w y)
  have k : ∀ (j : Fin 16) (o : ℕ) (inb) (ho : o = 64 * j.val) (x : S128x64.Idx),
      w j x = g (((Rect.unit (s := S128x1024) ![0, o] ![128, 64] inb).emb x) 0) (((Rect.unit (s := S128x1024) ![0, o] ![128, 64] inb).emb x) 1) := fun j o inb ho x => by
    obtain ⟨r, z, rfl⟩ : ∃ (r : Fin 128) (z : Fin 64), x = ix2 r z := ⟨x 0, x 1, eq_ix2 x⟩
    rw [h]
    refine congrArg₂ g (Fin.ext ?_) (Fin.ext ?_)
    · show r.val = 0 + 1 * r.val
      omega
    · show 64 * j.val + z.val = o + 1 * z.val
      omega
  intro p hp
  simp only [List.mem_cons, List.not_mem_nil, or_false] at hp
  rcases hp with rfl | rfl | rfl | rfl | rfl | rfl | rfl | rfl | rfl | rfl | rfl | rfl | rfl | rfl | rfl | rfl
  · exact k 15 960 inb_S128x1024_S128x64_0_960 rfl
  · exact k 14 896 inb_S128x1024_S128x64_0_896 rfl
  · exact k 13 832 inb_S128x1024_S128x64_0_832 rfl
  · exact k 12 768 inb_S128x1024_S128x64_0_768 rfl
  · exact k 11 704 inb_S128x1024_S128x64_0_704 rfl
  · exact k 10 640 inb_S128x1024_S128x64_0_640 rfl
  · exact k 9 576 inb_S128x1024_S128x64_0_576 rfl
  · exact k 8 512 inb_S128x1024_S128x64_0_512 rfl
  · exact k 7 448 inb_S128x1024_S128x64_0_448 rfl
  · exact k 6 384 inb_S128x1024_S128x64_0_384 rfl
  · exact k 5 320 inb_S128x1024_S128x64_0_320 rfl
  · exact k 4 256 inb_S128x1024_S128x64_0_256 rfl
  · exact k 3 192 inb_S128x1024_S128x64_0_192 rfl
  · exact k 2 128 inb_S128x1024_S128x64_0_128 rfl
  · exact k 1 64 inb_S128x1024_S128x64_0_64 rfl
  · exact k 0 0 inb_S128x1024_S128x64_0_0 rfl

theorem read_pieces {sig : RefSig} {κ : Kind} {sp : Space} (v : View sig κ sp S128x1024 e) (w : Fin 16 → S128x64.Idx → Val e) (g : Fin 128 → Fin 1024 → Val e)
    (h : ∀ (j : Fin 16) r (x : Fin 64), w j (ix2 r x) = g r ⟨64 * j.val + x.val, by omega⟩) (inb) (r : Fin 128) (x : Fin 1024) :
    v.readCov (pieces w) (Rect.unit (s := S128x1024) ![0, 0] ![128, 1024] inb).toLoadRect (ix2 r x) = g r x := by
  rw [View.readCov_eq_canon_ld _ _ _ (pieces_cover w), canon_pieces w g h]
  refine congrArg₂ g (Fin.ext ?_) (Fin.ext ?_)
  · show 0 + 1 * r.val = r.val
    omega
  · show 0 + 1 * x.val = x.val
    omega

/-- Two blocks of columns, the first of 512. -/
theorem canon_row (p : S128x512.Idx → Val e) (q : S128x1024.Idx → Val e) (r : Fin 128) (k : Fin 1536) (inb) (inb') :
    View.canon (s := S128x1536) [⟨Rect.unit ![0, 512] ![128, 1024] inb, q⟩, ⟨Rect.unit ![0, 0] ![128, 512] inb', p⟩] (ix2 r k)
      = if h : k.val < 512 then p (ix2 r ⟨k.val, h⟩) else q (ix2 r ⟨k.val - 512, by omega⟩) := by
  refine View.canon_apply_of_pieces (fun y => if h : (y 1).val < 512 then p (ix2 (y 0) ⟨(y 1).val, h⟩) else q (ix2 (y 0) ⟨(y 1).val - 512, by have := (y 1).isLt; change (y 1).val < 1536 at this; omega⟩))
    _ ?_ (ix2 r k) ?_
  · intro s hs
    simp only [List.mem_cons, List.not_mem_nil, or_false] at hs
    rcases hs with rfl | rfl
    · intro x
      obtain ⟨a, z, rfl⟩ : ∃ (a : Fin 128) (z : Fin 1024), x = ix2 a z := ⟨x 0, x 1, eq_ix2 x⟩
      have hn : ¬((Rect.unit (s := S128x1536) ![0, 512] ![128, 1024] inb).emb (ix2 a z) 1).val < 512 := by
        show ¬512 + 1 * z.val < 512
        omega
      show q (ix2 a z) = dite _ _ _
      rw [dif_neg hn]
      refine congrArg q (congrArg₂ ix2 (Fin.ext ?_) (Fin.ext ?_))
      · show a.val = 0 + 1 * a.val
        omega
      · show z.val = 512 + 1 * z.val - 512
        omega
    · intro x
      obtain ⟨a, z, rfl⟩ : ∃ (a : Fin 128) (z : Fin 512), x = ix2 a z := ⟨x 0, x 1, eq_ix2 x⟩
      have hn : ((Rect.unit (s := S128x1536) ![0, 0] ![128, 512] inb').emb (ix2 a z) 1).val < 512 := by
        show 0 + 1 * z.val < 512
        omega
      show p (ix2 a z) = dite _ _ _
      rw [dif_pos hn]
      refine congrArg p (congrArg₂ ix2 (Fin.ext ?_) (Fin.ext ?_))
      · show a.val = 0 + 1 * a.val
        omega
      · show z.val = 0 + 1 * z.val
        omega
  · by_cases h : k.val < 512
    · refine ⟨_, List.mem_cons_of_mem _ (List.mem_singleton.mpr rfl), (Rect.mem_set_unit (inb := inb')).mpr fun a => ?_⟩
      match a with
      | ⟨0, _⟩ => exact ⟨Nat.zero_le _, by show r.val < 0 + 128; omega⟩
      | ⟨1, _⟩ => exact ⟨Nat.zero_le _, by show k.val < 0 + 512; omega⟩
    · refine ⟨_, List.mem_cons_self, (Rect.mem_set_unit (inb := inb)).mpr fun a => ?_⟩
      match a with
      | ⟨0, _⟩ => exact ⟨Nat.zero_le _, by show r.val < 0 + 128; omega⟩
      | ⟨1, _⟩ => exact ⟨by show 512 ≤ k.val; omega, by show k.val < 512 + 1024; omega⟩

end Blocks

/-! ## The arrays of a point -/

section Point

variable (m : (ℓ : Loc nD τ sig) → Buf (Elt Ideal) ℓ) (c : Dev nD) (t : Fin cfg0.N) (p12 : Vec Ideal S16x512 .f32) (p13 : Vec Ideal S8x1536 .f32) (s9 s11 : Vec Ideal S1x128x512 .f32)

abbrev K4 : FVec Ideal S128x512 .f32 := k0_pay6 (F := Ideal) (View.ld (iblk m c 0 t) (Rect.unit ![0, 0] ![128, 512] inb_S128x3200_S128x512_0_0))
abbrev K6 : FVec Ideal S128x1024 .f32 := k0_pay7 (F := Ideal) (View.ld (iblk m c 0 t) (Rect.unit ![0, 512] ![128, 1024] inb_S128x3200_S128x1024_0_512))
abbrev K8 : FVec Ideal S128x1536 .f32 := k0_pay8 (F := Ideal) (View.ld (iblk m c 0 t) (Rect.unit ![0, 1536] ![128, 1536] inb_S128x3200_S128x1536_0_1536))
abbrev K20 : FVec Ideal S128x128 .f32 := k0_pay13 (F := Ideal) (View.ld (iblk m c 0 t) (Rect.unit ![0, 3072] ![128, 128] inb_S128x3200_S128x128_0_3072))
abbrev K27 : FVec Ideal S8x128 .f32 := k0_pay15 (F := Ideal) (iblk m c 3 t)
abbrev aP : BitVec 32 := BitVec.ofNat 32 ((grid0.coords t) 1).val
abbrev K106 : FVec Ideal S128x512 .f32 := k0_pay23 (F := Ideal) (K4 m c t) (k0_pay16 (iblk m c 5 t)) (iblk m c 6 t) (k0_pay17 (F := Ideal) (aP t)) (k0_pay19 (K4 m c t) p12)
  (k0_pay20 (K4 m c t) p12) (k0_pay21 (K4 m c t) p12) (k0_pay22 (aP t) (K4 m c t) p12 (iblk m c 5 t)) (FloatOps.ofBits (F := Ideal) FTy.f32 0x40800000#32)
abbrev K139 : FVec Ideal S128x1024 .f32 := kX (K8 m c t) p13 (iblk m c 1 t) (iblk m c 2 t)
abbrev K140 : FVec Ideal S128x256 .f32 := kB (K8 m c t) p13 (iblk m c 1 t) (iblk m c 2 t)
abbrev K141 : FVec Ideal S128x256 .f32 := kC (K8 m c t) p13 (iblk m c 1 t) (iblk m c 2 t)
abbrev K154 : FVec Ideal S128x128 .f32 := k0_pay32 (F := Ideal) (K20 m c t) (K27 m c t)
abbrev K160 : FVec Ideal S128x128 .f32 := k0_pay33 (F := Ideal) (K20 m c t) (K27 m c t)
abbrev K178 : FVec Ideal S128x128 .f32 := k0_pay35 (F := Ideal) (K160 m c t) k0_pay34
abbrev K179 : FVec Ideal S128x128 .f32 := k0_pay36 (F := Ideal) (K160 m c t) k0_pay34
abbrev K181 : FVec Ideal S128x128 .f32 := k0_pay38 (F := Ideal) (K160 m c t) k0_pay34
abbrev K184 : FVec Ideal S128x128 .f32 := k0_pay39 (F := Ideal) (K160 m c t) k0_pay34
abbrev K185 : FVec Ideal S1x128 .f32 := k0_pay40 (F := Ideal) (K160 m c t) k0_pay34
abbrev K228 : FVec Ideal S128x1024 .f32 := k0_pay43 (F := Ideal) (K27 m c t) (K154 m c t) (K181 m c t) (K184 m c t) (K185 m c t) k0_pay41
abbrev K229 : FVec Ideal S128x1024 .f32 := k0_pay44 (F := Ideal) (K27 m c t) (K154 m c t) (K181 m c t) (K184 m c t) (K185 m c t) k0_pay41
abbrev K230 : FVec Ideal S1x1024 .f32 := k0_pay45 (F := Ideal) (K27 m c t) (K154 m c t) (K181 m c t) (K184 m c t) (K185 m c t) k0_pay41
abbrev K231 : FVec Ideal S1x1024 .f32 := k0_pay46 (F := Ideal) (K27 m c t) (K154 m c t) (K181 m c t) (K184 m c t) (K185 m c t) k0_pay41
abbrev K232 : FVec Ideal S128x1024 .f32 := k0_pay47 (F := Ideal) (K27 m c t) (K139 m c t p13) (K154 m c t) (K181 m c t) (K184 m c t) (K185 m c t) k0_pay41
abbrev K237 : FVec Ideal S128x128 .f32 := k0_pay50 (F := Ideal) (K140 m c t p13) (K141 m c t p13)
abbrev K401 : FVec Ideal S128x128 .f32 := k0_pay67 (F := Ideal) (k0_pay64 (K140 m c t p13)) (k0_pay66 (K141 m c t p13))
/-- The heads of a point. -/
def HD : Fin 16 → FVec Ideal S128x64 .f32
  | 0 => k0_pay51 (K27 m c t) (K139 m c t p13) (K140 m c t p13) (K141 m c t p13) (K154 m c t) k0_pay34 (K178 m c t) (K179 m c t) (K181 m c t) (K184 m c t) (K185 m c t) k0_pay41
  | 1 => k0_pay53 k0_pay34 (K232 m c t p13) (K237 m c t p13) (k0_pay52 (K178 m c t) (K179 m c t))
  | 2 => k0_pay54 k0_pay34 (K178 m c t) (K179 m c t) (K232 m c t p13) (K237 m c t p13)
  | 3 => k0_pay56 (k0_pay55 k0_pay34 (K178 m c t) (K179 m c t) (K232 m c t p13) (K237 m c t p13))
  | 4 => k0_pay57 k0_pay34 (K178 m c t) (K179 m c t) (K232 m c t p13) (K237 m c t p13)
  | 5 => k0_pay58 k0_pay34 (K178 m c t) (K179 m c t) (K232 m c t p13) (K237 m c t p13)
  | 6 => k0_pay60 k0_pay34 (K232 m c t p13) (K237 m c t p13) (k0_pay59 (K178 m c t) (K179 m c t))
  | 7 => k0_pay61 k0_pay34 (K178 m c t) (K179 m c t) (K232 m c t p13) (K237 m c t p13)
  | 8 => k0_pay68 k0_pay34 (K178 m c t) (K179 m c t) (K232 m c t p13) (k0_pay64 (K140 m c t p13)) (k0_pay66 (K141 m c t p13))
  | 9 => k0_pay69 k0_pay34 (K178 m c t) (K179 m c t) (K232 m c t p13) (k0_pay64 (K140 m c t p13)) (k0_pay66 (K141 m c t p13))
  | 10 => k0_pay71 k0_pay34 (K232 m c t p13) (K401 m c t p13) (k0_pay70 (K178 m c t) (K179 m c t))
  | 11 => k0_pay72 k0_pay34 (K178 m c t) (K179 m c t) (K232 m c t p13) (K401 m c t p13)
  | 12 => k0_pay74 (k0_pay73 k0_pay34 (K178 m c t) (K179 m c t) (K232 m c t p13) (K401 m c t p13))
  | 13 => k0_pay75 k0_pay34 (K178 m c t) (K179 m c t) (K232 m c t p13) (K401 m c t p13)
  | 14 => k0_pay76 k0_pay34 (K178 m c t) (K179 m c t) (K232 m c t p13) (K401 m c t p13)
  | _ => k0_pay78 k0_pay34 (K232 m c t p13) (K401 m c t p13) (k0_pay77 (K178 m c t) (K179 m c t))
abbrev K561 : Vec Ideal S128x1024 .f32 := (View.whole cc0_scratch3).readCov (Val := Elt Ideal) (pieces (Val := Elt Ideal) (e := .f32) (HD m c t p13))
  (Rect.unit (s := S128x1024) ![0, 0] ![128, 1024] inb_S128x1024_S128x1024_0_0).toLoadRect
abbrev K392 : FVec Ideal S128x512 .f32 := k0_pay62 (F := Ideal) (k0_pay9 s9) (K228 m c t) (k0_pay49 (K141 m c t p13))
abbrev K575 : FVec Ideal S128x1024 .f32 := kyz (K141 m c t p13) (k0_pay10 s11) (K228 m c t) (K231 m c t) (K6 m c t) (K139 m c t p13) (K561 m c t p13) (K392 m c t p13 s9)
abbrev K580 : FVec Ideal S128x1 .f32 := ksq (K141 m c t p13) (k0_pay10 s11) (K228 m c t) (K231 m c t) (K6 m c t) (K139 m c t p13) (K561 m c t p13) (K392 m c t p13 s9)
abbrev K607 : FVec Ideal S128x1024 .bf16 := k0_pay84 (F := Ideal) (iblk m c 4 t) (K575 m c t p13 s9 s11) (K580 m c t p13 s9 s11) k0_pay82
abbrev K396 : FVec Ideal S128x512 .f32 := k0_pay63 (F := Ideal) (k0_pay9 s9) (K229 m c t) (K230 m c t) (K232 m c t p13) (k0_pay48 (K140 m c t p13))
abbrev K560 : FVec Ideal S128x512 .f32 := k0_pay79 (F := Ideal) (k0_pay10 s11) (K229 m c t) (K230 m c t) (K232 m c t p13) (k0_pay64 (K140 m c t p13))

/-! ## Their entries -/

theorem K4_apply (r : Fin 128) (j : Fin 512) : K4 m c t (ix2 r j) = u (ar m c) (bP t) (tm (cP t) r) j := by
  have e : K4 m c t (ix2 r j) = View.ld (iblk m c 0 t) (Rect.unit ![0, 0] ![128, 512] inb_S128x3200_S128x512_0_0) (ix2 r j) := by pointwise [k0_pay6]
  rw [e, View.ld_unit_apply_of _ _ _ _ _ (ix2 r ⟨j.val, by omega⟩) (fun a => by match a with | ⟨0, _⟩ => exact (Nat.zero_add _).symm | ⟨1, _⟩ => exact (Nat.zero_add _).symm),
    blk0 m c t r _ (by dsimp only; omega)]
  rfl
theorem K6_apply (r : Fin 128) (k : Fin 1024) : K6 m c t (ix2 r k) = z (ar m c) (bP t) (tm (cP t) r) k := by
  have e : K6 m c t (ix2 r k) = View.ld (iblk m c 0 t) (Rect.unit ![0, 512] ![128, 1024] inb_S128x3200_S128x1024_0_512) (ix2 r k) := by pointwise [k0_pay7]
  rw [e, View.ld_unit_apply_of _ _ _ _ _ (ix2 r ⟨512 + k.val, by omega⟩) (fun a => by match a with | ⟨0, _⟩ => exact (Nat.zero_add _).symm | ⟨1, _⟩ => rfl),
    blk0 m c t r _ (by dsimp only; omega)]
  rfl
theorem K8_apply (r : Fin 128) (k : Fin 1536) : K8 m c t (ix2 r k) = ux (ar m c) (bP t) (tm (cP t) r) k := by
  have e : K8 m c t (ix2 r k) = View.ld (iblk m c 0 t) (Rect.unit ![0, 1536] ![128, 1536] inb_S128x3200_S128x1536_0_1536) (ix2 r k) := by pointwise [k0_pay8]
  rw [e, View.ld_unit_apply_of _ _ _ _ _ (ix2 r ⟨1536 + k.val, by omega⟩) (fun a => by match a with | ⟨0, _⟩ => exact (Nat.zero_add _).symm | ⟨1, _⟩ => rfl),
    blk0 m c t r _ (by dsimp only; omega)]
  rfl
theorem K20_apply (r : Fin 128) (h : Fin 16) : K20 m c t (ix2 r (ln h)) = dti (ar m c) (bP t) (tm (cP t) r) h := by
  have e : K20 m c t (ix2 r (ln h)) = View.ld (iblk m c 0 t) (Rect.unit ![0, 3072] ![128, 128] inb_S128x3200_S128x128_0_3072) (ix2 r (ln h)) := by pointwise [k0_pay13]
  rw [e, View.ld_unit_apply_of _ _ _ _ _ (ix2 r ⟨3072 + h.val, by omega⟩) (fun a => by match a with | ⟨0, _⟩ => exact (Nat.zero_add _).symm | ⟨1, _⟩ => rfl),
    blk0 m c t r _ (by dsimp only; omega)]
  rfl
theorem K27_apply (h : Fin 16) : K27 m c t (ix2 0 (ln h)) = (ar m c).a3 (ix2 0 h) ∧ K27 m c t (ix2 1 (ln h)) = (ar m c).a4 (ix2 0 h)
    ∧ K27 m c t (ix2 2 (ln h)) = (ar m c).a5 (ix2 0 h) := by
  have e : ∀ i, K27 m c t (ix2 i (ln h)) = V m c main_v3 (ix2 i (ln h)) := fun i => by
    have e0 : K27 m c t (ix2 i (ln h)) = iblk m c 3 t (ix2 i (ln h)) := by pointwise [k0_pay15]
    exact e0.trans (blk3 m c t i _)
  have hl : (ln h).val < 16 := h.isLt
  refine ⟨?_, ?_, ?_⟩
  · rw [e, V3, dif_pos ⟨by decide, hl⟩, dif_pos (by decide)]; rfl
  · rw [e, V3, dif_pos ⟨by decide, hl⟩, dif_neg (by decide), dif_pos (by decide)]; rfl
  · rw [e, V3, dif_pos ⟨by decide, hl⟩, dif_neg (by decide), dif_neg (by decide)]; rfl

variable (e12 : ∀ (r : Fin 16) j, p12 (ix2 r j) = E 16 (fun s => u (ar m c) (bP t) s j) (cP t) r.val)
  (e13 : ∀ (r : Fin 8) k, p13 (ix2 r k) = E 8 (fun s => ux (ar m c) (bP t) s k) (cP t) r.val)
  (e9 : ∀ n q, s9 (ix3 0 n q) = hs (ar m c) (bP t) (cP t).val (kO 0 q) n) (e11 : ∀ n q, s11 (ix3 0 n q) = hs (ar m c) (bP t) (cP t).val (kO 1 q) n)
  (H : Fin' (ar m c)) (r : Fin 128)

theorem aP_eq (t : Fin cfg0.N) : aP t = BitVec.ofNat 32 (cP t).val :=
  congrArg (BitVec.ofNat 32) ((by decide +kernel : ∀ t : Fin grid0.N, ((grid0.coords t) 1).val = t.val % 16) t)

include e12 in
theorem pool_row (j : Fin 512) : K106 m c t p12 (ix2 r j) = yp (ar m c) (bP t) (tm (cP t) r) ⟨j.val / 128, by omega⟩ ⟨j.val % 128, by omega⟩ :=
  pooled (K4 m c t) p12 (fun j s => u (ar m c) (bP t) s j) (cP t) (fun r j => K4_apply m c t r j) e12 (hu := rfl) (wp := iblk m c 5 t) (hwp := blk5 m c t) (p := k0_pay17 (F := Ideal) (aP t)) (hp := fun r => aP_eq t ▸ count (cP t) r)
    (a := aP t) (ha := aP_eq t) (sc := iblk m c 6 t) (hsc := blk6 m c t) r j

include e13 in
theorem conv_row (k : Fin 1536) : kcv (K8 m c t) p13 (iblk m c 1 t) (iblk m c 2 t) (ix2 r k) = cv (ar m c) (bP t) (tm (cP t) r) k :=
  conv (K8 m c t) p13 (iblk m c 1 t) (iblk m c 2 t) (ar m c) (bP t) (cP t) (K8_apply m c t) e13 (blk1 m c t) (blk2 m c t) r k

include e13 in
theorem X_row (k : Fin 1024) : K139 m c t p13 (ix2 r k) = X (ar m c) (bP t) (tm (cP t) r) k :=
  X_apply (K8 m c t) p13 (iblk m c 1 t) (iblk m c 2 t) (ar m c) (bP t) (cP t) (K8_apply m c t) e13 (blk1 m c t) (blk2 m c t) r k
include e13 in
theorem B_row (g : Fin 2) (n : Fin 128) : K140 m c t p13 (ix2 r ⟨g.val * 128 + n.val, by omega⟩) = Bm (ar m c) (bP t) (tm (cP t) r) g n :=
  B_apply (K8 m c t) p13 (iblk m c 1 t) (iblk m c 2 t) (ar m c) (bP t) (cP t) (K8_apply m c t) e13 (blk1 m c t) (blk2 m c t) r g n
include e13 in
theorem C_row (g : Fin 2) (n : Fin 128) : K141 m c t p13 (ix2 r ⟨g.val * 128 + n.val, by omega⟩) = Cm (ar m c) (bP t) (tm (cP t) r) g n :=
  C_apply (K8 m c t) p13 (iblk m c 1 t) (iblk m c 2 t) (ar m c) (bP t) (cP t) (K8_apply m c t) e13 (blk1 m c t) (blk2 m c t) r g n

theorem dt_row (h : Fin 16) : K154 m c t (ix2 r (ln h)) = dt (ar m c) (bP t) (tm (cP t) r) h :=
  dt_apply (K20 m c t) (K27 m c t) (ar m c) (bP t) (cP t) (K20_apply m c t) (fun h => (K27_apply m c t h).1) r h
include H in
theorem cum_row (h : Fin 16) : K178 m c t (ix2 r (ln h)) = cum (ar m c) (bP t) (cP t) r h :=
  cum_apply (ar m c) (bP t) (cP t) r h H (K160 m c t) fun r =>
    da_apply (K20 m c t) (K27 m c t) (ar m c) (bP t) (cP t) (K20_apply m c t) (fun h => (K27_apply m c t h).1) (fun h => (K27_apply m c t h).2.1) r h
include H in
theorem cumT_row (h : Fin 16) : K179 m c t (ix2 (ln h) r) = cum (ar m c) (bP t) (cP t) r h := by
  have e : K179 m c t (ix2 (ln h) r) = K178 m c t (ix2 r (ln h)) := by (pointwise [k0_pay36]) <;> rfl
  rw [e, cum_row m c t H]
include H in
theorem eo_row (h : Fin 16) : K181 m c t (ix2 r (ln h)) = Ideal.exp (cum (ar m c) (bP t) (cP t) r h) := by
  have e : K181 m c t (ix2 r (ln h)) = Ideal.exp (K178 m c t (ix2 r (ln h))) := by (pointwise [k0_pay38]) <;> rfl
  rw [e, cum_row m c t H]
include H in
theorem last_row (h : Fin 16) : k0_pay37 (F := Ideal) (K160 m c t) k0_pay34 (ix2 0 (ln h)) = cum (ar m c) (bP t) (cP t) 127 h := by
  have e : k0_pay37 (F := Ideal) (K160 m c t) k0_pay34 (ix2 0 (ln h)) = K178 m c t (ix2 127 (ln h)) := by (pointwise [k0_pay37]) <;> rfl
  rw [e, cum_row m c t H]
include H in
theorem dec_row (h : Fin 16) : K184 m c t (ix2 r (ln h)) = Ideal.exp (cum (ar m c) (bP t) (cP t) 127 h - cum (ar m c) (bP t) (cP t) r h) := by
  have e : K184 m c t (ix2 r (ln h)) = Ideal.exp (k0_pay37 (F := Ideal) (K160 m c t) k0_pay34 (ix2 0 (ln h)) - K178 m c t (ix2 r (ln h))) := by (pointwise [k0_pay39]) <;> rfl
  rw [e, cum_row m c t H, last_row m c t H]
include H in
theorem cd_row (h : Fin 16) : K185 m c t (ix2 0 (ln h)) = Ideal.exp (cum (ar m c) (bP t) (cP t) 127 h) := by
  have e : K185 m c t (ix2 0 (ln h)) = Ideal.exp (k0_pay37 (F := Ideal) (K160 m c t) k0_pay34 (ix2 0 (ln h))) := by (pointwise [k0_pay40]) <;> rfl
  rw [e, last_row m c t H]
include e13 H in
theorem xdt_row (x : Fin 1024) : K232 m c t p13 (ix2 r x) = xdt (ar m c) (bP t) (cP t) r x :=
  xdt_apply (K27 m c t) (K154 m c t) (K181 m c t) (K184 m c t) (K185 m c t) (ar m c) (bP t) (cP t) H (dt_row m c t) r x (K139 m c t p13) (X_row m c t p13 e13)

include e13 H in
theorem HD_apply (j : Fin 16) (x : Fin 64) : HD m c t p13 j (ix2 r x) = yd (ar m c) (bP t) (cP t) r ⟨64 * j.val + x.val, by omega⟩ := by
  have e178 := cum_row m c t H
  have e179 := cumT_row m c t H
  have e232 := xdt_row m c t p13 e13 H
  have e237 := sc0 (K140 m c t p13) (K141 m c t p13) (ar m c) (bP t) (cP t) (B_row m c t p13 e13) (C_row m c t p13 e13)
  have e401 := sc1 (K140 m c t p13) (K141 m c t p13) (ar m c) (bP t) (cP t) (B_row m c t p13 e13) (C_row m c t p13 e13)
  match j with
  | 0 => exact (hd0 ..).trans (hd_eq (A := ar m c) (b := bP t) (c := cP t) (H := H) (g := 0) (e178 := e178) (e179 := e179) (e232 := e232) (e237 := e237) (h := 0) (hg := rfl) ..)
  | 1 => exact (hd1 ..).trans (hd_eq (A := ar m c) (b := bP t) (c := cP t) (H := H) (g := 0) (e178 := e178) (e179 := e179) (e232 := e232) (e237 := e237) (h := 1) (hg := rfl) ..)
  | 2 => exact (hd2 ..).trans (hd_eq (A := ar m c) (b := bP t) (c := cP t) (H := H) (g := 0) (e178 := e178) (e179 := e179) (e232 := e232) (e237 := e237) (h := 2) (hg := rfl) ..)
  | 3 => exact (hd3 ..).trans (hd_eq (A := ar m c) (b := bP t) (c := cP t) (H := H) (g := 0) (e178 := e178) (e179 := e179) (e232 := e232) (e237 := e237) (h := 3) (hg := rfl) ..)
  | 4 => exact (hd4 ..).trans (hd_eq (A := ar m c) (b := bP t) (c := cP t) (H := H) (g := 0) (e178 := e178) (e179 := e179) (e232 := e232) (e237 := e237) (h := 4) (hg := rfl) ..)
  | 5 => exact (hd5 ..).trans (hd_eq (A := ar m c) (b := bP t) (c := cP t) (H := H) (g := 0) (e178 := e178) (e179 := e179) (e232 := e232) (e237 := e237) (h := 5) (hg := rfl) ..)
  | 6 => exact (hd6 ..).trans (hd_eq (A := ar m c) (b := bP t) (c := cP t) (H := H) (g := 0) (e178 := e178) (e179 := e179) (e232 := e232) (e237 := e237) (h := 6) (hg := rfl) ..)
  | 7 => exact (hd7 ..).trans (hd_eq (A := ar m c) (b := bP t) (c := cP t) (H := H) (g := 0) (e178 := e178) (e179 := e179) (e232 := e232) (e237 := e237) (h := 7) (hg := rfl) ..)
  | 8 => exact (hd8 ..).trans (hd_eq (A := ar m c) (b := bP t) (c := cP t) (H := H) (g := 1) (e178 := e178) (e179 := e179) (e232 := e232) (e237 := e401) (h := 8) (hg := rfl) ..)
  | 9 => exact (hd9 ..).trans (hd_eq (A := ar m c) (b := bP t) (c := cP t) (H := H) (g := 1) (e178 := e178) (e179 := e179) (e232 := e232) (e237 := e401) (h := 9) (hg := rfl) ..)
  | 10 => exact (hd10 ..).trans (hd_eq (A := ar m c) (b := bP t) (c := cP t) (H := H) (g := 1) (e178 := e178) (e179 := e179) (e232 := e232) (e237 := e401) (h := 10) (hg := rfl) ..)
  | 11 => exact (hd11 ..).trans (hd_eq (A := ar m c) (b := bP t) (c := cP t) (H := H) (g := 1) (e178 := e178) (e179 := e179) (e232 := e232) (e237 := e401) (h := 11) (hg := rfl) ..)
  | 12 => exact (hd12 ..).trans (hd_eq (A := ar m c) (b := bP t) (c := cP t) (H := H) (g := 1) (e178 := e178) (e179 := e179) (e232 := e232) (e237 := e401) (h := 12) (hg := rfl) ..)
  | 13 => exact (hd13 ..).trans (hd_eq (A := ar m c) (b := bP t) (c := cP t) (H := H) (g := 1) (e178 := e178) (e179 := e179) (e232 := e232) (e237 := e401) (h := 13) (hg := rfl) ..)
  | 14 => exact (hd14 ..).trans (hd_eq (A := ar m c) (b := bP t) (c := cP t) (H := H) (g := 1) (e178 := e178) (e179 := e179) (e232 := e232) (e237 := e401) (h := 14) (hg := rfl) ..)
  | 15 => exact (hd15 ..).trans (hd_eq (A := ar m c) (b := bP t) (c := cP t) (H := H) (g := 1) (e178 := e178) (e179 := e179) (e232 := e232) (e237 := e401) (h := 15) (hg := rfl) ..)
  | ⟨_ + 16, h⟩ => exact absurd h (by omega)

include e13 H in
theorem yd_row (k : Fin 1024) : K561 m c t p13 (ix2 r k) = yd (ar m c) (bP t) (cP t) r k :=
  read_pieces (Val := Elt Ideal) (e := .f32) (View.whole cc0_scratch3) (HD m c t p13) (fun r k => yd (ar m c) (bP t) (cP t) r k) (fun j r x => HD_apply m c t p13 e13 H r j x) _ r k

theorem s_row (s : Vec Ideal S1x128x512 .f32) (n : Fin 128) (q : Fin 512) : k0_pay9 (F := Ideal) s (ix2 n q) = s (ix3 0 n q) ∧ k0_pay10 (F := Ideal) s (ix2 n q) = s (ix3 0 n q) := by
  constructor
  · (pointwise [k0_pay9]) <;> rfl
  · (pointwise [k0_pay10]) <;> rfl

include e13 e9 e11 H in
theorem ssd_row (k : Fin 1024) : K607 m c t p13 s9 s11 (ix2 r k) = ys (ar m c) (bP t) (cP t) r k :=
  ys_apply (K141 m c t p13) (ar m c) (bP t) (cP t) (C_row m c t p13 e13) (k0_pay10 s11) (fun n q => (s_row s11 n q).2.trans (e11 n q)) (K228 m c t) (K231 m c t)
    (rep_eo (K27 m c t) (K154 m c t) (K181 m c t) (K184 m c t) (K185 m c t) (ar m c) (bP t) (cP t) H (eo_row m c t H))
    (rep_skip (K27 m c t) (K154 m c t) (K181 m c t) (K184 m c t) (K185 m c t) (ar m c) H (fun h => (K27_apply m c t h).2.2)) (K6 m c t) (K139 m c t p13) (K561 m c t p13) (K392 m c t p13 s9)
    (K6_apply m c t) (X_row m c t p13 e13) (yd_row m c t p13 e13 H)
    (yo0 (K141 m c t p13) (ar m c) (bP t) (cP t) (C_row m c t p13 e13) (k0_pay9 s9) (fun n q => (s_row s9 n q).1.trans (e9 n q)) (K228 m c t)
      (rep_eo (K27 m c t) (K154 m c t) (K181 m c t) (K184 m c t) (K185 m c t) (ar m c) (bP t) (cP t) H (eo_row m c t H)))
    (iblk m c 4 t) (blk4 m c t) r k

include e13 e9 H in
theorem next0_row (n : Fin 128) (q : Fin 512) : K396 m c t p13 s9 (ix2 n q) = hs (ar m c) (bP t) ((cP t).val + 1) (kO 0 q) n :=
  next0 (K140 m c t p13) (ar m c) (bP t) (cP t) (B_row m c t p13 e13) (k0_pay9 s9) (fun n q => (s_row s9 n q).1.trans (e9 n q)) (K229 m c t) (K232 m c t p13) (K230 m c t)
    (rep_dec (K27 m c t) (K154 m c t) (K181 m c t) (K184 m c t) (K185 m c t) (ar m c) (bP t) (cP t) H (dec_row m c t H))
    (rep_cd (K27 m c t) (K154 m c t) (K181 m c t) (K184 m c t) (K185 m c t) (ar m c) (bP t) (cP t) H (cd_row m c t H)) (xdt_row m c t p13 e13 H) n q

include e13 e11 H in
theorem next1_row (n : Fin 128) (q : Fin 512) : K560 m c t p13 s11 (ix2 n q) = hs (ar m c) (bP t) ((cP t).val + 1) (kO 1 q) n :=
  next1 (K140 m c t p13) (ar m c) (bP t) (cP t) (B_row m c t p13 e13) (k0_pay10 s11) (fun n q => (s_row s11 n q).2.trans (e11 n q)) (K229 m c t) (K232 m c t p13) (K230 m c t)
    (rep_dec (K27 m c t) (K154 m c t) (K181 m c t) (K184 m c t) (K185 m c t) (ar m c) (bP t) (cP t) H (dec_row m c t H))
    (rep_cd (K27 m c t) (K154 m c t) (K181 m c t) (K184 m c t) (K185 m c t) (ar m c) (bP t) (cP t) H (cd_row m c t H)) (xdt_row m c t p13 e13 H) n q

end Point

end Cert.FwdKernel
end
-- ==== Proof.FwdOut.lean ====
module

public import proofs.«01_k».proof.Proof.Gen.KernelFwdIdeal.Value
public import proofs.«01_k».proof.Proof.FwdBody
public import Idealize.ShloMosaic.Lib.Pointwise
public import Idealize.ShloMosaic.Lib.Pipeline.ValueKit
public import Idealize.ShloMosaic.Lib.StableHlo.ReadAt
public import Idealize.ShloMosaic.Lib.KernelVsHost
public import Idealize.ShloMosaic.Lib.Pipeline.ReadBack

@[expose] public section

set_option maxRecDepth 16384
noncomputable section

/-! The arrays the fused forward kernel leaves: its points in order, then the whole arrays. -/

namespace Cert.FwdKernel

open Cert.KernelFwdIdeal Cert.KernelFwdIdeal.Gen Idealize.ShloMosaic Idealize.ShloMosaic.TcCoe Idealize.SL.Sem
open Idealize.ShloMosaic.Pipeline (Dat)
open Cert.FwdSpec

variable (m : (ℓ : Loc nD τ sig) → Buf (Elt Ideal) ℓ) (c : Dev nD) (t : Fin cfg0.N)

/-! ## What each case stores -/

/-- What a point stores, of the halos and the state it starts from. -/
structure Stores (o : type_of% (outsAt0 m c t.val t.isLt)) (p12 : Vec Ideal S16x512 .f32) (p13 : Vec Ideal S8x1536 .f32) (s9 s11 : Vec Ideal S1x128x512 .f32) : Prop where
  row : o.1 = View.canon (Val := Elt Ideal) (e := .bf16) [⟨Rect.unit (s := S128x1536) ![0, 512] ![128, 1024] inb_S128x1536_S128x1024_0_512, K607 m c t p13 s9 s11⟩,
    ⟨Rect.unit (s := S128x1536) ![0, 0] ![128, 512] inb_S128x1536_S128x512_0_0, k0_pay83 (F := Ideal) (K106 m c t p12)⟩]
  state0 : o.2.1 = View.canon (Val := Elt Ideal) (e := .f32) [⟨Rect.unit (s := S1x1x2x128x512) ![0, 0, 1, 0, 0] ![1, 1, 1, 128, 512] inb_S1x1x2x128x512_S1x1x1x128x512_0_0_1_0_0, k0_pay12 (F := Ideal) s11⟩,
    ⟨Rect.unit (s := S1x1x2x128x512) ![0, 0, 0, 0, 0] ![1, 1, 1, 128, 512] inb_S1x1x2x128x512_S1x1x1x128x512_0_0_0_0_0, k0_pay11 (F := Ideal) s9⟩]
  conv : o.2.2.1 = kcv (K8 m c t) p13 (iblk m c 1 t) (iblk m c 2 t)
  haloP : o.2.2.2.1 = k0_pay1 (F := Ideal) (k0_pay87 (K4 m c t))
  haloX : o.2.2.2.2.1 = k0_pay2 (F := Ideal) (K8 m c t)
  state : ∃ rest, o.2.2.2.2.2 = View.canon (Val := Elt Ideal) (e := .f32) (⟨Rect.unit (s := S2x128x512) ![1, 0, 0] ![1, 128, 512] inb_S2x128x512_S1x128x512_1_0_0, k0_pay86 (F := Ideal) (K560 m c t p13 s11)⟩ ::
    ⟨Rect.unit (s := S2x128x512) ![0, 0, 0] ![1, 128, 512] inb_S2x128x512_S1x128x512_0_0_0, k0_pay85 (F := Ideal) (K396 m c t p13 s9)⟩ :: rest)

/-- The half of the state a point loads. -/
abbrev half0 (S : Vec Ideal S2x128x512 .f32) : Vec Ideal S1x128x512 .f32 := View.ld (Val := Elt Ideal) S (Rect.unit (s := S2x128x512) ![0, 0, 0] ![1, 128, 512] inb_S2x128x512_S1x128x512_0_0_0)
abbrev half1 (S : Vec Ideal S2x128x512 .f32) : Vec Ideal S1x128x512 .f32 := View.ld (Val := Elt Ideal) S (Rect.unit (s := S2x128x512) ![1, 0, 0] ![1, 128, 512] inb_S2x128x512_S1x128x512_1_0_0)

/-- A carried array as a point reads it back. -/
abbrev raw (b : Ref sig .tc) (X : b.ty.shape.Idx → Elt Ideal b.ty.elt) := View.read (Elt Ideal) (View.whole b) ((Memref.isWhole_whole b).unread X)

/-- What the point before left. -/
abbrev past0 (t : Fin cfg0.N) := outsAt0 m c (t.val - 1) (lt_of_le_of_lt (Nat.sub_le _ _) t.isLt)

/-- The state a first point starts from. -/
abbrev zero0 : Vec Ideal S1x128x512 .f32 := (View.whole cc0_scratch2).readCov (Val := Elt Ideal) [⟨Rect.unit (s := S2x128x512) ![0, 0, 0] ![2, 128, 512] inb_S2x128x512_S2x128x512_0_0_0, k0_pay5 (F := Ideal)⟩]
  (Rect.unit (s := S2x128x512) ![0, 0, 0] ![1, 128, 512] inb_S2x128x512_S1x128x512_0_0_0).toLoadRect
abbrev zero1 : Vec Ideal S1x128x512 .f32 := (View.whole cc0_scratch2).readCov (Val := Elt Ideal) [⟨Rect.unit (s := S2x128x512) ![0, 0, 0] ![2, 128, 512] inb_S2x128x512_S2x128x512_0_0_0, k0_pay5 (F := Ideal)⟩]
  (Rect.unit (s := S2x128x512) ![1, 0, 0] ![1, 128, 512] inb_S2x128x512_S1x128x512_1_0_0).toLoadRect

set_option maxHeartbeats 2000000 in
theorem stores_B (h0 : ¬t.val % 16 = 0) : Stores m c t (outsAt0 m c t.val t.isLt) (raw cc0_scratch0 (past0 m c t).2.2.2.1) (raw cc0_scratch1 (past0 m c t).2.2.2.2.1)
    (half0 (raw cc0_scratch2 (past0 m c t).2.2.2.2.2)) (half1 (raw cc0_scratch2 (past0 m c t).2.2.2.2.2)) := by
  constructor
  · funext x
    rw [outsAt0_B m c t h0]
    frame_out
    first | done | exact rfl
  · funext x
    rw [outsAt0_B m c t h0]
    frame_out
    first | done | exact rfl
  · funext x
    rw [outsAt0_B m c t h0]
    frame_out
    first | done | exact rfl
  · funext x
    rw [outsAt0_B m c t h0]
    frame_out
    first | done | exact rfl
  · funext x
    rw [outsAt0_B m c t h0]
    frame_out
    first | done | exact rfl
  · refine ⟨[], ?_⟩
    funext x
    rw [outsAt0_B m c t h0]
    frame_out
    first | done | exact rfl

set_option maxHeartbeats 2000000 in
theorem stores_A (h0 : t.val % 16 = 0) : Stores m c t (outsAt0 m c t.val t.isLt) (k0_pay3 (F := Ideal)) (k0_pay4 (F := Ideal)) zero0 zero1 := by
  constructor
  · funext x
    rw [outsAt0_A m c t h0]
    frame_out
    first | done | exact rfl
  · funext x
    rw [outsAt0_A m c t h0]
    frame_out
    first | done | exact rfl
  · funext x
    rw [outsAt0_A m c t h0]
    frame_out
    first | done | exact rfl
  · funext x
    rw [outsAt0_A m c t h0]
    frame_out
    first | done | exact rfl
  · funext x
    rw [outsAt0_A m c t h0]
    frame_out
    first | done | exact rfl
  · refine ⟨[⟨Rect.unit (s := S2x128x512) ![0, 0, 0] ![2, 128, 512] inb_S2x128x512_S2x128x512_0_0_0, k0_pay5 (F := Ideal)⟩], ?_⟩
    funext x
    rw [outsAt0_A m c t h0]
    frame_out
    first | done | exact rfl

/-! ## Pieces of the state -/

section Pieces

variable {Val : EltTy → Type} {e : EltTy} [∀ e, Nonempty (Val e)]

theorem emb3 (o : ℕ) (g : Fin 2) (ho : o = g.val) (inb) (n : Fin 128) (j : Fin 512) : (Rect.unit (s := S2x128x512) ![o, 0, 0] ![1, 128, 512] inb).emb (ix3 0 n j) = ix3 g n j := by
  funext a
  match a with
  | ⟨0, _⟩ => exact Fin.ext (show o + 1 * 0 = g.val by omega)
  | ⟨1, _⟩ => exact Fin.ext (show 0 + 1 * n.val = n.val by omega)
  | ⟨2, _⟩ => exact Fin.ext (show 0 + 1 * j.val = j.val by omega)

theorem emb5 (o : ℕ) (g : Fin 2) (ho : o = g.val) (inb) (n : Fin 128) (j : Fin 512) : (Rect.unit (s := S1x1x2x128x512) ![0, 0, o, 0, 0] ![1, 1, 1, 128, 512] inb).emb (ix5 0 0 0 n j) = ix5 0 0 g n j := by
  funext a
  match a with
  | ⟨0, _⟩ => exact Fin.ext rfl
  | ⟨1, _⟩ => exact Fin.ext rfl
  | ⟨2, _⟩ => exact Fin.ext (show o + 1 * 0 = g.val by omega)
  | ⟨3, _⟩ => exact Fin.ext (show 0 + 1 * n.val = n.val by omega)
  | ⟨4, _⟩ => exact Fin.ext (show 0 + 1 * j.val = j.val by omega)

theorem canon_half (q p : S1x128x512.Idx → Val e) (rest : List (View.Piece Val S2x128x512 e)) (inb) (inb') (n : Fin 128) (j : Fin 512) :
    View.canon (s := S2x128x512) (⟨Rect.unit ![1, 0, 0] ![1, 128, 512] inb, q⟩ :: ⟨Rect.unit ![0, 0, 0] ![1, 128, 512] inb', p⟩ :: rest) (ix3 0 n j) = p (ix3 0 n j)
      ∧ View.canon (s := S2x128x512) (⟨Rect.unit ![1, 0, 0] ![1, 128, 512] inb, q⟩ :: ⟨Rect.unit ![0, 0, 0] ![1, 128, 512] inb', p⟩ :: rest) (ix3 1 n j) = q (ix3 0 n j) := by
  refine ⟨?_, ?_⟩
  · rw [View.canon_cons_of_not_mem _ _ (fun h => by
      have := ((Rect.mem_set_unit (inb := inb)).mp h 0).1
      change 1 ≤ 0 at this
      omega)]
    have k := View.canon_cons_emb (Rect.unit (s := S2x128x512) ![0, 0, 0] ![1, 128, 512] inb') p rest (ix3 0 n j)
    rw [emb3 0 0 rfl inb' n j] at k
    exact k
  · have k := View.canon_cons_emb (Rect.unit (s := S2x128x512) ![1, 0, 0] ![1, 128, 512] inb) q (⟨Rect.unit ![0, 0, 0] ![1, 128, 512] inb', p⟩ :: rest) (ix3 0 n j)
    rw [emb3 1 1 rfl inb n j] at k
    exact k

theorem canon_out (q p : S1x1x1x128x512.Idx → Val e) (rest : List (View.Piece Val S1x1x2x128x512 e)) (inb) (inb') (n : Fin 128) (j : Fin 512) :
    View.canon (s := S1x1x2x128x512) (⟨Rect.unit ![0, 0, 1, 0, 0] ![1, 1, 1, 128, 512] inb, q⟩ :: ⟨Rect.unit ![0, 0, 0, 0, 0] ![1, 1, 1, 128, 512] inb', p⟩ :: rest) (ix5 0 0 0 n j) = p (ix5 0 0 0 n j)
      ∧ View.canon (s := S1x1x2x128x512) (⟨Rect.unit ![0, 0, 1, 0, 0] ![1, 1, 1, 128, 512] inb, q⟩ :: ⟨Rect.unit ![0, 0, 0, 0, 0] ![1, 1, 1, 128, 512] inb', p⟩ :: rest) (ix5 0 0 1 n j) = q (ix5 0 0 0 n j) := by
  refine ⟨?_, ?_⟩
  · rw [View.canon_cons_of_not_mem _ _ (fun h => by
      have := ((Rect.mem_set_unit (inb := inb)).mp h 2).1
      change 1 ≤ 0 at this
      omega)]
    have k := View.canon_cons_emb (Rect.unit (s := S1x1x2x128x512) ![0, 0, 0, 0, 0] ![1, 1, 1, 128, 512] inb') p rest (ix5 0 0 0 n j)
    rw [emb5 0 0 rfl inb' n j] at k
    exact k
  · have k := View.canon_cons_emb (Rect.unit (s := S1x1x2x128x512) ![0, 0, 1, 0, 0] ![1, 1, 1, 128, 512] inb) q (⟨Rect.unit ![0, 0, 0, 0, 0] ![1, 1, 1, 128, 512] inb', p⟩ :: rest) (ix5 0 0 0 n j)
    rw [emb5 1 1 rfl inb n j] at k
    exact k

end Pieces

theorem raw_eq (b : Ref sig .tc) (X : b.ty.shape.Idx → Elt Ideal b.ty.elt) : raw b X = X := read_unread_whole b _ X

theorem half_apply (S : Vec Ideal S2x128x512 .f32) (n : Fin 128) (q : Fin 512) : half0 S (ix3 0 n q) = S (ix3 0 n q) ∧ half1 S (ix3 0 n q) = S (ix3 1 n q) :=
  ⟨View.ld_unit_apply_of _ _ _ _ _ (ix3 0 n q) (fun a => by match a with | ⟨0, _⟩ => rfl | ⟨1, _⟩ => exact (Nat.zero_add _).symm | ⟨2, _⟩ => exact (Nat.zero_add _).symm),
    View.ld_unit_apply_of _ _ _ _ _ (ix3 1 n q) (fun a => by match a with | ⟨0, _⟩ => rfl | ⟨1, _⟩ => exact (Nat.zero_add _).symm | ⟨2, _⟩ => exact (Nat.zero_add _).symm)⟩

theorem pay5_apply (i) : k0_pay5 (F := Ideal) i = 0 := by pointwise [k0_pay5]

theorem zero_apply (n : Fin 128) (q : Fin 512) : zero0 (ix3 0 n q) = 0 ∧ zero1 (ix3 0 n q) = 0 := by
  have hc : ∀ y, ∃ p ∈ ([⟨Rect.unit (s := S2x128x512) ![0, 0, 0] ![2, 128, 512] inb_S2x128x512_S2x128x512_0_0_0, k0_pay5 (F := Ideal)⟩] : List (View.Piece (Elt Ideal) S2x128x512 .f32)), y ∈ p.1.set :=
    fun y => View.cover_of_tiled _ ![2, 128, 512] rfl y
  have hz : View.canon (Val := Elt Ideal) (e := .f32) [⟨Rect.unit (s := S2x128x512) ![0, 0, 0] ![2, 128, 512] inb_S2x128x512_S2x128x512_0_0_0, k0_pay5 (F := Ideal)⟩] = fun _ => (0 : EReal) := by
    funext y
    refine View.canon_apply_of_pieces (fun _ => (0 : EReal)) _ (fun p hp x => ?_) y (hc y)
    obtain rfl := List.mem_singleton.mp hp
    exact pay5_apply x
  refine ⟨?_, ?_⟩
  · unfold zero0
    rw [View.readCov_eq_canon_ld _ _ _ hc, hz]
  · unfold zero1
    rw [View.readCov_eq_canon_ld _ _ _ hc, hz]

/-! ## The points in order -/

/-- What a point starts from. -/
structure Starts (p12 : Vec Ideal S16x512 .f32) (p13 : Vec Ideal S8x1536 .f32) (s9 s11 : Vec Ideal S1x128x512 .f32) : Prop where
  e12 : ∀ (r : Fin 16) j, p12 (ix2 r j) = E 16 (fun s => u (ar m c) (bP t) s j) (cP t) r.val
  e13 : ∀ (r : Fin 8) k, p13 (ix2 r k) = E 8 (fun s => ux (ar m c) (bP t) s k) (cP t) r.val
  e9 : ∀ n q, s9 (ix3 0 n q) = hs (ar m c) (bP t) (cP t).val (kO 0 q) n
  e11 : ∀ n q, s11 (ix3 0 n q) = hs (ar m c) (bP t) (cP t).val (kO 1 q) n

/-- What a point leaves to the next. -/
structure Leaves (o : type_of% (outsAt0 m c t.val t.isLt)) : Prop where
  l12 : ∀ (r : Fin 16) j, o.2.2.2.1 (ix2 r j) = u (ar m c) (bP t) (tm (cP t) ⟨112 + r.val, by omega⟩) j
  l13 : ∀ (r : Fin 8) k, o.2.2.2.2.1 (ix2 r k) = ux (ar m c) (bP t) (tm (cP t) ⟨120 + r.val, by omega⟩) k
  l9 : ∀ n q, o.2.2.2.2.2 (ix3 0 n q) = hs (ar m c) (bP t) ((cP t).val + 1) (kO 0 q) n
  l11 : ∀ n q, o.2.2.2.2.2 (ix3 1 n q) = hs (ar m c) (bP t) ((cP t).val + 1) (kO 1 q) n

theorem leaves_of (H : Fin' (ar m c)) {o} {p12 p13 s9 s11} (h : Stores m c t o p12 p13 s9 s11) (s : Starts m c t p12 p13 s9 s11) : Leaves m c t o where
  l12 r j := by
    rw [h.haloP]
    have e : k0_pay1 (F := Ideal) (k0_pay87 (K4 m c t)) (ix2 r j) = K4 m c t (ix2 ⟨112 + r.val, by omega⟩ j) := by (pointwise [k0_pay1, k0_pay87]) <;> rfl
    rw [e, K4_apply]
  l13 r k := by
    rw [h.haloX]
    have e : k0_pay2 (F := Ideal) (K8 m c t) (ix2 r k) = K8 m c t (ix2 ⟨120 + r.val, by omega⟩ k) := by (pointwise [k0_pay2]) <;> rfl
    rw [e, K8_apply]
  l9 n q := by
    obtain ⟨rest, e⟩ := h.state
    rw [e]
    refine (canon_half (Val := Elt Ideal) (e := .f32) _ _ rest _ _ n q).1.trans ?_
    have e : k0_pay85 (F := Ideal) (K396 m c t p13 s9) (ix3 0 n q) = K396 m c t p13 s9 (ix2 n q) := by (pointwise [k0_pay85]) <;> rfl
    rw [e, next0_row m c t p13 s9 s.e13 s.e9 H]
  l11 n q := by
    obtain ⟨rest, e⟩ := h.state
    rw [e]
    refine (canon_half (Val := Elt Ideal) (e := .f32) _ _ rest _ _ n q).2.trans ?_
    have e : k0_pay86 (F := Ideal) (K560 m c t p13 s11) (ix3 0 n q) = K560 m c t p13 s11 (ix2 n q) := by (pointwise [k0_pay86]) <;> rfl
    rw [e, next1_row m c t p13 s11 s.e13 s.e11 H]

theorem starts_A (h0 : t.val % 16 = 0) : Starts m c t (k0_pay3 (F := Ideal)) (k0_pay4 (F := Ideal)) zero0 zero1 := by
  have hc : (cP t).val = 0 := h0
  refine ⟨fun r j => ?_, fun r k => ?_, fun n q => ?_, fun n q => ?_⟩
  · have e : k0_pay3 (F := Ideal) (ix2 r j) = 0 := by pointwise [k0_pay3]
    rw [e]
    unfold E
    rw [dif_neg (by omega)]
  · have e : k0_pay4 (F := Ideal) (ix2 r k) = 0 := by pointwise [k0_pay4]
    rw [e]
    unfold E
    rw [dif_neg (by omega)]
  · rw [(zero_apply n q).1, hc]; rfl
  · rw [(zero_apply n q).2, hc]; rfl

/-- The point before one that is not its batch's first. -/
abbrev prev (t : Fin cfg0.N) : Fin cfg0.N := ⟨t.val - 1, lt_of_le_of_lt (Nat.sub_le _ _) t.isLt⟩

theorem starts_B (h0 : ¬t.val % 16 = 0) (h : Leaves m c (prev t) (past0 m c t)) : Starts m c t (raw cc0_scratch0 (past0 m c t).2.2.2.1) (raw cc0_scratch1 (past0 m c t).2.2.2.2.1)
    (half0 (raw cc0_scratch2 (past0 m c t).2.2.2.2.2)) (half1 (raw cc0_scratch2 (past0 m c t).2.2.2.2.2)) := by
  have hb : bP (prev t) = bP t := Fin.ext (by show (t.val - 1) / 16 = t.val / 16; omega)
  have hc : (cP t).val = (cP (prev t)).val + 1 := by show t.val % 16 = (t.val - 1) % 16 + 1; omega
  have hl : (cP t).val < 16 := (cP t).isLt
  rw [raw_eq, raw_eq, raw_eq]
  refine ⟨fun r j => ?_, fun r k => ?_, fun n q => ?_, fun n q => ?_⟩
  · rw [h.l12, hb]
    unfold E
    rw [dif_pos (by omega)]
    exact congrArg (fun s => u (ar m c) (bP t) s j) (Fin.ext (by show (cP (prev t)).val * 128 + (112 + r.val) = (cP t).val * 128 + r.val - 16; omega))
  · rw [h.l13, hb]
    unfold E
    rw [dif_pos (by omega)]
    exact congrArg (fun s => ux (ar m c) (bP t) s k) (Fin.ext (by show (cP (prev t)).val * 128 + (120 + r.val) = (cP t).val * 128 + r.val - 8; omega))
  · rw [(half_apply _ n q).1, h.l9, hb, hc]
  · rw [(half_apply _ n q).2, h.l11, hb, hc]

theorem point (H : Fin' (ar m c)) : ∀ (n : ℕ) (t : Fin cfg0.N), t.val = n → ∃ p12 p13 s9 s11, Stores m c t (outsAt0 m c t.val t.isLt) p12 p13 s9 s11 ∧ Starts m c t p12 p13 s9 s11 := by
  intro n
  induction n with
  | zero => exact fun t ht => ⟨_, _, _, _, stores_A m c t (by rw [ht]), starts_A m c t (by rw [ht])⟩
  | succ n ih =>
    intro t ht
    by_cases h0 : t.val % 16 = 0
    · exact ⟨_, _, _, _, stores_A m c t h0, starts_A m c t h0⟩
    · obtain ⟨p12, p13, s9, s11, hs, hi⟩ := ih (prev t) (by show t.val - 1 = n; omega)
      exact ⟨_, _, _, _, stores_B m c t h0, starts_B m c t h0 (leaves_of m c (prev t) H hs hi)⟩

/-! ## The whole arrays -/

theorem out7 (H : Fin' (ar m c)) (r : Fin 128) (k : Fin 1536) : (outsAt0 m c t.val t.isLt).1 (ix2 r k) = row (ar m c) (bP t) (cP t) r k := by
  obtain ⟨p12, p13, s9, s11, h, s⟩ := point m c H _ t rfl
  rw [h.row, canon_row (Val := Elt Ideal) (e := .bf16)]
  unfold row
  by_cases hk : k.val < 512
  · rw [dif_pos hk, dif_pos hk]
    have e : k0_pay83 (F := Ideal) (K106 m c t p12) (ix2 r ⟨k.val, hk⟩) = K106 m c t p12 (ix2 r ⟨k.val, hk⟩) := by (pointwise [k0_pay83]) <;> rfl
    rw [e, pool_row m c t p12 s.e12]
  · rw [dif_neg hk, dif_neg hk]
    exact ssd_row m c t p13 s9 s11 s.e13 s.e9 s.e11 H r _

theorem out8 (H : Fin' (ar m c)) (g : Fin 2) (n : Fin 128) (q : Fin 512) : (outsAt0 m c t.val t.isLt).2.1 (ix5 0 0 g n q) = hs (ar m c) (bP t) (cP t).val (kO g q) n := by
  obtain ⟨p12, p13, s9, s11, h, s⟩ := point m c H _ t rfl
  rw [h.state0]
  match g with
  | 0 =>
    refine (canon_out (Val := Elt Ideal) (e := .f32) _ _ [] _ _ n q).1.trans ?_
    have e : k0_pay11 (F := Ideal) s9 (ix5 0 0 0 n q) = s9 (ix3 0 n q) := by (pointwise [k0_pay11, k0_pay9]) <;> rfl
    rw [e, s.e9]
  | 1 =>
    refine (canon_out (Val := Elt Ideal) (e := .f32) _ _ [] _ _ n q).2.trans ?_
    have e : k0_pay12 (F := Ideal) s11 (ix5 0 0 0 n q) = s11 (ix3 0 n q) := by (pointwise [k0_pay12, k0_pay10]) <;> rfl
    rw [e, s.e11]

theorem out9 (H : Fin' (ar m c)) (r : Fin 128) (k : Fin 1536) : (outsAt0 m c t.val t.isLt).2.2.1 (ix2 r k) = cv (ar m c) (bP t) (tm (cP t) r) k := by
  obtain ⟨p12, p13, s9, s11, h, s⟩ := point m c H _ t rfl
  rw [h.conv, conv_row m c t p13 s.e13]

theorem rP_bO (r : Fin 128) : bO (rP t r) = bP t := Fin.ext (by show (128 * t.val + r.val) / 2048 = t.val / 16; omega)
theorem rP_cO (r : Fin 128) : cO (rP t r) = cP t := Fin.ext (by show (128 * t.val + r.val) / 128 % 16 = t.val % 16; omega)
theorem rP_lO (r : Fin 128) : lO (rP t r) = r := Fin.ext (by show (128 * t.val + r.val) % 128 = r.val; omega)

theorem final7 (H : Fin' (ar m c)) : (dats m 0 c).arrAt 7 cfg0.N = FwdSpec.G7 (ar m c) := by
  refine (dats m 0 c).arrAt_eq_of_covers 7 _ (by decide +kernel) fun t hf y => ?_
  blk_simp
  rw [after0_7]
  obtain ⟨r, l, rfl⟩ : ∃ (r : Fin 128) (l : Fin 1536), y = ix2 r l := ⟨y 0, y 1, eq_ix2 y⟩
  have e : (win0_7.blk t).view.emb (ix2 r l) = ix2 (rP t r) l := by blk_ext [idx t, rP]
  refine (out7 m c t H r l).trans (Eq.trans ?_ (congrArg (FwdSpec.G7 (ar m c)) e).symm)
  show _ = row (ar m c) (bO (rP t r)) (cO (rP t r)) (lO (rP t r)) l
  rw [rP_bO, rP_cO, rP_lO]

theorem final8 (H : Fin' (ar m c)) : (dats m 0 c).arrAt 8 cfg0.N = FwdSpec.G8 (ar m c) := by
  refine (dats m 0 c).arrAt_eq_of_covers 8 _ (by decide +kernel) fun t hf y => ?_
  blk_simp
  rw [after0_8]
  obtain ⟨z0, z1, g, n, q, rfl⟩ : ∃ (z0 z1 : Fin 1) (g : Fin 2) (n : Fin 128) (q : Fin 512), y = ix5 z0 z1 g n q := ⟨y 0, y 1, y 2, y 3, y 4, eq_ix5 y⟩
  obtain rfl : z0 = 0 := Subsingleton.elim _ _
  obtain rfl : z1 = 0 := Subsingleton.elim _ _
  have e : (win0_8.blk t).view.emb (ix5 0 0 g n q) = ix5 (bP t) (cP t) g n q := by blk_ext [idx t, bP, cP]
  exact (out8 m c t H g n q).trans (congrArg (FwdSpec.G8 (ar m c)) e).symm

theorem final9 (H : Fin' (ar m c)) : (dats m 0 c).arrAt 9 cfg0.N = FwdSpec.G9 (ar m c) := by
  refine (dats m 0 c).arrAt_eq_of_covers 9 _ (by decide +kernel) fun t hf y => ?_
  blk_simp
  rw [after0_9]
  obtain ⟨r, l, rfl⟩ : ∃ (r : Fin 128) (l : Fin 1536), y = ix2 r l := ⟨y 0, y 1, eq_ix2 y⟩
  have e : (win0_9.blk t).view.emb (ix2 r l) = ix2 (rP t r) l := by blk_ext [idx t, rP]
  refine (out9 m c t H r l).trans (Eq.trans ?_ (congrArg (FwdSpec.G9 (ar m c)) e).symm)
  show _ = cv (ar m c) (bO (rP t r)) (tm (cO (rP t r)) (lO (rP t r))) l
  rw [rP_bO, rP_cO, rP_lO]

end Cert.FwdKernel
end
-- ==== Proof.Prefix.lean ====
module

public import Idealize.ShloMosaic.Lib.Pointwise

@[expose] public section

/-! The host's running sum along the middle axis, as its window sum: every entry is the sum of the entries up to it. -/

namespace Cert.Prefix

open Idealize.ShloMosaic

theorem foldl_sum {n : ℕ} (g : Fin n → EReal) : (List.finRange n).foldl (fun r k => r + g k) 0 = ∑ k, g k := by
  rw [Fin.sum_univ_def, List.sum_eq_foldl, List.foldl_map]

/-- A shift of the positions, around the end. -/
def shift {N : ℕ} (t : Fin N) : Fin N ≃ Fin N where
  toFun k := if h : k.val + t.val + 1 < N then ⟨k.val + t.val + 1, h⟩ else ⟨k.val + t.val + 1 - N, by omega⟩
  invFun k := if h : k.val ≤ t.val then ⟨k.val + N - t.val - 1, by omega⟩ else ⟨k.val - t.val - 1, by omega⟩
  left_inv k := by
    by_cases h : k.val + t.val + 1 < N
    · simp only [dif_pos h]
      rw [dif_neg (by omega)]
      exact Fin.ext (by dsimp only; omega)
    · simp only [dif_neg h]
      rw [dif_pos (by omega)]
      exact Fin.ext (by simp; omega)
  right_inv k := by
    by_cases h : k.val ≤ t.val
    · simp only [dif_pos h]
      rw [dif_neg (by omega)]
      exact Fin.ext (by dsimp only; omega)
    · simp only [dif_neg h]
      rw [dif_pos (by omega)]
      exact Fin.ext (by dsimp only; omega)

theorem window_sum {N : ℕ} (t : Fin N) (f g : Fin N → EReal)
    (hg : ∀ k k' : Fin N, k.val + t.val + 1 = k'.val + N → g k = f k') (hz : ∀ k : Fin N, k.val + t.val + 1 < N → g k = 0) :
    ∑ k, g k = ∑ k, if k ≤ t then f k else 0 := by
  refine Fintype.sum_equiv (shift t) _ _ fun k => ?_
  by_cases h : k.val + t.val + 1 < N
  · have e : shift t k = ⟨k.val + t.val + 1, h⟩ := dif_pos h
    rw [e, hz k h, if_neg (by rw [Fin.le_def]; simp)]
  · have e : shift t k = ⟨k.val + t.val + 1 - N, by omega⟩ := dif_neg h
    rw [e, if_pos (by rw [Fin.le_def]; simp; omega)]
    exact hg k _ (by simp; omega)

theorem sum_idx3 {N : ℕ} (g : (⟨3, ![1, N, 1]⟩ : Shape).Idx → EReal) : ∑ w, g w = ∑ k : Fin N, g (ix3 (0 : Fin 1) k (0 : Fin 1)) := by
  refine (Fintype.sum_bijective (fun k : Fin N => (ix3 (0 : Fin 1) k (0 : Fin 1) : (⟨3, ![1, N, 1]⟩ : Shape).Idx)) ⟨?_, ?_⟩ _ _ fun _ => rfl).symm
  · exact fun _ _ e => congrFun e 1
  · refine fun w => ⟨w 1, ?_⟩
    funext a
    apply Fin.ext
    match a with
    | ⟨0, _⟩ => exact (Nat.lt_one_iff.mp (w 0).isLt).symm
    | ⟨1, _⟩ => rfl
    | ⟨2, _⟩ => exact (Nat.lt_one_iff.mp (w 2).isLt).symm

theorem sum_idx5 {N : ℕ} (g : (⟨5, ![1, 1, N, 1, 1]⟩ : Shape).Idx → EReal) :
    ∑ w, g w = ∑ k : Fin N, g (ix5 (0 : Fin 1) (0 : Fin 1) k (0 : Fin 1) (0 : Fin 1)) := by
  refine (Fintype.sum_bijective (fun k : Fin N => (ix5 (0 : Fin 1) (0 : Fin 1) k (0 : Fin 1) (0 : Fin 1) : (⟨5, ![1, 1, N, 1, 1]⟩ : Shape).Idx))
    ⟨?_, ?_⟩ _ _ fun _ => rfl).symm
  · exact fun _ _ e => congrFun e 2
  · refine fun w => ⟨w 2, ?_⟩
    funext a
    apply Fin.ext
    match a with
    | ⟨0, _⟩ => exact (Nat.lt_one_iff.mp (w 0).isLt).symm
    | ⟨1, _⟩ => exact (Nat.lt_one_iff.mp (w 1).isLt).symm
    | ⟨2, _⟩ => rfl
    | ⟨3, _⟩ => exact (Nat.lt_one_iff.mp (w 3).isLt).symm
    | ⟨4, _⟩ => exact (Nat.lt_one_iff.mp (w 4).isLt).symm

theorem window_eq {s t : Shape} {strides lo : Fin s.rank → ℕ} (window hi : Fin s.rank → ℕ)
    (h : s.ReduceWindows window strides lo hi t) (x : s.Idx → EReal) (j : t.Idx) (g : (⟨s.rank, window⟩ : Shape).Idx → EReal)
    (hg : ∀ w (hin : ∀ a, lo a ≤ (j (a.cast h.1.symm)).val * strides a + (w a).val ∧ (j (a.cast h.1.symm)).val * strides a + (w a).val - lo a < s.size a),
      x (fun a => ⟨(j (a.cast h.1.symm)).val * strides a + (w a).val - lo a, (hin a).2⟩) = g w)
    (hz : ∀ w, (¬ ∀ a, lo a ≤ (j (a.cast h.1.symm)).val * strides a + (w a).val ∧ (j (a.cast h.1.symm)).val * strides a + (w a).val - lo a < s.size a) → g w = 0) :
    Ideal.hostReduceWindowAdd window strides lo hi h x 0 j = ∑ w, g w := by
  unfold Ideal.hostReduceWindowAdd Host.reduceWindow
  refine (foldl_sum _).trans ((Finset.sum_congr rfl fun i _ => ?_).trans (Equiv.sum_comp (Shape.rowMajor _).symm g))
  by_cases hin : ∀ a, lo a ≤ (j (a.cast h.1.symm)).val * strides a + ((Shape.rowMajor ⟨s.rank, window⟩).symm i a).val ∧
      (j (a.cast h.1.symm)).val * strides a + ((Shape.rowMajor ⟨s.rank, window⟩).symm i a).val - lo a < s.size a
  · exact (dif_pos hin).trans (hg _ hin)
  · exact (dif_neg hin).trans (hz _ hin).symm

/-- One entry of a running sum: the window's `k`-th place holds the entry `M − k` before. -/
noncomputable def at3 {n0 N n2 : ℕ} (M : ℕ) (x : (⟨3, ![n0, N, n2]⟩ : Shape).Idx → EReal) (b : Fin n0) (t : Fin N) (c : Fin n2) (k : ℕ) : EReal :=
  if h : M ≤ t.val + k ∧ t.val + k - M < N then x (ix3 b ⟨t.val + k - M, h.2⟩ c) else 0

theorem prefix3 {n0 N M n2 : ℕ} (hN : M + 1 = N) (x : (⟨3, ![n0, N, n2]⟩ : Shape).Idx → EReal)
    (h : (⟨3, ![n0, N, n2]⟩ : Shape).ReduceWindows ![1, N, 1] ![1, 1, 1] ![0, M, 0] ![0, 0, 0] ⟨3, ![n0, N, n2]⟩)
    (b : Fin n0) (t : Fin N) (c : Fin n2) :
    Ideal.hostReduceWindowAdd ![1, N, 1] ![1, 1, 1] ![0, M, 0] ![0, 0, 0] h x 0 (ix3 b t c) = ∑ k : Fin N, if k ≤ t then x (ix3 b k c) else 0 := by
  have w0 : ∀ w : (⟨3, ![1, N, 1]⟩ : Shape).Idx, (w 0).val = 0 := fun w => Nat.lt_one_iff.mp (w 0).isLt
  have w2 : ∀ w : (⟨3, ![1, N, 1]⟩ : Shape).Idx, (w 2).val = 0 := fun w => Nat.lt_one_iff.mp (w 2).isLt
  refine (window_eq (s := ⟨3, ![n0, N, n2]⟩) (t := ⟨3, ![n0, N, n2]⟩) ![1, N, 1] ![0, 0, 0] h x (ix3 b t c) (fun w => at3 M x b t c (w 1).val) ?_ ?_).trans ?_
  · intro w hin
    have h1 : M ≤ t.val * 1 + (w 1).val ∧ t.val * 1 + (w 1).val - M < N := hin 1
    dsimp only [at3]
    rw [dif_pos (by omega)]
    refine congrArg x (funext fun a => Fin.ext ?_)
    match a with
    | ⟨0, _⟩ => show b.val * 1 + (w 0).val - 0 = b.val; rw [w0]; omega
    | ⟨1, _⟩ => show t.val * 1 + (w 1).val - M = t.val + (w 1).val - M; omega
    | ⟨2, _⟩ => show c.val * 1 + (w 2).val - 0 = c.val; rw [w2]; omega
  · intro w hin
    refine dif_neg fun q => hin fun a => ?_
    match a with
    | ⟨0, _⟩ => show 0 ≤ b.val * 1 + (w 0).val ∧ b.val * 1 + (w 0).val - 0 < n0; rw [w0]; omega
    | ⟨1, _⟩ => show M ≤ t.val * 1 + (w 1).val ∧ t.val * 1 + (w 1).val - M < N; omega
    | ⟨2, _⟩ => show 0 ≤ c.val * 1 + (w 2).val ∧ c.val * 1 + (w 2).val - 0 < n2; rw [w2]; omega
  · refine (sum_idx3 _).trans (window_sum t (fun k => x (ix3 b k c)) _ ?_ ?_)
    · intro k k' e
      show at3 M x b t c k.val = _
      unfold at3
      rw [dif_pos (by omega)]
      exact congrArg (fun i => x (ix3 b i c)) (Fin.ext (by show t.val + k.val - M = k'.val; omega))
    · intro k e
      refine dif_neg ?_
      show ¬(M ≤ t.val + k.val ∧ t.val + k.val - M < N)
      omega

noncomputable def at5 {n0 n1 N n3 n4 : ℕ} (M : ℕ) (x : (⟨5, ![n0, n1, N, n3, n4]⟩ : Shape).Idx → EReal) (b : Fin n0) (d : Fin n1) (t : Fin N) (c : Fin n3) (r : Fin n4)
    (k : ℕ) : EReal := if h : M ≤ t.val + k ∧ t.val + k - M < N then x (ix5 b d ⟨t.val + k - M, h.2⟩ c r) else 0

theorem prefix5 {n0 n1 N M n3 n4 : ℕ} (hN : M + 1 = N) (x : (⟨5, ![n0, n1, N, n3, n4]⟩ : Shape).Idx → EReal)
    (h : (⟨5, ![n0, n1, N, n3, n4]⟩ : Shape).ReduceWindows ![1, 1, N, 1, 1] ![1, 1, 1, 1, 1] ![0, 0, M, 0, 0] ![0, 0, 0, 0, 0] ⟨5, ![n0, n1, N, n3, n4]⟩)
    (b : Fin n0) (d : Fin n1) (t : Fin N) (c : Fin n3) (r : Fin n4) :
    Ideal.hostReduceWindowAdd ![1, 1, N, 1, 1] ![1, 1, 1, 1, 1] ![0, 0, M, 0, 0] ![0, 0, 0, 0, 0] h x 0 (ix5 b d t c r)
      = ∑ k : Fin N, if k ≤ t then x (ix5 b d k c r) else 0 := by
  have w0 : ∀ w : (⟨5, ![1, 1, N, 1, 1]⟩ : Shape).Idx, (w 0).val = 0 := fun w => Nat.lt_one_iff.mp (w 0).isLt
  have w1 : ∀ w : (⟨5, ![1, 1, N, 1, 1]⟩ : Shape).Idx, (w 1).val = 0 := fun w => Nat.lt_one_iff.mp (w 1).isLt
  have w3 : ∀ w : (⟨5, ![1, 1, N, 1, 1]⟩ : Shape).Idx, (w 3).val = 0 := fun w => Nat.lt_one_iff.mp (w 3).isLt
  have w4 : ∀ w : (⟨5, ![1, 1, N, 1, 1]⟩ : Shape).Idx, (w 4).val = 0 := fun w => Nat.lt_one_iff.mp (w 4).isLt
  refine (window_eq (s := ⟨5, ![n0, n1, N, n3, n4]⟩) (t := ⟨5, ![n0, n1, N, n3, n4]⟩) ![1, 1, N, 1, 1] ![0, 0, 0, 0, 0] h x (ix5 b d t c r)
    (fun w => at5 M x b d t c r (w 2).val) ?_ ?_).trans ?_
  · intro w hin
    have h1 : M ≤ t.val * 1 + (w 2).val ∧ t.val * 1 + (w 2).val - M < N := hin 2
    dsimp only [at5]
    rw [dif_pos (by omega)]
    refine congrArg x (funext fun a => Fin.ext ?_)
    match a with
    | ⟨0, _⟩ => show b.val * 1 + (w 0).val - 0 = b.val; rw [w0]; omega
    | ⟨1, _⟩ => show d.val * 1 + (w 1).val - 0 = d.val; rw [w1]; omega
    | ⟨2, _⟩ => show t.val * 1 + (w 2).val - M = t.val + (w 2).val - M; omega
    | ⟨3, _⟩ => show c.val * 1 + (w 3).val - 0 = c.val; rw [w3]; omega
    | ⟨4, _⟩ => show r.val * 1 + (w 4).val - 0 = r.val; rw [w4]; omega
  · intro w hin
    refine dif_neg fun q => hin fun a => ?_
    match a with
    | ⟨0, _⟩ => show 0 ≤ b.val * 1 + (w 0).val ∧ b.val * 1 + (w 0).val - 0 < n0; rw [w0]; omega
    | ⟨1, _⟩ => show 0 ≤ d.val * 1 + (w 1).val ∧ d.val * 1 + (w 1).val - 0 < n1; rw [w1]; omega
    | ⟨2, _⟩ => show M ≤ t.val * 1 + (w 2).val ∧ t.val * 1 + (w 2).val - M < N; omega
    | ⟨3, _⟩ => show 0 ≤ c.val * 1 + (w 3).val ∧ c.val * 1 + (w 3).val - 0 < n3; rw [w3]; omega
    | ⟨4, _⟩ => show 0 ≤ r.val * 1 + (w 4).val ∧ r.val * 1 + (w 4).val - 0 < n4; rw [w4]; omega
  · refine (sum_idx5 _).trans (window_sum t (fun k => x (ix5 b d k c r)) _ ?_ ?_)
    · intro k k' e
      show at5 M x b d t c r k.val = _
      unfold at5
      rw [dif_pos (by omega)]
      exact congrArg (fun i => x (ix5 b d i c r)) (Fin.ext (by show t.val + k.val - M = k'.val; omega))
    · intro k e
      refine dif_neg ?_
      show ¬(M ≤ t.val + k.val ∧ t.val + k.val - M < N)
      omega

end Cert.Prefix
-- ==== Proof.FwdRef.lean ====
module

public import proofs.«01_k».proof.Proof.Gen.ReferenceFwdIdeal.Run
public import proofs.«01_k».proof.Proof.FwdSpec
public import proofs.«01_k».proof.Proof.Prefix
public import Idealize.ShloMosaic.Lib.Pointwise
public import Idealize.ShloMosaic.Lib.KernelVsHost

@[expose] public section

set_option maxRecDepth 16384

noncomputable section

/-! The reference's three results at an index: the values of `FwdSpec`. -/

namespace Cert.FwdRef

open Cert.ReferenceFwdIdeal Cert.ReferenceFwdIdeal.Gen Cert.ReferenceFwdIdeal.Value Idealize.ShloMosaic Idealize.ShloMosaic.TcCoe Idealize.SL.Sem Cert.FwdSpec

variable (V : Valuation τ sig (Elt Ideal))

/-- The argument arrays of a launch. -/
abbrev ar : Args :=
  ⟨V (Proc.devRef .tc main_arg0), V (Proc.devRef .tc main_arg1), V (Proc.devRef .tc main_arg2), V (Proc.devRef .tc main_arg3), V (Proc.devRef .tc main_arg4),
    V (Proc.devRef .tc main_arg5), V (Proc.devRef .tc main_arg6), V (Proc.devRef .tc main_arg7), V (Proc.devRef .tc main_arg8)⟩

abbrev W0 : FVec Ideal S2x2048x512 .f32 := res_main_v0 V
abbrev W1 : FVec Ideal S2x2048x1024 .f32 := res_main_v1 V
abbrev W6 : FVec Ideal S2x2048x512 .f32 := res_main_v6 V
abbrev W10 : FVec Ideal S1x2048x1 .f32 := res_main_v10 V
abbrev W11 : FVec Ideal S2x2048x128 .f32 := res_main_v11 V
abbrev W22 : FVec Ideal S2x2048x128 .f32 := res_main_v22 V
abbrev W33 : FVec Ideal S2x2048x128 .f32 := res_main_v33 V
abbrev W44 : FVec Ideal S2x2048x128 .f32 := res_main_v44 V
abbrev W73 : FVec Ideal S2x2051x1536 .f32 := res_main_v73 V
abbrev W103 : FVec Ideal S2x2048x1536 .f32 := res_main_v103 V
abbrev W104 : FVec Ideal S2x2048x1536 .f32 := res_main_v104 V
abbrev W106 : FVec Ideal S2x2048x2x8x64 .f32 := res_main_v106 V
abbrev W113 : FVec Ideal S2x2048x16 .f32 := res_main_v113 V
abbrev W115 : FVec Ideal S2x2048x2x8 .f32 := res_main_v115 V
abbrev W122 : FVec Ideal S2x16x128x2x8x64 .f32 := res_main_v122 V
abbrev W127 : FVec Ideal S2x16x128x2x128 .f32 := res_main_v127 V
abbrev W128 : FVec Ideal S2x16x128x2x128 .f32 := res_main_v128 V
abbrev W129 : FVec Ideal S2x16x128x2x8 .f32 := res_main_v129 V
abbrev W154 : FVec Ideal S2x16x2x8x64x128 .f32 := res_main_v154 V
abbrev W159 : FVec Ideal S2x16x2x8x64x128 .f32 := res_main_v159 V
abbrev W160 : FVec Ideal S2x1x2x8x64x128 .f32 := res_main_v160 V
abbrev W164 : FVec Ideal S2x1x2x8x64x128 .f32 := res_main_v164 V
abbrev W168 : FVec Ideal S2x1x2x8x64x128 .f32 := res_main_v168 V
abbrev W172 : FVec Ideal S2x1x2x8x64x128 .f32 := res_main_v172 V
abbrev W176 : FVec Ideal S2x1x2x8x64x128 .f32 := res_main_v176 V
abbrev W180 : FVec Ideal S2x1x2x8x64x128 .f32 := res_main_v180 V
abbrev W184 : FVec Ideal S2x1x2x8x64x128 .f32 := res_main_v184 V
abbrev W188 : FVec Ideal S2x1x2x8x64x128 .f32 := res_main_v188 V
abbrev W192 : FVec Ideal S2x1x2x8x64x128 .f32 := res_main_v192 V
abbrev W196 : FVec Ideal S2x1x2x8x64x128 .f32 := res_main_v196 V
abbrev W200 : FVec Ideal S2x1x2x8x64x128 .f32 := res_main_v200 V
abbrev W204 : FVec Ideal S2x1x2x8x64x128 .f32 := res_main_v204 V
abbrev W208 : FVec Ideal S2x1x2x8x64x128 .f32 := res_main_v208 V
abbrev W212 : FVec Ideal S2x1x2x8x64x128 .f32 := res_main_v212 V
abbrev W216 : FVec Ideal S2x1x2x8x64x128 .f32 := res_main_v216 V
abbrev W221 : FVec Ideal S2x16x2x8x64x128 .f32 := res_main_v221 V
abbrev W239 : FVec Ideal S2x2048x2x512 .f32 := res_main_v239 V
abbrev W254 : FVec Ideal S2x2048x1536 .f32 := res_main_v254 V

variable (b : Fin 2) (s : Fin 2048) (c : Fin 16) (l : Fin 128) (g : Fin 2) (r : Fin 8) (p : Fin 64) (n : Fin 128)

/-- The channel of a head's place, and the head. -/
def kk : Fin 1024 := ⟨g.val * 512 + r.val * 64 + p.val, by omega⟩
def hh : Fin 16 := ⟨g.val * 8 + r.val, by omega⟩
theorem hO_kk : hO (kk g r p) = hh g r := Fin.ext (by show (g.val * 512 + r.val * 64 + p.val) / 64 = g.val * 8 + r.val; omega)
theorem gO_kk : gO (kk g r p) = g := Fin.ext (by show (g.val * 512 + r.val * 64 + p.val) / 512 = g.val; omega)

theorem v0 (j : Fin 512) : W0 V (ix3 b s j) = u (ar V) b s j := by
  pointwise [W0, res_main_v0]
  rfl

theorem v1 (k : Fin 1024) : W1 V (ix3 b s k) = z (ar V) b s k := by
  pointwise [W1, res_main_v1]
  rfl

theorem v6 (j : Fin 512) : W6 V (ix3 b s j) = ∑ k : Fin 2048, if k ≤ s then u (ar V) b k j else 0 := by
  have h0 : Ideal.ofBits .f32 0x00000000#32 = 0 := Ideal.ofBits_zero_f32
  have e : W6 V (ix3 b s j) = Ideal.hostReduceWindowAdd ![1, 2048, 1] ![1, 1, 1] ![0, 2047, 0] ![0, 0, 0]
      reduceWindows_S2x2048x512_S2x2048x512_w1s1p0_0_w2048s1p2047_0_w1s1p0_0 (W0 V) (Ideal.ofBits .f32 0x00000000#32) (ix3 b s j) := by
    delta W6 res_main_v6 Host.reduceWindowAdd
    rfl
  rw [e, h0, Prefix.prefix3 (by norm_num)]
  exact Finset.sum_congr rfl fun k _ => by rw [v0]

theorem v73 (k : Fin 1536) (d : ℕ) (hd : d ≤ 3) : W73 V (ix3 b ⟨(3 - d) + s.val, by omega⟩ k) = past (fun s => ux (ar V) b s k) s d := by
  pointwise [W73, res_main_v73]
  unfold past
  by_cases h : d ≤ s.val
  · rw [dif_neg (by omega), if_pos h]
    exact congrArg (fun i => (ar V).a0 (ix3 b i ⟨1536 + k.val, by omega⟩)) (Fin.ext (by show _ - 3 = s.val - d; omega))
  · rw [dif_pos (by omega), if_neg h]

theorem v103 (k : Fin 1536) : W103 V (ix3 b s k) = cv (ar V) b s k := by
  have e : W103 V (ix3 b s k) = (ar V).a2 (ix2 0 k) + W73 V (ix3 b ⟨(3 - 3) + s.val, by omega⟩ k) * (ar V).a1 (ix3 0 0 k)
      + W73 V (ix3 b ⟨(3 - 2) + s.val, by omega⟩ k) * (ar V).a1 (ix3 0 1 k) + W73 V (ix3 b ⟨(3 - 1) + s.val, by omega⟩ k) * (ar V).a1 (ix3 0 2 k)
      + W73 V (ix3 b ⟨(3 - 0) + s.val, by omega⟩ k) * (ar V).a1 (ix3 0 3 k) := by
    pointwise [W103, res_main_v103, res_main_v66]
  rw [e, v73 V b s k 3 (by omega), v73 V b s k 2 (by omega), v73 V b s k 1 (by omega), v73 V b s k 0 (by omega)]
  rfl

theorem v104 (k : Fin 1536) : W104 V (ix3 b s k) = xb (ar V) b s k := by
  have e : W104 V (ix3 b s k) = W103 V (ix3 b s k) * sig (W103 V (ix3 b s k)) := by
    (pointwise [W104, res_main_v104]) <;> rfl
  rw [e, v103]
  rfl

theorem v106 : W106 V (ix5 b s g r p) = X (ar V) b s (kk g r p) := by
  have e : W106 V (ix5 b s g r p) = W104 V (ix3 b s ⟨(kk g r p).val, by omega⟩) := by
    (pointwise [W106, res_main_v106]) <;> rfl
  rw [e, v104]
  rfl

theorem v113 (h : Fin 16) : W113 V (ix3 b s h) = pre (ar V) b s h := by
  have e : W113 V (ix3 b s h) = (ar V).a0 (ix3 b s ⟨3072 + h.val, by omega⟩) + (ar V).a3 (ix2 0 h) := by
    (pointwise [W113, res_main_v113]) <;> rfl
  rw [e]
  rfl

theorem v115 : W115 V (ix4 b s g r) = dt (ar V) b s (hh g r) := by
  have e : W115 V (ix4 b s g r) = max (W113 V (ix3 b s (hh g r))) 0 + Ideal.log (1 + Ideal.exp (-(max (W113 V (ix3 b s (hh g r))) (-(W113 V (ix3 b s (hh g r))))))) := by
    pointwise [W115, res_main_v115, res_main_call2_v3, res_main_call2_cst]
    rw [if_neg (by simp)]
    rfl
  rw [e, v113]
  rfl

theorem v122 : W122 V (ix6 b c l g r p) = xdt (ar V) b c l (kk g r p) := by
  have e : W122 V (ix6 b c l g r p) = W106 V (ix5 b (tm c l) g r p) * W115 V (ix4 b (tm c l) g r) := by
    (pointwise [W122, res_main_v122]) <;> rfl
  rw [e, v106, v115]
  unfold xdt
  rw [hO_kk]

theorem v127 : W127 V (ix5 b c l g n) = Bm (ar V) b (tm c l) g n := by
  have e : W127 V (ix5 b c l g n) = W104 V (ix3 b (tm c l) ⟨1024 + (g.val * 128 + n.val), by omega⟩) := by
    (pointwise [W127, res_main_v127]) <;> rfl
  rw [e, v104]
  rfl

theorem v128 : W128 V (ix5 b c l g n) = Cm (ar V) b (tm c l) g n := by
  have e : W128 V (ix5 b c l g n) = W104 V (ix3 b (tm c l) ⟨1280 + (g.val * 128 + n.val), by omega⟩) := by
    (pointwise [W128, res_main_v128]) <;> rfl
  rw [e, v104]
  rfl

/-- The decay's exponents, by chunk. -/
def DA : FVec Ideal S2x16x128x2x8 .f32 :=
  shapeCast _ (mulf (res_main_v115 V) (broadcastInDim S2x2048x2x8 ![0, 1, 2, 3] bcast_S1x1x2x8_S2x2048x2x8_0_1_2_3 (broadcastInDim S1x1x2x8 ![2, 3]
    bcast_S2x8_S1x1x2x8_2_3 (Host.negf (shapeCast _ (Host.exp (shapeCast _ (V (Proc.devRef .tc main_arg4)) shapeCasts_S1x16_S16)) shapeCasts_S16_S2x8)))))
    shapeCasts_S2x2048x2x8_S2x16x128x2x8

theorem DA_apply : DA V (ix5 b c l g r) = da (ar V) b (tm c l) (hh g r) := by
  have e : DA V (ix5 b c l g r) = W115 V (ix4 b (tm c l) g r) * -(Ideal.exp ((ar V).a4 (ix2 0 (hh g r)))) := by
    (pointwise [DA]) <;> rfl
  rw [e, v115]
  rfl

theorem v129 : W129 V (ix5 b c l g r) = cum (ar V) b c l (hh g r) := by
  have h0 : Ideal.ofBits .f32 0x00000000#32 = 0 := Ideal.ofBits_zero_f32
  have e : W129 V (ix5 b c l g r) = Ideal.hostReduceWindowAdd ![1, 1, 128, 1, 1] ![1, 1, 1, 1, 1] ![0, 0, 127, 0, 0] ![0, 0, 0, 0, 0]
      reduceWindows_S2x16x128x2x8_S2x16x128x2x8_w1s1p0_0_w1s1p0_0_w128s1p127_0_w1s1p0_0_w1s1p0_0 (DA V) (Ideal.ofBits .f32 0x00000000#32) (ix5 b c l g r) := rfl
  rw [e, h0, Prefix.prefix5 (by norm_num)]
  exact Finset.sum_congr rfl fun k _ => by rw [DA_apply]

theorem v154 : W154 V (ix6 b c g r p n) = st (ar V) b c n (kk g r p) := by
  have e : W154 V (ix6 b c g r p n) = ∑ l : Fin 128, W122 V (ix6 b c l g r p) * Ideal.exp (W129 V (ix5 b c 127 g r) - W129 V (ix5 b c l g r)) * W127 V (ix5 b c l g n) := by
    (pointwise [W154, res_main_v154]) <;> rfl
  rw [e]
  unfold st
  refine Finset.sum_congr rfl fun l _ => ?_
  rw [v122, v129, v129, v127, hO_kk, gO_kk]

theorem v159 : W159 V (ix6 b c g r p n) = Ideal.exp (cum (ar V) b c 127 (hh g r)) := by
  have e : W159 V (ix6 b c g r p n) = Ideal.exp (W129 V (ix5 b c 127 g r)) := by
    (pointwise [W159, res_main_v159]) <;> rfl
  rw [e, v129]

theorem v160 : W160 V (ix6 b 0 g r p n) = hs (ar V) b 0 (kk g r p) n := by
  (pointwise [W160, res_main_v160]) <;> rfl

theorem next (x : EReal) (i : ℕ) (hx : x = hs (ar V) b i (kk g r p) n) :
    x * W159 V (ix6 b (cF i) g r p n) + W154 V (ix6 b (cF i) g r p n) = hs (ar V) b (i + 1) (kk g r p) n := by
  rw [hx, v159, v154, ← hO_kk g r p]
  rfl

theorem v164 : W164 V (ix6 b 0 g r p n) = hs (ar V) b 1 (kk g r p) n := by
  refine Eq.trans ?_ (next V b g r p n _ 0 (v160 V b g r p n))
  (pointwise [W164, res_main_v164]) <;> rfl

theorem v168 : W168 V (ix6 b 0 g r p n) = hs (ar V) b 2 (kk g r p) n := by
  refine Eq.trans ?_ (next V b g r p n _ 1 (v164 V b g r p n))
  (pointwise [W168, res_main_v168]) <;> rfl

theorem v172 : W172 V (ix6 b 0 g r p n) = hs (ar V) b 3 (kk g r p) n := by
  refine Eq.trans ?_ (next V b g r p n _ 2 (v168 V b g r p n))
  (pointwise [W172, res_main_v172]) <;> rfl

theorem v176 : W176 V (ix6 b 0 g r p n) = hs (ar V) b 4 (kk g r p) n := by
  refine Eq.trans ?_ (next V b g r p n _ 3 (v172 V b g r p n))
  (pointwise [W176, res_main_v176]) <;> rfl

theorem v180 : W180 V (ix6 b 0 g r p n) = hs (ar V) b 5 (kk g r p) n := by
  refine Eq.trans ?_ (next V b g r p n _ 4 (v176 V b g r p n))
  (pointwise [W180, res_main_v180]) <;> rfl

theorem v184 : W184 V (ix6 b 0 g r p n) = hs (ar V) b 6 (kk g r p) n := by
  refine Eq.trans ?_ (next V b g r p n _ 5 (v180 V b g r p n))
  (pointwise [W184, res_main_v184]) <;> rfl

theorem v188 : W188 V (ix6 b 0 g r p n) = hs (ar V) b 7 (kk g r p) n := by
  refine Eq.trans ?_ (next V b g r p n _ 6 (v184 V b g r p n))
  (pointwise [W188, res_main_v188]) <;> rfl

theorem v192 : W192 V (ix6 b 0 g r p n) = hs (ar V) b 8 (kk g r p) n := by
  refine Eq.trans ?_ (next V b g r p n _ 7 (v188 V b g r p n))
  (pointwise [W192, res_main_v192]) <;> rfl

theorem v196 : W196 V (ix6 b 0 g r p n) = hs (ar V) b 9 (kk g r p) n := by
  refine Eq.trans ?_ (next V b g r p n _ 8 (v192 V b g r p n))
  (pointwise [W196, res_main_v196]) <;> rfl

theorem v200 : W200 V (ix6 b 0 g r p n) = hs (ar V) b 10 (kk g r p) n := by
  refine Eq.trans ?_ (next V b g r p n _ 9 (v196 V b g r p n))
  (pointwise [W200, res_main_v200]) <;> rfl

theorem v204 : W204 V (ix6 b 0 g r p n) = hs (ar V) b 11 (kk g r p) n := by
  refine Eq.trans ?_ (next V b g r p n _ 10 (v200 V b g r p n))
  (pointwise [W204, res_main_v204]) <;> rfl

theorem v208 : W208 V (ix6 b 0 g r p n) = hs (ar V) b 12 (kk g r p) n := by
  refine Eq.trans ?_ (next V b g r p n _ 11 (v204 V b g r p n))
  (pointwise [W208, res_main_v208]) <;> rfl

theorem v212 : W212 V (ix6 b 0 g r p n) = hs (ar V) b 13 (kk g r p) n := by
  refine Eq.trans ?_ (next V b g r p n _ 12 (v208 V b g r p n))
  (pointwise [W212, res_main_v212]) <;> rfl

theorem v216 : W216 V (ix6 b 0 g r p n) = hs (ar V) b 14 (kk g r p) n := by
  refine Eq.trans ?_ (next V b g r p n _ 13 (v212 V b g r p n))
  (pointwise [W216, res_main_v216]) <;> rfl

set_option maxHeartbeats 4000000 in
theorem v221 : W221 V (ix6 b c g r p n) = hs (ar V) b c.val (kk g r p) n := by
  match c with
  | 0 => exact Eq.trans (by pointwise [W221, res_main_v221]) (v160 V b g r p n)
  | 1 => exact Eq.trans (by pointwise [W221, res_main_v221]) (v164 V b g r p n)
  | 2 => exact Eq.trans (by pointwise [W221, res_main_v221]) (v168 V b g r p n)
  | 3 => exact Eq.trans (by pointwise [W221, res_main_v221]) (v172 V b g r p n)
  | 4 => exact Eq.trans (by pointwise [W221, res_main_v221]) (v176 V b g r p n)
  | 5 => exact Eq.trans (by pointwise [W221, res_main_v221]) (v180 V b g r p n)
  | 6 => exact Eq.trans (by pointwise [W221, res_main_v221]) (v184 V b g r p n)
  | 7 => exact Eq.trans (by pointwise [W221, res_main_v221]) (v188 V b g r p n)
  | 8 => exact Eq.trans (by pointwise [W221, res_main_v221]) (v192 V b g r p n)
  | 9 => exact Eq.trans (by pointwise [W221, res_main_v221]) (v196 V b g r p n)
  | 10 => exact Eq.trans (by pointwise [W221, res_main_v221]) (v200 V b g r p n)
  | 11 => exact Eq.trans (by pointwise [W221, res_main_v221]) (v204 V b g r p n)
  | 12 => exact Eq.trans (by pointwise [W221, res_main_v221]) (v208 V b g r p n)
  | 13 => exact Eq.trans (by pointwise [W221, res_main_v221]) (v212 V b g r p n)
  | 14 => exact Eq.trans (by pointwise [W221, res_main_v221]) (v216 V b g r p n)
  | 15 =>
    refine Eq.trans ?_ (next V b g r p n _ 14 (v216 V b g r p n))
    (pointwise [W221, res_main_v221]) <;> rfl
  | ⟨_ + 16, h⟩ => exact absurd h (by omega)

/-- The chunk of a row, and its place in the chunk. -/
def sC : Fin 16 := ⟨s.val / 128, by omega⟩
def sL : Fin 128 := ⟨s.val % 128, by omega⟩

/-- The head of a channel in its group, and the place in the head. -/
def rO (q : Fin 512) : Fin 8 := ⟨(g.val * 512 + q.val) / 64 % 8, by omega⟩
def pO (q : Fin 512) : Fin 64 := ⟨(g.val * 512 + q.val) % 64, by omega⟩
theorem kk_O (q : Fin 512) : kk g (rO g q) (pO g q) = kO g q :=
  Fin.ext (by show g.val * 512 + (g.val * 512 + q.val) / 64 % 8 * 64 + (g.val * 512 + q.val) % 64 = g.val * 512 + q.val; omega)
theorem hh_O (q : Fin 512) : hh g (rO g q) = hO (kO g q) :=
  Fin.ext (by show g.val * 8 + (g.val * 512 + q.val) / 64 % 8 = (g.val * 512 + q.val) / 64; omega)
theorem gO_O (q : Fin 512) : gO (kO g q) = g := Fin.ext (by show (g.val * 512 + q.val) / 512 = g.val; omega)
theorem tm_O : tm (sC s) (sL s) = s := Fin.ext (by show s.val / 128 * 128 + s.val % 128 = s.val; omega)

/-- The mask's choice under the exponential. -/
theorem mask (a d : Fin 128) (x : EReal) :
    Ideal.exp (Scalar.select (Scalar.select (IntOp.cmpi .sge (IntOp.addi (BitVec.ofNat 32 a.val) 0#32) (BitVec.ofNat 32 d.val)) 1#1 0#1) x
      (Ideal.ofBits .f32 0xFF800000#32)) = if d ≤ a then Ideal.exp x else 0 := by
  have e0 : IntOp.addi (BitVec.ofNat 32 a.val) 0#32 = BitVec.ofNat 32 a.val := BitVec.add_zero _
  rw [e0, sge_word (by omega) (by omega)]
  by_cases h : d ≤ a
  · rw [if_pos h, decide_eq_true (Fin.le_def.mp h)]
    rfl
  · rw [if_neg h, decide_eq_false (fun q => h (Fin.le_def.mpr q)), ofBits_ninf]
    rfl

theorem v239 (q : Fin 512) : W239 V (ix4 b s g q) = yz (ar V) b (sC s) (sL s) (kO g q) := by
  have e : W239 V (ix4 b s g q) = ((∑ x : Fin 128, W122 V (ix6 b (sC s) x g (rO g q) (pO g q)) *
        ((∑ n : Fin 128, W127 V (ix5 b (sC s) x g n) * W128 V (ix5 b (sC s) (sL s) g n)) *
          Ideal.exp (Scalar.select (Scalar.select (IntOp.cmpi .sge (IntOp.addi (BitVec.ofNat 32 (sL s).val) 0#32) (BitVec.ofNat 32 x.val)) 1#1 0#1)
            (W129 V (ix5 b (sC s) (sL s) g (rO g q)) - W129 V (ix5 b (sC s) x g (rO g q))) (Ideal.ofBits .f32 0xFF800000#32))))
      + (∑ n : Fin 128, W221 V (ix6 b (sC s) g (rO g q) (pO g q) n) * W128 V (ix5 b (sC s) (sL s) g n)) * Ideal.exp (W129 V (ix5 b (sC s) (sL s) g (rO g q)))
      + (ar V).a5 (ix2 0 (hh g (rO g q))) * W106 V (ix5 b s g (rO g q) (pO g q))) * (W1 V (ix3 b s (kO g q)) * sig (W1 V (ix3 b s (kO g q)))) := by
    (pointwise [W239, res_main_v239]) <;> rfl
  have e1 : (∑ x : Fin 128, W122 V (ix6 b (sC s) x g (rO g q) (pO g q)) *
        ((∑ n : Fin 128, W127 V (ix5 b (sC s) x g n) * W128 V (ix5 b (sC s) (sL s) g n)) *
          Ideal.exp (Scalar.select (Scalar.select (IntOp.cmpi .sge (IntOp.addi (BitVec.ofNat 32 (sL s).val) 0#32) (BitVec.ofNat 32 x.val)) 1#1 0#1)
            (W129 V (ix5 b (sC s) (sL s) g (rO g q)) - W129 V (ix5 b (sC s) x g (rO g q))) (Ideal.ofBits .f32 0xFF800000#32))))
      = yd (ar V) b (sC s) (sL s) (kO g q) := by
    unfold yd
    refine Finset.sum_congr rfl fun x _ => ?_
    rw [mask, v122, v129, v129, kk_O, hh_O, gO_O, mul_comm]
    refine congrArg (· * _) (congrArg (· * _) (Finset.sum_congr rfl fun n _ => ?_))
    rw [v127, v128, mul_comm]
  have e2 : (∑ n : Fin 128, W221 V (ix6 b (sC s) g (rO g q) (pO g q) n) * W128 V (ix5 b (sC s) (sL s) g n)) * Ideal.exp (W129 V (ix5 b (sC s) (sL s) g (rO g q)))
      = yo (ar V) b (sC s) (sL s) (kO g q) := by
    unfold yo
    rw [v129, hh_O, gO_O]
    refine congrArg (· * _) (Finset.sum_congr rfl fun n _ => ?_)
    rw [v221, v128, kk_O, mul_comm]
  rw [e, e1, e2, v106, v1, kk_O, hh_O]
  unfold yz y
  rw [tm_O]

theorem v10 : W10 V (ix3 0 s 0) = (((s.val : ℝ) + 1 : ℝ) : EReal) := by
  have e : W10 V (ix3 0 s 0) = 1 + (((BitVec.ofNat 32 s.val).toInt : ℝ) : EReal) := by
    (pointwise [W10, res_main_v10]) <;> rfl
  rw [e, toInt_word (by omega), add_comm, EReal.coe_add]
  rfl

theorem v11 (x : Fin 128) : W11 V (ix3 b s x) = ∑ k : Fin 2048, if k ≤ s then u (ar V) b k (cell 0 x) else 0 := by
  refine Eq.trans ?_ (v6 V b s (cell 0 x))
  (pointwise [W11, res_main_v11]) <;> exact congrArg (fun i => W6 V (ix3 b s i)) (Fin.ext (by show x.val = 0 * 128 + x.val; omega))

theorem v22 (x : Fin 128) : W22 V (ix3 b s x) = ∑ k : Fin 2048, if k ≤ s then u (ar V) b k (cell 1 x) else 0 := by
  refine Eq.trans ?_ (v6 V b s (cell 1 x))
  (pointwise [W22, res_main_v22]) <;> exact congrArg (fun i => W6 V (ix3 b s i)) (Fin.ext (by show 128 + x.val = 1 * 128 + x.val; omega))

theorem v33 (x : Fin 128) : W33 V (ix3 b s x) = ∑ k : Fin 2048, if k ≤ s then u (ar V) b k (cell 2 x) else 0 := by
  refine Eq.trans ?_ (v6 V b s (cell 2 x))
  (pointwise [W33, res_main_v33]) <;> exact congrArg (fun i => W6 V (ix3 b s i)) (Fin.ext (by show 256 + x.val = 2 * 128 + x.val; omega))

theorem v44 (x : Fin 128) : W44 V (ix3 b s x) = ∑ k : Fin 2048, if k ≤ s then u (ar V) b k (cell 3 x) else 0 := by
  refine Eq.trans ?_ (v6 V b s (cell 3 x))
  (pointwise [W44, res_main_v44]) <;> exact congrArg (fun i => W6 V (ix3 b s i)) (Fin.ext (by show 384 + x.val = 3 * 128 + x.val; omega))

variable (H : Fin' (ar V))

include H in
theorem pool (w : Fin 4) (d : ℕ) (hd : d = win w) (x : Fin 128) (C : Fin 2048 → EReal) (hC : ∀ s, C s = ∑ k : Fin 2048, if k ≤ s then u (ar V) b k (cell w x) else 0)
    (cw : EReal) (hw : cw = ((win w : ℝ) : EReal)) (U : EReal) (hU : U = u (ar V) b s (cell w x)) :
    Ideal.div (C s - if h : s.val < d then 0 else C ⟨s.val - d, by omega⟩) (min (W10 V (ix3 0 s 0)) cw) - U = pl (ar V) b s w x := by
  subst hd
  unfold pl
  rw [v10, hw, hU, ← window (fun s => u (ar V) b s (cell w x)) (fun i => H.f0 _) s (win w), hC s]
  refine congrArg (fun t => Ideal.div (_ - t) _ - _) ?_
  by_cases h : win w ≤ s.val
  · rw [dif_neg (by omega), dif_pos h, hC]
  · rw [dif_pos (by omega), dif_neg h]

/-- The reference's choice of a pooling group's row. -/
def plR (w : ℕ) (x : Fin 128) : EReal :=
  if h : w < 1 then
    Ideal.div (W11 V (ix3 b s x) - if h : s.val < 2 then 0 else W11 V (ix3 b ⟨s.val - 2, by omega⟩ x))
      (min (W10 V (ix3 0 s 0)) (Ideal.ofBits FTy.f32 0x40000000#32)) - W0 V (ix3 b s ⟨x.val, by omega⟩)
  else if h : w - 1 < 1 then
    Ideal.div (W22 V (ix3 b s x) - if h : s.val < 4 then 0 else W22 V (ix3 b ⟨s.val - 4, by omega⟩ x))
      (min (W10 V (ix3 0 s 0)) (Ideal.ofBits FTy.f32 0x40800000#32)) - W0 V (ix3 b s ⟨128 + x.val, by omega⟩)
  else if h : w - 1 - 1 < 1 then
    Ideal.div (W33 V (ix3 b s x) - if h : s.val < 8 then 0 else W33 V (ix3 b ⟨s.val - 8, by omega⟩ x))
      (min (W10 V (ix3 0 s 0)) (Ideal.ofBits FTy.f32 0x41000000#32)) - W0 V (ix3 b s ⟨256 + x.val, by omega⟩)
  else
    Ideal.div (W44 V (ix3 b s x) - if h : s.val < 16 then 0 else W44 V (ix3 b ⟨s.val - 16, by omega⟩ x))
      (min (W10 V (ix3 0 s 0)) (Ideal.ofBits FTy.f32 0x41800000#32)) - W0 V (ix3 b s ⟨384 + x.val, by omega⟩)

include H in
theorem plR_eq (w : Fin 4) (x : Fin 128) : plR V b s w.val x = pl (ar V) b s w x := by
  unfold plR
  match w with
  | 0 =>
    rw [dif_pos (by decide)]
    exact pool V b s H 0 2 rfl x (fun s => W11 V (ix3 b s x)) (fun s => v11 V b s x) _ ofBits_2 _
      ((v0 V b s _).trans (congrArg (u (ar V) b s) (Fin.ext (by show x.val = 0 * 128 + x.val; omega))))
  | 1 =>
    rw [dif_neg (by decide), dif_pos (by decide)]
    exact pool V b s H 1 4 rfl x (fun s => W22 V (ix3 b s x)) (fun s => v22 V b s x) _ ofBits_4 _
      ((v0 V b s _).trans (congrArg (u (ar V) b s) (Fin.ext (by show 128 + x.val = 1 * 128 + x.val; omega))))
  | 2 =>
    rw [dif_neg (by decide), dif_neg (by decide), dif_pos (by decide)]
    exact pool V b s H 2 8 rfl x (fun s => W33 V (ix3 b s x)) (fun s => v33 V b s x) _ ofBits_8 _
      ((v0 V b s _).trans (congrArg (u (ar V) b s) (Fin.ext (by show 256 + x.val = 2 * 128 + x.val; omega))))
  | 3 =>
    rw [dif_neg (by decide), dif_neg (by decide), dif_neg (by decide)]
    exact pool V b s H 3 16 rfl x (fun s => W44 V (ix3 b s x)) (fun s => v44 V b s x) _ ofBits_16 _
      ((v0 V b s _).trans (congrArg (u (ar V) b s) (Fin.ext (by show 384 + x.val = 3 * 128 + x.val; omega))))

include H in
theorem v254 (k : Fin 1536) : W254 V (ix3 b s k) = row (ar V) b (sC s) (sL s) k := by
  have e : W254 V (ix3 b s k) = if h : k.val < 512 then
      (∑ x : Fin 128, (ar V).a7 (ix4 0 ⟨k.val / 128, by omega⟩ x ⟨k.val % 128, by omega⟩) * plR V b s (k.val / 128) x) * (ar V).a8 (ix2 0 ⟨k.val, by omega⟩)
    else
      W239 V (ix4 b s ⟨(k.val - 512) / 512, by omega⟩ ⟨(k.val - 512) % 512, by omega⟩) * Ideal.rsqrt (Ideal.div
        (∑ x : Fin 512, W239 V (ix4 b s ⟨(k.val - 512) / 512, by omega⟩ x) * W239 V (ix4 b s ⟨(k.val - 512) / 512, by omega⟩ x)) (Ideal.ofBits FTy.f32 0x44000000#32)
          + Ideal.ofBits FTy.f32 0x3727C5AC#32) * (ar V).a6 (ix2 0 ⟨k.val - 512, by omega⟩) := by
    (pointwise [W254, res_main_v254]) <;> rfl
  rw [e]
  unfold row
  by_cases h : k.val < 512
  · rw [dif_pos h, dif_pos h]
    unfold yp
    rw [tm_O]
    refine congr (congrArg _ (Finset.sum_congr rfl fun x _ => ?_)) (congrArg (fun i => (ar V).a8 (ix2 0 i)) (Fin.ext ?_))
    · rw [plR_eq V b s H ⟨k.val / 128, by omega⟩ x, mul_comm]
    · show k.val = k.val / 128 * 128 + k.val % 128
      omega
  · rw [dif_neg h, dif_neg h]
    unfold ys var
    have e1 : kO ⟨(k.val - 512) / 512, by omega⟩ ⟨(k.val - 512) % 512, by omega⟩ = (⟨k.val - 512, by omega⟩ : Fin 1024) :=
      Fin.ext (by show (k.val - 512) / 512 * 512 + (k.val - 512) % 512 = k.val - 512; omega)
    simp only [v239, e1]
    rfl

end Cert.FwdRef

end
-- ==== Proof.FwdClaims.lean ====
module

public import proofs.«01_k».proof.Defs
public import proofs.«01_k».proof.Proof.FwdOut
public import proofs.«01_k».proof.Proof.FwdRef
public import proofs.«01_k».proof.Proof.Gen.KernelFwd.Frame
public import proofs.«01_k».proof.Proof.Gen.Pre_finite_fwd
public import Idealize.ShloMosaic.Adequacy
public import Idealize.ShloMosaic.Lib.ReduceAll
public import Idealize.ShloMosaic.Lib.Affine

@[expose] public section

set_option maxRecDepth 16384

noncomputable section

/-! The claims about the fused forward call of the token mixer. -/

namespace Cert.FwdClaims

open Idealize.ShloMosaic Idealize.SL.Sem Cert.FwdSpec

theorem frame_k : Cert.quiescent_KernelFwd := fun m ρ _ => Cert.KernelFwd.Gen.frame m ρ

theorem frame_ki : Cert.quiescent_KernelFwdIdeal := fun m ρ _ => Cert.KernelFwdIdeal.Gen.frame m ρ

theorem frame_kip : Cert.quiescent_KernelFwdIdeal_pre_finite_fwd := fun m ρ _ => Cert.KernelFwdIdeal.Gen.frame m ρ

theorem frame_ri : Cert.quiescent_ReferenceFwdIdeal := fun m ρ _ =>
  (θ_run Cert.ReferenceFwdIdeal.defs _ _).mono (fun r h => ⟨fun c => (h c).2.2.2, Idealize.ShloMosaic.sem_eq_zero_of_no_sems (by decide) r.2⟩)
    (Cert.ReferenceFwdIdeal.Value.run (F := Ideal) m ρ)

theorem frame_rip : Cert.quiescent_ReferenceFwdIdeal_pre_finite_fwd := fun m ρ _ =>
  (θ_run Cert.ReferenceFwdIdeal.defs _ _).mono (fun r h => ⟨fun c => (h c).2.2.2, Idealize.ShloMosaic.sem_eq_zero_of_no_sems (by decide) r.2⟩)
    (Cert.ReferenceFwdIdeal.Value.run (F := Ideal) m ρ)

theorem preserves : Cert.preserves_KernelFwd_KernelFwdIdeal := trivial

/-! ## The finite arguments -/

/-- An extended real whose absolute value compares below the word of `+∞` is a real. -/
theorem real_of_olt (x : EReal) (h : FloatOps.cmpf (F := Ideal) (φ := .f32) .olt (FloatOps.hostAbsf (F := Ideal) (φ := .f32) x) (FloatOps.ofBits (F := Ideal) .f32 0x7F800000#32) = 1#1) : ∃ r : ℝ, x = r := by
  rw [← Ideal.xori_weird_eq_hostAbsf_olt_inf] at h
  by_cases hx : x = ⊤ ∨ x = ⊥
  · exfalso
    have e : FloatOps.weird (F := Ideal) (show Ideal .f32 from x) = 1#1 := by
      show BitVec.ofBool (decide (x = ⊤ ∨ x = ⊥)) = 1#1
      rw [decide_eq_true hx]
      rfl
    rw [e] at h
    exact absurd h (by decide)
  · push Not at hx
    exact ⟨x.toReal, (EReal.coe_toReal hx.1 hx.2).symm⟩

instance : Subsingleton (Cert.Pre_finite_fwd.S_).Idx := ⟨fun a b => funext fun i => i.elim0⟩

theorem finite (A : Args) (h : Cert.Pre_finite_fwd.fn (F := Ideal) A.a0 A.a1 A.a2 A.a3 A.a4 A.a5 A.a6 A.a7 A.a8 = fun _ => 1#1) : Fin' A := by
  have h0 := congrFun h (fun i => Fin.elim0 i)
  dsimp only [Cert.Pre_finite_fwd.fn, Cert.Pre_finite_fwd.fn_part1] at h0
  obtain ⟨h1, h5⟩ := IntOp.andi_eq_one.mp h0
  obtain ⟨h2, h4⟩ := IntOp.andi_eq_one.mp h1
  obtain ⟨h6, h3⟩ := IntOp.andi_eq_one.mp h2
  exact ⟨fun i => real_of_olt _ (Host.reduce_andi_all _ _ _ _ _ h6 i), fun i => real_of_olt _ (Host.reduce_andi_all _ _ _ _ _ h3 i),
    fun i => real_of_olt _ (Host.reduce_andi_all _ _ _ _ _ h4 i), fun i => real_of_olt _ (Host.reduce_andi_all _ _ _ _ _ h5 i)⟩

/-! ## The reference's results -/

section Results

open Cert.ReferenceFwdIdeal Cert.ReferenceFwdIdeal.Gen Cert.ReferenceFwdIdeal.Value Idealize.ShloMosaic.TcCoe Cert.FwdRef

variable (V : Valuation τ sig (Elt Ideal))

theorem chunk (R : Fin 4096) (h) (h') : (⟨(sC ⟨R.val % 2048, h⟩).val, h'⟩ : Fin 16) = cO R ∧ sL ⟨R.val % 2048, h⟩ = lO R :=
  ⟨Fin.ext (by show R.val % 2048 / 128 = R.val / 128 % 16; omega), Fin.ext (by show R.val % 2048 % 128 = R.val % 128; omega)⟩

theorem res7 (H : Fin' (ar V)) : (truncf .bf16 (shapeCast S4096x1536 (res_main_v254 V) shapeCasts_S2x2048x1536_S4096x1536) bitsLt_bf16_f32 : FVec Ideal S4096x1536 .bf16) = G7 (ar V) := by
  funext i
  obtain ⟨R, k, rfl⟩ : ∃ (R : Fin 4096) (k : Fin 1536), i = ix2 R k := ⟨i 0, i 1, eq_ix2 i⟩
  have e : (truncf .bf16 (shapeCast S4096x1536 (W254 V) shapeCasts_S2x2048x1536_S4096x1536) bitsLt_bf16_f32 : FVec Ideal S4096x1536 .bf16) (ix2 R k)
      = W254 V (ix3 ⟨R.val / 2048, by omega⟩ ⟨R.val % 2048, by omega⟩ k) := by pointwise
  refine e.trans ((v254 V (H := H) _ _ k).trans ?_)
  show row (ar V) (bO R) _ _ k = row (ar V) (bO R) (cO R) (lO R) k
  exact congrArg₂ (fun c l => row (ar V) (bO R) c l k) (chunk R _ (sC _).isLt).1 (chunk R (by omega) (by omega)).2

theorem res8 : (shapeCast S2x16x2x128x512 (transpose S2x16x2x128x8x64 [0, 1, 2, 5, 3, 4] (res_main_v221 V) transposes_S2x16x2x8x64x128_S2x16x2x128x8x64_0_1_2_5_3_4) shapeCasts_S2x16x2x128x8x64_S2x16x2x128x512
    : FVec Ideal S2x16x2x128x512 .f32) = G8 (ar V) := by
  funext i
  obtain ⟨b, c, g, n, q, rfl⟩ : ∃ (b : Fin 2) (c : Fin 16) (g : Fin 2) (n : Fin 128) (q : Fin 512), i = ix5 b c g n q := ⟨i 0, i 1, i 2, i 3, i 4, eq_ix5 i⟩
  have e : (shapeCast S2x16x2x128x512 (transpose S2x16x2x128x8x64 [0, 1, 2, 5, 3, 4] (W221 V) transposes_S2x16x2x8x64x128_S2x16x2x128x8x64_0_1_2_5_3_4) shapeCasts_S2x16x2x128x8x64_S2x16x2x128x512
      : FVec Ideal S2x16x2x128x512 .f32) (ix5 b c g n q) = W221 V (ix6 b c g ⟨q.val / 64, by omega⟩ ⟨q.val % 64, by omega⟩ n) := by pointwise
  refine e.trans ((v221 V b c g _ _ n).trans ?_)
  show _ = hs (ar V) b c.val (kO g q) n
  exact congrArg (fun k => hs (ar V) b c.val k n) (Fin.ext (by show g.val * 512 + q.val / 64 * 64 + q.val % 64 = g.val * 512 + q.val; omega))

theorem res9 : (shapeCast S4096x1536 (res_main_v103 V) shapeCasts_S2x2048x1536_S4096x1536 : FVec Ideal S4096x1536 .f32) = G9 (ar V) := by
  funext i
  obtain ⟨R, k, rfl⟩ : ∃ (R : Fin 4096) (k : Fin 1536), i = ix2 R k := ⟨i 0, i 1, eq_ix2 i⟩
  have e : (shapeCast S4096x1536 (W103 V) shapeCasts_S2x2048x1536_S4096x1536 : FVec Ideal S4096x1536 .f32) (ix2 R k)
      = W103 V (ix3 ⟨R.val / 2048, by omega⟩ ⟨R.val % 2048, by omega⟩ k) := by pointwise
  refine e.trans ((v103 V _ _ k).trans ?_)
  show cv (ar V) (bO R) _ k = cv (ar V) (bO R) (tm (cO R) (lO R)) k
  exact congrArg (fun s => cv (ar V) (bO R) s k) (Fin.ext (by show R.val % 2048 = R.val / 128 % 16 * 128 + R.val % 128; omega))

end Results

theorem algebraic : Cert.algebraic_KernelFwdIdeal_ReferenceFwdIdeal_pre_finite_fwd := by
  intro m ρ m' ρ' hpre hagree
  have e (c : Dev Cert.KernelFwdIdeal.nD) : FwdRef.ar (StableHlo.launchContents m' c) = FwdKernel.ar m c := by
    obtain ⟨h0, h1, h2, h3, h4, h5, h6, h7, h8⟩ := hagree c
    exact congr (congr (congr (congr (congr (congr (congr (congr (congrArg Args.mk h0) h1) h2) h3) h4) h5) h6) h7) h8
  have H (c : Dev Cert.KernelFwdIdeal.nD) : Fin' (FwdKernel.ar m c) := finite (FwdKernel.ar m c) (hpre c)
  refine ⟨fun c => G7 (FwdKernel.ar m c), fun c => G8 (FwdKernel.ar m c), fun c => G9 (FwdKernel.ar m c), ?_, ?_⟩
  · exact (θ_run Cert.KernelFwdIdeal.defs _ _).mono (fun r h c => ⟨(h c).1.trans ((Cert.KernelFwdIdeal.Value.final7 m c).symm.trans (FwdKernel.final7 m c (H c))),
      (h c).2.1.trans ((Cert.KernelFwdIdeal.Value.final8 m c).symm.trans (FwdKernel.final8 m c (H c))),
      (h c).2.2.1.trans ((Cert.KernelFwdIdeal.Value.final9 m c).symm.trans (FwdKernel.final9 m c (H c))), (h c).2.2.2⟩)
      (Cert.KernelFwdIdeal.Value.run (F := Ideal) m ρ)
  · exact (θ_run Cert.ReferenceFwdIdeal.defs _ _).mono (fun r h c => ⟨((h c).1.trans (res7 (StableHlo.launchContents m' c) ((e c).symm ▸ H c))).trans (congrArg (fun A => G7 A) (e c)),
      ((h c).2.1.trans (res8 (StableHlo.launchContents m' c))).trans (congrArg (fun A => G8 A) (e c)),
      ((h c).2.2.1.trans (res9 (StableHlo.launchContents m' c))).trans (congrArg (fun A => G9 A) (e c)), (h c).2.2.2⟩)
      (Cert.ReferenceFwdIdeal.Value.run (F := Ideal) m' ρ')

end Cert.FwdClaims

end
-- ==== Proof.PreSpec.lean ====
module

public import proofs.«01_k».proof.Proof.RowNorm
public import Idealize.ShloMosaic.Lib.Pointwise

@[expose] public section

noncomputable section

/-! The mixing sub-layer's norm, modulation and input projection, as functions of the argument arrays on the extended reals. -/

namespace Cert.PreSpec

open Idealize.ShloMosaic

/-- The argument arrays: the layer's input, the modulation, the gain and the projection's weight. -/
structure Args where
  a0 : (⟨3, ![2, 2048, 1024]⟩ : Shape).Idx → EReal
  a1 : (⟨2, ![2, 6144]⟩ : Shape).Idx → EReal
  a2 : (⟨2, ![1, 1024]⟩ : Shape).Idx → EReal
  a3 : (⟨3, ![1, 1024, 3088]⟩ : Shape).Idx → EReal

variable (A : Args)

/-- A modulated row. -/
def u (b : Fin 2) (s : Fin 2048) (l : Fin 1024) : EReal :=
  A.a0 (ix3 b s l) * Ideal.rsqrt (RowNorm.var fun k => A.a0 (ix3 b s k)) * A.a2 (ix2 0 l) * (1 + A.a1 (ix2 b ⟨1024 + l.val, by omega⟩))
    + A.a1 (ix2 b ⟨l.val, by omega⟩)

/-- The weight with columns of zeros. -/
def w (l : Fin 1024) (k : Fin 3200) : EReal := if h : k.val < 3088 then A.a3 (ix3 0 l ⟨k.val, h⟩) else 0

/-- A row of the batches one after another. -/
def at' (f : Fin 2 → Fin 2048 → EReal) (R : Fin 4096) : EReal := f ⟨R.val / 2048, by omega⟩ ⟨R.val % 2048, by omega⟩

/-- The three results: the modulated rows, their projection, the weight. -/
def G0 : (⟨2, ![4096, 1024]⟩ : Shape).Idx → EReal := fun i => at' (fun b s => u A b s (i 1)) (i 0)
def G1 : (⟨2, ![4096, 3200]⟩ : Shape).Idx → EReal := fun i => at' (fun b s => ∑ l, u A b s l * w A l (i 1)) (i 0)
def G2 : (⟨2, ![1024, 3200]⟩ : Shape).Idx → EReal := fun i => w A (i 0) (i 1)

end Cert.PreSpec

end
-- ==== Proof.PreKernel.lean ====
module

public import proofs.«01_k».proof.Proof.Gen.KernelPreIdeal.Value
public import proofs.«01_k».proof.Proof.PreSpec
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.KernelVsHost

@[expose] public section

set_option maxRecDepth 16384

noncomputable section

/-! The kernel's three results are the arrays of `PreSpec`. -/

namespace Cert.PreKernel

open Cert.KernelPreIdeal Cert.KernelPreIdeal.Gen Idealize.ShloMosaic Idealize.ShloMosaic.TcCoe Idealize.SL.Sem
open Idealize.ShloMosaic.Pipeline (Dat)
open Cert.PreSpec

/-! ## The weight put together from the shards -/

/-- A block of columns over what was written before. -/
theorem canon_col {Val : EltTy → Type} {e : EltTy} [∀ e, Nonempty (Val e)] (o n : ℕ) (inb) (q : (⟨2, ![1024, n]⟩ : Shape).Idx → Val e)
    (rest : List (View.Piece Val S1024x3200 e)) (l : Fin 1024) (k : Fin 3200) :
    View.canon (s := S1024x3200) (⟨Rect.unit ![0, o] ![1024, n] inb, q⟩ :: rest) (ix2 l k)
      = if h : o ≤ k.val ∧ k.val < o + n then q (ix2 l ⟨k.val - o, by omega⟩) else View.canon rest (ix2 l k) := by
  split_ifs with h
  · have e := View.canon_cons_emb (Rect.unit (s := S1024x3200) ![0, o] ![1024, n] inb) q rest (ix2 l ⟨k.val - o, by omega⟩)
    have hi : (Rect.unit (s := S1024x3200) ![0, o] ![1024, n] inb).emb (ix2 l ⟨k.val - o, by omega⟩) = ix2 l k := by
      funext a
      match a with
      | ⟨0, _⟩ => exact Fin.ext (show 0 + 1 * l.val = l.val by omega)
      | ⟨1, _⟩ => exact Fin.ext (show o + 1 * (k.val - o) = k.val by omega)
    rw [hi] at e
    exact e
  · exact View.canon_cons_of_not_mem _ _ fun hm => h ((Rect.mem_set_unit (inb := inb)).mp hm 1)

theorem mem_col (o n : ℕ) (inb) (l : Fin 1024) (k : Fin 3200) (h : o ≤ k.val ∧ k.val < o + n) :
    (ix2 l k : S1024x3200.Idx) ∈ (Rect.unit (s := S1024x3200) ![0, o] ![1024, n] inb).set :=
  (Rect.mem_set_unit (inb := inb)).mpr fun a => by
    match a with
    | ⟨0, _⟩ => exact ⟨Nat.zero_le _, show l.val < 0 + 1024 by omega⟩
    | ⟨1, _⟩ => exact h

/-- A shard's columns. -/
theorem shard_apply (v : Vec Ideal S1x400x1024 .bf16) (l : Fin 1024) (x : Fin 386) : k0_pay2 (F := Ideal) v (ix2 l x) = v (ix3 0 ⟨x.val, by omega⟩ l) := by
  pointwise [k0_pay2]
  rw [dif_pos (by omega)]

theorem zero_apply (i) : k0_pay1 (F := Ideal) i = 0 := by
  pointwise [k0_pay1]

/-- A shard as the body loads it. -/
abbrev slab (x : Vec Ideal S8x400x1024 .bf16) (j : ℕ) (inb : ∀ a, (![j, 0, 0] : Fin 3 → ℕ) a + (![1, 400, 1024] : Fin 3 → ℕ) a ≤ S8x400x1024.size a) : Vec Ideal S1x400x1024 .bf16 :=
  View.ld (Val := Elt Ideal) x (Rect.unit (s := S8x400x1024) ![j, 0, 0] ![1, 400, 1024] inb)

theorem slab_apply (x : Vec Ideal S8x400x1024 .bf16) (j : ℕ) (i : Fin 8) (hj : j = i.val) (inb) (r : Fin 400) (l : Fin 1024) :
    slab x j inb (ix3 0 r l) = x (ix3 i r l) :=
  View.ld_unit_apply_of _ _ _ _ _ (ix3 i r l) (fun a => by match a with | ⟨0, _⟩ => exact (show i.val = j + 0 by omega) | ⟨1, _⟩ => exact (Nat.zero_add _).symm | ⟨2, _⟩ => exact (Nat.zero_add _).symm)

variable (m : (ℓ : Loc nD τ sig) → Buf (Elt Ideal) ℓ) (c : Dev nD)

theorem idx : ∀ t : Fin cfg0.N, win0_0.index t = ![t.val, 0] ∧ win0_1.index t = ![t.val / 4, 0, 0] ∧ win0_2.index t = ![0, 0] ∧ win0_3.index t = ![0, 0, 0]
    ∧ win0_4.index t = ![t.val, 0] ∧ win0_5.index t = ![t.val, 0] ∧ win0_6.index t = ![0, 0] :=
  (by decide +kernel : ∀ t : Fin grid0.N, win0_0.index t = ![t.val, 0] ∧ win0_1.index t = ![t.val / 4, 0, 0] ∧ win0_2.index t = ![0, 0] ∧ win0_3.index t = ![0, 0, 0]
    ∧ win0_4.index t = ![t.val, 0] ∧ win0_5.index t = ![t.val, 0] ∧ win0_6.index t = ![0, 0])

/-- The argument arrays of a launch. -/
abbrev ar : Args := ⟨m (c.tc.loc main_arg0), m (c.tc.loc main_arg1), m (c.tc.loc main_arg2), m (c.tc.loc main_arg3)⟩

theorem sitofp0 (φ : FTy) : FloatOps.sitofp (F := Ideal) φ (0#32) = 0 := by simp [FloatOps.sitofp]

theorem V7 (R : Fin 4096) (l : Fin 1024) :
    (V m c main_v7 : S4096x1024.Idx → EReal) (ix2 R l) = (ar m c).a0 (ix3 ⟨R.val / 2048, by omega⟩ ⟨R.val % 2048, by omega⟩ l) := by
  unfold V
  after_reads_at

theorem V1 (b : Fin 2) (r : Fin 8) (l : Fin 1024) :
    (V m c main_v1 : S2x8x1024.Idx → EReal) (ix3 b r l) = if h : r.val < 6 then (ar m c).a1 (ix2 b ⟨r.val * 1024 + l.val, by omega⟩) else 0 := by
  unfold V
  after_reads_at
  rw [sitofp0]

theorem V6 (j : Fin 8) (r : Fin 400) (l : Fin 1024) :
    (V m c main_v6 : S8x400x1024.Idx → EReal) (ix3 j r l) = if h : r.val < 386 then (ar m c).a3 (ix3 0 l ⟨j.val * 386 + r.val, by omega⟩) else 0 := by
  unfold V
  after_reads_at
  split_ifs
  · rfl
  · exact sitofp0 _

variable (t : Fin cfg0.N)

theorem fin_N : t.val < 8 := lt_of_lt_of_eq t.isLt N_0

/-- The row of all that row `r` of grid point `t` is. -/
def rOf (r : Fin 512) : Fin 4096 := ⟨512 * t.val + r.val, by have := fin_N t; omega⟩
def bOf : Fin 2 := ⟨t.val / 4, by have := fin_N t; omega⟩

theorem rOf_b (r : Fin 512) (h) : (⟨(rOf t r).val / 2048, h⟩ : Fin 2) = bOf t :=
  Fin.ext (by show (512 * t.val + r.val) / 2048 = t.val / 4; omega)

/-- The place of its row in the sequence. -/
def sOf (r : Fin 512) : Fin 2048 := ⟨(rOf t r).val % 2048, by omega⟩

theorem at_rOf (f : Fin 2 → Fin 2048 → EReal) (r : Fin 512) : at' f (rOf t r) = f (bOf t) (sOf t r) := by
  unfold at'
  rw [rOf_b]
  rfl

theorem blk0 (r : Fin 512) (l : Fin 1024) : iblk m c 0 t (ix2 r l) = (ar m c).a0 (ix3 (bOf t) (sOf t r) l) := by
  have : iblk m c 0 t (ix2 r l) = V m c main_v7 (ix2 (rOf t r) l) := by blk_ext [iblk, idx t, rOf]
  rw [this, V7, rOf_b]
  rfl

theorem blk1 (r : Fin 8) (l : Fin 1024) :
    iblk m c 1 t (ix3 0 r l) = if h : r.val < 6 then (ar m c).a1 (ix2 (bOf t) ⟨r.val * 1024 + l.val, by omega⟩) else 0 := by
  have : iblk m c 1 t (ix3 0 r l) = V m c main_v1 (ix3 (bOf t) r l) := by blk_ext [iblk, idx t, bOf]
  rw [this, V1]

theorem blk2 (l : Fin 1024) : iblk m c 2 t (ix2 0 l) = (ar m c).a2 (ix2 0 l) := by
  have : iblk m c 2 t (ix2 0 l) = V m c main_arg2 (ix2 0 l) := by blk_ext [iblk, idx t]
  rw [this, V_main_arg2]

theorem blk3 (j : Fin 8) (r : Fin 400) (l : Fin 1024) :
    iblk m c 3 t (ix3 j r l) = if h : r.val < 386 then (ar m c).a3 (ix3 0 l ⟨j.val * 386 + r.val, by omega⟩) else 0 := by
  have : iblk m c 3 t (ix3 j r l) = V m c main_v6 (ix3 j r l) := by blk_ext [iblk, idx t]
  rw [this, V6]

/-- A shard's columns are the weight's. -/
theorem cols (o j : ℕ) (i : Fin 8) (hj : j = i.val) (ho : o = i.val * 386) (inb) (l : Fin 1024) (k : Fin 3200) (h : o ≤ k.val ∧ k.val < o + 386) :
    k0_pay2 (F := Ideal) (slab (iblk m c 3 t) j inb) (ix2 l ⟨k.val - o, by omega⟩) = w (ar m c) l k := by
  rw [shard_apply, slab_apply _ _ i hj, blk3, dif_pos (show k.val - o < 386 by omega)]
  unfold w
  rw [dif_pos (by omega)]
  congr 2
  exact Fin.ext (by show i.val * 386 + (k.val - o) = k.val; omega)

/-- What the first point writes into the scratch, the last first. -/
def pieces (x : Vec Ideal S8x400x1024 .bf16) : List (View.Piece (Elt Ideal) S1024x3200 .bf16) :=
  [⟨Rect.unit (s := S1024x3200) ![0, 2702] ![1024, 386] inb_S1024x3200_S1024x386_0_2702, k0_pay2 (F := Ideal) (slab x 7 inb_S8x400x1024_S1x400x1024_7_0_0)⟩,
   ⟨Rect.unit (s := S1024x3200) ![0, 2316] ![1024, 386] inb_S1024x3200_S1024x386_0_2316, k0_pay2 (F := Ideal) (slab x 6 inb_S8x400x1024_S1x400x1024_6_0_0)⟩,
   ⟨Rect.unit (s := S1024x3200) ![0, 1930] ![1024, 386] inb_S1024x3200_S1024x386_0_1930, k0_pay2 (F := Ideal) (slab x 5 inb_S8x400x1024_S1x400x1024_5_0_0)⟩,
   ⟨Rect.unit (s := S1024x3200) ![0, 1544] ![1024, 386] inb_S1024x3200_S1024x386_0_1544, k0_pay2 (F := Ideal) (slab x 4 inb_S8x400x1024_S1x400x1024_4_0_0)⟩,
   ⟨Rect.unit (s := S1024x3200) ![0, 1158] ![1024, 386] inb_S1024x3200_S1024x386_0_1158, k0_pay2 (F := Ideal) (slab x 3 inb_S8x400x1024_S1x400x1024_3_0_0)⟩,
   ⟨Rect.unit (s := S1024x3200) ![0, 772] ![1024, 386] inb_S1024x3200_S1024x386_0_772, k0_pay2 (F := Ideal) (slab x 2 inb_S8x400x1024_S1x400x1024_2_0_0)⟩,
   ⟨Rect.unit (s := S1024x3200) ![0, 386] ![1024, 386] inb_S1024x3200_S1024x386_0_386, k0_pay2 (F := Ideal) (slab x 1 inb_S8x400x1024_S1x400x1024_1_0_0)⟩,
   ⟨Rect.unit (s := S1024x3200) ![0, 0] ![1024, 386] inb_S1024x3200_S1024x386_0_0, k0_pay2 (F := Ideal) (slab x 0 inb_S8x400x1024_S1x400x1024_0_0_0)⟩,
   ⟨Rect.unit (s := S1024x3200) ![0, 3072] ![1024, 128] inb_S1024x3200_S1024x128_0_3072, k0_pay1 (F := Ideal)⟩]

/-- A block of columns somewhere in a list holds its columns. -/
theorem col_mem {ps : List (View.Piece (Elt Ideal) S1024x3200 .bf16)} (o n : ℕ) (inb) {q} (hp : (⟨Rect.unit (s := S1024x3200) ![0, o] ![1024, n] inb, q⟩ : View.Piece (Elt Ideal) S1024x3200 .bf16) ∈ ps)
    (l : Fin 1024) (k : Fin 3200) (h : o ≤ k.val ∧ k.val < o + n) : ∃ p ∈ ps, (ix2 l k : S1024x3200.Idx) ∈ p.1.set :=
  ⟨_, hp, mem_col o n inb l k h⟩

theorem pieces_cover (x : Vec Ideal S8x400x1024 .bf16) (y : S1024x3200.Idx) : ∃ p ∈ pieces x, y ∈ p.1.set := by
  obtain ⟨l, k, rfl⟩ : ∃ (l : Fin 1024) (k : Fin 3200), y = ix2 l k := ⟨y 0, y 1, eq_ix2 y⟩
  unfold pieces
  by_cases h8 : 3072 ≤ k.val
  · exact col_mem 3072 128 _ (.tail _ (.tail _ (.tail _ (.tail _ (.tail _ (.tail _ (.tail _ (.tail _ (List.Mem.head _))))))))) l k ⟨h8, by omega⟩
  by_cases h7 : 2702 ≤ k.val
  · exact col_mem 2702 386 _ (List.Mem.head _) l k ⟨h7, by omega⟩
  by_cases h6 : 2316 ≤ k.val
  · exact col_mem 2316 386 _ (.tail _ (List.Mem.head _)) l k ⟨h6, by omega⟩
  by_cases h5 : 1930 ≤ k.val
  · exact col_mem 1930 386 _ (.tail _ (.tail _ (List.Mem.head _))) l k ⟨h5, by omega⟩
  by_cases h4 : 1544 ≤ k.val
  · exact col_mem 1544 386 _ (.tail _ (.tail _ (.tail _ (List.Mem.head _)))) l k ⟨h4, by omega⟩
  by_cases h3 : 1158 ≤ k.val
  · exact col_mem 1158 386 _ (.tail _ (.tail _ (.tail _ (.tail _ (List.Mem.head _))))) l k ⟨h3, by omega⟩
  by_cases h2 : 772 ≤ k.val
  · exact col_mem 772 386 _ (.tail _ (.tail _ (.tail _ (.tail _ (.tail _ (List.Mem.head _)))))) l k ⟨h2, by omega⟩
  by_cases h1 : 386 ≤ k.val
  · exact col_mem 386 386 _ (.tail _ (.tail _ (.tail _ (.tail _ (.tail _ (.tail _ (List.Mem.head _))))))) l k ⟨h1, by omega⟩
  exact col_mem 0 386 _ (.tail _ (.tail _ (.tail _ (.tail _ (.tail _ (.tail _ (.tail _ (List.Mem.head _)))))))) l k ⟨Nat.zero_le _, by omega⟩

/-- The pieces make the weight. -/
theorem canon_pieces (l : Fin 1024) (k : Fin 3200) : View.canon (pieces (iblk m c 3 t)) (ix2 l k) = w (ar m c) l k := by
  unfold pieces
  rw [canon_col 2702 386]
  split_ifs with h7
  · exact cols m c t 2702 7 7 rfl rfl _ l k h7
  rw [canon_col 2316 386]
  split_ifs with h6
  · exact cols m c t 2316 6 6 rfl rfl _ l k h6
  rw [canon_col 1930 386]
  split_ifs with h5
  · exact cols m c t 1930 5 5 rfl rfl _ l k h5
  rw [canon_col 1544 386]
  split_ifs with h4
  · exact cols m c t 1544 4 4 rfl rfl _ l k h4
  rw [canon_col 1158 386]
  split_ifs with h3
  · exact cols m c t 1158 3 3 rfl rfl _ l k h3
  rw [canon_col 772 386]
  split_ifs with h2
  · exact cols m c t 772 2 2 rfl rfl _ l k h2
  rw [canon_col 386 386]
  split_ifs with h1
  · exact cols m c t 386 1 1 rfl rfl _ l k h1
  rw [canon_col 0 386]
  split_ifs with h0
  · exact cols m c t 0 0 0 rfl rfl _ l k h0
  rw [canon_col 3072 128, dif_pos ⟨by omega, by omega⟩, zero_apply]
  unfold w
  rw [dif_neg (by omega)]

theorem read_pieces (l : Fin 1024) (k : Fin 3200) :
    (View.whole cc0_scratch0).readCov (Val := Elt Ideal) (pieces (iblk m c 3 t)) (Rect.unit (s := S1024x3200) ![0, 0] ![1024, 3200] inb_S1024x3200_S1024x3200_0_0).toLoadRect (ix2 l k) = w (ar m c) l k := by
  rw [View.readCov_eq_canon_ld _ _ _ (pieces_cover _)]
  exact (View.ld_unit_apply_of _ _ _ _ _ (ix2 l k) (fun a => by match a with | ⟨0, _⟩ => exact (Nat.zero_add _).symm | ⟨1, _⟩ => exact (Nat.zero_add _).symm)).trans (canon_pieces m c t l k)

/-- The scratch's words read back. -/
theorem raw_eq (X : cc0_scratch0.ty.shape.Idx → Elt Ideal cc0_scratch0.ty.elt) :
    View.read (Elt Ideal) (View.whole cc0_scratch0) ((Memref.isWhole_whole cc0_scratch0).unread X) = X := read_unread_whole cc0_scratch0 _ X

/-! ## The payloads at an index -/

theorem rows_pay (r : Fin 512) (l : Fin 1024) :
    k0_pay10 (F := Ideal) (iblk m c 0 t) (iblk m c 1 t) (iblk m c 2 t) (ix2 r l) = u (ar m c) (bOf t) (sOf t r) l := by
  pointwise [k0_pay10]
  simp only [blk0, blk1, blk2]
  rw [dif_pos (by decide), dif_pos (by decide)]
  unfold u RowNorm.var
  congr 4
  show 0 * 1024 + l.val = l.val
  omega

theorem proj_pay (v : Vec Ideal S1024x3200 .bf16) (hv : ∀ l k, v (ix2 l k) = w (ar m c) l k) (r : Fin 512) (k : Fin 3200) :
    k0_pay11 (F := Ideal) (iblk m c 0 t) (iblk m c 1 t) (iblk m c 2 t) v (ix2 r k) = ∑ l, u (ar m c) (bOf t) (sOf t r) l * w (ar m c) l k := by
  pointwise [k0_pay11]
  exact Finset.sum_congr rfl fun l _ => by rw [rows_pay, hv]

/-! ## The outputs after a point -/

/-- The scratch holds the weight after every point. -/
theorem scratch : ∀ (n : ℕ) (hn : n < cfg0.N) (l : Fin 1024) (k : Fin 3200), (outsAt0 m c n hn).2.2.2 (ix2 l k) = w (ar m c) l k
  | 0, hn, l, k => by
    rw [outsAt0_A m c ⟨0, hn⟩ rfl]
    frame_out
    exact canon_pieces m c ⟨0, hn⟩ l k
  | n + 1, hn, l, k => by
    have := fin_N ⟨n + 1, hn⟩
    rw [outsAt0_B m c ⟨n + 1, hn⟩ (show ¬(n + 1) % 8 = 0 by change n + 1 < 8 at this; omega)]
    exact scratch n (Nat.lt_of_succ_lt hn) l k

theorem out_u (r : Fin 512) (l : Fin 1024) : (outsAt0 m c t.val t.isLt).1 (ix2 r l) = u (ar m c) (bOf t) (sOf t r) l := by
  by_cases h0 : t.val % 8 = 0
  · rw [outsAt0_A m c t h0]
    frame_out
    exact rows_pay m c t r l
  · rw [outsAt0_B m c t h0]
    frame_out
    exact rows_pay m c t r l

theorem out_pm (r : Fin 512) (k : Fin 3200) : (outsAt0 m c t.val t.isLt).2.1 (ix2 r k) = ∑ l, u (ar m c) (bOf t) (sOf t r) l * w (ar m c) l k := by
  by_cases h0 : t.val % 8 = 0
  · rw [outsAt0_A m c t h0]
    frame_out
    exact proj_pay m c t _ (read_pieces m c t) r k
  · rw [outsAt0_B m c t h0]
    frame_out
    rw [raw_eq]
    exact proj_pay m c t _ (scratch m c (t.val - 1) (Nat.lt_of_le_of_lt (Nat.sub_le _ _) t.isLt)) r k

theorem out_wc (l : Fin 1024) (k : Fin 3200) : (outsAt0 m c t.val t.isLt).2.2.1 (ix2 l k) = w (ar m c) l k := by
  by_cases h0 : t.val % 8 = 0
  · rw [outsAt0_A m c t h0]
    frame_out
    exact read_pieces m c t l k
  · rw [outsAt0_B m c t h0]
    frame_out
    rw [raw_eq]
    exact scratch m c (t.val - 1) (Nat.lt_of_le_of_lt (Nat.sub_le _ _) t.isLt) l k

/-! ## The results -/

theorem final4 : (dats m 0 c).arrAt 4 cfg0.N = G0 (ar m c) := by
  refine (dats m 0 c).arrAt_eq_of_covers 4 _ (by decide +kernel) fun t hf y => ?_
  blk_simp
  rw [after0_4]
  obtain ⟨r, l, rfl⟩ : ∃ (r : Fin 512) (l : Fin 1024), y = ix2 r l := ⟨y 0, y 1, eq_ix2 y⟩
  have e : (win0_4.blk t).view.emb (ix2 r l) = ix2 (rOf t r) l := by blk_ext [idx t, rOf]
  refine (out_u m c t r l).trans (Eq.trans ?_ (congrArg (G0 (ar m c)) e).symm)
  exact (at_rOf t (fun b s => u (ar m c) b s l) r).symm

theorem final5 : (dats m 0 c).arrAt 5 cfg0.N = G1 (ar m c) := by
  refine (dats m 0 c).arrAt_eq_of_covers 5 _ (by decide +kernel) fun t hf y => ?_
  blk_simp
  rw [after0_5]
  obtain ⟨r, k, rfl⟩ : ∃ (r : Fin 512) (k : Fin 3200), y = ix2 r k := ⟨y 0, y 1, eq_ix2 y⟩
  have e : (win0_5.blk t).view.emb (ix2 r k) = ix2 (rOf t r) k := by blk_ext [idx t, rOf]
  refine (out_pm m c t r k).trans (Eq.trans ?_ (congrArg (G1 (ar m c)) e).symm)
  exact (at_rOf t (fun b s => ∑ l, u (ar m c) b s l * w (ar m c) l k) r).symm

theorem final6 : (dats m 0 c).arrAt 6 cfg0.N = G2 (ar m c) := by
  refine (dats m 0 c).arrAt_eq_of_covers 6 _ (by decide +kernel) fun t hf y => ?_
  blk_simp
  rw [after0_6]
  obtain ⟨l, k, rfl⟩ : ∃ (l : Fin 1024) (k : Fin 3200), y = ix2 l k := ⟨y 0, y 1, eq_ix2 y⟩
  have e : (win0_6.blk t).view.emb (ix2 l k) = ix2 l k := by blk_ext [idx t]
  exact (out_wc m c t l k).trans (congrArg (G2 (ar m c)) e).symm

end Cert.PreKernel

end
-- ==== Proof.PreRef.lean ====
module

public import proofs.«01_k».proof.Proof.Gen.ReferencePreIdeal.Run
public import proofs.«01_k».proof.Proof.PreSpec
public import Idealize.ShloMosaic.Lib.Pointwise
public import Idealize.ShloMosaic.Lib.KernelVsHost

@[expose] public section

set_option maxRecDepth 16384

noncomputable section

/-! The reference's three results are the arrays of `PreSpec`. -/

namespace Cert.PreRef

open Cert.ReferencePreIdeal Cert.ReferencePreIdeal.Gen Cert.ReferencePreIdeal.Value Idealize.ShloMosaic Idealize.ShloMosaic.TcCoe Idealize.SL.Sem Cert.PreSpec

variable (A : Args)

/-- A row's mean square and the guard. -/
def VA (x : FVec Ideal S2x2048x1024 .f32) : FVec Ideal S2x2048x1 .f32 :=
  addf (Host.divf (broadcastInDim S2x2048x1 ![0, 1] bcast_S2x2048_S2x2048x1_0_1 (Host.reduceAdd (mulf x x) (constant S_ .f32 0x00000000#32) reducesTo_S2x2048x1024_S2x2048_d2 h_S_))
    (broadcastInDim S2x2048x1 ![] bcast_S_S2x2048x1 (constant S_ .f32 0x44800000#32))) (broadcastInDim S2x2048x1 ![] bcast_S_S2x2048x1 (constant S_ .f32 0x3727C5AC#32))

/-- The modulated rows. -/
def U : FVec Ideal S2x2048x1024 .f32 :=
  addf (mulf (mulf (mulf A.a0 (broadcastInDim S2x2048x1024 ![0, 1, 2] bcast_S2x2048x1_S2x2048x1024_0_1_2 (Host.rsqrt (VA A.a0))))
    (broadcastInDim S2x2048x1024 ![0, 1, 2] bcast_S1x1x1024_S2x2048x1024_0_1_2 (broadcastInDim S1x1x1024 ![2] bcast_S1024_S1x1x1024_2 (shapeCast _ (A.a2 : FVec Ideal S1x1024 .f32) shapeCasts_S1x1024_S1024))))
    (broadcastInDim S2x2048x1024 ![0, 1, 2] bcast_S2x1x1024_S2x2048x1024_0_1_2 (addf (broadcastInDim S2x1x1024 ![] bcast_S_S2x1x1024 (constant S_ .f32 0x3F800000#32))
      (extractStridedSlice S2x1x1024 ![0, 0, 1024] (broadcastInDim S2x1x6144 ![0, 2] bcast_S2x6144_S2x1x6144_0_2 (A.a1 : FVec Ideal S2x6144 .f32)) slices_S2x1x6144_S2x1x1024_0_0_1024))))
    (broadcastInDim S2x2048x1024 ![0, 1, 2] bcast_S2x1x1024_S2x2048x1024_0_1_2
      (extractStridedSlice S2x1x1024 ![0, 0, 0] (broadcastInDim S2x1x6144 ![0, 2] bcast_S2x6144_S2x1x6144_0_2 (A.a1 : FVec Ideal S2x6144 .f32)) slices_S2x1x6144_S2x1x1024_0_0_0))

theorem VA_apply (x : FVec Ideal S2x2048x1024 .f32) (b : Fin 2) (s : Fin 2048) : VA x (ix3 b s 0) = RowNorm.var (fun k => x (ix3 b s k)) := by
  pointwise [VA]
  rfl

theorem U_apply (b : Fin 2) (s : Fin 2048) (l : Fin 1024) : U A (ix3 b s l) = u A b s l := by
  pointwise [U]
  rw [VA_apply]
  rfl

/-- The results over the rows. -/
def X0 (x : FVec Ideal S2x2048x1024 .f32) : FVec Ideal S4096x1024 .bf16 :=
  truncf .bf16 (shapeCast S4096x1024 x shapeCasts_S2x2048x1024_S4096x1024) bitsLt_bf16_f32
def X1 (x : FVec Ideal S2x2048x1024 .f32) : FVec Ideal S4096x3200 .f32 :=
  pad S4096x3200 ![0, 0] ![0, 112] ![0, 0] (shapeCast S4096x3088 (Host.dotGeneral (φ₁ := .f32) (φ₂ := .f32) dot_S2x2048x1024_S1024x3088_S2x2048x3088_2_0_01_1_n_n none x
    (shapeCast _ (A.a3 : FVec Ideal S1x1024x3088 .f32) shapeCasts_S1x1024x3088_S1024x3088)) shapeCasts_S2x2048x3088_S4096x3088) (sitofp .f32 (constantI S_ 32 0#32))
    pads_S4096x3088_S4096x3200_000_01120 h_S_
def X2 : FVec Ideal S1024x3200 .bf16 :=
  truncf .bf16 (pad S1024x3200 ![0, 0] ![0, 112] ![0, 0] (shapeCast _ (A.a3 : FVec Ideal S1x1024x3088 .f32) shapeCasts_S1x1024x3088_S1024x3088)
    (sitofp .f32 (constantI S_ 32 0#32)) pads_S1024x3088_S1024x3200_000_01120 h_S_) bitsLt_bf16_f32

theorem res0 : X0 (U A) = G0 A := by
  funext i
  obtain ⟨R, l, rfl⟩ : ∃ (R : Fin 4096) (l : Fin 1024), i = ix2 R l := ⟨i 0, i 1, eq_ix2 i⟩
  pointwise [X0]
  exact U_apply A _ _ _

theorem res1 : X1 A (U A) = G1 A := by
  funext i
  obtain ⟨R, k, rfl⟩ : ∃ (R : Fin 4096) (k : Fin 3200), i = ix2 R k := ⟨i 0, i 1, eq_ix2 i⟩
  show _ = ∑ l, u A _ _ l * w A l k
  pointwise [X1]
  unfold w
  split_ifs with h
  · exact Finset.sum_congr rfl fun l _ => by rw [U_apply]
  · simp [FloatOps.sitofp]

theorem res2 : X2 A = G2 A := by
  funext i
  obtain ⟨l, k, rfl⟩ : ∃ (l : Fin 1024) (k : Fin 3200), i = ix2 l k := ⟨i 0, i 1, eq_ix2 i⟩
  show _ = w A l k
  pointwise [X2]
  unfold w
  split_ifs with h
  · rfl
  · simp [FloatOps.sitofp]

end Cert.PreRef

end
-- ==== Proof.PreClaims.lean ====
module

public import proofs.«01_k».proof.Defs
public import proofs.«01_k».proof.Proof.PreKernel
public import proofs.«01_k».proof.Proof.PreRef
public import proofs.«01_k».proof.Proof.Gen.KernelPre.Frame
public import Idealize.ShloMosaic.Adequacy

@[expose] public section

set_option maxRecDepth 16384

noncomputable section

/-! The claims about the mixing sub-layer's norm, modulation and input projection. -/

namespace Cert.PreClaims

open Idealize.ShloMosaic Idealize.SL.Sem

theorem frame_k : Cert.quiescent_KernelPre := fun m ρ _ => Cert.KernelPre.Gen.frame m ρ

theorem frame_ki : Cert.quiescent_KernelPreIdeal := fun m ρ _ => Cert.KernelPreIdeal.Gen.frame m ρ

theorem frame_ri : Cert.quiescent_ReferencePreIdeal := fun m ρ _ =>
  (θ_run Cert.ReferencePreIdeal.defs _ _).mono (fun r h => ⟨fun c => (h c).2.2.2, Idealize.ShloMosaic.sem_eq_zero_of_no_sems (by decide) r.2⟩)
    (Cert.ReferencePreIdeal.Value.run (F := Ideal) m ρ)

theorem preserves : Cert.preserves_KernelPre_KernelPreIdeal := trivial

/-- The reference's argument arrays. -/
abbrev args (m : (ℓ : Loc Cert.ReferencePreIdeal.nD Cert.ReferencePreIdeal.τ Cert.ReferencePreIdeal.sig) → Buf (Elt Ideal) ℓ) (c : Dev Cert.ReferencePreIdeal.nD) : PreSpec.Args :=
  ⟨m (c.tc.loc Cert.ReferencePreIdeal.main_arg0), m (c.tc.loc Cert.ReferencePreIdeal.main_arg1), m (c.tc.loc Cert.ReferencePreIdeal.main_arg2),
    m (c.tc.loc Cert.ReferencePreIdeal.main_arg3)⟩

theorem algebraic : Cert.algebraic_KernelPreIdeal_ReferencePreIdeal := by
  intro m ρ m' ρ' _ hagree
  refine ⟨fun c => PreSpec.G0 (PreKernel.ar m c), fun c => PreSpec.G1 (PreKernel.ar m c), fun c => PreSpec.G2 (PreKernel.ar m c), ?_, ?_⟩
  · exact (θ_run Cert.KernelPreIdeal.defs _ _).mono (fun r h c => ⟨(h c).1.trans (PreKernel.final4 m c), (h c).2.1.trans (PreKernel.final5 m c),
      (h c).2.2.1.trans (PreKernel.final6 m c), (h c).2.2.2⟩) (Cert.KernelPreIdeal.Value.run_blocks (F := Ideal) m ρ)
  · refine (θ_run Cert.ReferencePreIdeal.defs _ _).mono (fun r h c => ?_) (Cert.ReferencePreIdeal.Value.run (F := Ideal) m' ρ')
    have e : args m' c = PreKernel.ar m c := by
      obtain ⟨h0, h1, h2, h3⟩ := hagree c
      unfold args PreKernel.ar
      rw [h0, h1, h2, h3]
    exact ⟨((h c).1.trans (PreRef.res0 (args m' c))).trans (congrArg PreSpec.G0 e), ((h c).2.1.trans (PreRef.res1 (args m' c))).trans (congrArg PreSpec.G1 e),
      ((h c).2.2.1.trans (PreRef.res2 (args m' c))).trans (congrArg PreSpec.G2 e), (h c).2.2.2⟩

end Cert.PreClaims

end
-- ==== Proof.ModSpec.lean ====
module

public import proofs.«01_k».proof.Proof.AdaSpec

@[expose] public section

noncomputable section

/-! The modulation of the conditioning vectors, as a function of the argument arrays on the extended reals. -/

namespace Cert.ModSpec

open Idealize.ShloMosaic

/-- The argument arrays: the conditioning vectors, the weight and the bias. -/
structure Args where
  a0 : (⟨2, ![16, 1024]⟩ : Shape).Idx → EReal
  a1 : (⟨3, ![1, 1024, 768]⟩ : Shape).Idx → EReal
  a2 : (⟨2, ![1, 768]⟩ : Shape).Idx → EReal

/-- The result. -/
def G (A : Args) : (⟨2, ![16, 768]⟩ : Shape).Idx → EReal := fun i =>
  (∑ k : Fin 1024, AdaSpec.act (A.a0 (ix2 (i 0) k)) * A.a1 (ix3 0 k (i 1))) + A.a2 (ix2 0 (i 1))

end Cert.ModSpec

end
-- ==== Proof.ModPair.lean ====
module

public import proofs.«01_k».proof.Proof.Gen.KernelModIdeal.Value
public import proofs.«01_k».proof.Proof.Gen.ReferenceModIdeal.Run
public import proofs.«01_k».proof.Proof.ModSpec
public import Idealize.ShloMosaic.Lib.Pointwise
public import Idealize.ShloMosaic.Lib.Pipeline.ValueKit
public import Idealize.ShloMosaic.Lib.StableHlo.ReadAt
public import Idealize.ShloMosaic.Lib.KernelVsHost

@[expose] public section

set_option maxRecDepth 16384

noncomputable section

/-! Both modulations are the array of `ModSpec`. -/

namespace Cert.ModPair

open Idealize.ShloMosaic Idealize.ShloMosaic.TcCoe Idealize.SL.Sem Cert.ModSpec

section Kernel

open Cert.KernelModIdeal Cert.KernelModIdeal.Gen

variable (M : (ℓ : Loc nD τ sig) → Buf (Elt Ideal) ℓ) (c : Dev nD) (t : Fin cfg0.N)

/-- The argument arrays of a launch. -/
abbrev ar : Args := ⟨M (c.tc.loc main_arg0), M (c.tc.loc main_arg1), M (c.tc.loc main_arg2)⟩

theorem idx : ∀ t : Fin cfg0.N, win0_0.index t = ![0, 0] ∧ win0_1.index t = ![0, 0] ∧ win0_2.index t = ![0, 0] ∧ win0_3.index t = ![0, 0] :=
  (by decide +kernel : ∀ t : Fin grid0.N, win0_0.index t = ![0, 0] ∧ win0_1.index t = ![0, 0] ∧ win0_2.index t = ![0, 0] ∧ win0_3.index t = ![0, 0])

theorem pay_apply (v : Vec Ideal S16x1024 .f32) (w : Vec Ideal S1024x768 .f32) (z : Vec Ideal S1x768 .f32) (b : Fin 16) (l : Fin 768) :
    k0_pay1 (F := Ideal) v w z (ix2 b l) = (∑ k, AdaSpec.act (v (ix2 b k)) * w (ix2 k l)) + z (ix2 0 l) := by
  pointwise [k0_pay1]
  simp only [zero_sub]
  rfl

theorem V0 (r : Fin 1024) (l : Fin 768) : (V M c main_v0 : S1024x768.Idx → EReal) (ix2 r l) = (ar M c).a1 (ix3 0 r l) := by
  unfold V
  after_reads_at

theorem blk0 (b : Fin 16) (k : Fin 1024) : iblk M c 0 t (ix2 b k) = (ar M c).a0 (ix2 b k) := by
  have : iblk M c 0 t (ix2 b k) = V M c main_arg0 (ix2 b k) := by blk_ext [iblk, idx t]
  rw [this, V_main_arg0]

theorem blk1 (k : Fin 1024) (l : Fin 768) : iblk M c 1 t (ix2 k l) = (ar M c).a1 (ix3 0 k l) := by
  have : iblk M c 1 t (ix2 k l) = V M c main_v0 (ix2 k l) := by blk_ext [iblk, idx t]
  rw [this, V0]

theorem blk2 (l : Fin 768) : iblk M c 2 t (ix2 0 l) = (ar M c).a2 (ix2 0 l) := by
  have : iblk M c 2 t (ix2 0 l) = V M c main_arg2 (ix2 0 l) := by blk_ext [iblk, idx t]
  rw [this, V_main_arg2]

theorem final3 : (dats M 0 c).arrAt 3 cfg0.N = G (ar M c) := by
  refine (dats M 0 c).arrAt_eq_of_covers 3 _ (by decide +kernel) fun t hf y => ?_
  obtain ⟨b, l, rfl⟩ : ∃ (b : Fin 16) (l : Fin 768), y = ix2 b l := ⟨y 0, y 1, eq_ix2 y⟩
  have e : (win0_3.blk t).view.emb (ix2 b l) = ix2 b l := by blk_ext [idx t]
  have o : (dats M 0 c).after 3 t (ix2 b l) = G (ar M c) (ix2 b l) := by
    rw [after0_3]
    unfold out0_3
    frame_out
    rw [pay_apply]
    simp only [blk0, blk1, blk2]
    rfl
  exact o.trans (congrArg (G (ar M c)) e).symm

end Kernel

section Reference

open Cert.ReferenceModIdeal Cert.ReferenceModIdeal.Gen Cert.ReferenceModIdeal.Value

/-- The reference's result over the argument arrays. -/
def R (A : Args) : FVec Ideal S16x768 .f32 :=
  addf (Host.dotGeneral (φ₁ := .f32) (φ₂ := .f32) dot_S16x1024_S1024x768_S16x768_1_0_0_1_n_n none (mulf (φ := .f32) A.a0 (Host.divf (broadcastInDim S16x1024 ![] bcast_S_S16x1024
    (constant S_ .f32 0x3F800000#32)) (addf (broadcastInDim S16x1024 ![] bcast_S_S16x1024 (constant S_ .f32 0x3F800000#32)) (Host.exp (Host.negf (φ := .f32) A.a0)))))
    (shapeCast _ (A.a1 : FVec Ideal S1x1024x768 .f32) shapeCasts_S1x1024x768_S1024x768)) (broadcastInDim S16x768 ![0, 1] bcast_S1x768_S16x768_0_1
    (broadcastInDim S1x768 ![1] bcast_S768_S1x768_1 (shapeCast _ (A.a2 : FVec Ideal S1x768 .f32) shapeCasts_S1x768_S768)))

theorem res (A : Args) : R A = G A := by
  funext i
  obtain ⟨b, l, rfl⟩ : ∃ (b : Fin 16) (l : Fin 768), i = ix2 b l := ⟨i 0, i 1, eq_ix2 i⟩
  pointwise [R]
  rfl

end Reference

end Cert.ModPair

end
-- ==== Proof.ModClaims.lean ====
module

public import proofs.«01_k».proof.Defs
public import proofs.«01_k».proof.Proof.ModPair
public import proofs.«01_k».proof.Proof.Gen.KernelMod.Frame
public import Idealize.ShloMosaic.Adequacy

@[expose] public section

set_option maxRecDepth 16384

noncomputable section

/-! The claims about the modulation. -/

namespace Cert.ModClaims

open Idealize.ShloMosaic Idealize.SL.Sem

theorem frame_k : Cert.quiescent_KernelMod := fun m ρ _ => Cert.KernelMod.Gen.frame m ρ

theorem frame_ki : Cert.quiescent_KernelModIdeal := fun m ρ _ => Cert.KernelModIdeal.Gen.frame m ρ

theorem frame_ri : Cert.quiescent_ReferenceModIdeal := fun m ρ _ =>
  (θ_run Cert.ReferenceModIdeal.defs _ _).mono (fun r h => ⟨fun c => (h c).2, Idealize.ShloMosaic.sem_eq_zero_of_no_sems (by decide) r.2⟩)
    (Cert.ReferenceModIdeal.Value.run (F := Ideal) m ρ)

theorem preserves : Cert.preserves_KernelMod_KernelModIdeal := trivial

theorem algebraic : Cert.algebraic_KernelModIdeal_ReferenceModIdeal := by
  intro m ρ m' ρ' _ hagree
  refine ⟨fun c => ModSpec.G (ModPair.ar m c), ?_, ?_⟩
  · exact (θ_run Cert.KernelModIdeal.defs _ _).mono (fun r h c => ⟨(h c).1.trans (ModPair.final3 m c), (h c).2⟩)
      (Cert.KernelModIdeal.Value.run_blocks (F := Ideal) m ρ)
  · refine (θ_run Cert.ReferenceModIdeal.defs _ _).mono (fun r h c => ⟨?_, (h c).2⟩) (Cert.ReferenceModIdeal.Value.run (F := Ideal) m' ρ')
    obtain ⟨h0, h1, h2⟩ := hagree c
    refine ((h c).1.trans (ModPair.res ⟨_, _, _⟩)).trans (congrArg ModSpec.G ?_)
    unfold ModPair.ar
    rw [h0, h1, h2]

end Cert.ModClaims

end
-- ==== Proof.UpPair.lean ====
module

public import proofs.«01_k».proof.Proof.Gen.KernelUpIdeal.Value
public import proofs.«01_k».proof.Proof.Gen.ReferenceUpIdeal.Run
public import proofs.«01_k».proof.Proof.MlpSpec
public import Idealize.ShloMosaic.Lib.Pointwise
public import Idealize.ShloMosaic.Lib.Pipeline.ValueKit
public import Idealize.ShloMosaic.Lib.StableHlo.ReadAt
public import Idealize.ShloMosaic.Lib.KernelVsHost

@[expose] public section

set_option maxRecDepth 16384

noncomputable section

/-! The first channel-mixing weight's gradient by the devices' columns, of the kernel and of the reference, as functions of the
argument arrays on the extended reals. -/

namespace Cert.UpPair

open Idealize.ShloMosaic Idealize.ShloMosaic.TcCoe Idealize.SL.Sem

/-- The argument arrays: the modulated rows and the product's gradient. -/
structure Args where
  u : (⟨3, ![2, 2048, 1024]⟩ : Shape).Idx → EReal
  d : (⟨3, ![2, 2048, 4096]⟩ : Shape).Idx → EReal

/-- The gradient at a row and a column of the weight. -/
def dw (A : Args) (l : Fin 1024) (k : Fin 4096) : EReal := ∑ b, ∑ s, A.u (ix3 b s l) * A.d (ix3 b s k)

/-- The column of the weight that a device's column is. -/
def col (j : Fin 8) (x : Fin 512) : Fin 4096 := ⟨j.val * 512 + x.val, by omega⟩

/-- The result. -/
def G (A : Args) : (⟨3, ![8, 1024, 512]⟩ : Shape).Idx → EReal := fun i => dw A (i 1) (col (i 0) (i 2))

section Kernel

open Cert.KernelUpIdeal Cert.KernelUpIdeal.Gen

variable (M : (ℓ : Loc nD τ sig) → Buf (Elt Ideal) ℓ) (c : Dev nD) (t : Fin cfg0.N)

/-- The argument arrays of a launch. -/
abbrev ar : Args := ⟨M (c.tc.loc main_arg0), M (c.tc.loc main_arg1)⟩

theorem idx : ∀ t : Fin cfg0.N, win0_0.index t = ![0, 0] ∧ win0_1.index t = ![0, t.val] ∧ win0_2.index t = ![t.val, 0, 0] :=
  (by decide +kernel : ∀ t : Fin grid0.N, win0_0.index t = ![0, 0] ∧ win0_1.index t = ![0, t.val] ∧ win0_2.index t = ![t.val, 0, 0])

/-- The device whose columns a point computes. -/
def jOf : Fin 8 := ⟨t.val, lt_of_lt_of_eq t.isLt N_0⟩

theorem V1 (R : Fin 4096) (l : Fin 1024) :
    (V M c main_v1 : S4096x1024.Idx → EReal) (ix2 R l) = (ar M c).u (ix3 ⟨R.val / 2048, by omega⟩ ⟨R.val % 2048, by omega⟩ l) := by
  unfold V
  after_reads_at

theorem V3 (R : Fin 4096) (k : Fin 4096) :
    (V M c main_v3 : S4096x4096.Idx → EReal) (ix2 R k) = (ar M c).d (ix3 ⟨R.val / 2048, by omega⟩ ⟨R.val % 2048, by omega⟩ k) := by
  unfold V
  after_reads_at

theorem blk0 (R : Fin 4096) (l : Fin 1024) :
    iblk M c 0 t (ix2 R l) = (ar M c).u (ix3 ⟨R.val / 2048, by omega⟩ ⟨R.val % 2048, by omega⟩ l) := by
  have : iblk M c 0 t (ix2 R l) = V M c main_v1 (ix2 R l) := by blk_ext [iblk, idx t]
  rw [this, V1]

theorem blk1 (R : Fin 4096) (x : Fin 512) :
    iblk M c 1 t (ix2 R x) = (ar M c).d (ix3 ⟨R.val / 2048, by omega⟩ ⟨R.val % 2048, by omega⟩ (col (jOf t) x)) := by
  have : iblk M c 1 t (ix2 R x) = V M c main_v3 (ix2 R (col (jOf t) x)) := by blk_ext [iblk, idx t, col, jOf]
  rw [this, V3]

theorem zero_pay (l : Fin 1024) (x : Fin 512) : k0_pay1 (F := Ideal) (ix2 l x) = 0 := by
  pointwise [k0_pay1]

theorem out_pay (v : Vec Ideal S1024x512 .f32) (l : Fin 1024) (x : Fin 512) : k0_pay3 (F := Ideal) v (ix3 0 l x) = v (ix2 l x) := by
  pointwise [k0_pay3]

/-- A point loads all the rows. -/
theorem off : ∀ t : Fin cfg0.N, k0_off1 (grid0.coords t) = ![0, 0] :=
  (by decide +kernel : ∀ t : Fin grid0.N, k0_off1 (grid0.coords t) = ![0, 0])

theorem rows_ld (x : Vec Ideal S4096x1024 .bf16) (inb) (R : Fin 4096) (l : Fin 1024) :
    View.ld (Val := Elt Ideal) x (Rect.unit (s := S4096x1024) (k0_off1 (grid0.coords t)) ![4096, 1024] inb) (ix2 R l) = x (ix2 R l) :=
  View.ld_unit_apply_of _ _ _ _ _ (ix2 R l) (fun a => by
    match a with
    | ⟨0, _⟩ => exact (Nat.zero_add _).symm.trans (congrArg (· + R.val) (congrFun (off t) 0).symm)
    | ⟨1, _⟩ => exact (Nat.zero_add _).symm.trans (congrArg (· + l.val) (congrFun (off t) 1).symm))

theorem acc_pay (v : Vec Ideal S4096x1024 .bf16) (z : Vec Ideal S1024x512 .f32) (hv : ∀ R l, v (ix2 R l) = iblk M c 0 t (ix2 R l)) (l : Fin 1024) (x : Fin 512) (hz : z (ix2 l x) = 0) :
    k0_pay2 (F := Ideal) v (iblk M c 1 t) z (ix2 l x) = dw (ar M c) l (col (jOf t) x) := by
  pointwise [k0_pay2]
  rw [hz, zero_add, MlpSpec.blocks 2 2048 4096 rfl]
  refine Finset.sum_congr rfl fun b _ => Finset.sum_congr rfl fun s _ => ?_
  have hb : (2048 * b.val + s.val) / 2048 = b.val := by omega
  have hs : (2048 * b.val + s.val) % 2048 = s.val := by omega
  rw [hv, blk0, blk1]
  simp only [hb, hs]

theorem out_at (l : Fin 1024) (x : Fin 512) : outsAt0 M c t (ix3 0 l x) = dw (ar M c) l (col (jOf t) x) := by
  unfold outsAt0
  frame_out
  rw [out_pay]
  exact acc_pay M c t _ _ (rows_ld t _ _) l x (zero_pay l x)

theorem final2 : (dats M 0 c).arrAt 2 cfg0.N = G (ar M c) := by
  refine (dats M 0 c).arrAt_eq_of_covers 2 _ (by decide +kernel) fun t hf y => ?_
  blk_simp
  rw [after0_2]
  obtain ⟨a, l, x, rfl⟩ : ∃ (a : Fin 1) (l : Fin 1024) (x : Fin 512), y = ix3 a l x := ⟨y 0, y 1, y 2, eq_ix3 y⟩
  obtain rfl : a = 0 := Subsingleton.elim _ _
  have e : (win0_2.blk t).view.emb (ix3 0 l x) = ix3 (jOf t) l x := by blk_ext [idx t, jOf]
  exact (out_at M c t l x).trans (congrArg (G (ar M c)) e).symm

end Kernel

section Reference

open Cert.ReferenceUpIdeal Cert.ReferenceUpIdeal.Gen Cert.ReferenceUpIdeal.Value

/-- The argument arrays of a launch. -/
abbrev arR (M : (ℓ : Loc nD τ sig) → Buf (Elt Ideal) ℓ) (c : Dev nD) : Args := ⟨M (c.tc.loc main_arg0), M (c.tc.loc main_arg1)⟩

variable (A : Args)

/-- The gradient, a column of the weight first. -/
def D (d : FVec Ideal S2x2048x4096 .f32) (u : FVec Ideal S2x2048x1024 .f32) : FVec Ideal S4096x1024 .f32 :=
  Host.dotGeneral (φ₁ := .f32) (φ₂ := .f32) dot_S2x2048x4096_S2x2048x1024_S4096x1024_01_01_2_2_n_n none d u

theorem D_apply (k : Fin 4096) (l : Fin 1024) : D A.d A.u (ix2 k l) = dw A l k := by
  pointwise [D]
  exact Finset.sum_congr rfl fun b _ => Finset.sum_congr rfl fun s _ => mul_comm _ _

/-- The gradient in the weight's layout, cut by the devices' columns. -/
def res (x : FVec Ideal S4096x1024 .f32) : FVec Ideal S8x1024x512 .bf16 :=
  truncf .bf16 (transpose S8x1024x512 [1, 0, 2] (shapeCast _ (broadcastInDim S1x1024x4096 ![1, 2] bcast_S1024x4096_S1x1024x4096_1_2
    (transpose S1024x4096 [1, 0] x transposes_S4096x1024_S1024x4096_1_0)) shapeCasts_S1x1024x4096_S1024x8x512)
    transposes_S1024x8x512_S8x1024x512_1_0_2) bitsLt_bf16_f32

theorem res_apply (x : FVec Ideal S4096x1024 .f32) (j : Fin 8) (l : Fin 1024) (k : Fin 512) : res x (ix3 j l k) = x (ix2 (col j k) l) := by
  pointwise [res, col]

theorem result : res (D A.d A.u) = G A := by
  funext i
  obtain ⟨j, l, k, rfl⟩ : ∃ (j : Fin 8) (l : Fin 1024) (k : Fin 512), i = ix3 j l k := ⟨i 0, i 1, i 2, eq_ix3 i⟩
  rw [res_apply, D_apply]
  rfl

end Reference

end Cert.UpPair

end
-- ==== Proof.UpClaims.lean ====
module

public import proofs.«01_k».proof.Defs
public import proofs.«01_k».proof.Proof.UpPair
public import proofs.«01_k».proof.Proof.Gen.KernelUp.Frame
public import Idealize.ShloMosaic.Adequacy

@[expose] public section

set_option maxRecDepth 16384

noncomputable section

/-! The claims about the first channel-mixing weight's gradient. -/

namespace Cert.UpClaims

open Idealize.ShloMosaic Idealize.SL.Sem UpPair

theorem frame_k : Cert.quiescent_KernelUp := fun m ρ _ => Cert.KernelUp.Gen.frame m ρ

theorem frame_ki : Cert.quiescent_KernelUpIdeal := fun m ρ _ => Cert.KernelUpIdeal.Gen.frame m ρ

theorem frame_ri : Cert.quiescent_ReferenceUpIdeal := fun m ρ _ =>
  (θ_run Cert.ReferenceUpIdeal.defs _ _).mono (fun r h => ⟨fun c => (h c).2, Idealize.ShloMosaic.sem_eq_zero_of_no_sems (by decide) r.2⟩)
    (Cert.ReferenceUpIdeal.Value.run (F := Ideal) m ρ)

theorem preserves : Cert.preserves_KernelUp_KernelUpIdeal := trivial

theorem algebraic : Cert.algebraic_KernelUpIdeal_ReferenceUpIdeal := by
  intro m ρ m' ρ' _ hagree
  have e (c : Dev Cert.KernelUpIdeal.nD) : arR m' c = ar m c := by
    obtain ⟨h0, h1, h2⟩ := hagree c
    unfold arR ar
    rw [h0, h1]
  refine ⟨fun c => G (ar m c), ?_, ?_⟩
  · exact (θ_run Cert.KernelUpIdeal.defs _ _).mono (fun r h c => ⟨(h c).1.trans (final2 m c), (h c).2⟩)
      (Cert.KernelUpIdeal.Value.run_blocks (F := Ideal) m ρ)
  · exact (θ_run Cert.ReferenceUpIdeal.defs _ _).mono (fun r h c => ⟨((h c).1.trans (result (arR m' c))).trans (congrArg G (e c)), (h c).2⟩)
      (Cert.ReferenceUpIdeal.Value.run (F := Ideal) m' ρ')

end Cert.UpClaims

end
-- ==== Proof.WinPair.lean ====
module

public import proofs.«01_k».proof.Proof.Gen.KernelWinIdeal.Value
public import proofs.«01_k».proof.Proof.Gen.ReferenceWinIdeal.Run
public import proofs.«01_k».proof.Proof.MlpSpec
public import Idealize.ShloMosaic.Lib.Pointwise
public import Idealize.ShloMosaic.Lib.Pipeline.ValueKit
public import Idealize.ShloMosaic.Lib.StableHlo.ReadAt
public import Idealize.ShloMosaic.Lib.KernelVsHost
public import Idealize.ShloMosaic.Lib.Pipeline.ReadBack

@[expose] public section

set_option maxRecDepth 16384

noncomputable section

/-! The input projection's weight gradient by the devices' columns, of the kernel and of the reference, as functions of the
argument arrays on the extended reals. -/

namespace Cert.WinPair

open Idealize.ShloMosaic Idealize.ShloMosaic.TcCoe Idealize.SL.Sem

/-- The argument arrays: the modulated rows and the projection's gradient. -/
structure Args where
  u : (⟨3, ![2, 2048, 1024]⟩ : Shape).Idx → EReal
  d : (⟨3, ![2, 2048, 3088]⟩ : Shape).Idx → EReal

/-- The gradient at a row and a column of the weight. -/
def dw (A : Args) (l : Fin 1024) (k : Fin 3088) : EReal := ∑ b, ∑ s, A.u (ix3 b s l) * A.d (ix3 b s k)

/-- The column of the weight that a device's column is. -/
def col (j : Fin 8) (x : Fin 386) : Fin 3088 := ⟨j.val * 386 + x.val, by omega⟩

/-- The result. -/
def G (A : Args) : (⟨3, ![8, 1024, 386]⟩ : Shape).Idx → EReal := fun i => dw A (i 1) (col (i 0) (i 2))

/-- A term of the gradient, by the row of all. -/
def term (A : Args) (l : Fin 1024) (k : Fin 3088) (R : Fin 4096) : EReal :=
  A.u (ix3 ⟨R.val / 2048, by omega⟩ ⟨R.val % 2048, by omega⟩ l) * A.d (ix3 ⟨R.val / 2048, by omega⟩ ⟨R.val % 2048, by omega⟩ k)

theorem dw_rows (A : Args) (l : Fin 1024) (k : Fin 3088) : dw A l k = ∑ R, term A l k R := by
  rw [MlpSpec.blocks 2 2048 4096 rfl]
  refine Finset.sum_congr rfl fun b _ => Finset.sum_congr rfl fun s _ => ?_
  have hb : (2048 * b.val + s.val) / 2048 = b.val := by omega
  have hs : (2048 * b.val + s.val) % 2048 = s.val := by omega
  unfold term
  simp only [hb, hs]

/-- What the rows of one block of 1024 add. -/
def part (A : Args) (l : Fin 1024) (k : Fin 3088) (t : ℕ) : EReal :=
  if h : t < 4 then ∑ r : Fin 1024, term A l k ⟨1024 * t + r.val, by omega⟩ else 0

theorem dw_parts (A : Args) (l : Fin 1024) (k : Fin 3088) : dw A l k = ∑ t ∈ Finset.range 4, part A l k t := by
  rw [dw_rows, MlpSpec.blocks 4 1024 4096 rfl, Finset.sum_range]
  refine Finset.sum_congr rfl fun t _ => ?_
  rw [part, dif_pos t.isLt]

section Kernel

open Cert.KernelWinIdeal Cert.KernelWinIdeal.Gen

variable (M : (ℓ : Loc nD τ sig) → Buf (Elt Ideal) ℓ) (c : Dev nD) (t : Fin cfg0.N)

/-- The argument arrays of a launch. -/
abbrev ar : Args := ⟨M (c.tc.loc main_arg0), M (c.tc.loc main_arg1)⟩

theorem idx : ∀ t : Fin cfg0.N, win0_0.index t = ![t.val, 0] ∧ win0_1.index t = ![t.val, 0] ∧ win0_2.index t = ![0, 0, 0] :=
  (by decide +kernel : ∀ t : Fin grid0.N, win0_0.index t = ![t.val, 0] ∧ win0_1.index t = ![t.val, 0] ∧ win0_2.index t = ![0, 0, 0])

theorem fin_N : t.val < 4 := lt_of_lt_of_eq t.isLt N_0

/-- The row of all that a point's row is. -/
def rOf (r : Fin 1024) : Fin 4096 := ⟨1024 * t.val + r.val, by have := fin_N t; omega⟩

theorem V4 (R : Fin 4096) (l : Fin 1024) :
    (V M c main_v4 : S4096x1024.Idx → EReal) (ix2 R l) = (ar M c).u (ix3 ⟨R.val / 2048, by omega⟩ ⟨R.val % 2048, by omega⟩ l) := by
  unfold V
  after_reads_at

theorem V2 (R : Fin 4096) (k : Fin 3088) :
    (V M c main_v2 : S4096x3200.Idx → EReal) (ix2 R ⟨k.val, by omega⟩) = (ar M c).d (ix3 ⟨R.val / 2048, by omega⟩ ⟨R.val % 2048, by omega⟩ k) := by
  unfold V
  after_reads_at

theorem blk0 (r : Fin 1024) (l : Fin 1024) : iblk M c 0 t (ix2 r l) = V M c main_v4 (ix2 (rOf t r) l) := by blk_ext [iblk, idx t, rOf]

theorem blk1 (r : Fin 1024) (k : Fin 3200) : iblk M c 1 t (ix2 r k) = V M c main_v2 (ix2 (rOf t r) k) := by blk_ext [iblk, idx t, rOf]

theorem zero_pay (i) : k0_pay1 (F := Ideal) i = 0 := by
  pointwise [k0_pay1]

/-- A point adds its rows' part. -/
theorem acc_pay (z : Vec Ideal S1024x3200 .f32) (l : Fin 1024) (k : Fin 3088) :
    k0_pay2 (F := Ideal) z (iblk M c 0 t) (iblk M c 1 t) (ix2 l ⟨k.val, by omega⟩) = z (ix2 l ⟨k.val, by omega⟩) + part (ar M c) l k t.val := by
  pointwise [k0_pay2]
  congr 1
  unfold part
  rw [dif_pos (fin_N t)]
  refine Finset.sum_congr rfl fun r _ => ?_
  rw [blk0, blk1, V4, V2]
  rfl

/-- The scratch's words read back. -/
theorem raw_eq (X : cc0_scratch0.ty.shape.Idx → Elt Ideal cc0_scratch0.ty.elt) :
    View.read (Elt Ideal) (View.whole cc0_scratch0) ((Memref.isWhole_whole cc0_scratch0).unread X) = X :=
  read_unread_whole cc0_scratch0 _ X

/-- The scratch after a point: the parts so far. -/
theorem scratch (l : Fin 1024) (k : Fin 3088) : ∀ (n : ℕ) (hn : n < cfg0.N),
    (outsAt0 M c n hn).2 (ix2 l ⟨k.val, by omega⟩) = ∑ t ∈ Finset.range (n + 1), part (ar M c) l k t
  | 0, hn => by
    rw [outsAt0_A M c ⟨0, hn⟩ rfl (show ¬0 % 4 = 3 by decide)]
    frame_out
    rw [acc_pay M c ⟨0, hn⟩, Finset.sum_range_succ, Finset.sum_range_zero]
    congr 1
    exact zero_pay _
  | n + 1, hn => by
    have := fin_N ⟨n + 1, hn⟩
    have ih := scratch l k n (Nat.lt_of_succ_lt hn)
    by_cases h : (n + 1) % 4 = 3
    · rw [outsAt0_C M c ⟨n + 1, hn⟩ (show ¬(n + 1) % 4 = 0 by omega) h]
      frame_out
      rw [acc_pay M c ⟨n + 1, hn⟩, Finset.sum_range_succ, raw_eq]
      exact congrArg (· + _) ih
    · rw [outsAt0_B M c ⟨n + 1, hn⟩ (show ¬(n + 1) % 4 = 0 by change n + 1 < 4 at this; omega) h]
      frame_out
      rw [acc_pay M c ⟨n + 1, hn⟩, Finset.sum_range_succ, raw_eq]
      exact congrArg (· + _) ih

/-! ## The result's slabs -/

theorem canon_slab {e : EltTy} (o : ℕ) (inb) (q : S1x1024x386.Idx → Elt Ideal e) (rest : List (View.Piece (Elt Ideal) S8x1024x386 e))
    (j : Fin 8) (l : Fin 1024) (x : Fin 386) :
    View.canon (s := S8x1024x386) (⟨Rect.unit ![o, 0, 0] ![1, 1024, 386] inb, q⟩ :: rest) (ix3 j l x)
      = if j.val = o then q (ix3 0 l x) else View.canon rest (ix3 j l x) := by
  split_ifs with h
  · have e := View.canon_cons_emb (Rect.unit (s := S8x1024x386) ![o, 0, 0] ![1, 1024, 386] inb) q rest (ix3 0 l x)
    have hi : (Rect.unit (s := S8x1024x386) ![o, 0, 0] ![1, 1024, 386] inb).emb (ix3 0 l x) = ix3 j l x := by
      funext a
      match a with
      | ⟨0, _⟩ => exact Fin.ext (show o + 1 * 0 = j.val by omega)
      | ⟨1, _⟩ => exact Fin.ext (show 0 + 1 * l.val = l.val by omega)
      | ⟨2, _⟩ => exact Fin.ext (show 0 + 1 * x.val = x.val by omega)
    rw [hi] at e
    exact e
  · refine View.canon_cons_of_not_mem _ _ fun hm => h ?_
    have := (Rect.mem_set_unit (inb := inb)).mp hm 0
    change o ≤ j.val ∧ j.val < o + 1 at this
    omega

/-- What the body stores into the scratch, and a device's columns of it. -/
abbrev stored (S : Vec Ideal S1024x3200 .f32) : List (View.Piece (Elt Ideal) S1024x3200 .f32) :=
  [⟨Rect.unit (s := S1024x3200) ![0, 0] ![1024, 3200] inb_S1024x3200_S1024x3200_0_0, S⟩]
abbrev cols (S : Vec Ideal S1024x3200 .f32) (o : ℕ) (inb : ∀ a, (![0, o] : Fin 2 → ℕ) a + (![1024, 386] : Fin 2 → ℕ) a ≤ S1024x3200.size a) : Vec Ideal S1024x386 .f32 :=
  (View.whole cc0_scratch0).readCov (Val := Elt Ideal) (stored S) (Rect.unit (s := S1024x3200) ![0, o] ![1024, 386] inb).toLoadRect

theorem emb_whole (l : Fin 1024) (k : Fin 3200) :
    (Rect.unit (s := S1024x3200) ![0, 0] ![1024, 3200] inb_S1024x3200_S1024x3200_0_0).emb (ix2 l k) = ix2 l k := by
  funext a
  match a with
  | ⟨0, _⟩ => exact Fin.ext (show 0 + 1 * l.val = l.val by omega)
  | ⟨1, _⟩ => exact Fin.ext (show 0 + 1 * k.val = k.val by omega)

theorem canon_stored (S : Vec Ideal S1024x3200 .f32) (l : Fin 1024) (k : Fin 3200) : View.canon (stored S) (ix2 l k) = S (ix2 l k) := by
  have e := View.canon_cons_emb (Val := Elt Ideal) (Rect.unit (s := S1024x3200) ![0, 0] ![1024, 3200] inb_S1024x3200_S1024x3200_0_0) S [] (ix2 l k)
  rw [emb_whole] at e
  exact e

theorem stored_cover (S : Vec Ideal S1024x3200 .f32) (y : S1024x3200.Idx) : ∃ p ∈ stored S, y ∈ p.1.set :=
  ⟨_, List.Mem.head _, (Rect.mem_set_unit (inb := inb_S1024x3200_S1024x3200_0_0)).mpr fun a => by
    match a with
    | ⟨0, _⟩ => exact ⟨Nat.zero_le _, lt_of_lt_of_eq (y 0).isLt (Nat.zero_add _).symm⟩
    | ⟨1, _⟩ => exact ⟨Nat.zero_le _, lt_of_lt_of_eq (y 1).isLt (Nat.zero_add _).symm⟩⟩

theorem cols_apply (S : Vec Ideal S1024x3200 .f32) (o : ℕ) (inb) (l : Fin 1024) (x : Fin 386) (k : Fin 3200) (h : k.val = o + x.val) :
    cols S o inb (ix2 l x) = S (ix2 l k) := by
  rw [cols, View.readCov_eq_canon_ld _ _ _ (stored_cover S)]
  exact (View.ld_unit_apply_of _ _ _ _ _ (ix2 l k) (fun a => by match a with | ⟨0, _⟩ => exact (Nat.zero_add _).symm | ⟨1, _⟩ => exact h)).trans
    (canon_stored S l k)

theorem cols_dw (A : Args) (S : Vec Ideal S1024x3200 .f32) (hS : ∀ (l : Fin 1024) (k : Fin 3088), S (ix2 l ⟨k.val, by omega⟩) = dw A l k)
    (o : ℕ) (inb) (j : Fin 8) {i : ℕ} (ho : o = 386 * i) (l : Fin 1024) (x : Fin 386) (h : j.val = i) : cols S o inb (ix2 l x) = dw A l (col j x) :=
  (cols_apply S o inb l x ⟨(col j x).val, by omega⟩ (by show j.val * 386 + x.val = o + x.val; omega)).trans (hS l (col j x))

/-- What the last point stores, the last first. -/
def slabs (S : Vec Ideal S1024x3200 .f32) : List (View.Piece (Elt Ideal) S8x1024x386 .bf16) :=
  [⟨Rect.unit (s := S8x1024x386) ![7, 0, 0] ![1, 1024, 386] inb_S8x1024x386_S1x1024x386_7_0_0, k0_pay5 (F := Ideal) (cols S 2702 inb_S1024x3200_S1024x386_0_2702)⟩,
   ⟨Rect.unit (s := S8x1024x386) ![6, 0, 0] ![1, 1024, 386] inb_S8x1024x386_S1x1024x386_6_0_0, k0_pay4 (F := Ideal) (cols S 2316 inb_S1024x3200_S1024x386_0_2316)⟩,
   ⟨Rect.unit (s := S8x1024x386) ![5, 0, 0] ![1, 1024, 386] inb_S8x1024x386_S1x1024x386_5_0_0, k0_pay3 (F := Ideal) (k0_pay11 (F := Ideal) (cols S 1930 inb_S1024x3200_S1024x386_0_1930))⟩,
   ⟨Rect.unit (s := S8x1024x386) ![4, 0, 0] ![1, 1024, 386] inb_S8x1024x386_S1x1024x386_4_0_0, k0_pay10 (F := Ideal) (cols S 1544 inb_S1024x3200_S1024x386_0_1544)⟩,
   ⟨Rect.unit (s := S8x1024x386) ![3, 0, 0] ![1, 1024, 386] inb_S8x1024x386_S1x1024x386_3_0_0, k0_pay9 (F := Ideal) (cols S 1158 inb_S1024x3200_S1024x386_0_1158)⟩,
   ⟨Rect.unit (s := S8x1024x386) ![2, 0, 0] ![1, 1024, 386] inb_S8x1024x386_S1x1024x386_2_0_0, k0_pay8 (F := Ideal) (cols S 772 inb_S1024x3200_S1024x386_0_772)⟩,
   ⟨Rect.unit (s := S8x1024x386) ![1, 0, 0] ![1, 1024, 386] inb_S8x1024x386_S1x1024x386_1_0_0, k0_pay7 (F := Ideal) (cols S 386 inb_S1024x3200_S1024x386_0_386)⟩,
   ⟨Rect.unit (s := S8x1024x386) ![0, 0, 0] ![1, 1024, 386] inb_S8x1024x386_S1x1024x386_0_0_0, k0_pay6 (F := Ideal) (cols S 0 inb_S1024x3200_S1024x386_0_0)⟩]

theorem canon_slabs (A : Args) (S : Vec Ideal S1024x3200 .f32) (hS : ∀ (l : Fin 1024) (k : Fin 3088), S (ix2 l ⟨k.val, by omega⟩) = dw A l k)
    (j : Fin 8) (l : Fin 1024) (x : Fin 386) : View.canon (slabs S) (ix3 j l x) = dw A l (col j x) := by
  unfold slabs
  rw [canon_slab]
  split_ifs with h7
  · refine Eq.trans ?_ (cols_dw A S hS 2702 inb_S1024x3200_S1024x386_0_2702 j rfl l x h7)
    pointwise [k0_pay5]
  rw [canon_slab]
  split_ifs with h6
  · refine Eq.trans ?_ (cols_dw A S hS 2316 inb_S1024x3200_S1024x386_0_2316 j rfl l x h6)
    pointwise [k0_pay4]
  rw [canon_slab]
  split_ifs with h5
  · refine Eq.trans ?_ (cols_dw A S hS 1930 inb_S1024x3200_S1024x386_0_1930 j rfl l x h5)
    pointwise [k0_pay3, k0_pay11]
  rw [canon_slab]
  split_ifs with h4
  · refine Eq.trans ?_ (cols_dw A S hS 1544 inb_S1024x3200_S1024x386_0_1544 j rfl l x h4)
    pointwise [k0_pay10]
  rw [canon_slab]
  split_ifs with h3
  · refine Eq.trans ?_ (cols_dw A S hS 1158 inb_S1024x3200_S1024x386_0_1158 j rfl l x h3)
    pointwise [k0_pay9]
  rw [canon_slab]
  split_ifs with h2
  · refine Eq.trans ?_ (cols_dw A S hS 772 inb_S1024x3200_S1024x386_0_772 j rfl l x h2)
    pointwise [k0_pay8]
  rw [canon_slab]
  split_ifs with h1
  · refine Eq.trans ?_ (cols_dw A S hS 386 inb_S1024x3200_S1024x386_0_386 j rfl l x h1)
    pointwise [k0_pay7]
  rw [canon_slab]
  split_ifs with h0
  · refine Eq.trans ?_ (cols_dw A S hS 0 inb_S1024x3200_S1024x386_0_0 j rfl l x h0)
    pointwise [k0_pay6]
  omega

theorem out_at (h : t.val % 4 = 3) (j : Fin 8) (l : Fin 1024) (x : Fin 386) :
    (outsAt0 M c t.val t.isLt).1 (ix3 j l x) = dw (ar M c) l (col j x) := by
  rw [outsAt0_C M c t (by omega) h]
  frame_out
  refine canon_slabs (ar M c) _ (fun l k => ?_) j l x
  have h3 : t.val = 3 := by have := fin_N t; omega
  rw [acc_pay, raw_eq, scratch M c l k (t.val - 1) (Nat.lt_of_le_of_lt (Nat.sub_le _ _) t.isLt), dw_parts, h3, Finset.sum_range_succ _ 3]

theorem final2 : (dats M 0 c).arrAt 2 cfg0.N = G (ar M c) := by
  refine (dats M 0 c).arrAt_eq_of_covers 2 _ (by decide +kernel) fun t hf y => ?_
  have h3 : t.val % 4 = 3 := (by decide +kernel : ∀ t : Fin grid0.N, (win0 2).flush t = true → t.val % 4 = 3) t hf
  blk_simp
  rw [after0_2]
  obtain ⟨j, l, x, rfl⟩ : ∃ (j : Fin 8) (l : Fin 1024) (x : Fin 386), y = ix3 j l x := ⟨y 0, y 1, y 2, eq_ix3 y⟩
  have e : (win0_2.blk t).view.emb (ix3 j l x) = ix3 j l x := by blk_ext [idx t]
  exact (out_at M c t h3 j l x).trans (congrArg (G (ar M c)) e).symm

end Kernel

section Reference

open Cert.ReferenceWinIdeal Cert.ReferenceWinIdeal.Gen Cert.ReferenceWinIdeal.Value

/-- The argument arrays of a launch. -/
abbrev arR (M : (ℓ : Loc nD τ sig) → Buf (Elt Ideal) ℓ) (c : Dev nD) : Args := ⟨M (c.tc.loc main_arg0), M (c.tc.loc main_arg1)⟩

variable (A : Args)

/-- The gradient, a column of the weight first. -/
def D (d : FVec Ideal S2x2048x3088 .f32) (u : FVec Ideal S2x2048x1024 .f32) : FVec Ideal S3088x1024 .f32 :=
  Host.dotGeneral (φ₁ := .f32) (φ₂ := .f32) dot_S2x2048x3088_S2x2048x1024_S3088x1024_01_01_2_2_n_n none d u

theorem D_apply (k : Fin 3088) (l : Fin 1024) : D A.d A.u (ix2 k l) = dw A l k := by
  pointwise [D]
  exact Finset.sum_congr rfl fun b _ => Finset.sum_congr rfl fun s _ => mul_comm _ _

/-- The gradient in the weight's layout, cut by the devices' columns. -/
def res (x : FVec Ideal S3088x1024 .f32) : FVec Ideal S8x1024x386 .bf16 :=
  truncf .bf16 (transpose S8x1024x386 [1, 0, 2] (shapeCast _ (broadcastInDim S1x1024x3088 ![1, 2] bcast_S1024x3088_S1x1024x3088_1_2
    (transpose S1024x3088 [1, 0] x transposes_S3088x1024_S1024x3088_1_0)) shapeCasts_S1x1024x3088_S1024x8x386)
    transposes_S1024x8x386_S8x1024x386_1_0_2) bitsLt_bf16_f32

theorem res_apply (x : FVec Ideal S3088x1024 .f32) (j : Fin 8) (l : Fin 1024) (k : Fin 386) : res x (ix3 j l k) = x (ix2 (col j k) l) := by
  pointwise [res, col]

theorem result : res (D A.d A.u) = G A := by
  funext i
  obtain ⟨j, l, k, rfl⟩ : ∃ (j : Fin 8) (l : Fin 1024) (k : Fin 386), i = ix3 j l k := ⟨i 0, i 1, i 2, eq_ix3 i⟩
  rw [res_apply, D_apply]
  rfl

end Reference

end Cert.WinPair

end
-- ==== Proof.WinClaims.lean ====
module

public import proofs.«01_k».proof.Defs
public import proofs.«01_k».proof.Proof.WinPair
public import proofs.«01_k».proof.Proof.Gen.KernelWin.Frame
public import Idealize.ShloMosaic.Adequacy

@[expose] public section

set_option maxRecDepth 16384

noncomputable section

/-! The claims about the input projection's weight gradient. -/

namespace Cert.WinClaims

open Idealize.ShloMosaic Idealize.SL.Sem WinPair

theorem frame_k : Cert.quiescent_KernelWin := fun m ρ _ => Cert.KernelWin.Gen.frame m ρ

theorem frame_ki : Cert.quiescent_KernelWinIdeal := fun m ρ _ => Cert.KernelWinIdeal.Gen.frame m ρ

theorem frame_ri : Cert.quiescent_ReferenceWinIdeal := fun m ρ _ =>
  (θ_run Cert.ReferenceWinIdeal.defs _ _).mono (fun r h => ⟨fun c => (h c).2, Idealize.ShloMosaic.sem_eq_zero_of_no_sems (by decide) r.2⟩)
    (Cert.ReferenceWinIdeal.Value.run (F := Ideal) m ρ)

theorem preserves : Cert.preserves_KernelWin_KernelWinIdeal := trivial

theorem algebraic : Cert.algebraic_KernelWinIdeal_ReferenceWinIdeal := by
  intro m ρ m' ρ' _ hagree
  have e (c : Dev Cert.KernelWinIdeal.nD) : arR m' c = ar m c := by
    obtain ⟨h0, h1, h2⟩ := hagree c
    unfold arR ar
    rw [h0, h1]
  refine ⟨fun c => G (ar m c), ?_, ?_⟩
  · exact (θ_run Cert.KernelWinIdeal.defs _ _).mono (fun r h c => ⟨(h c).1.trans (final2 m c), (h c).2⟩)
      (Cert.KernelWinIdeal.Value.run_blocks (F := Ideal) m ρ)
  · exact (θ_run Cert.ReferenceWinIdeal.defs _ _).mono (fun r h c => ⟨((h c).1.trans (result (arR m' c))).trans (congrArg G (e c)), (h c).2⟩)
      (Cert.ReferenceWinIdeal.Value.run (F := Ideal) m' ρ')

end Cert.WinClaims

end
-- ==== Proof.AdamHost.lean ====
module

public import proofs.«01_k».proof.Proof.AdaSpec

@[expose] public section

noncomputable section

/-! The host's AdamW lines over an array of any shape, at an index. -/

namespace Cert.AdamHost

open Idealize.ShloMosaic Cert.AdaSpec

variable {s : Shape} (z : (⟨0, ![]⟩ : Shape).BroadcastsInDim s (![] : Fin 0 → Fin s.rank)) (g w m v : FVec Ideal s .f32)

/-- A constant over the array. -/
def K (b : BitVec 32) : FVec Ideal s .f32 := broadcastInDim s ![] z (constant (F := Ideal) ⟨0, ![]⟩ .f32 b)

/-- The two moments and the step. -/
def M1 : FVec Ideal s .f32 := addf (mulf (K z 0x3F666666#32) m) (mulf (K z 0x3DCCCCCD#32) g)
def M2 : FVec Ideal s .f32 := addf (mulf (K z 0x3F7FBE77#32) v) (mulf (K z 0x3A83126F#32) (mulf g g))
def ST : FVec Ideal s .f32 :=
  mulf (K z 0xBA83126F#32) (addf (Host.divf (Host.divf (M1 z g m) (K z 0x3F26BD02#32)) (addf (Host.sqrt (Host.divf (M2 z g v) (K z 0x3C231ACC#32))) (K z 0x322BCC77#32)))
    (mulf (K z 0x3C23D70A#32) w))

theorem M1_apply (i : s.Idx) : M1 z g m i = m1 (g i) (m i) := rfl
theorem M2_apply (i : s.Idx) : M2 z g v i = m2 (g i) (v i) := rfl
theorem ST_apply (i : s.Idx) : ST z g w m v i = step (w i) (g i) (m i) (v i) := rfl

end Cert.AdamHost

end
-- ==== Proof.WpPair.lean ====
module

public import proofs.«01_k».proof.Proof.Gen.KernelWpIdeal.Value
public import proofs.«01_k».proof.Proof.Gen.ReferenceWpIdeal.Run
public import proofs.«01_k».proof.Proof.AdamHost
public import Idealize.ShloMosaic.Lib.Pointwise
public import Idealize.ShloMosaic.Lib.Pipeline.ValueKit
public import Idealize.ShloMosaic.Lib.StableHlo.ReadAt
public import Idealize.ShloMosaic.Lib.KernelVsHost

@[expose] public section

set_option maxRecDepth 16384

noncomputable section

/-! The pool weight's AdamW step over the devices' parts of its gradient, of the kernel and of the reference, as functions of the
argument arrays on the extended reals. -/

namespace Cert.WpPair

open Idealize.ShloMosaic Idealize.ShloMosaic.TcCoe Idealize.SL.Sem Cert.AdaSpec

/-- The argument arrays: the parts of the gradient, the weight and its two moments. -/
structure Args where
  p : (⟨4, ![8, 4, 128, 128]⟩ : Shape).Idx → EReal
  w : (⟨4, ![1, 4, 128, 128]⟩ : Shape).Idx → EReal
  m : (⟨4, ![1, 4, 128, 128]⟩ : Shape).Idx → EReal
  v : (⟨4, ![1, 4, 128, 128]⟩ : Shape).Idx → EReal

/-- The sum of the parts at a row of a pool. -/
def gr (A : Args) (a : Fin 4) (b l : Fin 128) : EReal := ∑ d : Fin 8, A.p (ix4 d a b l)

/-- The pool and the row of a flat row. -/
def pl (r : Fin 512) : Fin 4 := ⟨r.val / 128, by omega⟩
def rw' (r : Fin 512) : Fin 128 := ⟨r.val % 128, by omega⟩

/-- An array's element at a flat row. -/
def at' (x : (⟨4, ![1, 4, 128, 128]⟩ : Shape).Idx → EReal) (r : Fin 512) (l : Fin 128) : EReal := x (ix4 0 (pl r) (rw' r) l)

/-- The four results. -/
def G0 (A : Args) : (⟨2, ![512, 128]⟩ : Shape).Idx → EReal := fun i => gr A (pl (i 0)) (rw' (i 0)) (i 1)
def G1 (A : Args) : (⟨2, ![512, 128]⟩ : Shape).Idx → EReal := fun i =>
  step (at' A.w (i 0) (i 1)) (gr A (pl (i 0)) (rw' (i 0)) (i 1)) (at' A.m (i 0) (i 1)) (at' A.v (i 0) (i 1))
def G2 (A : Args) : (⟨2, ![512, 128]⟩ : Shape).Idx → EReal := fun i => m1 (gr A (pl (i 0)) (rw' (i 0)) (i 1)) (at' A.m (i 0) (i 1))
def G3 (A : Args) : (⟨2, ![512, 128]⟩ : Shape).Idx → EReal := fun i => m2 (gr A (pl (i 0)) (rw' (i 0)) (i 1)) (at' A.v (i 0) (i 1))

section Kernel

open Cert.KernelWpIdeal Cert.KernelWpIdeal.Gen

variable (M : (ℓ : Loc nD τ sig) → Buf (Elt Ideal) ℓ) (c : Dev nD) (t : Fin cfg0.N)

/-- The argument arrays of a launch. -/
abbrev ar : Args := ⟨M (c.tc.loc main_arg0), M (c.tc.loc main_arg1), M (c.tc.loc main_arg2), M (c.tc.loc main_arg3)⟩

theorem idx : ∀ t : Fin cfg0.N, win0_0.index t = ![0, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, win0_0.index t = ![0, 0, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0])

variable (d : Fin 8) (r : Fin 512) (l : Fin 128)

theorem V0 : (V M c main_v0 : S8x512x128.Idx → EReal) (ix3 d r l) = (ar M c).p (ix4 d (pl r) (rw' r) l) := by
  unfold V
  after_reads_at
  rfl

theorem V1 : (V M c main_v1 : S512x128.Idx → EReal) (ix2 r l) = at' (ar M c).w r l := by
  unfold V
  after_reads_at
  rfl

theorem V2 : (V M c main_v2 : S512x128.Idx → EReal) (ix2 r l) = at' (ar M c).m r l := by
  unfold V
  after_reads_at
  rfl

theorem V3 : (V M c main_v3 : S512x128.Idx → EReal) (ix2 r l) = at' (ar M c).v r l := by
  unfold V
  after_reads_at
  rfl

theorem blk0 : iblk M c 0 t (ix3 d r l) = (ar M c).p (ix4 d (pl r) (rw' r) l) := by
  have : iblk M c 0 t (ix3 d r l) = V M c main_v0 (ix3 d r l) := by blk_ext [iblk, idx t]
  rw [this, V0]

theorem blk1 : iblk M c 1 t (ix2 r l) = at' (ar M c).w r l := by
  have : iblk M c 1 t (ix2 r l) = V M c main_v1 (ix2 r l) := by blk_ext [iblk, idx t]
  rw [this, V1]

theorem blk2 : iblk M c 2 t (ix2 r l) = at' (ar M c).m r l := by
  have : iblk M c 2 t (ix2 r l) = V M c main_v2 (ix2 r l) := by blk_ext [iblk, idx t]
  rw [this, V2]

theorem blk3 : iblk M c 3 t (ix2 r l) = at' (ar M c).v r l := by
  have : iblk M c 3 t (ix2 r l) = V M c main_v3 (ix2 r l) := by blk_ext [iblk, idx t]
  rw [this, V3]

section Body

variable (g w m v : Vec Ideal S512x128 .f32)

theorem m1_pay : k0_pay1 (F := Ideal) g m (ix2 r l) = m1 (g (ix2 r l)) (m (ix2 r l)) := by
  pointwise [k0_pay1]
  rfl

theorem m2_pay : k0_pay2 (F := Ideal) g v (ix2 r l) = m2 (g (ix2 r l)) (v (ix2 r l)) := by
  pointwise [k0_pay2]
  rfl

theorem step_pay : k0_pay3 (F := Ideal) g w m v (ix2 r l) = step (w (ix2 r l)) (g (ix2 r l)) (m (ix2 r l)) (v (ix2 r l)) := by
  pointwise [k0_pay3]
  rw [m1_pay, m2_pay]
  rfl

theorem id5 : k0_pay5 (F := Ideal) w = w := by
  funext i
  obtain ⟨r, l, rfl⟩ : ∃ (r : Fin 512) (l : Fin 128), i = ix2 r l := ⟨i 0, i 1, eq_ix2 i⟩
  pointwise [k0_pay5]

theorem id6 : k0_pay6 (F := Ideal) w = w := by
  funext i
  obtain ⟨r, l, rfl⟩ : ∃ (r : Fin 512) (l : Fin 128), i = ix2 r l := ⟨i 0, i 1, eq_ix2 i⟩
  pointwise [k0_pay6]

variable (x : Vec Ideal S8x512x128 .f32)

theorem sum_pay : k0_pay4 (F := Ideal) (View.ld x r0_0) (View.ld x r0_1) (View.ld x r0_2) (View.ld x r0_3) (View.ld x r0_4) (View.ld x r0_5)
    (View.ld x r0_6) (View.ld x r0_7) (ix2 r l) = ∑ d : Fin 8, x (ix3 d r l) := by
  rw [Fin.sum_univ_eight]
  pointwise [k0_pay4]

end Body

/-- The gradient the body sums at a point. -/
theorem gr_blk : k0_pay7 (F := Ideal) (iblk M c 0 t) (iblk M c 1 t) (iblk M c 2 t) (iblk M c 3 t) (ix2 r l) = gr (ar M c) (pl r) (rw' r) l := by
  unfold k0_pay7
  rw [sum_pay]
  exact Finset.sum_congr rfl fun d _ => blk0 M c t d r l

theorem m_blk : k0_pay8 (F := Ideal) (iblk M c 0 t) (iblk M c 1 t) (iblk M c 2 t) (iblk M c 3 t) (ix2 r l) = at' (ar M c).m r l := by
  unfold k0_pay8
  rw [id6]
  pointwise
  exact blk2 M c t r l

theorem final4 : (dats M 0 c).arrAt 4 cfg0.N = G0 (ar M c) := by
  refine (dats M 0 c).arrAt_eq_of_covers 4 _ (by decide +kernel) fun t hf y => ?_
  obtain ⟨r, l, rfl⟩ : ∃ (r : Fin 512) (l : Fin 128), y = ix2 r l := ⟨y 0, y 1, eq_ix2 y⟩
  have e : (win0_4.blk t).view.emb (ix2 r l) = ix2 r l := by blk_ext [idx t]
  have o : (dats M 0 c).after 4 t (ix2 r l) = G0 (ar M c) (ix2 r l) := by
    rw [after0_4]
    unfold out0_4
    frame_out
    exact gr_blk M c t r l
  exact o.trans (congrArg (G0 (ar M c)) e).symm

theorem final5 : (dats M 0 c).arrAt 5 cfg0.N = G1 (ar M c) := by
  refine (dats M 0 c).arrAt_eq_of_covers 5 _ (by decide +kernel) fun t hf y => ?_
  obtain ⟨r, l, rfl⟩ : ∃ (r : Fin 512) (l : Fin 128), y = ix2 r l := ⟨y 0, y 1, eq_ix2 y⟩
  have e : (win0_5.blk t).view.emb (ix2 r l) = ix2 r l := by blk_ext [idx t]
  have o : (dats M 0 c).after 5 t (ix2 r l) = G1 (ar M c) (ix2 r l) := by
    rw [after0_5]
    unfold out0_5
    frame_out
    rw [step_pay, id5, gr_blk, m_blk, blk1, blk3]
    rfl
  exact o.trans (congrArg (G1 (ar M c)) e).symm

theorem final6 : (dats M 0 c).arrAt 6 cfg0.N = G2 (ar M c) := by
  refine (dats M 0 c).arrAt_eq_of_covers 6 _ (by decide +kernel) fun t hf y => ?_
  obtain ⟨r, l, rfl⟩ : ∃ (r : Fin 512) (l : Fin 128), y = ix2 r l := ⟨y 0, y 1, eq_ix2 y⟩
  have e : (win0_6.blk t).view.emb (ix2 r l) = ix2 r l := by blk_ext [idx t]
  have o : (dats M 0 c).after 6 t (ix2 r l) = G2 (ar M c) (ix2 r l) := by
    rw [after0_6]
    unfold out0_6
    frame_out
    rw [m1_pay, gr_blk, m_blk]
    rfl
  exact o.trans (congrArg (G2 (ar M c)) e).symm

theorem final7 : (dats M 0 c).arrAt 7 cfg0.N = G3 (ar M c) := by
  refine (dats M 0 c).arrAt_eq_of_covers 7 _ (by decide +kernel) fun t hf y => ?_
  obtain ⟨r, l, rfl⟩ : ∃ (r : Fin 512) (l : Fin 128), y = ix2 r l := ⟨y 0, y 1, eq_ix2 y⟩
  have e : (win0_7.blk t).view.emb (ix2 r l) = ix2 r l := by blk_ext [idx t]
  have o : (dats M 0 c).after 7 t (ix2 r l) = G3 (ar M c) (ix2 r l) := by
    rw [after0_7]
    unfold out0_7
    frame_out
    rw [m2_pay, gr_blk, blk3]
    rfl
  exact o.trans (congrArg (G3 (ar M c)) e).symm

end Kernel

section Reference

open Cert.ReferenceWpIdeal Cert.ReferenceWpIdeal.Gen Cert.ReferenceWpIdeal.Value

/-- The argument arrays of a launch. -/
abbrev arR (M : (ℓ : Loc nD τ sig) → Buf (Elt Ideal) ℓ) (c : Dev nD) : Args :=
  ⟨M (c.tc.loc main_arg0), M (c.tc.loc main_arg1), M (c.tc.loc main_arg2), M (c.tc.loc main_arg3)⟩

/-- The sum of the parts with a leading axis, and an array by flat rows. -/
def B (p : FVec Ideal S8x4x128x128 .f32) : FVec Ideal S1x4x128x128 .f32 :=
  broadcastInDim S1x4x128x128 ![1, 2, 3] bcast_S4x128x128_S1x4x128x128_1_2_3
    (Host.reduceAdd p (constant S_ .f32 0x00000000#32) reducesTo_S8x4x128x128_S4x128x128_d0 h_S_)
def FL (x : FVec Ideal S1x4x128x128 .f32) : FVec Ideal S512x128 .f32 := shapeCast _ x shapeCasts_S1x4x128x128_S512x128

variable (A : Args)

theorem B_apply (a : Fin 4) (b l : Fin 128) : B A.p (ix4 0 a b l) = gr A a b l := by
  pointwise [B]
  rfl

theorem flat (x : FVec Ideal S1x4x128x128 .f32) (G : S512x128.Idx → EReal) (h : ∀ r l, x (ix4 0 (pl r) (rw' r) l) = G (ix2 r l)) : FL x = G := by
  funext i
  obtain ⟨r, l, rfl⟩ : ∃ (r : Fin 512) (l : Fin 128), i = ix2 r l := ⟨i 0, i 1, eq_ix2 i⟩
  pointwise [FL]
  exact h r l

theorem res0 : FL (B A.p) = G0 A := flat _ _ fun r l => B_apply A _ _ _

theorem res1 : FL (AdamHost.ST bcast_S_S1x4x128x128 (B A.p) A.w A.m A.v) = G1 A :=
  flat _ _ fun r l => by rw [AdamHost.ST_apply, B_apply]; rfl

theorem res2 : FL (AdamHost.M1 bcast_S_S1x4x128x128 (B A.p) A.m) = G2 A :=
  flat _ _ fun r l => by rw [AdamHost.M1_apply, B_apply]; rfl

theorem res3 : FL (AdamHost.M2 bcast_S_S1x4x128x128 (B A.p) A.v) = G3 A :=
  flat _ _ fun r l => by rw [AdamHost.M2_apply, B_apply]; rfl

end Reference

end Cert.WpPair

end
-- ==== Proof.WpClaims.lean ====
module

public import proofs.«01_k».proof.Defs
public import proofs.«01_k».proof.Proof.WpPair
public import proofs.«01_k».proof.Proof.Gen.KernelWp.Frame
public import Idealize.ShloMosaic.Adequacy

@[expose] public section

set_option maxRecDepth 16384

noncomputable section

/-! The claims about the pool weight's AdamW step. -/

namespace Cert.WpClaims

open Idealize.ShloMosaic Idealize.SL.Sem WpPair

theorem frame_k : Cert.quiescent_KernelWp := fun m ρ _ => Cert.KernelWp.Gen.frame m ρ

theorem frame_ki : Cert.quiescent_KernelWpIdeal := fun m ρ _ => Cert.KernelWpIdeal.Gen.frame m ρ

theorem frame_ri : Cert.quiescent_ReferenceWpIdeal := fun m ρ _ =>
  (θ_run Cert.ReferenceWpIdeal.defs _ _).mono (fun r h => ⟨fun c => (h c).2.2.2.2, Idealize.ShloMosaic.sem_eq_zero_of_no_sems (by decide) r.2⟩)
    (Cert.ReferenceWpIdeal.Value.run (F := Ideal) m ρ)

theorem preserves : Cert.preserves_KernelWp_KernelWpIdeal := trivial

theorem algebraic : Cert.algebraic_KernelWpIdeal_ReferenceWpIdeal := by
  intro m ρ m' ρ' _ hagree
  have e (c : Dev Cert.KernelWpIdeal.nD) : arR m' c = ar m c := by
    obtain ⟨h0, h1, h2, h3⟩ := hagree c
    unfold arR ar
    rw [h0, h1, h2, h3]
  refine ⟨fun c => G0 (ar m c), fun c => G1 (ar m c), fun c => G2 (ar m c), fun c => G3 (ar m c), ?_, ?_⟩
  · exact (θ_run Cert.KernelWpIdeal.defs _ _).mono (fun r h c => ⟨(h c).1.trans (final4 m c), (h c).2.1.trans (final5 m c),
      (h c).2.2.1.trans (final6 m c), (h c).2.2.2.1.trans (final7 m c), (h c).2.2.2.2⟩) (Cert.KernelWpIdeal.Value.run_blocks (F := Ideal) m ρ)
  · exact (θ_run Cert.ReferenceWpIdeal.defs _ _).mono (fun r h c => ⟨((h c).1.trans (res0 (arR m' c))).trans (congrArg G0 (e c)),
      ((h c).2.1.trans (res1 (arR m' c))).trans (congrArg G1 (e c)), ((h c).2.2.1.trans (res2 (arR m' c))).trans (congrArg G2 (e c)),
      ((h c).2.2.2.1.trans (res3 (arR m' c))).trans (congrArg G3 (e c)), (h c).2.2.2.2⟩)
      (Cert.ReferenceWpIdeal.Value.run (F := Ideal) m' ρ')

end Cert.WpClaims

end
-- ==== Proof.CwPair.lean ====
module

public import proofs.«01_k».proof.Proof.Gen.KernelCwIdeal.Value
public import proofs.«01_k».proof.Proof.Gen.ReferenceCwIdeal.Run
public import proofs.«01_k».proof.Proof.AdamHost
public import Idealize.ShloMosaic.Lib.Pointwise
public import Idealize.ShloMosaic.Lib.Pipeline.ValueKit
public import Idealize.ShloMosaic.Lib.StableHlo.ReadAt
public import Idealize.ShloMosaic.Lib.KernelVsHost

@[expose] public section

set_option maxRecDepth 16384

noncomputable section

/-! The convolution weight's AdamW step, of the kernel and of the reference, as functions of the argument arrays on the extended reals. -/

namespace Cert.CwPair

open Idealize.ShloMosaic Idealize.ShloMosaic.TcCoe Idealize.SL.Sem Cert.AdaSpec

/-- The argument arrays: the gradient, the weight and its two moments. -/
structure Args where
  g : (⟨2, ![4, 192]⟩ : Shape).Idx → EReal
  w : (⟨3, ![1, 4, 192]⟩ : Shape).Idx → EReal
  m : (⟨3, ![1, 4, 192]⟩ : Shape).Idx → EReal
  v : (⟨3, ![1, 4, 192]⟩ : Shape).Idx → EReal

/-- The three results. -/
def G0 (A : Args) : (⟨2, ![4, 192]⟩ : Shape).Idx → EReal := fun i =>
  step (A.w (ix3 0 (i 0) (i 1))) (A.g (ix2 (i 0) (i 1))) (A.m (ix3 0 (i 0) (i 1))) (A.v (ix3 0 (i 0) (i 1)))
def G1 (A : Args) : (⟨2, ![4, 192]⟩ : Shape).Idx → EReal := fun i => m1 (A.g (ix2 (i 0) (i 1))) (A.m (ix3 0 (i 0) (i 1)))
def G2 (A : Args) : (⟨2, ![4, 192]⟩ : Shape).Idx → EReal := fun i => m2 (A.g (ix2 (i 0) (i 1))) (A.v (ix3 0 (i 0) (i 1)))

section Kernel

open Cert.KernelCwIdeal Cert.KernelCwIdeal.Gen

variable (M : (ℓ : Loc nD τ sig) → Buf (Elt Ideal) ℓ) (c : Dev nD) (t : Fin cfg0.N)

/-- The argument arrays of a launch. -/
abbrev ar : Args := ⟨M (c.tc.loc main_arg0), M (c.tc.loc main_arg1), M (c.tc.loc main_arg2), M (c.tc.loc main_arg3)⟩

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0])

variable (r : Fin 4) (l : Fin 192)

theorem V0 : (V M c main_v0 : S4x192.Idx → EReal) (ix2 r l) = (ar M c).w (ix3 0 r l) := by
  unfold V
  after_reads_at

theorem V1 : (V M c main_v1 : S4x192.Idx → EReal) (ix2 r l) = (ar M c).m (ix3 0 r l) := by
  unfold V
  after_reads_at

theorem V2 : (V M c main_v2 : S4x192.Idx → EReal) (ix2 r l) = (ar M c).v (ix3 0 r l) := by
  unfold V
  after_reads_at

theorem blk0 : iblk M c 0 t (ix2 r l) = (ar M c).g (ix2 r l) := by
  have : iblk M c 0 t (ix2 r l) = V M c main_arg0 (ix2 r l) := by blk_ext [iblk, idx t]
  rw [this, V_main_arg0]

theorem blk1 : iblk M c 1 t (ix2 r l) = (ar M c).w (ix3 0 r l) := by
  have : iblk M c 1 t (ix2 r l) = V M c main_v0 (ix2 r l) := by blk_ext [iblk, idx t]
  rw [this, V0]

theorem blk2 : iblk M c 2 t (ix2 r l) = (ar M c).m (ix3 0 r l) := by
  have : iblk M c 2 t (ix2 r l) = V M c main_v1 (ix2 r l) := by blk_ext [iblk, idx t]
  rw [this, V1]

theorem blk3 : iblk M c 3 t (ix2 r l) = (ar M c).v (ix3 0 r l) := by
  have : iblk M c 3 t (ix2 r l) = V M c main_v2 (ix2 r l) := by blk_ext [iblk, idx t]
  rw [this, V2]

section Body

variable (g w m v : Vec Ideal S4x192 .f32)

theorem m1_pay : k0_pay1 (F := Ideal) g m (ix2 r l) = m1 (g (ix2 r l)) (m (ix2 r l)) := by
  pointwise [k0_pay1]
  rfl

theorem m2_pay : k0_pay2 (F := Ideal) g v (ix2 r l) = m2 (g (ix2 r l)) (v (ix2 r l)) := by
  pointwise [k0_pay2]
  rfl

theorem step_pay : k0_pay3 (F := Ideal) w g m v (ix2 r l) = step (w (ix2 r l)) (g (ix2 r l)) (m (ix2 r l)) (v (ix2 r l)) := by
  pointwise [k0_pay3]
  rw [m1_pay, m2_pay]
  rfl

end Body

theorem final4 : (dats M 0 c).arrAt 4 cfg0.N = G0 (ar M c) := by
  refine (dats M 0 c).arrAt_eq_of_covers 4 _ (by decide +kernel) fun t hf y => ?_
  obtain ⟨r, l, rfl⟩ : ∃ (r : Fin 4) (l : Fin 192), y = ix2 r l := ⟨y 0, y 1, eq_ix2 y⟩
  have e : (win0_4.blk t).view.emb (ix2 r l) = ix2 r l := by blk_ext [idx t]
  have o : (dats M 0 c).after 4 t (ix2 r l) = G0 (ar M c) (ix2 r l) := by
    rw [after0_4]
    unfold out0_4
    frame_out
    rw [step_pay, blk0, blk1, blk2, blk3]
    rfl
  exact o.trans (congrArg (G0 (ar M c)) e).symm

theorem final5 : (dats M 0 c).arrAt 5 cfg0.N = G1 (ar M c) := by
  refine (dats M 0 c).arrAt_eq_of_covers 5 _ (by decide +kernel) fun t hf y => ?_
  obtain ⟨r, l, rfl⟩ : ∃ (r : Fin 4) (l : Fin 192), y = ix2 r l := ⟨y 0, y 1, eq_ix2 y⟩
  have e : (win0_5.blk t).view.emb (ix2 r l) = ix2 r l := by blk_ext [idx t]
  have o : (dats M 0 c).after 5 t (ix2 r l) = G1 (ar M c) (ix2 r l) := by
    rw [after0_5]
    unfold out0_5
    frame_out
    rw [m1_pay, blk0, blk2]
    rfl
  exact o.trans (congrArg (G1 (ar M c)) e).symm

theorem final6 : (dats M 0 c).arrAt 6 cfg0.N = G2 (ar M c) := by
  refine (dats M 0 c).arrAt_eq_of_covers 6 _ (by decide +kernel) fun t hf y => ?_
  obtain ⟨r, l, rfl⟩ : ∃ (r : Fin 4) (l : Fin 192), y = ix2 r l := ⟨y 0, y 1, eq_ix2 y⟩
  have e : (win0_6.blk t).view.emb (ix2 r l) = ix2 r l := by blk_ext [idx t]
  have o : (dats M 0 c).after 6 t (ix2 r l) = G2 (ar M c) (ix2 r l) := by
    rw [after0_6]
    unfold out0_6
    frame_out
    rw [m2_pay, blk0, blk3]
    rfl
  exact o.trans (congrArg (G2 (ar M c)) e).symm

end Kernel

section Reference

open Cert.ReferenceCwIdeal Cert.ReferenceCwIdeal.Gen Cert.ReferenceCwIdeal.Value

/-- The argument arrays of a launch. -/
abbrev arR (M : (ℓ : Loc nD τ sig) → Buf (Elt Ideal) ℓ) (c : Dev nD) : Args :=
  ⟨M (c.tc.loc main_arg0), M (c.tc.loc main_arg1), M (c.tc.loc main_arg2), M (c.tc.loc main_arg3)⟩

/-- The gradient with a leading axis, and an array without it. -/
def B (g : FVec Ideal S4x192 .f32) : FVec Ideal S1x4x192 .f32 := broadcastInDim S1x4x192 ![1, 2] bcast_S4x192_S1x4x192_1_2 g
def FL (x : FVec Ideal S1x4x192 .f32) : FVec Ideal S4x192 .f32 := shapeCast _ x shapeCasts_S1x4x192_S4x192

theorem B_apply (g : FVec Ideal S4x192 .f32) (r : Fin 4) (l : Fin 192) : B g (ix3 0 r l) = g (ix2 r l) := by pointwise [B]

theorem flat (x : FVec Ideal S1x4x192 .f32) (G : S4x192.Idx → EReal) (h : ∀ r l, x (ix3 0 r l) = G (ix2 r l)) : FL x = G := by
  funext i
  obtain ⟨r, l, rfl⟩ : ∃ (r : Fin 4) (l : Fin 192), i = ix2 r l := ⟨i 0, i 1, eq_ix2 i⟩
  pointwise [FL]
  exact h r l

variable (A : Args)

theorem res0 : FL (AdamHost.ST bcast_S_S1x4x192 (B A.g) A.w A.m A.v) = G0 A :=
  flat _ _ fun r l => by rw [AdamHost.ST_apply, B_apply]; rfl

theorem res1 : FL (AdamHost.M1 bcast_S_S1x4x192 (B A.g) A.m) = G1 A :=
  flat _ _ fun r l => by rw [AdamHost.M1_apply, B_apply]; rfl

theorem res2 : FL (AdamHost.M2 bcast_S_S1x4x192 (B A.g) A.v) = G2 A :=
  flat _ _ fun r l => by rw [AdamHost.M2_apply, B_apply]; rfl

end Reference

end Cert.CwPair

end
-- ==== Proof.CwClaims.lean ====
module

public import proofs.«01_k».proof.Defs
public import proofs.«01_k».proof.Proof.CwPair
public import proofs.«01_k».proof.Proof.Gen.KernelCw.Frame
public import Idealize.ShloMosaic.Adequacy

@[expose] public section

set_option maxRecDepth 16384

noncomputable section

/-! The claims about the convolution weight's AdamW step. -/

namespace Cert.CwClaims

open Idealize.ShloMosaic Idealize.SL.Sem CwPair

theorem frame_k : Cert.quiescent_KernelCw := fun m ρ _ => Cert.KernelCw.Gen.frame m ρ

theorem frame_ki : Cert.quiescent_KernelCwIdeal := fun m ρ _ => Cert.KernelCwIdeal.Gen.frame m ρ

theorem frame_ri : Cert.quiescent_ReferenceCwIdeal := fun m ρ _ =>
  (θ_run Cert.ReferenceCwIdeal.defs _ _).mono (fun r h => ⟨fun c => (h c).2.2.2, Idealize.ShloMosaic.sem_eq_zero_of_no_sems (by decide) r.2⟩)
    (Cert.ReferenceCwIdeal.Value.run (F := Ideal) m ρ)

theorem preserves : Cert.preserves_KernelCw_KernelCwIdeal := trivial

theorem algebraic : Cert.algebraic_KernelCwIdeal_ReferenceCwIdeal := by
  intro m ρ m' ρ' _ hagree
  have e (c : Dev Cert.KernelCwIdeal.nD) : arR m' c = ar m c := by
    obtain ⟨h0, h1, h2, h3⟩ := hagree c
    unfold arR ar
    rw [h0, h1, h2, h3]
  refine ⟨fun c => G0 (ar m c), fun c => G1 (ar m c), fun c => G2 (ar m c), ?_, ?_⟩
  · exact (θ_run Cert.KernelCwIdeal.defs _ _).mono (fun r h c => ⟨(h c).1.trans (final4 m c), (h c).2.1.trans (final5 m c),
      (h c).2.2.1.trans (final6 m c), (h c).2.2.2⟩) (Cert.KernelCwIdeal.Value.run_blocks (F := Ideal) m ρ)
  · exact (θ_run Cert.ReferenceCwIdeal.defs _ _).mono (fun r h c => ⟨((h c).1.trans (res0 (arR m' c))).trans (congrArg G0 (e c)),
      ((h c).2.1.trans (res1 (arR m' c))).trans (congrArg G1 (e c)), ((h c).2.2.1.trans (res2 (arR m' c))).trans (congrArg G2 (e c)), (h c).2.2.2⟩)
      (Cert.ReferenceCwIdeal.Value.run (F := Ideal) m' ρ')

end Cert.CwClaims

end
-- ==== Proof.WholeWin.lean ====
module

public import Idealize.ShloMosaic.Lib.Pipeline.ValueKit
public import Idealize.ShloMosaic.Lib.Pipeline.Value

@[expose] public section

noncomputable section

/-! Windows that hold their whole array. -/

namespace Cert.WholeWin

open Idealize.ShloMosaic

section Whole

variable {s : Shape} {e : EltTy} {Val : EltTy → Type} {off : Fin s.rank → Nat} (h : ∀ a, off a = 0)
include h

/-- A read of a whole array, and a write of one. -/
theorem ld_all (x : s.Idx → Val e) (inb) : View.ld x (Rect.unit off s.size inb) = x :=
  funext fun y => View.ld_unit_apply_of x off s.size inb y y fun a => by rw [h a, Nat.zero_add]

theorem canon_all [∀ e, Nonempty (Val e)] (inb) (p : (Rect.unit off s.size inb).shape.Idx → Val e) :
    View.canon (Val := Val) [⟨Rect.unit off s.size inb, p⟩] = p := by
  funext y
  have q : (Rect.unit off s.size inb).emb y = y :=
    funext fun a => Fin.ext ((ValueKit.rect_emb_unit_val off s.size inb y a).trans (by rw [h a, Nat.zero_add]))
  exact (congrArg (View.canon _) q).symm.trans (View.canon_cons_emb _ p [] y)

end Whole

/-- The block of a whole window is the array. -/
theorem read_all {sig : RefSig} {Val : EltTy → Type} {s : Shape} {e : EltTy} {cs : CoreSpace} (arr : Memref sig .tc .hbm s e) (o y : Bool)
    (stage : Memref sig .tc (.core cs) ⟨s.rank, s.size⟩ e) (sem : DmaSem sig) (ha : arr.IsWhole) (hs : stage.IsWhole)
    (t : Fin Pipeline.Grid.none.N) (X : arr.view.ty.Contents Val) :
    ((Pipeline.Window.whole arr o y stage sem ha hs).blk t).view.read Val X = arr.view.read Val X := by
  funext i
  have q : ((Pipeline.Window.whole arr o y stage sem ha hs).rect t).emb i = i :=
    funext fun a => Fin.ext (Pipeline.Window.rect_emb_val_of_index_zero _ t a rfl i)
  exact congrArg (arr.view.read Val X) q

end Cert.WholeWin

end
-- ==== Proof.SmlBody.lean ====
module

public import proofs.«01_k».proof.Proof.Gen.KernelSmlIdeal.Frame
public import proofs.«01_k».proof.Proof.Gen.ReferenceSmlIdeal.Run
public import proofs.«01_k».proof.Proof.AdamHost
public import proofs.«01_k».proof.Proof.WholeWin
public import Idealize.ShloMosaic.Lib.Pointwise
public import Idealize.ShloMosaic.Lib.Pipeline.ValueKit
public import Idealize.ShloMosaic.Lib.StableHlo.ReadAt
public import Idealize.ShloMosaic.Lib.KernelVsHost

@[expose] public section

set_option maxRecDepth 16384

noncomputable section

/-! The small parameters' gradients from the devices' sums: the reference's terms, and the kernel's body brought to them. -/

namespace Cert.SmlBody

open Idealize.ShloMosaic Idealize.ShloMosaic.TcCoe Idealize.SL.Sem WholeWin

theorem off2 : ∀ a : Fin 2, (![0, 0] : Fin 2 → Nat) a = 0 := by decide

section Host

open Cert.ReferenceSmlIdeal Cert.ReferenceSmlIdeal.Gen

/-- The sums over the devices. -/
def su1 (x : FVec Ideal S8x8x1024 .f32) : FVec Ideal S8x1024 .f32 :=
  Host.reduceAdd x (constant S_ .f32 0x00000000#32) reducesTo_S8x8x1024_S8x1024_d0 h_S_
def su2 (x : FVec Ideal S8x8x1536 .f32) : FVec Ideal S8x1536 .f32 :=
  Host.reduceAdd x (constant S_ .f32 0x00000000#32) reducesTo_S8x8x1536_S8x1536_d0 h_S_
def su4 (x : FVec Ideal S8x8x128 .f32) : FVec Ideal S8x128 .f32 :=
  Host.reduceAdd x (constant S_ .f32 0x00000000#32) reducesTo_S8x8x128_S8x128_d0 h_S_
def su0 (x : FVec Ideal S8x2x8x1024 .f32) : FVec Ideal S8x1024 .f32 :=
  su1 (Host.reduceAdd x (constant S_ .f32 0x00000000#32) reducesTo_S8x2x8x1024_S8x8x1024_d1 h_S_)

/-- Six rows one after the other. -/
def rows6 (x : FVec Ideal S8x1024 .f32) : FVec Ideal S1x6144 .f32 :=
  shapeCast _ (extractStridedSlice S6x1024 ![0, 0] x slices_S8x1024_S6x1024_0_0) shapeCasts_S6x1024_S1x6144

/-- The first lanes of the first row. -/
def head0 (x : FVec Ideal S8x128 .f32) : FVec Ideal S1x16 .f32 := extractStridedSlice S1x16 ![0, 0] x slices_S8x128_S1x16_0_0

theorem su1_apply (x : FVec Ideal S8x8x1024 .f32) (a : Fin 8) (l : Fin 1024) : su1 x (ix2 a l) = ∑ d : Fin 8, x (ix3 d a l) := by
  pointwise [su1]

theorem su2_apply (x : FVec Ideal S8x8x1536 .f32) (a : Fin 8) (l : Fin 1536) : su2 x (ix2 a l) = ∑ d : Fin 8, x (ix3 d a l) := by
  pointwise [su2]

theorem su4_apply (x : FVec Ideal S8x8x128 .f32) (a : Fin 8) (l : Fin 128) : su4 x (ix2 a l) = ∑ d : Fin 8, x (ix3 d a l) := by
  pointwise [su4]

theorem su0_apply (x : FVec Ideal S8x2x8x1024 .f32) (a : Fin 8) (l : Fin 1024) :
    su0 x (ix2 a l) = ∑ d : Fin 8, ∑ b : Fin 2, x (ix4 d b a l) := by
  unfold su0
  rw [su1_apply]
  refine Finset.sum_congr rfl fun d _ => ?_
  pointwise

theorem rows6_apply (x : FVec Ideal S8x1024 .f32) (q : Fin 6) (l : Fin 1024) :
    rows6 x (ix2 0 ⟨q.val * 1024 + l.val, by omega⟩) = x (ix2 ⟨q.val, by omega⟩ l) := by
  pointwise [rows6]

theorem head0_apply (x : FVec Ideal S8x128 .f32) (l : Fin 16) : head0 x (ix2 0 l) = x (ix2 0 ⟨l.val, by omega⟩) := by
  pointwise [head0]

end Host

section Kernel

open Cert.KernelSmlIdeal Cert.KernelSmlIdeal.Gen

theorem sum0 (x : Vec Ideal S8x2x8x1024 .f32) :
    k0_pay2 (View.ld x r0_0) (View.ld x r0_1) (View.ld x r0_2) (View.ld x r0_3)
      (View.ld x r0_4) (View.ld x r0_5) (View.ld x r0_6) (View.ld x r0_7) = su0 x := by
  funext i
  obtain ⟨a, l, rfl⟩ : ∃ (a : Fin 8) (l : Fin 1024), i = ix2 a l := ⟨i 0, i 1, eq_ix2 i⟩
  simp only [su0_apply, Fin.sum_univ_two, Finset.sum_add_distrib]
  rw [Fin.sum_univ_eight, Fin.sum_univ_eight]
  pointwise [k0_pay2]

theorem sum1 (x : Vec Ideal S8x8x1024 .f32) :
    k0_pay3 (View.ld x r0_8) (View.ld x r0_9) (View.ld x r0_10) (View.ld x r0_11)
      (View.ld x r0_12) (View.ld x r0_13) (View.ld x r0_14) (View.ld x r0_15) = su1 x := by
  funext i
  obtain ⟨a, l, rfl⟩ : ∃ (a : Fin 8) (l : Fin 1024), i = ix2 a l := ⟨i 0, i 1, eq_ix2 i⟩
  rw [su1_apply, Fin.sum_univ_eight]
  pointwise [k0_pay3]

theorem sum2 (x : Vec Ideal S8x8x1536 .f32) :
    k0_pay5 (k0_pay4 (View.ld x r0_16) (View.ld x r0_17)) (View.ld x r0_18) (View.ld x r0_19)
      (View.ld x r0_20) (View.ld x r0_21) (View.ld x r0_22) (View.ld x r0_23) = su2 x := by
  funext i
  obtain ⟨a, l, rfl⟩ : ∃ (a : Fin 8) (l : Fin 1536), i = ix2 a l := ⟨i 0, i 1, eq_ix2 i⟩
  rw [su2_apply, Fin.sum_univ_eight]
  pointwise [k0_pay5, k0_pay4]

theorem sum3 (x : Vec Ideal S8x8x1024 .f32) :
    k0_pay7 (k0_pay6 (View.ld x r0_8) (View.ld x r0_9) (View.ld x r0_10) (View.ld x r0_11))
      (View.ld x r0_12) (View.ld x r0_13) (View.ld x r0_14) (View.ld x r0_15) = su1 x := by
  funext i
  obtain ⟨a, l, rfl⟩ : ∃ (a : Fin 8) (l : Fin 1024), i = ix2 a l := ⟨i 0, i 1, eq_ix2 i⟩
  rw [su1_apply, Fin.sum_univ_eight]
  pointwise [k0_pay7, k0_pay6]

theorem sum4 (x : Vec Ideal S8x8x128 .f32) :
    k0_pay11 (k0_pay8 (View.ld x r0_24) (View.ld x r0_25) (View.ld x r0_26) (View.ld x r0_27) (View.ld x r0_28) (View.ld x r0_29))
      (View.ld x r0_30) (View.ld x r0_31) = head0 (su4 x) := by
  funext i
  obtain ⟨l, rfl⟩ : ∃ l : Fin 16, i = ix2 0 l := ⟨i 1, (eq_ix2 i).trans (congrArg (fun k => ix2 k (i 1)) (Subsingleton.elim _ _))⟩
  rw [head0_apply, su4_apply, Fin.sum_univ_eight]
  pointwise [k0_pay11, k0_pay8]

theorem pay10 (x : FVec Ideal S8x1024 .f32) : k0_pay10 x = rows6 x := by
  funext i
  obtain ⟨j, rfl⟩ : ∃ j : Fin 6144, i = ix2 0 j := ⟨i 1, (eq_ix2 i).trans (congrArg (fun k => ix2 k (i 1)) (Subsingleton.elim _ _))⟩
  obtain ⟨q, l, rfl⟩ : ∃ (q : Fin 6) (l : Fin 1024), j = ⟨q.val * 1024 + l.val, by omega⟩ :=
    ⟨⟨j.val / 1024, by omega⟩, ⟨j.val % 1024, by omega⟩, Fin.ext (by simp only; omega)⟩
  rw [rows6_apply]
  fin_cases q <;> pointwise [k0_pay10]
  all_goals
    split_ifs <;> first
      | (exfalso; omega)
      | exact congrArg (fun k => x (ix2 _ k)) (Fin.ext (by dsimp only; omega))

section Adam

variable (d : FVec Ideal S8x1024 .f32) (w m v : Vec Ideal S1x6144 .f32)
  (z : (⟨0, ![]⟩ : Shape).BroadcastsInDim S1x6144 (![] : Fin 0 → Fin S1x6144.rank))

theorem m1_ada : k0_pay13 d m = AdamHost.M1 z (k0_pay10 d) m := rfl
theorem m2_ada : k0_pay14 d v = AdamHost.M2 z (k0_pay10 d) v := rfl
theorem st_ada : k0_pay17 w (k0_pay15 d m) (k0_pay16 d v) = AdamHost.ST z (k0_pay10 d) w m v := rfl

end Adam

end Kernel

end Cert.SmlBody

end
-- ==== Proof.SmlPair.lean ====
module

public import proofs.«01_k».proof.Proof.Gen.KernelSmlIdeal.Value
public import proofs.«01_k».proof.Proof.SmlBody

@[expose] public section

set_option maxRecDepth 16384

noncomputable section

/-! The small parameters' AdamW steps of the kernel: each of its result arrays as the reference's term of the argument arrays. -/

namespace Cert.SmlPair

open Idealize.ShloMosaic Idealize.ShloMosaic.TcCoe Idealize.SL.Sem WholeWin SmlBody

section Host

open Cert.ReferenceSmlIdeal Cert.ReferenceSmlIdeal.Gen

/-- The gradients of the parameters. -/
def d_b_ada (x : FVec Ideal S8x2x8x1024 .f32) : FVec Ideal S1x6144 .f32 := rows6 (su0 x)
def d_dt_bias (x : FVec Ideal S8x8x128 .f32) : FVec Ideal S1x16 .f32 := head0 (su4 x)
def d_pool_scale (x : FVec Ideal S8x8x1024 .f32) : FVec Ideal S1x512 .f32 := extractStridedSlice S1x512 ![1, 0] (su1 x) slices_S8x1024_S1x512_1_0
def d_conv (x : FVec Ideal S8x8x1536 .f32) : FVec Ideal S4x1536 .f32 := extractStridedSlice S4x1536 ![0, 0] (su2 x) slices_S8x1536_S4x1536_0_0

/-- The three results of a parameter's step, its shape given by the broadcast of a constant to it. -/
abbrev zS1x6144 := bcast_S_S1x6144
abbrev zS1x16 := bcast_S_S1x16
abbrev zS1x512 := bcast_S_S1x512

end Host

section Kernel

open Cert.KernelSmlIdeal Cert.KernelSmlIdeal.Gen

variable (M : (ℓ : Loc nD τ sig) → Buf (Elt Ideal) ℓ) (c : Dev nD) (t : Fin cfg0.N)

theorem blk0 : iblk M c 0 t = M (c.tc.loc main_arg0) := (read_all _ _ _ _ _ (Memref.isWhole_whole _) (hstage0_0 0) t _).trans (V_main_arg0 M c)
theorem blk1 : iblk M c 1 t = M (c.tc.loc main_arg1) := (read_all _ _ _ _ _ (Memref.isWhole_whole _) (hstage0_1 0) t _).trans (V_main_arg1 M c)
theorem blk2 : iblk M c 2 t = M (c.tc.loc main_arg2) := (read_all _ _ _ _ _ (Memref.isWhole_whole _) (hstage0_2 0) t _).trans (V_main_arg2 M c)
theorem blk3 : iblk M c 3 t = M (c.tc.loc main_arg3) := (read_all _ _ _ _ _ (Memref.isWhole_whole _) (hstage0_3 0) t _).trans (V_main_arg3 M c)
theorem blk4 : iblk M c 4 t = M (c.tc.loc main_arg4) := (read_all _ _ _ _ _ (Memref.isWhole_whole _) (hstage0_4 0) t _).trans (V_main_arg4 M c)
theorem blk5 : iblk M c 5 t = M (c.tc.loc main_arg5) := (read_all _ _ _ _ _ (Memref.isWhole_whole _) (hstage0_5 0) t _).trans (V_main_arg5 M c)
theorem blk6 : iblk M c 6 t = M (c.tc.loc main_arg6) := (read_all _ _ _ _ _ (Memref.isWhole_whole _) (hstage0_6 0) t _).trans (V_main_arg6 M c)
theorem blk7 : iblk M c 7 t = M (c.tc.loc main_arg7) := (read_all _ _ _ _ _ (Memref.isWhole_whole _) (hstage0_7 0) t _).trans (V_main_arg7 M c)
theorem blk8 : iblk M c 8 t = M (c.tc.loc main_arg8) := (read_all _ _ _ _ _ (Memref.isWhole_whole _) (hstage0_8 0) t _).trans (V_main_arg8 M c)
theorem blk9 : iblk M c 9 t = M (c.tc.loc main_arg9) := (read_all _ _ _ _ _ (Memref.isWhole_whole _) (hstage0_9 0) t _).trans (V_main_arg9 M c)
theorem blk10 : iblk M c 10 t = M (c.tc.loc main_arg10) := (read_all _ _ _ _ _ (Memref.isWhole_whole _) (hstage0_10 0) t _).trans (V_main_arg10 M c)
theorem blk11 : iblk M c 11 t = M (c.tc.loc main_arg11) := (read_all _ _ _ _ _ (Memref.isWhole_whole _) (hstage0_11 0) t _).trans (V_main_arg11 M c)
theorem blk12 : iblk M c 12 t = M (c.tc.loc main_arg12) := (read_all _ _ _ _ _ (Memref.isWhole_whole _) (hstage0_12 0) t _).trans (V_main_arg12 M c)
theorem blk13 : iblk M c 13 t = M (c.tc.loc main_arg13) := (read_all _ _ _ _ _ (Memref.isWhole_whole _) (hstage0_13 0) t _).trans (V_main_arg13 M c)

theorem b_ada : (dats M 0 c).arrAt 14 cfg0.N = d_b_ada (M (c.tc.loc main_arg0))
    ∧ (dats M 0 c).arrAt 15 cfg0.N = AdamHost.ST zS1x6144 (d_b_ada (M (c.tc.loc main_arg0))) (M (c.tc.loc main_arg5)) (M (c.tc.loc main_arg6)) (M (c.tc.loc main_arg7))
    ∧ (dats M 0 c).arrAt 16 cfg0.N = AdamHost.M1 zS1x6144 (d_b_ada (M (c.tc.loc main_arg0))) (M (c.tc.loc main_arg6))
    ∧ (dats M 0 c).arrAt 17 cfg0.N = AdamHost.M2 zS1x6144 (d_b_ada (M (c.tc.loc main_arg0))) (M (c.tc.loc main_arg7)) := by
  have a14 : (dats M 0 c).after 14 t0_0 = d_b_ada (M (c.tc.loc main_arg0)) := by
    rw [after0_14]
    unfold out0_14 k0_pay26
    rw [canon_all (s := S1x6144) off2, sum0, blk0, pay10]
    rfl
  have a15 : (dats M 0 c).after 15 t0_0 = AdamHost.ST zS1x6144 (d_b_ada (M (c.tc.loc main_arg0))) (M (c.tc.loc main_arg5)) (M (c.tc.loc main_arg6)) (M (c.tc.loc main_arg7)) := by
    rw [after0_15]
    unfold out0_15 k0_pay26
    rw [canon_all (s := S1x6144) off2, sum0, blk0, ld_all (s := S1x6144) off2, ld_all (s := S1x6144) off2, ld_all (s := S1x6144) off2, blk5, blk6, blk7, st_ada (z := zS1x6144), pay10]
    rfl
  have a16 : (dats M 0 c).after 16 t0_0 = AdamHost.M1 zS1x6144 (d_b_ada (M (c.tc.loc main_arg0))) (M (c.tc.loc main_arg6)) := by
    rw [after0_16]
    unfold out0_16 k0_pay26
    rw [canon_all (s := S1x6144) off2, sum0, blk0, ld_all (s := S1x6144) off2, blk6, m1_ada (z := zS1x6144), pay10]
    rfl
  have a17 : (dats M 0 c).after 17 t0_0 = AdamHost.M2 zS1x6144 (d_b_ada (M (c.tc.loc main_arg0))) (M (c.tc.loc main_arg7)) := by
    rw [after0_17]
    unfold out0_17 k0_pay26
    rw [canon_all (s := S1x6144) off2, sum0, blk0, ld_all (s := S1x6144) off2, blk7, m2_ada (z := zS1x6144), pay10]
    rfl
  exact ⟨(dats M 0 c).arrAt_eq_of_after_last 14 t0_0 (by decide +kernel) _ (congrFun a14),
    (dats M 0 c).arrAt_eq_of_after_last 15 t0_0 (by decide +kernel) _ (congrFun a15),
    (dats M 0 c).arrAt_eq_of_after_last 16 t0_0 (by decide +kernel) _ (congrFun a16),
    (dats M 0 c).arrAt_eq_of_after_last 17 t0_0 (by decide +kernel) _ (congrFun a17)⟩

theorem dt_bias : (dats M 0 c).arrAt 18 cfg0.N = d_dt_bias (M (c.tc.loc main_arg4))
    ∧ (dats M 0 c).arrAt 19 cfg0.N = AdamHost.ST zS1x16 (d_dt_bias (M (c.tc.loc main_arg4))) (M (c.tc.loc main_arg8)) (M (c.tc.loc main_arg9)) (M (c.tc.loc main_arg10))
    ∧ (dats M 0 c).arrAt 20 cfg0.N = AdamHost.M1 zS1x16 (d_dt_bias (M (c.tc.loc main_arg4))) (M (c.tc.loc main_arg9))
    ∧ (dats M 0 c).arrAt 21 cfg0.N = AdamHost.M2 zS1x16 (d_dt_bias (M (c.tc.loc main_arg4))) (M (c.tc.loc main_arg10)) := by
  have a18 : (dats M 0 c).after 18 t0_0 = d_dt_bias (M (c.tc.loc main_arg4)) := by
    rw [after0_18]
    unfold out0_18 k0_pay27
    rw [canon_all (s := S1x16) off2, sum4, blk4]
    rfl
  have a19 : (dats M 0 c).after 19 t0_0 = AdamHost.ST zS1x16 (d_dt_bias (M (c.tc.loc main_arg4))) (M (c.tc.loc main_arg8)) (M (c.tc.loc main_arg9)) (M (c.tc.loc main_arg10)) := by
    rw [after0_19]
    unfold out0_19 k0_pay27
    rw [canon_all (s := S1x16) off2, sum4, blk4, ld_all (s := S1x16) off2, ld_all (s := S1x16) off2, ld_all (s := S1x16) off2, blk8, blk9, blk10]
    rfl
  have a20 : (dats M 0 c).after 20 t0_0 = AdamHost.M1 zS1x16 (d_dt_bias (M (c.tc.loc main_arg4))) (M (c.tc.loc main_arg9)) := by
    rw [after0_20]
    unfold out0_20 k0_pay27
    rw [canon_all (s := S1x16) off2, sum4, blk4, ld_all (s := S1x16) off2, blk9]
    rfl
  have a21 : (dats M 0 c).after 21 t0_0 = AdamHost.M2 zS1x16 (d_dt_bias (M (c.tc.loc main_arg4))) (M (c.tc.loc main_arg10)) := by
    rw [after0_21]
    unfold out0_21 k0_pay27
    rw [canon_all (s := S1x16) off2, sum4, blk4, ld_all (s := S1x16) off2, blk10]
    rfl
  exact ⟨(dats M 0 c).arrAt_eq_of_after_last 18 t0_0 (by decide +kernel) _ (congrFun a18),
    (dats M 0 c).arrAt_eq_of_after_last 19 t0_0 (by decide +kernel) _ (congrFun a19),
    (dats M 0 c).arrAt_eq_of_after_last 20 t0_0 (by decide +kernel) _ (congrFun a20),
    (dats M 0 c).arrAt_eq_of_after_last 21 t0_0 (by decide +kernel) _ (congrFun a21)⟩

theorem pool_scale : (dats M 0 c).arrAt 22 cfg0.N = d_pool_scale (M (c.tc.loc main_arg3))
    ∧ (dats M 0 c).arrAt 23 cfg0.N = AdamHost.ST zS1x512 (d_pool_scale (M (c.tc.loc main_arg3))) (M (c.tc.loc main_arg11)) (M (c.tc.loc main_arg12)) (M (c.tc.loc main_arg13))
    ∧ (dats M 0 c).arrAt 24 cfg0.N = AdamHost.M1 zS1x512 (d_pool_scale (M (c.tc.loc main_arg3))) (M (c.tc.loc main_arg12))
    ∧ (dats M 0 c).arrAt 25 cfg0.N = AdamHost.M2 zS1x512 (d_pool_scale (M (c.tc.loc main_arg3))) (M (c.tc.loc main_arg13)) := by
  have a22 : (dats M 0 c).after 22 t0_0 = d_pool_scale (M (c.tc.loc main_arg3)) := by
    rw [after0_22]
    unfold out0_22 k0_pay28
    rw [canon_all (s := S1x512) off2, sum3, blk3]
    rfl
  have a23 : (dats M 0 c).after 23 t0_0 = AdamHost.ST zS1x512 (d_pool_scale (M (c.tc.loc main_arg3))) (M (c.tc.loc main_arg11)) (M (c.tc.loc main_arg12)) (M (c.tc.loc main_arg13)) := by
    rw [after0_23]
    unfold out0_23 k0_pay28
    rw [canon_all (s := S1x512) off2, sum3, blk3, ld_all (s := S1x512) off2, ld_all (s := S1x512) off2, ld_all (s := S1x512) off2, blk11, blk12, blk13]
    rfl
  have a24 : (dats M 0 c).after 24 t0_0 = AdamHost.M1 zS1x512 (d_pool_scale (M (c.tc.loc main_arg3))) (M (c.tc.loc main_arg12)) := by
    rw [after0_24]
    unfold out0_24 k0_pay28
    rw [canon_all (s := S1x512) off2, sum3, blk3, ld_all (s := S1x512) off2, blk12]
    rfl
  have a25 : (dats M 0 c).after 25 t0_0 = AdamHost.M2 zS1x512 (d_pool_scale (M (c.tc.loc main_arg3))) (M (c.tc.loc main_arg13)) := by
    rw [after0_25]
    unfold out0_25 k0_pay28
    rw [canon_all (s := S1x512) off2, sum3, blk3, ld_all (s := S1x512) off2, blk13]
    rfl
  exact ⟨(dats M 0 c).arrAt_eq_of_after_last 22 t0_0 (by decide +kernel) _ (congrFun a22),
    (dats M 0 c).arrAt_eq_of_after_last 23 t0_0 (by decide +kernel) _ (congrFun a23),
    (dats M 0 c).arrAt_eq_of_after_last 24 t0_0 (by decide +kernel) _ (congrFun a24),
    (dats M 0 c).arrAt_eq_of_after_last 25 t0_0 (by decide +kernel) _ (congrFun a25)⟩

theorem conv : (dats M 0 c).arrAt 26 cfg0.N = d_conv (M (c.tc.loc main_arg2)) := by
  have a : (dats M 0 c).after 26 t0_0 = d_conv (M (c.tc.loc main_arg2)) := by
    rw [after0_26]
    unfold out0_26
    rw [canon_all (s := S4x1536) off2, sum2, blk2]
    rfl
  exact (dats M 0 c).arrAt_eq_of_after_last 26 t0_0 (by decide +kernel) _ (congrFun a)

theorem acc : (dats M 0 c).arrAt 27 cfg0.N = su1 (M (c.tc.loc main_arg1)) := by
  have a : (dats M 0 c).after 27 t0_0 = su1 (M (c.tc.loc main_arg1)) := by
    rw [after0_27]
    unfold out0_27
    rw [canon_all (s := S8x1024) off2, sum1, blk1]
  exact (dats M 0 c).arrAt_eq_of_after_last 27 t0_0 (by decide +kernel) _ (congrFun a)

end Kernel

end Cert.SmlPair

end
-- ==== Proof.SmlClaims.lean ====
module

public import proofs.«01_k».proof.Defs
public import proofs.«01_k».proof.Proof.SmlPair
public import proofs.«01_k».proof.Proof.Gen.KernelSml.Frame
public import Idealize.ShloMosaic.Adequacy

@[expose] public section

set_option maxRecDepth 16384

noncomputable section

/-! The claims about the small parameters' AdamW steps. -/

namespace Cert.SmlClaims

open Idealize.ShloMosaic Idealize.SL.Sem SmlPair

theorem frame_k : Cert.quiescent_KernelSml := fun m ρ _ => Cert.KernelSml.Gen.frame m ρ

theorem frame_ki : Cert.quiescent_KernelSmlIdeal := fun m ρ _ => Cert.KernelSmlIdeal.Gen.frame m ρ

theorem frame_ri : Cert.quiescent_ReferenceSmlIdeal := fun m ρ _ =>
  (θ_run Cert.ReferenceSmlIdeal.defs _ _).mono (fun r h => ⟨fun c => by
      obtain ⟨-, -, -, -, -, -, -, -, -, -, -, -, -, -, k⟩ := h c
      exact k, Idealize.ShloMosaic.sem_eq_zero_of_no_sems (by decide) r.2⟩)
    (Cert.ReferenceSmlIdeal.Value.run (F := Ideal) m ρ)

theorem preserves : Cert.preserves_KernelSml_KernelSmlIdeal := trivial

set_option maxHeartbeats 4000000 in
theorem algebraic : Cert.algebraic_KernelSmlIdeal_ReferenceSmlIdeal := by
  intro m ρ m' ρ' _ hagree
  refine ⟨fun c => (Cert.KernelSmlIdeal.Gen.dats m 0 c).arrAt 14 Cert.KernelSmlIdeal.cfg0.N, fun c => (Cert.KernelSmlIdeal.Gen.dats m 0 c).arrAt 15 Cert.KernelSmlIdeal.cfg0.N, fun c => (Cert.KernelSmlIdeal.Gen.dats m 0 c).arrAt 16 Cert.KernelSmlIdeal.cfg0.N, fun c => (Cert.KernelSmlIdeal.Gen.dats m 0 c).arrAt 17 Cert.KernelSmlIdeal.cfg0.N, fun c => (Cert.KernelSmlIdeal.Gen.dats m 0 c).arrAt 18 Cert.KernelSmlIdeal.cfg0.N, fun c => (Cert.KernelSmlIdeal.Gen.dats m 0 c).arrAt 19 Cert.KernelSmlIdeal.cfg0.N, fun c => (Cert.KernelSmlIdeal.Gen.dats m 0 c).arrAt 20 Cert.KernelSmlIdeal.cfg0.N, fun c => (Cert.KernelSmlIdeal.Gen.dats m 0 c).arrAt 21 Cert.KernelSmlIdeal.cfg0.N, fun c => (Cert.KernelSmlIdeal.Gen.dats m 0 c).arrAt 22 Cert.KernelSmlIdeal.cfg0.N, fun c => (Cert.KernelSmlIdeal.Gen.dats m 0 c).arrAt 23 Cert.KernelSmlIdeal.cfg0.N, fun c => (Cert.KernelSmlIdeal.Gen.dats m 0 c).arrAt 24 Cert.KernelSmlIdeal.cfg0.N, fun c => (Cert.KernelSmlIdeal.Gen.dats m 0 c).arrAt 25 Cert.KernelSmlIdeal.cfg0.N, fun c => (Cert.KernelSmlIdeal.Gen.dats m 0 c).arrAt 26 Cert.KernelSmlIdeal.cfg0.N, fun c => (Cert.KernelSmlIdeal.Gen.dats m 0 c).arrAt 27 Cert.KernelSmlIdeal.cfg0.N,
    Cert.KernelSmlIdeal.Value.run_blocks (F := Ideal) m ρ, ?_⟩
  refine (θ_run Cert.ReferenceSmlIdeal.defs _ _).mono (fun r h c => ?_) (Cert.ReferenceSmlIdeal.Value.run (F := Ideal) m' ρ')
  obtain ⟨a0, a1, a2, a3, a4, a5, a6, a7, a8, a9, a10, a11, a12, a13⟩ := hagree c
  obtain ⟨h0, h1, h2, h3, h4, h5, h6, h7, h8, h9, h10, h11, h12, h13, k⟩ := h c
  have b_ada_eq := b_ada m c
  rw [← a0, ← a5, ← a6, ← a7] at b_ada_eq
  have dt_bias_eq := dt_bias m c
  rw [← a4, ← a8, ← a9, ← a10] at dt_bias_eq
  have pool_scale_eq := pool_scale m c
  rw [← a3, ← a11, ← a12, ← a13] at pool_scale_eq
  have conv_eq := conv m c
  rw [← a2] at conv_eq
  have acc_eq := acc m c
  rw [← a1] at acc_eq
  exact ⟨h0.trans b_ada_eq.1.symm, h1.trans b_ada_eq.2.1.symm, h2.trans b_ada_eq.2.2.1.symm, h3.trans b_ada_eq.2.2.2.symm,
    h4.trans dt_bias_eq.1.symm, h5.trans dt_bias_eq.2.1.symm, h6.trans dt_bias_eq.2.2.1.symm, h7.trans dt_bias_eq.2.2.2.symm,
    h8.trans pool_scale_eq.1.symm, h9.trans pool_scale_eq.2.1.symm, h10.trans pool_scale_eq.2.2.1.symm, h11.trans pool_scale_eq.2.2.2.symm,
    h12.trans conv_eq.symm, h13.trans acc_eq.symm, k⟩

end Cert.SmlClaims

end
-- ==== Proof.lean ====
module

public import proofs.«01_k».proof.Defs
public import proofs.«01_k».proof.Proof.InClaims
public import proofs.«01_k».proof.Proof.MlpClaims
public import proofs.«01_k».proof.Proof.AdaClaims
public import proofs.«01_k».proof.Proof.FwdClaims
public import proofs.«01_k».proof.Proof.PreClaims
public import proofs.«01_k».proof.Proof.ModClaims
public import proofs.«01_k».proof.Proof.UpClaims
public import proofs.«01_k».proof.Proof.WinClaims
public import proofs.«01_k».proof.Proof.WpClaims
public import proofs.«01_k».proof.Proof.CwClaims
public import proofs.«01_k».proof.Proof.SmlClaims

@[expose] public section

noncomputable section

namespace Cert.Proof

theorem claim : Cert.Claim := ⟨Cert.KernelIn.Gen.facts, Cert.KernelInIdeal.Gen.facts, Cert.ReferenceInIdeal.Gen.facts,
  Cert.KernelMlp.Gen.facts, Cert.KernelMlpIdeal.Gen.facts, Cert.ReferenceMlpIdeal.Gen.facts,
  Cert.KernelAda.Gen.facts, Cert.KernelAdaIdeal.Gen.facts, Cert.ReferenceAdaIdeal.Gen.facts,
  Cert.KernelFwd.Gen.facts, Cert.KernelFwdIdeal.Gen.facts, Cert.ReferenceFwdIdeal.Gen.facts,
  Cert.KernelPre.Gen.facts, Cert.KernelPreIdeal.Gen.facts, Cert.ReferencePreIdeal.Gen.facts,
  Cert.KernelMod.Gen.facts, Cert.KernelModIdeal.Gen.facts, Cert.ReferenceModIdeal.Gen.facts,
  Cert.KernelUp.Gen.facts, Cert.KernelUpIdeal.Gen.facts, Cert.ReferenceUpIdeal.Gen.facts,
  Cert.KernelWin.Gen.facts, Cert.KernelWinIdeal.Gen.facts, Cert.ReferenceWinIdeal.Gen.facts,
  Cert.KernelWp.Gen.facts, Cert.KernelWpIdeal.Gen.facts, Cert.ReferenceWpIdeal.Gen.facts,
  Cert.KernelCw.Gen.facts, Cert.KernelCwIdeal.Gen.facts, Cert.ReferenceCwIdeal.Gen.facts,
  Cert.KernelSml.Gen.facts, Cert.KernelSmlIdeal.Gen.facts, Cert.ReferenceSmlIdeal.Gen.facts,
  Cert.Pre_finite_fwd.Gen.facts,
  InClaims.frame_k, InClaims.frame_ki, InClaims.frame_ri, MlpClaims.frame_k, MlpClaims.frame_ki, MlpClaims.frame_ri,
  AdaClaims.frame_k, AdaClaims.frame_ki, AdaClaims.frame_ri, FwdClaims.frame_k, FwdClaims.frame_ki, FwdClaims.frame_kip, FwdClaims.frame_ri, FwdClaims.frame_rip,
  PreClaims.frame_k, PreClaims.frame_ki, PreClaims.frame_ri, ModClaims.frame_k, ModClaims.frame_ki, ModClaims.frame_ri,
  UpClaims.frame_k, UpClaims.frame_ki, UpClaims.frame_ri, WinClaims.frame_k, WinClaims.frame_ki, WinClaims.frame_ri, WpClaims.frame_k, WpClaims.frame_ki, WpClaims.frame_ri, CwClaims.frame_k, CwClaims.frame_ki, CwClaims.frame_ri,
  SmlClaims.frame_k, SmlClaims.frame_ki, SmlClaims.frame_ri,
  InClaims.preserves, InClaims.algebraic, MlpClaims.preserves, MlpClaims.algebraic, AdaClaims.preserves, AdaClaims.algebraic,
  FwdClaims.preserves, FwdClaims.algebraic, PreClaims.preserves, PreClaims.algebraic, ModClaims.preserves, ModClaims.algebraic,
  UpClaims.preserves, UpClaims.algebraic, WinClaims.preserves, WinClaims.algebraic, WpClaims.preserves, WpClaims.algebraic, CwClaims.preserves, CwClaims.algebraic,
  SmlClaims.preserves, SmlClaims.algebraic⟩

end Cert.Proof

end
